-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDn (m : (ℓ : Loc Cert.KernelDn.nD Cert.KernelDn.τ Cert.KernelDn.sig) → Buf (Elt Bits) ℓ) : Prop :=
  True

def Pre_KernelDnIdeal (m : (ℓ : Loc Cert.KernelDnIdeal.nD Cert.KernelDnIdeal.τ Cert.KernelDnIdeal.sig) → Buf (Elt Ideal) ℓ) : Prop :=
  True

def Pre_ReferenceDnIdeal (m : (ℓ : Loc Cert.ReferenceDnIdeal.nD Cert.ReferenceDnIdeal.τ Cert.ReferenceDnIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelWo (m : (ℓ : Loc Cert.KernelWo.nD Cert.KernelWo.τ Cert.KernelWo.sig) → Buf (Elt Bits) ℓ) : Prop :=
  True

def Pre_KernelWoIdeal (m : (ℓ : Loc Cert.KernelWoIdeal.nD Cert.KernelWoIdeal.τ Cert.KernelWoIdeal.sig) → Buf (Elt Ideal) ℓ) : Prop :=
  True

def Pre_ReferenceWoIdeal (m : (ℓ : Loc Cert.ReferenceWoIdeal.nD Cert.ReferenceWoIdeal.τ Cert.ReferenceWoIdeal.sig) → Buf (Elt Ideal) ℓ) : Prop :=
  True

def Pre_KernelG0 (m : (ℓ : Loc Cert.KernelG0.nD Cert.KernelG0.τ Cert.KernelG0.sig) → Buf (Elt Bits) ℓ) : Prop :=
  True

def Pre_KernelG0Ideal (m : (ℓ : Loc Cert.KernelG0Ideal.nD Cert.KernelG0Ideal.τ Cert.KernelG0Ideal.sig) → Buf (Elt Ideal) ℓ) : Prop :=
  True

def Pre_ReferenceG0Ideal (m : (ℓ : Loc Cert.ReferenceG0Ideal.nD Cert.ReferenceG0Ideal.τ Cert.ReferenceG0Ideal.sig) → Buf (Elt Ideal) ℓ) : Prop :=
  True

def Pre_KernelSh (m : (ℓ : Loc Cert.KernelSh.nD Cert.KernelSh.τ Cert.KernelSh.sig) → Buf (Elt Bits) ℓ) : Prop :=
  True

def Pre_KernelShIdeal (m : (ℓ : Loc Cert.KernelShIdeal.nD Cert.KernelShIdeal.τ Cert.KernelShIdeal.sig) → Buf (Elt Ideal) ℓ) : Prop :=
  True

def Pre_ReferenceShIdeal (m : (ℓ : Loc Cert.ReferenceShIdeal.nD Cert.ReferenceShIdeal.τ Cert.ReferenceShIdeal.sig) → Buf (Elt Ideal) ℓ) : Prop :=
  True

def Pre_KernelGt (m : (ℓ : Loc Cert.KernelGt.nD Cert.KernelGt.τ Cert.KernelGt.sig) → Buf (Elt Bits) ℓ) : Prop :=
  True

def Pre_KernelGtIdeal (m : (ℓ : Loc Cert.KernelGtIdeal.nD Cert.KernelGtIdeal.τ Cert.KernelGtIdeal.sig) → Buf (Elt Ideal) ℓ) : Prop :=
  True

def Pre_KernelGtIdeal_finite_gt [hPre_finite_gt : Cert.Pre_finite_gt.Facts] (m : (ℓ : Loc Cert.KernelGtIdeal.nD Cert.KernelGtIdeal.τ Cert.KernelGtIdeal.sig) → Buf (Elt Ideal) ℓ) : Prop :=
  ∀ c : Dev Cert.KernelGtIdeal.nD,
    (Cert.Pre_finite_gt.fn (F := Ideal) (m ((c.tc : Thread Cert.KernelGtIdeal.nD Cert.KernelGtIdeal.τ).loc Cert.KernelGtIdeal.main_arg0)) (m ((c.tc : Thread Cert.KernelGtIdeal.nD Cert.KernelGtIdeal.τ).loc Cert.KernelGtIdeal.main_arg1)) (m ((c.tc : Thread Cert.KernelGtIdeal.nD Cert.KernelGtIdeal.τ).loc Cert.KernelGtIdeal.main_arg2)) (m ((c.tc : Thread Cert.KernelGtIdeal.nD Cert.KernelGtIdeal.τ).loc Cert.KernelGtIdeal.main_arg3))).1 = (fun _ => 1#1)
    ∧ (Cert.Pre_finite_gt.fn (F := Ideal) (m ((c.tc : Thread Cert.KernelGtIdeal.nD Cert.KernelGtIdeal.τ).loc Cert.KernelGtIdeal.main_arg0)) (m ((c.tc : Thread Cert.KernelGtIdeal.nD Cert.KernelGtIdeal.τ).loc Cert.KernelGtIdeal.main_arg1)) (m ((c.tc : Thread Cert.KernelGtIdeal.nD Cert.KernelGtIdeal.τ).loc Cert.KernelGtIdeal.main_arg2)) (m ((c.tc : Thread Cert.KernelGtIdeal.nD Cert.KernelGtIdeal.τ).loc Cert.KernelGtIdeal.main_arg3))).2 = (fun _ => 1#1)

def Pre_ReferenceGtIdeal (m : (ℓ : Loc Cert.ReferenceGtIdeal.nD Cert.ReferenceGtIdeal.τ Cert.ReferenceGtIdeal.sig) → Buf (Elt Ideal) ℓ) : Prop :=
  True

def Pre_ReferenceGtIdeal_finite_gt [hPre_finite_gt : Cert.Pre_finite_gt.Facts] (m : (ℓ : Loc Cert.ReferenceGtIdeal.nD Cert.ReferenceGtIdeal.τ Cert.ReferenceGtIdeal.sig) → Buf (Elt Ideal) ℓ) : Prop :=
  ∀ c : Dev Cert.ReferenceGtIdeal.nD,
    (Cert.Pre_finite_gt.fn (F := Ideal) (m ((c.tc : Thread Cert.ReferenceGtIdeal.nD Cert.ReferenceGtIdeal.τ).loc Cert.ReferenceGtIdeal.main_arg0)) (m ((c.tc : Thread Cert.ReferenceGtIdeal.nD Cert.ReferenceGtIdeal.τ).loc Cert.ReferenceGtIdeal.main_arg1)) (m ((c.tc : Thread Cert.ReferenceGtIdeal.nD Cert.ReferenceGtIdeal.τ).loc Cert.ReferenceGtIdeal.main_arg2)) (m ((c.tc : Thread Cert.ReferenceGtIdeal.nD Cert.ReferenceGtIdeal.τ).loc Cert.ReferenceGtIdeal.main_arg3))).1 = (fun _ => 1#1)
    ∧ (Cert.Pre_finite_gt.fn (F := Ideal) (m ((c.tc : Thread Cert.ReferenceGtIdeal.nD Cert.ReferenceGtIdeal.τ).loc Cert.ReferenceGtIdeal.main_arg0)) (m ((c.tc : Thread Cert.ReferenceGtIdeal.nD Cert.ReferenceGtIdeal.τ).loc Cert.ReferenceGtIdeal.main_arg1)) (m ((c.tc : Thread Cert.ReferenceGtIdeal.nD Cert.ReferenceGtIdeal.τ).loc Cert.ReferenceGtIdeal.main_arg2)) (m ((c.tc : Thread Cert.ReferenceGtIdeal.nD Cert.ReferenceGtIdeal.τ).loc Cert.ReferenceGtIdeal.main_arg3))).2 = (fun _ => 1#1)

def Pre_KernelSl (m : (ℓ : Loc Cert.KernelSl.nD Cert.KernelSl.τ Cert.KernelSl.sig) → Buf (Elt Bits) ℓ) : Prop :=
  True

def Pre_KernelSlIdeal (m : (ℓ : Loc Cert.KernelSlIdeal.nD Cert.KernelSlIdeal.τ Cert.KernelSlIdeal.sig) → Buf (Elt Ideal) ℓ) : Prop :=
  True

def Pre_KernelSlIdeal_chosen [hPre_chosen : Cert.Pre_chosen.Facts] (m : (ℓ : Loc Cert.KernelSlIdeal.nD Cert.KernelSlIdeal.τ Cert.KernelSlIdeal.sig) → Buf (Elt Ideal) ℓ) : Prop :=
  ∀ c : Dev Cert.KernelSlIdeal.nD,
    (Cert.Pre_chosen.fn (F := Ideal) (m ((c.tc : Thread Cert.KernelSlIdeal.nD Cert.KernelSlIdeal.τ).loc Cert.KernelSlIdeal.main_arg0)) (m ((c.tc : Thread Cert.KernelSlIdeal.nD Cert.KernelSlIdeal.τ).loc Cert.KernelSlIdeal.main_arg1)) (m ((c.tc : Thread Cert.KernelSlIdeal.nD Cert.KernelSlIdeal.τ).loc Cert.KernelSlIdeal.main_arg2))) = (fun _ => 1#1)

def Pre_ReferenceSlIdeal (m : (ℓ : Loc Cert.ReferenceSlIdeal.nD Cert.ReferenceSlIdeal.τ Cert.ReferenceSlIdeal.sig) → Buf (Elt Ideal) ℓ) : Prop :=
  True

def Pre_ReferenceSlIdeal_chosen [hPre_chosen : Cert.Pre_chosen.Facts] (m : (ℓ : Loc Cert.ReferenceSlIdeal.nD Cert.ReferenceSlIdeal.τ Cert.ReferenceSlIdeal.sig) → Buf (Elt Ideal) ℓ) : Prop :=
  ∀ c : Dev Cert.ReferenceSlIdeal.nD,
    (Cert.Pre_chosen.fn (F := Ideal) (m ((c.tc : Thread Cert.ReferenceSlIdeal.nD Cert.ReferenceSlIdeal.τ).loc Cert.ReferenceSlIdeal.main_arg0)) (m ((c.tc : Thread Cert.ReferenceSlIdeal.nD Cert.ReferenceSlIdeal.τ).loc Cert.ReferenceSlIdeal.main_arg1)) (m ((c.tc : Thread Cert.ReferenceSlIdeal.nD Cert.ReferenceSlIdeal.τ).loc Cert.ReferenceSlIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelDn [hKernelDn : Cert.KernelDn.Facts] : Prop :=
  ∀ (m : (ℓ : Loc Cert.KernelDn.nD Cert.KernelDn.τ Cert.KernelDn.sig) → Buf (Elt Bits) ℓ) (g : Dev Cert.KernelDn.nD → PrngReg), Pre_KernelDn m →
    θ_run (Cert.KernelDn.defs (F := Bits)) (onTc (τ := Cert.KernelDn.τ) (Cert.KernelDn.main (F := Bits))) ⟨m, fun _ => 0, g⟩ (fun r => (∀ c : Dev Cert.KernelDn.nD,
      r.2.mem ((c.tc : Thread Cert.KernelDn.nD Cert.KernelDn.τ).loc Cert.KernelDn.main_arg0) = m ((c.tc : Thread Cert.KernelDn.nD Cert.KernelDn.τ).loc Cert.KernelDn.main_arg0)
      ∧ r.2.mem ((c.tc : Thread Cert.KernelDn.nD Cert.KernelDn.τ).loc Cert.KernelDn.main_arg1) = m ((c.tc : Thread Cert.KernelDn.nD Cert.KernelDn.τ).loc Cert.KernelDn.main_arg1))
      ∧ r.2.sem = fun _ => 0)

def quiescent_KernelDnIdeal [hKernelDnIdeal : Cert.KernelDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1))
      ∧ r.2.sem = fun _ => 0)

def quiescent_ReferenceDnIdeal [hReferenceDnIdeal : Cert.ReferenceDnIdeal.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelWo [hKernelWo : Cert.KernelWo.Facts] : Prop :=
  ∀ (m : (ℓ : Loc Cert.KernelWo.nD Cert.KernelWo.τ Cert.KernelWo.sig) → Buf (Elt Bits) ℓ) (g : Dev Cert.KernelWo.nD → PrngReg), Pre_KernelWo m →
    θ_run (Cert.KernelWo.defs (F := Bits)) (onTc (τ := Cert.KernelWo.τ) (Cert.KernelWo.main (F := Bits))) ⟨m, fun _ => 0, g⟩ (fun r => (∀ c : Dev Cert.KernelWo.nD,
      r.2.mem ((c.tc : Thread Cert.KernelWo.nD Cert.KernelWo.τ).loc Cert.KernelWo.main_arg0) = m ((c.tc : Thread Cert.KernelWo.nD Cert.KernelWo.τ).loc Cert.KernelWo.main_arg0)
      ∧ r.2.mem ((c.tc : Thread Cert.KernelWo.nD Cert.KernelWo.τ).loc Cert.KernelWo.main_arg1) = m ((c.tc : Thread Cert.KernelWo.nD Cert.KernelWo.τ).loc Cert.KernelWo.main_arg1)
      ∧ r.2.mem ((c.tc : Thread Cert.KernelWo.nD Cert.KernelWo.τ).loc Cert.KernelWo.main_arg2) = m ((c.tc : Thread Cert.KernelWo.nD Cert.KernelWo.τ).loc Cert.KernelWo.main_arg2))
      ∧ r.2.sem = fun _ => 0)

def quiescent_KernelWoIdeal [hKernelWoIdeal : Cert.KernelWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
      ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2))
      ∧ r.2.sem = fun _ => 0)

def quiescent_ReferenceWoIdeal [hReferenceWoIdeal : Cert.ReferenceWoIdeal.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1)
      ∧ r.2.mem ((c.tc : Thread Cert.ReferenceWoIdeal.nD Cert.ReferenceWoIdeal.τ).loc Cert.ReferenceWoIdeal.main_arg2) = m ((c.tc : Thread Cert.ReferenceWoIdeal.nD Cert.ReferenceWoIdeal.τ).loc Cert.ReferenceWoIdeal.main_arg2))
      ∧ r.2.sem = fun _ => 0)

def quiescent_KernelG0 [hKernelG0 : Cert.KernelG0.Facts] : Prop :=
  ∀ (m : (ℓ : Loc Cert.KernelG0.nD Cert.KernelG0.τ Cert.KernelG0.sig) → Buf (Elt Bits) ℓ) (g : Dev Cert.KernelG0.nD → PrngReg), Pre_KernelG0 m →
    θ_run (Cert.KernelG0.defs (F := Bits)) (onTc (τ := Cert.KernelG0.τ) (Cert.KernelG0.main (F := Bits))) ⟨m, fun _ => 0, g⟩ (fun r => (∀ c : Dev Cert.KernelG0.nD,
      r.2.mem ((c.tc : Thread Cert.KernelG0.nD Cert.KernelG0.τ).loc Cert.KernelG0.main_arg0) = m ((c.tc : Thread Cert.KernelG0.nD Cert.KernelG0.τ).loc Cert.KernelG0.main_arg0))
      ∧ r.2.sem = fun _ => 0)

def quiescent_KernelG0Ideal [hKernelG0Ideal : Cert.KernelG0Ideal.Facts] : Prop :=
  ∀ (m : (ℓ : Loc Cert.KernelG0Ideal.nD Cert.KernelG0Ideal.τ Cert.KernelG0Ideal.sig) → Buf (Elt Ideal) ℓ) (g : Dev Cert.KernelG0Ideal.nD → PrngReg), Pre_KernelG0Ideal m →
    θ_run (Cert.KernelG0Ideal.defs (F := Ideal)) (onTc (τ := Cert.KernelG0Ideal.τ) (Cert.KernelG0Ideal.main (F := Ideal))) ⟨m, fun _ => 0, g⟩ (fun r => (∀ c : Dev Cert.KernelG0Ideal.nD,
      r.2.mem ((c.tc : Thread Cert.KernelG0Ideal.nD Cert.KernelG0Ideal.τ).loc Cert.KernelG0Ideal.main_arg0) = m ((c.tc : Thread Cert.KernelG0Ideal.nD Cert.KernelG0Ideal.τ).loc Cert.KernelG0Ideal.main_arg0))
      ∧ r.2.sem = fun _ => 0)

def quiescent_ReferenceG0Ideal [hReferenceG0Ideal : Cert.ReferenceG0Ideal.Facts] : Prop :=
  ∀ (m : (ℓ : Loc Cert.ReferenceG0Ideal.nD Cert.ReferenceG0Ideal.τ Cert.ReferenceG0Ideal.sig) → Buf (Elt Ideal) ℓ) (g : Dev Cert.ReferenceG0Ideal.nD → PrngReg), Pre_ReferenceG0Ideal m →
    θ_run (Cert.ReferenceG0Ideal.defs (F := Ideal)) (onTc (τ := Cert.ReferenceG0Ideal.τ) (Cert.ReferenceG0Ideal.main (F := Ideal))) ⟨m, fun _ => 0, g⟩ (fun r => (∀ c : Dev Cert.ReferenceG0Ideal.nD,
      r.2.mem ((c.tc : Thread Cert.ReferenceG0Ideal.nD Cert.ReferenceG0Ideal.τ).loc Cert.ReferenceG0Ideal.main_arg0) = m ((c.tc : Thread Cert.ReferenceG0Ideal.nD Cert.ReferenceG0Ideal.τ).loc Cert.ReferenceG0Ideal.main_arg0))
      ∧ r.2.sem = fun _ => 0)

def quiescent_KernelSh [hKernelSh : Cert.KernelSh.Facts] : Prop :=
  ∀ (m : (ℓ : Loc Cert.KernelSh.nD Cert.KernelSh.τ Cert.KernelSh.sig) → Buf (Elt Bits) ℓ) (g : Dev Cert.KernelSh.nD → PrngReg), Pre_KernelSh m →
    θ_run (Cert.KernelSh.defs (F := Bits)) (onTc (τ := Cert.KernelSh.τ) (Cert.KernelSh.main (F := Bits))) ⟨m, fun _ => 0, g⟩ (fun r => (∀ c : Dev Cert.KernelSh.nD,
      r.2.mem ((c.tc : Thread Cert.KernelSh.nD Cert.KernelSh.τ).loc Cert.KernelSh.main_arg0) = m ((c.tc : Thread Cert.KernelSh.nD Cert.KernelSh.τ).loc Cert.KernelSh.main_arg0)
      ∧ r.2.mem ((c.tc : Thread Cert.KernelSh.nD Cert.KernelSh.τ).loc Cert.KernelSh.main_arg1) = m ((c.tc : Thread Cert.KernelSh.nD Cert.KernelSh.τ).loc Cert.KernelSh.main_arg1)
      ∧ r.2.mem ((c.tc : Thread Cert.KernelSh.nD Cert.KernelSh.τ).loc Cert.KernelSh.main_arg2) = m ((c.tc : Thread Cert.KernelSh.nD Cert.KernelSh.τ).loc Cert.KernelSh.main_arg2))
      ∧ r.2.sem = fun _ => 0)

def quiescent_KernelShIdeal [hKernelShIdeal : Cert.KernelShIdeal.Facts] : Prop :=
  ∀ (m : (ℓ : Loc Cert.KernelShIdeal.nD Cert.KernelShIdeal.τ Cert.KernelShIdeal.sig) → Buf (Elt Ideal) ℓ) (g : Dev Cert.KernelShIdeal.nD → PrngReg), Pre_KernelShIdeal m →
    θ_run (Cert.KernelShIdeal.defs (F := Ideal)) (onTc (τ := Cert.KernelShIdeal.τ) (Cert.KernelShIdeal.main (F := Ideal))) ⟨m, fun _ => 0, g⟩ (fun r => (∀ c : Dev Cert.KernelShIdeal.nD,
      r.2.mem ((c.tc : Thread Cert.KernelShIdeal.nD Cert.KernelShIdeal.τ).loc Cert.KernelShIdeal.main_arg0) = m ((c.tc : Thread Cert.KernelShIdeal.nD Cert.KernelShIdeal.τ).loc Cert.KernelShIdeal.main_arg0)
      ∧ r.2.mem ((c.tc : Thread Cert.KernelShIdeal.nD Cert.KernelShIdeal.τ).loc Cert.KernelShIdeal.main_arg1) = m ((c.tc : Thread Cert.KernelShIdeal.nD Cert.KernelShIdeal.τ).loc Cert.KernelShIdeal.main_arg1)
      ∧ r.2.mem ((c.tc : Thread Cert.KernelShIdeal.nD Cert.KernelShIdeal.τ).loc Cert.KernelShIdeal.main_arg2) = m ((c.tc : Thread Cert.KernelShIdeal.nD Cert.KernelShIdeal.τ).loc Cert.KernelShIdeal.main_arg2))
      ∧ r.2.sem = fun _ => 0)

def quiescent_ReferenceShIdeal [hReferenceShIdeal : Cert.ReferenceShIdeal.Facts] : Prop :=
  ∀ (m : (ℓ : Loc Cert.ReferenceShIdeal.nD Cert.ReferenceShIdeal.τ Cert.ReferenceShIdeal.sig) → Buf (Elt Ideal) ℓ) (g : Dev Cert.ReferenceShIdeal.nD → PrngReg), Pre_ReferenceShIdeal m →
    θ_run (Cert.ReferenceShIdeal.defs (F := Ideal)) (onTc (τ := Cert.ReferenceShIdeal.τ) (Cert.ReferenceShIdeal.main (F := Ideal))) ⟨m, fun _ => 0, g⟩ (fun r => (∀ c : Dev Cert.ReferenceShIdeal.nD,
      r.2.mem ((c.tc : Thread Cert.ReferenceShIdeal.nD Cert.ReferenceShIdeal.τ).loc Cert.ReferenceShIdeal.main_arg0) = m ((c.tc : Thread Cert.ReferenceShIdeal.nD Cert.ReferenceShIdeal.τ).loc Cert.ReferenceShIdeal.main_arg0)
      ∧ r.2.mem ((c.tc : Thread Cert.ReferenceShIdeal.nD Cert.ReferenceShIdeal.τ).loc Cert.ReferenceShIdeal.main_arg1) = m ((c.tc : Thread Cert.ReferenceShIdeal.nD Cert.ReferenceShIdeal.τ).loc Cert.ReferenceShIdeal.main_arg1)
      ∧ r.2.mem ((c.tc : Thread Cert.ReferenceShIdeal.nD Cert.ReferenceShIdeal.τ).loc Cert.ReferenceShIdeal.main_arg2) = m ((c.tc : Thread Cert.ReferenceShIdeal.nD Cert.ReferenceShIdeal.τ).loc Cert.ReferenceShIdeal.main_arg2))
      ∧ r.2.sem = fun _ => 0)

def quiescent_KernelGt [hKernelGt : Cert.KernelGt.Facts] : Prop :=
  ∀ (m : (ℓ : Loc Cert.KernelGt.nD Cert.KernelGt.τ Cert.KernelGt.sig) → Buf (Elt Bits) ℓ) (g : Dev Cert.KernelGt.nD → PrngReg), Pre_KernelGt m →
    θ_run (Cert.KernelGt.defs (F := Bits)) (onTc (τ := Cert.KernelGt.τ) (Cert.KernelGt.main (F := Bits))) ⟨m, fun _ => 0, g⟩ (fun r => (∀ c : Dev Cert.KernelGt.nD,
      r.2.mem ((c.tc : Thread Cert.KernelGt.nD Cert.KernelGt.τ).loc Cert.KernelGt.main_arg0) = m ((c.tc : Thread Cert.KernelGt.nD Cert.KernelGt.τ).loc Cert.KernelGt.main_arg0)
      ∧ r.2.mem ((c.tc : Thread Cert.KernelGt.nD Cert.KernelGt.τ).loc Cert.KernelGt.main_arg1) = m ((c.tc : Thread Cert.KernelGt.nD Cert.KernelGt.τ).loc Cert.KernelGt.main_arg1)
      ∧ r.2.mem ((c.tc : Thread Cert.KernelGt.nD Cert.KernelGt.τ).loc Cert.KernelGt.main_arg2) = m ((c.tc : Thread Cert.KernelGt.nD Cert.KernelGt.τ).loc Cert.KernelGt.main_arg2)
      ∧ r.2.mem ((c.tc : Thread Cert.KernelGt.nD Cert.KernelGt.τ).loc Cert.KernelGt.main_arg3) = m ((c.tc : Thread Cert.KernelGt.nD Cert.KernelGt.τ).loc Cert.KernelGt.main_arg3))
      ∧ r.2.sem = fun _ => 0)

def quiescent_KernelGtIdeal [hKernelGtIdeal : Cert.KernelGtIdeal.Facts] : Prop :=
  ∀ (m : (ℓ : Loc Cert.KernelGtIdeal.nD Cert.KernelGtIdeal.τ Cert.KernelGtIdeal.sig) → Buf (Elt Ideal) ℓ) (g : Dev Cert.KernelGtIdeal.nD → PrngReg), Pre_KernelGtIdeal m →
    θ_run (Cert.KernelGtIdeal.defs (F := Ideal)) (onTc (τ := Cert.KernelGtIdeal.τ) (Cert.KernelGtIdeal.main (F := Ideal))) ⟨m, fun _ => 0, g⟩ (fun r => (∀ c : Dev Cert.KernelGtIdeal.nD,
      r.2.mem ((c.tc : Thread Cert.KernelGtIdeal.nD Cert.KernelGtIdeal.τ).loc Cert.KernelGtIdeal.main_arg0) = m ((c.tc : Thread Cert.KernelGtIdeal.nD Cert.KernelGtIdeal.τ).loc Cert.KernelGtIdeal.main_arg0)
      ∧ r.2.mem ((c.tc : Thread Cert.KernelGtIdeal.nD Cert.KernelGtIdeal.τ).loc Cert.KernelGtIdeal.main_arg1) = m ((c.tc : Thread Cert.KernelGtIdeal.nD Cert.KernelGtIdeal.τ).loc Cert.KernelGtIdeal.main_arg1)
      ∧ r.2.mem ((c.tc : Thread Cert.KernelGtIdeal.nD Cert.KernelGtIdeal.τ).loc Cert.KernelGtIdeal.main_arg2) = m ((c.tc : Thread Cert.KernelGtIdeal.nD Cert.KernelGtIdeal.τ).loc Cert.KernelGtIdeal.main_arg2)
      ∧ r.2.mem ((c.tc : Thread Cert.KernelGtIdeal.nD Cert.KernelGtIdeal.τ).loc Cert.KernelGtIdeal.main_arg3) = m ((c.tc : Thread Cert.KernelGtIdeal.nD Cert.KernelGtIdeal.τ).loc Cert.KernelGtIdeal.main_arg3))
      ∧ r.2.sem = fun _ => 0)

def quiescent_KernelGtIdeal_pre_finite_gt [hKernelGtIdeal : Cert.KernelGtIdeal.Facts] [hPre_finite_gt : Cert.Pre_finite_gt.Facts] : Prop :=
  ∀ (m : (ℓ : Loc Cert.KernelGtIdeal.nD Cert.KernelGtIdeal.τ Cert.KernelGtIdeal.sig) → Buf (Elt Ideal) ℓ) (g : Dev Cert.KernelGtIdeal.nD → PrngReg), Pre_KernelGtIdeal_finite_gt m →
    θ_run (Cert.KernelGtIdeal.defs (F := Ideal)) (onTc (τ := Cert.KernelGtIdeal.τ) (Cert.KernelGtIdeal.main (F := Ideal))) ⟨m, fun _ => 0, g⟩ (fun r => (∀ c : Dev Cert.KernelGtIdeal.nD,
      r.2.mem ((c.tc : Thread Cert.KernelGtIdeal.nD Cert.KernelGtIdeal.τ).loc Cert.KernelGtIdeal.main_arg0) = m ((c.tc : Thread Cert.KernelGtIdeal.nD Cert.KernelGtIdeal.τ).loc Cert.KernelGtIdeal.main_arg0)
      ∧ r.2.mem ((c.tc : Thread Cert.KernelGtIdeal.nD Cert.KernelGtIdeal.τ).loc Cert.KernelGtIdeal.main_arg1) = m ((c.tc : Thread Cert.KernelGtIdeal.nD Cert.KernelGtIdeal.τ).loc Cert.KernelGtIdeal.main_arg1)
      ∧ r.2.mem ((c.tc : Thread Cert.KernelGtIdeal.nD Cert.KernelGtIdeal.τ).loc Cert.KernelGtIdeal.main_arg2) = m ((c.tc : Thread Cert.KernelGtIdeal.nD Cert.KernelGtIdeal.τ).loc Cert.KernelGtIdeal.main_arg2)
      ∧ r.2.mem ((c.tc : Thread Cert.KernelGtIdeal.nD Cert.KernelGtIdeal.τ).loc Cert.KernelGtIdeal.main_arg3) = m ((c.tc : Thread Cert.KernelGtIdeal.nD Cert.KernelGtIdeal.τ).loc Cert.KernelGtIdeal.main_arg3))
      ∧ r.2.sem = fun _ => 0)

def quiescent_ReferenceGtIdeal [hReferenceGtIdeal : Cert.ReferenceGtIdeal.Facts] : Prop :=
  ∀ (m : (ℓ : Loc Cert.ReferenceGtIdeal.nD Cert.ReferenceGtIdeal.τ Cert.ReferenceGtIdeal.sig) → Buf (Elt Ideal) ℓ) (g : Dev Cert.ReferenceGtIdeal.nD → PrngReg), Pre_ReferenceGtIdeal m →
    θ_run (Cert.ReferenceGtIdeal.defs (F := Ideal)) (onTc (τ := Cert.ReferenceGtIdeal.τ) (Cert.ReferenceGtIdeal.main (F := Ideal))) ⟨m, fun _ => 0, g⟩ (fun r => (∀ c : Dev Cert.ReferenceGtIdeal.nD,
      r.2.mem ((c.tc : Thread Cert.ReferenceGtIdeal.nD Cert.ReferenceGtIdeal.τ).loc Cert.ReferenceGtIdeal.main_arg0) = m ((c.tc : Thread Cert.ReferenceGtIdeal.nD Cert.ReferenceGtIdeal.τ).loc Cert.ReferenceGtIdeal.main_arg0)
      ∧ r.2.mem ((c.tc : Thread Cert.ReferenceGtIdeal.nD Cert.ReferenceGtIdeal.τ).loc Cert.ReferenceGtIdeal.main_arg1) = m ((c.tc : Thread Cert.ReferenceGtIdeal.nD Cert.ReferenceGtIdeal.τ).loc Cert.ReferenceGtIdeal.main_arg1)
      ∧ r.2.mem ((c.tc : Thread Cert.ReferenceGtIdeal.nD Cert.ReferenceGtIdeal.τ).loc Cert.ReferenceGtIdeal.main_arg2) = m ((c.tc : Thread Cert.ReferenceGtIdeal.nD Cert.ReferenceGtIdeal.τ).loc Cert.ReferenceGtIdeal.main_arg2)
      ∧ r.2.mem ((c.tc : Thread Cert.ReferenceGtIdeal.nD Cert.ReferenceGtIdeal.τ).loc Cert.ReferenceGtIdeal.main_arg3) = m ((c.tc : Thread Cert.ReferenceGtIdeal.nD Cert.ReferenceGtIdeal.τ).loc Cert.ReferenceGtIdeal.main_arg3))
      ∧ r.2.sem = fun _ => 0)

def quiescent_ReferenceGtIdeal_pre_finite_gt [hReferenceGtIdeal : Cert.ReferenceGtIdeal.Facts] [hPre_finite_gt : Cert.Pre_finite_gt.Facts] : Prop :=
  ∀ (m : (ℓ : Loc Cert.ReferenceGtIdeal.nD Cert.ReferenceGtIdeal.τ Cert.ReferenceGtIdeal.sig) → Buf (Elt Ideal) ℓ) (g : Dev Cert.ReferenceGtIdeal.nD → PrngReg), Pre_ReferenceGtIdeal_finite_gt m →
    θ_run (Cert.ReferenceGtIdeal.defs (F := Ideal)) (onTc (τ := Cert.ReferenceGtIdeal.τ) (Cert.ReferenceGtIdeal.main (F := Ideal))) ⟨m, fun _ => 0, g⟩ (fun r => (∀ c : Dev Cert.ReferenceGtIdeal.nD,
      r.2.mem ((c.tc : Thread Cert.ReferenceGtIdeal.nD Cert.ReferenceGtIdeal.τ).loc Cert.ReferenceGtIdeal.main_arg0) = m ((c.tc : Thread Cert.ReferenceGtIdeal.nD Cert.ReferenceGtIdeal.τ).loc Cert.ReferenceGtIdeal.main_arg0)
      ∧ r.2.mem ((c.tc : Thread Cert.ReferenceGtIdeal.nD Cert.ReferenceGtIdeal.τ).loc Cert.ReferenceGtIdeal.main_arg1) = m ((c.tc : Thread Cert.ReferenceGtIdeal.nD Cert.ReferenceGtIdeal.τ).loc Cert.ReferenceGtIdeal.main_arg1)
      ∧ r.2.mem ((c.tc : Thread Cert.ReferenceGtIdeal.nD Cert.ReferenceGtIdeal.τ).loc Cert.ReferenceGtIdeal.main_arg2) = m ((c.tc : Thread Cert.ReferenceGtIdeal.nD Cert.ReferenceGtIdeal.τ).loc Cert.ReferenceGtIdeal.main_arg2)
      ∧ r.2.mem ((c.tc : Thread Cert.ReferenceGtIdeal.nD Cert.ReferenceGtIdeal.τ).loc Cert.ReferenceGtIdeal.main_arg3) = m ((c.tc : Thread Cert.ReferenceGtIdeal.nD Cert.ReferenceGtIdeal.τ).loc Cert.ReferenceGtIdeal.main_arg3))
      ∧ r.2.sem = fun _ => 0)

def quiescent_KernelSl [hKernelSl : Cert.KernelSl.Facts] : Prop :=
  ∀ (m : (ℓ : Loc Cert.KernelSl.nD Cert.KernelSl.τ Cert.KernelSl.sig) → Buf (Elt Bits) ℓ) (g : Dev Cert.KernelSl.nD → PrngReg), Pre_KernelSl m →
    θ_run (Cert.KernelSl.defs (F := Bits)) (onTc (τ := Cert.KernelSl.τ) (Cert.KernelSl.main (F := Bits))) ⟨m, fun _ => 0, g⟩ (fun r => (∀ c : Dev Cert.KernelSl.nD,
      r.2.mem ((c.tc : Thread Cert.KernelSl.nD Cert.KernelSl.τ).loc Cert.KernelSl.main_arg0) = m ((c.tc : Thread Cert.KernelSl.nD Cert.KernelSl.τ).loc Cert.KernelSl.main_arg0)
      ∧ r.2.mem ((c.tc : Thread Cert.KernelSl.nD Cert.KernelSl.τ).loc Cert.KernelSl.main_arg1) = m ((c.tc : Thread Cert.KernelSl.nD Cert.KernelSl.τ).loc Cert.KernelSl.main_arg1)
      ∧ r.2.mem ((c.tc : Thread Cert.KernelSl.nD Cert.KernelSl.τ).loc Cert.KernelSl.main_arg2) = m ((c.tc : Thread Cert.KernelSl.nD Cert.KernelSl.τ).loc Cert.KernelSl.main_arg2))
      ∧ r.2.sem = fun _ => 0)

def quiescent_KernelSlIdeal [hKernelSlIdeal : Cert.KernelSlIdeal.Facts] : Prop :=
  ∀ (m : (ℓ : Loc Cert.KernelSlIdeal.nD Cert.KernelSlIdeal.τ Cert.KernelSlIdeal.sig) → Buf (Elt Ideal) ℓ) (g : Dev Cert.KernelSlIdeal.nD → PrngReg), Pre_KernelSlIdeal m →
    θ_run (Cert.KernelSlIdeal.defs (F := Ideal)) (onTc (τ := Cert.KernelSlIdeal.τ) (Cert.KernelSlIdeal.main (F := Ideal))) ⟨m, fun _ => 0, g⟩ (fun r => (∀ c : Dev Cert.KernelSlIdeal.nD,
      r.2.mem ((c.tc : Thread Cert.KernelSlIdeal.nD Cert.KernelSlIdeal.τ).loc Cert.KernelSlIdeal.main_arg0) = m ((c.tc : Thread Cert.KernelSlIdeal.nD Cert.KernelSlIdeal.τ).loc Cert.KernelSlIdeal.main_arg0)
      ∧ r.2.mem ((c.tc : Thread Cert.KernelSlIdeal.nD Cert.KernelSlIdeal.τ).loc Cert.KernelSlIdeal.main_arg1) = m ((c.tc : Thread Cert.KernelSlIdeal.nD Cert.KernelSlIdeal.τ).loc Cert.KernelSlIdeal.main_arg1)
      ∧ r.2.mem ((c.tc : Thread Cert.KernelSlIdeal.nD Cert.KernelSlIdeal.τ).loc Cert.KernelSlIdeal.main_arg2) = m ((c.tc : Thread Cert.KernelSlIdeal.nD Cert.KernelSlIdeal.τ).loc Cert.KernelSlIdeal.main_arg2))
      ∧ r.2.sem = fun _ => 0)

def quiescent_KernelSlIdeal_pre_chosen [hKernelSlIdeal : Cert.KernelSlIdeal.Facts] [hPre_chosen : Cert.Pre_chosen.Facts] : Prop :=
  ∀ (m : (ℓ : Loc Cert.KernelSlIdeal.nD Cert.KernelSlIdeal.τ Cert.KernelSlIdeal.sig) → Buf (Elt Ideal) ℓ) (g : Dev Cert.KernelSlIdeal.nD → PrngReg), Pre_KernelSlIdeal_chosen m →
    θ_run (Cert.KernelSlIdeal.defs (F := Ideal)) (onTc (τ := Cert.KernelSlIdeal.τ) (Cert.KernelSlIdeal.main (F := Ideal))) ⟨m, fun _ => 0, g⟩ (fun r => (∀ c : Dev Cert.KernelSlIdeal.nD,
      r.2.mem ((c.tc : Thread Cert.KernelSlIdeal.nD Cert.KernelSlIdeal.τ).loc Cert.KernelSlIdeal.main_arg0) = m ((c.tc : Thread Cert.KernelSlIdeal.nD Cert.KernelSlIdeal.τ).loc Cert.KernelSlIdeal.main_arg0)
      ∧ r.2.mem ((c.tc : Thread Cert.KernelSlIdeal.nD Cert.KernelSlIdeal.τ).loc Cert.KernelSlIdeal.main_arg1) = m ((c.tc : Thread Cert.KernelSlIdeal.nD Cert.KernelSlIdeal.τ).loc Cert.KernelSlIdeal.main_arg1)
      ∧ r.2.mem ((c.tc : Thread Cert.KernelSlIdeal.nD Cert.KernelSlIdeal.τ).loc Cert.KernelSlIdeal.main_arg2) = m ((c.tc : Thread Cert.KernelSlIdeal.nD Cert.KernelSlIdeal.τ).loc Cert.KernelSlIdeal.main_arg2))
      ∧ r.2.sem = fun _ => 0)

def quiescent_ReferenceSlIdeal [hReferenceSlIdeal : Cert.ReferenceSlIdeal.Facts] : Prop :=
  ∀ (m : (ℓ : Loc Cert.ReferenceSlIdeal.nD Cert.ReferenceSlIdeal.τ Cert.ReferenceSlIdeal.sig) → Buf (Elt Ideal) ℓ) (g : Dev Cert.ReferenceSlIdeal.nD → PrngReg), Pre_ReferenceSlIdeal m →
    θ_run (Cert.ReferenceSlIdeal.defs (F := Ideal)) (onTc (τ := Cert.ReferenceSlIdeal.τ) (Cert.ReferenceSlIdeal.main (F := Ideal))) ⟨m, fun _ => 0, g⟩ (fun r => (∀ c : Dev Cert.ReferenceSlIdeal.nD,
      r.2.mem ((c.tc : Thread Cert.ReferenceSlIdeal.nD Cert.ReferenceSlIdeal.τ).loc Cert.ReferenceSlIdeal.main_arg0) = m ((c.tc : Thread Cert.ReferenceSlIdeal.nD Cert.ReferenceSlIdeal.τ).loc Cert.ReferenceSlIdeal.main_arg0)
      ∧ r.2.mem ((c.tc : Thread Cert.ReferenceSlIdeal.nD Cert.ReferenceSlIdeal.τ).loc Cert.ReferenceSlIdeal.main_arg1) = m ((c.tc : Thread Cert.ReferenceSlIdeal.nD Cert.ReferenceSlIdeal.τ).loc Cert.ReferenceSlIdeal.main_arg1)
      ∧ r.2.mem ((c.tc : Thread Cert.ReferenceSlIdeal.nD Cert.ReferenceSlIdeal.τ).loc Cert.ReferenceSlIdeal.main_arg2) = m ((c.tc : Thread Cert.ReferenceSlIdeal.nD Cert.ReferenceSlIdeal.τ).loc Cert.ReferenceSlIdeal.main_arg2))
      ∧ r.2.sem = fun _ => 0)

def quiescent_ReferenceSlIdeal_pre_chosen [hReferenceSlIdeal : Cert.ReferenceSlIdeal.Facts] [hPre_chosen : Cert.Pre_chosen.Facts] : Prop :=
  ∀ (m : (ℓ : Loc Cert.ReferenceSlIdeal.nD Cert.ReferenceSlIdeal.τ Cert.ReferenceSlIdeal.sig) → Buf (Elt Ideal) ℓ) (g : Dev Cert.ReferenceSlIdeal.nD → PrngReg), Pre_ReferenceSlIdeal_chosen m →
    θ_run (Cert.ReferenceSlIdeal.defs (F := Ideal)) (onTc (τ := Cert.ReferenceSlIdeal.τ) (Cert.ReferenceSlIdeal.main (F := Ideal))) ⟨m, fun _ => 0, g⟩ (fun r => (∀ c : Dev Cert.ReferenceSlIdeal.nD,
      r.2.mem ((c.tc : Thread Cert.ReferenceSlIdeal.nD Cert.ReferenceSlIdeal.τ).loc Cert.ReferenceSlIdeal.main_arg0) = m ((c.tc : Thread Cert.ReferenceSlIdeal.nD Cert.ReferenceSlIdeal.τ).loc Cert.ReferenceSlIdeal.main_arg0)
      ∧ r.2.mem ((c.tc : Thread Cert.ReferenceSlIdeal.nD Cert.ReferenceSlIdeal.τ).loc Cert.ReferenceSlIdeal.main_arg1) = m ((c.tc : Thread Cert.ReferenceSlIdeal.nD Cert.ReferenceSlIdeal.τ).loc Cert.ReferenceSlIdeal.main_arg1)
      ∧ r.2.mem ((c.tc : Thread Cert.ReferenceSlIdeal.nD Cert.ReferenceSlIdeal.τ).loc Cert.ReferenceSlIdeal.main_arg2) = m ((c.tc : Thread Cert.ReferenceSlIdeal.nD Cert.ReferenceSlIdeal.τ).loc Cert.ReferenceSlIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelDn_KernelDnIdeal : Prop :=
  True

def algebraic_KernelDnIdeal_ReferenceDnIdeal [hKernelDnIdeal : Cert.KernelDnIdeal.Facts] [hReferenceDnIdeal : Cert.ReferenceDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg)
    (m' : (ℓ : Loc Cert.ReferenceDnIdeal.nD Cert.ReferenceDnIdeal.τ Cert.ReferenceDnIdeal.sig) → Buf (Elt Ideal) ℓ) (g' : Dev Cert.ReferenceDnIdeal.nD → PrngReg), Pre_KernelDnIdeal m →
    (∀ c : Dev Cert.KernelDnIdeal.nD,
      m' ((c.tc : Thread Cert.ReferenceDnIdeal.nD Cert.ReferenceDnIdeal.τ).loc Cert.ReferenceDnIdeal.main_arg0) = m ((c.tc : Thread Cert.KernelDnIdeal.nD Cert.KernelDnIdeal.τ).loc Cert.KernelDnIdeal.main_arg0)
      ∧ m' ((c.tc : Thread Cert.ReferenceDnIdeal.nD Cert.ReferenceDnIdeal.τ).loc Cert.ReferenceDnIdeal.main_arg1) = m ((c.tc : Thread Cert.KernelDnIdeal.nD Cert.KernelDnIdeal.τ).loc Cert.KernelDnIdeal.main_arg1)) →
    ∃ (v0 : (c : Dev Cert.KernelDnIdeal.nD) → Buf (Elt Ideal) ((c.tc : Thread Cert.KernelDnIdeal.nD Cert.KernelDnIdeal.τ).loc Cert.KernelDnIdeal.main_v4)),
      θ_run (Cert.KernelDnIdeal.defs (F := Ideal)) (onTc (τ := Cert.KernelDnIdeal.τ) (Cert.KernelDnIdeal.main (F := Ideal))) ⟨m, fun _ => 0, g⟩ (fun r => ∀ c : Dev Cert.KernelDnIdeal.nD,
          r.2.mem ((c.tc : Thread Cert.KernelDnIdeal.nD Cert.KernelDnIdeal.τ).loc Cert.KernelDnIdeal.main_v4) = v0 c
          ∧ r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
          ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1))
      ∧ θ_run (Cert.ReferenceDnIdeal.defs (F := Ideal)) (onTc (τ := Cert.ReferenceDnIdeal.τ) (Cert.ReferenceDnIdeal.main (F := Ideal))) ⟨m', fun _ => 0, g'⟩ (fun r => ∀ c : Dev Cert.ReferenceDnIdeal.nD,
          r.2.mem ((c.tc : Thread Cert.ReferenceDnIdeal.nD Cert.ReferenceDnIdeal.τ).loc Cert.ReferenceDnIdeal.main_v4) = v0 c
          ∧ r.2.mem ((c.tc : Thread Cert.ReferenceDnIdeal.nD Cert.ReferenceDnIdeal.τ).loc Cert.ReferenceDnIdeal.main_arg0) = m' ((c.tc : Thread Cert.ReferenceDnIdeal.nD Cert.ReferenceDnIdeal.τ).loc Cert.ReferenceDnIdeal.main_arg0)
          ∧ r.2.mem ((c.tc : Thread Cert.ReferenceDnIdeal.nD Cert.ReferenceDnIdeal.τ).loc Cert.ReferenceDnIdeal.main_arg1) = m' ((c.tc : Thread Cert.ReferenceDnIdeal.nD Cert.ReferenceDnIdeal.τ).loc Cert.ReferenceDnIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v4)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v4) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v25) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelWo_KernelWoIdeal : Prop :=
  True

def algebraic_KernelWoIdeal_ReferenceWoIdeal [hKernelWoIdeal : Cert.KernelWoIdeal.Facts] [hReferenceWoIdeal : Cert.ReferenceWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg)
    (m' : (ℓ : Loc Cert.ReferenceWoIdeal.nD Cert.ReferenceWoIdeal.τ Cert.ReferenceWoIdeal.sig) → Buf (Elt Ideal) ℓ) (g' : Dev Cert.ReferenceWoIdeal.nD → PrngReg), Pre_KernelWoIdeal m →
    (∀ c : Dev Cert.KernelWoIdeal.nD,
      m' ((c.tc : Thread Cert.ReferenceWoIdeal.nD Cert.ReferenceWoIdeal.τ).loc Cert.ReferenceWoIdeal.main_arg0) = m ((c.tc : Thread Cert.KernelWoIdeal.nD Cert.KernelWoIdeal.τ).loc Cert.KernelWoIdeal.main_arg0)
      ∧ m' ((c.tc : Thread Cert.ReferenceWoIdeal.nD Cert.ReferenceWoIdeal.τ).loc Cert.ReferenceWoIdeal.main_arg1) = m ((c.tc : Thread Cert.KernelWoIdeal.nD Cert.KernelWoIdeal.τ).loc Cert.KernelWoIdeal.main_arg1)
      ∧ m' ((c.tc : Thread Cert.ReferenceWoIdeal.nD Cert.ReferenceWoIdeal.τ).loc Cert.ReferenceWoIdeal.main_arg2) = m ((c.tc : Thread Cert.KernelWoIdeal.nD Cert.KernelWoIdeal.τ).loc Cert.KernelWoIdeal.main_arg2)) →
    ∃ (v0 : (c : Dev Cert.KernelWoIdeal.nD) → Buf (Elt Ideal) ((c.tc : Thread Cert.KernelWoIdeal.nD Cert.KernelWoIdeal.τ).loc Cert.KernelWoIdeal.main_v3)),
      θ_run (Cert.KernelWoIdeal.defs (F := Ideal)) (onTc (τ := Cert.KernelWoIdeal.τ) (Cert.KernelWoIdeal.main (F := Ideal))) ⟨m, fun _ => 0, g⟩ (fun r => ∀ c : Dev Cert.KernelWoIdeal.nD,
          r.2.mem ((c.tc : Thread Cert.KernelWoIdeal.nD Cert.KernelWoIdeal.τ).loc Cert.KernelWoIdeal.main_v3) = v0 c
          ∧ r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
          ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
          ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2))
      ∧ θ_run (Cert.ReferenceWoIdeal.defs (F := Ideal)) (onTc (τ := Cert.ReferenceWoIdeal.τ) (Cert.ReferenceWoIdeal.main (F := Ideal))) ⟨m', fun _ => 0, g'⟩ (fun r => ∀ c : Dev Cert.ReferenceWoIdeal.nD,
          r.2.mem ((c.tc : Thread Cert.ReferenceWoIdeal.nD Cert.ReferenceWoIdeal.τ).loc Cert.ReferenceWoIdeal.main_v7) = v0 c
          ∧ r.2.mem ((c.tc : Thread Cert.ReferenceWoIdeal.nD Cert.ReferenceWoIdeal.τ).loc Cert.ReferenceWoIdeal.main_arg0) = m' ((c.tc : Thread Cert.ReferenceWoIdeal.nD Cert.ReferenceWoIdeal.τ).loc Cert.ReferenceWoIdeal.main_arg0)
          ∧ r.2.mem ((c.tc : Thread Cert.ReferenceWoIdeal.nD Cert.ReferenceWoIdeal.τ).loc Cert.ReferenceWoIdeal.main_arg1) = m' ((c.tc : Thread Cert.ReferenceWoIdeal.nD Cert.ReferenceWoIdeal.τ).loc Cert.ReferenceWoIdeal.main_arg1)
          ∧ r.2.mem ((c.tc : Thread Cert.ReferenceWoIdeal.nD Cert.ReferenceWoIdeal.τ).loc Cert.ReferenceWoIdeal.main_arg2) = m' ((c.tc : Thread Cert.ReferenceWoIdeal.nD Cert.ReferenceWoIdeal.τ).loc Cert.ReferenceWoIdeal.main_arg2))

def preserves_KernelG0_KernelG0Ideal : Prop :=
  IdealRules.named_const.Statement Cert.KernelG0Ideal.κ "mask" .f32 0xF149F2CA#32 ⊥

def algebraic_KernelG0Ideal_ReferenceG0Ideal [hKernelG0Ideal : Cert.KernelG0Ideal.Facts] [hReferenceG0Ideal : Cert.ReferenceG0Ideal.Facts] : Prop :=
  ∀ (m : (ℓ : Loc Cert.KernelG0Ideal.nD Cert.KernelG0Ideal.τ Cert.KernelG0Ideal.sig) → Buf (Elt Ideal) ℓ) (g : Dev Cert.KernelG0Ideal.nD → PrngReg)
    (m' : (ℓ : Loc Cert.ReferenceG0Ideal.nD Cert.ReferenceG0Ideal.τ Cert.ReferenceG0Ideal.sig) → Buf (Elt Ideal) ℓ) (g' : Dev Cert.ReferenceG0Ideal.nD → PrngReg), Pre_KernelG0Ideal m →
    (∀ c : Dev Cert.KernelG0Ideal.nD,
      m' ((c.tc : Thread Cert.ReferenceG0Ideal.nD Cert.ReferenceG0Ideal.τ).loc Cert.ReferenceG0Ideal.main_arg0) = m ((c.tc : Thread Cert.KernelG0Ideal.nD Cert.KernelG0Ideal.τ).loc Cert.KernelG0Ideal.main_arg0)) →
    ∃ (v0 : (c : Dev Cert.KernelG0Ideal.nD) → Buf (Elt Ideal) ((c.tc : Thread Cert.KernelG0Ideal.nD Cert.KernelG0Ideal.τ).loc Cert.KernelG0Ideal.main_v17_0)) (v1 : (c : Dev Cert.KernelG0Ideal.nD) → Buf (Elt Ideal) ((c.tc : Thread Cert.KernelG0Ideal.nD Cert.KernelG0Ideal.τ).loc Cert.KernelG0Ideal.main_v17_1)),
      θ_run (Cert.KernelG0Ideal.defs (F := Ideal)) (onTc (τ := Cert.KernelG0Ideal.τ) (Cert.KernelG0Ideal.main (F := Ideal))) ⟨m, fun _ => 0, g⟩ (fun r => ∀ c : Dev Cert.KernelG0Ideal.nD,
          r.2.mem ((c.tc : Thread Cert.KernelG0Ideal.nD Cert.KernelG0Ideal.τ).loc Cert.KernelG0Ideal.main_v17_0) = v0 c
          ∧ r.2.mem ((c.tc : Thread Cert.KernelG0Ideal.nD Cert.KernelG0Ideal.τ).loc Cert.KernelG0Ideal.main_v17_1) = v1 c
          ∧ r.2.mem ((c.tc : Thread Cert.KernelG0Ideal.nD Cert.KernelG0Ideal.τ).loc Cert.KernelG0Ideal.main_arg0) = m ((c.tc : Thread Cert.KernelG0Ideal.nD Cert.KernelG0Ideal.τ).loc Cert.KernelG0Ideal.main_arg0))
      ∧ θ_run (Cert.ReferenceG0Ideal.defs (F := Ideal)) (onTc (τ := Cert.ReferenceG0Ideal.τ) (Cert.ReferenceG0Ideal.main (F := Ideal))) ⟨m', fun _ => 0, g'⟩ (fun r => ∀ c : Dev Cert.ReferenceG0Ideal.nD,
          r.2.mem ((c.tc : Thread Cert.ReferenceG0Ideal.nD Cert.ReferenceG0Ideal.τ).loc Cert.ReferenceG0Ideal.main_v145) = v0 c
          ∧ r.2.mem ((c.tc : Thread Cert.ReferenceG0Ideal.nD Cert.ReferenceG0Ideal.τ).loc Cert.ReferenceG0Ideal.main_v148) = v1 c
          ∧ r.2.mem ((c.tc : Thread Cert.ReferenceG0Ideal.nD Cert.ReferenceG0Ideal.τ).loc Cert.ReferenceG0Ideal.main_arg0) = m' ((c.tc : Thread Cert.ReferenceG0Ideal.nD Cert.ReferenceG0Ideal.τ).loc Cert.ReferenceG0Ideal.main_arg0))

def preserves_KernelSh_KernelShIdeal : Prop :=
  True

def algebraic_KernelShIdeal_ReferenceShIdeal [hKernelShIdeal : Cert.KernelShIdeal.Facts] [hReferenceShIdeal : Cert.ReferenceShIdeal.Facts] : Prop :=
  ∀ (m : (ℓ : Loc Cert.KernelShIdeal.nD Cert.KernelShIdeal.τ Cert.KernelShIdeal.sig) → Buf (Elt Ideal) ℓ) (g : Dev Cert.KernelShIdeal.nD → PrngReg)
    (m' : (ℓ : Loc Cert.ReferenceShIdeal.nD Cert.ReferenceShIdeal.τ Cert.ReferenceShIdeal.sig) → Buf (Elt Ideal) ℓ) (g' : Dev Cert.ReferenceShIdeal.nD → PrngReg), Pre_KernelShIdeal m →
    (∀ c : Dev Cert.KernelShIdeal.nD,
      m' ((c.tc : Thread Cert.ReferenceShIdeal.nD Cert.ReferenceShIdeal.τ).loc Cert.ReferenceShIdeal.main_arg0) = m ((c.tc : Thread Cert.KernelShIdeal.nD Cert.KernelShIdeal.τ).loc Cert.KernelShIdeal.main_arg0)
      ∧ m' ((c.tc : Thread Cert.ReferenceShIdeal.nD Cert.ReferenceShIdeal.τ).loc Cert.ReferenceShIdeal.main_arg1) = m ((c.tc : Thread Cert.KernelShIdeal.nD Cert.KernelShIdeal.τ).loc Cert.KernelShIdeal.main_arg1)
      ∧ m' ((c.tc : Thread Cert.ReferenceShIdeal.nD Cert.ReferenceShIdeal.τ).loc Cert.ReferenceShIdeal.main_arg2) = m ((c.tc : Thread Cert.KernelShIdeal.nD Cert.KernelShIdeal.τ).loc Cert.KernelShIdeal.main_arg2)) →
    ∃ (v0 : (c : Dev Cert.KernelShIdeal.nD) → Buf (Elt Ideal) ((c.tc : Thread Cert.KernelShIdeal.nD Cert.KernelShIdeal.τ).loc Cert.KernelShIdeal.main_v4)),
      θ_run (Cert.KernelShIdeal.defs (F := Ideal)) (onTc (τ := Cert.KernelShIdeal.τ) (Cert.KernelShIdeal.main (F := Ideal))) ⟨m, fun _ => 0, g⟩ (fun r => ∀ c : Dev Cert.KernelShIdeal.nD,
          r.2.mem ((c.tc : Thread Cert.KernelShIdeal.nD Cert.KernelShIdeal.τ).loc Cert.KernelShIdeal.main_v4) = v0 c
          ∧ r.2.mem ((c.tc : Thread Cert.KernelShIdeal.nD Cert.KernelShIdeal.τ).loc Cert.KernelShIdeal.main_arg0) = m ((c.tc : Thread Cert.KernelShIdeal.nD Cert.KernelShIdeal.τ).loc Cert.KernelShIdeal.main_arg0)
          ∧ r.2.mem ((c.tc : Thread Cert.KernelShIdeal.nD Cert.KernelShIdeal.τ).loc Cert.KernelShIdeal.main_arg1) = m ((c.tc : Thread Cert.KernelShIdeal.nD Cert.KernelShIdeal.τ).loc Cert.KernelShIdeal.main_arg1)
          ∧ r.2.mem ((c.tc : Thread Cert.KernelShIdeal.nD Cert.KernelShIdeal.τ).loc Cert.KernelShIdeal.main_arg2) = m ((c.tc : Thread Cert.KernelShIdeal.nD Cert.KernelShIdeal.τ).loc Cert.KernelShIdeal.main_arg2))
      ∧ θ_run (Cert.ReferenceShIdeal.defs (F := Ideal)) (onTc (τ := Cert.ReferenceShIdeal.τ) (Cert.ReferenceShIdeal.main (F := Ideal))) ⟨m', fun _ => 0, g'⟩ (fun r => ∀ c : Dev Cert.ReferenceShIdeal.nD,
          r.2.mem ((c.tc : Thread Cert.ReferenceShIdeal.nD Cert.ReferenceShIdeal.τ).loc Cert.ReferenceShIdeal.main_v15) = v0 c
          ∧ r.2.mem ((c.tc : Thread Cert.ReferenceShIdeal.nD Cert.ReferenceShIdeal.τ).loc Cert.ReferenceShIdeal.main_arg0) = m' ((c.tc : Thread Cert.ReferenceShIdeal.nD Cert.ReferenceShIdeal.τ).loc Cert.ReferenceShIdeal.main_arg0)
          ∧ r.2.mem ((c.tc : Thread Cert.ReferenceShIdeal.nD Cert.ReferenceShIdeal.τ).loc Cert.ReferenceShIdeal.main_arg1) = m' ((c.tc : Thread Cert.ReferenceShIdeal.nD Cert.ReferenceShIdeal.τ).loc Cert.ReferenceShIdeal.main_arg1)
          ∧ r.2.mem ((c.tc : Thread Cert.ReferenceShIdeal.nD Cert.ReferenceShIdeal.τ).loc Cert.ReferenceShIdeal.main_arg2) = m' ((c.tc : Thread Cert.ReferenceShIdeal.nD Cert.ReferenceShIdeal.τ).loc Cert.ReferenceShIdeal.main_arg2))

def preserves_KernelGt_KernelGtIdeal : Prop :=
  True

def algebraic_KernelGtIdeal_ReferenceGtIdeal_pre_finite_gt [hKernelGtIdeal : Cert.KernelGtIdeal.Facts] [hReferenceGtIdeal : Cert.ReferenceGtIdeal.Facts] [hPre_finite_gt : Cert.Pre_finite_gt.Facts] : Prop :=
  ∀ (m : (ℓ : Loc Cert.KernelGtIdeal.nD Cert.KernelGtIdeal.τ Cert.KernelGtIdeal.sig) → Buf (Elt Ideal) ℓ) (g : Dev Cert.KernelGtIdeal.nD → PrngReg)
    (m' : (ℓ : Loc Cert.ReferenceGtIdeal.nD Cert.ReferenceGtIdeal.τ Cert.ReferenceGtIdeal.sig) → Buf (Elt Ideal) ℓ) (g' : Dev Cert.ReferenceGtIdeal.nD → PrngReg), Pre_KernelGtIdeal_finite_gt m →
    (∀ c : Dev Cert.KernelGtIdeal.nD,
      m' ((c.tc : Thread Cert.ReferenceGtIdeal.nD Cert.ReferenceGtIdeal.τ).loc Cert.ReferenceGtIdeal.main_arg0) = m ((c.tc : Thread Cert.KernelGtIdeal.nD Cert.KernelGtIdeal.τ).loc Cert.KernelGtIdeal.main_arg0)
      ∧ m' ((c.tc : Thread Cert.ReferenceGtIdeal.nD Cert.ReferenceGtIdeal.τ).loc Cert.ReferenceGtIdeal.main_arg1) = m ((c.tc : Thread Cert.KernelGtIdeal.nD Cert.KernelGtIdeal.τ).loc Cert.KernelGtIdeal.main_arg1)
      ∧ m' ((c.tc : Thread Cert.ReferenceGtIdeal.nD Cert.ReferenceGtIdeal.τ).loc Cert.ReferenceGtIdeal.main_arg2) = m ((c.tc : Thread Cert.KernelGtIdeal.nD Cert.KernelGtIdeal.τ).loc Cert.KernelGtIdeal.main_arg2)
      ∧ m' ((c.tc : Thread Cert.ReferenceGtIdeal.nD Cert.ReferenceGtIdeal.τ).loc Cert.ReferenceGtIdeal.main_arg3) = m ((c.tc : Thread Cert.KernelGtIdeal.nD Cert.KernelGtIdeal.τ).loc Cert.KernelGtIdeal.main_arg3)) →
    ∃ (v0 : (c : Dev Cert.KernelGtIdeal.nD) → Buf (Elt Ideal) ((c.tc : Thread Cert.KernelGtIdeal.nD Cert.KernelGtIdeal.τ).loc Cert.KernelGtIdeal.main_v16_0)) (v1 : (c : Dev Cert.KernelGtIdeal.nD) → Buf (Elt Ideal) ((c.tc : Thread Cert.KernelGtIdeal.nD Cert.KernelGtIdeal.τ).loc Cert.KernelGtIdeal.main_v16_1)) (v2 : (c : Dev Cert.KernelGtIdeal.nD) → Buf (Elt Ideal) ((c.tc : Thread Cert.KernelGtIdeal.nD Cert.KernelGtIdeal.τ).loc Cert.KernelGtIdeal.main_v16_2)) (v3 : (c : Dev Cert.KernelGtIdeal.nD) → Buf (Elt Ideal) ((c.tc : Thread Cert.KernelGtIdeal.nD Cert.KernelGtIdeal.τ).loc Cert.KernelGtIdeal.main_v16_3)),
      θ_run (Cert.KernelGtIdeal.defs (F := Ideal)) (onTc (τ := Cert.KernelGtIdeal.τ) (Cert.KernelGtIdeal.main (F := Ideal))) ⟨m, fun _ => 0, g⟩ (fun r => ∀ c : Dev Cert.KernelGtIdeal.nD,
          r.2.mem ((c.tc : Thread Cert.KernelGtIdeal.nD Cert.KernelGtIdeal.τ).loc Cert.KernelGtIdeal.main_v16_0) = v0 c
          ∧ r.2.mem ((c.tc : Thread Cert.KernelGtIdeal.nD Cert.KernelGtIdeal.τ).loc Cert.KernelGtIdeal.main_v16_1) = v1 c
          ∧ r.2.mem ((c.tc : Thread Cert.KernelGtIdeal.nD Cert.KernelGtIdeal.τ).loc Cert.KernelGtIdeal.main_v16_2) = v2 c
          ∧ r.2.mem ((c.tc : Thread Cert.KernelGtIdeal.nD Cert.KernelGtIdeal.τ).loc Cert.KernelGtIdeal.main_v16_3) = v3 c
          ∧ r.2.mem ((c.tc : Thread Cert.KernelGtIdeal.nD Cert.KernelGtIdeal.τ).loc Cert.KernelGtIdeal.main_arg0) = m ((c.tc : Thread Cert.KernelGtIdeal.nD Cert.KernelGtIdeal.τ).loc Cert.KernelGtIdeal.main_arg0)
          ∧ r.2.mem ((c.tc : Thread Cert.KernelGtIdeal.nD Cert.KernelGtIdeal.τ).loc Cert.KernelGtIdeal.main_arg1) = m ((c.tc : Thread Cert.KernelGtIdeal.nD Cert.KernelGtIdeal.τ).loc Cert.KernelGtIdeal.main_arg1)
          ∧ r.2.mem ((c.tc : Thread Cert.KernelGtIdeal.nD Cert.KernelGtIdeal.τ).loc Cert.KernelGtIdeal.main_arg2) = m ((c.tc : Thread Cert.KernelGtIdeal.nD Cert.KernelGtIdeal.τ).loc Cert.KernelGtIdeal.main_arg2)
          ∧ r.2.mem ((c.tc : Thread Cert.KernelGtIdeal.nD Cert.KernelGtIdeal.τ).loc Cert.KernelGtIdeal.main_arg3) = m ((c.tc : Thread Cert.KernelGtIdeal.nD Cert.KernelGtIdeal.τ).loc Cert.KernelGtIdeal.main_arg3))
      ∧ θ_run (Cert.ReferenceGtIdeal.defs (F := Ideal)) (onTc (τ := Cert.ReferenceGtIdeal.τ) (Cert.ReferenceGtIdeal.main (F := Ideal))) ⟨m', fun _ => 0, g'⟩ (fun r => ∀ c : Dev Cert.ReferenceGtIdeal.nD,
          r.2.mem ((c.tc : Thread Cert.ReferenceGtIdeal.nD Cert.ReferenceGtIdeal.τ).loc Cert.ReferenceGtIdeal.main_v28) = v0 c
          ∧ r.2.mem ((c.tc : Thread Cert.ReferenceGtIdeal.nD Cert.ReferenceGtIdeal.τ).loc Cert.ReferenceGtIdeal.main_v30) = v1 c
          ∧ r.2.mem ((c.tc : Thread Cert.ReferenceGtIdeal.nD Cert.ReferenceGtIdeal.τ).loc Cert.ReferenceGtIdeal.main_v31) = v2 c
          ∧ r.2.mem ((c.tc : Thread Cert.ReferenceGtIdeal.nD Cert.ReferenceGtIdeal.τ).loc Cert.ReferenceGtIdeal.main_v33) = v3 c
          ∧ r.2.mem ((c.tc : Thread Cert.ReferenceGtIdeal.nD Cert.ReferenceGtIdeal.τ).loc Cert.ReferenceGtIdeal.main_arg0) = m' ((c.tc : Thread Cert.ReferenceGtIdeal.nD Cert.ReferenceGtIdeal.τ).loc Cert.ReferenceGtIdeal.main_arg0)
          ∧ r.2.mem ((c.tc : Thread Cert.ReferenceGtIdeal.nD Cert.ReferenceGtIdeal.τ).loc Cert.ReferenceGtIdeal.main_arg1) = m' ((c.tc : Thread Cert.ReferenceGtIdeal.nD Cert.ReferenceGtIdeal.τ).loc Cert.ReferenceGtIdeal.main_arg1)
          ∧ r.2.mem ((c.tc : Thread Cert.ReferenceGtIdeal.nD Cert.ReferenceGtIdeal.τ).loc Cert.ReferenceGtIdeal.main_arg2) = m' ((c.tc : Thread Cert.ReferenceGtIdeal.nD Cert.ReferenceGtIdeal.τ).loc Cert.ReferenceGtIdeal.main_arg2)
          ∧ r.2.mem ((c.tc : Thread Cert.ReferenceGtIdeal.nD Cert.ReferenceGtIdeal.τ).loc Cert.ReferenceGtIdeal.main_arg3) = m' ((c.tc : Thread Cert.ReferenceGtIdeal.nD Cert.ReferenceGtIdeal.τ).loc Cert.ReferenceGtIdeal.main_arg3))

def preserves_KernelSl_KernelSlIdeal : Prop :=
  True

def algebraic_KernelSlIdeal_ReferenceSlIdeal_pre_chosen [hKernelSlIdeal : Cert.KernelSlIdeal.Facts] [hReferenceSlIdeal : Cert.ReferenceSlIdeal.Facts] [hPre_chosen : Cert.Pre_chosen.Facts] : Prop :=
  ∀ (m : (ℓ : Loc Cert.KernelSlIdeal.nD Cert.KernelSlIdeal.τ Cert.KernelSlIdeal.sig) → Buf (Elt Ideal) ℓ) (g : Dev Cert.KernelSlIdeal.nD → PrngReg)
    (m' : (ℓ : Loc Cert.ReferenceSlIdeal.nD Cert.ReferenceSlIdeal.τ Cert.ReferenceSlIdeal.sig) → Buf (Elt Ideal) ℓ) (g' : Dev Cert.ReferenceSlIdeal.nD → PrngReg), Pre_KernelSlIdeal_chosen m →
    (∀ c : Dev Cert.KernelSlIdeal.nD,
      m' ((c.tc : Thread Cert.ReferenceSlIdeal.nD Cert.ReferenceSlIdeal.τ).loc Cert.ReferenceSlIdeal.main_arg0) = m ((c.tc : Thread Cert.KernelSlIdeal.nD Cert.KernelSlIdeal.τ).loc Cert.KernelSlIdeal.main_arg0)
      ∧ m' ((c.tc : Thread Cert.ReferenceSlIdeal.nD Cert.ReferenceSlIdeal.τ).loc Cert.ReferenceSlIdeal.main_arg1) = m ((c.tc : Thread Cert.KernelSlIdeal.nD Cert.KernelSlIdeal.τ).loc Cert.KernelSlIdeal.main_arg1)
      ∧ m' ((c.tc : Thread Cert.ReferenceSlIdeal.nD Cert.ReferenceSlIdeal.τ).loc Cert.ReferenceSlIdeal.main_arg2) = m ((c.tc : Thread Cert.KernelSlIdeal.nD Cert.KernelSlIdeal.τ).loc Cert.KernelSlIdeal.main_arg2)) →
    ∃ (v0 : (c : Dev Cert.KernelSlIdeal.nD) → Buf (Elt Ideal) ((c.tc : Thread Cert.KernelSlIdeal.nD Cert.KernelSlIdeal.τ).loc Cert.KernelSlIdeal.main_v2)),
      θ_run (Cert.KernelSlIdeal.defs (F := Ideal)) (onTc (τ := Cert.KernelSlIdeal.τ) (Cert.KernelSlIdeal.main (F := Ideal))) ⟨m, fun _ => 0, g⟩ (fun r => ∀ c : Dev Cert.KernelSlIdeal.nD,
          r.2.mem ((c.tc : Thread Cert.KernelSlIdeal.nD Cert.KernelSlIdeal.τ).loc Cert.KernelSlIdeal.main_v2) = v0 c
          ∧ r.2.mem ((c.tc : Thread Cert.KernelSlIdeal.nD Cert.KernelSlIdeal.τ).loc Cert.KernelSlIdeal.main_arg0) = m ((c.tc : Thread Cert.KernelSlIdeal.nD Cert.KernelSlIdeal.τ).loc Cert.KernelSlIdeal.main_arg0)
          ∧ r.2.mem ((c.tc : Thread Cert.KernelSlIdeal.nD Cert.KernelSlIdeal.τ).loc Cert.KernelSlIdeal.main_arg1) = m ((c.tc : Thread Cert.KernelSlIdeal.nD Cert.KernelSlIdeal.τ).loc Cert.KernelSlIdeal.main_arg1)
          ∧ r.2.mem ((c.tc : Thread Cert.KernelSlIdeal.nD Cert.KernelSlIdeal.τ).loc Cert.KernelSlIdeal.main_arg2) = m ((c.tc : Thread Cert.KernelSlIdeal.nD Cert.KernelSlIdeal.τ).loc Cert.KernelSlIdeal.main_arg2))
      ∧ θ_run (Cert.ReferenceSlIdeal.defs (F := Ideal)) (onTc (τ := Cert.ReferenceSlIdeal.τ) (Cert.ReferenceSlIdeal.main (F := Ideal))) ⟨m', fun _ => 0, g'⟩ (fun r => ∀ c : Dev Cert.ReferenceSlIdeal.nD,
          r.2.mem ((c.tc : Thread Cert.ReferenceSlIdeal.nD Cert.ReferenceSlIdeal.τ).loc Cert.ReferenceSlIdeal.main_v11) = v0 c
          ∧ r.2.mem ((c.tc : Thread Cert.ReferenceSlIdeal.nD Cert.ReferenceSlIdeal.τ).loc Cert.ReferenceSlIdeal.main_arg0) = m' ((c.tc : Thread Cert.ReferenceSlIdeal.nD Cert.ReferenceSlIdeal.τ).loc Cert.ReferenceSlIdeal.main_arg0)
          ∧ r.2.mem ((c.tc : Thread Cert.ReferenceSlIdeal.nD Cert.ReferenceSlIdeal.τ).loc Cert.ReferenceSlIdeal.main_arg1) = m' ((c.tc : Thread Cert.ReferenceSlIdeal.nD Cert.ReferenceSlIdeal.τ).loc Cert.ReferenceSlIdeal.main_arg1)
          ∧ r.2.mem ((c.tc : Thread Cert.ReferenceSlIdeal.nD Cert.ReferenceSlIdeal.τ).loc Cert.ReferenceSlIdeal.main_arg2) = m' ((c.tc : Thread Cert.ReferenceSlIdeal.nD Cert.ReferenceSlIdeal.τ).loc Cert.ReferenceSlIdeal.main_arg2))

def Claim : Prop :=
  ∃ (hKernel : Cert.Kernel.Facts) (hKernelIdeal : Cert.KernelIdeal.Facts) (hReferenceIdeal : Cert.ReferenceIdeal.Facts) (hKernelDn : Cert.KernelDn.Facts) (hKernelDnIdeal : Cert.KernelDnIdeal.Facts) (hReferenceDnIdeal : Cert.ReferenceDnIdeal.Facts) (hKernelMix : Cert.KernelMix.Facts) (hKernelMixIdeal : Cert.KernelMixIdeal.Facts) (hReferenceMixIdeal : Cert.ReferenceMixIdeal.Facts) (hKernelWo : Cert.KernelWo.Facts) (hKernelWoIdeal : Cert.KernelWoIdeal.Facts) (hReferenceWoIdeal : Cert.ReferenceWoIdeal.Facts) (hKernelG0 : Cert.KernelG0.Facts) (hKernelG0Ideal : Cert.KernelG0Ideal.Facts) (hReferenceG0Ideal : Cert.ReferenceG0Ideal.Facts) (hKernelSh : Cert.KernelSh.Facts) (hKernelShIdeal : Cert.KernelShIdeal.Facts) (hReferenceShIdeal : Cert.ReferenceShIdeal.Facts) (hKernelGt : Cert.KernelGt.Facts) (hKernelGtIdeal : Cert.KernelGtIdeal.Facts) (hReferenceGtIdeal : Cert.ReferenceGtIdeal.Facts) (hKernelSl : Cert.KernelSl.Facts) (hKernelSlIdeal : Cert.KernelSlIdeal.Facts) (hReferenceSlIdeal : Cert.ReferenceSlIdeal.Facts) (hPre_finite_gt : Cert.Pre_finite_gt.Facts) (hPre_chosen : Cert.Pre_chosen.Facts),
    quiescent_Kernel (hKernel := hKernel)
    ∧ quiescent_KernelIdeal (hKernelIdeal := hKernelIdeal)
    ∧ quiescent_ReferenceIdeal (hReferenceIdeal := hReferenceIdeal)
    ∧ quiescent_KernelDn (hKernelDn := hKernelDn)
    ∧ quiescent_KernelDnIdeal (hKernelDnIdeal := hKernelDnIdeal)
    ∧ quiescent_ReferenceDnIdeal (hReferenceDnIdeal := hReferenceDnIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelWo (hKernelWo := hKernelWo)
    ∧ quiescent_KernelWoIdeal (hKernelWoIdeal := hKernelWoIdeal)
    ∧ quiescent_ReferenceWoIdeal (hReferenceWoIdeal := hReferenceWoIdeal)
    ∧ quiescent_KernelG0 (hKernelG0 := hKernelG0)
    ∧ quiescent_KernelG0Ideal (hKernelG0Ideal := hKernelG0Ideal)
    ∧ quiescent_ReferenceG0Ideal (hReferenceG0Ideal := hReferenceG0Ideal)
    ∧ quiescent_KernelSh (hKernelSh := hKernelSh)
    ∧ quiescent_KernelShIdeal (hKernelShIdeal := hKernelShIdeal)
    ∧ quiescent_ReferenceShIdeal (hReferenceShIdeal := hReferenceShIdeal)
    ∧ quiescent_KernelGt (hKernelGt := hKernelGt)
    ∧ quiescent_KernelGtIdeal (hKernelGtIdeal := hKernelGtIdeal)
    ∧ quiescent_KernelGtIdeal_pre_finite_gt (hKernelGtIdeal := hKernelGtIdeal) (hPre_finite_gt := hPre_finite_gt)
    ∧ quiescent_ReferenceGtIdeal (hReferenceGtIdeal := hReferenceGtIdeal)
    ∧ quiescent_ReferenceGtIdeal_pre_finite_gt (hReferenceGtIdeal := hReferenceGtIdeal) (hPre_finite_gt := hPre_finite_gt)
    ∧ quiescent_KernelSl (hKernelSl := hKernelSl)
    ∧ quiescent_KernelSlIdeal (hKernelSlIdeal := hKernelSlIdeal)
    ∧ quiescent_KernelSlIdeal_pre_chosen (hKernelSlIdeal := hKernelSlIdeal) (hPre_chosen := hPre_chosen)
    ∧ quiescent_ReferenceSlIdeal (hReferenceSlIdeal := hReferenceSlIdeal)
    ∧ quiescent_ReferenceSlIdeal_pre_chosen (hReferenceSlIdeal := hReferenceSlIdeal) (hPre_chosen := hPre_chosen)
    ∧ preserves_Kernel_KernelIdeal
    ∧ algebraic_KernelIdeal_ReferenceIdeal (hKernelIdeal := hKernelIdeal) (hReferenceIdeal := hReferenceIdeal)
    ∧ preserves_KernelDn_KernelDnIdeal
    ∧ algebraic_KernelDnIdeal_ReferenceDnIdeal (hKernelDnIdeal := hKernelDnIdeal) (hReferenceDnIdeal := hReferenceDnIdeal)
    ∧ preserves_KernelMix_KernelMixIdeal
    ∧ algebraic_KernelMixIdeal_ReferenceMixIdeal (hKernelMixIdeal := hKernelMixIdeal) (hReferenceMixIdeal := hReferenceMixIdeal)
    ∧ preserves_KernelWo_KernelWoIdeal
    ∧ algebraic_KernelWoIdeal_ReferenceWoIdeal (hKernelWoIdeal := hKernelWoIdeal) (hReferenceWoIdeal := hReferenceWoIdeal)
    ∧ preserves_KernelG0_KernelG0Ideal
    ∧ algebraic_KernelG0Ideal_ReferenceG0Ideal (hKernelG0Ideal := hKernelG0Ideal) (hReferenceG0Ideal := hReferenceG0Ideal)
    ∧ preserves_KernelSh_KernelShIdeal
    ∧ algebraic_KernelShIdeal_ReferenceShIdeal (hKernelShIdeal := hKernelShIdeal) (hReferenceShIdeal := hReferenceShIdeal)
    ∧ preserves_KernelGt_KernelGtIdeal
    ∧ algebraic_KernelGtIdeal_ReferenceGtIdeal_pre_finite_gt (hKernelGtIdeal := hKernelGtIdeal) (hReferenceGtIdeal := hReferenceGtIdeal) (hPre_finite_gt := hPre_finite_gt)
    ∧ preserves_KernelSl_KernelSlIdeal
    ∧ algebraic_KernelSlIdeal_ReferenceSlIdeal_pre_chosen (hKernelSlIdeal := hKernelSlIdeal) (hReferenceSlIdeal := hReferenceSlIdeal) (hPre_chosen := hPre_chosen)
-- ==== Pre_chosen.lean ====
abbrev S16384x128 : Shape := ⟨2, ![16384, 128]⟩
abbrev S128 : Shape := ⟨1, ![128]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)

variable [Facts]

def fn {F : FTy → Type} [FloatOps F] (main_arg0 : IVec S16384x128 32) (main_arg1 : IVec S16384x128 32) (main_arg2 : IVec S128 32) : IVec S16384x8 1 :=
  let main_v0 : IVec S16384x8 32 := (extractStridedSlice S16384x8 ![0, 0] · slices_S16384x128_S16384x8_0_0) main_arg0
  let main_c : IVec S_ 32 := constantI S_ 32 0#32
  let main_v1 : IVec S16384x8 32 := broadcastInDim S16384x8 ![] bcast_S_S16384x8 main_c
  let main_v2 : IVec S16384x8 1 := cmpi .sge main_v0 main_v1
  let main_v3 : IVec S16384x8 32 := (extractStridedSlice S16384x8 ![0, 0] · slices_S16384x128_S16384x8_0_0) main_arg0
  let main_c_0 : IVec S_ 32 := constantI S_ 32 128#32
  let main_v4 : IVec S16384x8 32 := broadcastInDim S16384x8 ![] bcast_S_S16384x8 main_c_0
  let main_v5 : IVec S16384x8 1 := cmpi .slt main_v3 main_v4
  let main_v6 : IVec S16384x8 1 := andi main_v2 main_v5
  main_v6
-- ==== Pre_finite_gt.lean ====
abbrev S1x16384x4096 : Shape := ⟨3, ![1, 16384, 4096]⟩
abbrev S1x4096x25632 : Shape := ⟨3, ![1, 4096, 25632]⟩
abbrev S1x16 : Shape := ⟨2, ![1, 16]⟩
abbrev S_ : Shape := ⟨0, ![]⟩
abbrev S1x4096x32 : Shape := ⟨3, ![1, 4096, 32]⟩

class Facts : Prop where
  bcast_S_S1x16384x4096 : S_.BroadcastsInDim S1x16384x4096 (![] : Fin 0 → Fin S1x16384x4096.rank)
  slices_S1x4096x25632_S1x4096x32_0_0_8192 : S1x4096x25632.Slices ![0, 0, 8192] S1x4096x32
  bcast_S_S1x4096x32 : S_.BroadcastsInDim S1x4096x32 (![] : Fin 0 → Fin S1x4096x32.rank)

variable [Facts]

def fn {F : FTy → Type} [FloatOps F] (main_arg0 : FVec F S1x16384x4096 .f32) (main_arg1 : FVec F S1x4096x25632 .f32) (main_arg2 : FVec F S1x16 .f32) (main_arg3 : FVec F S1x16 .f32) : IVec S1x16384x4096 1 × IVec S1x4096x32 1 :=
  let main_v0 : FVec F S1x16384x4096 .f32 := Host.absf main_arg0
  let main_cst : FVec F S_ .f32 := constant S_ .f32 0x7F800000#32
  let main_v1 : FVec F S1x16384x4096 .f32 := broadcastInDim S1x16384x4096 ![] bcast_S_S1x16384x4096 main_cst
  let main_v2 : IVec S1x16384x4096 1 := cmpf .olt main_v0 main_v1
  let main_v3 : FVec F S1x4096x32 .f32 := (extractStridedSlice S1x4096x32 ![0, 0, 8192] · slices_S1x4096x25632_S1x4096x32_0_0_8192) main_arg1
  let main_v4 : FVec F S1x4096x32 .f32 := Host.absf main_v3
  let main_cst_0 : FVec F S_ .f32 := constant S_ .f32 0x7F800000#32
  let main_v5 : FVec F S1x4096x32 .f32 := broadcastInDim S1x4096x32 ![] bcast_S_S1x4096x32 main_cst_0
  let main_v6 : IVec S1x4096x32 1 := cmpf .olt main_v4 main_v5
  (main_v2, main_v6)
-- ==== Kernel.lean ====
abbrev S1x16384x4096 : Shape := ⟨3, ![1, 16384, 4096]⟩
abbrev S1x4096x25632 : Shape := ⟨3, ![1, 4096, 25632]⟩
abbrev S16384x4096 : Shape := ⟨2, ![16384, 4096]⟩
abbrev S4096x25632 : Shape := ⟨2, ![4096, 25632]⟩
abbrev S25632x4096 : Shape := ⟨2, ![25632, 4096]⟩
abbrev S16384x17408 : Shape := ⟨2, ![16384, 17408]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S25632x4096, .f32⟩
  | .hbm, ⟨5, _⟩ => ⟨S16384x4096, .bf16⟩
  | .hbm, ⟨6, _⟩ => ⟨S16384x17408, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 34], ![false, false]⟩

def k0_mult1 (i : grid0.Coords) : BitVec 32 :=
  let c8224_i32 : BitVec 32 := 8224#32
  let arg1 : BitVec 32 := BitVec.ofNat 32 (i 1).val
  let c512_i32 : BitVec 32 := 512#32
  let v0 : BitVec 32 := Scalar.muli arg1 c512_i32
  let v1 : BitVec 32 := Scalar.addi c8224_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8224_i32 : BitVec 32 := 8224#32
  let v1 : BitVec 32 := Scalar.addi c8224_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1x16384x4096 : Shape := ⟨3, ![1, 16384, 4096]⟩
abbrev S1x4096x25632 : Shape := ⟨3, ![1, 4096, 25632]⟩
abbrev S4096x25632 : Shape := ⟨2, ![4096, 25632]⟩
abbrev S1x16384x25632 : Shape := ⟨3, ![1, 16384, 25632]⟩
abbrev S1x16384x17408 : Shape := ⟨3, ![1, 16384, 17408]⟩
abbrev S16384x17408 : Shape := ⟨2, ![16384, 17408]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x25632, .f32⟩
  | .hbm, ⟨2, _⟩ => ⟨S4096x25632, .f32⟩
  | .hbm, ⟨3, _⟩ => ⟨S1x16384x25632, .f32⟩
  | .hbm, ⟨4, _⟩ => ⟨S1x16384x17408, .f32⟩
  | .hbm, ⟨5, _⟩ => ⟨S16384x17408, .f32⟩
  | .hbm, ⟨6, _⟩ => ⟨S16384x17408, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDn.lean ====
abbrev S1x16384x4096 : Shape := ⟨3, ![1, 16384, 4096]⟩
abbrev S1x4096x25632 : Shape := ⟨3, ![1, 4096, 25632]⟩
abbrev S16384x4096 : Shape := ⟨2, ![16384, 4096]⟩
abbrev S4096x25632 : Shape := ⟨2, ![4096, 25632]⟩
abbrev S25632x4096 : Shape := ⟨2, ![25632, 4096]⟩
abbrev S16384x8192 : Shape := ⟨2, ![16384, 8192]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S25632x4096, .f32⟩
  | .hbm, ⟨5, _⟩ => ⟨S16384x4096, .bf16⟩
  | .hbm, ⟨6, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDnIdeal.lean ====
abbrev S1x16384x4096 : Shape := ⟨3, ![1, 16384, 4096]⟩
abbrev S1x4096x25632 : Shape := ⟨3, ![1, 4096, 25632]⟩
abbrev S4096x25632 : Shape := ⟨2, ![4096, 25632]⟩
abbrev S1x16384x25632 : Shape := ⟨3, ![1, 16384, 25632]⟩
abbrev S1x16384x8192 : Shape := ⟨3, ![1, 16384, 8192]⟩
abbrev S16384x8192 : Shape := ⟨2, ![16384, 8192]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x25632, .f32⟩
  | .hbm, ⟨2, _⟩ => ⟨S4096x25632, .f32⟩
  | .hbm, ⟨3, _⟩ => ⟨S1x16384x25632, .f32⟩
  | .hbm, ⟨4, _⟩ => ⟨S1x16384x8192, .f32⟩
  | .hbm, ⟨5, _⟩ => ⟨S16384x8192, .f32⟩
  | .hbm, ⟨6, _⟩ => ⟨S16384x8192, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMix.lean ====
abbrev S16384x2048 : Shape := ⟨2, ![16384, 2048]⟩
abbrev S16384x1024 : Shape := ⟨2, ![16384, 1024]⟩
abbrev S1x2048x4096 : Shape := ⟨3, ![1, 2048, 4096]⟩
abbrev S1x1024x4096 : Shape := ⟨3, ![1, 1024, 4096]⟩
abbrev S16384x17408 : Shape := ⟨2, ![16384, 17408]⟩
abbrev S2048x4096 : Shape := ⟨2, ![2048, 4096]⟩
abbrev S1024x4096 : Shape := ⟨2, ![1024, 4096]⟩
abbrev S16384x4096 : Shape := ⟨2, ![16384, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x4096, .f32⟩
  | .hbm, ⟨3, _⟩ => ⟨S1x1024x4096, .f32⟩
  | .hbm, ⟨4, _⟩ => ⟨S16384x17408, .bf16⟩
  | .hbm, ⟨5, _⟩ => ⟨S2048x4096, .f32⟩
  | .hbm, ⟨6, _⟩ => ⟨S2048x4096, .bf16⟩
  | .hbm, ⟨7, _⟩ => ⟨S1024x4096, .f32⟩
  | .hbm, ⟨8, _⟩ => ⟨S1024x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMixIdeal.lean ====
abbrev S16384x2048 : Shape := ⟨2, ![16384, 2048]⟩
abbrev S16384x1024 : Shape := ⟨2, ![16384, 1024]⟩
abbrev S1x2048x4096 : Shape := ⟨3, ![1, 2048, 4096]⟩
abbrev S1x1024x4096 : Shape := ⟨3, ![1, 1024, 4096]⟩
abbrev S16384x17408 : Shape := ⟨2, ![16384, 17408]⟩
abbrev S16384x8192 : Shape := ⟨2, ![16384, 8192]⟩
abbrev S16384x4096 : Shape := ⟨2, ![16384, 4096]⟩
abbrev S_ : Shape := ⟨0, ![]⟩
abbrev S2048x4096 : Shape := ⟨2, ![2048, 4096]⟩
abbrev S1024x4096 : Shape := ⟨2, ![1024, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x4096, .f32⟩
  | .hbm, ⟨3, _⟩ => ⟨S1x1024x4096, .f32⟩
  | .hbm, ⟨4, _⟩ => ⟨S16384x17408, .bf16⟩
  | .hbm, ⟨5, _⟩ => ⟨S16384x8192, .bf16⟩
  | .hbm, ⟨6, _⟩ => ⟨S16384x8192, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x2048, .f32⟩
  | .hbm, ⟨18, _⟩ => ⟨S2048x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x1024, .f32⟩
  | .hbm, ⟨30, _⟩ => ⟨S1024x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== KernelWo.lean ====
abbrev S16384x4096 : Shape := ⟨2, ![16384, 4096]⟩
abbrev S1x4096x4096 : Shape := ⟨3, ![1, 4096, 4096]⟩
abbrev S1x16384x4096 : Shape := ⟨3, ![1, 16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S1x16384x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceWoIdeal.lean ====
abbrev S16384x4096 : Shape := ⟨2, ![16384, 4096]⟩
abbrev S1x4096x4096 : Shape := ⟨3, ![1, 4096, 4096]⟩
abbrev S1x16384x4096 : Shape := ⟨3, ![1, 16384, 4096]⟩
abbrev S_ : Shape := ⟨0, ![]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S1x16384x4096, .f32⟩
  | .hbm, ⟨3, _⟩ => ⟨S_, .f32⟩
  | .hbm, ⟨4, _⟩ => ⟨S1x16384x4096, .f32⟩
  | .hbm, ⟨5, _⟩ => ⟨S1x16384x4096, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S1x16384x4096, .f32⟩
  | .hbm, ⟨10, _⟩ => ⟨S1x16384x4096, .f32⟩
  | .hbm, ⟨11, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelG0.lean ====
abbrev S16384x17408 : Shape := ⟨2, ![16384, 17408]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S16384x1024 : Shape := ⟨2, ![16384, 1024]⟩
abbrev S512x512 : Shape := ⟨2, ![512, 512]⟩
abbrev S512x128 : Shape := ⟨2, ![512, 128]⟩
abbrev S4x512x128 : Shape := ⟨3, ![4, 512, 128]⟩
abbrev S4x1x640x128 : Shape := ⟨4, ![4, 1, 640, 128]⟩
abbrev S4x1x128x128 : Shape := ⟨4, ![4, 1, 128, 128]⟩
abbrev S1x512x128 : Shape := ⟨3, ![1, 512, 128]⟩
abbrev S1x1x512x128 : Shape := ⟨4, ![1, 1, 512, 128]⟩
abbrev S128x256 : Shape := ⟨2, ![128, 256]⟩
abbrev S1x128x128 : Shape := ⟨3, ![1, 128, 128]⟩
abbrev S128x128 : Shape := ⟨2, ![128, 128]⟩
abbrev S1x1x256x128 : Shape := ⟨4, ![1, 1, 256, 128]⟩
abbrev S256x128 : Shape := ⟨2, ![256, 128]⟩
abbrev S128 : Shape := ⟨1, ![128]⟩
abbrev S128x1 : Shape := ⟨2, ![128, 1]⟩

abbrev nBuf : Space → Nat
  | .hbm => 22
  | .vmem => 21
  | .smem => 0
  | _ => 0

abbrev bufTy : (tb : Table) → Fin (tcTables nBuf tb) → BufTy
  | .hbm, ⟨0, _⟩ => ⟨S16384x17408, .bf16⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S16384, .f32⟩
  | .hbm, ⟨10, _⟩ => ⟨S16384x1, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x128, .f32⟩
  | .hbm, ⟨18, _⟩ => ⟨S16384x64, .f32⟩
  | .hbm, ⟨19, _⟩ => ⟨S16384x128, .f32⟩
  | .hbm, ⟨20, _⟩ => ⟨S16384x1024, .bf16⟩
  | .hbm, ⟨21, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S4x512x128, .f32⟩
  | .local _ .vmem, ⟨15, _⟩ => ⟨S4x512x128, .f32⟩
  | .local _ .vmem, ⟨16, _⟩ => ⟨S4x1x640x128, .f32⟩
  | .local _ .vmem, ⟨17, _⟩ => ⟨S4x1x640x128, .f32⟩
  | .local _ .vmem, ⟨18, _⟩ => ⟨S4x512x128, .f32⟩
  | .local _ .vmem, ⟨19, _⟩ => ⟨S4x512x128, .f32⟩
  | .local _ .vmem, ⟨20, _⟩ => ⟨S4x512x128, .f32⟩
  | _, _ => ⟨S16384x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelG0Ideal.lean ====
variable {F : FTy → Type} [FloatOps F] [Named F]
def κ : String → Option EReal := fun
  | "mask" => some ⊥
  | _ => none
-- ==== ReferenceG0Ideal.lean ====
abbrev S16384x17408 : Shape := ⟨2, ![16384, 17408]⟩
abbrev S16384 : Shape := ⟨1, ![16384]⟩
abbrev S16384x9216 : Shape := ⟨2, ![16384, 9216]⟩
abbrev S1x16384x9216 : Shape := ⟨3, ![1, 16384, 9216]⟩
abbrev S1x16384x3072 : Shape := ⟨3, ![1, 16384, 3072]⟩
abbrev S1x16384x24x128 : Shape := ⟨4, ![1, 16384, 24, 128]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S1x16384x1x64 : Shape := ⟨4, ![1, 16384, 1, 64]⟩
abbrev S1x16384x24x64 : Shape := ⟨4, ![1, 16384, 24, 64]⟩
abbrev S1x16384x3x8x128 : Shape := ⟨5, ![1, 16384, 3, 8, 128]⟩
abbrev S1x16384x1x8x128 : Shape := ⟨5, ![1, 16384, 1, 8, 128]⟩
abbrev S1x16384x8x128 : Shape := ⟨4, ![1, 16384, 8, 128]⟩
abbrev S1x1x8x16384x128 : Shape := ⟨5, ![1, 1, 8, 16384, 128]⟩
abbrev S1x1x8x128x128x128 : Shape := ⟨6, ![1, 1, 8, 128, 128, 128]⟩
abbrev S1x1x8x129x128x128 : Shape := ⟨6, ![1, 1, 8, 129, 128, 128]⟩
abbrev S1x1x8x128x256x128 : Shape := ⟨6, ![1, 1, 8, 128, 256, 128]⟩
abbrev S1x1x8x128x128x256 : Shape := ⟨6, ![1, 1, 8, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x1x8x128x128 : Shape := ⟨5, ![1, 1, 8, 128, 128]⟩
abbrev S1x1x8x128x128x1 : Shape := ⟨6, ![1, 1, 8, 128, 128, 1]⟩
abbrev S1x1x8x16384 : Shape := ⟨4, ![1, 1, 8, 16384]⟩
abbrev S1x16384x1x8 : Shape := ⟨4, ![1, 16384, 1, 8]⟩
abbrev S1x16384x8 : Shape := ⟨3, ![1, 16384, 8]⟩
abbrev S16384x1024 : Shape := ⟨2, ![16384, 1024]⟩
abbrev S16384x8 : Shape := ⟨2, ![16384, 8]⟩
abbrev S16384x8x128 : Shape := ⟨3, ![16384, 8, 128]⟩

abbrev nBuf : Space → Nat
  | .hbm => 171
  | .vmem => 0
  | .smem => 0
  | _ => 0

abbrev hbmTy0_0 (i : Nat) : BufTy := match i % 128 with
  | 0 => ⟨S16384x17408, .bf16⟩
  | 1 => ⟨S16384, .i32⟩
  | 2 => ⟨S16384x9216, .bf16⟩
  | 3 => ⟨S1x16384x9216, .bf16⟩
  | 4 => ⟨S1x16384x9216, .f32⟩
  | 5 => ⟨S1x16384x3072, .f32⟩
  | 6 => ⟨S1x16384x3072, .f32⟩
  | 7 => ⟨S1x16384x3072, .f32⟩
  | 8 => ⟨S1x16384x24x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S16384, .f32⟩
  | 18 => ⟨S16384x1, .f32⟩
  | 19 => ⟨S1x64, .f32⟩
  | 20 => ⟨S16384x64, .f32⟩
  | 21 => ⟨S16384x64, .f32⟩
  | 22 => ⟨S16384x64, .f32⟩
  | 23 => ⟨S16384x64, .f32⟩
  | 24 => ⟨S1x16384x1x64, .f32⟩
  | 25 => ⟨S16384x64, .f32⟩
  | 26 => ⟨S1x16384x1x64, .f32⟩
  | 27 => ⟨S1x16384x24x64, .f32⟩
  | 28 => ⟨S1x16384x24x64, .f32⟩
  | 29 => ⟨S1x16384x24x64, .f32⟩
  | 30 => ⟨S1x16384x24x64, .f32⟩
  | 31 => ⟨S1x16384x24x64, .f32⟩
  | 32 => ⟨S1x16384x24x64, .f32⟩
  | 33 => ⟨S1x16384x24x64, .f32⟩
  | 34 => ⟨S1x16384x24x64, .f32⟩
  | 35 => ⟨S1x16384x24x64, .f32⟩
  | 36 => ⟨S1x16384x24x64, .f32⟩
  | 37 => ⟨S1x16384x24x64, .f32⟩
  | 38 => ⟨S1x16384x24x64, .f32⟩
  | 39 => ⟨S1x16384x24x128, .f32⟩
  | 40 => ⟨S1x16384x3x8x128, .f32⟩
  | 41 => ⟨S1x16384x24x128, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S16384, .f32⟩
  | 51 => ⟨S16384x1, .f32⟩
  | 52 => ⟨S1x64, .f32⟩
  | 53 => ⟨S16384x64, .f32⟩
  | 54 => ⟨S16384x64, .f32⟩
  | 55 => ⟨S16384x64, .f32⟩
  | 56 => ⟨S16384x64, .f32⟩
  | 57 => ⟨S1x16384x1x64, .f32⟩
  | 58 => ⟨S16384x64, .f32⟩
  | 59 => ⟨S1x16384x1x64, .f32⟩
  | 60 => ⟨S1x16384x24x64, .f32⟩
  | 61 => ⟨S1x16384x24x64, .f32⟩
  | 62 => ⟨S1x16384x24x64, .f32⟩
  | 63 => ⟨S1x16384x24x64, .f32⟩
  | 64 => ⟨S1x16384x24x64, .f32⟩
  | 65 => ⟨S1x16384x24x64, .f32⟩
  | 66 => ⟨S1x16384x24x64, .f32⟩
  | 67 => ⟨S1x16384x24x64, .f32⟩
  | 68 => ⟨S1x16384x24x64, .f32⟩
  | 69 => ⟨S1x16384x24x64, .f32⟩
  | 70 => ⟨S1x16384x24x64, .f32⟩
  | 71 => ⟨S1x16384x24x64, .f32⟩
  | 72 => ⟨S1x16384x24x128, .f32⟩
  | 73 => ⟨S1x16384x3x8x128, .f32⟩
  | 74 => ⟨S1x16384x3x8x128, .f32⟩
  | 75 => ⟨S1x16384x1x8x128, .f32⟩
  | 76 => ⟨S1x16384x8x128, .f32⟩
  | 77 => ⟨S1x16384x1x8x128, .f32⟩
  | 78 => ⟨S1x16384x8x128, .f32⟩
  | 79 => ⟨S1x16384x1x8x128, .f32⟩
  | 80 => ⟨S1x16384x8x128, .f32⟩
  | 81 => ⟨S1x16384x1x8x128, .f32⟩
  | 82 => ⟨S1x1x8x16384x128, .f32⟩
  | 83 => ⟨S1x1x8x128x128x128, .f32⟩
  | 84 => ⟨S1x16384x1x8x128, .f32⟩
  | 85 => ⟨S1x1x8x16384x128, .f32⟩
  | 86 => ⟨S1x1x8x128x128x128, .f32⟩
  | 87 => ⟨S_, .i32⟩
  | 88 => ⟨S_, .f32⟩
  | 89 => ⟨S1x1x8x129x128x128, .f32⟩
  | 90 => ⟨S1x1x8x128x128x128, .f32⟩
  | 91 => ⟨S1x1x8x128x256x128, .f32⟩
  | 92 => ⟨S1x16384x1x8x128, .f32⟩
  | 93 => ⟨S1x1x8x16384x128, .f32⟩
  | 94 => ⟨S1x1x8x128x128x128, .f32⟩
  | 95 => ⟨S_, .i32⟩
  | 96 => ⟨S_, .f32⟩
  | 97 => ⟨S1x1x8x129x128x128, .f32⟩
  | 98 => ⟨S1x1x8x128x128x128, .f32⟩
  | 99 => ⟨S1x1x8x128x256x128, .f32⟩
  | 100 => ⟨S1x1x8x128x128x256, .f32⟩
  | 101 => ⟨S_, .f32⟩
  | 102 => ⟨S1x1x8x128x128x256, .f32⟩
  | 103 => ⟨S1x1x8x128x128x256, .f32⟩
  | 104 => ⟨S128, .i32⟩
  | 105 => ⟨S128x1, .i32⟩
  | 106 => ⟨S_, .i32⟩
  | 107 => ⟨S128x1, .i32⟩
  | 108 => ⟨S128x1, .i32⟩
  | 109 => ⟨S256, .i32⟩
  | 110 => ⟨S1x256, .i32⟩
  | 111 => ⟨S128x256, .i32⟩
  | 112 => ⟨S128x256, .i32⟩
  | 113 => ⟨S128x256, .i32⟩
  | 114 => ⟨S128, .i32⟩
  | 115 => ⟨S128x1x1, .i32⟩
  | 116 => ⟨S_, .i32⟩
  | 117 => ⟨S128x256, .i32⟩
  | 118 => ⟨S128x256, .i1⟩
  | 119 => ⟨S_, .i32⟩
  | 120 => ⟨S128x256, .i32⟩
  | 121 => ⟨S128x256, .i1⟩
  | 122 => ⟨S128x256, .i1⟩
  | 123 => ⟨S_, .i32⟩
  | 124 => ⟨S128x1x1, .i32⟩
  | 125 => ⟨S128x1x1, .i32⟩
  | 126 => ⟨S1x1x256, .i32⟩
  | 127 => ⟨S128x1x256, .i32⟩
  | _ => ⟨S16384x17408, .bf16⟩

abbrev hbmTy0_1 (i : Nat) : BufTy := match i % 128 with
  | 0 => ⟨S128x1x256, .i32⟩
  | 1 => ⟨S128x1x256, .i32⟩
  | 2 => ⟨S_, .i32⟩
  | 3 => ⟨S128x1x256, .i32⟩
  | 4 => ⟨S128x1x256, .i32⟩
  | 5 => ⟨S_, .i32⟩
  | 6 => ⟨S128x1x256, .i32⟩
  | 7 => ⟨S128x1x256, .i1⟩
  | 8 => ⟨S1x128x256, .i1⟩
  | 9 => ⟨S128x128x256, .i1⟩
  | 10 => ⟨S128x128x256, .i1⟩
  | 11 => ⟨S128x128x256, .i1⟩
  | 12 => ⟨S_, .f32⟩
  | 13 => ⟨S_, .f32⟩
  | 14 => ⟨S1x1x8x128x128x256, .i1⟩
  | 15 => ⟨S1x1x8x128x128x256, .f32⟩
  | 16 => ⟨S1x1x8x128x128x256, .f32⟩
  | 17 => ⟨S_, .f32⟩
  | 18 => ⟨S1x1x8x128x128, .f32⟩
  | 19 => ⟨S1x1x8x128x128x1, .f32⟩
  | 20 => ⟨S1x1x8x128x128x256, .f32⟩
  | 21 => ⟨S1x1x8x128x128x256, .f32⟩
  | 22 => ⟨S1x1x8x128x128x256, .f32⟩
  | 23 => ⟨S_, .f32⟩
  | 24 => ⟨S1x1x8x128x128, .f32⟩
  | 25 => ⟨S1x1x8x128x128x1, .f32⟩
  | 26 => ⟨S1x1x8x128x128x128, .f32⟩
  | 27 => ⟨S1x1x8x128x128x128, .f32⟩
  | 28 => ⟨S1x1x8x128x128x128, .f32⟩
  | 29 => ⟨S1x1x8x128x128x1, .f32⟩
  | 30 => ⟨S1x1x8x128x128x1, .f32⟩
  | 31 => ⟨S1x1x8x128x128, .f32⟩
  | 32 => ⟨S1x1x8x16384x128, .f32⟩
  | 33 => ⟨S1x16384x1x8x128, .f32⟩
  | 34 => ⟨S1x16384x8x128, .f32⟩
  | 35 => ⟨S1x1x8x16384, .f32⟩
  | 36 => ⟨S1x16384x1x8, .f32⟩
  | 37 => ⟨S1x16384x8, .f32⟩
  | 38 => ⟨S16384x1024, .f32⟩
  | 39 => ⟨S16384x1024, .bf16⟩
  | 40 => ⟨S16384x8, .f32⟩
  | 41 => ⟨S16384x8x128, .f32⟩
  | 42 => ⟨S16384x1024, .f32⟩
  | _ => ⟨S16384x17408, .bf16⟩

abbrev hbmTy (i : Nat) : BufTy := match i / 128 with
  | 0 => hbmTy0_0 i
  | 1 => hbmTy0_1 i
  | _ => ⟨S16384x17408, .bf16⟩

abbrev bufTy : (tb : Table) → Fin (tcTables nBuf tb) → BufTy
  | .hbm, ⟨i, _⟩ => hbmTy i
  | _, _ => ⟨S16384x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_v42 : Ref sig .tc := ⟨.hbm, 46, rfl⟩
abbrev main_cst_2 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_c : Ref sig .tc := ⟨.hbm, 87, rfl⟩
abbrev main_call0_v0 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_c_3 : Ref sig .tc := ⟨.hbm, 95, rfl⟩
abbrev main_call1_v0 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_4 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_c_5 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_c_6 : Ref sig .tc := ⟨.hbm, 116, rfl⟩
abbrev main_v105 : Ref sig .tc := ⟨.hbm, 117, rfl⟩
abbrev main_v106 : Ref sig .tc := ⟨.hbm, 118, rfl⟩
abbrev main_c_7 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_c_8 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_c_9 : Ref sig .tc := ⟨.hbm, 130, rfl⟩
abbrev main_v116 : Ref sig .tc := ⟨.hbm, 131, rfl⟩
abbrev main_v117 : Ref sig .tc := ⟨.hbm, 132, rfl⟩
abbrev main_c_10 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_cst_11 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_v124 : Ref sig .tc := ⟨.hbm, 144, rfl⟩
abbrev main_cst_12 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_cst_13 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩

abbrev nD : Nat := 1
abbrev τ : Topo := Topo.v7x

variable {F : FTy → Type} [FloatOps F]
-- ==== KernelSh.lean ====
abbrev S16384x2048 : Shape := ⟨2, ![16384, 2048]⟩
abbrev S1x4096x768 : Shape := ⟨3, ![1, 4096, 768]⟩
abbrev S1x384x4096 : Shape := ⟨3, ![1, 384, 4096]⟩
abbrev S4096x768 : Shape := ⟨2, ![4096, 768]⟩
abbrev S384x4096 : Shape := ⟨2, ![384, 4096]⟩
abbrev S16384x4096 : Shape := ⟨2, ![16384, 4096]⟩
abbrev S512x2048 : Shape := ⟨2, ![512, 2048]⟩
abbrev S512x4096 : Shape := ⟨2, ![512, 4096]⟩
abbrev S512x384 : Shape := ⟨2, ![512, 384]⟩
abbrev S2048x768 : Shape := ⟨2, ![2048, 768]⟩
abbrev S512x768 : Shape := ⟨2, ![512, 768]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .i32⟩
  | .hbm, ⟨1, _⟩ => ⟨S1x4096x768, .f32⟩
  | .hbm, ⟨2, _⟩ => ⟨S1x384x4096, .f32⟩
  | .hbm, ⟨3, _⟩ => ⟨S4096x768, .f32⟩
  | .hbm, ⟨4, _⟩ => ⟨S4096x768, .bf16⟩
  | .hbm, ⟨5, _⟩ => ⟨S384x4096, .f32⟩
  | .hbm, ⟨6, _⟩ => ⟨S384x4096, .bf16⟩
  | .hbm, ⟨7, _⟩ => ⟨S16384x4096, .bf16⟩
  | .local _ .vmem, ⟨0, _⟩ => ⟨S512x2048, .i32⟩
  | .local _ .vmem, ⟨1, _⟩ => ⟨S512x2048, .i32⟩
  | .local _ .vmem, ⟨2, _⟩ => ⟨S4096x768, .bf16⟩
  | .local _ .vmem, ⟨3, _⟩ => ⟨S384x4096, .bf16⟩
  | .local _ .vmem, ⟨4, _⟩ => ⟨S512x4096, .bf16⟩
  | .local _ .vmem, ⟨5, _⟩ => ⟨S512x4096, .bf16⟩
  | .local _ .vmem, ⟨6, _⟩ => ⟨S512x384, .bf16⟩
  | _, _ => ⟨S16384x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceShIdeal.lean ====
abbrev S16384x2048 : Shape := ⟨2, ![16384, 2048]⟩
abbrev S1x4096x768 : Shape := ⟨3, ![1, 4096, 768]⟩
abbrev S1x384x4096 : Shape := ⟨3, ![1, 384, 4096]⟩
abbrev S_ : Shape := ⟨0, ![]⟩
abbrev S16384x4096 : Shape := ⟨2, ![16384, 4096]⟩
abbrev S4096x768 : Shape := ⟨2, ![4096, 768]⟩
abbrev S384x4096 : Shape := ⟨2, ![384, 4096]⟩
abbrev S16384x768 : Shape := ⟨2, ![16384, 768]⟩
abbrev S16384x384 : Shape := ⟨2, ![16384, 384]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .i32⟩
  | .hbm, ⟨1, _⟩ => ⟨S1x4096x768, .f32⟩
  | .hbm, ⟨2, _⟩ => ⟨S1x384x4096, .f32⟩
  | .hbm, ⟨3, _⟩ => ⟨S_, .i32⟩
  | .hbm, ⟨4, _⟩ => ⟨S16384x2048, .i32⟩
  | .hbm, ⟨5, _⟩ => ⟨S16384x2048, .i32⟩
  | .hbm, ⟨6, _⟩ => ⟨S16384x2048, .f32⟩
  | .hbm, ⟨7, _⟩ => ⟨S_, .i32⟩
  | .hbm, ⟨8, _⟩ => ⟨S16384x2048, .i32⟩
  | .hbm, ⟨9, _⟩ => ⟨S16384x2048, .i32⟩
  | .hbm, ⟨10, _⟩ => ⟨S16384x2048, .f32⟩
  | .hbm, ⟨11, _⟩ => ⟨S16384x4096, .f32⟩
  | .hbm, ⟨12, _⟩ => ⟨S4096x768, .f32⟩
  | .hbm, ⟨13, _⟩ => ⟨S384x4096, .f32⟩
  | .hbm, ⟨14, _⟩ => ⟨S16384x768, .f32⟩
  | .hbm, ⟨15, _⟩ => ⟨S16384x384, .f32⟩
  | .hbm, ⟨16, _⟩ => ⟨S16384x384, .f32⟩
  | .hbm, ⟨17, _⟩ => ⟨S16384x384, .f32⟩
  | .hbm, ⟨18, _⟩ => ⟨S16384x384, .f32⟩
  | .hbm, ⟨19, _⟩ => ⟨S_, .f32⟩
  | .hbm, ⟨20, _⟩ => ⟨S16384x384, .f32⟩
  | .hbm, ⟨21, _⟩ => ⟨S16384x384, .f32⟩
  | .hbm, ⟨22, _⟩ => ⟨S_, .f32⟩
  | .hbm, ⟨23, _⟩ => ⟨S16384x384, .f32⟩
  | .hbm, ⟨24, _⟩ => ⟨S16384x384, .f32⟩
  | .hbm, ⟨25, _⟩ => ⟨S16384x384, .f32⟩
  | .hbm, ⟨26, _⟩ => ⟨S16384x384, .f32⟩
  | .hbm, ⟨27, _⟩ => ⟨S16384x4096, .f32⟩
  | .hbm, ⟨28, _⟩ => ⟨S16384x4096, .bf16⟩
  | _, _ => ⟨S16384x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== KernelGt.lean ====
abbrev S1x16384x4096 : Shape := ⟨3, ![1, 16384, 4096]⟩
abbrev S1x4096x25632 : Shape := ⟨3, ![1, 4096, 25632]⟩
abbrev S1x16 : Shape := ⟨2, ![1, 16]⟩
abbrev S16384x4096 : Shape := ⟨2, ![16384, 4096]⟩
abbrev S4096x25632 : Shape := ⟨2, ![4096, 25632]⟩
abbrev S25632x4096 : Shape := ⟨2, ![25632, 4096]⟩
abbrev S16 : Shape := ⟨1, ![16]⟩
abbrev S_ : Shape := ⟨0, ![]⟩
abbrev S8x128 : Shape := ⟨2, ![8, 128]⟩
abbrev S1 : Shape := ⟨1, ![1]⟩
abbrev S2 : Shape := ⟨1, ![2]⟩
abbrev S16384x2048 : Shape := ⟨2, ![16384, 2048]⟩
abbrev S16x16384 : Shape := ⟨2, ![16, 16384]⟩
abbrev S512x4096 : Shape := ⟨2, ![512, 4096]⟩
abbrev S128x4096 : Shape := ⟨2, ![128, 4096]⟩
abbrev S512x2048 : Shape := ⟨2, ![512, 2048]⟩
abbrev S16x512 : Shape := ⟨2, ![16, 512]⟩
abbrev S512x128 : Shape := ⟨2, ![512, 128]⟩
abbrev S1x128 : Shape := ⟨2, ![1, 128]⟩
abbrev S512x512 : Shape := ⟨2, ![512, 512]⟩
abbrev S128x512 : Shape := ⟨2, ![128, 512]⟩
abbrev S512x1 : Shape := ⟨2, ![512, 1]⟩

abbrev nBuf : Space → Nat
  | .hbm => 29
  | .vmem => 12
  | .smem => 0
  | _ => 0

abbrev bufTy : (tb : Table) → Fin (tcTables nBuf tb) → BufTy
  | .hbm, ⟨0, _⟩ => ⟨S1x16384x4096, .f32⟩
  | .hbm, ⟨1, _⟩ => ⟨S1x4096x25632, .f32⟩
  | .hbm, ⟨2, _⟩ => ⟨S1x16, .f32⟩
  | .hbm, ⟨3, _⟩ => ⟨S1x16, .f32⟩
  | .hbm, ⟨4, _⟩ => ⟨S16384x4096, .f32⟩
  | .hbm, ⟨5, _⟩ => ⟨S4096x25632, .f32⟩
  | .hbm, ⟨6, _⟩ => ⟨S25632x4096, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S8x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8x128, .f32⟩
  | .hbm, ⟨25, _⟩ => ⟨S16384x2048, .f32⟩
  | .hbm, ⟨26, _⟩ => ⟨S16384x2048, .f32⟩
  | .hbm, ⟨27, _⟩ => ⟨S16x16384, .f32⟩
  | .hbm, ⟨28, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S8x128, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S16x512, .f32⟩
  | .local _ .vmem, ⟨9, _⟩ => ⟨S16x512, .f32⟩
  | .local _ .vmem, ⟨10, _⟩ => ⟨S512x4096, .bf16⟩
  | .local _ .vmem, ⟨11, _⟩ => ⟨S512x4096, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceGtIdeal.lean ====
abbrev S1x16384x4096 : Shape := ⟨3, ![1, 16384, 4096]⟩
abbrev S1x4096x25632 : Shape := ⟨3, ![1, 4096, 25632]⟩
abbrev S1x16 : Shape := ⟨2, ![1, 16]⟩
abbrev S4096x25632 : Shape := ⟨2, ![4096, 25632]⟩
abbrev S1x16384x25632 : Shape := ⟨3, ![1, 16384, 25632]⟩
abbrev S1x16384x16 : Shape := ⟨3, ![1, 16384, 16]⟩
abbrev S_ : Shape := ⟨0, ![]⟩
abbrev S16 : Shape := ⟨1, ![16]⟩
abbrev S1x1x16 : Shape := ⟨3, ![1, 1, 16]⟩
abbrev S1x256x64x16 : Shape := ⟨4, ![1, 256, 64, 16]⟩
abbrev S1x16x256x64 : Shape := ⟨4, ![1, 16, 256, 64]⟩
abbrev S16384x16 : Shape := ⟨2, ![16384, 16]⟩
abbrev S16384x16x128 : Shape := ⟨3, ![16384, 16, 128]⟩
abbrev S16384x2048 : Shape := ⟨2, ![16384, 2048]⟩
abbrev S16x16384 : Shape := ⟨2, ![16, 16384]⟩
abbrev S16384x4096 : Shape := ⟨2, ![16384, 4096]⟩

abbrev nBuf : Space → Nat
  | .hbm => 55
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x25632, .f32⟩
  | .hbm, ⟨2, _⟩ => ⟨S1x16, .f32⟩
  | .hbm, ⟨3, _⟩ => ⟨S1x16, .f32⟩
  | .hbm, ⟨4, _⟩ => ⟨S4096x25632, .f32⟩
  | .hbm, ⟨5, _⟩ => ⟨S1x16384x25632, .f32⟩
  | .hbm, ⟨6, _⟩ => ⟨S1x16384x16, .f32⟩
  | .hbm, ⟨7, _⟩ => ⟨S1x16384x16, .f32⟩
  | .hbm, ⟨8, _⟩ => ⟨S1x16384x16, .f32⟩
  | .hbm, ⟨9, _⟩ => ⟨S1x16384x16, .f32⟩
  | .hbm, ⟨10, _⟩ => ⟨S_, .f32⟩
  | .hbm, ⟨11, _⟩ => ⟨S1x16384x16, .f32⟩
  | .hbm, ⟨12, _⟩ => ⟨S1x16384x16, .f32⟩
  | .hbm, ⟨13, _⟩ => ⟨S_, .f32⟩
  | .hbm, ⟨14, _⟩ => ⟨S1x16384x16, .f32⟩
  | .hbm, ⟨15, _⟩ => ⟨S1x16384x16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S1x1x16, .f32⟩
  | .hbm, ⟨21, _⟩ => ⟨S1x16384x16, .f32⟩
  | .hbm, ⟨22, _⟩ => ⟨S1x16384x16, .f32⟩
  | .hbm, ⟨23, _⟩ => ⟨S_, .f32⟩
  | .hbm, ⟨24, _⟩ => ⟨S1x16384x16, .f32⟩
  | .hbm, ⟨25, _⟩ => ⟨S1x16384x16, .f32⟩
  | .hbm, ⟨26, _⟩ => ⟨S1x16384x16, .f32⟩
  | .hbm, ⟨27, _⟩ => ⟨S1x16384x16, .f32⟩
  | .hbm, ⟨28, _⟩ => ⟨S1x16384x16, .i1⟩
  | .hbm, ⟨29, _⟩ => ⟨S1x16384x16, .f32⟩
  | .hbm, ⟨30, _⟩ => ⟨S1x16384x16, .f32⟩
  | .hbm, ⟨31, _⟩ => ⟨S1x16384x16, .f32⟩
  | .hbm, ⟨32, _⟩ => ⟨S1x16384x16, .f32⟩
  | .hbm, ⟨33, _⟩ => ⟨S1x16384x16, .f32⟩
  | .hbm, ⟨34, _⟩ => ⟨S1x16384x16, .f32⟩
  | .hbm, ⟨35, _⟩ => ⟨S1x16384x16, .f32⟩
  | .hbm, ⟨36, _⟩ => ⟨S1x16384x16, .f32⟩
  | .hbm, ⟨37, _⟩ => ⟨S1x1x16, .f32⟩
  | .hbm, ⟨38, _⟩ => ⟨S1x16384x16, .f32⟩
  | .hbm, ⟨39, _⟩ => ⟨S1x16384x16, .f32⟩
  | .hbm, ⟨40, _⟩ => ⟨S1x256x64x16, .f32⟩
  | .hbm, ⟨41, _⟩ => ⟨S1x16x256x64, .f32⟩
  | .hbm, ⟨42, _⟩ => ⟨S_, .f32⟩
  | .hbm, ⟨43, _⟩ => ⟨S_, .f32⟩
  | .hbm, ⟨44, _⟩ => ⟨S1x16x256x64, .f32⟩
  | .hbm, ⟨45, _⟩ => ⟨S1x256x64x16, .f32⟩
  | .hbm, ⟨46, _⟩ => ⟨S16384x16, .f32⟩
  | .hbm, ⟨47, _⟩ => ⟨S16384x16, .f32⟩
  | .hbm, ⟨48, _⟩ => ⟨S16384x16x128, .f32⟩
  | .hbm, ⟨49, _⟩ => ⟨S16384x2048, .f32⟩
  | .hbm, ⟨50, _⟩ => ⟨S16384x16x128, .f32⟩
  | .hbm, ⟨51, _⟩ => ⟨S16384x2048, .f32⟩
  | .hbm, ⟨52, _⟩ => ⟨S16x16384, .f32⟩
  | .hbm, ⟨53, _⟩ => ⟨S16384x4096, .f32⟩
  | .hbm, ⟨54, _⟩ => ⟨S16384x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_call0_cst : Ref sig .tc := ⟨.hbm, 42, rfl⟩
abbrev main_call1_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== KernelSl.lean ====
abbrev S16384x128 : Shape := ⟨2, ![16384, 128]⟩
abbrev S128 : Shape := ⟨1, ![128]⟩
abbrev S1x128 : Shape := ⟨2, ![1, 128]⟩
abbrev S1024x128 : Shape := ⟨2, ![1024, 128]⟩
abbrev S1024x1 : Shape := ⟨2, ![1024, 1]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x128, .i32⟩
  | .hbm, ⟨1, _⟩ => ⟨S16384x128, .i32⟩
  | .hbm, ⟨2, _⟩ => ⟨S128, .i32⟩
  | .hbm, ⟨3, _⟩ => ⟨S128, .f32⟩
  | .hbm, ⟨4, _⟩ => ⟨S1x128, .f32⟩
  | .hbm, ⟨5, _⟩ => ⟨S16384x128, .i32⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1x128, .f32⟩
  | .local _ .vmem, ⟨5, _⟩ => ⟨S1024x128, .i32⟩
  | .local _ .vmem, ⟨6, _⟩ => ⟨S1024x128, .i32⟩
  | _, _ => ⟨S16384x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceSlIdeal.lean ====
abbrev S16384x128 : Shape := ⟨2, ![16384, 128]⟩
abbrev S128 : Shape := ⟨1, ![128]⟩
abbrev S16384x8 : Shape := ⟨2, ![16384, 8]⟩
abbrev S_ : Shape := ⟨0, ![]⟩
abbrev S16384x8x1 : Shape := ⟨3, ![16384, 8, 1]⟩
abbrev S16384x120 : Shape := ⟨2, ![16384, 120]⟩

abbrev nBuf : Space → Nat
  | .hbm => 17
  | .vmem => 0
  | .smem => 0
  | _ => 0

abbrev bufTy : (tb : Table) → Fin (tcTables nBuf tb) → BufTy
  | .hbm, ⟨0, _⟩ => ⟨S16384x128, .i32⟩
  | .hbm, ⟨1, _⟩ => ⟨S16384x128, .i32⟩
  | .hbm, ⟨2, _⟩ => ⟨S128, .i32⟩
  | .hbm, ⟨3, _⟩ => ⟨S16384x8, .i32⟩
  | .hbm, ⟨4, _⟩ => ⟨S_, .i32⟩
  | .hbm, ⟨5, _⟩ => ⟨S16384x8, .i32⟩
  | .hbm, ⟨6, _⟩ => ⟨S16384x8, .i1⟩
  | .hbm, ⟨7, _⟩ => ⟨S_, .i32⟩
  | .hbm, ⟨8, _⟩ => ⟨S16384x8, .i32⟩
  | .hbm, ⟨9, _⟩ => ⟨S16384x8, .i32⟩
  | .hbm, ⟨10, _⟩ => ⟨S16384x8, .i32⟩
  | .hbm, ⟨11, _⟩ => ⟨S16384x8x1, .i32⟩
  | .hbm, ⟨12, _⟩ => ⟨S16384x8, .i32⟩
  | .hbm, ⟨13, _⟩ => ⟨S16384x8, .i32⟩
  | .hbm, ⟨14, _⟩ => ⟨S16384x8, .i32⟩
  | .hbm, ⟨15, _⟩ => ⟨S16384x120, .i32⟩
  | .hbm, ⟨16, _⟩ => ⟨S16384x128, .i32⟩
  | _, _ => ⟨S16384x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.ProjAtt.lean ====
/- The call `proj_att`: what its result array holds after the run, at the ideal instance. Block (i, j) of the grid multiplies
   rows 1024·i … of the activations with the transposed weight's rows 8224 + 512·j … (an element-indexed window: 8224 is no
   multiple of the block's 512 rows), so the array is one product with the weight's columns from 8224 on. -/
module

public import proofs.«01_k».proof.Defs
public import proofs.«01_k».proof.Proof.Gen.KernelIdeal.Value
public import proofs.«01_k».proof.Proof.Gen.ReferenceIdeal.Read
public import Idealize.ShloMosaic.Lib.MatmulPlain
public import Idealize.ShloMosaic.Lib.ValueIdx
public import Idealize.ShloMosaic.Lib.StableHlo.Run

@[expose] public section

noncomputable section

namespace Cert.Proof.ProjAtt

open Idealize.ShloMosaic Idealize.SL.Sem Idealize.ShloMosaic.TcCoe Idealize.ShloMosaic.ValueIdx
open Cert.KernelIdeal Cert.KernelIdeal.Gen
open Idealize.ShloMosaic.Pipeline (Dat)

theorem idx_ext₃ {a b c : Nat} {i j : Shape.Idx ⟨3, ![a, b, c]⟩} (h0 : (i 0).val = (j 0).val) (h1 : (i 1).val = (j 1).val)
    (h2 : (i 2).val = (j 2).val) : i = j :=
  funext fun x => Fin.ext (match x with | ⟨0, _⟩ => h0 | ⟨1, _⟩ => h1 | ⟨2, _⟩ => h2)

/-- The product that the array is to hold: row `i 0` of `x` with row `8224 + i 1` of the transposed weight. -/
def prodAt (X : S16384x4096.Idx → EReal) (W : S25632x4096.Idx → EReal) (i : S16384x17408.Idx) : EReal :=
  ∑ k : Fin 4096, X (ix2 (i 0) k) * W (ix2 ⟨8224 + (i 1).val, by have h : (i 1).val < 17408 := (i 1).isLt; omega⟩ k)

/-- One block's product, at row `p` and column `q` of the block. -/
theorem pay_apply (x : Vec Ideal S1024x4096 .bf16) (w : Vec Ideal S512x4096 .f32) (p : Fin 1024) (q : Fin 512) :
    k0_pay1 (F := Ideal) x w (ix2 p q) = ∑ k : Fin 4096, (x (ix2 p k) : EReal) * (w (ix2 q k) : EReal) := by
  unfold k0_pay1
  rw [shapeCast_self, shapeCast_self]
  refine (truncf_apply _ bitsLt_bf16_f32 _).trans ?_
  refine (Ideal.matmul_transposedRhs_apply (M := 1024) (K := 4096) (N := 512) none x (truncf (F := Ideal) .bf16 w bitsLt_bf16_f32)
    (constant S1024x512 .f32 0x00000000#32) p q).trans ?_
  have h0 : (constant (F := Ideal) S1024x512 .f32 0x00000000#32 (ix2 p q) : EReal) = 0 := by
    show Ideal.ofBits .f32 0x00000000#32 = 0
    simp [Ideal.ofBits, Ideal.ieee]
  rw [h0, zero_add]
  rfl

/-- The three windows' index maps over the grid, in closed form. -/
theorem idx_facts : ∀ t : Fin cfg0.N, win0_0.index t 0 = t.val / 34 ∧ win0_0.index t 1 = 0
    ∧ win0_1.index t 0 = 8224 + 512 * (t.val % 34) ∧ win0_1.index t 1 = 0
    ∧ win0_2.index t 0 = t.val / 34 ∧ win0_2.index t 1 = t.val % 34 :=
  (by decide +kernel : ∀ t : Fin grid0.N, _)

variable (m : (ℓ : Loc nD τ sig) → Buf (Elt Ideal) ℓ)

/-- The two operand arrays as the call finds them. -/
abbrev xArr (c : Dev nD) : S16384x4096.Idx → EReal := V m c main_v3
abbrev wArr (c : Dev nD) : S25632x4096.Idx → EReal := V m c main_v2

/-- The array after the run as one function. -/
abbrev G (c : Dev nD) : Buf (Elt Ideal) ((c : Thread nD τ).loc main_v4) := prodAt (xArr m c) (wArr m c)

theorem hz : (![0, 0] : Fin 2 → Nat) = fun _ => 0 := funext fun a => by fin_cases a <;> rfl

theorem iblk0_apply (c : Dev nD) (t : Fin cfg0.N) (r : Fin 1024) (k : Fin 4096)
    (h : 1024 * (t.val / 34) + r.val < 16384) :
    (iblk m c 0 t (ix2 r k) : EReal) = xArr m c (ix2 ⟨1024 * (t.val / 34) + r.val, h⟩ k) := by
  show xArr m c ((win0_0.rect t).emb (ix2 r k)) = _
  refine congrArg (xArr m c) (Shape.idx_ext₂ ?_ ?_)
  · rw [Pipeline.Window.rect_emb_val win0_0 t _ 0 rfl, (idx_facts t).1]
    show t.val / 34 * 1024 + r.val = 1024 * (t.val / 34) + r.val
    omega
  · rw [Pipeline.Window.rect_emb_val win0_0 t _ 1 rfl, (idx_facts t).2.1]
    show 0 * 4096 + k.val = k.val
    omega

theorem iblk1_apply (c : Dev nD) (t : Fin cfg0.N) (r : Fin 512) (k : Fin 4096)
    (h : 8224 + 512 * (t.val % 34) + r.val < 25632) :
    (iblk m c 1 t (ix2 r k) : EReal) = wArr m c (ix2 ⟨8224 + 512 * (t.val % 34) + r.val, h⟩ k) := by
  show wArr m c ((win0_1.rect t).emb (ix2 r k)) = _
  refine congrArg (wArr m c) (Shape.idx_ext₂ ?_ ?_)
  · rw [Pipeline.Window.rect_emb_val_off win0_1 t _ 0, (idx_facts t).2.2.1]
    rfl
  · rw [Pipeline.Window.rect_emb_val_off win0_1 t _ 1, (idx_facts t).2.2.2.1]
    show 0 + k.val = k.val
    omega

/-- What a grid point writes back is its block of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  funext j
  obtain ⟨p, q, rfl⟩ : ∃ (p : Fin 1024) (q : Fin 512), j = ix2 p q := ⟨j 0, j 1, eq_ix2 j⟩
  have hj0 : p.val < 1024 := p.isLt
  have hj1 : q.val < 512 := q.isLt
  have ht : t.val < 544 := t.isLt
  refine (pay_apply (iblk m c 0 t) (iblk m c 1 t) p q).trans ?_
  show _ = prodAt (xArr m c) (wArr m c) ((win0_2.rect t).emb (ix2 p q))
  refine Finset.sum_congr rfl fun k _ => ?_
  have e0 : (((win0_2.rect t).emb (ix2 p q)) 0).val = 1024 * (t.val / 34) + p.val := by
    rw [Pipeline.Window.rect_emb_val win0_2 t _ 0 rfl, (idx_facts t).2.2.2.2.1]
    show t.val / 34 * 1024 + p.val = _
    omega
  have e1 : (((win0_2.rect t).emb (ix2 p q)) 1).val = 512 * (t.val % 34) + q.val := by
    rw [Pipeline.Window.rect_emb_val win0_2 t _ 1 rfl, (idx_facts t).2.2.2.2.2]
    show t.val % 34 * 512 + q.val = _
    omega
  rw [iblk0_apply m c t p k (by omega), iblk1_apply m c t q k (by omega)]
  refine congrArg₂ (· * ·) (congrArg (xArr m c) (Shape.idx_ext₂ ?_ rfl)) (congrArg (wArr m c) (Shape.idx_ext₂ ?_ rfl))
  · exact e0.symm
  · show 8224 + 512 * (t.val % 34) + q.val = 8224 + (((win0_2.rect t).emb (ix2 p q)) 1).val
    rw [e1]; omega

/-- Membership in a block of the result, as bounds on the two coordinates. -/
theorem mem_blk (t : Fin cfg0.N) (i : S16384x17408.Idx) :
    i ∈ ((cfg0.win 2).blk t).view.set ↔ ∀ a : Fin 2, win0_2.index t a * win0_2.size a ≤ (i a).val
      ∧ (i a).val < win0_2.index t a * win0_2.size a + win0_2.size a := by
  show i ∈ ((View.whole main_v4).slice (win0_2.rect t)).set ↔ _
  rw [View.set_slice_whole, Rect.mem_set_unit]
  exact Iff.rfl

/-- The blocks cover the result array. -/
theorem cover (i : S16384x17408.Idx) :
    ∃ t : Fin cfg0.N, (cfg0.win 2).flush t = true ∧ i ∈ ((cfg0.win 2).blk t).view.set := by
  have h0 : (i 0).val < 16384 := (i 0).isLt
  have h1 : (i 1).val < 17408 := (i 1).isLt
  have hN : cfg0.N = 544 := N_0
  refine ⟨⟨34 * ((i 0).val / 1024) + (i 1).val / 512, by omega⟩, flush0_2 _, ?_⟩
  rw [mem_blk]
  intro a
  have hf := idx_facts ⟨34 * ((i 0).val / 1024) + (i 1).val / 512, by omega⟩
  match a with
  | ⟨0, _⟩ =>
    show win0_2.index _ 0 * 1024 ≤ (i 0).val ∧ (i 0).val < win0_2.index _ 0 * 1024 + 1024
    rw [hf.2.2.2.2.1]; dsimp only; omega
  | ⟨1, _⟩ =>
    show win0_2.index _ 1 * 512 ≤ (i 1).val ∧ (i 1).val < win0_2.index _ 1 * 512 + 512
    rw [hf.2.2.2.2.2]; dsimp only; omega

/-- The result array after the run. -/
theorem final_out (c : Dev nD) : (dats m 0 c).arrAt 2 cfg0.N = G m c :=
  (dats m 0 c).arrAt_eq_of_cover 2 (G m c) (fun t _ => flushed_eq m c t) cover

/-- The activations that the call reads are the argument's, without its leading unit axis. -/
theorem xArr_apply (c : Dev nD) (r : Fin 16384) (k : Fin 4096) :
    xArr m c (ix2 r k) = m ((c : Thread nD τ).loc main_arg0) (ix3 (0 : Fin 1) r k) := by
  have e : (V m c main_v3 : S16384x4096.Idx → EReal) = truncf (F := Ideal) .bf16 (shapeCast S16384x4096 (m ((c : Thread nD τ).loc main_arg0)) shapeCasts_S1x16384x4096_S16384x4096) bitsLt_bf16_f32 := by
    unfold V hostOps0
    after_results <;> rfl
  rw [xArr, e]
  refine (truncf_apply _ bitsLt_bf16_f32 _).trans (shapeCast_apply _ _ (ix2 r k) (ix3 (0 : Fin 1) r k) ?_)
  rw [Shape.rowMajor_val_three, Shape.rowMajor_val_two]
  show (0 * 16384 + r.val) * 4096 + k.val = r.val * 4096 + k.val
  omega

/-- The weight that the call reads is the argument's, transposed. -/
theorem wArr_apply (c : Dev nD) (r : Fin 25632) (k : Fin 4096) :
    wArr m c (ix2 r k) = m ((c : Thread nD τ).loc main_arg1) (ix3 (0 : Fin 1) k r) := by
  have e : V m c main_v2 = transpose S25632x4096 [1, 0] (shapeCast S4096x25632 (m ((c : Thread nD τ).loc main_arg1)) shapeCasts_S1x4096x25632_S4096x25632) transposes_S4096x25632_S25632x4096_1_0 := by
    unfold V hostOps0
    after_results <;> rfl
  rw [wArr, e]
  refine (transpose_apply [1, 0] _ _ (ix2 r k) (ix2 k r) ?_).trans (shapeCast_apply _ _ (ix2 k r) (ix3 (0 : Fin 1) k r) ?_)
  · intro b
    fin_cases b <;> rfl
  · rw [Shape.rowMajor_val_three, Shape.rowMajor_val_two]
    show (0 * 4096 + k.val) * 25632 + r.val = k.val * 25632 + r.val
    omega

/-- The array is the reference's result: the columns of the whole product from 8224 on. -/
theorem G_eq (c : Dev nD) :
    G m c = Cert.ReferenceIdeal.Read.val_main_v4 (F := Ideal) (m ((c : Thread nD τ).loc main_arg0)) (m ((c : Thread nD τ).loc main_arg1)) := by
  funext i
  obtain ⟨r, q, rfl⟩ : ∃ (r : Fin 16384) (q : Fin 17408), i = ix2 r q := ⟨i 0, i 1, eq_ix2 i⟩
  show _ = Cert.ReferenceIdeal.Read.val_main_v3 (F := Ideal) _ _ (ix2 r q)
  rw [Cert.ReferenceIdeal.Read.val_main_v3_apply,
    Cert.ReferenceIdeal.Read.val_main_v2_apply, Cert.ReferenceIdeal.Read.val_main_v1_apply]
  refine Finset.sum_congr rfl fun k _ => ?_
  rw [Cert.ReferenceIdeal.Read.val_main_v0_apply]
  have hr := r.isLt
  have hq := q.isLt
  have hk := k.isLt
  refine congrArg₂ (· * ·) ((xArr_apply m c r k).trans (congrArg _ (idx_ext₃ ?_ ?_ ?_)))
    ((wArr_apply m c _ k).trans (congrArg _ (idx_ext₃ ?_ ?_ ?_)))
  · rfl
  · show r.val = (r.val * 17408 + q.val) / 17408 % 16384
    omega
  · rfl
  · rfl
  · show k.val = (k.val * 25632 + (8224 + (r.val * 17408 + q.val) % 17408)) / 25632 % 4096
    omega
  · show 8224 + q.val = (k.val * 25632 + (8224 + (r.val * 17408 + q.val) % 17408)) % 25632
    omega

/-- The value claim: kernel and reference leave the same array, and keep their arguments. -/
theorem algebraic : Cert.algebraic_KernelIdeal_ReferenceIdeal
    (hKernelIdeal := Cert.KernelIdeal.Gen.facts) (hReferenceIdeal := Cert.ReferenceIdeal.Gen.facts) := by
  intro m g m' g' _ hm
  refine ⟨fun c => G m c, ?_, ?_⟩
  · refine (θ_run Cert.KernelIdeal.defs _ _).mono (fun r h c => ?_) (Value.run_blocks m g)
    exact ⟨(h c).1.trans (final_out m c), (h c).2⟩
  · refine (θ_run Cert.ReferenceIdeal.defs _ _).mono (fun r h c => ?_) (Cert.ReferenceIdeal.Value.run m' g')
    refine ⟨((h c).1.trans (Cert.ReferenceIdeal.Read.val_main_v4_eq _ _)).trans ?_, (h c).2⟩
    rw [(hm c).1, (hm c).2]
    exact (G_eq m c).symm

/-- The reference's frame: its run keeps the arguments, and it declares no semaphore. -/
theorem frame_ref : Cert.quiescent_ReferenceIdeal (hReferenceIdeal := Cert.ReferenceIdeal.Gen.facts) := by
  intro m g _
  refine (θ_run Cert.ReferenceIdeal.defs _ _).mono (fun r h => ⟨fun c => (h c).2,
    Idealize.ShloMosaic.sem_eq_zero_of_no_sems (by decide) r.2⟩) (Cert.ReferenceIdeal.Value.run m g)

end Cert.Proof.ProjAtt

end
-- ==== Proof.ProjDn.lean ====
/- The call `proj_dn`: what its result array holds after the run, at the ideal instance. Block (i, j) of the grid multiplies
   rows 1024·i … of the activations with the transposed weight's rows 512·j … (the same element-indexed window as `proj_att`'s,
   beginning at row 0), so the array is one product with the weight's first 8192 columns. -/
module

public import proofs.«01_k».proof.Defs
public import proofs.«01_k».proof.Proof.Gen.KernelDnIdeal.Value
public import proofs.«01_k».proof.Proof.Gen.ReferenceDnIdeal.Read
public import Idealize.ShloMosaic.Lib.MatmulPlain
public import Idealize.ShloMosaic.Lib.ValueIdx
public import Idealize.ShloMosaic.Lib.StableHlo.Run

@[expose] public section

noncomputable section

namespace Cert.Proof.ProjDn

open Idealize.ShloMosaic Idealize.SL.Sem Idealize.ShloMosaic.TcCoe Idealize.ShloMosaic.ValueIdx
open Cert.KernelDnIdeal Cert.KernelDnIdeal.Gen
open Idealize.ShloMosaic.Pipeline (Dat)

theorem idx_ext₃ {a b c : Nat} {i j : Shape.Idx ⟨3, ![a, b, c]⟩} (h0 : (i 0).val = (j 0).val) (h1 : (i 1).val = (j 1).val)
    (h2 : (i 2).val = (j 2).val) : i = j :=
  funext fun x => Fin.ext (match x with | ⟨0, _⟩ => h0 | ⟨1, _⟩ => h1 | ⟨2, _⟩ => h2)

/-- The product that the array is to hold: row `i 0` of `x` with row `i 1` of the transposed weight. -/
def prodAt (X : S16384x4096.Idx → EReal) (W : S25632x4096.Idx → EReal) (i : S16384x8192.Idx) : EReal :=
  ∑ k : Fin 4096, X (ix2 (i 0) k) * W (ix2 ⟨(i 1).val, by have h : (i 1).val < 8192 := (i 1).isLt; omega⟩ k)

/-- One block's product, at row `p` and column `q` of the block. -/
theorem pay_apply (x : Vec Ideal S1024x4096 .bf16) (w : Vec Ideal S512x4096 .f32) (p : Fin 1024) (q : Fin 512) :
    k0_pay1 (F := Ideal) x w (ix2 p q) = ∑ k : Fin 4096, (x (ix2 p k) : EReal) * (w (ix2 q k) : EReal) := by
  unfold k0_pay1
  rw [shapeCast_self, shapeCast_self]
  refine (truncf_apply _ bitsLt_bf16_f32 _).trans ?_
  refine (Ideal.matmul_transposedRhs_apply (M := 1024) (K := 4096) (N := 512) none x (truncf (F := Ideal) .bf16 w bitsLt_bf16_f32)
    (constant S1024x512 .f32 0x00000000#32) p q).trans ?_
  have h0 : (constant (F := Ideal) S1024x512 .f32 0x00000000#32 (ix2 p q) : EReal) = 0 := by
    show Ideal.ofBits .f32 0x00000000#32 = 0
    simp [Ideal.ofBits, Ideal.ieee]
  rw [h0, zero_add]
  rfl

/-- The three windows' index maps over the grid, in closed form. -/
theorem idx_facts : ∀ t : Fin cfg0.N, win0_0.index t 0 = t.val / 16 ∧ win0_0.index t 1 = 0
    ∧ win0_1.index t 0 = 512 * (t.val % 16) ∧ win0_1.index t 1 = 0
    ∧ win0_2.index t 0 = t.val / 16 ∧ win0_2.index t 1 = t.val % 16 :=
  (by decide +kernel : ∀ t : Fin grid0.N, _)

variable (m : (ℓ : Loc nD τ sig) → Buf (Elt Ideal) ℓ)

/-- The two operand arrays as the call finds them. -/
abbrev xArr (c : Dev nD) : S16384x4096.Idx → EReal := V m c main_v3
abbrev wArr (c : Dev nD) : S25632x4096.Idx → EReal := V m c main_v2

/-- The array after the run as one function. -/
abbrev G (c : Dev nD) : Buf (Elt Ideal) ((c : Thread nD τ).loc main_v4) := prodAt (xArr m c) (wArr m c)

theorem hz : (![0, 0] : Fin 2 → Nat) = fun _ => 0 := funext fun a => by fin_cases a <;> rfl

theorem iblk0_apply (c : Dev nD) (t : Fin cfg0.N) (r : Fin 1024) (k : Fin 4096)
    (h : 1024 * (t.val / 16) + r.val < 16384) :
    (iblk m c 0 t (ix2 r k) : EReal) = xArr m c (ix2 ⟨1024 * (t.val / 16) + r.val, h⟩ k) := by
  show xArr m c ((win0_0.rect t).emb (ix2 r k)) = _
  refine congrArg (xArr m c) (Shape.idx_ext₂ ?_ ?_)
  · rw [Pipeline.Window.rect_emb_val win0_0 t _ 0 rfl, (idx_facts t).1]
    show t.val / 16 * 1024 + r.val = 1024 * (t.val / 16) + r.val
    omega
  · rw [Pipeline.Window.rect_emb_val win0_0 t _ 1 rfl, (idx_facts t).2.1]
    show 0 * 4096 + k.val = k.val
    omega

theorem iblk1_apply (c : Dev nD) (t : Fin cfg0.N) (r : Fin 512) (k : Fin 4096)
    (h : 512 * (t.val % 16) + r.val < 25632) :
    (iblk m c 1 t (ix2 r k) : EReal) = wArr m c (ix2 ⟨512 * (t.val % 16) + r.val, h⟩ k) := by
  show wArr m c ((win0_1.rect t).emb (ix2 r k)) = _
  refine congrArg (wArr m c) (Shape.idx_ext₂ ?_ ?_)
  · rw [Pipeline.Window.rect_emb_val_off win0_1 t _ 0, (idx_facts t).2.2.1]
    rfl
  · rw [Pipeline.Window.rect_emb_val_off win0_1 t _ 1, (idx_facts t).2.2.2.1]
    show 0 + k.val = k.val
    omega

/-- What a grid point writes back is its block of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  funext j
  obtain ⟨p, q, rfl⟩ : ∃ (p : Fin 1024) (q : Fin 512), j = ix2 p q := ⟨j 0, j 1, eq_ix2 j⟩
  have hj0 : p.val < 1024 := p.isLt
  have hj1 : q.val < 512 := q.isLt
  have ht : t.val < 256 := t.isLt
  refine (pay_apply (iblk m c 0 t) (iblk m c 1 t) p q).trans ?_
  show _ = prodAt (xArr m c) (wArr m c) ((win0_2.rect t).emb (ix2 p q))
  refine Finset.sum_congr rfl fun k _ => ?_
  have e0 : (((win0_2.rect t).emb (ix2 p q)) 0).val = 1024 * (t.val / 16) + p.val := by
    rw [Pipeline.Window.rect_emb_val win0_2 t _ 0 rfl, (idx_facts t).2.2.2.2.1]
    show t.val / 16 * 1024 + p.val = _
    omega
  have e1 : (((win0_2.rect t).emb (ix2 p q)) 1).val = 512 * (t.val % 16) + q.val := by
    rw [Pipeline.Window.rect_emb_val win0_2 t _ 1 rfl, (idx_facts t).2.2.2.2.2]
    show t.val % 16 * 512 + q.val = _
    omega
  rw [iblk0_apply m c t p k (by omega), iblk1_apply m c t q k (by omega)]
  refine congrArg₂ (· * ·) (congrArg (xArr m c) (Shape.idx_ext₂ ?_ rfl)) (congrArg (wArr m c) (Shape.idx_ext₂ ?_ rfl))
  · exact e0.symm
  · show 512 * (t.val % 16) + q.val = (((win0_2.rect t).emb (ix2 p q)) 1).val
    rw [e1]

/-- Membership in a block of the result, as bounds on the two coordinates. -/
theorem mem_blk (t : Fin cfg0.N) (i : S16384x8192.Idx) :
    i ∈ ((cfg0.win 2).blk t).view.set ↔ ∀ a : Fin 2, win0_2.index t a * win0_2.size a ≤ (i a).val
      ∧ (i a).val < win0_2.index t a * win0_2.size a + win0_2.size a := by
  show i ∈ ((View.whole main_v4).slice (win0_2.rect t)).set ↔ _
  rw [View.set_slice_whole, Rect.mem_set_unit]
  exact Iff.rfl

/-- The blocks cover the result array. -/
theorem cover (i : S16384x8192.Idx) :
    ∃ t : Fin cfg0.N, (cfg0.win 2).flush t = true ∧ i ∈ ((cfg0.win 2).blk t).view.set := by
  have h0 : (i 0).val < 16384 := (i 0).isLt
  have h1 : (i 1).val < 8192 := (i 1).isLt
  have hN : cfg0.N = 256 := N_0
  refine ⟨⟨16 * ((i 0).val / 1024) + (i 1).val / 512, by omega⟩, flush0_2 _, ?_⟩
  rw [mem_blk]
  intro a
  have hf := idx_facts ⟨16 * ((i 0).val / 1024) + (i 1).val / 512, by omega⟩
  match a with
  | ⟨0, _⟩ =>
    show win0_2.index _ 0 * 1024 ≤ (i 0).val ∧ (i 0).val < win0_2.index _ 0 * 1024 + 1024
    rw [hf.2.2.2.2.1]; dsimp only; omega
  | ⟨1, _⟩ =>
    show win0_2.index _ 1 * 512 ≤ (i 1).val ∧ (i 1).val < win0_2.index _ 1 * 512 + 512
    rw [hf.2.2.2.2.2]; dsimp only; omega

/-- The result array after the run. -/
theorem final_out (c : Dev nD) : (dats m 0 c).arrAt 2 cfg0.N = G m c :=
  (dats m 0 c).arrAt_eq_of_cover 2 (G m c) (fun t _ => flushed_eq m c t) cover

/-- The activations that the call reads are the argument's, without its leading unit axis. -/
theorem xArr_apply (c : Dev nD) (r : Fin 16384) (k : Fin 4096) :
    xArr m c (ix2 r k) = m ((c : Thread nD τ).loc main_arg0) (ix3 (0 : Fin 1) r k) := by
  have e : (V m c main_v3 : S16384x4096.Idx → EReal) = truncf (F := Ideal) .bf16 (shapeCast S16384x4096 (m ((c : Thread nD τ).loc main_arg0)) shapeCasts_S1x16384x4096_S16384x4096) bitsLt_bf16_f32 := by
    unfold V hostOps0
    after_results <;> rfl
  rw [xArr, e]
  refine (truncf_apply _ bitsLt_bf16_f32 _).trans (shapeCast_apply _ _ (ix2 r k) (ix3 (0 : Fin 1) r k) ?_)
  rw [Shape.rowMajor_val_three, Shape.rowMajor_val_two]
  show (0 * 16384 + r.val) * 4096 + k.val = r.val * 4096 + k.val
  omega

/-- The weight that the call reads is the argument's, transposed. -/
theorem wArr_apply (c : Dev nD) (r : Fin 25632) (k : Fin 4096) :
    wArr m c (ix2 r k) = m ((c : Thread nD τ).loc main_arg1) (ix3 (0 : Fin 1) k r) := by
  have e : V m c main_v2 = transpose S25632x4096 [1, 0] (shapeCast S4096x25632 (m ((c : Thread nD τ).loc main_arg1)) shapeCasts_S1x4096x25632_S4096x25632) transposes_S4096x25632_S25632x4096_1_0 := by
    unfold V hostOps0
    after_results <;> rfl
  rw [wArr, e]
  refine (transpose_apply [1, 0] _ _ (ix2 r k) (ix2 k r) ?_).trans (shapeCast_apply _ _ (ix2 k r) (ix3 (0 : Fin 1) k r) ?_)
  · intro b
    fin_cases b <;> rfl
  · rw [Shape.rowMajor_val_three, Shape.rowMajor_val_two]
    show (0 * 4096 + k.val) * 25632 + r.val = k.val * 25632 + r.val
    omega

/-- The array is the reference's result: the first 8192 columns of the whole product. -/
theorem G_eq (c : Dev nD) :
    G m c = Cert.ReferenceDnIdeal.Read.val_main_v4 (F := Ideal) (m ((c : Thread nD τ).loc main_arg0)) (m ((c : Thread nD τ).loc main_arg1)) := by
  funext i
  obtain ⟨r, q, rfl⟩ : ∃ (r : Fin 16384) (q : Fin 8192), i = ix2 r q := ⟨i 0, i 1, eq_ix2 i⟩
  show _ = Cert.ReferenceDnIdeal.Read.val_main_v3 (F := Ideal) _ _ (ix2 r q)
  rw [Cert.ReferenceDnIdeal.Read.val_main_v3_apply,
    Cert.ReferenceDnIdeal.Read.val_main_v2_apply, Cert.ReferenceDnIdeal.Read.val_main_v1_apply]
  refine Finset.sum_congr rfl fun k _ => ?_
  rw [Cert.ReferenceDnIdeal.Read.val_main_v0_apply]
  have hr := r.isLt
  have hq := q.isLt
  have hk := k.isLt
  refine congrArg₂ (· * ·) ((xArr_apply m c r k).trans (congrArg _ (idx_ext₃ ?_ ?_ ?_)))
    ((wArr_apply m c _ k).trans (congrArg _ (idx_ext₃ ?_ ?_ ?_)))
  · rfl
  · show r.val = (r.val * 8192 + q.val) / 8192 % 16384
    omega
  · rfl
  · rfl
  · show k.val = (k.val * 25632 + ((r.val * 8192 + q.val) % 8192)) / 25632 % 4096
    omega
  · show q.val = (k.val * 25632 + ((r.val * 8192 + q.val) % 8192)) % 25632
    omega

/-- The value claim: kernel and reference leave the same array, and keep their arguments. -/
theorem algebraic : Cert.algebraic_KernelDnIdeal_ReferenceDnIdeal
    (hKernelDnIdeal := Cert.KernelDnIdeal.Gen.facts) (hReferenceDnIdeal := Cert.ReferenceDnIdeal.Gen.facts) := by
  intro m g m' g' _ hm
  refine ⟨fun c => G m c, ?_, ?_⟩
  · refine (θ_run Cert.KernelDnIdeal.defs _ _).mono (fun r h c => ?_) (Value.run_blocks m g)
    exact ⟨(h c).1.trans (final_out m c), (h c).2⟩
  · refine (θ_run Cert.ReferenceDnIdeal.defs _ _).mono (fun r h c => ?_) (Cert.ReferenceDnIdeal.Value.run m' g')
    refine ⟨((h c).1.trans (Cert.ReferenceDnIdeal.Read.val_main_v4_eq _ _)).trans ?_, (h c).2⟩
    rw [(hm c).1, (hm c).2]
    exact (G_eq m c).symm

/-- The reference's frame: its run keeps the arguments, and it declares no semaphore. -/
theorem frame_ref : Cert.quiescent_ReferenceDnIdeal (hReferenceDnIdeal := Cert.ReferenceDnIdeal.Gen.facts) := by
  intro m g _
  refine (θ_run Cert.ReferenceDnIdeal.defs _ _).mono (fun r h => ⟨fun c => (h c).2,
    Idealize.ShloMosaic.sem_eq_zero_of_no_sems (by decide) r.2⟩) (Cert.ReferenceDnIdeal.Value.run m g)

end Cert.Proof.ProjDn

end
-- ==== Proof.Common.lean ====
/- Small facts at the ideal instance that the value proofs share: the zero literal, an index of a three-axis array from its
   coordinates, a product accumulated onto zero. -/
module

public import Idealize.ShloMosaic.Lib.MatmulPlain
public import Idealize.ShloMosaic.Lib.ValueIdx
public import Idealize.ShloMosaic.Lib.Pipeline.Value

@[expose] public section

noncomputable section

namespace Cert.Proof

open Idealize.ShloMosaic Idealize.ShloMosaic.ValueIdx

theorem ofBits_zero : Ideal.ofBits .f32 0x00000000#32 = 0 := by
  simp [Ideal.ofBits, Ideal.ieee]

theorem idx_ext₃ {a b c : Nat} {i j : Shape.Idx ⟨3, ![a, b, c]⟩} (h0 : (i 0).val = (j 0).val) (h1 : (i 1).val = (j 1).val)
    (h2 : (i 2).val = (j 2).val) : i = j :=
  funext fun x => Fin.ext (match x with | ⟨0, _⟩ => h0 | ⟨1, _⟩ => h1 | ⟨2, _⟩ => h2)

/-- A product accumulated onto the zero constant. -/
theorem matmul_plain_zero {M K N : ℕ} {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, (lhs (ix2 r k) : EReal) * (rhs (ix2 k c) : EReal) := by
  rw [Ideal.matmul_plain_apply]
  show Ideal.ofBits .f32 0x00000000#32 + _ = _
  rw [ofBits_zero, zero_add]

/-- A product with the transposed right operand, accumulated onto the zero constant. -/
theorem matmul_nt_zero {M K N : ℕ} {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant (F := Ideal) ⟨2, ![M, N]⟩ .f32 0x00000000#32) (ix2 r c)
      = ∑ k : Fin K, (lhs (ix2 r k) : EReal) * (rhs (ix2 c k) : EReal) := by
  rw [Ideal.matmul_transposedRhs_apply]
  show Ideal.ofBits .f32 0x00000000#32 + _ = _
  rw [ofBits_zero, zero_add]

end Cert.Proof

end
-- ==== Proof.Mix.lean ====
/- The call `mix`: each branch's output times its own weight, the two products merged by the sigmoids of the gates' columns of
   the projection. Its result array at the ideal instance, block by block, and the reference's. -/
module

public import proofs.«01_k».proof.Defs
public import proofs.«01_k».proof.Proof.Common
public import proofs.«01_k».proof.Proof.Gen.KernelMixIdeal.Value
public import proofs.«01_k».proof.Proof.Gen.ReferenceMixIdeal.Read
public import Idealize.ShloMosaic.Lib.StableHlo.Run

@[expose] public section

noncomputable section

namespace Cert.Proof.Mix

open Idealize.ShloMosaic Idealize.SL.Sem Idealize.ShloMosaic.TcCoe Idealize.ShloMosaic.ValueIdx
open Cert.KernelMixIdeal Cert.KernelMixIdeal.Gen
open Idealize.ShloMosaic.Pipeline (Dat)

/-- The sigmoid, as both programs spell it: the literal one over the literal one plus the exponential of the opposite. -/
def sigm (x : EReal) : EReal :=
  Ideal.div (Ideal.ofBits .f32 0x3F800000#32) (Ideal.ofBits .f32 0x3F800000#32 + Ideal.exp (-x))

/-- The merged branches at row `i 0` and column `i 1`. -/
def mixAt (A : S16384x2048.Idx → EReal) (B : S16384x1024.Idx → EReal) (WA : S2048x4096.Idx → EReal)
    (WB : S1024x4096.Idx → EReal) (P : S16384x17408.Idx → EReal) (r : Fin 16384) (q : Fin 4096) : EReal :=
  sigm (P (ix2 r ⟨9216 + q.val, by omega⟩)) * (∑ k : Fin 2048, A (ix2 r k) * WA (ix2 k q))
    + sigm (P (ix2 r ⟨13312 + q.val, by omega⟩)) * (∑ k : Fin 1024, B (ix2 r k) * WB (ix2 k q))

/-- One block's value, at row `p` and column `q` of the block. -/
theorem pay_apply (a : Vec Ideal S1024x2048 .bf16) (wa : Vec Ideal S2048x1024 .bf16) (b : Vec Ideal S1024x1024 .bf16)
    (wb : Vec Ideal S1024x1024 .bf16) (ga gb : Vec Ideal S1024x1024 .bf16) (p : Fin 1024) (q : Fin 1024) :
    k0_pay1 (F := Ideal) a wa b wb ga gb (ix2 p q)
      = sigm (ga (ix2 p q)) * (∑ k : Fin 2048, (a (ix2 p k) : EReal) * (wa (ix2 k q) : EReal))
        + sigm (gb (ix2 p q)) * (∑ k : Fin 1024, (b (ix2 p k) : EReal) * (wb (ix2 k q) : EReal)) := by
  unfold k0_pay1
  rw [shapeCast_self, shapeCast_self]
  have e1 := matmul_plain_zero (M := 1024) (K := 2048) (N := 1024) (φ₁ := .bf16) (φ₂ := .bf16) a wa p q
  have e2 := matmul_plain_zero (M := 1024) (K := 1024) (N := 1024) (φ₁ := .bf16) (φ₂ := .bf16) b wb p q
  rw [← e1, ← e2]
  have hs (x : EReal) : Ideal.div (Ideal.ofBits .f32 0x3F800000#32)
      (Ideal.ofBits .f32 0x3F800000#32 + Ideal.exp (Ideal.ofBits .f32 0x00000000#32 - x)) = sigm x := by
    rw [ofBits_zero, zero_sub]; rfl
  rw [← hs, ← hs]
  rfl

/-- The windows' index maps over the grid, in closed form. -/
theorem idx_facts : ∀ t : Fin cfg0.N, (win0_0.index t 0 = t.val % 16 ∧ win0_0.index t 1 = 0)
    ∧ (win0_1.index t 0 = t.val % 16 ∧ win0_1.index t 1 = 0)
    ∧ (win0_2.index t 0 = 0 ∧ win0_2.index t 1 = t.val / 16)
    ∧ (win0_3.index t 0 = 0 ∧ win0_3.index t 1 = t.val / 16)
    ∧ (win0_4.index t 0 = t.val % 16 ∧ win0_4.index t 1 = 9 + t.val / 16)
    ∧ (win0_5.index t 0 = t.val % 16 ∧ win0_5.index t 1 = 13 + t.val / 16)
    ∧ (win0_6.index t 0 = t.val % 16 ∧ win0_6.index t 1 = t.val / 16) :=
  (by decide +kernel : ∀ t : Fin grid0.N, _)

variable (m : (ℓ : Loc nD τ sig) → Buf (Elt Ideal) ℓ)

/-- The operand arrays as the call finds them. -/
abbrev aArr (c : Dev nD) : S16384x2048.Idx → EReal := V m c main_arg0
abbrev bArr (c : Dev nD) : S16384x1024.Idx → EReal := V m c main_arg1
abbrev waArr (c : Dev nD) : S2048x4096.Idx → EReal := V m c main_v1
abbrev wbArr (c : Dev nD) : S1024x4096.Idx → EReal := V m c main_v3
abbrev pArr (c : Dev nD) : S16384x17408.Idx → EReal := V m c main_arg4

/-- The array after the run as one function. -/
abbrev G (c : Dev nD) : Buf (Elt Ideal) ((c : Thread nD τ).loc main_v4) :=
  fun i : S16384x4096.Idx => mixAt (aArr m c) (bArr m c) (waArr m c) (wbArr m c) (pArr m c) (i 0) (i 1)

theorem hz : (![0, 0] : Fin 2 → Nat) = fun _ => 0 := funext fun a => by fin_cases a <;> rfl

theorem iblk0_apply (c : Dev nD) (t : Fin cfg0.N) (r : Fin 1024) (k : Fin 2048) (h : 1024 * (t.val % 16) + r.val < 16384) :
    (iblk m c 0 t (ix2 r k) : EReal) = aArr m c (ix2 ⟨1024 * (t.val % 16) + r.val, h⟩ k) := by
  show aArr m c ((win0_0.rect t).emb (ix2 r k)) = _
  refine congrArg (aArr m c) (Shape.idx_ext₂ ?_ ?_)
  · rw [Pipeline.Window.rect_emb_val win0_0 t _ 0 rfl, (idx_facts t).1.1]
    show t.val % 16 * 1024 + r.val = 1024 * (t.val % 16) + r.val
    omega
  · rw [Pipeline.Window.rect_emb_val win0_0 t _ 1 rfl, (idx_facts t).1.2]
    show 0 * 2048 + k.val = k.val
    omega

theorem iblk1_apply (c : Dev nD) (t : Fin cfg0.N) (r : Fin 1024) (k : Fin 1024) (h : 1024 * (t.val % 16) + r.val < 16384) :
    (iblk m c 1 t (ix2 r k) : EReal) = bArr m c (ix2 ⟨1024 * (t.val % 16) + r.val, h⟩ k) := by
  show bArr m c ((win0_1.rect t).emb (ix2 r k)) = _
  refine congrArg (bArr m c) (Shape.idx_ext₂ ?_ ?_)
  · rw [Pipeline.Window.rect_emb_val win0_1 t _ 0 rfl, (idx_facts t).2.1.1]
    show t.val % 16 * 1024 + r.val = 1024 * (t.val % 16) + r.val
    omega
  · rw [Pipeline.Window.rect_emb_val win0_1 t _ 1 rfl, (idx_facts t).2.1.2]
    show 0 * 1024 + k.val = k.val
    omega

theorem iblk2_apply (c : Dev nD) (t : Fin cfg0.N) (k : Fin 2048) (q : Fin 1024) (h : 1024 * (t.val / 16) + q.val < 4096) :
    (iblk m c 2 t (ix2 k q) : EReal) = waArr m c (ix2 k ⟨1024 * (t.val / 16) + q.val, h⟩) := by
  show waArr m c ((win0_2.rect t).emb (ix2 k q)) = _
  refine congrArg (waArr m c) (Shape.idx_ext₂ ?_ ?_)
  · rw [Pipeline.Window.rect_emb_val win0_2 t _ 0 rfl, (idx_facts t).2.2.1.1]
    show 0 * 2048 + k.val = k.val
    omega
  · rw [Pipeline.Window.rect_emb_val win0_2 t _ 1 rfl, (idx_facts t).2.2.1.2]
    show t.val / 16 * 1024 + q.val = 1024 * (t.val / 16) + q.val
    omega

theorem iblk3_apply (c : Dev nD) (t : Fin cfg0.N) (k : Fin 1024) (q : Fin 1024) (h : 1024 * (t.val / 16) + q.val < 4096) :
    (iblk m c 3 t (ix2 k q) : EReal) = wbArr m c (ix2 k ⟨1024 * (t.val / 16) + q.val, h⟩) := by
  show wbArr m c ((win0_3.rect t).emb (ix2 k q)) = _
  refine congrArg (wbArr m c) (Shape.idx_ext₂ ?_ ?_)
  · rw [Pipeline.Window.rect_emb_val win0_3 t _ 0 rfl, (idx_facts t).2.2.2.1.1]
    show 0 * 1024 + k.val = k.val
    omega
  · rw [Pipeline.Window.rect_emb_val win0_3 t _ 1 rfl, (idx_facts t).2.2.2.1.2]
    show t.val / 16 * 1024 + q.val = 1024 * (t.val / 16) + q.val
    omega

theorem iblk4_apply (c : Dev nD) (t : Fin cfg0.N) (r : Fin 1024) (q : Fin 1024) (h : 1024 * (t.val % 16) + r.val < 16384)
    (h' : 9216 + (1024 * (t.val / 16) + q.val) < 17408) :
    (iblk m c 4 t (ix2 r q) : EReal) = pArr m c (ix2 ⟨1024 * (t.val % 16) + r.val, h⟩ ⟨9216 + (1024 * (t.val / 16) + q.val), h'⟩) := by
  show pArr m c ((win0_4.rect t).emb (ix2 r q)) = _
  refine congrArg (pArr m c) (Shape.idx_ext₂ ?_ ?_)
  · rw [Pipeline.Window.rect_emb_val win0_4 t _ 0 rfl, (idx_facts t).2.2.2.2.1.1]
    show t.val % 16 * 1024 + r.val = 1024 * (t.val % 16) + r.val
    omega
  · rw [Pipeline.Window.rect_emb_val win0_4 t _ 1 rfl, (idx_facts t).2.2.2.2.1.2]
    show (9 + t.val / 16) * 1024 + q.val = 9216 + (1024 * (t.val / 16) + q.val)
    omega

theorem iblk5_apply (c : Dev nD) (t : Fin cfg0.N) (r : Fin 1024) (q : Fin 1024) (h : 1024 * (t.val % 16) + r.val < 16384)
    (h' : 13312 + (1024 * (t.val / 16) + q.val) < 17408) :
    (iblk m c 5 t (ix2 r q) : EReal) = pArr m c (ix2 ⟨1024 * (t.val % 16) + r.val, h⟩ ⟨13312 + (1024 * (t.val / 16) + q.val), h'⟩) := by
  show pArr m c ((win0_5.rect t).emb (ix2 r q)) = _
  refine congrArg (pArr m c) (Shape.idx_ext₂ ?_ ?_)
  · rw [Pipeline.Window.rect_emb_val win0_5 t _ 0 rfl, (idx_facts t).2.2.2.2.2.1.1]
    show t.val % 16 * 1024 + r.val = 1024 * (t.val % 16) + r.val
    omega
  · rw [Pipeline.Window.rect_emb_val win0_5 t _ 1 rfl, (idx_facts t).2.2.2.2.2.1.2]
    show (13 + t.val / 16) * 1024 + q.val = 13312 + (1024 * (t.val / 16) + q.val)
    omega

/-- What a grid point writes back is its block of `G`. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz, View.ld_unit_zero hz, View.ld_unit_zero hz, View.ld_unit_zero hz, View.ld_unit_zero hz,
    View.ld_unit_zero hz, View.ld_unit_zero hz]
  funext j
  obtain ⟨p, q, rfl⟩ : ∃ (p : Fin 1024) (q : Fin 1024), j = ix2 p q := ⟨j 0, j 1, eq_ix2 j⟩
  have hp := p.isLt
  have hq := q.isLt
  have ht : t.val < 64 := t.isLt
  refine (pay_apply (iblk m c 0 t) (iblk m c 2 t) (iblk m c 1 t) (iblk m c 3 t) (iblk m c 4 t) (iblk m c 5 t) p q).trans ?_
  have e0 : ((win0_6.rect t).emb (ix2 p q)) 0 = (⟨1024 * (t.val % 16) + p.val, by omega⟩ : Fin 16384) := Fin.ext (by
    rw [Pipeline.Window.rect_emb_val win0_6 t _ 0 rfl, (idx_facts t).2.2.2.2.2.2.1]
    show t.val % 16 * 1024 + p.val = 1024 * (t.val % 16) + p.val
    omega)
  have e1 : ((win0_6.rect t).emb (ix2 p q)) 1 = (⟨1024 * (t.val / 16) + q.val, by omega⟩ : Fin 4096) := Fin.ext (by
    rw [Pipeline.Window.rect_emb_val win0_6 t _ 1 rfl, (idx_facts t).2.2.2.2.2.2.2]
    show t.val / 16 * 1024 + q.val = 1024 * (t.val / 16) + q.val
    omega)
  show _ = mixAt (aArr m c) (bArr m c) (waArr m c) (wbArr m c) (pArr m c) (((win0_6.rect t).emb (ix2 p q)) 0) (((win0_6.rect t).emb (ix2 p q)) 1)
  rw [e0, e1]
  refine congrArg₂ (· + ·) (congrArg₂ (· * ·) (congrArg sigm ?_) (Finset.sum_congr rfl fun k _ => congrArg₂ (· * ·) ?_ ?_))
    (congrArg₂ (· * ·) (congrArg sigm ?_) (Finset.sum_congr rfl fun k _ => congrArg₂ (· * ·) ?_ ?_))
  · exact iblk4_apply m c t p q _ _
  · exact iblk0_apply m c t p k _
  · exact iblk2_apply m c t k q _
  · exact iblk5_apply m c t p q _ _
  · exact iblk1_apply m c t p k _
  · exact iblk3_apply m c t k q _

/-- Membership in a block of the result, as bounds on the two coordinates. -/
theorem mem_blk (t : Fin cfg0.N) (i : S16384x4096.Idx) :
    i ∈ ((cfg0.win 6).blk t).view.set ↔ ∀ a : Fin 2, win0_6.index t a * win0_6.size a ≤ (i a).val
      ∧ (i a).val < win0_6.index t a * win0_6.size a + win0_6.size a := by
  show i ∈ ((View.whole main_v4).slice (win0_6.rect t)).set ↔ _
  rw [View.set_slice_whole, Rect.mem_set_unit]
  exact Iff.rfl

/-- The blocks cover the result array. -/
theorem cover (i : S16384x4096.Idx) :
    ∃ t : Fin cfg0.N, (cfg0.win 6).flush t = true ∧ i ∈ ((cfg0.win 6).blk t).view.set := by
  have h0 : (i 0).val < 16384 := (i 0).isLt
  have h1 : (i 1).val < 4096 := (i 1).isLt
  have hN : cfg0.N = 64 := N_0
  refine ⟨⟨16 * ((i 1).val / 1024) + (i 0).val / 1024, by omega⟩, flush0_6 _, ?_⟩
  rw [mem_blk]
  intro a
  have hf := (idx_facts ⟨16 * ((i 1).val / 1024) + (i 0).val / 1024, by omega⟩).2.2.2.2.2.2
  match a with
  | ⟨0, _⟩ =>
    show win0_6.index _ 0 * 1024 ≤ (i 0).val ∧ (i 0).val < win0_6.index _ 0 * 1024 + 1024
    rw [hf.1]; dsimp only; omega
  | ⟨1, _⟩ =>
    show win0_6.index _ 1 * 1024 ≤ (i 1).val ∧ (i 1).val < win0_6.index _ 1 * 1024 + 1024
    rw [hf.2]; dsimp only; omega

/-- The result array after the run. -/
theorem final_out (c : Dev nD) : (dats m 0 c).arrAt 6 cfg0.N = G m c :=
  (dats m 0 c).arrAt_eq_of_cover 6 (G m c) (fun t _ => flushed_eq m c t) cover

/-- The weights that the call reads are the arguments', without their leading unit axis. -/
theorem waArr_apply (c : Dev nD) (k : Fin 2048) (q : Fin 4096) :
    waArr m c (ix2 k q) = m ((c : Thread nD τ).loc main_arg2) (ix3 (0 : Fin 1) k q) := by
  have e : (V m c main_v1 : S2048x4096.Idx → EReal) = truncf (F := Ideal) .bf16 (shapeCast S2048x4096 (m ((c : Thread nD τ).loc main_arg2)) shapeCasts_S1x2048x4096_S2048x4096) bitsLt_bf16_f32 := by
    unfold V hostOps0
    after_results <;> rfl
  rw [waArr, e]
  refine (truncf_apply _ bitsLt_bf16_f32 _).trans (shapeCast_apply _ _ (ix2 k q) (ix3 (0 : Fin 1) k q) ?_)
  rw [Shape.rowMajor_val_three, Shape.rowMajor_val_two]
  show (0 * 2048 + k.val) * 4096 + q.val = k.val * 4096 + q.val
  omega

theorem wbArr_apply (c : Dev nD) (k : Fin 1024) (q : Fin 4096) :
    wbArr m c (ix2 k q) = m ((c : Thread nD τ).loc main_arg3) (ix3 (0 : Fin 1) k q) := by
  have e : (V m c main_v3 : S1024x4096.Idx → EReal) = truncf (F := Ideal) .bf16 (shapeCast S1024x4096 (m ((c : Thread nD τ).loc main_arg3)) shapeCasts_S1x1024x4096_S1024x4096) bitsLt_bf16_f32 := by
    unfold V hostOps0
    after_results <;> rfl
  rw [wbArr, e]
  refine (truncf_apply _ bitsLt_bf16_f32 _).trans (shapeCast_apply _ _ (ix2 k q) (ix3 (0 : Fin 1) k q) ?_)
  rw [Shape.rowMajor_val_three, Shape.rowMajor_val_two]
  show (0 * 1024 + k.val) * 4096 + q.val = k.val * 4096 + q.val
  omega

open Cert.ReferenceMixIdeal.Read in
/-- The array is the reference's result. -/
theorem G_eq (c : Dev nD) :
    G m c = val_main_v25 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨r, q, rfl⟩ : ∃ (r : Fin 16384) (q : Fin 4096), i = ix2 r q := ⟨i 0, i 1, eq_ix2 i⟩
  have hr := r.isLt
  have hq := q.isLt
  show mixAt (aArr m c) (bArr m c) (waArr m c) (wbArr m c) (pArr m c) r q
    = (val_main_v9 (F := Ideal) (m ((c : Thread nD τ).loc main_arg4)) (ix2 r q) : EReal)
        * val_main_v12 (F := Ideal) (m ((c : Thread nD τ).loc main_arg0)) (m ((c : Thread nD τ).loc main_arg2)) (ix2 r q)
      + (val_main_v19 (F := Ideal) (m ((c : Thread nD τ).loc main_arg4)) (ix2 r q) : EReal)
        * val_main_v22 (F := Ideal) (m ((c : Thread nD τ).loc main_arg1)) (m ((c : Thread nD τ).loc main_arg3)) (ix2 r q)
  have g1 : (val_main_v9 (F := Ideal) (m ((c : Thread nD τ).loc main_arg4)) (ix2 r q) : EReal)
      = sigm (val_main_v2 (F := Ideal) (m ((c : Thread nD τ).loc main_arg4)) (ix2 r q)) := by
    rw [val_main_v9_apply, val_main_v8_apply, val_main_v7_apply, val_main_v6_apply]
    rfl
  have g2 : (val_main_v19 (F := Ideal) (m ((c : Thread nD τ).loc main_arg4)) (ix2 r q) : EReal)
      = sigm (val_main_v3 (F := Ideal) (m ((c : Thread nD τ).loc main_arg4)) (ix2 r q)) := by
    rw [val_main_v19_apply, val_main_v18_apply, val_main_v17_apply, val_main_v16_apply]
    rfl
  rw [g1, g2, val_main_v2_apply, val_main_v3_apply, val_main_v12_apply, val_main_v22_apply]
  refine congrArg₂ (· + ·) (congrArg₂ (· * ·) (congrArg sigm ?_) (Finset.sum_congr rfl fun k _ => congrArg₂ (· * ·) ?_ ?_))
    (congrArg₂ (· * ·) (congrArg sigm ?_) (Finset.sum_congr rfl fun k _ => congrArg₂ (· * ·) ?_ ?_))
  · show _ = val_main_v0 (F := Ideal) _ _
    rw [val_main_v0_apply]
    exact (congrFun (V_main_arg4 m c) _).trans (congrArg _ (Shape.idx_ext₂ rfl rfl))
  · show _ = (m ((c : Thread nD τ).loc main_arg0)) (lidx_main_v12 (ix2 r q) k)
    exact (congrFun (V_main_arg0 m c) _).trans (congrArg _ (Shape.idx_ext₂ rfl rfl))
  · rw [val_main_v11_apply]
    have hk := k.isLt
    refine (waArr_apply m c k q).trans (congrArg _ (idx_ext₃ rfl ?_ ?_))
    · show k.val = (k.val * 4096 + q.val) / 4096 % 2048
      omega
    · show q.val = (k.val * 4096 + q.val) % 4096
      omega
  · show _ = val_main_v0 (F := Ideal) _ _
    rw [val_main_v0_apply]
    refine (congrFun (V_main_arg4 m c) _).trans (congrArg _ (Shape.idx_ext₂ rfl ?_))
    show 13312 + q.val = 9216 + (4096 + q.val)
    omega
  · show _ = (m ((c : Thread nD τ).loc main_arg1)) (lidx_main_v22 (ix2 r q) k)
    exact (congrFun (V_main_arg1 m c) _).trans (congrArg _ (Shape.idx_ext₂ rfl rfl))
  · rw [val_main_v21_apply]
    have hk := k.isLt
    refine (wbArr_apply m c k q).trans (congrArg _ (idx_ext₃ rfl ?_ ?_))
    · show k.val = (k.val * 4096 + q.val) / 4096 % 1024
      omega
    · show q.val = (k.val * 4096 + q.val) % 4096
      omega

/-- The value claim: kernel and reference leave the same array, and keep their arguments. -/
theorem algebraic : Cert.algebraic_KernelMixIdeal_ReferenceMixIdeal
    (hKernelMixIdeal := Cert.KernelMixIdeal.Gen.facts) (hReferenceMixIdeal := Cert.ReferenceMixIdeal.Gen.facts) := by
  intro m g m' g' _ hm
  refine ⟨fun c => G m c, ?_, ?_⟩
  · refine (θ_run Cert.KernelMixIdeal.defs _ _).mono (fun r h c => ?_) (Value.run_blocks m g)
    exact ⟨(h c).1.trans (final_out m c), (h c).2⟩
  · refine (θ_run Cert.ReferenceMixIdeal.defs _ _).mono (fun r h c => ?_) (Cert.ReferenceMixIdeal.Value.run m' g')
    refine ⟨((h c).1.trans (Cert.ReferenceMixIdeal.Read.val_main_v25_eq _ _ _ _ _)).trans ?_, (h c).2⟩
    obtain ⟨h0, h1, h2, h3, h4⟩ := hm c
    rw [h0, h1, h2, h3, h4]
    exact (G_eq m c).symm

/-- The reference's frame: its run keeps the arguments, and it declares no semaphore. -/
theorem frame_ref : Cert.quiescent_ReferenceMixIdeal (hReferenceMixIdeal := Cert.ReferenceMixIdeal.Gen.facts) := by
  intro m g _
  exact (θ_run Cert.ReferenceMixIdeal.defs _ _).mono (fun r h => ⟨fun c => (h c).2,
    Idealize.ShloMosaic.sem_eq_zero_of_no_sems (by decide) r.2⟩) (Cert.ReferenceMixIdeal.Value.run m g)

end Cert.Proof.Mix

end
-- ==== Proof.Wo.lean ====
/- The call `wo`: the residual's multiple plus the output projection of the merged branches. Its result array at the ideal
   instance, block by block, and the reference's. -/
module

public import proofs.«01_k».proof.Defs
public import proofs.«01_k».proof.Proof.Common
public import proofs.«01_k».proof.Proof.Gen.KernelWoIdeal.Value
public import proofs.«01_k».proof.Proof.Gen.ReferenceWoIdeal.Read
public import Idealize.ShloMosaic.Lib.StableHlo.Run

@[expose] public section

noncomputable section

namespace Cert.Proof.Wo

open Idealize.ShloMosaic Idealize.SL.Sem Idealize.ShloMosaic.TcCoe Idealize.ShloMosaic.ValueIdx
open Cert.KernelWoIdeal Cert.KernelWoIdeal.Gen
open Idealize.ShloMosaic.Pipeline (Dat)

/-- The residual's multiple plus the product's entry. -/
def woAt (M : S16384x4096.Idx → EReal) (W : S4096x4096.Idx → EReal) (X : S16384x4096.Idx → EReal) (r : Fin 16384)
    (q : Fin 4096) : EReal :=
  Ideal.ofBits .f32 0x3F9837F0#32 * X (ix2 r q) + ∑ k : Fin 4096, M (ix2 r k) * W (ix2 k q)

/-- One block's value, at row `p` and column `q` of the block. -/
theorem pay_apply (x : Vec Ideal S1024x1024 .f32) (a : Vec Ideal S1024x4096 .bf16) (w : Vec Ideal S4096x1024 .bf16)
    (p : Fin 1024) (q : Fin 1024) :
    k0_pay1 (F := Ideal) x a w (ix2 p q)
      = Ideal.ofBits .f32 0x3F9837F0#32 * (x (ix2 p q) : EReal)
        + ∑ k : Fin 4096, (a (ix2 p k) : EReal) * (w (ix2 k q) : EReal) := by
  unfold k0_pay1
  rw [shapeCast_self, shapeCast_self]
  rw [← matmul_plain_zero (M := 1024) (K := 4096) (N := 1024) (φ₁ := .bf16) (φ₂ := .bf16) a w p q]
  rfl

/-- The windows' index maps over the grid, in closed form. -/
theorem idx_facts : ∀ t : Fin cfg0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) :=
  (by decide +kernel : ∀ t : Fin grid0.N, _)

variable (m : (ℓ : Loc nD τ sig) → Buf (Elt Ideal) ℓ)

/-- The operand arrays as the call finds them. -/
abbrev mArr (c : Dev nD) : S16384x4096.Idx → EReal := V m c main_arg0
abbrev wArr (c : Dev nD) : S4096x4096.Idx → EReal := V m c main_v1
abbrev xArr (c : Dev nD) : S16384x4096.Idx → EReal := V m c main_v2

/-- The array after the run as one function. -/
abbrev G (c : Dev nD) : Buf (Elt Ideal) ((c : Thread nD τ).loc main_v3) :=
  fun i : S16384x4096.Idx => woAt (mArr m c) (wArr m c) (xArr m c) (i 0) (i 1)

theorem hz : (![0, 0] : Fin 2 → Nat) = fun _ => 0 := funext fun a => by fin_cases a <;> rfl

theorem iblk0_apply (c : Dev nD) (t : Fin cfg0.N) (r : Fin 1024) (k : Fin 4096) (h : 1024 * (t.val / 4) + r.val < 16384) :
    (iblk m c 0 t (ix2 r k) : EReal) = mArr m c (ix2 ⟨1024 * (t.val / 4) + r.val, h⟩ k) := by
  show mArr m c ((win0_0.rect t).emb (ix2 r k)) = _
  refine congrArg (mArr m c) (Shape.idx_ext₂ ?_ ?_)
  · rw [Pipeline.Window.rect_emb_val win0_0 t _ 0 rfl, (idx_facts t).1.1]
    show t.val / 4 * 1024 + r.val = 1024 * (t.val / 4) + r.val
    omega
  · rw [Pipeline.Window.rect_emb_val win0_0 t _ 1 rfl, (idx_facts t).1.2]
    show 0 * 4096 + k.val = k.val
    omega

theorem iblk1_apply (c : Dev nD) (t : Fin cfg0.N) (k : Fin 4096) (q : Fin 1024) (h : 1024 * (t.val % 4) + q.val < 4096) :
    (iblk m c 1 t (ix2 k q) : EReal) = wArr m c (ix2 k ⟨1024 * (t.val % 4) + q.val, h⟩) := by
  show wArr m c ((win0_1.rect t).emb (ix2 k q)) = _
  refine congrArg (wArr m c) (Shape.idx_ext₂ ?_ ?_)
  · rw [Pipeline.Window.rect_emb_val win0_1 t _ 0 rfl, (idx_facts t).2.1.1]
    show 0 * 4096 + k.val = k.val
    omega
  · rw [Pipeline.Window.rect_emb_val win0_1 t _ 1 rfl, (idx_facts t).2.1.2]
    show t.val % 4 * 1024 + q.val = 1024 * (t.val % 4) + q.val
    omega

theorem iblk2_apply (c : Dev nD) (t : Fin cfg0.N) (r : Fin 1024) (q : Fin 1024) (h : 1024 * (t.val / 4) + r.val < 16384)
    (h' : 1024 * (t.val % 4) + q.val < 4096) :
    (iblk m c 2 t (ix2 r q) : EReal) = xArr m c (ix2 ⟨1024 * (t.val / 4) + r.val, h⟩ ⟨1024 * (t.val % 4) + q.val, h'⟩) := by
  show xArr m c ((win0_2.rect t).emb (ix2 r q)) = _
  refine congrArg (xArr m c) (Shape.idx_ext₂ ?_ ?_)
  · rw [Pipeline.Window.rect_emb_val win0_2 t _ 0 rfl, (idx_facts t).2.2.1.1]
    show t.val / 4 * 1024 + r.val = 1024 * (t.val / 4) + r.val
    omega
  · rw [Pipeline.Window.rect_emb_val win0_2 t _ 1 rfl, (idx_facts t).2.2.1.2]
    show t.val % 4 * 1024 + q.val = 1024 * (t.val % 4) + q.val
    omega

/-- What a grid point writes back is its block of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero hz, View.ld_unit_zero hz, View.ld_unit_zero hz]
  funext j
  obtain ⟨p, q, rfl⟩ : ∃ (p : Fin 1024) (q : Fin 1024), j = ix2 p q := ⟨j 0, j 1, eq_ix2 j⟩
  have hp := p.isLt
  have hq := q.isLt
  have ht : t.val < 64 := t.isLt
  refine (pay_apply (iblk m c 2 t) (iblk m c 0 t) (iblk m c 1 t) p q).trans ?_
  have e0 : ((win0_3.rect t).emb (ix2 p q)) 0 = (⟨1024 * (t.val / 4) + p.val, by omega⟩ : Fin 16384) := Fin.ext (by
    rw [Pipeline.Window.rect_emb_val win0_3 t _ 0 rfl, (idx_facts t).2.2.2.1]
    show t.val / 4 * 1024 + p.val = 1024 * (t.val / 4) + p.val
    omega)
  have e1 : ((win0_3.rect t).emb (ix2 p q)) 1 = (⟨1024 * (t.val % 4) + q.val, by omega⟩ : Fin 4096) := Fin.ext (by
    rw [Pipeline.Window.rect_emb_val win0_3 t _ 1 rfl, (idx_facts t).2.2.2.2]
    show t.val % 4 * 1024 + q.val = 1024 * (t.val % 4) + q.val
    omega)
  show _ = woAt (mArr m c) (wArr m c) (xArr m c) (((win0_3.rect t).emb (ix2 p q)) 0) (((win0_3.rect t).emb (ix2 p q)) 1)
  rw [e0, e1]
  refine congrArg₂ (· + ·) (congrArg₂ (· * ·) rfl ?_) (Finset.sum_congr rfl fun k _ => congrArg₂ (· * ·) ?_ ?_)
  · exact iblk2_apply m c t p q _ _
  · exact iblk0_apply m c t p k _
  · exact iblk1_apply m c t k q _

/-- Membership in a block of the result, as bounds on the two coordinates. -/
theorem mem_blk (t : Fin cfg0.N) (i : S16384x4096.Idx) :
    i ∈ ((cfg0.win 3).blk t).view.set ↔ ∀ a : Fin 2, win0_3.index t a * win0_3.size a ≤ (i a).val
      ∧ (i a).val < win0_3.index t a * win0_3.size a + win0_3.size a := by
  show i ∈ ((View.whole main_v3).slice (win0_3.rect t)).set ↔ _
  rw [View.set_slice_whole, Rect.mem_set_unit]
  exact Iff.rfl

/-- The blocks cover the result array. -/
theorem cover (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 64 := N_0
  refine ⟨⟨4 * ((i 0).val / 1024) + (i 1).val / 1024, by omega⟩, flush0_3 _, ?_⟩
  rw [mem_blk]
  intro a
  have hf := (idx_facts ⟨4 * ((i 0).val / 1024) + (i 1).val / 1024, by omega⟩).2.2.2
  match a with
  | ⟨0, _⟩ =>
    show win0_3.index _ 0 * 1024 ≤ (i 0).val ∧ (i 0).val < win0_3.index _ 0 * 1024 + 1024
    rw [hf.1]; dsimp only; omega
  | ⟨1, _⟩ =>
    show win0_3.index _ 1 * 1024 ≤ (i 1).val ∧ (i 1).val < win0_3.index _ 1 * 1024 + 1024
    rw [hf.2]; dsimp only; omega

/-- The result array after the run. -/
theorem final_out (c : Dev nD) : (dats m 0 c).arrAt 3 cfg0.N = G m c :=
  (dats m 0 c).arrAt_eq_of_cover 3 (G m c) (fun t _ => flushed_eq m c t) cover

/-- The weights that the call reads are the argument's, without their leading unit axis. -/
theorem wArr_apply (c : Dev nD) (k : Fin 4096) (q : Fin 4096) :
    wArr m c (ix2 k q) = m ((c : Thread nD τ).loc main_arg1) (ix3 (0 : Fin 1) k q) := by
  have e : (V m c main_v1 : S4096x4096.Idx → EReal) = truncf (F := Ideal) .bf16 (shapeCast S4096x4096 (m ((c : Thread nD τ).loc main_arg1)) shapeCasts_S1x4096x4096_S4096x4096) bitsLt_bf16_f32 := by
    unfold V hostOps0
    after_results <;> rfl
  rw [wArr, e]
  refine (truncf_apply _ bitsLt_bf16_f32 _).trans (shapeCast_apply _ _ (ix2 k q) (ix3 (0 : Fin 1) k q) ?_)
  rw [Shape.rowMajor_val_three, Shape.rowMajor_val_two]
  show (0 * 4096 + k.val) * 4096 + q.val = k.val * 4096 + q.val
  omega

/-- And so is the residual stream. -/
theorem xArr_apply (c : Dev nD) (r : Fin 16384) (q : Fin 4096) :
    xArr m c (ix2 r q) = m ((c : Thread nD τ).loc main_arg2) (ix3 (0 : Fin 1) r q) := by
  have e : (V m c main_v2 : S16384x4096.Idx → EReal) = shapeCast S16384x4096 (m ((c : Thread nD τ).loc main_arg2)) shapeCasts_S1x16384x4096_S16384x4096 := by
    unfold V hostOps0
    after_results <;> rfl
  rw [xArr, e]
  refine shapeCast_apply _ _ (ix2 r q) (ix3 (0 : Fin 1) r q) ?_
  rw [Shape.rowMajor_val_three, Shape.rowMajor_val_two]
  show (0 * 16384 + r.val) * 4096 + q.val = r.val * 4096 + q.val
  omega

open Cert.ReferenceWoIdeal.Read in
/-- The array is the reference's result. -/
theorem G_eq (c : Dev nD) :
    G m c = val_main_v7 (F := Ideal) (m ((c : Thread nD τ).loc main_arg0)) (m ((c : Thread nD τ).loc main_arg1))
      (m ((c : Thread nD τ).loc main_arg2)) := by
  funext i
  obtain ⟨r, q, rfl⟩ : ∃ (r : Fin 16384) (q : Fin 4096), i = ix2 r q := ⟨i 0, i 1, eq_ix2 i⟩
  have hr := r.isLt
  have hq := q.isLt
  rw [val_main_v7_apply]
  show woAt (mArr m c) (wArr m c) (xArr m c) r q
    = (val_main_v1 (F := Ideal) (m ((c : Thread nD τ).loc main_arg2)) (idx_main_v7 (ix2 r q)) : EReal)
        + val_main_v5 (F := Ideal) (m ((c : Thread nD τ).loc main_arg0)) (m ((c : Thread nD τ).loc main_arg1)) (idx_main_v7 (ix2 r q))
  have hr' : (r.val * 4096 + q.val) / 4096 % 16384 = r.val := by omega
  have hq' : (r.val * 4096 + q.val) % 4096 = q.val := by omega
  rw [val_main_v1_apply, val_main_v5_apply, val_main_v4_apply]
  refine congrArg₂ (· + ·) (congrArg₂ (· * ·) ?_ ?_) (Finset.sum_congr rfl fun k _ => congrArg₂ (· * ·) ?_ ?_)
  · rw [val_main_v0_apply]; rfl
  · exact (xArr_apply m c r q).trans (congrArg _ (idx_ext₃ rfl hr'.symm hq'.symm))
  · show _ = (m ((c : Thread nD τ).loc main_arg0)) _
    exact (congrFun (V_main_arg0 m c) _).trans (congrArg _ (Shape.idx_ext₂ hr'.symm rfl))
  · rw [val_main_v3_apply]
    have hk := k.isLt
    refine (wArr_apply m c k q).trans (congrArg _ (idx_ext₃ rfl ?_ ?_))
    · show k.val = (k.val * 4096 + (r.val * 4096 + q.val) % 4096) / 4096 % 4096
      omega
    · show q.val = (k.val * 4096 + (r.val * 4096 + q.val) % 4096) % 4096
      omega

/-- The value claim: kernel and reference leave the same array, and keep their arguments. -/
theorem algebraic : Cert.algebraic_KernelWoIdeal_ReferenceWoIdeal
    (hKernelWoIdeal := Cert.KernelWoIdeal.Gen.facts) (hReferenceWoIdeal := Cert.ReferenceWoIdeal.Gen.facts) := by
  intro m g m' g' _ hm
  refine ⟨fun c => G m c, ?_, ?_⟩
  · refine (θ_run Cert.KernelWoIdeal.defs _ _).mono (fun r h c => ?_) (Value.run_blocks m g)
    exact ⟨(h c).1.trans (final_out m c), (h c).2⟩
  · refine (θ_run Cert.ReferenceWoIdeal.defs _ _).mono (fun r h c => ?_) (Cert.ReferenceWoIdeal.Value.run m' g')
    refine ⟨((h c).1.trans (Cert.ReferenceWoIdeal.Read.val_main_v7_eq _ _ _)).trans ?_, (h c).2⟩
    obtain ⟨h0, h1, h2⟩ := hm c
    rw [h0, h1, h2]
    exact (G_eq m c).symm

/-- The reference's frame: its run keeps the arguments, and it declares no semaphore. -/
theorem frame_ref : Cert.quiescent_ReferenceWoIdeal (hReferenceWoIdeal := Cert.ReferenceWoIdeal.Gen.facts) := by
  intro m g _
  exact (θ_run Cert.ReferenceWoIdeal.defs _ _).mono (fun r h => ⟨fun c => (h c).2,
    Idealize.ShloMosaic.sem_eq_zero_of_no_sems (by decide) r.2⟩) (Cert.ReferenceWoIdeal.Value.run m g)

end Cert.Proof.Wo

end
-- ==== Proof.AttMath.lean ====
/- One row of attention at the ideal instance: the maximum of its scores, the weights, their sum, the weighted mean of the values
   and the logarithm of the sum; and the operations that make them, read element by element. Both groups of heads use them. -/
module

public import proofs.«01_k».proof.Proof.Common
public import Idealize.ShloMosaic.PureOps.Ideal.Laws
public import Idealize.ShloMosaic.Lib.KernelVsHost

@[expose] public section

noncomputable section

namespace Cert.Proof.Att

open Idealize.ShloMosaic Idealize.ShloMosaic.ValueIdx

/-- The greatest score of a row. -/
def mx (s : Fin 256 → EReal) : EReal :=
  (Finset.univ : Finset (Fin 256)).fold max (Ideal.ofBits .f32 0xFF800000#32) s
/-- A key's weight before it is divided by the sum. -/
def wt (s : Fin 256 → EReal) (b : Fin 256) : EReal := Ideal.exp (s b - mx s)
/-- The sum of the weights. -/
def dn (s : Fin 256 → EReal) : EReal := ∑ b, wt s b
/-- The weighted mean of a column of the values. -/
def mean (s v : Fin 256 → EReal) : EReal := Ideal.div (∑ b, wt s b * v b) (dn s)
/-- The logarithm of the sum of the scores' exponentials. -/
def lse (s : Fin 256 → EReal) : EReal := mx s + Ideal.log (dn s)

/-- A row's number put on an axis of its own and repeated along it. -/
theorem bcast_col {N : ℕ} (x : FVec Ideal ⟨2, ![128, 1]⟩ .f32)
    (hb : Shape.Broadcasts ⟨2, ![128, 1]⟩ ⟨2, ![128, N]⟩) (a : Fin 128) (b : Fin N) :
    broadcastTo ⟨2, ![128, N]⟩ x hb (ix2 a b) = x (ix2 a 0) := by
  refine broadcastTo_apply x hb _ _ fun d => ?_
  match d with
  | ⟨0, _⟩ => rfl
  | ⟨1, _⟩ => rfl

/-- A column of numbers, one to a row. -/
theorem cast_col (x : FVec Ideal ⟨1, ![128]⟩ .f32) (hs : Shape.ShapeCasts ⟨1, ![128]⟩ ⟨2, ![128, 1]⟩) (a : Fin 128) :
    shapeCast ⟨2, ![128, 1]⟩ x hs (ix2 a 0) = x (ix1 a) := by
  refine shapeCast_apply x hs _ _ ?_
  rw [Shape.rowMajor_val_one, Shape.rowMajor_val_two]
  show a.val = a.val * 1 + 0
  omega

/-- Dropping leading axes of extent one. -/
theorem cast_3_2 {A B : ℕ} {φ : FTy} (x : FVec Ideal ⟨3, ![1, A, B]⟩ φ) (hs : Shape.ShapeCasts ⟨3, ![1, A, B]⟩ ⟨2, ![A, B]⟩)
    (a : Fin A) (b : Fin B) : shapeCast ⟨2, ![A, B]⟩ x hs (ix2 a b) = x (ix3 0 a b) := by
  refine shapeCast_apply x hs _ _ ?_
  rw [Shape.rowMajor_val_three, Shape.rowMajor_val_two]
  show (0 * A + a.val) * B + b.val = a.val * B + b.val
  rw [Nat.zero_mul, Nat.zero_add]

theorem cast_4_2 {A B : ℕ} {φ : FTy} (x : FVec Ideal ⟨4, ![1, 1, A, B]⟩ φ) (hs : Shape.ShapeCasts ⟨4, ![1, 1, A, B]⟩ ⟨2, ![A, B]⟩)
    (a : Fin A) (b : Fin B) : shapeCast ⟨2, ![A, B]⟩ x hs (ix2 a b) = x (ix4 0 0 a b) := by
  refine shapeCast_apply x hs _ _ ?_
  rw [Shape.rowMajor_val_four, Shape.rowMajor_val_two]
  show ((0 * 1 + 0) * A + a.val) * B + b.val = a.val * B + b.val
  simp

/-- Adding them. -/
theorem cast_2_3 {A B : ℕ} {φ : FTy} (x : FVec Ideal ⟨2, ![A, B]⟩ φ) (hs : Shape.ShapeCasts ⟨2, ![A, B]⟩ ⟨3, ![1, A, B]⟩)
    (z : Fin 1) (a : Fin A) (b : Fin B) : shapeCast ⟨3, ![1, A, B]⟩ x hs (ix3 z a b) = x (ix2 a b) := by
  refine shapeCast_apply x hs _ _ ?_
  rw [Shape.rowMajor_val_three, Shape.rowMajor_val_two, Subsingleton.elim z 0]
  show a.val * B + b.val = (0 * A + a.val) * B + b.val
  rw [Nat.zero_mul, Nat.zero_add]

theorem cast_2_4 {A B : ℕ} {φ : FTy} (x : FVec Ideal ⟨2, ![A, B]⟩ φ) (hs : Shape.ShapeCasts ⟨2, ![A, B]⟩ ⟨4, ![1, 1, A, B]⟩)
    (y z : Fin 1) (a : Fin A) (b : Fin B) : shapeCast ⟨4, ![1, 1, A, B]⟩ x hs (ix4 y z a b) = x (ix2 a b) := by
  refine shapeCast_apply x hs _ _ ?_
  rw [Shape.rowMajor_val_four, Shape.rowMajor_val_two, Subsingleton.elim y 0, Subsingleton.elim z 0]
  show a.val * B + b.val = ((0 * 1 + 0) * A + a.val) * B + b.val
  simp

/-- The masked scores of a block of 128 queries against 256 keys. -/
def sV (M : IVec ⟨2, ![128, 256]⟩ 1) (z : Ideal .f32) (q : FVec Ideal ⟨3, ![1, 128, 128]⟩ .f32)
    (k : FVec Ideal ⟨4, ![1, 1, 256, 128]⟩ .f32) (hq : Shape.ShapeCasts ⟨3, ![1, 128, 128]⟩ ⟨2, ![128, 128]⟩)
    (hk : Shape.ShapeCasts ⟨4, ![1, 1, 256, 128]⟩ ⟨2, ![256, 128]⟩) (hb : FTy.bits .bf16 < FTy.bits .f32) :
    FVec Ideal ⟨2, ![128, 256]⟩ .f32 :=
  select M (matmul (DotDims.transposedRhs 128 128 256) none (truncf .bf16 (shapeCast ⟨2, ![128, 128]⟩ q hq) hb)
    (truncf .bf16 (shapeCast ⟨2, ![256, 128]⟩ k hk) hb) (constant ⟨2, ![128, 256]⟩ .f32 0x00000000#32))
    (broadcast ⟨2, ![128, 256]⟩ z)

theorem sV_apply (M : IVec ⟨2, ![128, 256]⟩ 1) (z : Ideal .f32) (q : FVec Ideal ⟨3, ![1, 128, 128]⟩ .f32)
    (k : FVec Ideal ⟨4, ![1, 1, 256, 128]⟩ .f32) (hq hk hb) (a : Fin 128) (b : Fin 256) :
    sV M z q k hq hk hb (ix2 a b)
      = if M (ix2 a b) = 1 then ∑ c : Fin 128, (q (ix3 0 a c) : EReal) * (k (ix4 0 0 b c) : EReal) else (z : EReal) := by
  have e := matmul_nt_zero (M := 128) (K := 128) (N := 256) (φ₁ := .bf16) (φ₂ := .bf16)
    (truncf .bf16 (shapeCast ⟨2, ![128, 128]⟩ q hq) hb) (truncf .bf16 (shapeCast ⟨2, ![256, 128]⟩ k hk) hb) a b
  have e' : (∑ c : Fin 128, (q (ix3 0 a c) : EReal) * (k (ix4 0 0 b c) : EReal)) = _ :=
    (Finset.sum_congr rfl fun c _ => by
      rw [← cast_3_2 q hq a c, ← cast_4_2 k hk b c]; rfl).trans e.symm
  rw [e']
  rfl

/-- The shapes' facts the operations below take. -/
abbrev HR : Prop := Shape.Reduces ⟨2, ![128, 256]⟩ [1] ⟨1, ![128]⟩
abbrev HC : Prop := Shape.ShapeCasts ⟨1, ![128]⟩ ⟨2, ![128, 1]⟩
abbrev HB : Prop := Shape.Broadcasts ⟨2, ![128, 1]⟩ ⟨2, ![128, 256]⟩

/-- A block's maxima, weights and sums, as the operations make them. -/
def mV (s : FVec Ideal ⟨2, ![128, 256]⟩ .f32) (hr : HR) (hc : HC) : FVec Ideal ⟨2, ![128, 1]⟩ .f32 :=
  shapeCast ⟨2, ![128, 1]⟩ (multiReduction .maximumf [1] ⟨1, ![128]⟩ s 0xFF800000#32 hr (.inl rfl) rfl) hc
def eV (s : FVec Ideal ⟨2, ![128, 256]⟩ .f32) (hr : HR) (hc : HC) (hb : HB) : FVec Ideal ⟨2, ![128, 256]⟩ .f32 :=
  exp (subf s (broadcastTo ⟨2, ![128, 256]⟩ (mV s hr hc) hb))
def dV (s : FVec Ideal ⟨2, ![128, 256]⟩ .f32) (hr : HR) (hc : HC) (hb : HB) : FVec Ideal ⟨2, ![128, 1]⟩ .f32 :=
  shapeCast ⟨2, ![128, 1]⟩ (multiReduction .add [1] ⟨1, ![128]⟩ (eV s hr hc hb) 0x00000000#32 hr (.inl rfl) rfl) hc

theorem mV_apply (s : FVec Ideal ⟨2, ![128, 256]⟩ .f32) (hr : HR) (hc : HC) (a : Fin 128) :
    mV s hr hc (ix2 a 0) = mx fun b => s (ix2 a b) := by
  refine (cast_col _ hc a).trans ((Ideal.multiReduction_maximumf_single s _ hr _ _ (ix1 a)).trans ?_)
  refine congrArg (fun f => (Finset.univ : Finset (Fin 256)).fold max (Ideal.ofBits .f32 0xFF800000#32) f) (funext fun b => ?_)
  exact congrArg s (Shape.idx_ext₂ rfl rfl)

theorem eV_apply (s : FVec Ideal ⟨2, ![128, 256]⟩ .f32) (hr : HR) (hc : HC) (hb : HB) (a : Fin 128) (b : Fin 256) :
    eV s hr hc hb (ix2 a b) = wt (fun b => s (ix2 a b)) b := by
  unfold wt
  rw [← mV_apply s hr hc a, ← bcast_col (mV s hr hc) hb a b]
  rfl

theorem dV_apply (s : FVec Ideal ⟨2, ![128, 256]⟩ .f32) (hr : HR) (hc : HC) (hb : HB) (a : Fin 128) :
    dV s hr hc hb (ix2 a 0) = dn fun b => s (ix2 a b) := by
  refine (cast_col _ hc a).trans ((Ideal.multiReduction_add_single (eV s hr hc hb) _ hr _ _ (ix1 a)).trans ?_)
  refine Finset.sum_congr rfl fun b _ => ?_
  rw [← eV_apply s hr hc hb a b]
  exact congrArg (eV s hr hc hb) (Shape.idx_ext₂ rfl rfl)

/-- The block's output, before it is stored. -/
def oV (s : FVec Ideal ⟨2, ![128, 256]⟩ .f32) (v : FVec Ideal ⟨4, ![1, 1, 256, 128]⟩ .f32) (hr : HR) (hc : HC) (hb : HB)
    (hk : Shape.ShapeCasts ⟨4, ![1, 1, 256, 128]⟩ ⟨2, ![256, 128]⟩) (ht : FTy.bits .bf16 < FTy.bits .f32)
    (hb' : Shape.Broadcasts ⟨2, ![128, 1]⟩ ⟨2, ![128, 128]⟩) (ho : Shape.ShapeCasts ⟨2, ![128, 128]⟩ ⟨3, ![1, 128, 128]⟩) :
    FVec Ideal ⟨3, ![1, 128, 128]⟩ .f32 :=
  shapeCast ⟨3, ![1, 128, 128]⟩ (divf (matmul (DotDims.plain 128 256 128) none (truncf .bf16 (eV s hr hc hb) ht)
    (truncf .bf16 (shapeCast ⟨2, ![256, 128]⟩ v hk) ht) (constant ⟨2, ![128, 128]⟩ .f32 0x00000000#32))
    (broadcastTo ⟨2, ![128, 128]⟩ (dV s hr hc hb) hb')) ho

theorem oV_apply (s : FVec Ideal ⟨2, ![128, 256]⟩ .f32) (v : FVec Ideal ⟨4, ![1, 1, 256, 128]⟩ .f32) (hr : HR) (hc : HC) (hb : HB)
    (hk ht hb' ho) (z : Fin 1) (a c : Fin 128) :
    oV s v hr hc hb hk ht hb' ho (ix3 z a c) = mean (fun b => s (ix2 a b)) (fun b => v (ix4 0 0 b c)) := by
  refine (cast_2_3 _ ho z a c).trans ?_
  have e := matmul_plain_zero (M := 128) (K := 256) (N := 128) (φ₁ := .bf16) (φ₂ := .bf16)
    (truncf .bf16 (eV s hr hc hb) ht) (truncf .bf16 (shapeCast ⟨2, ![256, 128]⟩ v hk) ht) a c
  have e' : (∑ b : Fin 256, wt (fun b => s (ix2 a b)) b * (v (ix4 0 0 b c) : EReal)) = _ :=
    (Finset.sum_congr rfl fun b _ => by
      rw [← eV_apply s hr hc hb a b, ← cast_4_2 v hk b c]; rfl).trans e.symm
  unfold mean
  rw [e', ← dV_apply s hr hc hb a, ← bcast_col (dV s hr hc hb) hb' a c]
  rfl

/-- The block's logarithms, repeated along the columns. -/
def lV (s : FVec Ideal ⟨2, ![128, 256]⟩ .f32) (hr : HR) (hc : HC) (hb : HB) (hs : Shape.ShapeCasts ⟨2, ![128, 1]⟩ ⟨2, ![128, 1]⟩)
    (hb' : Shape.Broadcasts ⟨2, ![128, 1]⟩ ⟨2, ![128, 128]⟩) (ho : Shape.ShapeCasts ⟨2, ![128, 128]⟩ ⟨3, ![1, 128, 128]⟩) :
    FVec Ideal ⟨3, ![1, 128, 128]⟩ .f32 :=
  shapeCast ⟨3, ![1, 128, 128]⟩ (broadcastTo ⟨2, ![128, 128]⟩
    (shapeCast ⟨2, ![128, 1]⟩ (addf (mV s hr hc) (log (dV s hr hc hb))) hs) hb') ho

theorem lV_apply (s : FVec Ideal ⟨2, ![128, 256]⟩ .f32) (hr : HR) (hc : HC) (hb : HB) (hs hb' ho) (z : Fin 1) (a c : Fin 128) :
    lV s hr hc hb hs hb' ho (ix3 z a c) = lse fun b => s (ix2 a b) := by
  refine (cast_2_3 _ ho z a c).trans ((bcast_col _ hb' a c).trans ?_)
  rw [shapeCast_self]
  unfold lse
  rw [← dV_apply s hr hc hb a, ← mV_apply s hr hc a]
  rfl

/-- A block's rotation: the columns times the cosines, the columns taken half a head further on times the signed sines. -/
def ropeV (x : FVec Ideal ⟨2, ![512, 128]⟩ .bf16) (cs sn : FVec Ideal ⟨2, ![512, 128]⟩ .f32)
    (ht : FTy.bits .bf16 < FTy.bits .f32) (hr : Shape.Rotates ⟨2, ![512, 128]⟩ 1 none) : FVec Ideal ⟨2, ![512, 128]⟩ .f32 :=
  addf (mulf (extf .f32 x ht) cs) (mulf (dynamicRotate 1 64#32 none (extf .f32 x ht) hr) sn)

/-- The column half a head away. -/
def half (c : Fin 128) : Fin 128 := ⟨(c.val + 64) % 128, Nat.mod_lt _ (by norm_num)⟩

theorem ropeV_apply (x : FVec Ideal ⟨2, ![512, 128]⟩ .bf16) (cs sn : FVec Ideal ⟨2, ![512, 128]⟩ .f32) (ht hr)
    (a : Fin 512) (c : Fin 128) :
    (ropeV x cs sn ht hr (ix2 a c) : EReal)
      = (x (ix2 a c) : EReal) * (cs (ix2 a c) : EReal) + (x (ix2 a (half c)) : EReal) * (sn (ix2 a c) : EReal) := by
  have e : dynamicRotate 1 64#32 none (extf .f32 x ht) hr (ix2 a c) = extf .f32 x ht (ix2 a (half c)) := by
    refine dynamicRotate_apply 1 64#32 _ hr _ _ fun d => ?_
    match d with
    | ⟨0, _⟩ => rfl
    | ⟨1, _⟩ =>
      show (c.val + 64) % 128 = (c.val + 128 - 64 % 128) % 128
      omega
  show (x (ix2 a c) : EReal) * (cs (ix2 a c) : EReal)
      + (dynamicRotate 1 64#32 none (extf .f32 x ht) hr (ix2 a c) : EReal) * (sn (ix2 a c) : EReal) = _
  rw [e]
  rfl

end Cert.Proof.Att
-- ==== Proof.AttGlob.lean ====
/- Causal attention over a window of 129 keys as functions of the whole projection: rotated rows, the keys and values a query's
   block of 256 sees, the scores, the outputs and the logarithms; a head's positions are `d` interleaved sequences (`d = 1`: one). -/
module

public import proofs.«01_k».proof.Proof.AttMath
public import Idealize.ShloMosaic.Lib.Affine

@[expose] public section

noncomputable section

namespace Cert.Proof.Att

open Idealize.ShloMosaic Idealize.ShloMosaic.ValueIdx

/-- Indices with the same coordinates. -/
theorem idx_ext₄ {n0 n1 n2 n3 : ℕ} {x y : (⟨4, ![n0, n1, n2, n3]⟩ : Shape).Idx} (h0 : (x 0).val = (y 0).val) (h1 : (x 1).val = (y 1).val) (h2 : (x 2).val = (y 2).val) (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3
theorem idx_ext₅ {n0 n1 n2 n3 n4 : ℕ} {x y : (⟨5, ![n0, n1, n2, n3, n4]⟩ : Shape).Idx} (h0 : (x 0).val = (y 0).val) (h1 : (x 1).val = (y 1).val) (h2 : (x 2).val = (y 2).val) (h3 : (x 3).val = (y 3).val) (h4 : (x 4).val = (y 4).val) : x = y := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
theorem idx_ext₆ {n0 n1 n2 n3 n4 n5 : ℕ} {x y : (⟨6, ![n0, n1, n2, n3, n4, n5]⟩ : Shape).Idx} (h0 : (x 0).val = (y 0).val) (h1 : (x 1).val = (y 1).val) (h2 : (x 2).val = (y 2).val) (h3 : (x 3).val = (y 3).val) (h4 : (x 4).val = (y 4).val) (h5 : (x 5).val = (y 5).val) : x = y := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
  | ⟨5, _⟩ => exact Fin.ext h5

/-- The scores' scale. -/
abbrev scl : EReal := Ideal.ofBits .f32 0x3DB504F3#32

theorem scl_eq : scl = ((11863283 * ((2 : ℝ) ^ 27)⁻¹ : ℝ) : EReal) := by
  simp [scl, Ideal.ofBits, Ideal.ieee]
theorem scl_nonneg : 0 ≤ scl := by
  rw [scl_eq]
  exact_mod_cast (by positivity : (0 : ℝ) ≤ 11863283 * ((2 : ℝ) ^ 27)⁻¹)
theorem scl_ne_top : scl ≠ ⊤ := by
  rw [scl_eq]
  exact EReal.coe_ne_top _
theorem ofBits_ninf : Ideal.ofBits .f32 0xFF800000#32 = ⊥ := by
  simp [Ideal.ofBits, Ideal.ieee]

/-- A factor that is neither negative nor infinite leaves a sum whole. -/
theorem sum_scale {ι : Type} (s : Finset ι) (f g : ι → EReal) (x : EReal) (h0 : 0 ≤ x) (ht : x ≠ ⊤) :
    ∑ c ∈ s, (f c * x) * g c = (∑ c ∈ s, f c * g c) * x := by
  classical
  induction s using Finset.induction_on with
  | empty => simp
  | insert a s ha ih =>
    rw [Finset.sum_insert ha, Finset.sum_insert ha, ih, EReal.right_distrib_of_nonneg_of_ne_top h0 ht, mul_right_comm]

/-- Small words, read as integers. -/
theorem w_toInt (z : ℤ) (h0 : -2 ^ 31 ≤ z) (h1 : z < 2 ^ 31) : (BitVec.ofInt 32 z).toInt = z :=
  BitVec.toInt_ofInt_eq_self (by norm_num) h0 h1

/-- The band of the mask. -/
theorem band_iff (a b : ℕ) (ha : a < 128) (hb : b < 256) :
    IntOp.andi (IntOp.cmpi .sge (IntOp.subi (IntOp.addi (BitVec.ofNat 32 a) 128#32) (BitVec.ofNat 32 b)) 0#32)
      (IntOp.cmpi .sle (IntOp.subi (IntOp.addi (BitVec.ofNat 32 a) 128#32) (BitVec.ofNat 32 b)) 128#32) = 1#1
      ↔ a ≤ b ∧ b ≤ a + 128 := by
  have e : IntOp.subi (IntOp.addi (BitVec.ofNat 32 a) 128#32) (BitVec.ofNat 32 b) = BitVec.ofInt 32 ((a : ℤ) + 128 + -(b : ℤ)) := by
    rw [BitVec.ofInt_add, BitVec.ofInt_add, BitVec.ofInt_neg, BitVec.ofInt_natCast, BitVec.ofInt_natCast]
    exact BitVec.sub_eq_add_neg _ _
  rw [e, IntOp.andi_eq_one, IntOp.cmpi_sge, IntOp.cmpi_sle, w_toInt _ (by omega) (by omega),
    show (0#32 : BitVec 32).toInt = 0 from by decide, show (128#32 : BitVec 32).toInt = 128 from by decide]
  omega

/-- The keys before the start. -/
theorem past_iff (n b : ℕ) (hn : n < 128) (hb : b < 256) :
    IntOp.cmpi .sge (IntOp.subi (IntOp.addi (IntOp.muli (BitVec.ofNat 32 n) 128#32) (BitVec.ofNat 32 b)) 128#32) 0#32 = 1#1
      ↔ 128 ≤ 128 * n + b := by
  have e : IntOp.subi (IntOp.addi (IntOp.muli (BitVec.ofNat 32 n) 128#32) (BitVec.ofNat 32 b)) 128#32
      = BitVec.ofInt 32 ((n : ℤ) * 128 + (b : ℤ) + -128) := by
    rw [BitVec.ofInt_add, BitVec.ofInt_add, BitVec.ofInt_mul, BitVec.ofInt_natCast, BitVec.ofInt_natCast]
    exact BitVec.sub_eq_add_neg _ _
  rw [e, IntOp.cmpi_sge, w_toInt _ (by omega) (by omega), show (0#32 : BitVec 32).toInt = 0 from by decide]
  omega

/-- Comparisons of small words. -/
theorem sge_iff (a k : ℕ) (ha : a < 2 ^ 31) (hk : k < 2 ^ 31) :
    IntOp.cmpi .sge (BitVec.ofNat 32 a) (BitVec.ofNat 32 k) = 1#1 ↔ k ≤ a := by
  rw [← BitVec.ofInt_natCast, ← BitVec.ofInt_natCast, IntOp.cmpi_sge, w_toInt _ (by omega) (by omega), w_toInt _ (by omega) (by omega)]
  omega
theorem sgt_iff (a k : ℕ) (ha : a < 2 ^ 31) (hk : k < 2 ^ 31) :
    IntOp.cmpi .sgt (BitVec.ofNat 32 a) (BitVec.ofNat 32 k) = 1#1 ↔ k < a := by
  rw [← BitVec.ofInt_natCast, ← BitVec.ofInt_natCast, IntOp.cmpi_sgt, w_toInt _ (by omega) (by omega), w_toInt _ (by omega) (by omega)]
  omega

/-- Column `c` of head `H` of the projection: 24 heads of queries, then of keys, then of values. -/
def hcol (H : Fin 72) (c : Fin 128) : Fin 17408 := ⟨128 * H.val + c.val, by omega⟩
/-- The frequency a column turns with. -/
def lo (c : Fin 128) : Fin 64 := ⟨c.val % 64, Nat.mod_lt _ (by norm_num)⟩

variable (X : (⟨2, ![16384, 17408]⟩ : Shape).Idx → EReal) (cs sn : (⟨2, ![16384, 64]⟩ : Shape).Idx → EReal)

/-- Row `p` of head `H`, rotated by its position. -/
def ropeG (H : Fin 72) (p : Fin 16384) (c : Fin 128) : EReal :=
  X (ix2 p (hcol H c)) * cs (ix2 p (lo c))
    + X (ix2 p (hcol H (half c))) * (if c.val < 64 then -sn (ix2 p (lo c)) else sn (ix2 p (lo c)))
/-- The values. -/
def valG (H : Fin 72) (p : Fin 16384) (c : Fin 128) : EReal := X (ix2 p (hcol H c))

/-- Entry `b` of the 256 that block `n` of sequence `r` sees: the 128 before the block and its own; zero before the start. -/
def key (d r n : ℕ) (f : Fin 16384 → EReal) (b : Fin 256) : EReal :=
  if h : 128 ≤ 128 * n + b.val ∧ d * (128 * n + b.val - 128) + r < 16384 then f ⟨d * (128 * n + b.val - 128) + r, h.2⟩ else 0

/-- The keys that row `a` of block `n` looks at: its own and the 128 before it. -/
def seen (n a b : ℕ) : Prop := a ≤ b ∧ b ≤ a + 128 ∧ 128 ≤ 128 * n + b
instance (n a b : ℕ) : Decidable (seen n a b) := inferInstanceAs (Decidable (_ ∧ _ ∧ _))

/-- The scores of position `p`. -/
def scG (d : ℕ) (Hq Hk : Fin 72) (p : Fin 16384) (b : Fin 256) : EReal :=
  if seen (p.val / d / 128) (p.val / d % 128) b.val then
    (∑ c : Fin 128, ropeG X cs sn Hq p c * key d (p.val % d) (p.val / d / 128) (fun q => ropeG X cs sn Hk q c) b) * scl
  else ⊥
/-- The outputs and the logarithms. -/
def outG (d : ℕ) (Hq Hk Hv : Fin 72) (p : Fin 16384) (c : Fin 128) : EReal :=
  mean (scG X cs sn d Hq Hk p) fun b => key d (p.val % d) (p.val / d / 128) (fun q => valG X Hv q c) b
def lseG (d : ℕ) (Hq Hk : Fin 72) (p : Fin 16384) : EReal := lse (scG X cs sn d Hq Hk p)

end Cert.Proof.Att

end
-- ==== Proof.G0Blk.lean ====
/- One grid point of the first group's attention, in closed form: the rotated queries and keys of a block of 512 rows, the 640
   rows of keys a block sees (the 128 before it and its own), the masked scores, the outputs and the logarithms; and the
   readings of the operations and buffers that the two cases of the body share. -/
module

public import proofs.«01_k».proof.Proof.AttMath
public import proofs.«01_k».proof.Proof.Gen.KernelG0Ideal.Frame
public import Idealize.ShloMosaic.Lib.Pipeline.ValueKit.Acc
public import Idealize.ShloMosaic.Lib.Pipeline.ReadBack

@[expose] public section

noncomputable section

namespace Cert.Proof.G0

open Idealize.ShloMosaic Idealize.ShloMosaic.TcCoe Idealize.ShloMosaic.ValueIdx
open Cert.KernelG0Ideal Cert.KernelG0Ideal.Gen
open Cert.Proof.Att

/-- The named value standing where a key is not to be seen. -/
abbrev nm : Ideal .f32 := Named.named (F := Ideal) κ "mask" 0xF149F2CA#32
/-- The scores' scale. -/
abbrev sc : EReal := Ideal.ofBits .f32 0x3DB504F3#32

/-- Column `c` of head `h` in a block of four heads. -/
def colOf (h : Fin 4) (c : Fin 128) : Fin 512 := ⟨128 * h.val + c.val, by omega⟩

/-- A block's rotated rows, by head. -/
def rope (x : Vec Ideal S512x512 .bf16) (cs sn : Vec Ideal S512x128 .f32) (h : Fin 4) (a : Fin 512) (c : Fin 128) : EReal :=
  (x (ix2 a (colOf h c)) : EReal) * (cs (ix2 a c) : EReal) + (x (ix2 a (colOf h (half c))) : EReal) * (sn (ix2 a c) : EReal)
/-- The queries, scaled. -/
def QB (x : Vec Ideal S512x512 .bf16) (cs sn : Vec Ideal S512x128 .f32) (h : Fin 4) (a : Fin 512) (c : Fin 128) : EReal :=
  rope x cs sn h a c * sc
/-- The values, by head. -/
def VB (x : Vec Ideal S512x512 .bf16) (h : Fin 4) (a : Fin 512) (c : Fin 128) : EReal := (x (ix2 a (colOf h c)) : EReal)

/-- The 640 rows a block sees: 128 rows `p` before it, then its own. -/
def rows (p : Fin 4 → Fin 128 → Fin 128 → EReal) (B : Fin 4 → Fin 512 → Fin 128 → EReal) (h : Fin 4) (b : Fin 640)
    (c : Fin 128) : EReal :=
  if hb : b.val < 128 then p h ⟨b.val, hb⟩ c else B h ⟨b.val - 128, by omega⟩ c

/-- The mask of the `j`-th 128 queries of a block. -/
def maskAt (i1 : BitVec 32) (j : Fin 4) : IVec S128x256 1 := if j.val = 0 then k0_pay34 i1 else k0_pay33

/-- The scores of query `128 j + a`. -/
def score (i1 : BitVec 32) (Q : Fin 4 → Fin 512 → Fin 128 → EReal) (K : Fin 4 → Fin 640 → Fin 128 → EReal) (h j : Fin 4)
    (a : Fin 128) (b : Fin 256) : EReal :=
  if maskAt i1 j (ix2 a b) = 1 then
    ∑ c : Fin 128, Q h ⟨128 * j.val + a.val, by omega⟩ c * K h ⟨128 * j.val + b.val, by omega⟩ c
  else nm

/-- The outputs and the logarithms of a block, by head and row. -/
def OB (i1 : BitVec 32) (Q : Fin 4 → Fin 512 → Fin 128 → EReal) (K V : Fin 4 → Fin 640 → Fin 128 → EReal) (h : Fin 4)
    (r : Fin 512) (c : Fin 128) : EReal :=
  mean (score i1 Q K h ⟨r.val / 128, by omega⟩ ⟨r.val % 128, Nat.mod_lt _ (by norm_num)⟩)
    fun b => V h ⟨128 * (r.val / 128) + b.val, by omega⟩ c
def LB (i1 : BitVec 32) (Q : Fin 4 → Fin 512 → Fin 128 → EReal) (K : Fin 4 → Fin 640 → Fin 128 → EReal) (h : Fin 4)
    (r : Fin 512) : EReal :=
  lse (score i1 Q K h ⟨r.val / 128, by omega⟩ ⟨r.val % 128, Nat.mod_lt _ (by norm_num)⟩)

/-- A load of a whole head's columns of an input block. -/
theorem ld_head (arg : Memref sig .tc .vmem S512x512 .bf16) (harg : arg.IsWhole) (x : Vec Ideal S512x512 .bf16) (h : Fin 4)
    (o : ℕ) (ho : o = 128 * h.val) (inb : ∀ a, (![0, o] : Fin 2 → ℕ) a + S512x128.size a ≤ S512x512.size a)
    (a : Fin 512) (c : Fin 128) :
    View.readAt (Elt Ideal) arg.view (Rect.unit (s := S512x512) ![0, o] S512x128.size inb).toLoadRect (harg.unread x) (ix2 a c)
      = x (ix2 a (colOf h c)) := by
  subst ho
  rw [View.readAt_apply, harg.read_unread]
  refine congrArg x (Shape.idx_ext₂ ?_ ?_)
  · show 0 + 1 * a.val = a.val
    omega
  · show 128 * h.val + 1 * c.val = 128 * h.val + c.val
    omega

/-- A load of a whole table block. -/
theorem ld_tab (arg : Memref sig .tc .vmem S512x128 .f32) (harg : arg.IsWhole) (x : Vec Ideal S512x128 .f32)
    (inb : ∀ a, (![0, 0] : Fin 2 → ℕ) a + S512x128.size a ≤ S512x128.size a) :
    View.readAt (Elt Ideal) arg.view (Rect.unit ![0, 0] S512x128.size inb).toLoadRect (harg.unread x) = x := by
  funext y
  rw [View.readAt_apply, harg.read_unread]
  refine congrArg x (Shape.idx_ext₂ ?_ ?_)
  · show 0 + 1 * (y 0).val = (y 0).val
    omega
  · show 0 + 1 * (y 1).val = (y 1).val
    omega

/-- An index under a rectangle of a three-axis buffer. -/
theorem emb₃ {A B C a b c o p q : ℕ} (inb : ∀ x, (![o, p, q] : Fin 3 → ℕ) x + (⟨3, ![a, b, c]⟩ : Shape).size x ≤ (⟨3, ![A, B, C]⟩ : Shape).size x)
    (i : Fin a) (j : Fin b) (k : Fin c) (i' : Fin A) (j' : Fin B) (k' : Fin C) (hi : i'.val = o + i.val) (hj : j'.val = p + j.val)
    (hk : k'.val = q + k.val) :
    (Rect.unit (s := ⟨3, ![A, B, C]⟩) ![o, p, q] (⟨3, ![a, b, c]⟩ : Shape).size inb).emb (ix3 i j k) = ix3 i' j' k' := by
  funext x
  refine Fin.ext ?_
  match x with
  | ⟨0, _⟩ => show o + 1 * i.val = i'.val; omega
  | ⟨1, _⟩ => show p + 1 * j.val = j'.val; omega
  | ⟨2, _⟩ => show q + 1 * k.val = k'.val; omega

/-- And of a four-axis one. -/
theorem emb₄ {A B C D a b c d o p q r : ℕ}
    (inb : ∀ x, (![o, p, q, r] : Fin 4 → ℕ) x + (⟨4, ![a, b, c, d]⟩ : Shape).size x ≤ (⟨4, ![A, B, C, D]⟩ : Shape).size x)
    (i : Fin a) (j : Fin b) (k : Fin c) (l : Fin d) (i' : Fin A) (j' : Fin B) (k' : Fin C) (l' : Fin D) (hi : i'.val = o + i.val)
    (hj : j'.val = p + j.val) (hk : k'.val = q + k.val) (hl : l'.val = r + l.val) :
    (Rect.unit (s := ⟨4, ![A, B, C, D]⟩) ![o, p, q, r] (⟨4, ![a, b, c, d]⟩ : Shape).size inb).emb (ix4 i j k l) = ix4 i' j' k' l' := by
  funext x
  refine Fin.ext ?_
  match x with
  | ⟨0, _⟩ => show o + 1 * i.val = i'.val; omega
  | ⟨1, _⟩ => show p + 1 * j.val = j'.val; omega
  | ⟨2, _⟩ => show q + 1 * k.val = k'.val; omega
  | ⟨3, _⟩ => show r + 1 * l.val = l'.val; omega

/-- What a stored piece must satisfy, coordinate by coordinate. -/
theorem piece₂ {α : Type} {A B a b o p : ℕ}
    (inb : ∀ x, (![o, p] : Fin 2 → ℕ) x + (⟨2, ![a, b]⟩ : Shape).size x ≤ (⟨2, ![A, B]⟩ : Shape).size x)
    (f : (⟨2, ![a, b]⟩ : Shape).Idx → α) (G : (⟨2, ![A, B]⟩ : Shape).Idx → α) (i' : Fin a → Fin A) (j' : Fin b → Fin B)
    (hi : ∀ i, (i' i).val = o + i.val) (hj : ∀ j, (j' j).val = p + j.val)
    (h : ∀ i j, f (ix2 i j) = G (ix2 (i' i) (j' j))) (x : (⟨2, ![a, b]⟩ : Shape).Idx) :
    f x = G ((Rect.unit (s := ⟨2, ![A, B]⟩) ![o, p] (⟨2, ![a, b]⟩ : Shape).size inb).emb x) := by
  obtain ⟨i, j, rfl⟩ : ∃ i j, x = ix2 i j := ⟨_, _, eq_ix2 x⟩
  refine (h i j).trans (congrArg G (Shape.idx_ext₂ ?_ ?_))
  · show (i' i).val = o + 1 * i.val
    rw [hi, Nat.one_mul]
  · show (j' j).val = p + 1 * j.val
    rw [hj, Nat.one_mul]
theorem piece₃ {α : Type} {A B C a b c o p q : ℕ}
    (inb : ∀ x, (![o, p, q] : Fin 3 → ℕ) x + (⟨3, ![a, b, c]⟩ : Shape).size x ≤ (⟨3, ![A, B, C]⟩ : Shape).size x)
    (f : (⟨3, ![a, b, c]⟩ : Shape).Idx → α) (G : (⟨3, ![A, B, C]⟩ : Shape).Idx → α) (i' : Fin a → Fin A) (j' : Fin b → Fin B)
    (k' : Fin c → Fin C) (hi : ∀ i, (i' i).val = o + i.val) (hj : ∀ j, (j' j).val = p + j.val) (hk : ∀ k, (k' k).val = q + k.val)
    (h : ∀ i j k, f (ix3 i j k) = G (ix3 (i' i) (j' j) (k' k))) (x : (⟨3, ![a, b, c]⟩ : Shape).Idx) :
    f x = G ((Rect.unit (s := ⟨3, ![A, B, C]⟩) ![o, p, q] (⟨3, ![a, b, c]⟩ : Shape).size inb).emb x) := by
  obtain ⟨i, j, k, rfl⟩ : ∃ i j k, x = ix3 i j k := ⟨_, _, _, eq_ix3 x⟩
  exact (h i j k).trans (congrArg G (emb₃ inb i j k _ _ _ (hi i) (hj j) (hk k)).symm)
theorem piece₄ {α : Type} {A B C D a b c d o p q r : ℕ}
    (inb : ∀ x, (![o, p, q, r] : Fin 4 → ℕ) x + (⟨4, ![a, b, c, d]⟩ : Shape).size x ≤ (⟨4, ![A, B, C, D]⟩ : Shape).size x)
    (f : (⟨4, ![a, b, c, d]⟩ : Shape).Idx → α) (G : (⟨4, ![A, B, C, D]⟩ : Shape).Idx → α) (i' : Fin a → Fin A) (j' : Fin b → Fin B)
    (k' : Fin c → Fin C) (l' : Fin d → Fin D) (hi : ∀ i, (i' i).val = o + i.val) (hj : ∀ j, (j' j).val = p + j.val)
    (hk : ∀ k, (k' k).val = q + k.val) (hl : ∀ l, (l' l).val = r + l.val)
    (h : ∀ i j k l, f (ix4 i j k l) = G (ix4 (i' i) (j' j) (k' k) (l' l))) (x : (⟨4, ![a, b, c, d]⟩ : Shape).Idx) :
    f x = G ((Rect.unit (s := ⟨4, ![A, B, C, D]⟩) ![o, p, q, r] (⟨4, ![a, b, c, d]⟩ : Shape).size inb).emb x) := by
  obtain ⟨i, j, k, l, rfl⟩ : ∃ i j k l, x = ix4 i j k l := ⟨_, _, _, _, eq_ix4 x⟩
  exact (h i j k l).trans (congrArg G (emb₄ inb i j k l _ _ _ _ (hi i) (hj j) (hk k) (hl l)).symm)

/-- Coordinates moved by a literal. -/
theorem mv_head (h : Fin 4) (i : Fin 1) : h.val = h.val + i.val := by omega
theorem mv_one (i : Fin 1) : (0 : Fin 1).val = 0 + i.val := by omega
theorem mv_id {n : ℕ} (i : Fin n) : i.val = 0 + i.val := by omega

/-- The tables as the body keeps them. -/
theorem tab5 (arg : Memref sig .tc .vmem S512x128 .f32) (harg : arg.IsWhole) (x : Vec Ideal S512x128 .f32)
    (inb : ∀ a, (![0, 0] : Fin 2 → ℕ) a + S512x128.size a ≤ S512x128.size a) :
    k0_pay5 (F := Ideal) (View.readAt (Elt Ideal) arg.view (Rect.unit ![0, 0] S512x128.size inb).toLoadRect (harg.unread x)) = x :=
  (shapeCast_self _ _).trans (ld_tab arg harg x inb)
theorem tab6 (arg : Memref sig .tc .vmem S512x128 .f32) (harg : arg.IsWhole) (x : Vec Ideal S512x128 .f32)
    (inb : ∀ a, (![0, 0] : Fin 2 → ℕ) a + S512x128.size a ≤ S512x128.size a) :
    k0_pay6 (F := Ideal) (View.readAt (Elt Ideal) arg.view (Rect.unit ![0, 0] S512x128.size inb).toLoadRect (harg.unread x)) = x :=
  (shapeCast_self _ _).trans (ld_tab arg harg x inb)

/-- A head's rotation over its load. -/
theorem rope_of (x : Vec Ideal S512x512 .bf16) (cs sn : Vec Ideal S512x128 .f32) (h : Fin 4)
    (l0 : Vec Ideal S512x128 .bf16) (l3 l4 : FVec Ideal S512x128 .f32) (hl : ∀ a c, l0 (ix2 a c) = x (ix2 a (colOf h c)))
    (h3 : l3 = cs) (h4 : l4 = sn) (ht hr) (a : Fin 512) (c : Fin 128) :
    (ropeV l0 l3 l4 ht hr (ix2 a c) : EReal) = rope x cs sn h a c := by
  subst h3 h4
  rw [ropeV_apply, hl, hl]
  rfl

/-- A head's queries as they are put in their buffer. -/
theorem q_of (x : Vec Ideal S512x512 .bf16) (cs sn : Vec Ideal S512x128 .f32) (h : Fin 4)
    (l0 : Vec Ideal S512x128 .bf16) (l3 l4 : FVec Ideal S512x128 .f32) (hl : ∀ a c, l0 (ix2 a c) = x (ix2 a (colOf h c)))
    (h3 : l3 = cs) (h4 : l4 = sn) (ht hr hs) (z : Fin 1) (a : Fin 512) (c : Fin 128) :
    (shapeCast S1x512x128 (mulf (ropeV l0 l3 l4 ht hr) (broadcast S512x128 (Scalar.ofBits (F := Ideal) .f32 0x3DB504F3#32))) hs
      (ix3 z a c) : EReal) = QB x cs sn h a c := by
  refine (cast_2_3 _ hs z a c).trans ?_
  unfold QB
  rw [← rope_of x cs sn h l0 l3 l4 hl h3 h4 ht hr a c]
  rfl

/-- A head's keys as they are put behind the rows before them. -/
theorem k_of (x : Vec Ideal S512x512 .bf16) (cs sn : Vec Ideal S512x128 .f32) (h : Fin 4)
    (l0 : Vec Ideal S512x128 .bf16) (l3 l4 : FVec Ideal S512x128 .f32) (hl : ∀ a c, l0 (ix2 a c) = x (ix2 a (colOf h c)))
    (h3 : l3 = cs) (h4 : l4 = sn) (ht hr hs hs' hs'') (y z : Fin 1) (a : Fin 512) (c : Fin 128) :
    (shapeCast S1x1x512x128 (shapeCast S512x128 (shapeCast S1x512x128 (ropeV l0 l3 l4 ht hr) hs) hs') hs'' (ix4 y z a c) : EReal)
      = rope x cs sn h a c := by
  refine (cast_2_4 _ hs'' y z a c).trans ((cast_3_2 _ hs' a c).trans ((cast_2_3 _ hs 0 a c).trans ?_))
  exact rope_of x cs sn h l0 l3 l4 hl h3 h4 ht hr a c

/-- A head's values likewise. -/
theorem v_of (x : Vec Ideal S512x512 .bf16) (h : Fin 4)
    (l0 : Vec Ideal S512x128 .bf16) (hl : ∀ a c, l0 (ix2 a c) = x (ix2 a (colOf h c)))
    (ht hs hs' hs'') (y z : Fin 1) (a : Fin 512) (c : Fin 128) :
    (shapeCast S1x1x512x128 (shapeCast S512x128 (shapeCast S1x512x128 (extf (F := Ideal) (φ := .bf16) .f32 l0 ht) hs) hs') hs'' (ix4 y z a c) : EReal)
      = VB x h a c := by
  refine (cast_2_4 _ hs'' y z a c).trans ((cast_3_2 _ hs' a c).trans ((cast_2_3 _ hs 0 a c).trans ?_))
  exact hl a c

theorem rows_lt (p : Fin 4 → Fin 128 → Fin 128 → EReal) (B : Fin 4 → Fin 512 → Fin 128 → EReal) (h : Fin 4) (b : Fin 640)
    (c : Fin 128) (a : Fin 128) (e : b.val = a.val) : rows p B h b c = p h a c := by
  unfold rows
  rw [dif_pos (by omega)]
  exact congrArg (fun y => p h y c) (Fin.ext e)

theorem rows_ge (p : Fin 4 → Fin 128 → Fin 128 → EReal) (B : Fin 4 → Fin 512 → Fin 128 → EReal) (h : Fin 4) (b : Fin 640)
    (c : Fin 128) (a : Fin 512) (e : b.val = 128 + a.val) : rows p B h b c = B h a c := by
  unfold rows
  rw [dif_neg (by omega)]
  exact congrArg (fun y => B h y c) (Fin.ext (by show b.val - 128 = a.val; omega))

/-- A block of 128 queries' outputs, over loads that read the rotated rows. -/
theorem o_of (i1 : BitVec 32) (Q : Fin 4 → Fin 512 → Fin 128 → EReal) (K V : Fin 4 → Fin 640 → Fin 128 → EReal) (h j : Fin 4)
    (vq : Vec Ideal S1x128x128 .f32) (vk vv : Vec Ideal S1x1x256x128 .f32)
    (hq : ∀ a c, (vq (ix3 0 a c) : EReal) = Q h ⟨128 * j.val + a.val, by omega⟩ c)
    (hk : ∀ b c, (vk (ix4 0 0 b c) : EReal) = K h ⟨128 * j.val + b.val, by omega⟩ c)
    (hv : ∀ b c, (vv (ix4 0 0 b c) : EReal) = V h ⟨128 * j.val + b.val, by omega⟩ c)
    (h1 h2 h3) (hr : HR) (hc : HC) (hb : HB) (h4 h5 h6 h7) (z : Fin 1) (a c : Fin 128) (r : Fin 512) (er : r.val = 128 * j.val + a.val) :
    oV (sV (maskAt i1 j) nm vq vk h1 h2 h3) vv hr hc hb h4 h5 h6 h7 (ix3 z a c) = OB i1 Q K V h r c := by
  have e1 : (⟨r.val / 128, by omega⟩ : Fin 4) = j := Fin.ext (by show r.val / 128 = j.val; omega)
  have e2 : (⟨r.val % 128, Nat.mod_lt _ (by norm_num)⟩ : Fin 128) = a := Fin.ext (by show r.val % 128 = a.val; omega)
  rw [oV_apply]
  unfold OB
  rw [e1, e2]
  refine congrArg₂ mean (funext fun b => ?_) (funext fun b => ?_)
  · rw [sV_apply]
    unfold score
    refine if_congr Iff.rfl (Finset.sum_congr rfl fun c _ => ?_) rfl
    rw [hq, hk]
  · rw [hv]
    refine congrArg (fun y => V h y c) (Fin.ext ?_)
    show 128 * j.val + b.val = 128 * (r.val / 128) + b.val
    omega

/-- And its logarithms. -/
theorem l_of (i1 : BitVec 32) (Q : Fin 4 → Fin 512 → Fin 128 → EReal) (K : Fin 4 → Fin 640 → Fin 128 → EReal) (h j : Fin 4)
    (vq : Vec Ideal S1x128x128 .f32) (vk : Vec Ideal S1x1x256x128 .f32)
    (hq : ∀ a c, (vq (ix3 0 a c) : EReal) = Q h ⟨128 * j.val + a.val, by omega⟩ c)
    (hk : ∀ b c, (vk (ix4 0 0 b c) : EReal) = K h ⟨128 * j.val + b.val, by omega⟩ c)
    (h1 h2 h3) (hr : HR) (hc : HC) (hb : HB) (h4 h6 h7) (z : Fin 1) (a c : Fin 128) (r : Fin 512) (er : r.val = 128 * j.val + a.val) :
    lV (sV (maskAt i1 j) nm vq vk h1 h2 h3) hr hc hb h4 h6 h7 (ix3 z a c) = LB i1 Q K h r := by
  have e1 : (⟨r.val / 128, by omega⟩ : Fin 4) = j := Fin.ext (by show r.val / 128 = j.val; omega)
  have e2 : (⟨r.val % 128, Nat.mod_lt _ (by norm_num)⟩ : Fin 128) = a := Fin.ext (by show r.val % 128 = a.val; omega)
  rw [lV_apply]
  unfold LB
  rw [e1, e2]
  refine congrArg lse (funext fun b => ?_)
  rw [sV_apply]
  unfold score
  refine if_congr Iff.rfl (Finset.sum_congr rfl fun c _ => ?_) rfl
  rw [hq, hk]

end Cert.Proof.G0
-- ==== Proof.G0BodyA.lean ====
/- The body of the first group's attention at the start of a row of heads: the rows before it are zeros.
   What its stores leave in its buffers, in closed form. -/
module

public import proofs.«01_k».proof.Proof.G0Blk

@[expose] public section

noncomputable section

namespace Cert.Proof.G0.A

open Idealize.ShloMosaic Idealize.ShloMosaic.TcCoe Idealize.ShloMosaic.ValueIdx
open Cert.KernelG0Ideal Cert.KernelG0Ideal.Gen
open Cert.Proof.Att

variable (c : Dev nD) (i : grid0.Coords)
  (arg2 : Memref sig .tc .vmem S512x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x512 .bf16) (harg7 : arg7.IsWhole)
  (arg8 : Memref sig .tc .vmem S512x512 .f32) (harg8 : arg8.IsWhole)
  (arg9 : Memref sig .tc .vmem S4x512x128 .f32) (harg9 : arg9.IsWhole)
  (arg10 : Memref sig .tc .vmem S4x512x128 .f32) (harg10 : arg10.IsWhole)
  (arg11 : Memref sig .tc .vmem S4x1x640x128 .f32) (harg11 : arg11.IsWhole)
  (arg12 : Memref sig .tc .vmem S4x1x640x128 .f32) (harg12 : arg12.IsWhole)
  (arg13 : Memref sig .tc .vmem S4x512x128 .f32) (harg13 : arg13.IsWhole)
  (arg14 : Memref sig .tc .vmem S4x512x128 .f32) (harg14 : arg14.IsWhole)
  (arg15 : Memref sig .tc .vmem S4x512x128 .f32) (harg15 : arg15.IsWhole)
  (hc0 : cond0_0 i)
  (x0 x1 x2 : Vec Ideal S512x512 .bf16) (x3 x4 : Vec Ideal S512x128 .f32)

/-- The queries' buffer once the four heads are stored. -/
theorem qbuf (h : Fin 4) (a : Fin 512) (d : Fin 128) :
    (View.canon (kernelRun0_A.sl.HS4_4 (F := Ideal) c arg2 harg2 arg5 harg5 arg6 harg6 x0 x3 x4) (ix3 h a d) : EReal) = QB x0 x3 x4 h a d := by
  have hp : View.PiecesOf (Val := Elt Ideal) (e := .f32) (fun y : S4x512x128.Idx => (QB x0 x3 x4 (y 0) (y 1) (y 2) : EReal)) (kernelRun0_A.sl.HS4_4 (F := Ideal) c arg2 harg2 arg5 harg5 arg6 harg6 x0 x3 x4) := by
    unfold kernelRun0_A.sl.HS4_4
    exact ⟨
      piece₃ inb_S4x512x128_S1x512x128_3_0_0 _ (fun y : S4x512x128.Idx => (QB x0 x3 x4 (y 0) (y 1) (y 2) : EReal))
        (fun _ => 3) id id (mv_head 3) mv_id mv_id (q_of x0 x3 x4 3 (View.readAt (Elt Ideal) arg2.view (Rect.unit (s := S512x512) ![0, 384] S512x128.size inb_S512x512_S512x128_0_384).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 3 384 rfl inb_S512x512_S512x128_0_384) (tab5 arg5 harg5 x3 inb_S512x128_S512x128_0_0) (tab6 arg6 harg6 x4 inb_S512x128_S512x128_0_0) bitsLt_bf16_f32 rotates_S512x128_d1
          shapeCasts_S512x128_S1x512x128),
      piece₃ inb_S4x512x128_S1x512x128_2_0_0 _ (fun y : S4x512x128.Idx => (QB x0 x3 x4 (y 0) (y 1) (y 2) : EReal))
        (fun _ => 2) id id (mv_head 2) mv_id mv_id (q_of x0 x3 x4 2 (View.readAt (Elt Ideal) arg2.view (Rect.unit (s := S512x512) ![0, 256] S512x128.size inb_S512x512_S512x128_0_256).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 2 256 rfl inb_S512x512_S512x128_0_256) (tab5 arg5 harg5 x3 inb_S512x128_S512x128_0_0) (tab6 arg6 harg6 x4 inb_S512x128_S512x128_0_0) bitsLt_bf16_f32 rotates_S512x128_d1
          shapeCasts_S512x128_S1x512x128),
      piece₃ inb_S4x512x128_S1x512x128_1_0_0 _ (fun y : S4x512x128.Idx => (QB x0 x3 x4 (y 0) (y 1) (y 2) : EReal))
        (fun _ => 1) id id (mv_head 1) mv_id mv_id (q_of x0 x3 x4 1 (View.readAt (Elt Ideal) arg2.view (Rect.unit (s := S512x512) ![0, 128] S512x128.size inb_S512x512_S512x128_0_128).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 1 128 rfl inb_S512x512_S512x128_0_128) (tab5 arg5 harg5 x3 inb_S512x128_S512x128_0_0) (tab6 arg6 harg6 x4 inb_S512x128_S512x128_0_0) bitsLt_bf16_f32 rotates_S512x128_d1
          shapeCasts_S512x128_S1x512x128),
      piece₃ inb_S4x512x128_S1x512x128_0_0_0 _ (fun y : S4x512x128.Idx => (QB x0 x3 x4 (y 0) (y 1) (y 2) : EReal))
        (fun _ => 0) id id (mv_head 0) mv_id mv_id (q_of x0 x3 x4 0 (View.readAt (Elt Ideal) arg2.view (Rect.unit (s := S512x512) ![0, 0] S512x128.size inb_S512x512_S512x128_0_0).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 0 0 rfl inb_S512x512_S512x128_0_0) (tab5 arg5 harg5 x3 inb_S512x128_S512x128_0_0) (tab6 arg6 harg6 x4 inb_S512x128_S512x128_0_0) bitsLt_bf16_f32 rotates_S512x128_d1
          shapeCasts_S512x128_S1x512x128),
      trivial⟩
  exact View.canon_apply_of_pieces (fun y : S4x512x128.Idx => (QB x0 x3 x4 (y 0) (y 1) (y 2) : EReal)) (kernelRun0_A.sl.HS4_4 (F := Ideal) c arg2 harg2 arg5 harg5 arg6 harg6 x0 x3 x4) hp.mem (ix3 h a d) (View.cover_of_tiledL (kernelRun0_A.sl.HS4_4 (F := Ideal) c arg2 harg2 arg5 harg5 arg6 harg6 x0 x3 x4) S1x512x128.size (by sl_kernel_rfl) _)

theorem khead0 (y z : Fin 1) (a : Fin 512) (d : Fin 128) :
    (k0_pay11 (F := Ideal) (kernelRun0_A.sl.v32 (F := Ideal) c arg3 harg3 arg5 harg5 arg6 harg6 arg9 x1 x3 x4) (ix4 y z a d) : EReal) = rope x1 x3 x4 0 a d := by
  have e : (kernelRun0_A.sl.v32 (F := Ideal) c arg3 harg3 arg5 harg5 arg6 harg6 arg9 x1 x3 x4) = shapeCast S1x512x128 (ropeV (View.readAt (Elt Ideal) arg3.view (Rect.unit (s := S512x512) ![0, 0] S512x128.size inb_S512x512_S512x128_0_0).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_A.sl.v32
    unfold kernelRun0_A.sl.HS0_1
    exact (View.readCov_cons_toLoadRect _ _ _ _).trans rfl
  rw [e]
  exact k_of x1 x3 x4 0 _ _ _ (ld_head arg3 harg3 x1 0 0 rfl inb_S512x512_S512x128_0_0) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead0 (y z : Fin 1) (a : Fin 512) (d : Fin 128) :
    (k0_pay12 (F := Ideal) (kernelRun0_A.sl.v37 (F := Ideal) c arg4 harg4 arg10 x2) (ix4 y z a d) : EReal) = VB x2 0 a d := by
  have e : (kernelRun0_A.sl.v37 (F := Ideal) c arg4 harg4 arg10 x2) = shapeCast S1x512x128 (extf (F := Ideal) (φ := .bf16) .f32 (View.readAt (Elt Ideal) arg4.view (Rect.unit (s := S512x512) ![0, 0] S512x128.size inb_S512x512_S512x128_0_0).toLoadRect (harg4.unread x2)) bitsLt_bf16_f32)
      shapeCasts_S512x128_S1x512x128 := by
    unfold kernelRun0_A.sl.v37
    unfold kernelRun0_A.sl.HS1_1
    exact (View.readCov_cons_toLoadRect _ _ _ _).trans rfl
  rw [e]
  exact v_of x2 0 _ (ld_head arg4 harg4 x2 0 0 rfl inb_S512x512_S512x128_0_0) bitsLt_bf16_f32
    shapeCasts_S512x128_S1x512x128 shapeCasts_S1x512x128_S512x128 shapeCasts_S512x128_S1x1x512x128 y z a d

theorem khead1 (y z : Fin 1) (a : Fin 512) (d : Fin 128) :
    (k0_pay17 (F := Ideal) (kernelRun0_A.sl.v67 (F := Ideal) c arg3 harg3 arg5 harg5 arg6 harg6 arg9 x1 x3 x4) (ix4 y z a d) : EReal) = rope x1 x3 x4 1 a d := by
  have e : (kernelRun0_A.sl.v67 (F := Ideal) c arg3 harg3 arg5 harg5 arg6 harg6 arg9 x1 x3 x4) = shapeCast S1x512x128 (ropeV (View.readAt (Elt Ideal) arg3.view (Rect.unit (s := S512x512) ![0, 128] S512x128.size inb_S512x512_S512x128_0_128).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_A.sl.v67
    unfold kernelRun0_A.sl.HS0_2
    exact (View.readCov_cons_toLoadRect _ _ _ _).trans rfl
  rw [e]
  exact k_of x1 x3 x4 1 _ _ _ (ld_head arg3 harg3 x1 1 128 rfl inb_S512x512_S512x128_0_128) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead1 (y z : Fin 1) (a : Fin 512) (d : Fin 128) :
    (k0_pay18 (F := Ideal) (kernelRun0_A.sl.v72 (F := Ideal) c arg4 harg4 arg10 x2) (ix4 y z a d) : EReal) = VB x2 1 a d := by
  have e : (kernelRun0_A.sl.v72 (F := Ideal) c arg4 harg4 arg10 x2) = shapeCast S1x512x128 (extf (F := Ideal) (φ := .bf16) .f32 (View.readAt (Elt Ideal) arg4.view (Rect.unit (s := S512x512) ![0, 128] S512x128.size inb_S512x512_S512x128_0_128).toLoadRect (harg4.unread x2)) bitsLt_bf16_f32)
      shapeCasts_S512x128_S1x512x128 := by
    unfold kernelRun0_A.sl.v72
    unfold kernelRun0_A.sl.HS1_2
    exact (View.readCov_cons_toLoadRect _ _ _ _).trans rfl
  rw [e]
  exact v_of x2 1 _ (ld_head arg4 harg4 x2 1 128 rfl inb_S512x512_S512x128_0_128) bitsLt_bf16_f32
    shapeCasts_S512x128_S1x512x128 shapeCasts_S1x512x128_S512x128 shapeCasts_S512x128_S1x1x512x128 y z a d

theorem khead2 (y z : Fin 1) (a : Fin 512) (d : Fin 128) :
    (k0_pay22 (F := Ideal) (kernelRun0_A.sl.v102 (F := Ideal) c arg3 harg3 arg5 harg5 arg6 harg6 arg9 x1 x3 x4) (ix4 y z a d) : EReal) = rope x1 x3 x4 2 a d := by
  have e : (kernelRun0_A.sl.v102 (F := Ideal) c arg3 harg3 arg5 harg5 arg6 harg6 arg9 x1 x3 x4) = shapeCast S1x512x128 (ropeV (View.readAt (Elt Ideal) arg3.view (Rect.unit (s := S512x512) ![0, 256] S512x128.size inb_S512x512_S512x128_0_256).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_A.sl.v102
    unfold kernelRun0_A.sl.HS0_3
    exact (View.readCov_cons_toLoadRect _ _ _ _).trans rfl
  rw [e]
  exact k_of x1 x3 x4 2 _ _ _ (ld_head arg3 harg3 x1 2 256 rfl inb_S512x512_S512x128_0_256) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead2 (y z : Fin 1) (a : Fin 512) (d : Fin 128) :
    (k0_pay23 (F := Ideal) (kernelRun0_A.sl.v107 (F := Ideal) c arg4 harg4 arg10 x2) (ix4 y z a d) : EReal) = VB x2 2 a d := by
  have e : (kernelRun0_A.sl.v107 (F := Ideal) c arg4 harg4 arg10 x2) = shapeCast S1x512x128 (extf (F := Ideal) (φ := .bf16) .f32 (View.readAt (Elt Ideal) arg4.view (Rect.unit (s := S512x512) ![0, 256] S512x128.size inb_S512x512_S512x128_0_256).toLoadRect (harg4.unread x2)) bitsLt_bf16_f32)
      shapeCasts_S512x128_S1x512x128 := by
    unfold kernelRun0_A.sl.v107
    unfold kernelRun0_A.sl.HS1_3
    exact (View.readCov_cons_toLoadRect _ _ _ _).trans rfl
  rw [e]
  exact v_of x2 2 _ (ld_head arg4 harg4 x2 2 256 rfl inb_S512x512_S512x128_0_256) bitsLt_bf16_f32
    shapeCasts_S512x128_S1x512x128 shapeCasts_S1x512x128_S512x128 shapeCasts_S512x128_S1x1x512x128 y z a d

theorem khead3 (y z : Fin 1) (a : Fin 512) (d : Fin 128) :
    (k0_pay30 (F := Ideal) (kernelRun0_A.sl.v137 (F := Ideal) c arg3 harg3 arg5 harg5 arg6 harg6 arg9 x1 x3 x4) (ix4 y z a d) : EReal) = rope x1 x3 x4 3 a d := by
  have e : (kernelRun0_A.sl.v137 (F := Ideal) c arg3 harg3 arg5 harg5 arg6 harg6 arg9 x1 x3 x4) = shapeCast S1x512x128 (ropeV (View.readAt (Elt Ideal) arg3.view (Rect.unit (s := S512x512) ![0, 384] S512x128.size inb_S512x512_S512x128_0_384).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_A.sl.v137
    unfold kernelRun0_A.sl.HS0_4
    exact (View.readCov_cons_toLoadRect _ _ _ _).trans rfl
  rw [e]
  exact k_of x1 x3 x4 3 _ _ _ (ld_head arg3 harg3 x1 3 384 rfl inb_S512x512_S512x128_0_384) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead3 (y z : Fin 1) (a : Fin 512) (d : Fin 128) :
    (k0_pay32 (F := Ideal) (kernelRun0_A.sl.r_6 (F := Ideal) c arg4 harg4 arg10 x2) (ix4 y z a d) : EReal) = VB x2 3 a d := by
  have e : (kernelRun0_A.sl.v142 (F := Ideal) c arg4 harg4 arg10 x2) = shapeCast S1x512x128 (extf (F := Ideal) (φ := .bf16) .f32 (View.readAt (Elt Ideal) arg4.view (Rect.unit (s := S512x512) ![0, 384] S512x128.size inb_S512x512_S512x128_0_384).toLoadRect (harg4.unread x2)) bitsLt_bf16_f32)
      shapeCasts_S512x128_S1x512x128 := by
    unfold kernelRun0_A.sl.v142
    unfold kernelRun0_A.sl.HS1_4
    exact (View.readCov_cons_toLoadRect _ _ _ _).trans rfl
  have e' : k0_pay32 (F := Ideal) (kernelRun0_A.sl.r_6 (F := Ideal) c arg4 harg4 arg10 x2) = shapeCast S1x1x512x128 (shapeCast S512x128 (kernelRun0_A.sl.v142 (F := Ideal) c arg4 harg4 arg10 x2) shapeCasts_S1x512x128_S512x128) shapeCasts_S512x128_S1x1x512x128 := rfl
  rw [e', e]
  exact v_of x2 3 _ (ld_head arg4 harg4 x2 3 384 rfl inb_S512x512_S512x128_0_384) bitsLt_bf16_f32
    shapeCasts_S512x128_S1x512x128 shapeCasts_S1x512x128_S512x128 shapeCasts_S512x128_S1x1x512x128 y z a d

theorem krow_pieces : View.PiecesOf (Val := Elt Ideal) (fun y : S4x1x640x128.Idx => ((rows (fun _ _ _ => (0 : EReal)) (rope x1 x3 x4)) (y 0) (y 2) (y 3) : EReal)) (kernelRun0_A.sl.HS2_5 (F := Ideal) c arg3 harg3 arg5 harg5 arg6 harg6 arg9 x1 x3 x4) := by
  unfold kernelRun0_A.sl.HS2_5
  exact ⟨
    piece₄ inb_S4x1x640x128_S1x1x512x128_3_0_128_0 _ (fun y : S4x1x640x128.Idx => ((rows (fun _ _ _ => (0 : EReal)) (rope x1 x3 x4)) (y 0) (y 2) (y 3) : EReal))
      (fun _ => 3) (fun _ => 0) (fun a => ⟨128 + a.val, by omega⟩) id (mv_head 3) mv_one (fun _ => rfl) mv_id
      (fun y z a d => (khead3 c arg3 harg3 arg5 harg5 arg6 harg6 arg9 x1 x3 x4 y z a d).trans (rows_ge _ _ _ _ _ a rfl).symm),
    piece₄ inb_S4x1x640x128_S1x1x512x128_2_0_128_0 _ (fun y : S4x1x640x128.Idx => ((rows (fun _ _ _ => (0 : EReal)) (rope x1 x3 x4)) (y 0) (y 2) (y 3) : EReal))
      (fun _ => 2) (fun _ => 0) (fun a => ⟨128 + a.val, by omega⟩) id (mv_head 2) mv_one (fun _ => rfl) mv_id
      (fun y z a d => (khead2 c arg3 harg3 arg5 harg5 arg6 harg6 arg9 x1 x3 x4 y z a d).trans (rows_ge _ _ _ _ _ a rfl).symm),
    piece₄ inb_S4x1x640x128_S1x1x512x128_1_0_128_0 _ (fun y : S4x1x640x128.Idx => ((rows (fun _ _ _ => (0 : EReal)) (rope x1 x3 x4)) (y 0) (y 2) (y 3) : EReal))
      (fun _ => 1) (fun _ => 0) (fun a => ⟨128 + a.val, by omega⟩) id (mv_head 1) mv_one (fun _ => rfl) mv_id
      (fun y z a d => (khead1 c arg3 harg3 arg5 harg5 arg6 harg6 arg9 x1 x3 x4 y z a d).trans (rows_ge _ _ _ _ _ a rfl).symm),
    piece₄ inb_S4x1x640x128_S1x1x512x128_0_0_128_0 _ (fun y : S4x1x640x128.Idx => ((rows (fun _ _ _ => (0 : EReal)) (rope x1 x3 x4)) (y 0) (y 2) (y 3) : EReal))
      (fun _ => 0) (fun _ => 0) (fun a => ⟨128 + a.val, by omega⟩) id (mv_head 0) mv_one (fun _ => rfl) mv_id
      (fun y z a d => (khead0 c arg3 harg3 arg5 harg5 arg6 harg6 arg9 x1 x3 x4 y z a d).trans (rows_ge _ _ _ _ _ a rfl).symm),
    piece₄ inb_S4x1x640x128_S4x1x128x128_0_0_0_0 _ (fun y : S4x1x640x128.Idx => ((rows (fun _ _ _ => (0 : EReal)) (rope x1 x3 x4)) (y 0) (y 2) (y 3) : EReal))
      id (fun _ => 0) (fun a => ⟨a.val, by omega⟩) id mv_id mv_one mv_id mv_id
      (fun h z a d => by
        refine Eq.trans (b := (0 : EReal)) ?_ (rows_lt (fun _ _ _ => (0 : EReal)) (rope x1 x3 x4) h ⟨a.val, by omega⟩ d a rfl).symm
        unfold k0_pay3
        exact (congrFun (shapeCast_self (broadcast S4x1x128x128 (Scalar.ofBits (F := Ideal) .f32 0x00000000#32)) shapeCasts_S4x1x128x128_S4x1x128x128) (ix4 h z a d)).trans ofBits_zero),
    trivial⟩

theorem krow (h : Fin 4) (b : Fin 640) (d : Fin 128) :
    (View.canon (kernelRun0_A.sl.HS2_5 (F := Ideal) c arg3 harg3 arg5 harg5 arg6 harg6 arg9 x1 x3 x4) (ix4 h 0 b d) : EReal) = (rows (fun _ _ _ => (0 : EReal)) (rope x1 x3 x4)) h b d :=
  View.canon_apply_of_pieces (Val := Elt Ideal) (fun y : S4x1x640x128.Idx => ((rows (fun _ _ _ => (0 : EReal)) (rope x1 x3 x4)) (y 0) (y 2) (y 3) : EReal)) (kernelRun0_A.sl.HS2_5 (F := Ideal) c arg3 harg3 arg5 harg5 arg6 harg6 arg9 x1 x3 x4) (krow_pieces c arg3 harg3 arg5 harg5 arg6 harg6 arg9 x1 x3 x4).mem (ix4 h 0 b d)
    (View.cover_of_tiledBy (kernelRun0_A.sl.HS2_5 (F := Ideal) c arg3 harg3 arg5 harg5 arg6 harg6 arg9 x1 x3 x4) ![1, 1, 128, 128] (by sl_kernel_rfl) _)

theorem vrow_pieces : View.PiecesOf (Val := Elt Ideal) (fun y : S4x1x640x128.Idx => ((rows (fun _ _ _ => (0 : EReal)) (VB x2)) (y 0) (y 2) (y 3) : EReal)) (kernelRun0_A.sl.HS3_5 (F := Ideal) c arg4 harg4 arg10 x2) := by
  unfold kernelRun0_A.sl.HS3_5
  exact ⟨
    piece₄ inb_S4x1x640x128_S1x1x512x128_3_0_128_0 _ (fun y : S4x1x640x128.Idx => ((rows (fun _ _ _ => (0 : EReal)) (VB x2)) (y 0) (y 2) (y 3) : EReal))
      (fun _ => 3) (fun _ => 0) (fun a => ⟨128 + a.val, by omega⟩) id (mv_head 3) mv_one (fun _ => rfl) mv_id
      (fun y z a d => (vhead3 c arg4 harg4 arg10 x2 y z a d).trans (rows_ge _ _ _ _ _ a rfl).symm),
    piece₄ inb_S4x1x640x128_S1x1x512x128_2_0_128_0 _ (fun y : S4x1x640x128.Idx => ((rows (fun _ _ _ => (0 : EReal)) (VB x2)) (y 0) (y 2) (y 3) : EReal))
      (fun _ => 2) (fun _ => 0) (fun a => ⟨128 + a.val, by omega⟩) id (mv_head 2) mv_one (fun _ => rfl) mv_id
      (fun y z a d => (vhead2 c arg4 harg4 arg10 x2 y z a d).trans (rows_ge _ _ _ _ _ a rfl).symm),
    piece₄ inb_S4x1x640x128_S1x1x512x128_1_0_128_0 _ (fun y : S4x1x640x128.Idx => ((rows (fun _ _ _ => (0 : EReal)) (VB x2)) (y 0) (y 2) (y 3) : EReal))
      (fun _ => 1) (fun _ => 0) (fun a => ⟨128 + a.val, by omega⟩) id (mv_head 1) mv_one (fun _ => rfl) mv_id
      (fun y z a d => (vhead1 c arg4 harg4 arg10 x2 y z a d).trans (rows_ge _ _ _ _ _ a rfl).symm),
    piece₄ inb_S4x1x640x128_S1x1x512x128_0_0_128_0 _ (fun y : S4x1x640x128.Idx => ((rows (fun _ _ _ => (0 : EReal)) (VB x2)) (y 0) (y 2) (y 3) : EReal))
      (fun _ => 0) (fun _ => 0) (fun a => ⟨128 + a.val, by omega⟩) id (mv_head 0) mv_one (fun _ => rfl) mv_id
      (fun y z a d => (vhead0 c arg4 harg4 arg10 x2 y z a d).trans (rows_ge _ _ _ _ _ a rfl).symm),
    piece₄ inb_S4x1x640x128_S4x1x128x128_0_0_0_0 _ (fun y : S4x1x640x128.Idx => ((rows (fun _ _ _ => (0 : EReal)) (VB x2)) (y 0) (y 2) (y 3) : EReal))
      id (fun _ => 0) (fun a => ⟨a.val, by omega⟩) id mv_id mv_one mv_id mv_id
      (fun h z a d => by
        refine Eq.trans (b := (0 : EReal)) ?_ (rows_lt (fun _ _ _ => (0 : EReal)) (VB x2) h ⟨a.val, by omega⟩ d a rfl).symm
        unfold k0_pay4
        exact (congrFun (shapeCast_self (broadcast S4x1x128x128 (Scalar.ofBits (F := Ideal) .f32 0x00000000#32)) shapeCasts_S4x1x128x128_S4x1x128x128) (ix4 h z a d)).trans ofBits_zero),
    trivial⟩

theorem vrow (h : Fin 4) (b : Fin 640) (d : Fin 128) :
    (View.canon (kernelRun0_A.sl.HS3_5 (F := Ideal) c arg4 harg4 arg10 x2) (ix4 h 0 b d) : EReal) = (rows (fun _ _ _ => (0 : EReal)) (VB x2)) h b d :=
  View.canon_apply_of_pieces (Val := Elt Ideal) (fun y : S4x1x640x128.Idx => ((rows (fun _ _ _ => (0 : EReal)) (VB x2)) (y 0) (y 2) (y 3) : EReal)) (kernelRun0_A.sl.HS3_5 (F := Ideal) c arg4 harg4 arg10 x2) (vrow_pieces c arg4 harg4 arg10 x2).mem (ix4 h 0 b d)
    (View.cover_of_tiledBy (kernelRun0_A.sl.HS3_5 (F := Ideal) c arg4 harg4 arg10 x2) ![1, 1, 128, 128] (by sl_kernel_rfl) _)

theorem q_0_0 (a : Fin 128) (d : Fin 128) :
    ((kernelRun0_A.sl.v163 (F := Ideal) c arg2 harg2 arg5 harg5 arg6 harg6 arg13 x0 x3 x4) (ix3 0 a d) : EReal) = QB x0 x3 x4 0 ⟨128 * ((0 : Fin 4)).val + a.val, by show 0 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_0_0 0 a d _ _ _ rfl rfl (by omega)

theorem k_0_0 (b : Fin 256) (d : Fin 128) :
    ((kernelRun0_A.sl.v166 (F := Ideal) c arg3 harg3 arg5 harg5 arg6 harg6 arg9 arg11 x1 x3 x4) (ix4 0 0 b d) : EReal) = (rows (fun _ _ _ => (0 : EReal)) (rope x1 x3 x4)) 0 ⟨128 * ((0 : Fin 4)).val + b.val, by show 0 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 0 _ d))
  exact emb₄ inb_S4x1x640x128_S1x1x256x128_0_0_0_0 0 0 b d _ _ _ _ rfl rfl rfl (by omega)

theorem v_0_0 (b : Fin 256) (d : Fin 128) :
    ((kernelRun0_A.sl.v169 (F := Ideal) c arg4 harg4 arg10 arg12 x2) (ix4 0 0 b d) : EReal) = (rows (fun _ _ _ => (0 : EReal)) (VB x2)) 0 ⟨128 * ((0 : Fin 4)).val + b.val, by show 0 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 0 _ d))
  exact emb₄ inb_S4x1x640x128_S1x1x256x128_0_0_0_0 0 0 b d _ _ _ _ rfl rfl rfl (by omega)

theorem q_1_0 (a : Fin 128) (d : Fin 128) :
    ((kernelRun0_A.sl.v196 (F := Ideal) c arg2 harg2 arg5 harg5 arg6 harg6 arg13 x0 x3 x4) (ix3 0 a d) : EReal) = QB x0 x3 x4 1 ⟨128 * ((0 : Fin 4)).val + a.val, by show 0 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_0_0 0 a d _ _ _ rfl rfl (by omega)

theorem k_1_0 (b : Fin 256) (d : Fin 128) :
    ((kernelRun0_A.sl.v199 (F := Ideal) c arg3 harg3 arg5 harg5 arg6 harg6 arg9 arg11 x1 x3 x4) (ix4 0 0 b d) : EReal) = (rows (fun _ _ _ => (0 : EReal)) (rope x1 x3 x4)) 1 ⟨128 * ((0 : Fin 4)).val + b.val, by show 0 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 1 _ d))
  exact emb₄ inb_S4x1x640x128_S1x1x256x128_1_0_0_0 0 0 b d _ _ _ _ rfl rfl rfl (by omega)

theorem v_1_0 (b : Fin 256) (d : Fin 128) :
    ((kernelRun0_A.sl.v202 (F := Ideal) c arg4 harg4 arg10 arg12 x2) (ix4 0 0 b d) : EReal) = (rows (fun _ _ _ => (0 : EReal)) (VB x2)) 1 ⟨128 * ((0 : Fin 4)).val + b.val, by show 0 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 1 _ d))
  exact emb₄ inb_S4x1x640x128_S1x1x256x128_1_0_0_0 0 0 b d _ _ _ _ rfl rfl rfl (by omega)

theorem q_2_0 (a : Fin 128) (d : Fin 128) :
    ((kernelRun0_A.sl.v229 (F := Ideal) c arg2 harg2 arg5 harg5 arg6 harg6 arg13 x0 x3 x4) (ix3 0 a d) : EReal) = QB x0 x3 x4 2 ⟨128 * ((0 : Fin 4)).val + a.val, by show 0 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_0_0 0 a d _ _ _ rfl rfl (by omega)

theorem k_2_0 (b : Fin 256) (d : Fin 128) :
    ((kernelRun0_A.sl.v232 (F := Ideal) c arg3 harg3 arg5 harg5 arg6 harg6 arg9 arg11 x1 x3 x4) (ix4 0 0 b d) : EReal) = (rows (fun _ _ _ => (0 : EReal)) (rope x1 x3 x4)) 2 ⟨128 * ((0 : Fin 4)).val + b.val, by show 0 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 2 _ d))
  exact emb₄ inb_S4x1x640x128_S1x1x256x128_2_0_0_0 0 0 b d _ _ _ _ rfl rfl rfl (by omega)

theorem v_2_0 (b : Fin 256) (d : Fin 128) :
    ((kernelRun0_A.sl.v235 (F := Ideal) c arg4 harg4 arg10 arg12 x2) (ix4 0 0 b d) : EReal) = (rows (fun _ _ _ => (0 : EReal)) (VB x2)) 2 ⟨128 * ((0 : Fin 4)).val + b.val, by show 0 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 2 _ d))
  exact emb₄ inb_S4x1x640x128_S1x1x256x128_2_0_0_0 0 0 b d _ _ _ _ rfl rfl rfl (by omega)

theorem q_3_0 (a : Fin 128) (d : Fin 128) :
    ((kernelRun0_A.sl.v262 (F := Ideal) c arg2 harg2 arg5 harg5 arg6 harg6 arg13 x0 x3 x4) (ix3 0 a d) : EReal) = QB x0 x3 x4 3 ⟨128 * ((0 : Fin 4)).val + a.val, by show 0 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_0_0 0 a d _ _ _ rfl rfl (by omega)

theorem k_3_0 (b : Fin 256) (d : Fin 128) :
    ((kernelRun0_A.sl.v265 (F := Ideal) c arg3 harg3 arg5 harg5 arg6 harg6 arg9 arg11 x1 x3 x4) (ix4 0 0 b d) : EReal) = (rows (fun _ _ _ => (0 : EReal)) (rope x1 x3 x4)) 3 ⟨128 * ((0 : Fin 4)).val + b.val, by show 0 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 3 _ d))
  exact emb₄ inb_S4x1x640x128_S1x1x256x128_3_0_0_0 0 0 b d _ _ _ _ rfl rfl rfl (by omega)

theorem v_3_0 (b : Fin 256) (d : Fin 128) :
    ((kernelRun0_A.sl.v268 (F := Ideal) c arg4 harg4 arg10 arg12 x2) (ix4 0 0 b d) : EReal) = (rows (fun _ _ _ => (0 : EReal)) (VB x2)) 3 ⟨128 * ((0 : Fin 4)).val + b.val, by show 0 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 3 _ d))
  exact emb₄ inb_S4x1x640x128_S1x1x256x128_3_0_0_0 0 0 b d _ _ _ _ rfl rfl rfl (by omega)

theorem q_0_1 (a : Fin 128) (d : Fin 128) :
    ((kernelRun0_A.sl.v295 (F := Ideal) c arg2 harg2 arg5 harg5 arg6 harg6 arg13 x0 x3 x4) (ix3 0 a d) : EReal) = QB x0 x3 x4 0 ⟨128 * ((1 : Fin 4)).val + a.val, by show 128 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_128_0 0 a d _ _ _ rfl rfl (by omega)

theorem k_0_1 (b : Fin 256) (d : Fin 128) :
    ((kernelRun0_A.sl.v298 (F := Ideal) c arg3 harg3 arg5 harg5 arg6 harg6 arg9 arg11 x1 x3 x4) (ix4 0 0 b d) : EReal) = (rows (fun _ _ _ => (0 : EReal)) (rope x1 x3 x4)) 0 ⟨128 * ((1 : Fin 4)).val + b.val, by show 128 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 0 _ d))
  exact emb₄ inb_S4x1x640x128_S1x1x256x128_0_0_128_0 0 0 b d _ _ _ _ rfl rfl rfl (by omega)

theorem v_0_1 (b : Fin 256) (d : Fin 128) :
    ((kernelRun0_A.sl.v301 (F := Ideal) c arg4 harg4 arg10 arg12 x2) (ix4 0 0 b d) : EReal) = (rows (fun _ _ _ => (0 : EReal)) (VB x2)) 0 ⟨128 * ((1 : Fin 4)).val + b.val, by show 128 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 0 _ d))
  exact emb₄ inb_S4x1x640x128_S1x1x256x128_0_0_128_0 0 0 b d _ _ _ _ rfl rfl rfl (by omega)

theorem q_1_1 (a : Fin 128) (d : Fin 128) :
    ((kernelRun0_A.sl.v328 (F := Ideal) c arg2 harg2 arg5 harg5 arg6 harg6 arg13 x0 x3 x4) (ix3 0 a d) : EReal) = QB x0 x3 x4 1 ⟨128 * ((1 : Fin 4)).val + a.val, by show 128 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_128_0 0 a d _ _ _ rfl rfl (by omega)

theorem k_1_1 (b : Fin 256) (d : Fin 128) :
    ((kernelRun0_A.sl.v331 (F := Ideal) c arg3 harg3 arg5 harg5 arg6 harg6 arg9 arg11 x1 x3 x4) (ix4 0 0 b d) : EReal) = (rows (fun _ _ _ => (0 : EReal)) (rope x1 x3 x4)) 1 ⟨128 * ((1 : Fin 4)).val + b.val, by show 128 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 1 _ d))
  exact emb₄ inb_S4x1x640x128_S1x1x256x128_1_0_128_0 0 0 b d _ _ _ _ rfl rfl rfl (by omega)

theorem v_1_1 (b : Fin 256) (d : Fin 128) :
    ((kernelRun0_A.sl.v334 (F := Ideal) c arg4 harg4 arg10 arg12 x2) (ix4 0 0 b d) : EReal) = (rows (fun _ _ _ => (0 : EReal)) (VB x2)) 1 ⟨128 * ((1 : Fin 4)).val + b.val, by show 128 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 1 _ d))
  exact emb₄ inb_S4x1x640x128_S1x1x256x128_1_0_128_0 0 0 b d _ _ _ _ rfl rfl rfl (by omega)

theorem q_2_1 (a : Fin 128) (d : Fin 128) :
    ((kernelRun0_A.sl.v361 (F := Ideal) c arg2 harg2 arg5 harg5 arg6 harg6 arg13 x0 x3 x4) (ix3 0 a d) : EReal) = QB x0 x3 x4 2 ⟨128 * ((1 : Fin 4)).val + a.val, by show 128 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_128_0 0 a d _ _ _ rfl rfl (by omega)

theorem k_2_1 (b : Fin 256) (d : Fin 128) :
    ((kernelRun0_A.sl.v364 (F := Ideal) c arg3 harg3 arg5 harg5 arg6 harg6 arg9 arg11 x1 x3 x4) (ix4 0 0 b d) : EReal) = (rows (fun _ _ _ => (0 : EReal)) (rope x1 x3 x4)) 2 ⟨128 * ((1 : Fin 4)).val + b.val, by show 128 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 2 _ d))
  exact emb₄ inb_S4x1x640x128_S1x1x256x128_2_0_128_0 0 0 b d _ _ _ _ rfl rfl rfl (by omega)

theorem v_2_1 (b : Fin 256) (d : Fin 128) :
    ((kernelRun0_A.sl.v367 (F := Ideal) c arg4 harg4 arg10 arg12 x2) (ix4 0 0 b d) : EReal) = (rows (fun _ _ _ => (0 : EReal)) (VB x2)) 2 ⟨128 * ((1 : Fin 4)).val + b.val, by show 128 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 2 _ d))
  exact emb₄ inb_S4x1x640x128_S1x1x256x128_2_0_128_0 0 0 b d _ _ _ _ rfl rfl rfl (by omega)

theorem q_3_1 (a : Fin 128) (d : Fin 128) :
    ((kernelRun0_A.sl.v394 (F := Ideal) c arg2 harg2 arg5 harg5 arg6 harg6 arg13 x0 x3 x4) (ix3 0 a d) : EReal) = QB x0 x3 x4 3 ⟨128 * ((1 : Fin 4)).val + a.val, by show 128 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_128_0 0 a d _ _ _ rfl rfl (by omega)

theorem k_3_1 (b : Fin 256) (d : Fin 128) :
    ((kernelRun0_A.sl.v397 (F := Ideal) c arg3 harg3 arg5 harg5 arg6 harg6 arg9 arg11 x1 x3 x4) (ix4 0 0 b d) : EReal) = (rows (fun _ _ _ => (0 : EReal)) (rope x1 x3 x4)) 3 ⟨128 * ((1 : Fin 4)).val + b.val, by show 128 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 3 _ d))
  exact emb₄ inb_S4x1x640x128_S1x1x256x128_3_0_128_0 0 0 b d _ _ _ _ rfl rfl rfl (by omega)

theorem v_3_1 (b : Fin 256) (d : Fin 128) :
    ((kernelRun0_A.sl.v400 (F := Ideal) c arg4 harg4 arg10 arg12 x2) (ix4 0 0 b d) : EReal) = (rows (fun _ _ _ => (0 : EReal)) (VB x2)) 3 ⟨128 * ((1 : Fin 4)).val + b.val, by show 128 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 3 _ d))
  exact emb₄ inb_S4x1x640x128_S1x1x256x128_3_0_128_0 0 0 b d _ _ _ _ rfl rfl rfl (by omega)

theorem q_0_2 (a : Fin 128) (d : Fin 128) :
    ((kernelRun0_A.sl.v427 (F := Ideal) c arg2 harg2 arg5 harg5 arg6 harg6 arg13 x0 x3 x4) (ix3 0 a d) : EReal) = QB x0 x3 x4 0 ⟨128 * ((2 : Fin 4)).val + a.val, by show 256 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_256_0 0 a d _ _ _ rfl rfl (by omega)

theorem k_0_2 (b : Fin 256) (d : Fin 128) :
    ((kernelRun0_A.sl.v430 (F := Ideal) c arg3 harg3 arg5 harg5 arg6 harg6 arg9 arg11 x1 x3 x4) (ix4 0 0 b d) : EReal) = (rows (fun _ _ _ => (0 : EReal)) (rope x1 x3 x4)) 0 ⟨128 * ((2 : Fin 4)).val + b.val, by show 256 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 0 _ d))
  exact emb₄ inb_S4x1x640x128_S1x1x256x128_0_0_256_0 0 0 b d _ _ _ _ rfl rfl rfl (by omega)

theorem v_0_2 (b : Fin 256) (d : Fin 128) :
    ((kernelRun0_A.sl.v433 (F := Ideal) c arg4 harg4 arg10 arg12 x2) (ix4 0 0 b d) : EReal) = (rows (fun _ _ _ => (0 : EReal)) (VB x2)) 0 ⟨128 * ((2 : Fin 4)).val + b.val, by show 256 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 0 _ d))
  exact emb₄ inb_S4x1x640x128_S1x1x256x128_0_0_256_0 0 0 b d _ _ _ _ rfl rfl rfl (by omega)

theorem q_1_2 (a : Fin 128) (d : Fin 128) :
    ((kernelRun0_A.sl.v460 (F := Ideal) c arg2 harg2 arg5 harg5 arg6 harg6 arg13 x0 x3 x4) (ix3 0 a d) : EReal) = QB x0 x3 x4 1 ⟨128 * ((2 : Fin 4)).val + a.val, by show 256 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_256_0 0 a d _ _ _ rfl rfl (by omega)

theorem k_1_2 (b : Fin 256) (d : Fin 128) :
    ((kernelRun0_A.sl.v463 (F := Ideal) c arg3 harg3 arg5 harg5 arg6 harg6 arg9 arg11 x1 x3 x4) (ix4 0 0 b d) : EReal) = (rows (fun _ _ _ => (0 : EReal)) (rope x1 x3 x4)) 1 ⟨128 * ((2 : Fin 4)).val + b.val, by show 256 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 1 _ d))
  exact emb₄ inb_S4x1x640x128_S1x1x256x128_1_0_256_0 0 0 b d _ _ _ _ rfl rfl rfl (by omega)

theorem v_1_2 (b : Fin 256) (d : Fin 128) :
    ((kernelRun0_A.sl.v466 (F := Ideal) c arg4 harg4 arg10 arg12 x2) (ix4 0 0 b d) : EReal) = (rows (fun _ _ _ => (0 : EReal)) (VB x2)) 1 ⟨128 * ((2 : Fin 4)).val + b.val, by show 256 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 1 _ d))
  exact emb₄ inb_S4x1x640x128_S1x1x256x128_1_0_256_0 0 0 b d _ _ _ _ rfl rfl rfl (by omega)

theorem q_2_2 (a : Fin 128) (d : Fin 128) :
    ((kernelRun0_A.sl.v493 (F := Ideal) c arg2 harg2 arg5 harg5 arg6 harg6 arg13 x0 x3 x4) (ix3 0 a d) : EReal) = QB x0 x3 x4 2 ⟨128 * ((2 : Fin 4)).val + a.val, by show 256 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_256_0 0 a d _ _ _ rfl rfl (by omega)

theorem k_2_2 (b : Fin 256) (d : Fin 128) :
    ((kernelRun0_A.sl.v496 (F := Ideal) c arg3 harg3 arg5 harg5 arg6 harg6 arg9 arg11 x1 x3 x4) (ix4 0 0 b d) : EReal) = (rows (fun _ _ _ => (0 : EReal)) (rope x1 x3 x4)) 2 ⟨128 * ((2 : Fin 4)).val + b.val, by show 256 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 2 _ d))
  exact emb₄ inb_S4x1x640x128_S1x1x256x128_2_0_256_0 0 0 b d _ _ _ _ rfl rfl rfl (by omega)

theorem v_2_2 (b : Fin 256) (d : Fin 128) :
    ((kernelRun0_A.sl.v499 (F := Ideal) c arg4 harg4 arg10 arg12 x2) (ix4 0 0 b d) : EReal) = (rows (fun _ _ _ => (0 : EReal)) (VB x2)) 2 ⟨128 * ((2 : Fin 4)).val + b.val, by show 256 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 2 _ d))
  exact emb₄ inb_S4x1x640x128_S1x1x256x128_2_0_256_0 0 0 b d _ _ _ _ rfl rfl rfl (by omega)

theorem q_3_2 (a : Fin 128) (d : Fin 128) :
    ((kernelRun0_A.sl.v526 (F := Ideal) c arg2 harg2 arg5 harg5 arg6 harg6 arg13 x0 x3 x4) (ix3 0 a d) : EReal) = QB x0 x3 x4 3 ⟨128 * ((2 : Fin 4)).val + a.val, by show 256 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_256_0 0 a d _ _ _ rfl rfl (by omega)

theorem k_3_2 (b : Fin 256) (d : Fin 128) :
    ((kernelRun0_A.sl.v529 (F := Ideal) c arg3 harg3 arg5 harg5 arg6 harg6 arg9 arg11 x1 x3 x4) (ix4 0 0 b d) : EReal) = (rows (fun _ _ _ => (0 : EReal)) (rope x1 x3 x4)) 3 ⟨128 * ((2 : Fin 4)).val + b.val, by show 256 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 3 _ d))
  exact emb₄ inb_S4x1x640x128_S1x1x256x128_3_0_256_0 0 0 b d _ _ _ _ rfl rfl rfl (by omega)

theorem v_3_2 (b : Fin 256) (d : Fin 128) :
    ((kernelRun0_A.sl.v532 (F := Ideal) c arg4 harg4 arg10 arg12 x2) (ix4 0 0 b d) : EReal) = (rows (fun _ _ _ => (0 : EReal)) (VB x2)) 3 ⟨128 * ((2 : Fin 4)).val + b.val, by show 256 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 3 _ d))
  exact emb₄ inb_S4x1x640x128_S1x1x256x128_3_0_256_0 0 0 b d _ _ _ _ rfl rfl rfl (by omega)

theorem q_0_3 (a : Fin 128) (d : Fin 128) :
    ((kernelRun0_A.sl.v559 (F := Ideal) c arg2 harg2 arg5 harg5 arg6 harg6 arg13 x0 x3 x4) (ix3 0 a d) : EReal) = QB x0 x3 x4 0 ⟨128 * ((3 : Fin 4)).val + a.val, by show 384 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_384_0 0 a d _ _ _ rfl rfl (by omega)

theorem k_0_3 (b : Fin 256) (d : Fin 128) :
    ((kernelRun0_A.sl.v562 (F := Ideal) c arg3 harg3 arg5 harg5 arg6 harg6 arg9 arg11 x1 x3 x4) (ix4 0 0 b d) : EReal) = (rows (fun _ _ _ => (0 : EReal)) (rope x1 x3 x4)) 0 ⟨128 * ((3 : Fin 4)).val + b.val, by show 384 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 0 _ d))
  exact emb₄ inb_S4x1x640x128_S1x1x256x128_0_0_384_0 0 0 b d _ _ _ _ rfl rfl rfl (by omega)

theorem v_0_3 (b : Fin 256) (d : Fin 128) :
    ((kernelRun0_A.sl.v565 (F := Ideal) c arg4 harg4 arg10 arg12 x2) (ix4 0 0 b d) : EReal) = (rows (fun _ _ _ => (0 : EReal)) (VB x2)) 0 ⟨128 * ((3 : Fin 4)).val + b.val, by show 384 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 0 _ d))
  exact emb₄ inb_S4x1x640x128_S1x1x256x128_0_0_384_0 0 0 b d _ _ _ _ rfl rfl rfl (by omega)

theorem q_1_3 (a : Fin 128) (d : Fin 128) :
    ((kernelRun0_A.sl.v592 (F := Ideal) c arg2 harg2 arg5 harg5 arg6 harg6 arg13 x0 x3 x4) (ix3 0 a d) : EReal) = QB x0 x3 x4 1 ⟨128 * ((3 : Fin 4)).val + a.val, by show 384 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_384_0 0 a d _ _ _ rfl rfl (by omega)

theorem k_1_3 (b : Fin 256) (d : Fin 128) :
    ((kernelRun0_A.sl.v595 (F := Ideal) c arg3 harg3 arg5 harg5 arg6 harg6 arg9 arg11 x1 x3 x4) (ix4 0 0 b d) : EReal) = (rows (fun _ _ _ => (0 : EReal)) (rope x1 x3 x4)) 1 ⟨128 * ((3 : Fin 4)).val + b.val, by show 384 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 1 _ d))
  exact emb₄ inb_S4x1x640x128_S1x1x256x128_1_0_384_0 0 0 b d _ _ _ _ rfl rfl rfl (by omega)

theorem v_1_3 (b : Fin 256) (d : Fin 128) :
    ((kernelRun0_A.sl.v598 (F := Ideal) c arg4 harg4 arg10 arg12 x2) (ix4 0 0 b d) : EReal) = (rows (fun _ _ _ => (0 : EReal)) (VB x2)) 1 ⟨128 * ((3 : Fin 4)).val + b.val, by show 384 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 1 _ d))
  exact emb₄ inb_S4x1x640x128_S1x1x256x128_1_0_384_0 0 0 b d _ _ _ _ rfl rfl rfl (by omega)

theorem q_2_3 (a : Fin 128) (d : Fin 128) :
    ((kernelRun0_A.sl.v625 (F := Ideal) c arg2 harg2 arg5 harg5 arg6 harg6 arg13 x0 x3 x4) (ix3 0 a d) : EReal) = QB x0 x3 x4 2 ⟨128 * ((3 : Fin 4)).val + a.val, by show 384 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_384_0 0 a d _ _ _ rfl rfl (by omega)

theorem k_2_3 (b : Fin 256) (d : Fin 128) :
    ((kernelRun0_A.sl.v628 (F := Ideal) c arg3 harg3 arg5 harg5 arg6 harg6 arg9 arg11 x1 x3 x4) (ix4 0 0 b d) : EReal) = (rows (fun _ _ _ => (0 : EReal)) (rope x1 x3 x4)) 2 ⟨128 * ((3 : Fin 4)).val + b.val, by show 384 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 2 _ d))
  exact emb₄ inb_S4x1x640x128_S1x1x256x128_2_0_384_0 0 0 b d _ _ _ _ rfl rfl rfl (by omega)

theorem v_2_3 (b : Fin 256) (d : Fin 128) :
    ((kernelRun0_A.sl.v631 (F := Ideal) c arg4 harg4 arg10 arg12 x2) (ix4 0 0 b d) : EReal) = (rows (fun _ _ _ => (0 : EReal)) (VB x2)) 2 ⟨128 * ((3 : Fin 4)).val + b.val, by show 384 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 2 _ d))
  exact emb₄ inb_S4x1x640x128_S1x1x256x128_2_0_384_0 0 0 b d _ _ _ _ rfl rfl rfl (by omega)

theorem q_3_3 (a : Fin 128) (d : Fin 128) :
    ((kernelRun0_A.sl.v658 (F := Ideal) c arg2 harg2 arg5 harg5 arg6 harg6 arg13 x0 x3 x4) (ix3 0 a d) : EReal) = QB x0 x3 x4 3 ⟨128 * ((3 : Fin 4)).val + a.val, by show 384 + a.val < 512; omega⟩ d := by
  refine (congrFun (View.readCov_eq_canon' _ _ _) _).trans (Eq.trans (congrArg (View.canon (kernelRun0_A.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_384_0 0 a d _ _ _ rfl rfl (by omega)

theorem k_3_3 (b : Fin 256) (d : Fin 128) :
    ((kernelRun0_A.sl.v661 (F := Ideal) c arg3 harg3 arg5 harg5 arg6 harg6 arg9 arg11 x1 x3 x4) (ix4 0 0 b d) : EReal) = (rows (fun _ _ _ => (0 : EReal)) (rope x1 x3 x4)) 3 ⟨128 * ((3 : Fin 4)).val + b.val, by show 384 + b.val < 640; omega⟩ d := by
  refine (congrFun (View.readCov_eq_canon' _ _ _) _).trans (Eq.trans (congrArg (View.canon (kernelRun0_A.sl.HS2_5 (F := Ideal) c arg3 harg3 arg5 harg5 arg6 harg6 arg9 x1 x3 x4)) ?_) (krow c arg3 harg3 arg5 harg5 arg6 harg6 arg9 x1 x3 x4 3 _ d))
  exact emb₄ inb_S4x1x640x128_S1x1x256x128_3_0_384_0 0 0 b d _ _ _ _ rfl rfl rfl (by omega)

theorem v_3_3 (b : Fin 256) (d : Fin 128) :
    ((kernelRun0_A.sl.v664 (F := Ideal) c arg4 harg4 arg10 arg12 x2) (ix4 0 0 b d) : EReal) = (rows (fun _ _ _ => (0 : EReal)) (VB x2)) 3 ⟨128 * ((3 : Fin 4)).val + b.val, by show 384 + b.val < 640; omega⟩ d := by
  refine (congrFun (View.readCov_eq_canon' _ _ _) _).trans (Eq.trans (congrArg (View.canon (kernelRun0_A.sl.HS3_5 (F := Ideal) c arg4 harg4 arg10 x2)) ?_) (vrow c arg4 harg4 arg10 x2 3 _ d))
  exact emb₄ inb_S4x1x640x128_S1x1x256x128_3_0_384_0 0 0 b d _ _ _ _ rfl rfl rfl (by omega)

theorem op_0_0 (x : S1x128x128.Idx) :
    oV (sV (maskAt (BitVec.ofNat 32 (i 1).val) 0) nm (kernelRun0_A.sl.v163 (F := Ideal) c arg2 harg2 arg5 harg5 arg6 harg6 arg13 x0 x3 x4) (kernelRun0_A.sl.v166 (F := Ideal) c arg3 harg3 arg5 harg5 arg6 harg6 arg9 arg11 x1 x3 x4) shapeCasts_S1x128x128_S128x128 shapeCasts_S1x1x256x128_S256x128 bitsLt_bf16_f32) (kernelRun0_A.sl.v169 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![0, 0, 0] S1x128x128.size inb_S4x512x128_S1x128x128_0_0_0).emb x) :=
  piece₃ inb_S4x512x128_S1x128x128_0_0_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 0) (fun a => ⟨0 + a.val, by omega⟩) id (mv_head 0) (fun _ => rfl) mv_id
    (fun z a d => o_of (BitVec.ofNat 32 (i 1).val) (QB x0 x3 x4) (rows (fun _ _ _ => (0 : EReal)) (rope x1 x3 x4)) (rows (fun _ _ _ => (0 : EReal)) (VB x2)) 0 0 _ _ _ (q_0_0 c arg2 harg2 arg5 harg5 arg6 harg6 arg13 x0 x3 x4) (k_0_0 c arg3 harg3 arg5 harg5 arg6 harg6 arg9 arg11 x1 x3 x4) (v_0_0 c arg4 harg4 arg10 arg12 x2) _ _ _ _ _ _ _ _ _ _ z a d ⟨0 + a.val, by omega⟩ rfl) x

theorem op_1_0 (x : S1x128x128.Idx) :
    oV (sV (maskAt (BitVec.ofNat 32 (i 1).val) 0) nm (kernelRun0_A.sl.v196 (F := Ideal) c arg2 harg2 arg5 harg5 arg6 harg6 arg13 x0 x3 x4) (kernelRun0_A.sl.v199 (F := Ideal) c arg3 harg3 arg5 harg5 arg6 harg6 arg9 arg11 x1 x3 x4) shapeCasts_S1x128x128_S128x128 shapeCasts_S1x1x256x128_S256x128 bitsLt_bf16_f32) (kernelRun0_A.sl.v202 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![1, 0, 0] S1x128x128.size inb_S4x512x128_S1x128x128_1_0_0).emb x) :=
  piece₃ inb_S4x512x128_S1x128x128_1_0_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 1) (fun a => ⟨0 + a.val, by omega⟩) id (mv_head 1) (fun _ => rfl) mv_id
    (fun z a d => o_of (BitVec.ofNat 32 (i 1).val) (QB x0 x3 x4) (rows (fun _ _ _ => (0 : EReal)) (rope x1 x3 x4)) (rows (fun _ _ _ => (0 : EReal)) (VB x2)) 1 0 _ _ _ (q_1_0 c arg2 harg2 arg5 harg5 arg6 harg6 arg13 x0 x3 x4) (k_1_0 c arg3 harg3 arg5 harg5 arg6 harg6 arg9 arg11 x1 x3 x4) (v_1_0 c arg4 harg4 arg10 arg12 x2) _ _ _ _ _ _ _ _ _ _ z a d ⟨0 + a.val, by omega⟩ rfl) x

theorem op_2_0 (x : S1x128x128.Idx) :
    oV (sV (maskAt (BitVec.ofNat 32 (i 1).val) 0) nm (kernelRun0_A.sl.v229 (F := Ideal) c arg2 harg2 arg5 harg5 arg6 harg6 arg13 x0 x3 x4) (kernelRun0_A.sl.v232 (F := Ideal) c arg3 harg3 arg5 harg5 arg6 harg6 arg9 arg11 x1 x3 x4) shapeCasts_S1x128x128_S128x128 shapeCasts_S1x1x256x128_S256x128 bitsLt_bf16_f32) (kernelRun0_A.sl.v235 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![2, 0, 0] S1x128x128.size inb_S4x512x128_S1x128x128_2_0_0).emb x) :=
  piece₃ inb_S4x512x128_S1x128x128_2_0_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 2) (fun a => ⟨0 + a.val, by omega⟩) id (mv_head 2) (fun _ => rfl) mv_id
    (fun z a d => o_of (BitVec.ofNat 32 (i 1).val) (QB x0 x3 x4) (rows (fun _ _ _ => (0 : EReal)) (rope x1 x3 x4)) (rows (fun _ _ _ => (0 : EReal)) (VB x2)) 2 0 _ _ _ (q_2_0 c arg2 harg2 arg5 harg5 arg6 harg6 arg13 x0 x3 x4) (k_2_0 c arg3 harg3 arg5 harg5 arg6 harg6 arg9 arg11 x1 x3 x4) (v_2_0 c arg4 harg4 arg10 arg12 x2) _ _ _ _ _ _ _ _ _ _ z a d ⟨0 + a.val, by omega⟩ rfl) x

theorem op_3_0 (x : S1x128x128.Idx) :
    oV (sV (maskAt (BitVec.ofNat 32 (i 1).val) 0) nm (kernelRun0_A.sl.v262 (F := Ideal) c arg2 harg2 arg5 harg5 arg6 harg6 arg13 x0 x3 x4) (kernelRun0_A.sl.v265 (F := Ideal) c arg3 harg3 arg5 harg5 arg6 harg6 arg9 arg11 x1 x3 x4) shapeCasts_S1x128x128_S128x128 shapeCasts_S1x1x256x128_S256x128 bitsLt_bf16_f32) (kernelRun0_A.sl.v268 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![3, 0, 0] S1x128x128.size inb_S4x512x128_S1x128x128_3_0_0).emb x) :=
  piece₃ inb_S4x512x128_S1x128x128_3_0_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 3) (fun a => ⟨0 + a.val, by omega⟩) id (mv_head 3) (fun _ => rfl) mv_id
    (fun z a d => o_of (BitVec.ofNat 32 (i 1).val) (QB x0 x3 x4) (rows (fun _ _ _ => (0 : EReal)) (rope x1 x3 x4)) (rows (fun _ _ _ => (0 : EReal)) (VB x2)) 3 0 _ _ _ (q_3_0 c arg2 harg2 arg5 harg5 arg6 harg6 arg13 x0 x3 x4) (k_3_0 c arg3 harg3 arg5 harg5 arg6 harg6 arg9 arg11 x1 x3 x4) (v_3_0 c arg4 harg4 arg10 arg12 x2) _ _ _ _ _ _ _ _ _ _ z a d ⟨0 + a.val, by omega⟩ rfl) x

theorem op_0_1 (x : S1x128x128.Idx) :
    oV (sV (maskAt (BitVec.ofNat 32 (i 1).val) 1) nm (kernelRun0_A.sl.v295 (F := Ideal) c arg2 harg2 arg5 harg5 arg6 harg6 arg13 x0 x3 x4) (kernelRun0_A.sl.v298 (F := Ideal) c arg3 harg3 arg5 harg5 arg6 harg6 arg9 arg11 x1 x3 x4) shapeCasts_S1x128x128_S128x128 shapeCasts_S1x1x256x128_S256x128 bitsLt_bf16_f32) (kernelRun0_A.sl.v301 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![0, 128, 0] S1x128x128.size inb_S4x512x128_S1x128x128_0_128_0).emb x) :=
  piece₃ inb_S4x512x128_S1x128x128_0_128_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 0) (fun a => ⟨128 + a.val, by omega⟩) id (mv_head 0) (fun _ => rfl) mv_id
    (fun z a d => o_of (BitVec.ofNat 32 (i 1).val) (QB x0 x3 x4) (rows (fun _ _ _ => (0 : EReal)) (rope x1 x3 x4)) (rows (fun _ _ _ => (0 : EReal)) (VB x2)) 0 1 _ _ _ (q_0_1 c arg2 harg2 arg5 harg5 arg6 harg6 arg13 x0 x3 x4) (k_0_1 c arg3 harg3 arg5 harg5 arg6 harg6 arg9 arg11 x1 x3 x4) (v_0_1 c arg4 harg4 arg10 arg12 x2) _ _ _ _ _ _ _ _ _ _ z a d ⟨128 + a.val, by omega⟩ rfl) x

theorem op_1_1 (x : S1x128x128.Idx) :
    oV (sV (maskAt (BitVec.ofNat 32 (i 1).val) 1) nm (kernelRun0_A.sl.v328 (F := Ideal) c arg2 harg2 arg5 harg5 arg6 harg6 arg13 x0 x3 x4) (kernelRun0_A.sl.v331 (F := Ideal) c arg3 harg3 arg5 harg5 arg6 harg6 arg9 arg11 x1 x3 x4) shapeCasts_S1x128x128_S128x128 shapeCasts_S1x1x256x128_S256x128 bitsLt_bf16_f32) (kernelRun0_A.sl.v334 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![1, 128, 0] S1x128x128.size inb_S4x512x128_S1x128x128_1_128_0).emb x) :=
  piece₃ inb_S4x512x128_S1x128x128_1_128_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 1) (fun a => ⟨128 + a.val, by omega⟩) id (mv_head 1) (fun _ => rfl) mv_id
    (fun z a d => o_of (BitVec.ofNat 32 (i 1).val) (QB x0 x3 x4) (rows (fun _ _ _ => (0 : EReal)) (rope x1 x3 x4)) (rows (fun _ _ _ => (0 : EReal)) (VB x2)) 1 1 _ _ _ (q_1_1 c arg2 harg2 arg5 harg5 arg6 harg6 arg13 x0 x3 x4) (k_1_1 c arg3 harg3 arg5 harg5 arg6 harg6 arg9 arg11 x1 x3 x4) (v_1_1 c arg4 harg4 arg10 arg12 x2) _ _ _ _ _ _ _ _ _ _ z a d ⟨128 + a.val, by omega⟩ rfl) x

theorem op_2_1 (x : S1x128x128.Idx) :
    oV (sV (maskAt (BitVec.ofNat 32 (i 1).val) 1) nm (kernelRun0_A.sl.v361 (F := Ideal) c arg2 harg2 arg5 harg5 arg6 harg6 arg13 x0 x3 x4) (kernelRun0_A.sl.v364 (F := Ideal) c arg3 harg3 arg5 harg5 arg6 harg6 arg9 arg11 x1 x3 x4) shapeCasts_S1x128x128_S128x128 shapeCasts_S1x1x256x128_S256x128 bitsLt_bf16_f32) (kernelRun0_A.sl.v367 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![2, 128, 0] S1x128x128.size inb_S4x512x128_S1x128x128_2_128_0).emb x) :=
  piece₃ inb_S4x512x128_S1x128x128_2_128_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 2) (fun a => ⟨128 + a.val, by omega⟩) id (mv_head 2) (fun _ => rfl) mv_id
    (fun z a d => o_of (BitVec.ofNat 32 (i 1).val) (QB x0 x3 x4) (rows (fun _ _ _ => (0 : EReal)) (rope x1 x3 x4)) (rows (fun _ _ _ => (0 : EReal)) (VB x2)) 2 1 _ _ _ (q_2_1 c arg2 harg2 arg5 harg5 arg6 harg6 arg13 x0 x3 x4) (k_2_1 c arg3 harg3 arg5 harg5 arg6 harg6 arg9 arg11 x1 x3 x4) (v_2_1 c arg4 harg4 arg10 arg12 x2) _ _ _ _ _ _ _ _ _ _ z a d ⟨128 + a.val, by omega⟩ rfl) x

theorem op_3_1 (x : S1x128x128.Idx) :
    oV (sV (maskAt (BitVec.ofNat 32 (i 1).val) 1) nm (kernelRun0_A.sl.v394 (F := Ideal) c arg2 harg2 arg5 harg5 arg6 harg6 arg13 x0 x3 x4) (kernelRun0_A.sl.v397 (F := Ideal) c arg3 harg3 arg5 harg5 arg6 harg6 arg9 arg11 x1 x3 x4) shapeCasts_S1x128x128_S128x128 shapeCasts_S1x1x256x128_S256x128 bitsLt_bf16_f32) (kernelRun0_A.sl.v400 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![3, 128, 0] S1x128x128.size inb_S4x512x128_S1x128x128_3_128_0).emb x) :=
  piece₃ inb_S4x512x128_S1x128x128_3_128_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 3) (fun a => ⟨128 + a.val, by omega⟩) id (mv_head 3) (fun _ => rfl) mv_id
    (fun z a d => o_of (BitVec.ofNat 32 (i 1).val) (QB x0 x3 x4) (rows (fun _ _ _ => (0 : EReal)) (rope x1 x3 x4)) (rows (fun _ _ _ => (0 : EReal)) (VB x2)) 3 1 _ _ _ (q_3_1 c arg2 harg2 arg5 harg5 arg6 harg6 arg13 x0 x3 x4) (k_3_1 c arg3 harg3 arg5 harg5 arg6 harg6 arg9 arg11 x1 x3 x4) (v_3_1 c arg4 harg4 arg10 arg12 x2) _ _ _ _ _ _ _ _ _ _ z a d ⟨128 + a.val, by omega⟩ rfl) x

theorem op_0_2 (x : S1x128x128.Idx) :
    oV (sV (maskAt (BitVec.ofNat 32 (i 1).val) 2) nm (kernelRun0_A.sl.v427 (F := Ideal) c arg2 harg2 arg5 harg5 arg6 harg6 arg13 x0 x3 x4) (kernelRun0_A.sl.v430 (F := Ideal) c arg3 harg3 arg5 harg5 arg6 harg6 arg9 arg11 x1 x3 x4) shapeCasts_S1x128x128_S128x128 shapeCasts_S1x1x256x128_S256x128 bitsLt_bf16_f32) (kernelRun0_A.sl.v433 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![0, 256, 0] S1x128x128.size inb_S4x512x128_S1x128x128_0_256_0).emb x) :=
  piece₃ inb_S4x512x128_S1x128x128_0_256_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 0) (fun a => ⟨256 + a.val, by omega⟩) id (mv_head 0) (fun _ => rfl) mv_id
    (fun z a d => o_of (BitVec.ofNat 32 (i 1).val) (QB x0 x3 x4) (rows (fun _ _ _ => (0 : EReal)) (rope x1 x3 x4)) (rows (fun _ _ _ => (0 : EReal)) (VB x2)) 0 2 _ _ _ (q_0_2 c arg2 harg2 arg5 harg5 arg6 harg6 arg13 x0 x3 x4) (k_0_2 c arg3 harg3 arg5 harg5 arg6 harg6 arg9 arg11 x1 x3 x4) (v_0_2 c arg4 harg4 arg10 arg12 x2) _ _ _ _ _ _ _ _ _ _ z a d ⟨256 + a.val, by omega⟩ rfl) x

theorem op_1_2 (x : S1x128x128.Idx) :
    oV (sV (maskAt (BitVec.ofNat 32 (i 1).val) 2) nm (kernelRun0_A.sl.v460 (F := Ideal) c arg2 harg2 arg5 harg5 arg6 harg6 arg13 x0 x3 x4) (kernelRun0_A.sl.v463 (F := Ideal) c arg3 harg3 arg5 harg5 arg6 harg6 arg9 arg11 x1 x3 x4) shapeCasts_S1x128x128_S128x128 shapeCasts_S1x1x256x128_S256x128 bitsLt_bf16_f32) (kernelRun0_A.sl.v466 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![1, 256, 0] S1x128x128.size inb_S4x512x128_S1x128x128_1_256_0).emb x) :=
  piece₃ inb_S4x512x128_S1x128x128_1_256_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 1) (fun a => ⟨256 + a.val, by omega⟩) id (mv_head 1) (fun _ => rfl) mv_id
    (fun z a d => o_of (BitVec.ofNat 32 (i 1).val) (QB x0 x3 x4) (rows (fun _ _ _ => (0 : EReal)) (rope x1 x3 x4)) (rows (fun _ _ _ => (0 : EReal)) (VB x2)) 1 2 _ _ _ (q_1_2 c arg2 harg2 arg5 harg5 arg6 harg6 arg13 x0 x3 x4) (k_1_2 c arg3 harg3 arg5 harg5 arg6 harg6 arg9 arg11 x1 x3 x4) (v_1_2 c arg4 harg4 arg10 arg12 x2) _ _ _ _ _ _ _ _ _ _ z a d ⟨256 + a.val, by omega⟩ rfl) x

theorem op_2_2 (x : S1x128x128.Idx) :
    oV (sV (maskAt (BitVec.ofNat 32 (i 1).val) 2) nm (kernelRun0_A.sl.v493 (F := Ideal) c arg2 harg2 arg5 harg5 arg6 harg6 arg13 x0 x3 x4) (kernelRun0_A.sl.v496 (F := Ideal) c arg3 harg3 arg5 harg5 arg6 harg6 arg9 arg11 x1 x3 x4) shapeCasts_S1x128x128_S128x128 shapeCasts_S1x1x256x128_S256x128 bitsLt_bf16_f32) (kernelRun0_A.sl.v499 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![2, 256, 0] S1x128x128.size inb_S4x512x128_S1x128x128_2_256_0).emb x) :=
  piece₃ inb_S4x512x128_S1x128x128_2_256_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 2) (fun a => ⟨256 + a.val, by omega⟩) id (mv_head 2) (fun _ => rfl) mv_id
    (fun z a d => o_of (BitVec.ofNat 32 (i 1).val) (QB x0 x3 x4) (rows (fun _ _ _ => (0 : EReal)) (rope x1 x3 x4)) (rows (fun _ _ _ => (0 : EReal)) (VB x2)) 2 2 _ _ _ (q_2_2 c arg2 harg2 arg5 harg5 arg6 harg6 arg13 x0 x3 x4) (k_2_2 c arg3 harg3 arg5 harg5 arg6 harg6 arg9 arg11 x1 x3 x4) (v_2_2 c arg4 harg4 arg10 arg12 x2) _ _ _ _ _ _ _ _ _ _ z a d ⟨256 + a.val, by omega⟩ rfl) x

theorem op_3_2 (x : S1x128x128.Idx) :
    oV (sV (maskAt (BitVec.ofNat 32 (i 1).val) 2) nm (kernelRun0_A.sl.v526 (F := Ideal) c arg2 harg2 arg5 harg5 arg6 harg6 arg13 x0 x3 x4) (kernelRun0_A.sl.v529 (F := Ideal) c arg3 harg3 arg5 harg5 arg6 harg6 arg9 arg11 x1 x3 x4) shapeCasts_S1x128x128_S128x128 shapeCasts_S1x1x256x128_S256x128 bitsLt_bf16_f32) (kernelRun0_A.sl.v532 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![3, 256, 0] S1x128x128.size inb_S4x512x128_S1x128x128_3_256_0).emb x) :=
  piece₃ inb_S4x512x128_S1x128x128_3_256_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 3) (fun a => ⟨256 + a.val, by omega⟩) id (mv_head 3) (fun _ => rfl) mv_id
    (fun z a d => o_of (BitVec.ofNat 32 (i 1).val) (QB x0 x3 x4) (rows (fun _ _ _ => (0 : EReal)) (rope x1 x3 x4)) (rows (fun _ _ _ => (0 : EReal)) (VB x2)) 3 2 _ _ _ (q_3_2 c arg2 harg2 arg5 harg5 arg6 harg6 arg13 x0 x3 x4) (k_3_2 c arg3 harg3 arg5 harg5 arg6 harg6 arg9 arg11 x1 x3 x4) (v_3_2 c arg4 harg4 arg10 arg12 x2) _ _ _ _ _ _ _ _ _ _ z a d ⟨256 + a.val, by omega⟩ rfl) x

theorem op_0_3 (x : S1x128x128.Idx) :
    oV (sV (maskAt (BitVec.ofNat 32 (i 1).val) 3) nm (kernelRun0_A.sl.v559 (F := Ideal) c arg2 harg2 arg5 harg5 arg6 harg6 arg13 x0 x3 x4) (kernelRun0_A.sl.v562 (F := Ideal) c arg3 harg3 arg5 harg5 arg6 harg6 arg9 arg11 x1 x3 x4) shapeCasts_S1x128x128_S128x128 shapeCasts_S1x1x256x128_S256x128 bitsLt_bf16_f32) (kernelRun0_A.sl.v565 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![0, 384, 0] S1x128x128.size inb_S4x512x128_S1x128x128_0_384_0).emb x) :=
  piece₃ inb_S4x512x128_S1x128x128_0_384_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 0) (fun a => ⟨384 + a.val, by omega⟩) id (mv_head 0) (fun _ => rfl) mv_id
    (fun z a d => o_of (BitVec.ofNat 32 (i 1).val) (QB x0 x3 x4) (rows (fun _ _ _ => (0 : EReal)) (rope x1 x3 x4)) (rows (fun _ _ _ => (0 : EReal)) (VB x2)) 0 3 _ _ _ (q_0_3 c arg2 harg2 arg5 harg5 arg6 harg6 arg13 x0 x3 x4) (k_0_3 c arg3 harg3 arg5 harg5 arg6 harg6 arg9 arg11 x1 x3 x4) (v_0_3 c arg4 harg4 arg10 arg12 x2) _ _ _ _ _ _ _ _ _ _ z a d ⟨384 + a.val, by omega⟩ rfl) x

theorem op_1_3 (x : S1x128x128.Idx) :
    oV (sV (maskAt (BitVec.ofNat 32 (i 1).val) 3) nm (kernelRun0_A.sl.v592 (F := Ideal) c arg2 harg2 arg5 harg5 arg6 harg6 arg13 x0 x3 x4) (kernelRun0_A.sl.v595 (F := Ideal) c arg3 harg3 arg5 harg5 arg6 harg6 arg9 arg11 x1 x3 x4) shapeCasts_S1x128x128_S128x128 shapeCasts_S1x1x256x128_S256x128 bitsLt_bf16_f32) (kernelRun0_A.sl.v598 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![1, 384, 0] S1x128x128.size inb_S4x512x128_S1x128x128_1_384_0).emb x) :=
  piece₃ inb_S4x512x128_S1x128x128_1_384_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 1) (fun a => ⟨384 + a.val, by omega⟩) id (mv_head 1) (fun _ => rfl) mv_id
    (fun z a d => o_of (BitVec.ofNat 32 (i 1).val) (QB x0 x3 x4) (rows (fun _ _ _ => (0 : EReal)) (rope x1 x3 x4)) (rows (fun _ _ _ => (0 : EReal)) (VB x2)) 1 3 _ _ _ (q_1_3 c arg2 harg2 arg5 harg5 arg6 harg6 arg13 x0 x3 x4) (k_1_3 c arg3 harg3 arg5 harg5 arg6 harg6 arg9 arg11 x1 x3 x4) (v_1_3 c arg4 harg4 arg10 arg12 x2) _ _ _ _ _ _ _ _ _ _ z a d ⟨384 + a.val, by omega⟩ rfl) x

theorem op_2_3 (x : S1x128x128.Idx) :
    oV (sV (maskAt (BitVec.ofNat 32 (i 1).val) 3) nm (kernelRun0_A.sl.v625 (F := Ideal) c arg2 harg2 arg5 harg5 arg6 harg6 arg13 x0 x3 x4) (kernelRun0_A.sl.v628 (F := Ideal) c arg3 harg3 arg5 harg5 arg6 harg6 arg9 arg11 x1 x3 x4) shapeCasts_S1x128x128_S128x128 shapeCasts_S1x1x256x128_S256x128 bitsLt_bf16_f32) (kernelRun0_A.sl.v631 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![2, 384, 0] S1x128x128.size inb_S4x512x128_S1x128x128_2_384_0).emb x) :=
  piece₃ inb_S4x512x128_S1x128x128_2_384_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 2) (fun a => ⟨384 + a.val, by omega⟩) id (mv_head 2) (fun _ => rfl) mv_id
    (fun z a d => o_of (BitVec.ofNat 32 (i 1).val) (QB x0 x3 x4) (rows (fun _ _ _ => (0 : EReal)) (rope x1 x3 x4)) (rows (fun _ _ _ => (0 : EReal)) (VB x2)) 2 3 _ _ _ (q_2_3 c arg2 harg2 arg5 harg5 arg6 harg6 arg13 x0 x3 x4) (k_2_3 c arg3 harg3 arg5 harg5 arg6 harg6 arg9 arg11 x1 x3 x4) (v_2_3 c arg4 harg4 arg10 arg12 x2) _ _ _ _ _ _ _ _ _ _ z a d ⟨384 + a.val, by omega⟩ rfl) x

theorem op_3_3 (x : S1x128x128.Idx) :
    oV (sV (maskAt (BitVec.ofNat 32 (i 1).val) 3) nm (kernelRun0_A.sl.v658 (F := Ideal) c arg2 harg2 arg5 harg5 arg6 harg6 arg13 x0 x3 x4) (kernelRun0_A.sl.v661 (F := Ideal) c arg3 harg3 arg5 harg5 arg6 harg6 arg9 arg11 x1 x3 x4) shapeCasts_S1x128x128_S128x128 shapeCasts_S1x1x256x128_S256x128 bitsLt_bf16_f32) (kernelRun0_A.sl.v664 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) ((Rect.unit (s := S4x512x128) ![3, 384, 0] S1x128x128.size inb_S4x512x128_S1x128x128_3_384_0).emb x) :=
  piece₃ inb_S4x512x128_S1x128x128_3_384_0 _ (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal))
    (fun _ => 3) (fun a => ⟨384 + a.val, by omega⟩) id (mv_head 3) (fun _ => rfl) mv_id
    (fun z a d => o_of (BitVec.ofNat 32 (i 1).val) (QB x0 x3 x4) (rows (fun _ _ _ => (0 : EReal)) (rope x1 x3 x4)) (rows (fun _ _ _ => (0 : EReal)) (VB x2)) 3 3 _ _ _ (q_3_3 c arg2 harg2 arg5 harg5 arg6 harg6 arg13 x0 x3 x4) (k_3_3 c arg3 harg3 arg5 harg5 arg6 harg6 arg9 arg11 x1 x3 x4) (v_3_3 c arg4 harg4 arg10 arg12 x2) _ _ _ _ _ _ _ _ _ _ z a d ⟨384 + a.val, by omega⟩ rfl) x

theorem obuf (h : Fin 4) (a : Fin 512) (d : Fin 128) :
    (View.canon (kernelRun0_A.sl.HS5_16 (F := Ideal) c i arg2 harg2 arg3 harg3 arg4 harg4 arg5 harg5 arg6 harg6 arg9 arg10 arg11 arg12 arg13 x0 x1 x2 x3 x4) (ix3 h a d) : EReal) = OB (BitVec.ofNat 32 (i 1).val) (QB x0 x3 x4) (rows (fun _ _ _ => (0 : EReal)) (rope x1 x3 x4)) (rows (fun _ _ _ => (0 : EReal)) (VB x2)) h a d := by
  have hp : View.PiecesOf (Val := Elt Ideal) (e := .f32) (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) (kernelRun0_A.sl.HS5_16 (F := Ideal) c i arg2 harg2 arg3 harg3 arg4 harg4 arg5 harg5 arg6 harg6 arg9 arg10 arg11 arg12 arg13 x0 x1 x2 x3 x4) := by
    unfold kernelRun0_A.sl.HS5_16
    exact ⟨op_3_3 c i arg2 harg2 arg3 harg3 arg4 harg4 arg5 harg5 arg6 harg6 arg9 arg10 arg11 arg12 arg13 x0 x1 x2 x3 x4, op_2_3 c i arg2 harg2 arg3 harg3 arg4 harg4 arg5 harg5 arg6 harg6 arg9 arg10 arg11 arg12 arg13 x0 x1 x2 x3 x4, op_1_3 c i arg2 harg2 arg3 harg3 arg4 harg4 arg5 harg5 arg6 harg6 arg9 arg10 arg11 arg12 arg13 x0 x1 x2 x3 x4, op_0_3 c i arg2 harg2 arg3 harg3 arg4 harg4 arg5 harg5 arg6 harg6 arg9 arg10 arg11 arg12 arg13 x0 x1 x2 x3 x4, op_3_2 c i arg2 harg2 arg3 harg3 arg4 harg4 arg5 harg5 arg6 harg6 arg9 arg10 arg11 arg12 arg13 x0 x1 x2 x3 x4, op_2_2 c i arg2 harg2 arg3 harg3 arg4 harg4 arg5 harg5 arg6 harg6 arg9 arg10 arg11 arg12 arg13 x0 x1 x2 x3 x4, op_1_2 c i arg2 harg2 arg3 harg3 arg4 harg4 arg5 harg5 arg6 harg6 arg9 arg10 arg11 arg12 arg13 x0 x1 x2 x3 x4, op_0_2 c i arg2 harg2 arg3 harg3 arg4 harg4 arg5 harg5 arg6 harg6 arg9 arg10 arg11 arg12 arg13 x0 x1 x2 x3 x4, op_3_1 c i arg2 harg2 arg3 harg3 arg4 harg4 arg5 harg5 arg6 harg6 arg9 arg10 arg11 arg12 arg13 x0 x1 x2 x3 x4, op_2_1 c i arg2 harg2 arg3 harg3 arg4 harg4 arg5 harg5 arg6 harg6 arg9 arg10 arg11 arg12 arg13 x0 x1 x2 x3 x4, op_1_1 c i arg2 harg2 arg3 harg3 arg4 harg4 arg5 harg5 arg6 harg6 arg9 arg10 arg11 arg12 arg13 x0 x1 x2 x3 x4, op_0_1 c i arg2 harg2 arg3 harg3 arg4 harg4 arg5 harg5 arg6 harg6 arg9 arg10 arg11 arg12 arg13 x0 x1 x2 x3 x4, op_3_0 c i arg2 harg2 arg3 harg3 arg4 harg4 arg5 harg5 arg6 harg6 arg9 arg10 arg11 arg12 arg13 x0 x1 x2 x3 x4, op_2_0 c i arg2 harg2 arg3 harg3 arg4 harg4 arg5 harg5 arg6 harg6 arg9 arg10 arg11 arg12 arg13 x0 x1 x2 x3 x4, op_1_0 c i arg2 harg2 arg3 harg3 arg4 harg4 arg5 harg5 arg6 harg6 arg9 arg10 arg11 arg12 arg13 x0 x1 x2 x3 x4, op_0_0 c i arg2 harg2 arg3 harg3 arg4 harg4 arg5 harg5 arg6 harg6 arg9 arg10 arg11 arg12 arg13 x0 x1 x2 x3 x4, trivial⟩
  exact View.canon_apply_of_pieces (fun y : S4x512x128.Idx => (OB (BitVec.ofNat 32 (i 1).val) (QB x0 x3 x4) (rows (fun _ _ _ => (0 : EReal)) (rope x1 x3 x4)) (rows (fun _ _ _ => (0 : EReal)) (VB x2)) (y 0) (y 1) (y 2) : EReal)) (kernelRun0_A.sl.HS5_16 (F := Ideal) c i arg2 harg2 arg3 harg3 arg4 harg4 arg5 harg5 arg6 harg6 arg9 arg10 arg11 arg12 arg13 x0 x1 x2 x3 x4) hp.mem (ix3 h a d) (View.cover_of_tiledL (kernelRun0_A.sl.HS5_16 (F := Ideal) c i arg2 harg2 arg3 harg3 arg4 harg4 arg5 harg5 arg6 harg6 arg9 arg10 arg11 arg12 arg13 x0 x1 x2 x3 x4) S1x128x128.size (by sl_kernel_rfl) _)

theorem lp_0_0 (x : S1x128x128.Idx) :
    lV (sV (maskAt (BitVec.ofNat 32 (i 1).val) 0) nm (kernelRun0_A.sl.v163 (F := Ideal) c arg2 harg2 arg5 harg5 arg6 harg6 arg13 x0 x3 x4) (kernelRun0_A.sl.v166 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![0, 0, 0] S1x128x128.size inb_S4x512x128_S1x128x128_0_0_0).emb x) :=
  piece₃ inb_S4x512x128_S1x128x128_0_0_0 _ (fun y : S4x512x128.Idx => (LB (BitVec.ofNat 32 (i 1).val) (QB x0 x3 x4) (rows (fun _ _ _ => (0 : EReal)) (rope x1 x3 x4)) (y 0) (y 1) : EReal))
    (fun _ => 0) (fun a => ⟨0 + a.val, by omega⟩) id (mv_head 0) (fun _ => rfl) mv_id
    (fun z a d => l_of (BitVec.ofNat 32 (i 1).val) (QB x0 x3 x4) (rows (fun _ _ _ => (0 : EReal)) (rope x1 x3 x4)) 0 0 _ _ (q_0_0 c arg2 harg2 arg5 harg5 arg6 harg6 arg13 x0 x3 x4) (k_0_0 c arg3 harg3 arg5 harg5 arg6 harg6 arg9 arg11 x1 x3 x4) _ _ _ _ _ _ _ _ _ z a d ⟨0 + a.val, by omega⟩ rfl) x

theorem lp_1_0 (x : S1x128x128.Idx) :
    lV (sV (maskAt (BitVec.ofNat 32 (i 1).val) 0) nm (kernelRun0_A.sl.v196 (F := Ideal) c arg2 harg2 arg5 harg5 arg6 harg6 arg13 x0 x3 x4) (kernelRun0_A.sl.v199 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![1, 0, 0] S1x128x128.size inb_S4x512x128_S1x128x128_1_0_0).emb x) :=
  piece₃ inb_S4x512x128_S1x128x128_1_0_0 _ (fun y : S4x512x128.Idx => (LB (BitVec.ofNat 32 (i 1).val) (QB x0 x3 x4) (rows (fun _ _ _ => (0 : EReal)) (rope x1 x3 x4)) (y 0) (y 1) : EReal))
    (fun _ => 1) (fun a => ⟨0 + a.val, by omega⟩) id (mv_head 1) (fun _ => rfl) mv_id
    (fun z a d => l_of (BitVec.ofNat 32 (i 1).val) (QB x0 x3 x4) (rows (fun _ _ _ => (0 : EReal)) (rope x1 x3 x4)) 1 0 _ _ (q_1_0 c arg2 harg2 arg5 harg5 arg6 harg6 arg13 x0 x3 x4) (k_1_0 c arg3 harg3 arg5 harg5 arg6 harg6 arg9 arg11 x1 x3 x4) _ _ _ _ _ _ _ _ _ z a d ⟨0 + a.val, by omega⟩ rfl) x

theorem lp_2_0 (x : S1x128x128.Idx) :
    lV (sV (maskAt (BitVec.ofNat 32 (i 1).val) 0) nm (kernelRun0_A.sl.v229 (F := Ideal) c arg2 harg2 arg5 harg5 arg6 harg6 arg13 x0 x3 x4) (kernelRun0_A.sl.v232 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![2, 0, 0] S1x128x128.size inb_S4x512x128_S1x128x128_2_0_0).emb x) :=
  piece₃ inb_S4x512x128_S1x128x128_2_0_0 _ (fun y : S4x512x128.Idx => (LB (BitVec.ofNat 32 (i 1).val) (QB x0 x3 x4) (rows (fun _ _ _ => (0 : EReal)) (rope x1 x3 x4)) (y 0) (y 1) : EReal))
    (fun _ => 2) (fun a => ⟨0 + a.val, by omega⟩) id (mv_head 2) (fun _ => rfl) mv_id
    (fun z a d => l_of (BitVec.ofNat 32 (i 1).val) (QB x0 x3 x4) (rows (fun _ _ _ => (0 : EReal)) (rope x1 x3 x4)) 2 0 _ _ (q_2_0 c arg2 harg2 arg5 harg5 arg6 harg6 arg13 x0 x3 x4) (k_2_0 c arg3 harg3 arg5 harg5 arg6 harg6 arg9 arg11 x1 x3 x4) _ _ _ _ _ _ _ _ _ z a d ⟨0 + a.val, by omega⟩ rfl) x

theorem lp_3_0 (x : S1x128x128.Idx) :
    lV (sV (maskAt (BitVec.ofNat 32 (i 1).val) 0) nm (kernelRun0_A.sl.v262 (F := Ideal) c arg2 harg2 arg5 harg5 arg6 harg6 arg13 x0 x3 x4) (kernelRun0_A.sl.v265 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![3, 0, 0] S1x128x128.size inb_S4x512x128_S1x128x128_3_0_0).emb x) :=
  piece₃ inb_S4x512x128_S1x128x128_3_0_0 _ (fun y : S4x512x128.Idx => (LB (BitVec.ofNat 32 (i 1).val) (QB x0 x3 x4) (rows (fun _ _ _ => (0 : EReal)) (rope x1 x3 x4)) (y 0) (y 1) : EReal))
    (fun _ => 3) (fun a => ⟨0 + a.val, by omega⟩) id (mv_head 3) (fun _ => rfl) mv_id
    (fun z a d => l_of (BitVec.ofNat 32 (i 1).val) (QB x0 x3 x4) (rows (fun _ _ _ => (0 : EReal)) (rope x1 x3 x4)) 3 0 _ _ (q_3_0 c arg2 harg2 arg5 harg5 arg6 harg6 arg13 x0 x3 x4) (k_3_0 c arg3 harg3 arg5 harg5 arg6 harg6 arg9 arg11 x1 x3 x4) _ _ _ _ _ _ _ _ _ z a d ⟨0 + a.val, by omega⟩ rfl) x

theorem lp_0_1 (x : S1x128x128.Idx) :
    lV (sV (maskAt (BitVec.ofNat 32 (i 1).val) 1) nm (kernelRun0_A.sl.v295 (F := Ideal) c arg2 harg2 arg5 harg5 arg6 harg6 arg13 x0 x3 x4) (kernelRun0_A.sl.v298 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![0, 128, 0] S1x128x128.size inb_S4x512x128_S1x128x128_0_128_0).emb x) :=
  piece₃ inb_S4x512x128_S1x128x128_0_128_0 _ (fun y : S4x512x128.Idx => (LB (BitVec.ofNat 32 (i 1).val) (QB x0 x3 x4) (rows (fun _ _ _ => (0 : EReal)) (rope x1 x3 x4)) (y 0) (y 1) : EReal))
    (fun _ => 0) (fun a => ⟨128 + a.val, by omega⟩) id (mv_head 0) (fun _ => rfl) mv_id
    (fun z a d => l_of (BitVec.ofNat 32 (i 1).val) (QB x0 x3 x4) (rows (fun _ _ _ => (0 : EReal)) (rope x1 x3 x4)) 0 1 _ _ (q_0_1 c arg2 harg2 arg5 harg5 arg6 harg6 arg13 x0 x3 x4) (k_0_1 c arg3 harg3 arg5 harg5 arg6 harg6 arg9 arg11 x1 x3 x4) _ _ _ _ _ _ _ _ _ z a d ⟨128 + a.val, by omega⟩ rfl) x

theorem lp_1_1 (x : S1x128x128.Idx) :
    lV (sV (maskAt (BitVec.ofNat 32 (i 1).val) 1) nm (kernelRun0_A.sl.v328 (F := Ideal) c arg2 harg2 arg5 harg5 arg6 harg6 arg13 x0 x3 x4) (kernelRun0_A.sl.v331 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![1, 128, 0] S1x128x128.size inb_S4x512x128_S1x128x128_1_128_0).emb x) :=
  piece₃ inb_S4x512x128_S1x128x128_1_128_0 _ (fun y : S4x512x128.Idx => (LB (BitVec.ofNat 32 (i 1).val) (QB x0 x3 x4) (rows (fun _ _ _ => (0 : EReal)) (rope x1 x3 x4)) (y 0) (y 1) : EReal))
    (fun _ => 1) (fun a => ⟨128 + a.val, by omega⟩) id (mv_head 1) (fun _ => rfl) mv_id
    (fun z a d => l_of (BitVec.ofNat 32 (i 1).val) (QB x0 x3 x4) (rows (fun _ _ _ => (0 : EReal)) (rope x1 x3 x4)) 1 1 _ _ (q_1_1 c arg2 harg2 arg5 harg5 arg6 harg6 arg13 x0 x3 x4) (k_1_1 c arg3 harg3 arg5 harg5 arg6 harg6 arg9 arg11 x1 x3 x4) _ _ _ _ _ _ _ _ _ z a d ⟨128 + a.val, by omega⟩ rfl) x

theorem lp_2_1 (x : S1x128x128.Idx) :
    lV (sV (maskAt (BitVec.ofNat 32 (i 1).val) 1) nm (kernelRun0_A.sl.v361 (F := Ideal) c arg2 harg2 arg5 harg5 arg6 harg6 arg13 x0 x3 x4) (kernelRun0_A.sl.v364 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![2, 128, 0] S1x128x128.size inb_S4x512x128_S1x128x128_2_128_0).emb x) :=
  piece₃ inb_S4x512x128_S1x128x128_2_128_0 _ (fun y : S4x512x128.Idx => (LB (BitVec.ofNat 32 (i 1).val) (QB x0 x3 x4) (rows (fun _ _ _ => (0 : EReal)) (rope x1 x3 x4)) (y 0) (y 1) : EReal))
    (fun _ => 2) (fun a => ⟨128 + a.val, by omega⟩) id (mv_head 2) (fun _ => rfl) mv_id
    (fun z a d => l_of (BitVec.ofNat 32 (i 1).val) (QB x0 x3 x4) (rows (fun _ _ _ => (0 : EReal)) (rope x1 x3 x4)) 2 1 _ _ (q_2_1 c arg2 harg2 arg5 harg5 arg6 harg6 arg13 x0 x3 x4) (k_2_1 c arg3 harg3 arg5 harg5 arg6 harg6 arg9 arg11 x1 x3 x4) _ _ _ _ _ _ _ _ _ z a d ⟨128 + a.val, by omega⟩ rfl) x

theorem lp_3_1 (x : S1x128x128.Idx) :
    lV (sV (maskAt (BitVec.ofNat 32 (i 1).val) 1) nm (kernelRun0_A.sl.v394 (F := Ideal) c arg2 harg2 arg5 harg5 arg6 harg6 arg13 x0 x3 x4) (kernelRun0_A.sl.v397 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![3, 128, 0] S1x128x128.size inb_S4x512x128_S1x128x128_3_128_0).emb x) :=
  piece₃ inb_S4x512x128_S1x128x128_3_128_0 _ (fun y : S4x512x128.Idx => (LB (BitVec.ofNat 32 (i 1).val) (QB x0 x3 x4) (rows (fun _ _ _ => (0 : EReal)) (rope x1 x3 x4)) (y 0) (y 1) : EReal))
    (fun _ => 3) (fun a => ⟨128 + a.val, by omega⟩) id (mv_head 3) (fun _ => rfl) mv_id
    (fun z a d => l_of (BitVec.ofNat 32 (i 1).val) (QB x0 x3 x4) (rows (fun _ _ _ => (0 : EReal)) (rope x1 x3 x4)) 3 1 _ _ (q_3_1 c arg2 harg2 arg5 harg5 arg6 harg6 arg13 x0 x3 x4) (k_3_1 c arg3 harg3 arg5 harg5 arg6 harg6 arg9 arg11 x1 x3 x4) _ _ _ _ _ _ _ _ _ z a d ⟨128 + a.val, by omega⟩ rfl) x

theorem lp_0_2 (x : S1x128x128.Idx) :
    lV (sV (maskAt (BitVec.ofNat 32 (i 1).val) 2) nm (kernelRun0_A.sl.v427 (F := Ideal) c arg2 harg2 arg5 harg5 arg6 harg6 arg13 x0 x3 x4) (kernelRun0_A.sl.v430 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![0, 256, 0] S1x128x128.size inb_S4x512x128_S1x128x128_0_256_0).emb x) :=
  piece₃ inb_S4x512x128_S1x128x128_0_256_0 _ (fun y : S4x512x128.Idx => (LB (BitVec.ofNat 32 (i 1).val) (QB x0 x3 x4) (rows (fun _ _ _ => (0 : EReal)) (rope x1 x3 x4)) (y 0) (y 1) : EReal))
    (fun _ => 0) (fun a => ⟨256 + a.val, by omega⟩) id (mv_head 0) (fun _ => rfl) mv_id
    (fun z a d => l_of (BitVec.ofNat 32 (i 1).val) (QB x0 x3 x4) (rows (fun _ _ _ => (0 : EReal)) (rope x1 x3 x4)) 0 2 _ _ (q_0_2 c arg2 harg2 arg5 harg5 arg6 harg6 arg13 x0 x3 x4) (k_0_2 c arg3 harg3 arg5 harg5 arg6 harg6 arg9 arg11 x1 x3 x4) _ _ _ _ _ _ _ _ _ z a d ⟨256 + a.val, by omega⟩ rfl) x

theorem lp_1_2 (x : S1x128x128.Idx) :
    lV (sV (maskAt (BitVec.ofNat 32 (i 1).val) 2) nm (kernelRun0_A.sl.v460 (F := Ideal) c arg2 harg2 arg5 harg5 arg6 harg6 arg13 x0 x3 x4) (kernelRun0_A.sl.v463 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![1, 256, 0] S1x128x128.size inb_S4x512x128_S1x128x128_1_256_0).emb x) :=
  piece₃ inb_S4x512x128_S1x128x128_1_256_0 _ (fun y : S4x512x128.Idx => (LB (BitVec.ofNat 32 (i 1).val) (QB x0 x3 x4) (rows (fun _ _ _ => (0 : EReal)) (rope x1 x3 x4)) (y 0) (y 1) : EReal))
    (fun _ => 1) (fun a => ⟨256 + a.val, by omega⟩) id (mv_head 1) (fun _ => rfl) mv_id
    (fun z a d => l_of (BitVec.ofNat 32 (i 1).val) (QB x0 x3 x4) (rows (fun _ _ _ => (0 : EReal)) (rope x1 x3 x4)) 1 2 _ _ (q_1_2 c arg2 harg2 arg5 harg5 arg6 harg6 arg13 x0 x3 x4) (k_1_2 c arg3 harg3 arg5 harg5 arg6 harg6 arg9 arg11 x1 x3 x4) _ _ _ _ _ _ _ _ _ z a d ⟨256 + a.val, by omega⟩ rfl) x

theorem lp_2_2 (x : S1x128x128.Idx) :
    lV (sV (maskAt (BitVec.ofNat 32 (i 1).val) 2) nm (kernelRun0_A.sl.v493 (F := Ideal) c arg2 harg2 arg5 harg5 arg6 harg6 arg13 x0 x3 x4) (kernelRun0_A.sl.v496 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![2, 256, 0] S1x128x128.size inb_S4x512x128_S1x128x128_2_256_0).emb x) :=
  piece₃ inb_S4x512x128_S1x128x128_2_256_0 _ (fun y : S4x512x128.Idx => (LB (BitVec.ofNat 32 (i 1).val) (QB x0 x3 x4) (rows (fun _ _ _ => (0 : EReal)) (rope x1 x3 x4)) (y 0) (y 1) : EReal))
    (fun _ => 2) (fun a => ⟨256 + a.val, by omega⟩) id (mv_head 2) (fun _ => rfl) mv_id
    (fun z a d => l_of (BitVec.ofNat 32 (i 1).val) (QB x0 x3 x4) (rows (fun _ _ _ => (0 : EReal)) (rope x1 x3 x4)) 2 2 _ _ (q_2_2 c arg2 harg2 arg5 harg5 arg6 harg6 arg13 x0 x3 x4) (k_2_2 c arg3 harg3 arg5 harg5 arg6 harg6 arg9 arg11 x1 x3 x4) _ _ _ _ _ _ _ _ _ z a d ⟨256 + a.val, by omega⟩ rfl) x

theorem lp_3_2 (x : S1x128x128.Idx) :
    lV (sV (maskAt (BitVec.ofNat 32 (i 1).val) 2) nm (kernelRun0_A.sl.v526 (F := Ideal) c arg2 harg2 arg5 harg5 arg6 harg6 arg13 x0 x3 x4) (kernelRun0_A.sl.v529 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![3, 256, 0] S1x128x128.size inb_S4x512x128_S1x128x128_3_256_0).emb x) :=
  piece₃ inb_S4x512x128_S1x128x128_3_256_0 _ (fun y : S4x512x128.Idx => (LB (BitVec.ofNat 32 (i 1).val) (QB x0 x3 x4) (rows (fun _ _ _ => (0 : EReal)) (rope x1 x3 x4)) (y 0) (y 1) : EReal))
    (fun _ => 3) (fun a => ⟨256 + a.val, by omega⟩) id (mv_head 3) (fun _ => rfl) mv_id
    (fun z a d => l_of (BitVec.ofNat 32 (i 1).val) (QB x0 x3 x4) (rows (fun _ _ _ => (0 : EReal)) (rope x1 x3 x4)) 3 2 _ _ (q_3_2 c arg2 harg2 arg5 harg5 arg6 harg6 arg13 x0 x3 x4) (k_3_2 c arg3 harg3 arg5 harg5 arg6 harg6 arg9 arg11 x1 x3 x4) _ _ _ _ _ _ _ _ _ z a d ⟨256 + a.val, by omega⟩ rfl) x

theorem lp_0_3 (x : S1x128x128.Idx) :
    lV (sV (maskAt (BitVec.ofNat 32 (i 1).val) 3) nm (kernelRun0_A.sl.v559 (F := Ideal) c arg2 harg2 arg5 harg5 arg6 harg6 arg13 x0 x3 x4) (kernelRun0_A.sl.v562 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![0, 384, 0] S1x128x128.size inb_S4x512x128_S1x128x128_0_384_0).emb x) :=
  piece₃ inb_S4x512x128_S1x128x128_0_384_0 _ (fun y : S4x512x128.Idx => (LB (BitVec.ofNat 32 (i 1).val) (QB x0 x3 x4) (rows (fun _ _ _ => (0 : EReal)) (rope x1 x3 x4)) (y 0) (y 1) : EReal))
    (fun _ => 0) (fun a => ⟨384 + a.val, by omega⟩) id (mv_head 0) (fun _ => rfl) mv_id
    (fun z a d => l_of (BitVec.ofNat 32 (i 1).val) (QB x0 x3 x4) (rows (fun _ _ _ => (0 : EReal)) (rope x1 x3 x4)) 0 3 _ _ (q_0_3 c arg2 harg2 arg5 harg5 arg6 harg6 arg13 x0 x3 x4) (k_0_3 c arg3 harg3 arg5 harg5 arg6 harg6 arg9 arg11 x1 x3 x4) _ _ _ _ _ _ _ _ _ z a d ⟨384 + a.val, by omega⟩ rfl) x

theorem lp_1_3 (x : S1x128x128.Idx) :
    lV (sV (maskAt (BitVec.ofNat 32 (i 1).val) 3) nm (kernelRun0_A.sl.v592 (F := Ideal) c arg2 harg2 arg5 harg5 arg6 harg6 arg13 x0 x3 x4) (kernelRun0_A.sl.v595 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![1, 384, 0] S1x128x128.size inb_S4x512x128_S1x128x128_1_384_0).emb x) :=
  piece₃ inb_S4x512x128_S1x128x128_1_384_0 _ (fun y : S4x512x128.Idx => (LB (BitVec.ofNat 32 (i 1).val) (QB x0 x3 x4) (rows (fun _ _ _ => (0 : EReal)) (rope x1 x3 x4)) (y 0) (y 1) : EReal))
    (fun _ => 1) (fun a => ⟨384 + a.val, by omega⟩) id (mv_head 1) (fun _ => rfl) mv_id
    (fun z a d => l_of (BitVec.ofNat 32 (i 1).val) (QB x0 x3 x4) (rows (fun _ _ _ => (0 : EReal)) (rope x1 x3 x4)) 1 3 _ _ (q_1_3 c arg2 harg2 arg5 harg5 arg6 harg6 arg13 x0 x3 x4) (k_1_3 c arg3 harg3 arg5 harg5 arg6 harg6 arg9 arg11 x1 x3 x4) _ _ _ _ _ _ _ _ _ z a d ⟨384 + a.val, by omega⟩ rfl) x

theorem lp_2_3 (x : S1x128x128.Idx) :
    lV (sV (maskAt (BitVec.ofNat 32 (i 1).val) 3) nm (kernelRun0_A.sl.v625 (F := Ideal) c arg2 harg2 arg5 harg5 arg6 harg6 arg13 x0 x3 x4) (kernelRun0_A.sl.v628 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![2, 384, 0] S1x128x128.size inb_S4x512x128_S1x128x128_2_384_0).emb x) :=
  piece₃ inb_S4x512x128_S1x128x128_2_384_0 _ (fun y : S4x512x128.Idx => (LB (BitVec.ofNat 32 (i 1).val) (QB x0 x3 x4) (rows (fun _ _ _ => (0 : EReal)) (rope x1 x3 x4)) (y 0) (y 1) : EReal))
    (fun _ => 2) (fun a => ⟨384 + a.val, by omega⟩) id (mv_head 2) (fun _ => rfl) mv_id
    (fun z a d => l_of (BitVec.ofNat 32 (i 1).val) (QB x0 x3 x4) (rows (fun _ _ _ => (0 : EReal)) (rope x1 x3 x4)) 2 3 _ _ (q_2_3 c arg2 harg2 arg5 harg5 arg6 harg6 arg13 x0 x3 x4) (k_2_3 c arg3 harg3 arg5 harg5 arg6 harg6 arg9 arg11 x1 x3 x4) _ _ _ _ _ _ _ _ _ z a d ⟨384 + a.val, by omega⟩ rfl) x

theorem lp_3_3 (x : S1x128x128.Idx) :
    lV (sV (maskAt (BitVec.ofNat 32 (i 1).val) 3) nm (kernelRun0_A.sl.v658 (F := Ideal) c arg2 harg2 arg5 harg5 arg6 harg6 arg13 x0 x3 x4) (kernelRun0_A.sl.v661 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun _ _ _ => (0 : EReal)) (rope x1 x3 x4)) (y 0) (y 1) : EReal)) ((Rect.unit (s := S4x512x128) ![3, 384, 0] S1x128x128.size inb_S4x512x128_S1x128x128_3_384_0).emb x) :=
  piece₃ inb_S4x512x128_S1x128x128_3_384_0 _ (fun y : S4x512x128.Idx => (LB (BitVec.ofNat 32 (i 1).val) (QB x0 x3 x4) (rows (fun _ _ _ => (0 : EReal)) (rope x1 x3 x4)) (y 0) (y 1) : EReal))
    (fun _ => 3) (fun a => ⟨384 + a.val, by omega⟩) id (mv_head 3) (fun _ => rfl) mv_id
    (fun z a d => l_of (BitVec.ofNat 32 (i 1).val) (QB x0 x3 x4) (rows (fun _ _ _ => (0 : EReal)) (rope x1 x3 x4)) 3 3 _ _ (q_3_3 c arg2 harg2 arg5 harg5 arg6 harg6 arg13 x0 x3 x4) (k_3_3 c arg3 harg3 arg5 harg5 arg6 harg6 arg9 arg11 x1 x3 x4) _ _ _ _ _ _ _ _ _ z a d ⟨384 + a.val, by omega⟩ rfl) x

theorem lbuf (h : Fin 4) (a : Fin 512) (d : Fin 128) :
    (View.canon (kernelRun0_A.sl.HS6_16 (F := Ideal) c i arg2 harg2 arg3 harg3 arg5 harg5 arg6 harg6 arg9 arg11 arg13 x0 x1 x3 x4) (ix3 h a d) : EReal) = LB (BitVec.ofNat 32 (i 1).val) (QB x0 x3 x4) (rows (fun _ _ _ => (0 : EReal)) (rope x1 x3 x4)) h a := by
  have hp : View.PiecesOf (Val := Elt Ideal) (e := .f32) (fun y : S4x512x128.Idx => (LB (BitVec.ofNat 32 (i 1).val) (QB x0 x3 x4) (rows (fun _ _ _ => (0 : EReal)) (rope x1 x3 x4)) (y 0) (y 1) : EReal)) (kernelRun0_A.sl.HS6_16 (F := Ideal) c i arg2 harg2 arg3 harg3 arg5 harg5 arg6 harg6 arg9 arg11 arg13 x0 x1 x3 x4) := by
    unfold kernelRun0_A.sl.HS6_16
    exact ⟨lp_3_3 c i arg2 harg2 arg3 harg3 arg5 harg5 arg6 harg6 arg9 arg11 arg13 x0 x1 x3 x4, lp_2_3 c i arg2 harg2 arg3 harg3 arg5 harg5 arg6 harg6 arg9 arg11 arg13 x0 x1 x3 x4, lp_1_3 c i arg2 harg2 arg3 harg3 arg5 harg5 arg6 harg6 arg9 arg11 arg13 x0 x1 x3 x4, lp_0_3 c i arg2 harg2 arg3 harg3 arg5 harg5 arg6 harg6 arg9 arg11 arg13 x0 x1 x3 x4, lp_3_2 c i arg2 harg2 arg3 harg3 arg5 harg5 arg6 harg6 arg9 arg11 arg13 x0 x1 x3 x4, lp_2_2 c i arg2 harg2 arg3 harg3 arg5 harg5 arg6 harg6 arg9 arg11 arg13 x0 x1 x3 x4, lp_1_2 c i arg2 harg2 arg3 harg3 arg5 harg5 arg6 harg6 arg9 arg11 arg13 x0 x1 x3 x4, lp_0_2 c i arg2 harg2 arg3 harg3 arg5 harg5 arg6 harg6 arg9 arg11 arg13 x0 x1 x3 x4, lp_3_1 c i arg2 harg2 arg3 harg3 arg5 harg5 arg6 harg6 arg9 arg11 arg13 x0 x1 x3 x4, lp_2_1 c i arg2 harg2 arg3 harg3 arg5 harg5 arg6 harg6 arg9 arg11 arg13 x0 x1 x3 x4, lp_1_1 c i arg2 harg2 arg3 harg3 arg5 harg5 arg6 harg6 arg9 arg11 arg13 x0 x1 x3 x4, lp_0_1 c i arg2 harg2 arg3 harg3 arg5 harg5 arg6 harg6 arg9 arg11 arg13 x0 x1 x3 x4, lp_3_0 c i arg2 harg2 arg3 harg3 arg5 harg5 arg6 harg6 arg9 arg11 arg13 x0 x1 x3 x4, lp_2_0 c i arg2 harg2 arg3 harg3 arg5 harg5 arg6 harg6 arg9 arg11 arg13 x0 x1 x3 x4, lp_1_0 c i arg2 harg2 arg3 harg3 arg5 harg5 arg6 harg6 arg9 arg11 arg13 x0 x1 x3 x4, lp_0_0 c i arg2 harg2 arg3 harg3 arg5 harg5 arg6 harg6 arg9 arg11 arg13 x0 x1 x3 x4, trivial⟩
  exact View.canon_apply_of_pieces (fun y : S4x512x128.Idx => (LB (BitVec.ofNat 32 (i 1).val) (QB x0 x3 x4) (rows (fun _ _ _ => (0 : EReal)) (rope x1 x3 x4)) (y 0) (y 1) : EReal)) (kernelRun0_A.sl.HS6_16 (F := Ideal) c i arg2 harg2 arg3 harg3 arg5 harg5 arg6 harg6 arg9 arg11 arg13 x0 x1 x3 x4) hp.mem (ix3 h a d) (View.cover_of_tiledL (kernelRun0_A.sl.HS6_16 (F := Ideal) c i arg2 harg2 arg3 harg3 arg5 harg5 arg6 harg6 arg9 arg11 arg13 x0 x1 x3 x4) S1x128x128.size (by sl_kernel_rfl) _)

theorem out5 (y : S512x512.Idx) :
    (out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 y : EReal) = (OB (BitVec.ofNat 32 (i 1).val) (QB x0 x3 x4) (rows (fun _ _ _ => (0 : EReal)) (rope x1 x3 x4)) (rows (fun _ _ _ => (0 : EReal)) (VB x2)) ⟨(y 1).val / 128, by have h1 : (y 1).val < 512 := (y 1).isLt; omega⟩ (y 0) ⟨(y 1).val % 128, Nat.mod_lt _ (by norm_num)⟩ : EReal) := by
  unfold out0_A_5
  rw [View.read_writes_junk_eq_canon]
  have hp : View.PiecesOf (Val := Elt Ideal) (e := .bf16) (fun y : S512x512.Idx => (OB (BitVec.ofNat 32 (i 1).val) (QB x0 x3 x4) (rows (fun _ _ _ => (0 : EReal)) (rope x1 x3 x4)) (rows (fun _ _ _ => (0 : EReal)) (VB x2)) ⟨(y 1).val / 128, by have h1 : (y 1).val < 512 := (y 1).isLt; omega⟩ (y 0) ⟨(y 1).val % 128, Nat.mod_lt _ (by norm_num)⟩ : EReal)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1 := ⟨
    piece₂ inb_S512x512_S512x128_0_384 _ (fun y : S512x512.Idx => (OB (BitVec.ofNat 32 (i 1).val) (QB x0 x3 x4) (rows (fun _ _ _ => (0 : EReal)) (rope x1 x3 x4)) (rows (fun _ _ _ => (0 : EReal)) (VB x2)) ⟨(y 1).val / 128, by have h1 : (y 1).val < 512 := (y 1).isLt; omega⟩ (y 0) ⟨(y 1).val % 128, Nat.mod_lt _ (by norm_num)⟩ : EReal))
      id (fun d => ⟨384 + d.val, by omega⟩) mv_id (fun _ => rfl)
      (fun a d => (cast_3_2 (φ := .f32) (kernelRun0_A.sl.v712 (F := Ideal) c i arg2 harg2 arg3 harg3 arg4 harg4 arg5 harg5 arg6 harg6 arg9 arg10 arg11 arg12 arg13 arg14 x0 x1 x2 x3 x4) shapeCasts_S1x512x128_S512x128 a d).trans
        ((congrFun (View.readCov_eq_canon' _ _ _) _).trans ((congrArg (View.canon (kernelRun0_A.sl.HS5_16 (F := Ideal) c i arg2 harg2 arg3 harg3 arg4 harg4 arg5 harg5 arg6 harg6 arg9 arg10 arg11 arg12 arg13 x0 x1 x2 x3 x4))
          (emb₃ inb_S4x512x128_S1x512x128_3_0_0 0 a d 3 a d rfl (mv_id a) (mv_id d))).trans ((obuf c i arg2 harg2 arg3 harg3 arg4 harg4 arg5 harg5 arg6 harg6 arg9 arg10 arg11 arg12 arg13 x0 x1 x2 x3 x4 3 a d).trans (by
            have e1 : (3 : Fin 4) = ⟨(384 + d.val) / 128, by omega⟩ := Fin.ext (by show 3 = (384 + d.val) / 128; omega)
            have e3 : d = ⟨(384 + d.val) % 128, Nat.mod_lt _ (by norm_num)⟩ := Fin.ext (by show d.val = (384 + d.val) % 128; omega)
            exact (congrArg (fun u => OB (BitVec.ofNat 32 (i 1).val) (QB x0 x3 x4) (rows (fun _ _ _ => (0 : EReal)) (rope x1 x3 x4)) (rows (fun _ _ _ => (0 : EReal)) (VB x2)) u a d) e1).trans (congrArg (fun u => OB (BitVec.ofNat 32 (i 1).val) (QB x0 x3 x4) (rows (fun _ _ _ => (0 : EReal)) (rope x1 x3 x4)) (rows (fun _ _ _ => (0 : EReal)) (VB x2)) _ a u) e3)))))),
    piece₂ inb_S512x512_S512x128_0_256 _ (fun y : S512x512.Idx => (OB (BitVec.ofNat 32 (i 1).val) (QB x0 x3 x4) (rows (fun _ _ _ => (0 : EReal)) (rope x1 x3 x4)) (rows (fun _ _ _ => (0 : EReal)) (VB x2)) ⟨(y 1).val / 128, by have h1 : (y 1).val < 512 := (y 1).isLt; omega⟩ (y 0) ⟨(y 1).val % 128, Nat.mod_lt _ (by norm_num)⟩ : EReal))
      id (fun d => ⟨256 + d.val, by omega⟩) mv_id (fun _ => rfl)
      (fun a d => (cast_3_2 (φ := .f32) (kernelRun0_A.sl.v705 (F := Ideal) c i arg2 harg2 arg3 harg3 arg4 harg4 arg5 harg5 arg6 harg6 arg9 arg10 arg11 arg12 arg13 arg14 x0 x1 x2 x3 x4) shapeCasts_S1x512x128_S512x128 a d).trans
        ((congrFun (View.readCov_eq_canon' _ _ _) _).trans ((congrArg (View.canon (kernelRun0_A.sl.HS5_16 (F := Ideal) c i arg2 harg2 arg3 harg3 arg4 harg4 arg5 harg5 arg6 harg6 arg9 arg10 arg11 arg12 arg13 x0 x1 x2 x3 x4))
          (emb₃ inb_S4x512x128_S1x512x128_2_0_0 0 a d 2 a d rfl (mv_id a) (mv_id d))).trans ((obuf c i arg2 harg2 arg3 harg3 arg4 harg4 arg5 harg5 arg6 harg6 arg9 arg10 arg11 arg12 arg13 x0 x1 x2 x3 x4 2 a d).trans (by
            have e1 : (2 : Fin 4) = ⟨(256 + d.val) / 128, by omega⟩ := Fin.ext (by show 2 = (256 + d.val) / 128; omega)
            have e3 : d = ⟨(256 + d.val) % 128, Nat.mod_lt _ (by norm_num)⟩ := Fin.ext (by show d.val = (256 + d.val) % 128; omega)
            exact (congrArg (fun u => OB (BitVec.ofNat 32 (i 1).val) (QB x0 x3 x4) (rows (fun _ _ _ => (0 : EReal)) (rope x1 x3 x4)) (rows (fun _ _ _ => (0 : EReal)) (VB x2)) u a d) e1).trans (congrArg (fun u => OB (BitVec.ofNat 32 (i 1).val) (QB x0 x3 x4) (rows (fun _ _ _ => (0 : EReal)) (rope x1 x3 x4)) (rows (fun _ _ _ => (0 : EReal)) (VB x2)) _ a u) e3)))))),
    piece₂ inb_S512x512_S512x128_0_128 _ (fun y : S512x512.Idx => (OB (BitVec.ofNat 32 (i 1).val) (QB x0 x3 x4) (rows (fun _ _ _ => (0 : EReal)) (rope x1 x3 x4)) (rows (fun _ _ _ => (0 : EReal)) (VB x2)) ⟨(y 1).val / 128, by have h1 : (y 1).val < 512 := (y 1).isLt; omega⟩ (y 0) ⟨(y 1).val % 128, Nat.mod_lt _ (by norm_num)⟩ : EReal))
      id (fun d => ⟨128 + d.val, by omega⟩) mv_id (fun _ => rfl)
      (fun a d => (cast_3_2 (φ := .f32) (kernelRun0_A.sl.v (F := Ideal) c i arg2 harg2 arg3 harg3 arg4 harg4 arg5 harg5 arg6 harg6 arg9 arg10 arg11 arg12 arg13 arg14 x0 x1 x2 x3 x4) shapeCasts_S1x512x128_S512x128 a d).trans
        ((congrFun (View.readCov_eq_canon' _ _ _) _).trans ((congrArg (View.canon (kernelRun0_A.sl.HS5_16 (F := Ideal) c i arg2 harg2 arg3 harg3 arg4 harg4 arg5 harg5 arg6 harg6 arg9 arg10 arg11 arg12 arg13 x0 x1 x2 x3 x4))
          (emb₃ inb_S4x512x128_S1x512x128_1_0_0 0 a d 1 a d rfl (mv_id a) (mv_id d))).trans ((obuf c i arg2 harg2 arg3 harg3 arg4 harg4 arg5 harg5 arg6 harg6 arg9 arg10 arg11 arg12 arg13 x0 x1 x2 x3 x4 1 a d).trans (by
            have e1 : (1 : Fin 4) = ⟨(128 + d.val) / 128, by omega⟩ := Fin.ext (by show 1 = (128 + d.val) / 128; omega)
            have e3 : d = ⟨(128 + d.val) % 128, Nat.mod_lt _ (by norm_num)⟩ := Fin.ext (by show d.val = (128 + d.val) % 128; omega)
            exact (congrArg (fun u => OB (BitVec.ofNat 32 (i 1).val) (QB x0 x3 x4) (rows (fun _ _ _ => (0 : EReal)) (rope x1 x3 x4)) (rows (fun _ _ _ => (0 : EReal)) (VB x2)) u a d) e1).trans (congrArg (fun u => OB (BitVec.ofNat 32 (i 1).val) (QB x0 x3 x4) (rows (fun _ _ _ => (0 : EReal)) (rope x1 x3 x4)) (rows (fun _ _ _ => (0 : EReal)) (VB x2)) _ a u) e3)))))),
    piece₂ inb_S512x512_S512x128_0_0 _ (fun y : S512x512.Idx => (OB (BitVec.ofNat 32 (i 1).val) (QB x0 x3 x4) (rows (fun _ _ _ => (0 : EReal)) (rope x1 x3 x4)) (rows (fun _ _ _ => (0 : EReal)) (VB x2)) ⟨(y 1).val / 128, by have h1 : (y 1).val < 512 := (y 1).isLt; omega⟩ (y 0) ⟨(y 1).val % 128, Nat.mod_lt _ (by norm_num)⟩ : EReal))
      id (fun d => ⟨0 + d.val, by omega⟩) mv_id (fun _ => rfl)
      (fun a d => (cast_3_2 (φ := .f32) (kernelRun0_A.sl.v691 (F := Ideal) c i arg2 harg2 arg3 harg3 arg4 harg4 arg5 harg5 arg6 harg6 arg9 arg10 arg11 arg12 arg13 arg14 x0 x1 x2 x3 x4) shapeCasts_S1x512x128_S512x128 a d).trans
        ((congrFun (View.readCov_eq_canon' _ _ _) _).trans ((congrArg (View.canon (kernelRun0_A.sl.HS5_16 (F := Ideal) c i arg2 harg2 arg3 harg3 arg4 harg4 arg5 harg5 arg6 harg6 arg9 arg10 arg11 arg12 arg13 x0 x1 x2 x3 x4))
          (emb₃ inb_S4x512x128_S1x512x128_0_0_0 0 a d 0 a d rfl (mv_id a) (mv_id d))).trans ((obuf c i arg2 harg2 arg3 harg3 arg4 harg4 arg5 harg5 arg6 harg6 arg9 arg10 arg11 arg12 arg13 x0 x1 x2 x3 x4 0 a d).trans (by
            have e1 : (0 : Fin 4) = ⟨(0 + d.val) / 128, by omega⟩ := Fin.ext (by show 0 = (0 + d.val) / 128; omega)
            have e3 : d = ⟨(0 + d.val) % 128, Nat.mod_lt _ (by norm_num)⟩ := Fin.ext (by show d.val = (0 + d.val) % 128; omega)
            exact (congrArg (fun u => OB (BitVec.ofNat 32 (i 1).val) (QB x0 x3 x4) (rows (fun _ _ _ => (0 : EReal)) (rope x1 x3 x4)) (rows (fun _ _ _ => (0 : EReal)) (VB x2)) u a d) e1).trans (congrArg (fun u => OB (BitVec.ofNat 32 (i 1).val) (QB x0 x3 x4) (rows (fun _ _ _ => (0 : EReal)) (rope x1 x3 x4)) (rows (fun _ _ _ => (0 : EReal)) (VB x2)) _ a u) e3)))))),
    trivial⟩
  exact View.canon_apply_of_pieces (fun y : S512x512.Idx => (OB (BitVec.ofNat 32 (i 1).val) (QB x0 x3 x4) (rows (fun _ _ _ => (0 : EReal)) (rope x1 x3 x4)) (rows (fun _ _ _ => (0 : EReal)) (VB x2)) ⟨(y 1).val / 128, by have h1 : (y 1).val < 512 := (y 1).isLt; omega⟩ (y 0) ⟨(y 1).val % 128, Nat.mod_lt _ (by norm_num)⟩ : EReal)) _ hp.mem y (cover0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 y)

theorem out6 (y : S512x512.Idx) :
    (out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 y : EReal) = (LB (BitVec.ofNat 32 (i 1).val) (QB x0 x3 x4) (rows (fun _ _ _ => (0 : EReal)) (rope x1 x3 x4)) ⟨(y 1).val / 128, by have h1 : (y 1).val < 512 := (y 1).isLt; omega⟩ (y 0) : EReal) := by
  unfold out0_A_6
  rw [View.read_writes_junk_eq_canon]
  have hp : View.PiecesOf (Val := Elt Ideal) (e := .f32) (fun y : S512x512.Idx => (LB (BitVec.ofNat 32 (i 1).val) (QB x0 x3 x4) (rows (fun _ _ _ => (0 : EReal)) (rope x1 x3 x4)) ⟨(y 1).val / 128, by have h1 : (y 1).val < 512 := (y 1).isLt; omega⟩ (y 0) : EReal)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.1 := ⟨
    piece₂ inb_S512x512_S512x128_0_384 _ (fun y : S512x512.Idx => (LB (BitVec.ofNat 32 (i 1).val) (QB x0 x3 x4) (rows (fun _ _ _ => (0 : EReal)) (rope x1 x3 x4)) ⟨(y 1).val / 128, by have h1 : (y 1).val < 512 := (y 1).isLt; omega⟩ (y 0) : EReal))
      id (fun d => ⟨384 + d.val, by omega⟩) mv_id (fun _ => rfl)
      (fun a d => (cast_3_2 (φ := .f32) (kernelRun0_A.sl.v716 (F := Ideal) c i arg2 harg2 arg3 harg3 arg5 harg5 arg6 harg6 arg9 arg11 arg13 arg15 x0 x1 x3 x4) shapeCasts_S1x512x128_S512x128 a d).trans
        ((congrFun (View.readCov_eq_canon' _ _ _) _).trans ((congrArg (View.canon (kernelRun0_A.sl.HS6_16 (F := Ideal) c i arg2 harg2 arg3 harg3 arg5 harg5 arg6 harg6 arg9 arg11 arg13 x0 x1 x3 x4))
          (emb₃ inb_S4x512x128_S1x512x128_3_0_0 0 a d 3 a d rfl (mv_id a) (mv_id d))).trans ((lbuf c i arg2 harg2 arg3 harg3 arg5 harg5 arg6 harg6 arg9 arg11 arg13 x0 x1 x3 x4 3 a d).trans (by
            have e1 : (3 : Fin 4) = ⟨(384 + d.val) / 128, by omega⟩ := Fin.ext (by show 3 = (384 + d.val) / 128; omega)
            have e3 : d = ⟨(384 + d.val) % 128, Nat.mod_lt _ (by norm_num)⟩ := Fin.ext (by show d.val = (384 + d.val) % 128; omega)
            exact congrArg (fun u => LB (BitVec.ofNat 32 (i 1).val) (QB x0 x3 x4) (rows (fun _ _ _ => (0 : EReal)) (rope x1 x3 x4)) u a) e1))))),
    piece₂ inb_S512x512_S512x128_0_256 _ (fun y : S512x512.Idx => (LB (BitVec.ofNat 32 (i 1).val) (QB x0 x3 x4) (rows (fun _ _ _ => (0 : EReal)) (rope x1 x3 x4)) ⟨(y 1).val / 128, by have h1 : (y 1).val < 512 := (y 1).isLt; omega⟩ (y 0) : EReal))
      id (fun d => ⟨256 + d.val, by omega⟩) mv_id (fun _ => rfl)
      (fun a d => (cast_3_2 (φ := .f32) (kernelRun0_A.sl.v709 (F := Ideal) c i arg2 harg2 arg3 harg3 arg5 harg5 arg6 harg6 arg9 arg11 arg13 arg15 x0 x1 x3 x4) shapeCasts_S1x512x128_S512x128 a d).trans
        ((congrFun (View.readCov_eq_canon' _ _ _) _).trans ((congrArg (View.canon (kernelRun0_A.sl.HS6_16 (F := Ideal) c i arg2 harg2 arg3 harg3 arg5 harg5 arg6 harg6 arg9 arg11 arg13 x0 x1 x3 x4))
          (emb₃ inb_S4x512x128_S1x512x128_2_0_0 0 a d 2 a d rfl (mv_id a) (mv_id d))).trans ((lbuf c i arg2 harg2 arg3 harg3 arg5 harg5 arg6 harg6 arg9 arg11 arg13 x0 x1 x3 x4 2 a d).trans (by
            have e1 : (2 : Fin 4) = ⟨(256 + d.val) / 128, by omega⟩ := Fin.ext (by show 2 = (256 + d.val) / 128; omega)
            have e3 : d = ⟨(256 + d.val) % 128, Nat.mod_lt _ (by norm_num)⟩ := Fin.ext (by show d.val = (256 + d.val) % 128; omega)
            exact congrArg (fun u => LB (BitVec.ofNat 32 (i 1).val) (QB x0 x3 x4) (rows (fun _ _ _ => (0 : EReal)) (rope x1 x3 x4)) u a) e1))))),
    piece₂ inb_S512x512_S512x128_0_128 _ (fun y : S512x512.Idx => (LB (BitVec.ofNat 32 (i 1).val) (QB x0 x3 x4) (rows (fun _ _ _ => (0 : EReal)) (rope x1 x3 x4)) ⟨(y 1).val / 128, by have h1 : (y 1).val < 512 := (y 1).isLt; omega⟩ (y 0) : EReal))
      id (fun d => ⟨128 + d.val, by omega⟩) mv_id (fun _ => rfl)
      (fun a d => (cast_3_2 (φ := .f32) (kernelRun0_A.sl.v702 (F := Ideal) c i arg2 harg2 arg3 harg3 arg5 harg5 arg6 harg6 arg9 arg11 arg13 arg15 x0 x1 x3 x4) shapeCasts_S1x512x128_S512x128 a d).trans
        ((congrFun (View.readCov_eq_canon' _ _ _) _).trans ((congrArg (View.canon (kernelRun0_A.sl.HS6_16 (F := Ideal) c i arg2 harg2 arg3 harg3 arg5 harg5 arg6 harg6 arg9 arg11 arg13 x0 x1 x3 x4))
          (emb₃ inb_S4x512x128_S1x512x128_1_0_0 0 a d 1 a d rfl (mv_id a) (mv_id d))).trans ((lbuf c i arg2 harg2 arg3 harg3 arg5 harg5 arg6 harg6 arg9 arg11 arg13 x0 x1 x3 x4 1 a d).trans (by
            have e1 : (1 : Fin 4) = ⟨(128 + d.val) / 128, by omega⟩ := Fin.ext (by show 1 = (128 + d.val) / 128; omega)
            have e3 : d = ⟨(128 + d.val) % 128, Nat.mod_lt _ (by norm_num)⟩ := Fin.ext (by show d.val = (128 + d.val) % 128; omega)
            exact congrArg (fun u => LB (BitVec.ofNat 32 (i 1).val) (QB x0 x3 x4) (rows (fun _ _ _ => (0 : EReal)) (rope x1 x3 x4)) u a) e1))))),
    piece₂ inb_S512x512_S512x128_0_0 _ (fun y : S512x512.Idx => (LB (BitVec.ofNat 32 (i 1).val) (QB x0 x3 x4) (rows (fun _ _ _ => (0 : EReal)) (rope x1 x3 x4)) ⟨(y 1).val / 128, by have h1 : (y 1).val < 512 := (y 1).isLt; omega⟩ (y 0) : EReal))
      id (fun d => ⟨0 + d.val, by omega⟩) mv_id (fun _ => rfl)
      (fun a d => (cast_3_2 (φ := .f32) (kernelRun0_A.sl.v695 (F := Ideal) c i arg2 harg2 arg3 harg3 arg5 harg5 arg6 harg6 arg9 arg11 arg13 arg15 x0 x1 x3 x4) shapeCasts_S1x512x128_S512x128 a d).trans
        ((congrFun (View.readCov_eq_canon' _ _ _) _).trans ((congrArg (View.canon (kernelRun0_A.sl.HS6_16 (F := Ideal) c i arg2 harg2 arg3 harg3 arg5 harg5 arg6 harg6 arg9 arg11 arg13 x0 x1 x3 x4))
          (emb₃ inb_S4x512x128_S1x512x128_0_0_0 0 a d 0 a d rfl (mv_id a) (mv_id d))).trans ((lbuf c i arg2 harg2 arg3 harg3 arg5 harg5 arg6 harg6 arg9 arg11 arg13 x0 x1 x3 x4 0 a d).trans (by
            have e1 : (0 : Fin 4) = ⟨(0 + d.val) / 128, by omega⟩ := Fin.ext (by show 0 = (0 + d.val) / 128; omega)
            have e3 : d = ⟨(0 + d.val) % 128, Nat.mod_lt _ (by norm_num)⟩ := Fin.ext (by show d.val = (0 + d.val) % 128; omega)
            exact congrArg (fun u => LB (BitVec.ofNat 32 (i 1).val) (QB x0 x3 x4) (rows (fun _ _ _ => (0 : EReal)) (rope x1 x3 x4)) u a) e1))))),
    trivial⟩
  exact View.canon_apply_of_pieces (fun y : S512x512.Idx => (LB (BitVec.ofNat 32 (i 1).val) (QB x0 x3 x4) (rows (fun _ _ _ => (0 : EReal)) (rope x1 x3 x4)) ⟨(y 1).val / 128, by have h1 : (y 1).val < 512 := (y 1).isLt; omega⟩ (y 0) : EReal)) _ hp.mem y (cover0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 y)

/-- The first 128 rows the point leaves are the last of its own block. -/
theorem scr2 (h : Fin 4) (a : Fin 640) (ha : a.val < 128) (d : Fin 128) :
    (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 (ix4 h 0 a d) : EReal) = (rope x1 x3 x4) h ⟨384 + a.val, by omega⟩ d := by
  have hm : ix4 (n1 := 1) h 0 a d = (Rect.unit (s := S4x1x640x128) ![0, 0, 0, 0] S4x1x128x128.size inb_S4x1x640x128_S4x1x128x128_0_0_0_0).emb
      (ix4 (n0 := 4) (n1 := 1) (n2 := 128) (n3 := 128) h 0 ⟨a.val, ha⟩ d) :=
    (emb₄ inb_S4x1x640x128_S4x1x128x128_0_0_0_0 h 0 ⟨a.val, ha⟩ d h 0 a d (by omega) rfl (by show a.val = 0 + a.val; omega) (by omega)).symm
  unfold sout0_A_2
  rw [View.read_writes_junk_eq_canon, hm]
  have hl : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.1 = (⟨Rect.unit (s := S4x1x640x128) ![0, 0, 0, 0] S4x1x128x128.size inb_S4x1x640x128_S4x1x128x128_0_0_0_0,
      k0_pay1 (F := Ideal) (kernelRun0_A.sl.v719 (F := Ideal) c arg3 harg3 arg5 harg5 arg6 harg6 arg9 arg11 x1 x3 x4)⟩ : View.Piece (Elt Ideal) S4x1x640x128 .f32) :: (kernelRun0_A.sl.HS2_5 (F := Ideal) c arg3 harg3 arg5 harg5 arg6 harg6 arg9 x1 x3 x4) := rfl
  rw [hl, View.canon_cons_emb]
  refine (congrFun (shapeCast_self (kernelRun0_A.sl.v719 (F := Ideal) c arg3 harg3 arg5 harg5 arg6 harg6 arg9 arg11 x1 x3 x4) shapeCasts_S4x1x128x128_S4x1x128x128) _).trans ?_
  refine (congrFun (View.readCov_eq_canon' _ _ _) _).trans (Eq.trans (congrArg (View.canon (kernelRun0_A.sl.HS2_5 (F := Ideal) c arg3 harg3 arg5 harg5 arg6 harg6 arg9 x1 x3 x4)) ?_)
    ((krow c arg3 harg3 arg5 harg5 arg6 harg6 arg9 x1 x3 x4 h ⟨512 + a.val, by omega⟩ d).trans (rows_ge _ _ _ _ _ ⟨384 + a.val, by omega⟩ (by show 512 + a.val = 128 + (384 + a.val); omega))))
  exact emb₄ inb_S4x1x640x128_S4x1x128x128_0_0_512_0 h 0 ⟨a.val, ha⟩ d _ _ _ _ (by omega) rfl rfl (by omega)

/-- The first 128 rows the point leaves are the last of its own block. -/
theorem scr3 (h : Fin 4) (a : Fin 640) (ha : a.val < 128) (d : Fin 128) :
    (sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 (ix4 h 0 a d) : EReal) = (VB x2) h ⟨384 + a.val, by omega⟩ d := by
  have hm : ix4 (n1 := 1) h 0 a d = (Rect.unit (s := S4x1x640x128) ![0, 0, 0, 0] S4x1x128x128.size inb_S4x1x640x128_S4x1x128x128_0_0_0_0).emb
      (ix4 (n0 := 4) (n1 := 1) (n2 := 128) (n3 := 128) h 0 ⟨a.val, ha⟩ d) :=
    (emb₄ inb_S4x1x640x128_S4x1x128x128_0_0_0_0 h 0 ⟨a.val, ha⟩ d h 0 a d (by omega) rfl (by show a.val = 0 + a.val; omega) (by omega)).symm
  unfold sout0_A_3
  rw [View.read_writes_junk_eq_canon, hm]
  have hl : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.1 = (⟨Rect.unit (s := S4x1x640x128) ![0, 0, 0, 0] S4x1x128x128.size inb_S4x1x640x128_S4x1x128x128_0_0_0_0,
      k0_pay2 (F := Ideal) (kernelRun0_A.sl.v723 (F := Ideal) c arg4 harg4 arg10 arg12 x2)⟩ : View.Piece (Elt Ideal) S4x1x640x128 .f32) :: (kernelRun0_A.sl.HS3_5 (F := Ideal) c arg4 harg4 arg10 x2) := rfl
  rw [hl, View.canon_cons_emb]
  refine (congrFun (shapeCast_self (kernelRun0_A.sl.v723 (F := Ideal) c arg4 harg4 arg10 arg12 x2) shapeCasts_S4x1x128x128_S4x1x128x128) _).trans ?_
  refine (congrFun (View.readCov_eq_canon' _ _ _) _).trans (Eq.trans (congrArg (View.canon (kernelRun0_A.sl.HS3_5 (F := Ideal) c arg4 harg4 arg10 x2)) ?_)
    ((vrow c arg4 harg4 arg10 x2 h ⟨512 + a.val, by omega⟩ d).trans (rows_ge _ _ _ _ _ ⟨384 + a.val, by omega⟩ (by show 512 + a.val = 128 + (384 + a.val); omega))))
  exact emb₄ inb_S4x1x640x128_S4x1x128x128_0_0_512_0 h 0 ⟨a.val, ha⟩ d _ _ _ _ (by omega) rfl rfl (by omega)

end Cert.Proof.G0.A
-- ==== Proof.G0BodyB.lean ====
/- The body of the first group's attention elsewhere: the rows before it are those the last point left.
   What its stores leave in its buffers, in closed form. -/
module

public import proofs.«01_k».proof.Proof.G0Blk

@[expose] public section

noncomputable section

namespace Cert.Proof.G0.B

open Idealize.ShloMosaic Idealize.ShloMosaic.TcCoe Idealize.ShloMosaic.ValueIdx
open Cert.KernelG0Ideal Cert.KernelG0Ideal.Gen
open Cert.Proof.Att

variable (c : Dev nD) (i : grid0.Coords)
  (arg2 : Memref sig .tc .vmem S512x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x512 .bf16) (harg7 : arg7.IsWhole)
  (arg8 : Memref sig .tc .vmem S512x512 .f32) (harg8 : arg8.IsWhole)
  (arg9 : Memref sig .tc .vmem S4x512x128 .f32) (harg9 : arg9.IsWhole)
  (arg10 : Memref sig .tc .vmem S4x512x128 .f32) (harg10 : arg10.IsWhole)
  (arg11 : Memref sig .tc .vmem S4x1x640x128 .f32) (harg11 : arg11.IsWhole)
  (arg12 : Memref sig .tc .vmem S4x1x640x128 .f32) (harg12 : arg12.IsWhole)
  (arg13 : Memref sig .tc .vmem S4x512x128 .f32) (harg13 : arg13.IsWhole)
  (arg14 : Memref sig .tc .vmem S4x512x128 .f32) (harg14 : arg14.IsWhole)
  (arg15 : Memref sig .tc .vmem S4x512x128 .f32) (harg15 : arg15.IsWhole)
  (hc0 : ¬ cond0_0 i)
  (x0 x1 x2 : Vec Ideal S512x512 .bf16) (x3 x4 : Vec Ideal S512x128 .f32) (xs2 xs3 : Vec Ideal S4x1x640x128 .f32)

/-- The queries' buffer once the four heads are stored. -/
theorem qbuf (h : Fin 4) (a : Fin 512) (d : Fin 128) :
    (View.canon (kernelRun0_B.sl.HS4_4 (F := Ideal) c arg2 harg2 arg5 harg5 arg6 harg6 x0 x3 x4) (ix3 h a d) : EReal) = QB x0 x3 x4 h a d := by
  have hp : View.PiecesOf (Val := Elt Ideal) (e := .f32) (fun y : S4x512x128.Idx => (QB x0 x3 x4 (y 0) (y 1) (y 2) : EReal)) (kernelRun0_B.sl.HS4_4 (F := Ideal) c arg2 harg2 arg5 harg5 arg6 harg6 x0 x3 x4) := by
    unfold kernelRun0_B.sl.HS4_4
    exact ⟨
      piece₃ inb_S4x512x128_S1x512x128_3_0_0 _ (fun y : S4x512x128.Idx => (QB x0 x3 x4 (y 0) (y 1) (y 2) : EReal))
        (fun _ => 3) id id (mv_head 3) mv_id mv_id (q_of x0 x3 x4 3 (View.readAt (Elt Ideal) arg2.view (Rect.unit (s := S512x512) ![0, 384] S512x128.size inb_S512x512_S512x128_0_384).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 3 384 rfl inb_S512x512_S512x128_0_384) (tab5 arg5 harg5 x3 inb_S512x128_S512x128_0_0) (tab6 arg6 harg6 x4 inb_S512x128_S512x128_0_0) bitsLt_bf16_f32 rotates_S512x128_d1
          shapeCasts_S512x128_S1x512x128),
      piece₃ inb_S4x512x128_S1x512x128_2_0_0 _ (fun y : S4x512x128.Idx => (QB x0 x3 x4 (y 0) (y 1) (y 2) : EReal))
        (fun _ => 2) id id (mv_head 2) mv_id mv_id (q_of x0 x3 x4 2 (View.readAt (Elt Ideal) arg2.view (Rect.unit (s := S512x512) ![0, 256] S512x128.size inb_S512x512_S512x128_0_256).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 2 256 rfl inb_S512x512_S512x128_0_256) (tab5 arg5 harg5 x3 inb_S512x128_S512x128_0_0) (tab6 arg6 harg6 x4 inb_S512x128_S512x128_0_0) bitsLt_bf16_f32 rotates_S512x128_d1
          shapeCasts_S512x128_S1x512x128),
      piece₃ inb_S4x512x128_S1x512x128_1_0_0 _ (fun y : S4x512x128.Idx => (QB x0 x3 x4 (y 0) (y 1) (y 2) : EReal))
        (fun _ => 1) id id (mv_head 1) mv_id mv_id (q_of x0 x3 x4 1 (View.readAt (Elt Ideal) arg2.view (Rect.unit (s := S512x512) ![0, 128] S512x128.size inb_S512x512_S512x128_0_128).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 1 128 rfl inb_S512x512_S512x128_0_128) (tab5 arg5 harg5 x3 inb_S512x128_S512x128_0_0) (tab6 arg6 harg6 x4 inb_S512x128_S512x128_0_0) bitsLt_bf16_f32 rotates_S512x128_d1
          shapeCasts_S512x128_S1x512x128),
      piece₃ inb_S4x512x128_S1x512x128_0_0_0 _ (fun y : S4x512x128.Idx => (QB x0 x3 x4 (y 0) (y 1) (y 2) : EReal))
        (fun _ => 0) id id (mv_head 0) mv_id mv_id (q_of x0 x3 x4 0 (View.readAt (Elt Ideal) arg2.view (Rect.unit (s := S512x512) ![0, 0] S512x128.size inb_S512x512_S512x128_0_0).toLoadRect (harg2.unread x0))
          (k0_pay5 (F := Ideal) (View.readAt (Elt Ideal) arg5.view (Rect.unit (s := S512x128) ![0, 0] S512x128.size inb_S512x128_S512x128_0_0).toLoadRect (harg5.unread x3)))
          (k0_pay6 (F := Ideal) (View.readAt (Elt Ideal) arg6.view (Rect.unit (s := S512x128) ![0, 0] S512x128.size inb_S512x128_S512x128_0_0).toLoadRect (harg6.unread x4)))
          (ld_head arg2 harg2 x0 0 0 rfl inb_S512x512_S512x128_0_0) (tab5 arg5 harg5 x3 inb_S512x128_S512x128_0_0) (tab6 arg6 harg6 x4 inb_S512x128_S512x128_0_0) bitsLt_bf16_f32 rotates_S512x128_d1
          shapeCasts_S512x128_S1x512x128),
      trivial⟩
  exact View.canon_apply_of_pieces (fun y : S4x512x128.Idx => (QB x0 x3 x4 (y 0) (y 1) (y 2) : EReal)) (kernelRun0_B.sl.HS4_4 (F := Ideal) c arg2 harg2 arg5 harg5 arg6 harg6 x0 x3 x4) hp.mem (ix3 h a d) (View.cover_of_tiledL (kernelRun0_B.sl.HS4_4 (F := Ideal) c arg2 harg2 arg5 harg5 arg6 harg6 x0 x3 x4) S1x512x128.size (by sl_kernel_rfl) _)

theorem khead0 (y z : Fin 1) (a : Fin 512) (d : Fin 128) :
    (k0_pay11 (F := Ideal) (kernelRun0_B.sl.v32 (F := Ideal) c arg3 harg3 arg5 harg5 arg6 harg6 arg9 x1 x3 x4) (ix4 y z a d) : EReal) = rope x1 x3 x4 0 a d := by
  have e : (kernelRun0_B.sl.v32 (F := Ideal) c arg3 harg3 arg5 harg5 arg6 harg6 arg9 x1 x3 x4) = shapeCast S1x512x128 (ropeV (View.readAt (Elt Ideal) arg3.view (Rect.unit (s := S512x512) ![0, 0] S512x128.size inb_S512x512_S512x128_0_0).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_B.sl.v32
    unfold kernelRun0_B.sl.HS0_1
    exact (View.readCov_cons_toLoadRect _ _ _ _).trans rfl
  rw [e]
  exact k_of x1 x3 x4 0 _ _ _ (ld_head arg3 harg3 x1 0 0 rfl inb_S512x512_S512x128_0_0) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead0 (y z : Fin 1) (a : Fin 512) (d : Fin 128) :
    (k0_pay12 (F := Ideal) (kernelRun0_B.sl.v37 (F := Ideal) c arg4 harg4 arg10 x2) (ix4 y z a d) : EReal) = VB x2 0 a d := by
  have e : (kernelRun0_B.sl.v37 (F := Ideal) c arg4 harg4 arg10 x2) = shapeCast S1x512x128 (extf (F := Ideal) (φ := .bf16) .f32 (View.readAt (Elt Ideal) arg4.view (Rect.unit (s := S512x512) ![0, 0] S512x128.size inb_S512x512_S512x128_0_0).toLoadRect (harg4.unread x2)) bitsLt_bf16_f32)
      shapeCasts_S512x128_S1x512x128 := by
    unfold kernelRun0_B.sl.v37
    unfold kernelRun0_B.sl.HS1_1
    exact (View.readCov_cons_toLoadRect _ _ _ _).trans rfl
  rw [e]
  exact v_of x2 0 _ (ld_head arg4 harg4 x2 0 0 rfl inb_S512x512_S512x128_0_0) bitsLt_bf16_f32
    shapeCasts_S512x128_S1x512x128 shapeCasts_S1x512x128_S512x128 shapeCasts_S512x128_S1x1x512x128 y z a d

theorem khead1 (y z : Fin 1) (a : Fin 512) (d : Fin 128) :
    (k0_pay17 (F := Ideal) (kernelRun0_B.sl.v67 (F := Ideal) c arg3 harg3 arg5 harg5 arg6 harg6 arg9 x1 x3 x4) (ix4 y z a d) : EReal) = rope x1 x3 x4 1 a d := by
  have e : (kernelRun0_B.sl.v67 (F := Ideal) c arg3 harg3 arg5 harg5 arg6 harg6 arg9 x1 x3 x4) = shapeCast S1x512x128 (ropeV (View.readAt (Elt Ideal) arg3.view (Rect.unit (s := S512x512) ![0, 128] S512x128.size inb_S512x512_S512x128_0_128).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_B.sl.v67
    unfold kernelRun0_B.sl.HS0_2
    exact (View.readCov_cons_toLoadRect _ _ _ _).trans rfl
  rw [e]
  exact k_of x1 x3 x4 1 _ _ _ (ld_head arg3 harg3 x1 1 128 rfl inb_S512x512_S512x128_0_128) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead1 (y z : Fin 1) (a : Fin 512) (d : Fin 128) :
    (k0_pay18 (F := Ideal) (kernelRun0_B.sl.v72 (F := Ideal) c arg4 harg4 arg10 x2) (ix4 y z a d) : EReal) = VB x2 1 a d := by
  have e : (kernelRun0_B.sl.v72 (F := Ideal) c arg4 harg4 arg10 x2) = shapeCast S1x512x128 (extf (F := Ideal) (φ := .bf16) .f32 (View.readAt (Elt Ideal) arg4.view (Rect.unit (s := S512x512) ![0, 128] S512x128.size inb_S512x512_S512x128_0_128).toLoadRect (harg4.unread x2)) bitsLt_bf16_f32)
      shapeCasts_S512x128_S1x512x128 := by
    unfold kernelRun0_B.sl.v72
    unfold kernelRun0_B.sl.HS1_2
    exact (View.readCov_cons_toLoadRect _ _ _ _).trans rfl
  rw [e]
  exact v_of x2 1 _ (ld_head arg4 harg4 x2 1 128 rfl inb_S512x512_S512x128_0_128) bitsLt_bf16_f32
    shapeCasts_S512x128_S1x512x128 shapeCasts_S1x512x128_S512x128 shapeCasts_S512x128_S1x1x512x128 y z a d

theorem khead2 (y z : Fin 1) (a : Fin 512) (d : Fin 128) :
    (k0_pay22 (F := Ideal) (kernelRun0_B.sl.v102 (F := Ideal) c arg3 harg3 arg5 harg5 arg6 harg6 arg9 x1 x3 x4) (ix4 y z a d) : EReal) = rope x1 x3 x4 2 a d := by
  have e : (kernelRun0_B.sl.v102 (F := Ideal) c arg3 harg3 arg5 harg5 arg6 harg6 arg9 x1 x3 x4) = shapeCast S1x512x128 (ropeV (View.readAt (Elt Ideal) arg3.view (Rect.unit (s := S512x512) ![0, 256] S512x128.size inb_S512x512_S512x128_0_256).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_B.sl.v102
    unfold kernelRun0_B.sl.HS0_3
    exact (View.readCov_cons_toLoadRect _ _ _ _).trans rfl
  rw [e]
  exact k_of x1 x3 x4 2 _ _ _ (ld_head arg3 harg3 x1 2 256 rfl inb_S512x512_S512x128_0_256) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead2 (y z : Fin 1) (a : Fin 512) (d : Fin 128) :
    (k0_pay23 (F := Ideal) (kernelRun0_B.sl.v107 (F := Ideal) c arg4 harg4 arg10 x2) (ix4 y z a d) : EReal) = VB x2 2 a d := by
  have e : (kernelRun0_B.sl.v107 (F := Ideal) c arg4 harg4 arg10 x2) = shapeCast S1x512x128 (extf (F := Ideal) (φ := .bf16) .f32 (View.readAt (Elt Ideal) arg4.view (Rect.unit (s := S512x512) ![0, 256] S512x128.size inb_S512x512_S512x128_0_256).toLoadRect (harg4.unread x2)) bitsLt_bf16_f32)
      shapeCasts_S512x128_S1x512x128 := by
    unfold kernelRun0_B.sl.v107
    unfold kernelRun0_B.sl.HS1_3
    exact (View.readCov_cons_toLoadRect _ _ _ _).trans rfl
  rw [e]
  exact v_of x2 2 _ (ld_head arg4 harg4 x2 2 256 rfl inb_S512x512_S512x128_0_256) bitsLt_bf16_f32
    shapeCasts_S512x128_S1x512x128 shapeCasts_S1x512x128_S512x128 shapeCasts_S512x128_S1x1x512x128 y z a d

theorem khead3 (y z : Fin 1) (a : Fin 512) (d : Fin 128) :
    (k0_pay30 (F := Ideal) (kernelRun0_B.sl.v137 (F := Ideal) c arg3 harg3 arg5 harg5 arg6 harg6 arg9 x1 x3 x4) (ix4 y z a d) : EReal) = rope x1 x3 x4 3 a d := by
  have e : (kernelRun0_B.sl.v137 (F := Ideal) c arg3 harg3 arg5 harg5 arg6 harg6 arg9 x1 x3 x4) = shapeCast S1x512x128 (ropeV (View.readAt (Elt Ideal) arg3.view (Rect.unit (s := S512x512) ![0, 384] S512x128.size inb_S512x512_S512x128_0_384).toLoadRect (harg3.unread x1))
      (k0_pay5 (F := Ideal) (View.readAt (Elt Ideal) arg5.view (Rect.unit (s := S512x128) ![0, 0] S512x128.size inb_S512x128_S512x128_0_0).toLoadRect (harg5.unread x3)))
      (k0_pay6 (F := Ideal) (View.readAt (Elt Ideal) arg6.view (Rect.unit (s := S512x128) ![0, 0] S512x128.size inb_S512x128_S512x128_0_0).toLoadRect (harg6.unread x4))) bitsLt_bf16_f32 rotates_S512x128_d1) shapeCasts_S512x128_S1x512x128 := by
    unfold kernelRun0_B.sl.v137
    unfold kernelRun0_B.sl.HS0_4
    exact (View.readCov_cons_toLoadRect _ _ _ _).trans rfl
  rw [e]
  exact k_of x1 x3 x4 3 _ _ _ (ld_head arg3 harg3 x1 3 384 rfl inb_S512x512_S512x128_0_384) (tab5 arg5 harg5 x3 inb_S512x128_S512x128_0_0) (tab6 arg6 harg6 x4 inb_S512x128_S512x128_0_0) bitsLt_bf16_f32 rotates_S512x128_d1
    shapeCasts_S512x128_S1x512x128 shapeCasts_S1x512x128_S512x128 shapeCasts_S512x128_S1x1x512x128 y z a d

theorem vhead3 (y z : Fin 1) (a : Fin 512) (d : Fin 128) :
    (k0_pay32 (F := Ideal) (kernelRun0_B.sl.r_6 (F := Ideal) c arg4 harg4 arg10 x2) (ix4 y z a d) : EReal) = VB x2 3 a d := by
  have e : (kernelRun0_B.sl.v142 (F := Ideal) c arg4 harg4 arg10 x2) = shapeCast S1x512x128 (extf (F := Ideal) (φ := .bf16) .f32 (View.readAt (Elt Ideal) arg4.view (Rect.unit (s := S512x512) ![0, 384] S512x128.size inb_S512x512_S512x128_0_384).toLoadRect (harg4.unread x2)) bitsLt_bf16_f32)
      shapeCasts_S512x128_S1x512x128 := by
    unfold kernelRun0_B.sl.v142
    unfold kernelRun0_B.sl.HS1_4
    exact (View.readCov_cons_toLoadRect _ _ _ _).trans rfl
  have e' : k0_pay32 (F := Ideal) (kernelRun0_B.sl.r_6 (F := Ideal) c arg4 harg4 arg10 x2) = shapeCast S1x1x512x128 (shapeCast S512x128 (kernelRun0_B.sl.v142 (F := Ideal) c arg4 harg4 arg10 x2) shapeCasts_S1x512x128_S512x128) shapeCasts_S512x128_S1x1x512x128 := rfl
  rw [e', e]
  exact v_of x2 3 _ (ld_head arg4 harg4 x2 3 384 rfl inb_S512x512_S512x128_0_384) bitsLt_bf16_f32
    shapeCasts_S512x128_S1x512x128 shapeCasts_S1x512x128_S512x128 shapeCasts_S512x128_S1x1x512x128 y z a d

theorem krow_pieces : View.PiecesOf (Val := Elt Ideal) (fun y : S4x1x640x128.Idx => ((rows (fun h a c => (xs2 (ix4 h 0 ⟨a.val, by omega⟩ c) : EReal)) (rope x1 x3 x4)) (y 0) (y 2) (y 3) : EReal)) (kernelRun0_B.sl.HS2_4 (F := Ideal) c arg3 harg3 arg5 harg5 arg6 harg6 arg9 x1 x3 x4) := by
  unfold kernelRun0_B.sl.HS2_4
  exact ⟨
    piece₄ inb_S4x1x640x128_S1x1x512x128_3_0_128_0 _ (fun y : S4x1x640x128.Idx => ((rows (fun h a c => (xs2 (ix4 h 0 ⟨a.val, by omega⟩ c) : EReal)) (rope x1 x3 x4)) (y 0) (y 2) (y 3) : EReal))
      (fun _ => 3) (fun _ => 0) (fun a => ⟨128 + a.val, by omega⟩) id (mv_head 3) mv_one (fun _ => rfl) mv_id
      (fun y z a d => (khead3 c arg3 harg3 arg5 harg5 arg6 harg6 arg9 x1 x3 x4 y z a d).trans (rows_ge _ _ _ _ _ a rfl).symm),
    piece₄ inb_S4x1x640x128_S1x1x512x128_2_0_128_0 _ (fun y : S4x1x640x128.Idx => ((rows (fun h a c => (xs2 (ix4 h 0 ⟨a.val, by omega⟩ c) : EReal)) (rope x1 x3 x4)) (y 0) (y 2) (y 3) : EReal))
      (fun _ => 2) (fun _ => 0) (fun a => ⟨128 + a.val, by omega⟩) id (mv_head 2) mv_one (fun _ => rfl) mv_id
      (fun y z a d => (khead2 c arg3 harg3 arg5 harg5 arg6 harg6 arg9 x1 x3 x4 y z a d).trans (rows_ge _ _ _ _ _ a rfl).symm),
    piece₄ inb_S4x1x640x128_S1x1x512x128_1_0_128_0 _ (fun y : S4x1x640x128.Idx => ((rows (fun h a c => (xs2 (ix4 h 0 ⟨a.val, by omega⟩ c) : EReal)) (rope x1 x3 x4)) (y 0) (y 2) (y 3) : EReal))
      (fun _ => 1) (fun _ => 0) (fun a => ⟨128 + a.val, by omega⟩) id (mv_head 1) mv_one (fun _ => rfl) mv_id
      (fun y z a d => (khead1 c arg3 harg3 arg5 harg5 arg6 harg6 arg9 x1 x3 x4 y z a d).trans (rows_ge _ _ _ _ _ a rfl).symm),
    piece₄ inb_S4x1x640x128_S1x1x512x128_0_0_128_0 _ (fun y : S4x1x640x128.Idx => ((rows (fun h a c => (xs2 (ix4 h 0 ⟨a.val, by omega⟩ c) : EReal)) (rope x1 x3 x4)) (y 0) (y 2) (y 3) : EReal))
      (fun _ => 0) (fun _ => 0) (fun a => ⟨128 + a.val, by omega⟩) id (mv_head 0) mv_one (fun _ => rfl) mv_id
      (fun y z a d => (khead0 c arg3 harg3 arg5 harg5 arg6 harg6 arg9 x1 x3 x4 y z a d).trans (rows_ge _ _ _ _ _ a rfl).symm),
    trivial⟩

theorem krow_cover (h : Fin 4) (b : Fin 640) (hb : 128 ≤ b.val) (d : Fin 128) :
    ∃ p ∈ (kernelRun0_B.sl.HS2_4 (F := Ideal) c arg3 harg3 arg5 harg5 arg6 harg6 arg9 x1 x3 x4), ix4 (n1 := 1) h 0 b d ∈ p.1.set := by
  obtain ⟨p, hp, hy⟩ := View.cover_of_tiledBy ((⟨Rect.unit (s := S4x1x640x128) ![0, 0, 0, 0] S4x1x128x128.size
    inb_S4x1x640x128_S4x1x128x128_0_0_0_0, fun _ => (0 : EReal)⟩ : View.Piece (Elt Ideal) S4x1x640x128 .f32) :: (kernelRun0_B.sl.HS2_4 (F := Ideal) c arg3 harg3 arg5 harg5 arg6 harg6 arg9 x1 x3 x4))
    ![1, 1, 128, 128] (by sl_kernel_rfl) (ix4 (n1 := 1) h 0 b d)
  rcases List.mem_cons.mp hp with rfl | hp
  · obtain ⟨k, hk, e⟩ := (LoadRect.mem_set _).mp hy 2
    have hk' : k < 128 := hk
    have e' : b.val = 0 + 1 * k := e
    omega
  · exact ⟨p, hp, hy⟩

theorem krow (h : Fin 4) (b : Fin 640) (hb : 128 ≤ b.val) (d : Fin 128) :
    (View.canon (kernelRun0_B.sl.HS2_4 (F := Ideal) c arg3 harg3 arg5 harg5 arg6 harg6 arg9 x1 x3 x4) (ix4 h 0 b d) : EReal) = (rows (fun h a c => (xs2 (ix4 h 0 ⟨a.val, by omega⟩ c) : EReal)) (rope x1 x3 x4)) h b d :=
  View.canon_apply_of_pieces (Val := Elt Ideal) (fun y : S4x1x640x128.Idx => ((rows (fun h a c => (xs2 (ix4 h 0 ⟨a.val, by omega⟩ c) : EReal)) (rope x1 x3 x4)) (y 0) (y 2) (y 3) : EReal)) (kernelRun0_B.sl.HS2_4 (F := Ideal) c arg3 harg3 arg5 harg5 arg6 harg6 arg9 x1 x3 x4) (krow_pieces c arg3 harg3 arg5 harg5 arg6 harg6 arg9 x1 x3 x4 xs2).mem (ix4 h 0 b d)
    (krow_cover c arg3 harg3 arg5 harg5 arg6 harg6 arg9 x1 x3 x4 h b hb d)

theorem krow_read (h : Fin 4) (b : Fin 640) (d : Fin 128) :
    (arg11.view.read (Elt Ideal) (arg11.view.writes (Elt Ideal) (harg11.unread xs2) (kernelRun0_B.sl.HS2_4 (F := Ideal) c arg3 harg3 arg5 harg5 arg6 harg6 arg9 x1 x3 x4)) (ix4 h 0 b d) : EReal)
      = (rows (fun h a c => (xs2 (ix4 h 0 ⟨a.val, by omega⟩ c) : EReal)) (rope x1 x3 x4)) h b d := by
  by_cases hb : 128 ≤ b.val
  · exact View.read_writes_apply_of_pieces arg11.view (harg11.unread xs2) (fun y : S4x1x640x128.Idx => ((rows (fun h a c => (xs2 (ix4 h 0 ⟨a.val, by omega⟩ c) : EReal)) (rope x1 x3 x4)) (y 0) (y 2) (y 3) : EReal)) (kernelRun0_B.sl.HS2_4 (F := Ideal) c arg3 harg3 arg5 harg5 arg6 harg6 arg9 x1 x3 x4) (krow_pieces c arg3 harg3 arg5 harg5 arg6 harg6 arg9 x1 x3 x4 xs2).mem (ix4 h 0 b d)
      (krow_cover c arg3 harg3 arg5 harg5 arg6 harg6 arg9 x1 x3 x4 h b hb d)
  · rw [View.read_writes_apply_of_forall_not_mem arg11.view (harg11.unread xs2) (ix4 (n1 := 1) h 0 b d) (kernelRun0_B.sl.HS2_4 (F := Ideal) c arg3 harg3 arg5 harg5 arg6 harg6 arg9 x1 x3 x4) ?_, harg11.read_unread]
    · exact (rows_lt (fun h a c => (xs2 (ix4 h 0 ⟨a.val, by omega⟩ c) : EReal)) (rope x1 x3 x4) h b d ⟨b.val, by omega⟩ rfl).symm
    · unfold kernelRun0_B.sl.HS2_4
      intro p hp hy
      rcases List.mem_cons.mp hp with rfl | hp
      · obtain ⟨k, -, e⟩ := (LoadRect.mem_set _).mp hy 2
        have e' : b.val = 128 + 1 * k := e
        omega
      rcases List.mem_cons.mp hp with rfl | hp
      · obtain ⟨k, -, e⟩ := (LoadRect.mem_set _).mp hy 2
        have e' : b.val = 128 + 1 * k := e
        omega
      rcases List.mem_cons.mp hp with rfl | hp
      · obtain ⟨k, -, e⟩ := (LoadRect.mem_set _).mp hy 2
        have e' : b.val = 128 + 1 * k := e
        omega
      rcases List.mem_cons.mp hp with rfl | hp
      · obtain ⟨k, -, e⟩ := (LoadRect.mem_set _).mp hy 2
        have e' : b.val = 128 + 1 * k := e
        omega
      exact absurd hp List.not_mem_nil

theorem vrow_pieces : View.PiecesOf (Val := Elt Ideal) (fun y : S4x1x640x128.Idx => ((rows (fun h a c => (xs3 (ix4 h 0 ⟨a.val, by omega⟩ c) : EReal)) (VB x2)) (y 0) (y 2) (y 3) : EReal)) (kernelRun0_B.sl.HS3_4 (F := Ideal) c arg4 harg4 arg10 x2) := by
  unfold kernelRun0_B.sl.HS3_4
  exact ⟨
    piece₄ inb_S4x1x640x128_S1x1x512x128_3_0_128_0 _ (fun y : S4x1x640x128.Idx => ((rows (fun h a c => (xs3 (ix4 h 0 ⟨a.val, by omega⟩ c) : EReal)) (VB x2)) (y 0) (y 2) (y 3) : EReal))
      (fun _ => 3) (fun _ => 0) (fun a => ⟨128 + a.val, by omega⟩) id (mv_head 3) mv_one (fun _ => rfl) mv_id
      (fun y z a d => (vhead3 c arg4 harg4 arg10 x2 y z a d).trans (rows_ge _ _ _ _ _ a rfl).symm),
    piece₄ inb_S4x1x640x128_S1x1x512x128_2_0_128_0 _ (fun y : S4x1x640x128.Idx => ((rows (fun h a c => (xs3 (ix4 h 0 ⟨a.val, by omega⟩ c) : EReal)) (VB x2)) (y 0) (y 2) (y 3) : EReal))
      (fun _ => 2) (fun _ => 0) (fun a => ⟨128 + a.val, by omega⟩) id (mv_head 2) mv_one (fun _ => rfl) mv_id
      (fun y z a d => (vhead2 c arg4 harg4 arg10 x2 y z a d).trans (rows_ge _ _ _ _ _ a rfl).symm),
    piece₄ inb_S4x1x640x128_S1x1x512x128_1_0_128_0 _ (fun y : S4x1x640x128.Idx => ((rows (fun h a c => (xs3 (ix4 h 0 ⟨a.val, by omega⟩ c) : EReal)) (VB x2)) (y 0) (y 2) (y 3) : EReal))
      (fun _ => 1) (fun _ => 0) (fun a => ⟨128 + a.val, by omega⟩) id (mv_head 1) mv_one (fun _ => rfl) mv_id
      (fun y z a d => (vhead1 c arg4 harg4 arg10 x2 y z a d).trans (rows_ge _ _ _ _ _ a rfl).symm),
    piece₄ inb_S4x1x640x128_S1x1x512x128_0_0_128_0 _ (fun y : S4x1x640x128.Idx => ((rows (fun h a c => (xs3 (ix4 h 0 ⟨a.val, by omega⟩ c) : EReal)) (VB x2)) (y 0) (y 2) (y 3) : EReal))
      (fun _ => 0) (fun _ => 0) (fun a => ⟨128 + a.val, by omega⟩) id (mv_head 0) mv_one (fun _ => rfl) mv_id
      (fun y z a d => (vhead0 c arg4 harg4 arg10 x2 y z a d).trans (rows_ge _ _ _ _ _ a rfl).symm),
    trivial⟩

theorem vrow_cover (h : Fin 4) (b : Fin 640) (hb : 128 ≤ b.val) (d : Fin 128) :
    ∃ p ∈ (kernelRun0_B.sl.HS3_4 (F := Ideal) c arg4 harg4 arg10 x2), ix4 (n1 := 1) h 0 b d ∈ p.1.set := by
  obtain ⟨p, hp, hy⟩ := View.cover_of_tiledBy ((⟨Rect.unit (s := S4x1x640x128) ![0, 0, 0, 0] S4x1x128x128.size
    inb_S4x1x640x128_S4x1x128x128_0_0_0_0, fun _ => (0 : EReal)⟩ : View.Piece (Elt Ideal) S4x1x640x128 .f32) :: (kernelRun0_B.sl.HS3_4 (F := Ideal) c arg4 harg4 arg10 x2))
    ![1, 1, 128, 128] (by sl_kernel_rfl) (ix4 (n1 := 1) h 0 b d)
  rcases List.mem_cons.mp hp with rfl | hp
  · obtain ⟨k, hk, e⟩ := (LoadRect.mem_set _).mp hy 2
    have hk' : k < 128 := hk
    have e' : b.val = 0 + 1 * k := e
    omega
  · exact ⟨p, hp, hy⟩

theorem vrow (h : Fin 4) (b : Fin 640) (hb : 128 ≤ b.val) (d : Fin 128) :
    (View.canon (kernelRun0_B.sl.HS3_4 (F := Ideal) c arg4 harg4 arg10 x2) (ix4 h 0 b d) : EReal) = (rows (fun h a c => (xs3 (ix4 h 0 ⟨a.val, by omega⟩ c) : EReal)) (VB x2)) h b d :=
  View.canon_apply_of_pieces (Val := Elt Ideal) (fun y : S4x1x640x128.Idx => ((rows (fun h a c => (xs3 (ix4 h 0 ⟨a.val, by omega⟩ c) : EReal)) (VB x2)) (y 0) (y 2) (y 3) : EReal)) (kernelRun0_B.sl.HS3_4 (F := Ideal) c arg4 harg4 arg10 x2) (vrow_pieces c arg4 harg4 arg10 x2 xs3).mem (ix4 h 0 b d)
    (vrow_cover c arg4 harg4 arg10 x2 h b hb d)

theorem vrow_read (h : Fin 4) (b : Fin 640) (d : Fin 128) :
    (arg12.view.read (Elt Ideal) (arg12.view.writes (Elt Ideal) (harg12.unread xs3) (kernelRun0_B.sl.HS3_4 (F := Ideal) c arg4 harg4 arg10 x2)) (ix4 h 0 b d) : EReal)
      = (rows (fun h a c => (xs3 (ix4 h 0 ⟨a.val, by omega⟩ c) : EReal)) (VB x2)) h b d := by
  by_cases hb : 128 ≤ b.val
  · exact View.read_writes_apply_of_pieces arg12.view (harg12.unread xs3) (fun y : S4x1x640x128.Idx => ((rows (fun h a c => (xs3 (ix4 h 0 ⟨a.val, by omega⟩ c) : EReal)) (VB x2)) (y 0) (y 2) (y 3) : EReal)) (kernelRun0_B.sl.HS3_4 (F := Ideal) c arg4 harg4 arg10 x2) (vrow_pieces c arg4 harg4 arg10 x2 xs3).mem (ix4 h 0 b d)
      (vrow_cover c arg4 harg4 arg10 x2 h b hb d)
  · rw [View.read_writes_apply_of_forall_not_mem arg12.view (harg12.unread xs3) (ix4 (n1 := 1) h 0 b d) (kernelRun0_B.sl.HS3_4 (F := Ideal) c arg4 harg4 arg10 x2) ?_, harg12.read_unread]
    · exact (rows_lt (fun h a c => (xs3 (ix4 h 0 ⟨a.val, by omega⟩ c) : EReal)) (VB x2) h b d ⟨b.val, by omega⟩ rfl).symm
    · unfold kernelRun0_B.sl.HS3_4
      intro p hp hy
      rcases List.mem_cons.mp hp with rfl | hp
      · obtain ⟨k, -, e⟩ := (LoadRect.mem_set _).mp hy 2
        have e' : b.val = 128 + 1 * k := e
        omega
      rcases List.mem_cons.mp hp with rfl | hp
      · obtain ⟨k, -, e⟩ := (LoadRect.mem_set _).mp hy 2
        have e' : b.val = 128 + 1 * k := e
        omega
      rcases List.mem_cons.mp hp with rfl | hp
      · obtain ⟨k, -, e⟩ := (LoadRect.mem_set _).mp hy 2
        have e' : b.val = 128 + 1 * k := e
        omega
      rcases List.mem_cons.mp hp with rfl | hp
      · obtain ⟨k, -, e⟩ := (LoadRect.mem_set _).mp hy 2
        have e' : b.val = 128 + 1 * k := e
        omega
      exact absurd hp List.not_mem_nil

theorem q_0_0 (a : Fin 128) (d : Fin 128) :
    ((kernelRun0_B.sl.v163 (F := Ideal) c arg2 harg2 arg5 harg5 arg6 harg6 arg13 x0 x3 x4) (ix3 0 a d) : EReal) = QB x0 x3 x4 0 ⟨128 * ((0 : Fin 4)).val + a.val, by show 0 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_0_0 0 a d _ _ _ rfl rfl (by omega)

theorem k_0_0 (b : Fin 256) (d : Fin 128) :
    ((kernelRun0_B.sl.v166 (F := Ideal) c arg3 harg3 arg5 harg5 arg6 harg6 arg9 arg11 harg11 x1 x3 x4 xs2) (ix4 0 0 b d) : EReal) = (rows (fun h a c => (xs2 (ix4 h 0 ⟨a.val, by omega⟩ c) : EReal)) (rope x1 x3 x4)) 0 ⟨128 * ((0 : Fin 4)).val + b.val, by show 0 + b.val < 640; omega⟩ d := by
  refine Eq.trans (congrArg (arg11.view.read (Elt Ideal) (arg11.view.writes (Elt Ideal) (harg11.unread xs2) (kernelRun0_B.sl.HS2_4 (F := Ideal) c arg3 harg3 arg5 harg5 arg6 harg6 arg9 x1 x3 x4))) ?_) (krow_read c arg3 harg3 arg5 harg5 arg6 harg6 arg9 arg11 harg11 x1 x3 x4 xs2 0 _ d)
  exact emb₄ inb_S4x1x640x128_S1x1x256x128_0_0_0_0 0 0 b d _ _ _ _ rfl rfl rfl (by omega)

theorem v_0_0 (b : Fin 256) (d : Fin 128) :
    ((kernelRun0_B.sl.v169 (F := Ideal) c arg4 harg4 arg10 arg12 harg12 x2 xs3) (ix4 0 0 b d) : EReal) = (rows (fun h a c => (xs3 (ix4 h 0 ⟨a.val, by omega⟩ c) : EReal)) (VB x2)) 0 ⟨128 * ((0 : Fin 4)).val + b.val, by show 0 + b.val < 640; omega⟩ d := by
  refine Eq.trans (congrArg (arg12.view.read (Elt Ideal) (arg12.view.writes (Elt Ideal) (harg12.unread xs3) (kernelRun0_B.sl.HS3_4 (F := Ideal) c arg4 harg4 arg10 x2))) ?_) (vrow_read c arg4 harg4 arg10 arg12 harg12 x2 xs3 0 _ d)
  exact emb₄ inb_S4x1x640x128_S1x1x256x128_0_0_0_0 0 0 b d _ _ _ _ rfl rfl rfl (by omega)

theorem q_1_0 (a : Fin 128) (d : Fin 128) :
    ((kernelRun0_B.sl.v196 (F := Ideal) c arg2 harg2 arg5 harg5 arg6 harg6 arg13 x0 x3 x4) (ix3 0 a d) : EReal) = QB x0 x3 x4 1 ⟨128 * ((0 : Fin 4)).val + a.val, by show 0 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_0_0 0 a d _ _ _ rfl rfl (by omega)

theorem k_1_0 (b : Fin 256) (d : Fin 128) :
    ((kernelRun0_B.sl.v199 (F := Ideal) c arg3 harg3 arg5 harg5 arg6 harg6 arg9 arg11 harg11 x1 x3 x4 xs2) (ix4 0 0 b d) : EReal) = (rows (fun h a c => (xs2 (ix4 h 0 ⟨a.val, by omega⟩ c) : EReal)) (rope x1 x3 x4)) 1 ⟨128 * ((0 : Fin 4)).val + b.val, by show 0 + b.val < 640; omega⟩ d := by
  refine Eq.trans (congrArg (arg11.view.read (Elt Ideal) (arg11.view.writes (Elt Ideal) (harg11.unread xs2) (kernelRun0_B.sl.HS2_4 (F := Ideal) c arg3 harg3 arg5 harg5 arg6 harg6 arg9 x1 x3 x4))) ?_) (krow_read c arg3 harg3 arg5 harg5 arg6 harg6 arg9 arg11 harg11 x1 x3 x4 xs2 1 _ d)
  exact emb₄ inb_S4x1x640x128_S1x1x256x128_1_0_0_0 0 0 b d _ _ _ _ rfl rfl rfl (by omega)

theorem v_1_0 (b : Fin 256) (d : Fin 128) :
    ((kernelRun0_B.sl.v202 (F := Ideal) c arg4 harg4 arg10 arg12 harg12 x2 xs3) (ix4 0 0 b d) : EReal) = (rows (fun h a c => (xs3 (ix4 h 0 ⟨a.val, by omega⟩ c) : EReal)) (VB x2)) 1 ⟨128 * ((0 : Fin 4)).val + b.val, by show 0 + b.val < 640; omega⟩ d := by
  refine Eq.trans (congrArg (arg12.view.read (Elt Ideal) (arg12.view.writes (Elt Ideal) (harg12.unread xs3) (kernelRun0_B.sl.HS3_4 (F := Ideal) c arg4 harg4 arg10 x2))) ?_) (vrow_read c arg4 harg4 arg10 arg12 harg12 x2 xs3 1 _ d)
  exact emb₄ inb_S4x1x640x128_S1x1x256x128_1_0_0_0 0 0 b d _ _ _ _ rfl rfl rfl (by omega)

theorem q_2_0 (a : Fin 128) (d : Fin 128) :
    ((kernelRun0_B.sl.v229 (F := Ideal) c arg2 harg2 arg5 harg5 arg6 harg6 arg13 x0 x3 x4) (ix3 0 a d) : EReal) = QB x0 x3 x4 2 ⟨128 * ((0 : Fin 4)).val + a.val, by show 0 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_0_0 0 a d _ _ _ rfl rfl (by omega)

theorem k_2_0 (b : Fin 256) (d : Fin 128) :
    ((kernelRun0_B.sl.v232 (F := Ideal) c arg3 harg3 arg5 harg5 arg6 harg6 arg9 arg11 harg11 x1 x3 x4 xs2) (ix4 0 0 b d) : EReal) = (rows (fun h a c => (xs2 (ix4 h 0 ⟨a.val, by omega⟩ c) : EReal)) (rope x1 x3 x4)) 2 ⟨128 * ((0 : Fin 4)).val + b.val, by show 0 + b.val < 640; omega⟩ d := by
  refine Eq.trans (congrArg (arg11.view.read (Elt Ideal) (arg11.view.writes (Elt Ideal) (harg11.unread xs2) (kernelRun0_B.sl.HS2_4 (F := Ideal) c arg3 harg3 arg5 harg5 arg6 harg6 arg9 x1 x3 x4))) ?_) (krow_read c arg3 harg3 arg5 harg5 arg6 harg6 arg9 arg11 harg11 x1 x3 x4 xs2 2 _ d)
  exact emb₄ inb_S4x1x640x128_S1x1x256x128_2_0_0_0 0 0 b d _ _ _ _ rfl rfl rfl (by omega)

theorem v_2_0 (b : Fin 256) (d : Fin 128) :
    ((kernelRun0_B.sl.v235 (F := Ideal) c arg4 harg4 arg10 arg12 harg12 x2 xs3) (ix4 0 0 b d) : EReal) = (rows (fun h a c => (xs3 (ix4 h 0 ⟨a.val, by omega⟩ c) : EReal)) (VB x2)) 2 ⟨128 * ((0 : Fin 4)).val + b.val, by show 0 + b.val < 640; omega⟩ d := by
  refine Eq.trans (congrArg (arg12.view.read (Elt Ideal) (arg12.view.writes (Elt Ideal) (harg12.unread xs3) (kernelRun0_B.sl.HS3_4 (F := Ideal) c arg4 harg4 arg10 x2))) ?_) (vrow_read c arg4 harg4 arg10 arg12 harg12 x2 xs3 2 _ d)
  exact emb₄ inb_S4x1x640x128_S1x1x256x128_2_0_0_0 0 0 b d _ _ _ _ rfl rfl rfl (by omega)

theorem q_3_0 (a : Fin 128) (d : Fin 128) :
    ((kernelRun0_B.sl.v262 (F := Ideal) c arg2 harg2 arg5 harg5 arg6 harg6 arg13 x0 x3 x4) (ix3 0 a d) : EReal) = QB x0 x3 x4 3 ⟨128 * ((0 : Fin 4)).val + a.val, by show 0 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_0_0 0 a d _ _ _ rfl rfl (by omega)

theorem k_3_0 (b : Fin 256) (d : Fin 128) :
    ((kernelRun0_B.sl.v265 (F := Ideal) c arg3 harg3 arg5 harg5 arg6 harg6 arg9 arg11 harg11 x1 x3 x4 xs2) (ix4 0 0 b d) : EReal) = (rows (fun h a c => (xs2 (ix4 h 0 ⟨a.val, by omega⟩ c) : EReal)) (rope x1 x3 x4)) 3 ⟨128 * ((0 : Fin 4)).val + b.val, by show 0 + b.val < 640; omega⟩ d := by
  refine Eq.trans (congrArg (arg11.view.read (Elt Ideal) (arg11.view.writes (Elt Ideal) (harg11.unread xs2) (kernelRun0_B.sl.HS2_4 (F := Ideal) c arg3 harg3 arg5 harg5 arg6 harg6 arg9 x1 x3 x4))) ?_) (krow_read c arg3 harg3 arg5 harg5 arg6 harg6 arg9 arg11 harg11 x1 x3 x4 xs2 3 _ d)
  exact emb₄ inb_S4x1x640x128_S1x1x256x128_3_0_0_0 0 0 b d _ _ _ _ rfl rfl rfl (by omega)

theorem v_3_0 (b : Fin 256) (d : Fin 128) :
    ((kernelRun0_B.sl.v268 (F := Ideal) c arg4 harg4 arg10 arg12 harg12 x2 xs3) (ix4 0 0 b d) : EReal) = (rows (fun h a c => (xs3 (ix4 h 0 ⟨a.val, by omega⟩ c) : EReal)) (VB x2)) 3 ⟨128 * ((0 : Fin 4)).val + b.val, by show 0 + b.val < 640; omega⟩ d := by
  refine Eq.trans (congrArg (arg12.view.read (Elt Ideal) (arg12.view.writes (Elt Ideal) (harg12.unread xs3) (kernelRun0_B.sl.HS3_4 (F := Ideal) c arg4 harg4 arg10 x2))) ?_) (vrow_read c arg4 harg4 arg10 arg12 harg12 x2 xs3 3 _ d)
  exact emb₄ inb_S4x1x640x128_S1x1x256x128_3_0_0_0 0 0 b d _ _ _ _ rfl rfl rfl (by omega)

theorem q_0_1 (a : Fin 128) (d : Fin 128) :
    ((kernelRun0_B.sl.v295 (F := Ideal) c arg2 harg2 arg5 harg5 arg6 harg6 arg13 x0 x3 x4) (ix3 0 a d) : EReal) = QB x0 x3 x4 0 ⟨128 * ((1 : Fin 4)).val + a.val, by show 128 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_128_0 0 a d _ _ _ rfl rfl (by omega)

theorem k_0_1 (b : Fin 256) (d : Fin 128) :
    ((kernelRun0_B.sl.v298 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 0 ⟨128 * ((1 : Fin 4)).val + b.val, by show 128 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 0 _ (by show 128 ≤ 128 + b.val; omega) d))
  exact emb₄ inb_S4x1x640x128_S1x1x256x128_0_0_128_0 0 0 b d _ _ _ _ rfl rfl rfl (by omega)

theorem v_0_1 (b : Fin 256) (d : Fin 128) :
    ((kernelRun0_B.sl.v301 (F := Ideal) c arg4 harg4 arg10 arg12 x2) (ix4 0 0 b d) : EReal) = (rows (fun h a c => (xs3 (ix4 h 0 ⟨a.val, by omega⟩ c) : EReal)) (VB x2)) 0 ⟨128 * ((1 : Fin 4)).val + b.val, by show 128 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 0 _ (by show 128 ≤ 128 + b.val; omega) d))
  exact emb₄ inb_S4x1x640x128_S1x1x256x128_0_0_128_0 0 0 b d _ _ _ _ rfl rfl rfl (by omega)

theorem q_1_1 (a : Fin 128) (d : Fin 128) :
    ((kernelRun0_B.sl.v328 (F := Ideal) c arg2 harg2 arg5 harg5 arg6 harg6 arg13 x0 x3 x4) (ix3 0 a d) : EReal) = QB x0 x3 x4 1 ⟨128 * ((1 : Fin 4)).val + a.val, by show 128 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_128_0 0 a d _ _ _ rfl rfl (by omega)

theorem k_1_1 (b : Fin 256) (d : Fin 128) :
    ((kernelRun0_B.sl.v331 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 1 ⟨128 * ((1 : Fin 4)).val + b.val, by show 128 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 1 _ (by show 128 ≤ 128 + b.val; omega) d))
  exact emb₄ inb_S4x1x640x128_S1x1x256x128_1_0_128_0 0 0 b d _ _ _ _ rfl rfl rfl (by omega)

theorem v_1_1 (b : Fin 256) (d : Fin 128) :
    ((kernelRun0_B.sl.v334 (F := Ideal) c arg4 harg4 arg10 arg12 x2) (ix4 0 0 b d) : EReal) = (rows (fun h a c => (xs3 (ix4 h 0 ⟨a.val, by omega⟩ c) : EReal)) (VB x2)) 1 ⟨128 * ((1 : Fin 4)).val + b.val, by show 128 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 1 _ (by show 128 ≤ 128 + b.val; omega) d))
  exact emb₄ inb_S4x1x640x128_S1x1x256x128_1_0_128_0 0 0 b d _ _ _ _ rfl rfl rfl (by omega)

theorem q_2_1 (a : Fin 128) (d : Fin 128) :
    ((kernelRun0_B.sl.v361 (F := Ideal) c arg2 harg2 arg5 harg5 arg6 harg6 arg13 x0 x3 x4) (ix3 0 a d) : EReal) = QB x0 x3 x4 2 ⟨128 * ((1 : Fin 4)).val + a.val, by show 128 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_128_0 0 a d _ _ _ rfl rfl (by omega)

theorem k_2_1 (b : Fin 256) (d : Fin 128) :
    ((kernelRun0_B.sl.v364 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 2 ⟨128 * ((1 : Fin 4)).val + b.val, by show 128 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 2 _ (by show 128 ≤ 128 + b.val; omega) d))
  exact emb₄ inb_S4x1x640x128_S1x1x256x128_2_0_128_0 0 0 b d _ _ _ _ rfl rfl rfl (by omega)

theorem v_2_1 (b : Fin 256) (d : Fin 128) :
    ((kernelRun0_B.sl.v367 (F := Ideal) c arg4 harg4 arg10 arg12 x2) (ix4 0 0 b d) : EReal) = (rows (fun h a c => (xs3 (ix4 h 0 ⟨a.val, by omega⟩ c) : EReal)) (VB x2)) 2 ⟨128 * ((1 : Fin 4)).val + b.val, by show 128 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 2 _ (by show 128 ≤ 128 + b.val; omega) d))
  exact emb₄ inb_S4x1x640x128_S1x1x256x128_2_0_128_0 0 0 b d _ _ _ _ rfl rfl rfl (by omega)

theorem q_3_1 (a : Fin 128) (d : Fin 128) :
    ((kernelRun0_B.sl.v394 (F := Ideal) c arg2 harg2 arg5 harg5 arg6 harg6 arg13 x0 x3 x4) (ix3 0 a d) : EReal) = QB x0 x3 x4 3 ⟨128 * ((1 : Fin 4)).val + a.val, by show 128 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_128_0 0 a d _ _ _ rfl rfl (by omega)

theorem k_3_1 (b : Fin 256) (d : Fin 128) :
    ((kernelRun0_B.sl.v397 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 3 ⟨128 * ((1 : Fin 4)).val + b.val, by show 128 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 3 _ (by show 128 ≤ 128 + b.val; omega) d))
  exact emb₄ inb_S4x1x640x128_S1x1x256x128_3_0_128_0 0 0 b d _ _ _ _ rfl rfl rfl (by omega)

theorem v_3_1 (b : Fin 256) (d : Fin 128) :
    ((kernelRun0_B.sl.v400 (F := Ideal) c arg4 harg4 arg10 arg12 x2) (ix4 0 0 b d) : EReal) = (rows (fun h a c => (xs3 (ix4 h 0 ⟨a.val, by omega⟩ c) : EReal)) (VB x2)) 3 ⟨128 * ((1 : Fin 4)).val + b.val, by show 128 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 3 _ (by show 128 ≤ 128 + b.val; omega) d))
  exact emb₄ inb_S4x1x640x128_S1x1x256x128_3_0_128_0 0 0 b d _ _ _ _ rfl rfl rfl (by omega)

theorem q_0_2 (a : Fin 128) (d : Fin 128) :
    ((kernelRun0_B.sl.v427 (F := Ideal) c arg2 harg2 arg5 harg5 arg6 harg6 arg13 x0 x3 x4) (ix3 0 a d) : EReal) = QB x0 x3 x4 0 ⟨128 * ((2 : Fin 4)).val + a.val, by show 256 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_256_0 0 a d _ _ _ rfl rfl (by omega)

theorem k_0_2 (b : Fin 256) (d : Fin 128) :
    ((kernelRun0_B.sl.v430 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 0 ⟨128 * ((2 : Fin 4)).val + b.val, by show 256 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 0 _ (by show 128 ≤ 256 + b.val; omega) d))
  exact emb₄ inb_S4x1x640x128_S1x1x256x128_0_0_256_0 0 0 b d _ _ _ _ rfl rfl rfl (by omega)

theorem v_0_2 (b : Fin 256) (d : Fin 128) :
    ((kernelRun0_B.sl.v433 (F := Ideal) c arg4 harg4 arg10 arg12 x2) (ix4 0 0 b d) : EReal) = (rows (fun h a c => (xs3 (ix4 h 0 ⟨a.val, by omega⟩ c) : EReal)) (VB x2)) 0 ⟨128 * ((2 : Fin 4)).val + b.val, by show 256 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 0 _ (by show 128 ≤ 256 + b.val; omega) d))
  exact emb₄ inb_S4x1x640x128_S1x1x256x128_0_0_256_0 0 0 b d _ _ _ _ rfl rfl rfl (by omega)

theorem q_1_2 (a : Fin 128) (d : Fin 128) :
    ((kernelRun0_B.sl.v460 (F := Ideal) c arg2 harg2 arg5 harg5 arg6 harg6 arg13 x0 x3 x4) (ix3 0 a d) : EReal) = QB x0 x3 x4 1 ⟨128 * ((2 : Fin 4)).val + a.val, by show 256 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_256_0 0 a d _ _ _ rfl rfl (by omega)

theorem k_1_2 (b : Fin 256) (d : Fin 128) :
    ((kernelRun0_B.sl.v463 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 1 ⟨128 * ((2 : Fin 4)).val + b.val, by show 256 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 1 _ (by show 128 ≤ 256 + b.val; omega) d))
  exact emb₄ inb_S4x1x640x128_S1x1x256x128_1_0_256_0 0 0 b d _ _ _ _ rfl rfl rfl (by omega)

theorem v_1_2 (b : Fin 256) (d : Fin 128) :
    ((kernelRun0_B.sl.v466 (F := Ideal) c arg4 harg4 arg10 arg12 x2) (ix4 0 0 b d) : EReal) = (rows (fun h a c => (xs3 (ix4 h 0 ⟨a.val, by omega⟩ c) : EReal)) (VB x2)) 1 ⟨128 * ((2 : Fin 4)).val + b.val, by show 256 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 1 _ (by show 128 ≤ 256 + b.val; omega) d))
  exact emb₄ inb_S4x1x640x128_S1x1x256x128_1_0_256_0 0 0 b d _ _ _ _ rfl rfl rfl (by omega)

theorem q_2_2 (a : Fin 128) (d : Fin 128) :
    ((kernelRun0_B.sl.v493 (F := Ideal) c arg2 harg2 arg5 harg5 arg6 harg6 arg13 x0 x3 x4) (ix3 0 a d) : EReal) = QB x0 x3 x4 2 ⟨128 * ((2 : Fin 4)).val + a.val, by show 256 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_256_0 0 a d _ _ _ rfl rfl (by omega)

theorem k_2_2 (b : Fin 256) (d : Fin 128) :
    ((kernelRun0_B.sl.v496 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 2 ⟨128 * ((2 : Fin 4)).val + b.val, by show 256 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 2 _ (by show 128 ≤ 256 + b.val; omega) d))
  exact emb₄ inb_S4x1x640x128_S1x1x256x128_2_0_256_0 0 0 b d _ _ _ _ rfl rfl rfl (by omega)

theorem v_2_2 (b : Fin 256) (d : Fin 128) :
    ((kernelRun0_B.sl.v499 (F := Ideal) c arg4 harg4 arg10 arg12 x2) (ix4 0 0 b d) : EReal) = (rows (fun h a c => (xs3 (ix4 h 0 ⟨a.val, by omega⟩ c) : EReal)) (VB x2)) 2 ⟨128 * ((2 : Fin 4)).val + b.val, by show 256 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 2 _ (by show 128 ≤ 256 + b.val; omega) d))
  exact emb₄ inb_S4x1x640x128_S1x1x256x128_2_0_256_0 0 0 b d _ _ _ _ rfl rfl rfl (by omega)

theorem q_3_2 (a : Fin 128) (d : Fin 128) :
    ((kernelRun0_B.sl.v526 (F := Ideal) c arg2 harg2 arg5 harg5 arg6 harg6 arg13 x0 x3 x4) (ix3 0 a d) : EReal) = QB x0 x3 x4 3 ⟨128 * ((2 : Fin 4)).val + a.val, by show 256 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_256_0 0 a d _ _ _ rfl rfl (by omega)

theorem k_3_2 (b : Fin 256) (d : Fin 128) :
    ((kernelRun0_B.sl.v529 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 3 ⟨128 * ((2 : Fin 4)).val + b.val, by show 256 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 3 _ (by show 128 ≤ 256 + b.val; omega) d))
  exact emb₄ inb_S4x1x640x128_S1x1x256x128_3_0_256_0 0 0 b d _ _ _ _ rfl rfl rfl (by omega)

theorem v_3_2 (b : Fin 256) (d : Fin 128) :
    ((kernelRun0_B.sl.v532 (F := Ideal) c arg4 harg4 arg10 arg12 x2) (ix4 0 0 b d) : EReal) = (rows (fun h a c => (xs3 (ix4 h 0 ⟨a.val, by omega⟩ c) : EReal)) (VB x2)) 3 ⟨128 * ((2 : Fin 4)).val + b.val, by show 256 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 3 _ (by show 128 ≤ 256 + b.val; omega) d))
  exact emb₄ inb_S4x1x640x128_S1x1x256x128_3_0_256_0 0 0 b d _ _ _ _ rfl rfl rfl (by omega)

theorem q_0_3 (a : Fin 128) (d : Fin 128) :
    ((kernelRun0_B.sl.v559 (F := Ideal) c arg2 harg2 arg5 harg5 arg6 harg6 arg13 x0 x3 x4) (ix3 0 a d) : EReal) = QB x0 x3 x4 0 ⟨128 * ((3 : Fin 4)).val + a.val, by show 384 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 0 _ d))
  exact emb₃ inb_S4x512x128_S1x128x128_0_384_0 0 a d _ _ _ rfl rfl (by omega)

theorem k_0_3 (b : Fin 256) (d : Fin 128) :
    ((kernelRun0_B.sl.v562 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 0 ⟨128 * ((3 : Fin 4)).val + b.val, by show 384 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 0 _ (by show 128 ≤ 384 + b.val; omega) d))
  exact emb₄ inb_S4x1x640x128_S1x1x256x128_0_0_384_0 0 0 b d _ _ _ _ rfl rfl rfl (by omega)

theorem v_0_3 (b : Fin 256) (d : Fin 128) :
    ((kernelRun0_B.sl.v565 (F := Ideal) c arg4 harg4 arg10 arg12 x2) (ix4 0 0 b d) : EReal) = (rows (fun h a c => (xs3 (ix4 h 0 ⟨a.val, by omega⟩ c) : EReal)) (VB x2)) 0 ⟨128 * ((3 : Fin 4)).val + b.val, by show 384 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 0 _ (by show 128 ≤ 384 + b.val; omega) d))
  exact emb₄ inb_S4x1x640x128_S1x1x256x128_0_0_384_0 0 0 b d _ _ _ _ rfl rfl rfl (by omega)

theorem q_1_3 (a : Fin 128) (d : Fin 128) :
    ((kernelRun0_B.sl.v592 (F := Ideal) c arg2 harg2 arg5 harg5 arg6 harg6 arg13 x0 x3 x4) (ix3 0 a d) : EReal) = QB x0 x3 x4 1 ⟨128 * ((3 : Fin 4)).val + a.val, by show 384 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 1 _ d))
  exact emb₃ inb_S4x512x128_S1x128x128_1_384_0 0 a d _ _ _ rfl rfl (by omega)

theorem k_1_3 (b : Fin 256) (d : Fin 128) :
    ((kernelRun0_B.sl.v595 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 1 ⟨128 * ((3 : Fin 4)).val + b.val, by show 384 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 1 _ (by show 128 ≤ 384 + b.val; omega) d))
  exact emb₄ inb_S4x1x640x128_S1x1x256x128_1_0_384_0 0 0 b d _ _ _ _ rfl rfl rfl (by omega)

theorem v_1_3 (b : Fin 256) (d : Fin 128) :
    ((kernelRun0_B.sl.v598 (F := Ideal) c arg4 harg4 arg10 arg12 x2) (ix4 0 0 b d) : EReal) = (rows (fun h a c => (xs3 (ix4 h 0 ⟨a.val, by omega⟩ c) : EReal)) (VB x2)) 1 ⟨128 * ((3 : Fin 4)).val + b.val, by show 384 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 1 _ (by show 128 ≤ 384 + b.val; omega) d))
  exact emb₄ inb_S4x1x640x128_S1x1x256x128_1_0_384_0 0 0 b d _ _ _ _ rfl rfl rfl (by omega)

theorem q_2_3 (a : Fin 128) (d : Fin 128) :
    ((kernelRun0_B.sl.v625 (F := Ideal) c arg2 harg2 arg5 harg5 arg6 harg6 arg13 x0 x3 x4) (ix3 0 a d) : EReal) = QB x0 x3 x4 2 ⟨128 * ((3 : Fin 4)).val + a.val, by show 384 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 2 _ d))
  exact emb₃ inb_S4x512x128_S1x128x128_2_384_0 0 a d _ _ _ rfl rfl (by omega)

theorem k_2_3 (b : Fin 256) (d : Fin 128) :
    ((kernelRun0_B.sl.v628 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 2 ⟨128 * ((3 : Fin 4)).val + b.val, by show 384 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 2 _ (by show 128 ≤ 384 + b.val; omega) d))
  exact emb₄ inb_S4x1x640x128_S1x1x256x128_2_0_384_0 0 0 b d _ _ _ _ rfl rfl rfl (by omega)

theorem v_2_3 (b : Fin 256) (d : Fin 128) :
    ((kernelRun0_B.sl.v631 (F := Ideal) c arg4 harg4 arg10 arg12 x2) (ix4 0 0 b d) : EReal) = (rows (fun h a c => (xs3 (ix4 h 0 ⟨a.val, by omega⟩ c) : EReal)) (VB x2)) 2 ⟨128 * ((3 : Fin 4)).val + b.val, by show 384 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 2 _ (by show 128 ≤ 384 + b.val; omega) d))
  exact emb₄ inb_S4x1x640x128_S1x1x256x128_2_0_384_0 0 0 b d _ _ _ _ rfl rfl rfl (by omega)

theorem q_3_3 (a : Fin 128) (d : Fin 128) :
    ((kernelRun0_B.sl.v658 (F := Ideal) c arg2 harg2 arg5 harg5 arg6 harg6 arg13 x0 x3 x4) (ix3 0 a d) : EReal) = QB x0 x3 x4 3 ⟨128 * ((3 : Fin 4)).val + a.val, by show 384 + a.val < 512; omega⟩ d := by
  refine (congrFun (View.readCov_eq_canon' _ _ _) _).trans (Eq.trans (congrArg (View.canon (kernelRun0_B.sl.HS4_4 (F := Ideal) c arg2 harg2 arg5 harg5 arg6 harg6 x0 x3 x4)) ?_) (qbuf c arg2 harg2 arg5 harg5 arg6 harg6 x0 x3 x4 3 _ d))
  exact emb₃ inb_S4x512x128_S1x128x128_3_384_0 0 a d _ _ _ rfl rfl (by omega)

theorem k_3_3 (b : Fin 256) (d : Fin 128) :
    ((kernelRun0_B.sl.v661 (F := Ideal) c arg3 harg3 arg5 harg5 arg6 harg6 arg9 arg11 x1 x3 x4) (ix4 0 0 b d) : EReal) = (rows (fun h a c => (xs2 (ix4 h 0 ⟨a.val, by omega⟩ c) : EReal)) (rope x1 x3 x4)) 3 ⟨128 * ((3 : Fin 4)).val + b.val, by show 384 + b.val < 640; omega⟩ d := by
  refine (congrFun (View.readCov_eq_canon' _ _ _) _).trans (Eq.trans (congrArg (View.canon (kernelRun0_B.sl.HS2_4 (F := Ideal) c arg3 harg3 arg5 harg5 arg6 harg6 arg9 x1 x3 x4)) ?_) (krow c arg3 harg3 arg5 harg5 arg6 harg6 arg9 x1 x3 x4 xs2 3 _ (by show 128 ≤ 384 + b.val; omega) d))
  exact emb₄ inb_S4x1x640x128_S1x1x256x128_3_0_384_0 0 0 b d _ _ _ _ rfl rfl rfl (by omega)

theorem v_3_3 (b : Fin 256) (d : Fin 128) :
    ((kernelRun0_B.sl.v664 (F := Ideal) c arg4 harg4 arg10 arg12 x2) (ix4 0 0 b d) : EReal) = (rows (fun h a c => (xs3 (ix4 h 0 ⟨a.val, by omega⟩ c) : EReal)) (VB x2)) 3 ⟨128 * ((3 : Fin 4)).val + b.val, by show 384 + b.val < 640; omega⟩ d := by
  refine (congrFun (View.readCov_eq_canon' _ _ _) _).trans (Eq.trans (congrArg (View.canon (kernelRun0_B.sl.HS3_4 (F := Ideal) c arg4 harg4 arg10 x2)) ?_) (vrow c arg4 harg4 arg10 x2 xs3 3 _ (by show 128 ≤ 384 + b.val; omega) d))
  exact emb₄ inb_S4x1x640x128_S1x1x256x128_3_0_384_0 0 0 b d _ _ _ _ rfl rfl rfl (by omega)

theorem op_0_0 (x : S1x128x128.Idx) :
    oV (sV (maskAt (BitVec.ofNat 32 (i 1).val) 0) nm (kernelRun0_B.sl.v163 (F := Ideal) c arg2 harg2 arg5 harg5 arg6 harg6 arg13 x0 x3 x4) (kernelRun0_B.sl.v166 (F := Ideal) c arg3 harg3 arg5 harg5 arg6 harg6 arg9 arg11 harg11 x1 x3 x4 xs2) shapeCasts_S1x128x128_S128x128 shapeCasts_S1x1x256x128_S256x128 bitsLt_bf16_f32) (kernelRun0_B.sl.v169 (F := Ideal) c arg4 harg4 arg10 arg12 harg12 x2 xs3) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![0, 0, 0] S1x128x128.size inb_S4x512x128_S1x128x128_0_0_0).emb x) :=
  piece₃ inb_S4x512x128_S1x128x128_0_0_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 0) (fun a => ⟨0 + a.val, by omega⟩) id (mv_head 0) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 0 0 _ _ _ (q_0_0 c arg2 harg2 arg5 harg5 arg6 harg6 arg13 x0 x3 x4) (k_0_0 c arg3 harg3 arg5 harg5 arg6 harg6 arg9 arg11 harg11 x1 x3 x4 xs2) (v_0_0 c arg4 harg4 arg10 arg12 harg12 x2 xs3) _ _ _ _ _ _ _ _ _ _ z a d ⟨0 + a.val, by omega⟩ rfl) x

theorem op_1_0 (x : S1x128x128.Idx) :
    oV (sV (maskAt (BitVec.ofNat 32 (i 1).val) 0) nm (kernelRun0_B.sl.v196 (F := Ideal) c arg2 harg2 arg5 harg5 arg6 harg6 arg13 x0 x3 x4) (kernelRun0_B.sl.v199 (F := Ideal) c arg3 harg3 arg5 harg5 arg6 harg6 arg9 arg11 harg11 x1 x3 x4 xs2) shapeCasts_S1x128x128_S128x128 shapeCasts_S1x1x256x128_S256x128 bitsLt_bf16_f32) (kernelRun0_B.sl.v202 (F := Ideal) c arg4 harg4 arg10 arg12 harg12 x2 xs3) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![1, 0, 0] S1x128x128.size inb_S4x512x128_S1x128x128_1_0_0).emb x) :=
  piece₃ inb_S4x512x128_S1x128x128_1_0_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 1) (fun a => ⟨0 + a.val, by omega⟩) id (mv_head 1) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 1 0 _ _ _ (q_1_0 c arg2 harg2 arg5 harg5 arg6 harg6 arg13 x0 x3 x4) (k_1_0 c arg3 harg3 arg5 harg5 arg6 harg6 arg9 arg11 harg11 x1 x3 x4 xs2) (v_1_0 c arg4 harg4 arg10 arg12 harg12 x2 xs3) _ _ _ _ _ _ _ _ _ _ z a d ⟨0 + a.val, by omega⟩ rfl) x

theorem op_2_0 (x : S1x128x128.Idx) :
    oV (sV (maskAt (BitVec.ofNat 32 (i 1).val) 0) nm (kernelRun0_B.sl.v229 (F := Ideal) c arg2 harg2 arg5 harg5 arg6 harg6 arg13 x0 x3 x4) (kernelRun0_B.sl.v232 (F := Ideal) c arg3 harg3 arg5 harg5 arg6 harg6 arg9 arg11 harg11 x1 x3 x4 xs2) shapeCasts_S1x128x128_S128x128 shapeCasts_S1x1x256x128_S256x128 bitsLt_bf16_f32) (kernelRun0_B.sl.v235 (F := Ideal) c arg4 harg4 arg10 arg12 harg12 x2 xs3) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![2, 0, 0] S1x128x128.size inb_S4x512x128_S1x128x128_2_0_0).emb x) :=
  piece₃ inb_S4x512x128_S1x128x128_2_0_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 2) (fun a => ⟨0 + a.val, by omega⟩) id (mv_head 2) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 2 0 _ _ _ (q_2_0 c arg2 harg2 arg5 harg5 arg6 harg6 arg13 x0 x3 x4) (k_2_0 c arg3 harg3 arg5 harg5 arg6 harg6 arg9 arg11 harg11 x1 x3 x4 xs2) (v_2_0 c arg4 harg4 arg10 arg12 harg12 x2 xs3) _ _ _ _ _ _ _ _ _ _ z a d ⟨0 + a.val, by omega⟩ rfl) x

theorem op_3_0 (x : S1x128x128.Idx) :
    oV (sV (maskAt (BitVec.ofNat 32 (i 1).val) 0) nm (kernelRun0_B.sl.v262 (F := Ideal) c arg2 harg2 arg5 harg5 arg6 harg6 arg13 x0 x3 x4) (kernelRun0_B.sl.v265 (F := Ideal) c arg3 harg3 arg5 harg5 arg6 harg6 arg9 arg11 harg11 x1 x3 x4 xs2) shapeCasts_S1x128x128_S128x128 shapeCasts_S1x1x256x128_S256x128 bitsLt_bf16_f32) (kernelRun0_B.sl.v268 (F := Ideal) c arg4 harg4 arg10 arg12 harg12 x2 xs3) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![3, 0, 0] S1x128x128.size inb_S4x512x128_S1x128x128_3_0_0).emb x) :=
  piece₃ inb_S4x512x128_S1x128x128_3_0_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 3) (fun a => ⟨0 + a.val, by omega⟩) id (mv_head 3) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 3 0 _ _ _ (q_3_0 c arg2 harg2 arg5 harg5 arg6 harg6 arg13 x0 x3 x4) (k_3_0 c arg3 harg3 arg5 harg5 arg6 harg6 arg9 arg11 harg11 x1 x3 x4 xs2) (v_3_0 c arg4 harg4 arg10 arg12 harg12 x2 xs3) _ _ _ _ _ _ _ _ _ _ z a d ⟨0 + a.val, by omega⟩ rfl) x

theorem op_0_1 (x : S1x128x128.Idx) :
    oV (sV (maskAt (BitVec.ofNat 32 (i 1).val) 1) nm (kernelRun0_B.sl.v295 (F := Ideal) c arg2 harg2 arg5 harg5 arg6 harg6 arg13 x0 x3 x4) (kernelRun0_B.sl.v298 (F := Ideal) c arg3 harg3 arg5 harg5 arg6 harg6 arg9 arg11 x1 x3 x4) shapeCasts_S1x128x128_S128x128 shapeCasts_S1x1x256x128_S256x128 bitsLt_bf16_f32) (kernelRun0_B.sl.v301 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![0, 128, 0] S1x128x128.size inb_S4x512x128_S1x128x128_0_128_0).emb x) :=
  piece₃ inb_S4x512x128_S1x128x128_0_128_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 0) (fun a => ⟨128 + a.val, by omega⟩) id (mv_head 0) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 0 1 _ _ _ (q_0_1 c arg2 harg2 arg5 harg5 arg6 harg6 arg13 x0 x3 x4) (k_0_1 c arg3 harg3 arg5 harg5 arg6 harg6 arg9 arg11 x1 x3 x4 xs2) (v_0_1 c arg4 harg4 arg10 arg12 x2 xs3) _ _ _ _ _ _ _ _ _ _ z a d ⟨128 + a.val, by omega⟩ rfl) x

theorem op_1_1 (x : S1x128x128.Idx) :
    oV (sV (maskAt (BitVec.ofNat 32 (i 1).val) 1) nm (kernelRun0_B.sl.v328 (F := Ideal) c arg2 harg2 arg5 harg5 arg6 harg6 arg13 x0 x3 x4) (kernelRun0_B.sl.v331 (F := Ideal) c arg3 harg3 arg5 harg5 arg6 harg6 arg9 arg11 x1 x3 x4) shapeCasts_S1x128x128_S128x128 shapeCasts_S1x1x256x128_S256x128 bitsLt_bf16_f32) (kernelRun0_B.sl.v334 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![1, 128, 0] S1x128x128.size inb_S4x512x128_S1x128x128_1_128_0).emb x) :=
  piece₃ inb_S4x512x128_S1x128x128_1_128_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 1) (fun a => ⟨128 + a.val, by omega⟩) id (mv_head 1) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 1 1 _ _ _ (q_1_1 c arg2 harg2 arg5 harg5 arg6 harg6 arg13 x0 x3 x4) (k_1_1 c arg3 harg3 arg5 harg5 arg6 harg6 arg9 arg11 x1 x3 x4 xs2) (v_1_1 c arg4 harg4 arg10 arg12 x2 xs3) _ _ _ _ _ _ _ _ _ _ z a d ⟨128 + a.val, by omega⟩ rfl) x

theorem op_2_1 (x : S1x128x128.Idx) :
    oV (sV (maskAt (BitVec.ofNat 32 (i 1).val) 1) nm (kernelRun0_B.sl.v361 (F := Ideal) c arg2 harg2 arg5 harg5 arg6 harg6 arg13 x0 x3 x4) (kernelRun0_B.sl.v364 (F := Ideal) c arg3 harg3 arg5 harg5 arg6 harg6 arg9 arg11 x1 x3 x4) shapeCasts_S1x128x128_S128x128 shapeCasts_S1x1x256x128_S256x128 bitsLt_bf16_f32) (kernelRun0_B.sl.v367 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![2, 128, 0] S1x128x128.size inb_S4x512x128_S1x128x128_2_128_0).emb x) :=
  piece₃ inb_S4x512x128_S1x128x128_2_128_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 2) (fun a => ⟨128 + a.val, by omega⟩) id (mv_head 2) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 2 1 _ _ _ (q_2_1 c arg2 harg2 arg5 harg5 arg6 harg6 arg13 x0 x3 x4) (k_2_1 c arg3 harg3 arg5 harg5 arg6 harg6 arg9 arg11 x1 x3 x4 xs2) (v_2_1 c arg4 harg4 arg10 arg12 x2 xs3) _ _ _ _ _ _ _ _ _ _ z a d ⟨128 + a.val, by omega⟩ rfl) x

theorem op_3_1 (x : S1x128x128.Idx) :
    oV (sV (maskAt (BitVec.ofNat 32 (i 1).val) 1) nm (kernelRun0_B.sl.v394 (F := Ideal) c arg2 harg2 arg5 harg5 arg6 harg6 arg13 x0 x3 x4) (kernelRun0_B.sl.v397 (F := Ideal) c arg3 harg3 arg5 harg5 arg6 harg6 arg9 arg11 x1 x3 x4) shapeCasts_S1x128x128_S128x128 shapeCasts_S1x1x256x128_S256x128 bitsLt_bf16_f32) (kernelRun0_B.sl.v400 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![3, 128, 0] S1x128x128.size inb_S4x512x128_S1x128x128_3_128_0).emb x) :=
  piece₃ inb_S4x512x128_S1x128x128_3_128_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 3) (fun a => ⟨128 + a.val, by omega⟩) id (mv_head 3) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 3 1 _ _ _ (q_3_1 c arg2 harg2 arg5 harg5 arg6 harg6 arg13 x0 x3 x4) (k_3_1 c arg3 harg3 arg5 harg5 arg6 harg6 arg9 arg11 x1 x3 x4 xs2) (v_3_1 c arg4 harg4 arg10 arg12 x2 xs3) _ _ _ _ _ _ _ _ _ _ z a d ⟨128 + a.val, by omega⟩ rfl) x

theorem op_0_2 (x : S1x128x128.Idx) :
    oV (sV (maskAt (BitVec.ofNat 32 (i 1).val) 2) nm (kernelRun0_B.sl.v427 (F := Ideal) c arg2 harg2 arg5 harg5 arg6 harg6 arg13 x0 x3 x4) (kernelRun0_B.sl.v430 (F := Ideal) c arg3 harg3 arg5 harg5 arg6 harg6 arg9 arg11 x1 x3 x4) shapeCasts_S1x128x128_S128x128 shapeCasts_S1x1x256x128_S256x128 bitsLt_bf16_f32) (kernelRun0_B.sl.v433 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![0, 256, 0] S1x128x128.size inb_S4x512x128_S1x128x128_0_256_0).emb x) :=
  piece₃ inb_S4x512x128_S1x128x128_0_256_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 0) (fun a => ⟨256 + a.val, by omega⟩) id (mv_head 0) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 0 2 _ _ _ (q_0_2 c arg2 harg2 arg5 harg5 arg6 harg6 arg13 x0 x3 x4) (k_0_2 c arg3 harg3 arg5 harg5 arg6 harg6 arg9 arg11 x1 x3 x4 xs2) (v_0_2 c arg4 harg4 arg10 arg12 x2 xs3) _ _ _ _ _ _ _ _ _ _ z a d ⟨256 + a.val, by omega⟩ rfl) x

theorem op_1_2 (x : S1x128x128.Idx) :
    oV (sV (maskAt (BitVec.ofNat 32 (i 1).val) 2) nm (kernelRun0_B.sl.v460 (F := Ideal) c arg2 harg2 arg5 harg5 arg6 harg6 arg13 x0 x3 x4) (kernelRun0_B.sl.v463 (F := Ideal) c arg3 harg3 arg5 harg5 arg6 harg6 arg9 arg11 x1 x3 x4) shapeCasts_S1x128x128_S128x128 shapeCasts_S1x1x256x128_S256x128 bitsLt_bf16_f32) (kernelRun0_B.sl.v466 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![1, 256, 0] S1x128x128.size inb_S4x512x128_S1x128x128_1_256_0).emb x) :=
  piece₃ inb_S4x512x128_S1x128x128_1_256_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 1) (fun a => ⟨256 + a.val, by omega⟩) id (mv_head 1) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 1 2 _ _ _ (q_1_2 c arg2 harg2 arg5 harg5 arg6 harg6 arg13 x0 x3 x4) (k_1_2 c arg3 harg3 arg5 harg5 arg6 harg6 arg9 arg11 x1 x3 x4 xs2) (v_1_2 c arg4 harg4 arg10 arg12 x2 xs3) _ _ _ _ _ _ _ _ _ _ z a d ⟨256 + a.val, by omega⟩ rfl) x

theorem op_2_2 (x : S1x128x128.Idx) :
    oV (sV (maskAt (BitVec.ofNat 32 (i 1).val) 2) nm (kernelRun0_B.sl.v493 (F := Ideal) c arg2 harg2 arg5 harg5 arg6 harg6 arg13 x0 x3 x4) (kernelRun0_B.sl.v496 (F := Ideal) c arg3 harg3 arg5 harg5 arg6 harg6 arg9 arg11 x1 x3 x4) shapeCasts_S1x128x128_S128x128 shapeCasts_S1x1x256x128_S256x128 bitsLt_bf16_f32) (kernelRun0_B.sl.v499 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![2, 256, 0] S1x128x128.size inb_S4x512x128_S1x128x128_2_256_0).emb x) :=
  piece₃ inb_S4x512x128_S1x128x128_2_256_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 2) (fun a => ⟨256 + a.val, by omega⟩) id (mv_head 2) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 2 2 _ _ _ (q_2_2 c arg2 harg2 arg5 harg5 arg6 harg6 arg13 x0 x3 x4) (k_2_2 c arg3 harg3 arg5 harg5 arg6 harg6 arg9 arg11 x1 x3 x4 xs2) (v_2_2 c arg4 harg4 arg10 arg12 x2 xs3) _ _ _ _ _ _ _ _ _ _ z a d ⟨256 + a.val, by omega⟩ rfl) x

theorem op_3_2 (x : S1x128x128.Idx) :
    oV (sV (maskAt (BitVec.ofNat 32 (i 1).val) 2) nm (kernelRun0_B.sl.v526 (F := Ideal) c arg2 harg2 arg5 harg5 arg6 harg6 arg13 x0 x3 x4) (kernelRun0_B.sl.v529 (F := Ideal) c arg3 harg3 arg5 harg5 arg6 harg6 arg9 arg11 x1 x3 x4) shapeCasts_S1x128x128_S128x128 shapeCasts_S1x1x256x128_S256x128 bitsLt_bf16_f32) (kernelRun0_B.sl.v532 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![3, 256, 0] S1x128x128.size inb_S4x512x128_S1x128x128_3_256_0).emb x) :=
  piece₃ inb_S4x512x128_S1x128x128_3_256_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 3) (fun a => ⟨256 + a.val, by omega⟩) id (mv_head 3) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 3 2 _ _ _ (q_3_2 c arg2 harg2 arg5 harg5 arg6 harg6 arg13 x0 x3 x4) (k_3_2 c arg3 harg3 arg5 harg5 arg6 harg6 arg9 arg11 x1 x3 x4 xs2) (v_3_2 c arg4 harg4 arg10 arg12 x2 xs3) _ _ _ _ _ _ _ _ _ _ z a d ⟨256 + a.val, by omega⟩ rfl) x

theorem op_0_3 (x : S1x128x128.Idx) :
    oV (sV (maskAt (BitVec.ofNat 32 (i 1).val) 3) nm (kernelRun0_B.sl.v559 (F := Ideal) c arg2 harg2 arg5 harg5 arg6 harg6 arg13 x0 x3 x4) (kernelRun0_B.sl.v562 (F := Ideal) c arg3 harg3 arg5 harg5 arg6 harg6 arg9 arg11 x1 x3 x4) shapeCasts_S1x128x128_S128x128 shapeCasts_S1x1x256x128_S256x128 bitsLt_bf16_f32) (kernelRun0_B.sl.v565 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![0, 384, 0] S1x128x128.size inb_S4x512x128_S1x128x128_0_384_0).emb x) :=
  piece₃ inb_S4x512x128_S1x128x128_0_384_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 0) (fun a => ⟨384 + a.val, by omega⟩) id (mv_head 0) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 0 3 _ _ _ (q_0_3 c arg2 harg2 arg5 harg5 arg6 harg6 arg13 x0 x3 x4) (k_0_3 c arg3 harg3 arg5 harg5 arg6 harg6 arg9 arg11 x1 x3 x4 xs2) (v_0_3 c arg4 harg4 arg10 arg12 x2 xs3) _ _ _ _ _ _ _ _ _ _ z a d ⟨384 + a.val, by omega⟩ rfl) x

theorem op_1_3 (x : S1x128x128.Idx) :
    oV (sV (maskAt (BitVec.ofNat 32 (i 1).val) 3) nm (kernelRun0_B.sl.v592 (F := Ideal) c arg2 harg2 arg5 harg5 arg6 harg6 arg13 x0 x3 x4) (kernelRun0_B.sl.v595 (F := Ideal) c arg3 harg3 arg5 harg5 arg6 harg6 arg9 arg11 x1 x3 x4) shapeCasts_S1x128x128_S128x128 shapeCasts_S1x1x256x128_S256x128 bitsLt_bf16_f32) (kernelRun0_B.sl.v598 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![1, 384, 0] S1x128x128.size inb_S4x512x128_S1x128x128_1_384_0).emb x) :=
  piece₃ inb_S4x512x128_S1x128x128_1_384_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 1) (fun a => ⟨384 + a.val, by omega⟩) id (mv_head 1) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 1 3 _ _ _ (q_1_3 c arg2 harg2 arg5 harg5 arg6 harg6 arg13 x0 x3 x4) (k_1_3 c arg3 harg3 arg5 harg5 arg6 harg6 arg9 arg11 x1 x3 x4 xs2) (v_1_3 c arg4 harg4 arg10 arg12 x2 xs3) _ _ _ _ _ _ _ _ _ _ z a d ⟨384 + a.val, by omega⟩ rfl) x

theorem op_2_3 (x : S1x128x128.Idx) :
    oV (sV (maskAt (BitVec.ofNat 32 (i 1).val) 3) nm (kernelRun0_B.sl.v625 (F := Ideal) c arg2 harg2 arg5 harg5 arg6 harg6 arg13 x0 x3 x4) (kernelRun0_B.sl.v628 (F := Ideal) c arg3 harg3 arg5 harg5 arg6 harg6 arg9 arg11 x1 x3 x4) shapeCasts_S1x128x128_S128x128 shapeCasts_S1x1x256x128_S256x128 bitsLt_bf16_f32) (kernelRun0_B.sl.v631 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![2, 384, 0] S1x128x128.size inb_S4x512x128_S1x128x128_2_384_0).emb x) :=
  piece₃ inb_S4x512x128_S1x128x128_2_384_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 2) (fun a => ⟨384 + a.val, by omega⟩) id (mv_head 2) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 2 3 _ _ _ (q_2_3 c arg2 harg2 arg5 harg5 arg6 harg6 arg13 x0 x3 x4) (k_2_3 c arg3 harg3 arg5 harg5 arg6 harg6 arg9 arg11 x1 x3 x4 xs2) (v_2_3 c arg4 harg4 arg10 arg12 x2 xs3) _ _ _ _ _ _ _ _ _ _ z a d ⟨384 + a.val, by omega⟩ rfl) x

theorem op_3_3 (x : S1x128x128.Idx) :
    oV (sV (maskAt (BitVec.ofNat 32 (i 1).val) 3) nm (kernelRun0_B.sl.v658 (F := Ideal) c arg2 harg2 arg5 harg5 arg6 harg6 arg13 x0 x3 x4) (kernelRun0_B.sl.v661 (F := Ideal) c arg3 harg3 arg5 harg5 arg6 harg6 arg9 arg11 x1 x3 x4) shapeCasts_S1x128x128_S128x128 shapeCasts_S1x1x256x128_S256x128 bitsLt_bf16_f32) (kernelRun0_B.sl.v664 (F := Ideal) c arg4 harg4 arg10 arg12 x2) reduces_S128x256_S128 shapeCasts_S128_S128x1 broadcasts_S128x1_S128x256 shapeCasts_S1x1x256x128_S256x128 bitsLt_bf16_f32 broadcasts_S128x1_S128x128 shapeCasts_S128x128_S1x128x128 x
      = (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) ((Rect.unit (s := S4x512x128) ![3, 384, 0] S1x128x128.size inb_S4x512x128_S1x128x128_3_384_0).emb x) :=
  piece₃ inb_S4x512x128_S1x128x128_3_384_0 _ (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal))
    (fun _ => 3) (fun a => ⟨384 + a.val, by omega⟩) id (mv_head 3) (fun _ => rfl) mv_id
    (fun z a d => o_of (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) 3 3 _ _ _ (q_3_3 c arg2 harg2 arg5 harg5 arg6 harg6 arg13 x0 x3 x4) (k_3_3 c arg3 harg3 arg5 harg5 arg6 harg6 arg9 arg11 x1 x3 x4 xs2) (v_3_3 c arg4 harg4 arg10 arg12 x2 xs3) _ _ _ _ _ _ _ _ _ _ z a d ⟨384 + a.val, by omega⟩ rfl) x

theorem obuf (h : Fin 4) (a : Fin 512) (d : Fin 128) :
    (View.canon (kernelRun0_B.sl.HS5_16 (F := Ideal) c i arg2 harg2 arg3 harg3 arg4 harg4 arg5 harg5 arg6 harg6 arg9 arg10 arg11 harg11 arg12 harg12 arg13 x0 x1 x2 x3 x4 xs2 xs3) (ix3 h a d) : EReal) = OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) h a d := by
  have hp : View.PiecesOf (Val := Elt Ideal) (e := .f32) (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) (kernelRun0_B.sl.HS5_16 (F := Ideal) c i arg2 harg2 arg3 harg3 arg4 harg4 arg5 harg5 arg6 harg6 arg9 arg10 arg11 harg11 arg12 harg12 arg13 x0 x1 x2 x3 x4 xs2 xs3) := by
    unfold kernelRun0_B.sl.HS5_16
    exact ⟨op_3_3 c i arg2 harg2 arg3 harg3 arg4 harg4 arg5 harg5 arg6 harg6 arg9 arg10 arg11 arg12 arg13 x0 x1 x2 x3 x4 xs2 xs3, op_2_3 c i arg2 harg2 arg3 harg3 arg4 harg4 arg5 harg5 arg6 harg6 arg9 arg10 arg11 arg12 arg13 x0 x1 x2 x3 x4 xs2 xs3, op_1_3 c i arg2 harg2 arg3 harg3 arg4 harg4 arg5 harg5 arg6 harg6 arg9 arg10 arg11 arg12 arg13 x0 x1 x2 x3 x4 xs2 xs3, op_0_3 c i arg2 harg2 arg3 harg3 arg4 harg4 arg5 harg5 arg6 harg6 arg9 arg10 arg11 arg12 arg13 x0 x1 x2 x3 x4 xs2 xs3, op_3_2 c i arg2 harg2 arg3 harg3 arg4 harg4 arg5 harg5 arg6 harg6 arg9 arg10 arg11 arg12 arg13 x0 x1 x2 x3 x4 xs2 xs3, op_2_2 c i arg2 harg2 arg3 harg3 arg4 harg4 arg5 harg5 arg6 harg6 arg9 arg10 arg11 arg12 arg13 x0 x1 x2 x3 x4 xs2 xs3, op_1_2 c i arg2 harg2 arg3 harg3 arg4 harg4 arg5 harg5 arg6 harg6 arg9 arg10 arg11 arg12 arg13 x0 x1 x2 x3 x4 xs2 xs3, op_0_2 c i arg2 harg2 arg3 harg3 arg4 harg4 arg5 harg5 arg6 harg6 arg9 arg10 arg11 arg12 arg13 x0 x1 x2 x3 x4 xs2 xs3, op_3_1 c i arg2 harg2 arg3 harg3 arg4 harg4 arg5 harg5 arg6 harg6 arg9 arg10 arg11 arg12 arg13 x0 x1 x2 x3 x4 xs2 xs3, op_2_1 c i arg2 harg2 arg3 harg3 arg4 harg4 arg5 harg5 arg6 harg6 arg9 arg10 arg11 arg12 arg13 x0 x1 x2 x3 x4 xs2 xs3, op_1_1 c i arg2 harg2 arg3 harg3 arg4 harg4 arg5 harg5 arg6 harg6 arg9 arg10 arg11 arg12 arg13 x0 x1 x2 x3 x4 xs2 xs3, op_0_1 c i arg2 harg2 arg3 harg3 arg4 harg4 arg5 harg5 arg6 harg6 arg9 arg10 arg11 arg12 arg13 x0 x1 x2 x3 x4 xs2 xs3, op_3_0 c i arg2 harg2 arg3 harg3 arg4 harg4 arg5 harg5 arg6 harg6 arg9 arg10 arg11 harg11 arg12 harg12 arg13 x0 x1 x2 x3 x4 xs2 xs3, op_2_0 c i arg2 harg2 arg3 harg3 arg4 harg4 arg5 harg5 arg6 harg6 arg9 arg10 arg11 harg11 arg12 harg12 arg13 x0 x1 x2 x3 x4 xs2 xs3, op_1_0 c i arg2 harg2 arg3 harg3 arg4 harg4 arg5 harg5 arg6 harg6 arg9 arg10 arg11 harg11 arg12 harg12 arg13 x0 x1 x2 x3 x4 xs2 xs3, op_0_0 c i arg2 harg2 arg3 harg3 arg4 harg4 arg5 harg5 arg6 harg6 arg9 arg10 arg11 harg11 arg12 harg12 arg13 x0 x1 x2 x3 x4 xs2 xs3, trivial⟩
  exact View.canon_apply_of_pieces (fun y : S4x512x128.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) (y 0) (y 1) (y 2) : EReal)) (kernelRun0_B.sl.HS5_16 (F := Ideal) c i arg2 harg2 arg3 harg3 arg4 harg4 arg5 harg5 arg6 harg6 arg9 arg10 arg11 harg11 arg12 harg12 arg13 x0 x1 x2 x3 x4 xs2 xs3) hp.mem (ix3 h a d) (View.cover_of_tiledL (kernelRun0_B.sl.HS5_16 (F := Ideal) c i arg2 harg2 arg3 harg3 arg4 harg4 arg5 harg5 arg6 harg6 arg9 arg10 arg11 harg11 arg12 harg12 arg13 x0 x1 x2 x3 x4 xs2 xs3) S1x128x128.size (by sl_kernel_rfl) _)

theorem lp_0_0 (x : S1x128x128.Idx) :
    lV (sV (maskAt (BitVec.ofNat 32 (i 1).val) 0) nm (kernelRun0_B.sl.v163 (F := Ideal) c arg2 harg2 arg5 harg5 arg6 harg6 arg13 x0 x3 x4) (kernelRun0_B.sl.v166 (F := Ideal) c arg3 harg3 arg5 harg5 arg6 harg6 arg9 arg11 harg11 x1 x3 x4 xs2) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![0, 0, 0] S1x128x128.size inb_S4x512x128_S1x128x128_0_0_0).emb x) :=
  piece₃ inb_S4x512x128_S1x128x128_0_0_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 0) (fun a => ⟨0 + a.val, by omega⟩) id (mv_head 0) (fun _ => rfl) mv_id
    (fun z a d => l_of (BitVec.ofNat 32 (i 1).val) (QB x0 x3 x4) (rows (fun h a c => (xs2 (ix4 h 0 ⟨a.val, by omega⟩ c) : EReal)) (rope x1 x3 x4)) 0 0 _ _ (q_0_0 c arg2 harg2 arg5 harg5 arg6 harg6 arg13 x0 x3 x4) (k_0_0 c arg3 harg3 arg5 harg5 arg6 harg6 arg9 arg11 harg11 x1 x3 x4 xs2) _ _ _ _ _ _ _ _ _ z a d ⟨0 + a.val, by omega⟩ rfl) x

theorem lp_1_0 (x : S1x128x128.Idx) :
    lV (sV (maskAt (BitVec.ofNat 32 (i 1).val) 0) nm (kernelRun0_B.sl.v196 (F := Ideal) c arg2 harg2 arg5 harg5 arg6 harg6 arg13 x0 x3 x4) (kernelRun0_B.sl.v199 (F := Ideal) c arg3 harg3 arg5 harg5 arg6 harg6 arg9 arg11 harg11 x1 x3 x4 xs2) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![1, 0, 0] S1x128x128.size inb_S4x512x128_S1x128x128_1_0_0).emb x) :=
  piece₃ inb_S4x512x128_S1x128x128_1_0_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 1) (fun a => ⟨0 + a.val, by omega⟩) id (mv_head 1) (fun _ => rfl) mv_id
    (fun z a d => l_of (BitVec.ofNat 32 (i 1).val) (QB x0 x3 x4) (rows (fun h a c => (xs2 (ix4 h 0 ⟨a.val, by omega⟩ c) : EReal)) (rope x1 x3 x4)) 1 0 _ _ (q_1_0 c arg2 harg2 arg5 harg5 arg6 harg6 arg13 x0 x3 x4) (k_1_0 c arg3 harg3 arg5 harg5 arg6 harg6 arg9 arg11 harg11 x1 x3 x4 xs2) _ _ _ _ _ _ _ _ _ z a d ⟨0 + a.val, by omega⟩ rfl) x

theorem lp_2_0 (x : S1x128x128.Idx) :
    lV (sV (maskAt (BitVec.ofNat 32 (i 1).val) 0) nm (kernelRun0_B.sl.v229 (F := Ideal) c arg2 harg2 arg5 harg5 arg6 harg6 arg13 x0 x3 x4) (kernelRun0_B.sl.v232 (F := Ideal) c arg3 harg3 arg5 harg5 arg6 harg6 arg9 arg11 harg11 x1 x3 x4 xs2) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![2, 0, 0] S1x128x128.size inb_S4x512x128_S1x128x128_2_0_0).emb x) :=
  piece₃ inb_S4x512x128_S1x128x128_2_0_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 2) (fun a => ⟨0 + a.val, by omega⟩) id (mv_head 2) (fun _ => rfl) mv_id
    (fun z a d => l_of (BitVec.ofNat 32 (i 1).val) (QB x0 x3 x4) (rows (fun h a c => (xs2 (ix4 h 0 ⟨a.val, by omega⟩ c) : EReal)) (rope x1 x3 x4)) 2 0 _ _ (q_2_0 c arg2 harg2 arg5 harg5 arg6 harg6 arg13 x0 x3 x4) (k_2_0 c arg3 harg3 arg5 harg5 arg6 harg6 arg9 arg11 harg11 x1 x3 x4 xs2) _ _ _ _ _ _ _ _ _ z a d ⟨0 + a.val, by omega⟩ rfl) x

theorem lp_3_0 (x : S1x128x128.Idx) :
    lV (sV (maskAt (BitVec.ofNat 32 (i 1).val) 0) nm (kernelRun0_B.sl.v262 (F := Ideal) c arg2 harg2 arg5 harg5 arg6 harg6 arg13 x0 x3 x4) (kernelRun0_B.sl.v265 (F := Ideal) c arg3 harg3 arg5 harg5 arg6 harg6 arg9 arg11 harg11 x1 x3 x4 xs2) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![3, 0, 0] S1x128x128.size inb_S4x512x128_S1x128x128_3_0_0).emb x) :=
  piece₃ inb_S4x512x128_S1x128x128_3_0_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 3) (fun a => ⟨0 + a.val, by omega⟩) id (mv_head 3) (fun _ => rfl) mv_id
    (fun z a d => l_of (BitVec.ofNat 32 (i 1).val) (QB x0 x3 x4) (rows (fun h a c => (xs2 (ix4 h 0 ⟨a.val, by omega⟩ c) : EReal)) (rope x1 x3 x4)) 3 0 _ _ (q_3_0 c arg2 harg2 arg5 harg5 arg6 harg6 arg13 x0 x3 x4) (k_3_0 c arg3 harg3 arg5 harg5 arg6 harg6 arg9 arg11 harg11 x1 x3 x4 xs2) _ _ _ _ _ _ _ _ _ z a d ⟨0 + a.val, by omega⟩ rfl) x

theorem lp_0_1 (x : S1x128x128.Idx) :
    lV (sV (maskAt (BitVec.ofNat 32 (i 1).val) 1) nm (kernelRun0_B.sl.v295 (F := Ideal) c arg2 harg2 arg5 harg5 arg6 harg6 arg13 x0 x3 x4) (kernelRun0_B.sl.v298 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![0, 128, 0] S1x128x128.size inb_S4x512x128_S1x128x128_0_128_0).emb x) :=
  piece₃ inb_S4x512x128_S1x128x128_0_128_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 0) (fun a => ⟨128 + a.val, by omega⟩) id (mv_head 0) (fun _ => rfl) mv_id
    (fun z a d => l_of (BitVec.ofNat 32 (i 1).val) (QB x0 x3 x4) (rows (fun h a c => (xs2 (ix4 h 0 ⟨a.val, by omega⟩ c) : EReal)) (rope x1 x3 x4)) 0 1 _ _ (q_0_1 c arg2 harg2 arg5 harg5 arg6 harg6 arg13 x0 x3 x4) (k_0_1 c arg3 harg3 arg5 harg5 arg6 harg6 arg9 arg11 x1 x3 x4 xs2) _ _ _ _ _ _ _ _ _ z a d ⟨128 + a.val, by omega⟩ rfl) x

theorem lp_1_1 (x : S1x128x128.Idx) :
    lV (sV (maskAt (BitVec.ofNat 32 (i 1).val) 1) nm (kernelRun0_B.sl.v328 (F := Ideal) c arg2 harg2 arg5 harg5 arg6 harg6 arg13 x0 x3 x4) (kernelRun0_B.sl.v331 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![1, 128, 0] S1x128x128.size inb_S4x512x128_S1x128x128_1_128_0).emb x) :=
  piece₃ inb_S4x512x128_S1x128x128_1_128_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 1) (fun a => ⟨128 + a.val, by omega⟩) id (mv_head 1) (fun _ => rfl) mv_id
    (fun z a d => l_of (BitVec.ofNat 32 (i 1).val) (QB x0 x3 x4) (rows (fun h a c => (xs2 (ix4 h 0 ⟨a.val, by omega⟩ c) : EReal)) (rope x1 x3 x4)) 1 1 _ _ (q_1_1 c arg2 harg2 arg5 harg5 arg6 harg6 arg13 x0 x3 x4) (k_1_1 c arg3 harg3 arg5 harg5 arg6 harg6 arg9 arg11 x1 x3 x4 xs2) _ _ _ _ _ _ _ _ _ z a d ⟨128 + a.val, by omega⟩ rfl) x

theorem lp_2_1 (x : S1x128x128.Idx) :
    lV (sV (maskAt (BitVec.ofNat 32 (i 1).val) 1) nm (kernelRun0_B.sl.v361 (F := Ideal) c arg2 harg2 arg5 harg5 arg6 harg6 arg13 x0 x3 x4) (kernelRun0_B.sl.v364 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![2, 128, 0] S1x128x128.size inb_S4x512x128_S1x128x128_2_128_0).emb x) :=
  piece₃ inb_S4x512x128_S1x128x128_2_128_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 2) (fun a => ⟨128 + a.val, by omega⟩) id (mv_head 2) (fun _ => rfl) mv_id
    (fun z a d => l_of (BitVec.ofNat 32 (i 1).val) (QB x0 x3 x4) (rows (fun h a c => (xs2 (ix4 h 0 ⟨a.val, by omega⟩ c) : EReal)) (rope x1 x3 x4)) 2 1 _ _ (q_2_1 c arg2 harg2 arg5 harg5 arg6 harg6 arg13 x0 x3 x4) (k_2_1 c arg3 harg3 arg5 harg5 arg6 harg6 arg9 arg11 x1 x3 x4 xs2) _ _ _ _ _ _ _ _ _ z a d ⟨128 + a.val, by omega⟩ rfl) x

theorem lp_3_1 (x : S1x128x128.Idx) :
    lV (sV (maskAt (BitVec.ofNat 32 (i 1).val) 1) nm (kernelRun0_B.sl.v394 (F := Ideal) c arg2 harg2 arg5 harg5 arg6 harg6 arg13 x0 x3 x4) (kernelRun0_B.sl.v397 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![3, 128, 0] S1x128x128.size inb_S4x512x128_S1x128x128_3_128_0).emb x) :=
  piece₃ inb_S4x512x128_S1x128x128_3_128_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 3) (fun a => ⟨128 + a.val, by omega⟩) id (mv_head 3) (fun _ => rfl) mv_id
    (fun z a d => l_of (BitVec.ofNat 32 (i 1).val) (QB x0 x3 x4) (rows (fun h a c => (xs2 (ix4 h 0 ⟨a.val, by omega⟩ c) : EReal)) (rope x1 x3 x4)) 3 1 _ _ (q_3_1 c arg2 harg2 arg5 harg5 arg6 harg6 arg13 x0 x3 x4) (k_3_1 c arg3 harg3 arg5 harg5 arg6 harg6 arg9 arg11 x1 x3 x4 xs2) _ _ _ _ _ _ _ _ _ z a d ⟨128 + a.val, by omega⟩ rfl) x

theorem lp_0_2 (x : S1x128x128.Idx) :
    lV (sV (maskAt (BitVec.ofNat 32 (i 1).val) 2) nm (kernelRun0_B.sl.v427 (F := Ideal) c arg2 harg2 arg5 harg5 arg6 harg6 arg13 x0 x3 x4) (kernelRun0_B.sl.v430 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![0, 256, 0] S1x128x128.size inb_S4x512x128_S1x128x128_0_256_0).emb x) :=
  piece₃ inb_S4x512x128_S1x128x128_0_256_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 0) (fun a => ⟨256 + a.val, by omega⟩) id (mv_head 0) (fun _ => rfl) mv_id
    (fun z a d => l_of (BitVec.ofNat 32 (i 1).val) (QB x0 x3 x4) (rows (fun h a c => (xs2 (ix4 h 0 ⟨a.val, by omega⟩ c) : EReal)) (rope x1 x3 x4)) 0 2 _ _ (q_0_2 c arg2 harg2 arg5 harg5 arg6 harg6 arg13 x0 x3 x4) (k_0_2 c arg3 harg3 arg5 harg5 arg6 harg6 arg9 arg11 x1 x3 x4 xs2) _ _ _ _ _ _ _ _ _ z a d ⟨256 + a.val, by omega⟩ rfl) x

theorem lp_1_2 (x : S1x128x128.Idx) :
    lV (sV (maskAt (BitVec.ofNat 32 (i 1).val) 2) nm (kernelRun0_B.sl.v460 (F := Ideal) c arg2 harg2 arg5 harg5 arg6 harg6 arg13 x0 x3 x4) (kernelRun0_B.sl.v463 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![1, 256, 0] S1x128x128.size inb_S4x512x128_S1x128x128_1_256_0).emb x) :=
  piece₃ inb_S4x512x128_S1x128x128_1_256_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 1) (fun a => ⟨256 + a.val, by omega⟩) id (mv_head 1) (fun _ => rfl) mv_id
    (fun z a d => l_of (BitVec.ofNat 32 (i 1).val) (QB x0 x3 x4) (rows (fun h a c => (xs2 (ix4 h 0 ⟨a.val, by omega⟩ c) : EReal)) (rope x1 x3 x4)) 1 2 _ _ (q_1_2 c arg2 harg2 arg5 harg5 arg6 harg6 arg13 x0 x3 x4) (k_1_2 c arg3 harg3 arg5 harg5 arg6 harg6 arg9 arg11 x1 x3 x4 xs2) _ _ _ _ _ _ _ _ _ z a d ⟨256 + a.val, by omega⟩ rfl) x

theorem lp_2_2 (x : S1x128x128.Idx) :
    lV (sV (maskAt (BitVec.ofNat 32 (i 1).val) 2) nm (kernelRun0_B.sl.v493 (F := Ideal) c arg2 harg2 arg5 harg5 arg6 harg6 arg13 x0 x3 x4) (kernelRun0_B.sl.v496 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![2, 256, 0] S1x128x128.size inb_S4x512x128_S1x128x128_2_256_0).emb x) :=
  piece₃ inb_S4x512x128_S1x128x128_2_256_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 2) (fun a => ⟨256 + a.val, by omega⟩) id (mv_head 2) (fun _ => rfl) mv_id
    (fun z a d => l_of (BitVec.ofNat 32 (i 1).val) (QB x0 x3 x4) (rows (fun h a c => (xs2 (ix4 h 0 ⟨a.val, by omega⟩ c) : EReal)) (rope x1 x3 x4)) 2 2 _ _ (q_2_2 c arg2 harg2 arg5 harg5 arg6 harg6 arg13 x0 x3 x4) (k_2_2 c arg3 harg3 arg5 harg5 arg6 harg6 arg9 arg11 x1 x3 x4 xs2) _ _ _ _ _ _ _ _ _ z a d ⟨256 + a.val, by omega⟩ rfl) x

theorem lp_3_2 (x : S1x128x128.Idx) :
    lV (sV (maskAt (BitVec.ofNat 32 (i 1).val) 2) nm (kernelRun0_B.sl.v526 (F := Ideal) c arg2 harg2 arg5 harg5 arg6 harg6 arg13 x0 x3 x4) (kernelRun0_B.sl.v529 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![3, 256, 0] S1x128x128.size inb_S4x512x128_S1x128x128_3_256_0).emb x) :=
  piece₃ inb_S4x512x128_S1x128x128_3_256_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 3) (fun a => ⟨256 + a.val, by omega⟩) id (mv_head 3) (fun _ => rfl) mv_id
    (fun z a d => l_of (BitVec.ofNat 32 (i 1).val) (QB x0 x3 x4) (rows (fun h a c => (xs2 (ix4 h 0 ⟨a.val, by omega⟩ c) : EReal)) (rope x1 x3 x4)) 3 2 _ _ (q_3_2 c arg2 harg2 arg5 harg5 arg6 harg6 arg13 x0 x3 x4) (k_3_2 c arg3 harg3 arg5 harg5 arg6 harg6 arg9 arg11 x1 x3 x4 xs2) _ _ _ _ _ _ _ _ _ z a d ⟨256 + a.val, by omega⟩ rfl) x

theorem lp_0_3 (x : S1x128x128.Idx) :
    lV (sV (maskAt (BitVec.ofNat 32 (i 1).val) 3) nm (kernelRun0_B.sl.v559 (F := Ideal) c arg2 harg2 arg5 harg5 arg6 harg6 arg13 x0 x3 x4) (kernelRun0_B.sl.v562 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![0, 384, 0] S1x128x128.size inb_S4x512x128_S1x128x128_0_384_0).emb x) :=
  piece₃ inb_S4x512x128_S1x128x128_0_384_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 0) (fun a => ⟨384 + a.val, by omega⟩) id (mv_head 0) (fun _ => rfl) mv_id
    (fun z a d => l_of (BitVec.ofNat 32 (i 1).val) (QB x0 x3 x4) (rows (fun h a c => (xs2 (ix4 h 0 ⟨a.val, by omega⟩ c) : EReal)) (rope x1 x3 x4)) 0 3 _ _ (q_0_3 c arg2 harg2 arg5 harg5 arg6 harg6 arg13 x0 x3 x4) (k_0_3 c arg3 harg3 arg5 harg5 arg6 harg6 arg9 arg11 x1 x3 x4 xs2) _ _ _ _ _ _ _ _ _ z a d ⟨384 + a.val, by omega⟩ rfl) x

theorem lp_1_3 (x : S1x128x128.Idx) :
    lV (sV (maskAt (BitVec.ofNat 32 (i 1).val) 3) nm (kernelRun0_B.sl.v592 (F := Ideal) c arg2 harg2 arg5 harg5 arg6 harg6 arg13 x0 x3 x4) (kernelRun0_B.sl.v595 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![1, 384, 0] S1x128x128.size inb_S4x512x128_S1x128x128_1_384_0).emb x) :=
  piece₃ inb_S4x512x128_S1x128x128_1_384_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 1) (fun a => ⟨384 + a.val, by omega⟩) id (mv_head 1) (fun _ => rfl) mv_id
    (fun z a d => l_of (BitVec.ofNat 32 (i 1).val) (QB x0 x3 x4) (rows (fun h a c => (xs2 (ix4 h 0 ⟨a.val, by omega⟩ c) : EReal)) (rope x1 x3 x4)) 1 3 _ _ (q_1_3 c arg2 harg2 arg5 harg5 arg6 harg6 arg13 x0 x3 x4) (k_1_3 c arg3 harg3 arg5 harg5 arg6 harg6 arg9 arg11 x1 x3 x4 xs2) _ _ _ _ _ _ _ _ _ z a d ⟨384 + a.val, by omega⟩ rfl) x

theorem lp_2_3 (x : S1x128x128.Idx) :
    lV (sV (maskAt (BitVec.ofNat 32 (i 1).val) 3) nm (kernelRun0_B.sl.v625 (F := Ideal) c arg2 harg2 arg5 harg5 arg6 harg6 arg13 x0 x3 x4) (kernelRun0_B.sl.v628 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![2, 384, 0] S1x128x128.size inb_S4x512x128_S1x128x128_2_384_0).emb x) :=
  piece₃ inb_S4x512x128_S1x128x128_2_384_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 2) (fun a => ⟨384 + a.val, by omega⟩) id (mv_head 2) (fun _ => rfl) mv_id
    (fun z a d => l_of (BitVec.ofNat 32 (i 1).val) (QB x0 x3 x4) (rows (fun h a c => (xs2 (ix4 h 0 ⟨a.val, by omega⟩ c) : EReal)) (rope x1 x3 x4)) 2 3 _ _ (q_2_3 c arg2 harg2 arg5 harg5 arg6 harg6 arg13 x0 x3 x4) (k_2_3 c arg3 harg3 arg5 harg5 arg6 harg6 arg9 arg11 x1 x3 x4 xs2) _ _ _ _ _ _ _ _ _ z a d ⟨384 + a.val, by omega⟩ rfl) x

theorem lp_3_3 (x : S1x128x128.Idx) :
    lV (sV (maskAt (BitVec.ofNat 32 (i 1).val) 3) nm (kernelRun0_B.sl.v658 (F := Ideal) c arg2 harg2 arg5 harg5 arg6 harg6 arg13 x0 x3 x4) (kernelRun0_B.sl.v661 (F := Ideal) c arg3 harg3 arg5 harg5 arg6 harg6 arg9 arg11 x1 x3 x4) shapeCasts_S1x128x128_S128x128 shapeCasts_S1x1x256x128_S256x128 bitsLt_bf16_f32) reduces_S128x256_S128 shapeCasts_S128_S128x1 broadcasts_S128x1_S128x256 shapeCasts_S128x1_S128x1 broadcasts_S128x1_S128x128 shapeCasts_S128x128_S1x128x128 x
      = (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) ((Rect.unit (s := S4x512x128) ![3, 384, 0] S1x128x128.size inb_S4x512x128_S1x128x128_3_384_0).emb x) :=
  piece₃ inb_S4x512x128_S1x128x128_3_384_0 _ (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal))
    (fun _ => 3) (fun a => ⟨384 + a.val, by omega⟩) id (mv_head 3) (fun _ => rfl) mv_id
    (fun z a d => l_of (BitVec.ofNat 32 (i 1).val) (QB x0 x3 x4) (rows (fun h a c => (xs2 (ix4 h 0 ⟨a.val, by omega⟩ c) : EReal)) (rope x1 x3 x4)) 3 3 _ _ (q_3_3 c arg2 harg2 arg5 harg5 arg6 harg6 arg13 x0 x3 x4) (k_3_3 c arg3 harg3 arg5 harg5 arg6 harg6 arg9 arg11 x1 x3 x4 xs2) _ _ _ _ _ _ _ _ _ z a d ⟨384 + a.val, by omega⟩ rfl) x

theorem lbuf (h : Fin 4) (a : Fin 512) (d : Fin 128) :
    (View.canon (kernelRun0_B.sl.HS6_16 (F := Ideal) c i arg2 harg2 arg3 harg3 arg5 harg5 arg6 harg6 arg9 arg11 harg11 arg13 x0 x1 x3 x4 xs2) (ix3 h a d) : EReal) = LB (BitVec.ofNat 32 (i 1).val) (QB x0 x3 x4) (rows (fun h a c => (xs2 (ix4 h 0 ⟨a.val, by omega⟩ c) : EReal)) (rope x1 x3 x4)) h a := by
  have hp : View.PiecesOf (Val := Elt Ideal) (e := .f32) (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) (kernelRun0_B.sl.HS6_16 (F := Ideal) c i arg2 harg2 arg3 harg3 arg5 harg5 arg6 harg6 arg9 arg11 harg11 arg13 x0 x1 x3 x4 xs2) := by
    unfold kernelRun0_B.sl.HS6_16
    exact ⟨lp_3_3 c i arg2 harg2 arg3 harg3 arg5 harg5 arg6 harg6 arg9 arg11 arg13 x0 x1 x3 x4 xs2, lp_2_3 c i arg2 harg2 arg3 harg3 arg5 harg5 arg6 harg6 arg9 arg11 arg13 x0 x1 x3 x4 xs2, lp_1_3 c i arg2 harg2 arg3 harg3 arg5 harg5 arg6 harg6 arg9 arg11 arg13 x0 x1 x3 x4 xs2, lp_0_3 c i arg2 harg2 arg3 harg3 arg5 harg5 arg6 harg6 arg9 arg11 arg13 x0 x1 x3 x4 xs2, lp_3_2 c i arg2 harg2 arg3 harg3 arg5 harg5 arg6 harg6 arg9 arg11 arg13 x0 x1 x3 x4 xs2, lp_2_2 c i arg2 harg2 arg3 harg3 arg5 harg5 arg6 harg6 arg9 arg11 arg13 x0 x1 x3 x4 xs2, lp_1_2 c i arg2 harg2 arg3 harg3 arg5 harg5 arg6 harg6 arg9 arg11 arg13 x0 x1 x3 x4 xs2, lp_0_2 c i arg2 harg2 arg3 harg3 arg5 harg5 arg6 harg6 arg9 arg11 arg13 x0 x1 x3 x4 xs2, lp_3_1 c i arg2 harg2 arg3 harg3 arg5 harg5 arg6 harg6 arg9 arg11 arg13 x0 x1 x3 x4 xs2, lp_2_1 c i arg2 harg2 arg3 harg3 arg5 harg5 arg6 harg6 arg9 arg11 arg13 x0 x1 x3 x4 xs2, lp_1_1 c i arg2 harg2 arg3 harg3 arg5 harg5 arg6 harg6 arg9 arg11 arg13 x0 x1 x3 x4 xs2, lp_0_1 c i arg2 harg2 arg3 harg3 arg5 harg5 arg6 harg6 arg9 arg11 arg13 x0 x1 x3 x4 xs2, lp_3_0 c i arg2 harg2 arg3 harg3 arg5 harg5 arg6 harg6 arg9 arg11 harg11 arg13 x0 x1 x3 x4 xs2, lp_2_0 c i arg2 harg2 arg3 harg3 arg5 harg5 arg6 harg6 arg9 arg11 harg11 arg13 x0 x1 x3 x4 xs2, lp_1_0 c i arg2 harg2 arg3 harg3 arg5 harg5 arg6 harg6 arg9 arg11 harg11 arg13 x0 x1 x3 x4 xs2, lp_0_0 c i arg2 harg2 arg3 harg3 arg5 harg5 arg6 harg6 arg9 arg11 harg11 arg13 x0 x1 x3 x4 xs2, trivial⟩
  exact View.canon_apply_of_pieces (fun y : S4x512x128.Idx => (LB (BitVec.ofNat 32 (i 1).val) (QB x0 x3 x4) (rows (fun h a c => (xs2 (ix4 h 0 ⟨a.val, by omega⟩ c) : EReal)) (rope x1 x3 x4)) (y 0) (y 1) : EReal)) (kernelRun0_B.sl.HS6_16 (F := Ideal) c i arg2 harg2 arg3 harg3 arg5 harg5 arg6 harg6 arg9 arg11 harg11 arg13 x0 x1 x3 x4 xs2) hp.mem (ix3 h a d) (View.cover_of_tiledL (kernelRun0_B.sl.HS6_16 (F := Ideal) c i arg2 harg2 arg3 harg3 arg5 harg5 arg6 harg6 arg9 arg11 harg11 arg13 x0 x1 x3 x4 xs2) S1x128x128.size (by sl_kernel_rfl) _)

theorem out5 (y : S512x512.Idx) :
    (out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3 y : EReal) = (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) ⟨(y 1).val / 128, by have h1 : (y 1).val < 512 := (y 1).isLt; omega⟩ (y 0) ⟨(y 1).val % 128, Nat.mod_lt _ (by norm_num)⟩ : EReal) := by
  unfold out0_B_5
  rw [View.read_writes_junk_eq_canon]
  have hp : View.PiecesOf (Val := Elt Ideal) (e := .bf16) (fun y : S512x512.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) ⟨(y 1).val / 128, by have h1 : (y 1).val < 512 := (y 1).isLt; omega⟩ (y 0) ⟨(y 1).val % 128, Nat.mod_lt _ (by norm_num)⟩ : EReal)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3).1 := ⟨
    piece₂ inb_S512x512_S512x128_0_384 _ (fun y : S512x512.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) ⟨(y 1).val / 128, by have h1 : (y 1).val < 512 := (y 1).isLt; omega⟩ (y 0) ⟨(y 1).val % 128, Nat.mod_lt _ (by norm_num)⟩ : EReal))
      id (fun d => ⟨384 + d.val, by omega⟩) mv_id (fun _ => rfl)
      (fun a d => (cast_3_2 (φ := .f32) (kernelRun0_B.sl.v712 (F := Ideal) c i arg2 harg2 arg3 harg3 arg4 harg4 arg5 harg5 arg6 harg6 arg9 arg10 arg11 harg11 arg12 harg12 arg13 arg14 x0 x1 x2 x3 x4 xs2 xs3) shapeCasts_S1x512x128_S512x128 a d).trans
        ((congrFun (View.readCov_eq_canon' _ _ _) _).trans ((congrArg (View.canon (kernelRun0_B.sl.HS5_16 (F := Ideal) c i arg2 harg2 arg3 harg3 arg4 harg4 arg5 harg5 arg6 harg6 arg9 arg10 arg11 harg11 arg12 harg12 arg13 x0 x1 x2 x3 x4 xs2 xs3))
          (emb₃ inb_S4x512x128_S1x512x128_3_0_0 0 a d 3 a d rfl (mv_id a) (mv_id d))).trans ((obuf c i arg2 harg2 arg3 harg3 arg4 harg4 arg5 harg5 arg6 harg6 arg9 arg10 arg11 harg11 arg12 harg12 arg13 x0 x1 x2 x3 x4 xs2 xs3 3 a d).trans (by
            have e1 : (3 : Fin 4) = ⟨(384 + d.val) / 128, by omega⟩ := Fin.ext (by show 3 = (384 + d.val) / 128; omega)
            have e3 : d = ⟨(384 + d.val) % 128, Nat.mod_lt _ (by norm_num)⟩ := Fin.ext (by show d.val = (384 + d.val) % 128; omega)
            exact (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) u a d) e1).trans (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) _ a u) e3)))))),
    piece₂ inb_S512x512_S512x128_0_256 _ (fun y : S512x512.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) ⟨(y 1).val / 128, by have h1 : (y 1).val < 512 := (y 1).isLt; omega⟩ (y 0) ⟨(y 1).val % 128, Nat.mod_lt _ (by norm_num)⟩ : EReal))
      id (fun d => ⟨256 + d.val, by omega⟩) mv_id (fun _ => rfl)
      (fun a d => (cast_3_2 (φ := .f32) (kernelRun0_B.sl.v705 (F := Ideal) c i arg2 harg2 arg3 harg3 arg4 harg4 arg5 harg5 arg6 harg6 arg9 arg10 arg11 harg11 arg12 harg12 arg13 arg14 x0 x1 x2 x3 x4 xs2 xs3) shapeCasts_S1x512x128_S512x128 a d).trans
        ((congrFun (View.readCov_eq_canon' _ _ _) _).trans ((congrArg (View.canon (kernelRun0_B.sl.HS5_16 (F := Ideal) c i arg2 harg2 arg3 harg3 arg4 harg4 arg5 harg5 arg6 harg6 arg9 arg10 arg11 harg11 arg12 harg12 arg13 x0 x1 x2 x3 x4 xs2 xs3))
          (emb₃ inb_S4x512x128_S1x512x128_2_0_0 0 a d 2 a d rfl (mv_id a) (mv_id d))).trans ((obuf c i arg2 harg2 arg3 harg3 arg4 harg4 arg5 harg5 arg6 harg6 arg9 arg10 arg11 harg11 arg12 harg12 arg13 x0 x1 x2 x3 x4 xs2 xs3 2 a d).trans (by
            have e1 : (2 : Fin 4) = ⟨(256 + d.val) / 128, by omega⟩ := Fin.ext (by show 2 = (256 + d.val) / 128; omega)
            have e3 : d = ⟨(256 + d.val) % 128, Nat.mod_lt _ (by norm_num)⟩ := Fin.ext (by show d.val = (256 + d.val) % 128; omega)
            exact (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) u a d) e1).trans (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) _ a u) e3)))))),
    piece₂ inb_S512x512_S512x128_0_128 _ (fun y : S512x512.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) ⟨(y 1).val / 128, by have h1 : (y 1).val < 512 := (y 1).isLt; omega⟩ (y 0) ⟨(y 1).val % 128, Nat.mod_lt _ (by norm_num)⟩ : EReal))
      id (fun d => ⟨128 + d.val, by omega⟩) mv_id (fun _ => rfl)
      (fun a d => (cast_3_2 (φ := .f32) (kernelRun0_B.sl.v (F := Ideal) c i arg2 harg2 arg3 harg3 arg4 harg4 arg5 harg5 arg6 harg6 arg9 arg10 arg11 harg11 arg12 harg12 arg13 arg14 x0 x1 x2 x3 x4 xs2 xs3) shapeCasts_S1x512x128_S512x128 a d).trans
        ((congrFun (View.readCov_eq_canon' _ _ _) _).trans ((congrArg (View.canon (kernelRun0_B.sl.HS5_16 (F := Ideal) c i arg2 harg2 arg3 harg3 arg4 harg4 arg5 harg5 arg6 harg6 arg9 arg10 arg11 harg11 arg12 harg12 arg13 x0 x1 x2 x3 x4 xs2 xs3))
          (emb₃ inb_S4x512x128_S1x512x128_1_0_0 0 a d 1 a d rfl (mv_id a) (mv_id d))).trans ((obuf c i arg2 harg2 arg3 harg3 arg4 harg4 arg5 harg5 arg6 harg6 arg9 arg10 arg11 harg11 arg12 harg12 arg13 x0 x1 x2 x3 x4 xs2 xs3 1 a d).trans (by
            have e1 : (1 : Fin 4) = ⟨(128 + d.val) / 128, by omega⟩ := Fin.ext (by show 1 = (128 + d.val) / 128; omega)
            have e3 : d = ⟨(128 + d.val) % 128, Nat.mod_lt _ (by norm_num)⟩ := Fin.ext (by show d.val = (128 + d.val) % 128; omega)
            exact (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) u a d) e1).trans (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) _ a u) e3)))))),
    piece₂ inb_S512x512_S512x128_0_0 _ (fun y : S512x512.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) ⟨(y 1).val / 128, by have h1 : (y 1).val < 512 := (y 1).isLt; omega⟩ (y 0) ⟨(y 1).val % 128, Nat.mod_lt _ (by norm_num)⟩ : EReal))
      id (fun d => ⟨0 + d.val, by omega⟩) mv_id (fun _ => rfl)
      (fun a d => (cast_3_2 (φ := .f32) (kernelRun0_B.sl.v691 (F := Ideal) c i arg2 harg2 arg3 harg3 arg4 harg4 arg5 harg5 arg6 harg6 arg9 arg10 arg11 harg11 arg12 harg12 arg13 arg14 x0 x1 x2 x3 x4 xs2 xs3) shapeCasts_S1x512x128_S512x128 a d).trans
        ((congrFun (View.readCov_eq_canon' _ _ _) _).trans ((congrArg (View.canon (kernelRun0_B.sl.HS5_16 (F := Ideal) c i arg2 harg2 arg3 harg3 arg4 harg4 arg5 harg5 arg6 harg6 arg9 arg10 arg11 harg11 arg12 harg12 arg13 x0 x1 x2 x3 x4 xs2 xs3))
          (emb₃ inb_S4x512x128_S1x512x128_0_0_0 0 a d 0 a d rfl (mv_id a) (mv_id d))).trans ((obuf c i arg2 harg2 arg3 harg3 arg4 harg4 arg5 harg5 arg6 harg6 arg9 arg10 arg11 harg11 arg12 harg12 arg13 x0 x1 x2 x3 x4 xs2 xs3 0 a d).trans (by
            have e1 : (0 : Fin 4) = ⟨(0 + d.val) / 128, by omega⟩ := Fin.ext (by show 0 = (0 + d.val) / 128; omega)
            have e3 : d = ⟨(0 + d.val) % 128, Nat.mod_lt _ (by norm_num)⟩ := Fin.ext (by show d.val = (0 + d.val) % 128; omega)
            exact (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) u a d) e1).trans (congrArg (fun u => OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) _ a u) e3)))))),
    trivial⟩
  exact View.canon_apply_of_pieces (fun y : S512x512.Idx => (OB (BitVec.ofNat 32 (i 1).val) (QB x0 x3 x4) (rows (fun h a c => (xs2 (ix4 h 0 ⟨a.val, by omega⟩ c) : EReal)) (rope x1 x3 x4)) (rows (fun h a c => (xs3 (ix4 h 0 ⟨a.val, by omega⟩ c) : EReal)) (VB x2)) ⟨(y 1).val / 128, by have h1 : (y 1).val < 512 := (y 1).isLt; omega⟩ (y 0) ⟨(y 1).val % 128, Nat.mod_lt _ (by norm_num)⟩ : EReal)) _ hp.mem y (cover0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3 y)

theorem out6 (y : S512x512.Idx) :
    (out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3 y : EReal) = (LB (BitVec.ofNat 32 (i 1).val) (QB x0 x3 x4) (rows (fun h a c => (xs2 (ix4 h 0 ⟨a.val, by omega⟩ c) : EReal)) (rope x1 x3 x4)) ⟨(y 1).val / 128, by have h1 : (y 1).val < 512 := (y 1).isLt; omega⟩ (y 0) : EReal) := by
  unfold out0_B_6
  rw [View.read_writes_junk_eq_canon]
  have hp : View.PiecesOf (Val := Elt Ideal) (e := .f32) (fun y : S512x512.Idx => (LB (BitVec.ofNat 32 (i 1).val) (QB x0 x3 x4) (rows (fun h a c => (xs2 (ix4 h 0 ⟨a.val, by omega⟩ c) : EReal)) (rope x1 x3 x4)) ⟨(y 1).val / 128, by have h1 : (y 1).val < 512 := (y 1).isLt; omega⟩ (y 0) : EReal)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3).2.1 := ⟨
    piece₂ inb_S512x512_S512x128_0_384 _ (fun y : S512x512.Idx => (LB (BitVec.ofNat 32 (i 1).val) (QB x0 x3 x4) (rows (fun h a c => (xs2 (ix4 h 0 ⟨a.val, by omega⟩ c) : EReal)) (rope x1 x3 x4)) ⟨(y 1).val / 128, by have h1 : (y 1).val < 512 := (y 1).isLt; omega⟩ (y 0) : EReal))
      id (fun d => ⟨384 + d.val, by omega⟩) mv_id (fun _ => rfl)
      (fun a d => (cast_3_2 (φ := .f32) (kernelRun0_B.sl.v716 (F := Ideal) c i arg2 harg2 arg3 harg3 arg5 harg5 arg6 harg6 arg9 arg11 harg11 arg13 arg15 x0 x1 x3 x4 xs2) shapeCasts_S1x512x128_S512x128 a d).trans
        ((congrFun (View.readCov_eq_canon' _ _ _) _).trans ((congrArg (View.canon (kernelRun0_B.sl.HS6_16 (F := Ideal) c i arg2 harg2 arg3 harg3 arg5 harg5 arg6 harg6 arg9 arg11 harg11 arg13 x0 x1 x3 x4 xs2))
          (emb₃ inb_S4x512x128_S1x512x128_3_0_0 0 a d 3 a d rfl (mv_id a) (mv_id d))).trans ((lbuf c i arg2 harg2 arg3 harg3 arg5 harg5 arg6 harg6 arg9 arg11 harg11 arg13 x0 x1 x3 x4 xs2 3 a d).trans (by
            have e1 : (3 : Fin 4) = ⟨(384 + d.val) / 128, by omega⟩ := Fin.ext (by show 3 = (384 + d.val) / 128; omega)
            have e3 : d = ⟨(384 + d.val) % 128, Nat.mod_lt _ (by norm_num)⟩ := Fin.ext (by show d.val = (384 + d.val) % 128; omega)
            exact congrArg (fun u => LB (BitVec.ofNat 32 (i 1).val) (QB x0 x3 x4) (rows (fun h a c => (xs2 (ix4 h 0 ⟨a.val, by omega⟩ c) : EReal)) (rope x1 x3 x4)) u a) e1))))),
    piece₂ inb_S512x512_S512x128_0_256 _ (fun y : S512x512.Idx => (LB (BitVec.ofNat 32 (i 1).val) (QB x0 x3 x4) (rows (fun h a c => (xs2 (ix4 h 0 ⟨a.val, by omega⟩ c) : EReal)) (rope x1 x3 x4)) ⟨(y 1).val / 128, by have h1 : (y 1).val < 512 := (y 1).isLt; omega⟩ (y 0) : EReal))
      id (fun d => ⟨256 + d.val, by omega⟩) mv_id (fun _ => rfl)
      (fun a d => (cast_3_2 (φ := .f32) (kernelRun0_B.sl.v709 (F := Ideal) c i arg2 harg2 arg3 harg3 arg5 harg5 arg6 harg6 arg9 arg11 harg11 arg13 arg15 x0 x1 x3 x4 xs2) shapeCasts_S1x512x128_S512x128 a d).trans
        ((congrFun (View.readCov_eq_canon' _ _ _) _).trans ((congrArg (View.canon (kernelRun0_B.sl.HS6_16 (F := Ideal) c i arg2 harg2 arg3 harg3 arg5 harg5 arg6 harg6 arg9 arg11 harg11 arg13 x0 x1 x3 x4 xs2))
          (emb₃ inb_S4x512x128_S1x512x128_2_0_0 0 a d 2 a d rfl (mv_id a) (mv_id d))).trans ((lbuf c i arg2 harg2 arg3 harg3 arg5 harg5 arg6 harg6 arg9 arg11 harg11 arg13 x0 x1 x3 x4 xs2 2 a d).trans (by
            have e1 : (2 : Fin 4) = ⟨(256 + d.val) / 128, by omega⟩ := Fin.ext (by show 2 = (256 + d.val) / 128; omega)
            have e3 : d = ⟨(256 + d.val) % 128, Nat.mod_lt _ (by norm_num)⟩ := Fin.ext (by show d.val = (256 + d.val) % 128; omega)
            exact congrArg (fun u => LB (BitVec.ofNat 32 (i 1).val) (QB x0 x3 x4) (rows (fun h a c => (xs2 (ix4 h 0 ⟨a.val, by omega⟩ c) : EReal)) (rope x1 x3 x4)) u a) e1))))),
    piece₂ inb_S512x512_S512x128_0_128 _ (fun y : S512x512.Idx => (LB (BitVec.ofNat 32 (i 1).val) (QB x0 x3 x4) (rows (fun h a c => (xs2 (ix4 h 0 ⟨a.val, by omega⟩ c) : EReal)) (rope x1 x3 x4)) ⟨(y 1).val / 128, by have h1 : (y 1).val < 512 := (y 1).isLt; omega⟩ (y 0) : EReal))
      id (fun d => ⟨128 + d.val, by omega⟩) mv_id (fun _ => rfl)
      (fun a d => (cast_3_2 (φ := .f32) (kernelRun0_B.sl.v702 (F := Ideal) c i arg2 harg2 arg3 harg3 arg5 harg5 arg6 harg6 arg9 arg11 harg11 arg13 arg15 x0 x1 x3 x4 xs2) shapeCasts_S1x512x128_S512x128 a d).trans
        ((congrFun (View.readCov_eq_canon' _ _ _) _).trans ((congrArg (View.canon (kernelRun0_B.sl.HS6_16 (F := Ideal) c i arg2 harg2 arg3 harg3 arg5 harg5 arg6 harg6 arg9 arg11 harg11 arg13 x0 x1 x3 x4 xs2))
          (emb₃ inb_S4x512x128_S1x512x128_1_0_0 0 a d 1 a d rfl (mv_id a) (mv_id d))).trans ((lbuf c i arg2 harg2 arg3 harg3 arg5 harg5 arg6 harg6 arg9 arg11 harg11 arg13 x0 x1 x3 x4 xs2 1 a d).trans (by
            have e1 : (1 : Fin 4) = ⟨(128 + d.val) / 128, by omega⟩ := Fin.ext (by show 1 = (128 + d.val) / 128; omega)
            have e3 : d = ⟨(128 + d.val) % 128, Nat.mod_lt _ (by norm_num)⟩ := Fin.ext (by show d.val = (128 + d.val) % 128; omega)
            exact congrArg (fun u => LB (BitVec.ofNat 32 (i 1).val) (QB x0 x3 x4) (rows (fun h a c => (xs2 (ix4 h 0 ⟨a.val, by omega⟩ c) : EReal)) (rope x1 x3 x4)) u a) e1))))),
    piece₂ inb_S512x512_S512x128_0_0 _ (fun y : S512x512.Idx => (LB (BitVec.ofNat 32 (i 1).val) (QB x0 x3 x4) (rows (fun h a c => (xs2 (ix4 h 0 ⟨a.val, by omega⟩ c) : EReal)) (rope x1 x3 x4)) ⟨(y 1).val / 128, by have h1 : (y 1).val < 512 := (y 1).isLt; omega⟩ (y 0) : EReal))
      id (fun d => ⟨0 + d.val, by omega⟩) mv_id (fun _ => rfl)
      (fun a d => (cast_3_2 (φ := .f32) (kernelRun0_B.sl.v695 (F := Ideal) c i arg2 harg2 arg3 harg3 arg5 harg5 arg6 harg6 arg9 arg11 harg11 arg13 arg15 x0 x1 x3 x4 xs2) shapeCasts_S1x512x128_S512x128 a d).trans
        ((congrFun (View.readCov_eq_canon' _ _ _) _).trans ((congrArg (View.canon (kernelRun0_B.sl.HS6_16 (F := Ideal) c i arg2 harg2 arg3 harg3 arg5 harg5 arg6 harg6 arg9 arg11 harg11 arg13 x0 x1 x3 x4 xs2))
          (emb₃ inb_S4x512x128_S1x512x128_0_0_0 0 a d 0 a d rfl (mv_id a) (mv_id d))).trans ((lbuf c i arg2 harg2 arg3 harg3 arg5 harg5 arg6 harg6 arg9 arg11 harg11 arg13 x0 x1 x3 x4 xs2 0 a d).trans (by
            have e1 : (0 : Fin 4) = ⟨(0 + d.val) / 128, by omega⟩ := Fin.ext (by show 0 = (0 + d.val) / 128; omega)
            have e3 : d = ⟨(0 + d.val) % 128, Nat.mod_lt _ (by norm_num)⟩ := Fin.ext (by show d.val = (0 + d.val) % 128; omega)
            exact congrArg (fun u => LB (BitVec.ofNat 32 (i 1).val) (QB x0 x3 x4) (rows (fun h a c => (xs2 (ix4 h 0 ⟨a.val, by omega⟩ c) : EReal)) (rope x1 x3 x4)) u a) e1))))),
    trivial⟩
  exact View.canon_apply_of_pieces (fun y : S512x512.Idx => (LB (BitVec.ofNat 32 (i 1).val) (QB x0 x3 x4) (rows (fun h a c => (xs2 (ix4 h 0 ⟨a.val, by omega⟩ c) : EReal)) (rope x1 x3 x4)) ⟨(y 1).val / 128, by have h1 : (y 1).val < 512 := (y 1).isLt; omega⟩ (y 0) : EReal)) _ hp.mem y (cover0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3 y)

/-- The first 128 rows the point leaves are the last of its own block. -/
theorem scr2 (h : Fin 4) (a : Fin 640) (ha : a.val < 128) (d : Fin 128) :
    (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3 (ix4 h 0 a d) : EReal) = (rope x1 x3 x4) h ⟨384 + a.val, by omega⟩ d := by
  have hm : ix4 (n1 := 1) h 0 a d = (Rect.unit (s := S4x1x640x128) ![0, 0, 0, 0] S4x1x128x128.size inb_S4x1x640x128_S4x1x128x128_0_0_0_0).emb
      (ix4 (n0 := 4) (n1 := 1) (n2 := 128) (n3 := 128) h 0 ⟨a.val, ha⟩ d) :=
    (emb₄ inb_S4x1x640x128_S4x1x128x128_0_0_0_0 h 0 ⟨a.val, ha⟩ d h 0 a d (by omega) rfl (by show a.val = 0 + a.val; omega) (by omega)).symm
  unfold sout0_B_2
  rw [View.read_writes_junk_eq_canon, hm]
  have hl : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3).2.2.1 = (⟨Rect.unit (s := S4x1x640x128) ![0, 0, 0, 0] S4x1x128x128.size inb_S4x1x640x128_S4x1x128x128_0_0_0_0,
      k0_pay1 (F := Ideal) (kernelRun0_B.sl.v719 (F := Ideal) c arg3 harg3 arg5 harg5 arg6 harg6 arg9 arg11 x1 x3 x4)⟩ : View.Piece (Elt Ideal) S4x1x640x128 .f32) :: (kernelRun0_B.sl.HS2_4 (F := Ideal) c arg3 harg3 arg5 harg5 arg6 harg6 arg9 x1 x3 x4) := rfl
  rw [hl, View.canon_cons_emb]
  refine (congrFun (shapeCast_self (kernelRun0_B.sl.v719 (F := Ideal) c arg3 harg3 arg5 harg5 arg6 harg6 arg9 arg11 x1 x3 x4) shapeCasts_S4x1x128x128_S4x1x128x128) _).trans ?_
  refine (congrFun (View.readCov_eq_canon' _ _ _) _).trans (Eq.trans (congrArg (View.canon (kernelRun0_B.sl.HS2_4 (F := Ideal) c arg3 harg3 arg5 harg5 arg6 harg6 arg9 x1 x3 x4)) ?_)
    ((krow c arg3 harg3 arg5 harg5 arg6 harg6 arg9 x1 x3 x4 xs2 h ⟨512 + a.val, by omega⟩ (by show 128 ≤ 512 + a.val; omega) d).trans (rows_ge _ _ _ _ _ ⟨384 + a.val, by omega⟩ (by show 512 + a.val = 128 + (384 + a.val); omega))))
  exact emb₄ inb_S4x1x640x128_S4x1x128x128_0_0_512_0 h 0 ⟨a.val, ha⟩ d _ _ _ _ (by omega) rfl rfl (by omega)

/-- The first 128 rows the point leaves are the last of its own block. -/
theorem scr3 (h : Fin 4) (a : Fin 640) (ha : a.val < 128) (d : Fin 128) :
    (sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3 (ix4 h 0 a d) : EReal) = (VB x2) h ⟨384 + a.val, by omega⟩ d := by
  have hm : ix4 (n1 := 1) h 0 a d = (Rect.unit (s := S4x1x640x128) ![0, 0, 0, 0] S4x1x128x128.size inb_S4x1x640x128_S4x1x128x128_0_0_0_0).emb
      (ix4 (n0 := 4) (n1 := 1) (n2 := 128) (n3 := 128) h 0 ⟨a.val, ha⟩ d) :=
    (emb₄ inb_S4x1x640x128_S4x1x128x128_0_0_0_0 h 0 ⟨a.val, ha⟩ d h 0 a d (by omega) rfl (by show a.val = 0 + a.val; omega) (by omega)).symm
  unfold sout0_B_3
  rw [View.read_writes_junk_eq_canon, hm]
  have hl : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs2 xs3).2.2.2.1 = (⟨Rect.unit (s := S4x1x640x128) ![0, 0, 0, 0] S4x1x128x128.size inb_S4x1x640x128_S4x1x128x128_0_0_0_0,
      k0_pay2 (F := Ideal) (kernelRun0_B.sl.v723 (F := Ideal) c arg4 harg4 arg10 arg12 x2)⟩ : View.Piece (Elt Ideal) S4x1x640x128 .f32) :: (kernelRun0_B.sl.HS3_4 (F := Ideal) c arg4 harg4 arg10 x2) := rfl
  rw [hl, View.canon_cons_emb]
  refine (congrFun (shapeCast_self (kernelRun0_B.sl.v723 (F := Ideal) c arg4 harg4 arg10 arg12 x2) shapeCasts_S4x1x128x128_S4x1x128x128) _).trans ?_
  refine (congrFun (View.readCov_eq_canon' _ _ _) _).trans (Eq.trans (congrArg (View.canon (kernelRun0_B.sl.HS3_4 (F := Ideal) c arg4 harg4 arg10 x2)) ?_)
    ((vrow c arg4 harg4 arg10 x2 xs3 h ⟨512 + a.val, by omega⟩ (by show 128 ≤ 512 + a.val; omega) d).trans (rows_ge _ _ _ _ _ ⟨384 + a.val, by omega⟩ (by show 512 + a.val = 128 + (384 + a.val); omega))))
  exact emb₄ inb_S4x1x640x128_S4x1x128x128_0_0_512_0 h 0 ⟨a.val, ha⟩ d _ _ _ _ (by omega) rfl rfl (by omega)

end Cert.Proof.G0.B
-- ==== Proof.G0Blocks.lean ====
/- The first group's attention: the call's two result arrays, block by block, as functions of the projection and of the tables
   of cosines and sines that the host prepares. -/
module

public import proofs.«01_k».proof.Defs
public import proofs.«01_k».proof.Proof.AttGlob
public import proofs.«01_k».proof.Proof.G0BodyA
public import proofs.«01_k».proof.Proof.G0BodyB
public import proofs.«01_k».proof.Proof.Gen.KernelG0Ideal.Value
public import Idealize.ShloMosaic.Lib.StableHlo.Run

@[expose] public section

noncomputable section

namespace Cert.Proof.G0

open Idealize.ShloMosaic Idealize.SL.Sem Idealize.ShloMosaic.TcCoe Idealize.ShloMosaic.ValueIdx
open Cert.KernelG0Ideal Cert.KernelG0Ideal.Gen
open Cert.Proof.Att
open Idealize.ShloMosaic.Pipeline (Dat)

theorem nm_eq : (nm : EReal) = ⊥ := IdealRules.named_const.ideal_named_scalar _ _ _ _ rfl

/-- The kernel's mask shows a query the keys it is to see. -/
theorem maskAt_iff (i : ℕ) (hi : i < 32) (j : Fin 4) (a : Fin 128) (b : Fin 256) :
    maskAt (BitVec.ofNat 32 i) j (ix2 a b) = 1 ↔ seen (4 * i + j.val) a.val b.val := by
  have hb : k0_pay33 (ix2 a b) = 1 ↔ a.val ≤ b.val ∧ b.val ≤ a.val + 128 := by
    refine Iff.trans (Eq.to_iff (congrArg (· = 1) ?_)) (band_iff a.val b.val a.isLt b.isLt)
    rw [← iota_single_apply .tc S128x256 32 0 iota_S128x256_d0_w32 (ix2 a b), ← iota_single_apply .tc S128x256 32 1 iota_S128x256_d1_w32 (ix2 a b)]
    rfl
  have hj := j.isLt
  unfold maskAt seen
  split_ifs with h
  · have e : k0_pay34 (BitVec.ofNat 32 i) (ix2 a b) = IntOp.andi (k0_pay33 (ix2 a b))
        (IntOp.ori (IntOp.cmpi .sge (BitVec.ofNat 32 b.val) (BitVec.ofNat 32 128)) (IntOp.cmpi .sgt (BitVec.ofNat 32 i) (BitVec.ofNat 32 0))) := by
      rw [← iota_single_apply .tc S128x256 32 1 iota_S128x256_d1_w32 (ix2 a b)]
      rfl
    rw [e]
    refine IntOp.andi_eq_one.trans ?_
    rw [IntOp.ori_eq_one, sge_iff _ _ (by omega) (by norm_num), sgt_iff _ _ (by omega) (by norm_num)]
    refine (and_congr hb Iff.rfl).trans ?_
    omega
  · refine hb.trans ?_
    omega

section Pure

variable (X : S16384x17408.Idx → EReal) (cs sn : (⟨2, ![16384, 64]⟩ : Shape).Idx → EReal) (i : ℕ) (hi : i < 32)
include hi

/-- A block's rotated rows are the projection's. -/
theorem rope_eq (H0 : ℕ) (hH : H0 + 4 ≤ 72) (x : Vec Ideal S512x512 .bf16) (ct st : Vec Ideal S512x128 .f32)
    (hx : ∀ (r q : Fin 512), (x (ix2 r q) : EReal) = X (ix2 ⟨512 * i + r.val, by omega⟩ ⟨128 * H0 + q.val, by omega⟩))
    (hc : ∀ (r : Fin 512) (c : Fin 128), (ct (ix2 r c) : EReal) = cs (ix2 ⟨512 * i + r.val, by omega⟩ (lo c)))
    (hs : ∀ (r : Fin 512) (c : Fin 128), (st (ix2 r c) : EReal) = if c.val < 64 then -sn (ix2 ⟨512 * i + r.val, by omega⟩ (lo c)) else sn (ix2 ⟨512 * i + r.val, by omega⟩ (lo c)))
    (h : Fin 4) (r : Fin 512) (c : Fin 128) :
    rope x ct st h r c = ropeG X cs sn ⟨H0 + h.val, by omega⟩ ⟨512 * i + r.val, by omega⟩ c := by
  unfold rope ropeG
  have e (d : Fin 128) : (x (ix2 r (colOf h d)) : EReal) = X (ix2 ⟨512 * i + r.val, by omega⟩ (hcol ⟨H0 + h.val, by omega⟩ d)) := by
    refine (hx r (colOf h d)).trans (congrArg X (Shape.idx_ext₂ rfl ?_))
    show 128 * H0 + (128 * h.val + d.val) = 128 * (H0 + h.val) + d.val
    omega
  rw [e, e, hc, hs]

/-- And its values. -/
theorem val_eq (H0 : ℕ) (hH : H0 + 4 ≤ 72) (x : Vec Ideal S512x512 .bf16)
    (hx : ∀ (r q : Fin 512), (x (ix2 r q) : EReal) = X (ix2 ⟨512 * i + r.val, by omega⟩ ⟨128 * H0 + q.val, by omega⟩))
    (h : Fin 4) (r : Fin 512) (c : Fin 128) :
    VB x h r c = valG X ⟨H0 + h.val, by omega⟩ ⟨512 * i + r.val, by omega⟩ c := by
  unfold VB valG
  refine (hx r (colOf h c)).trans (congrArg X (Shape.idx_ext₂ rfl ?_))
  show 128 * H0 + (128 * h.val + c.val) = 128 * (H0 + h.val) + c.val
  omega

/-- The rows a block sees are those of the whole sequence. -/
theorem rows_eq (F : Fin 16384 → Fin 128 → EReal) (P : Fin 4 → Fin 128 → Fin 128 → EReal) (B : Fin 4 → Fin 512 → Fin 128 → EReal) (h : Fin 4)
    (hP : ∀ (a c : Fin 128), P h a c = if i = 0 then 0 else F ⟨512 * i + a.val - 128, by omega⟩ c)
    (hB : ∀ (a : Fin 512) (c : Fin 128), B h a c = F ⟨512 * i + a.val, by omega⟩ c) (j : Fin 4) (b : Fin 256) (c : Fin 128) :
    rows P B h ⟨128 * j.val + b.val, by omega⟩ c = key 1 0 (4 * i + j.val) (fun q => F q c) b := by
  have hj := j.isLt
  have hb := b.isLt
  unfold rows key
  split_ifs with h1 h2 h2
  · rw [hP, if_neg (by dsimp only at h1; omega)]
    refine congrArg (fun p => F p c) (Fin.ext ?_)
    dsimp only
    omega
  · rw [hP, if_pos (by dsimp only at h1; omega)]
  · rw [hB]
    refine congrArg (fun p => F p c) (Fin.ext ?_)
    dsimp only at h1 ⊢
    omega
  · exfalso
    dsimp only at h1
    omega

/-- A query's scores. -/
theorem score_eq (Hq Hk : Fin 72) (Q : Fin 4 → Fin 512 → Fin 128 → EReal) (K : Fin 4 → Fin 640 → Fin 128 → EReal) (h : Fin 4)
    (hQ : ∀ (r : Fin 512) (c : Fin 128), Q h r c = ropeG X cs sn Hq ⟨512 * i + r.val, by omega⟩ c * scl)
    (hK : ∀ (j : Fin 4) (b : Fin 256) (c : Fin 128), K h ⟨128 * j.val + b.val, by omega⟩ c
      = key 1 0 (4 * i + j.val) (fun q => ropeG X cs sn Hk q c) b) (r : Fin 512) :
    score (BitVec.ofNat 32 i) Q K h ⟨r.val / 128, by omega⟩ ⟨r.val % 128, Nat.mod_lt _ (by norm_num)⟩
      = scG X cs sn 1 Hq Hk ⟨512 * i + r.val, by omega⟩ := by
  have hr := r.isLt
  funext b
  unfold score scG
  have e1 : (512 * i + r.val) / 1 / 128 = 4 * i + r.val / 128 := by omega
  have e2 : (512 * i + r.val) / 1 % 128 = r.val % 128 := by omega
  have e3 : (512 * i + r.val) % 1 = 0 := by omega
  dsimp only
  rw [e1, e2, e3]
  refine (if_congr (maskAt_iff i hi ⟨r.val / 128, by omega⟩ ⟨r.val % 128, Nat.mod_lt _ (by norm_num)⟩ b) ?_ nm_eq)
  rw [← sum_scale _ _ _ _ scl_nonneg scl_ne_top]
  refine Finset.sum_congr rfl fun c _ => congrArg₂ (· * ·) ((hQ _ c).trans ?_) (hK ⟨r.val / 128, by omega⟩ b c)
  refine congrArg (fun p => ropeG X cs sn Hq p c * scl) (Fin.ext ?_)
  dsimp only
  omega

theorem OB_eq (Hq Hk Hv : Fin 72) (Q : Fin 4 → Fin 512 → Fin 128 → EReal) (K V : Fin 4 → Fin 640 → Fin 128 → EReal) (h : Fin 4)
    (hQ : ∀ (r : Fin 512) (c : Fin 128), Q h r c = ropeG X cs sn Hq ⟨512 * i + r.val, by omega⟩ c * scl)
    (hK : ∀ (j : Fin 4) (b : Fin 256) (c : Fin 128), K h ⟨128 * j.val + b.val, by omega⟩ c
      = key 1 0 (4 * i + j.val) (fun q => ropeG X cs sn Hk q c) b)
    (hV : ∀ (j : Fin 4) (b : Fin 256) (c : Fin 128), V h ⟨128 * j.val + b.val, by omega⟩ c
      = key 1 0 (4 * i + j.val) (fun q => valG X Hv q c) b) (r : Fin 512) (c : Fin 128) :
    OB (BitVec.ofNat 32 i) Q K V h r c = outG X cs sn 1 Hq Hk Hv ⟨512 * i + r.val, by omega⟩ c := by
  have hr := r.isLt
  unfold OB outG
  rw [score_eq X cs sn i hi Hq Hk Q K h hQ hK r]
  refine congrArg (mean _) (funext fun b => ?_)
  have e1 : (512 * i + r.val) / 1 / 128 = 4 * i + r.val / 128 := by omega
  have e3 : (512 * i + r.val) % 1 = 0 := by omega
  dsimp only
  rw [e1, e3]
  exact hV ⟨r.val / 128, by omega⟩ b c

theorem LB_eq (Hq Hk : Fin 72) (Q : Fin 4 → Fin 512 → Fin 128 → EReal) (K : Fin 4 → Fin 640 → Fin 128 → EReal) (h : Fin 4)
    (hQ : ∀ (r : Fin 512) (c : Fin 128), Q h r c = ropeG X cs sn Hq ⟨512 * i + r.val, by omega⟩ c * scl)
    (hK : ∀ (j : Fin 4) (b : Fin 256) (c : Fin 128), K h ⟨128 * j.val + b.val, by omega⟩ c
      = key 1 0 (4 * i + j.val) (fun q => ropeG X cs sn Hk q c) b) (r : Fin 512) :
    LB (BitVec.ofNat 32 i) Q K h r = lseG X cs sn 1 Hq Hk ⟨512 * i + r.val, by omega⟩ := by
  unfold LB lseG
  rw [score_eq X cs sn i hi Hq Hk Q K h hQ hK r]

end Pure

/-- The windows' index maps over the grid, in closed form. -/
theorem idx_facts : ∀ t : Fin cfg0.N, (win0_0.index t 0 = t.val % 32 ∧ win0_0.index t 1 = t.val / 32)
    ∧ (win0_1.index t 0 = t.val % 32 ∧ win0_1.index t 1 = 6 + t.val / 32)
    ∧ (win0_2.index t 0 = t.val % 32 ∧ win0_2.index t 1 = 12 + t.val / 32)
    ∧ (win0_3.index t 0 = t.val % 32 ∧ win0_3.index t 1 = 0)
    ∧ (win0_4.index t 0 = t.val % 32 ∧ win0_4.index t 1 = 0)
    ∧ (win0_5.index t 0 = t.val % 32 ∧ win0_5.index t 1 = t.val / 32)
    ∧ (win0_6.index t 0 = t.val % 32 ∧ win0_6.index t 1 = t.val / 32) :=
  (by decide +kernel : ∀ t : Fin grid0.N, _)
/-- The second coordinate of a grid point. -/
theorem coord_facts : ∀ t : Fin cfg0.N, (grid0.coords t 1).val = t.val % 32 :=
  (by decide +kernel : ∀ t : Fin grid0.N, _)

variable (m : (ℓ : Loc nD τ sig) → Buf (Elt Ideal) ℓ)

/-- The arrays as the call finds them. -/
abbrev xArr (c : Dev nD) : S16384x17408.Idx → EReal := V m c main_arg0
abbrev ctArr (c : Dev nD) : S16384x128.Idx → EReal := V m c main_v14
abbrev stArr (c : Dev nD) : S16384x128.Idx → EReal := V m c main_v16
abbrev cosArr (c : Dev nD) : S16384x64.Idx → EReal := V m c main_v12
abbrev sinArr (c : Dev nD) : S16384x64.Idx → EReal := V m c main_v13

/-- A table of 128 columns made of two of 64. -/
theorem tab_lo (x y : S16384x64.Idx → EReal) (hc) (p : Fin 16384) (d : Fin 128) (h : d.val < 64) :
    concatenate S16384x128 1 [⟨S16384x64, x⟩, ⟨S16384x64, y⟩] hc (ix2 p d) = x (ix2 p (lo d)) := by
  refine concatenate_pair_apply_left (t := S16384x128) (s₁ := S16384x64) (s₂ := S16384x64) 1 x y hc (ix2 p d) rfl (ix2 p (lo d)) fun a => ?_
  match a with
  | ⟨0, _⟩ => rfl
  | ⟨1, _⟩ => show d.val % 64 = d.val; omega
theorem tab_hi (x y : S16384x64.Idx → EReal) (hc) (p : Fin 16384) (d : Fin 128) (h : ¬d.val < 64) :
    concatenate S16384x128 1 [⟨S16384x64, x⟩, ⟨S16384x64, y⟩] hc (ix2 p d) = y (ix2 p (lo d)) := by
  have hd := d.isLt
  refine concatenate_pair_apply_right (t := S16384x128) (s₁ := S16384x64) (s₂ := S16384x64) 1 x y hc (ix2 p d) rfl rfl (ix2 p (lo d))
    (fun a ha => ?_) ?_
  · match a with
    | ⟨0, _⟩ => rfl
    | ⟨1, _⟩ => exact absurd rfl ha
  · show d.val % 64 + 64 = d.val; omega

/-- The tables that the call reads repeat the cosines and the sines, the sines' first half with the opposite sign. -/
theorem ctArr_apply (c : Dev nD) (p : Fin 16384) (d : Fin 128) : ctArr m c (ix2 p d) = cosArr m c (ix2 p (lo d)) := by
  have e : ctArr m c = concatenate S16384x128 1 [⟨S16384x64, cosArr m c⟩, ⟨S16384x64, cosArr m c⟩]
      concatenates_S16384x64_S16384x64_S16384x128_d1 := by
    unfold ctArr cosArr V hostOps0
    after_results <;> rfl
  rw [e]
  by_cases h : d.val < 64
  · exact tab_lo _ _ _ p d h
  · exact tab_hi _ _ _ p d h
theorem stArr_apply (c : Dev nD) (p : Fin 16384) (d : Fin 128) :
    stArr m c (ix2 p d) = if d.val < 64 then -sinArr m c (ix2 p (lo d)) else sinArr m c (ix2 p (lo d)) := by
  have e : stArr m c = concatenate S16384x128 1 [⟨S16384x64, Host.negf (F := Ideal) (φ := .f32) (sinArr m c)⟩, ⟨S16384x64, sinArr m c⟩]
      concatenates_S16384x64_S16384x64_S16384x128_d1 := by
    unfold stArr sinArr V hostOps0
    after_results <;> rfl
  rw [e]
  split_ifs with h
  · exact (tab_lo _ _ _ p d h).trans rfl
  · exact tab_hi _ _ _ p d h

/-- The blocks of the arrays that a grid point reads. -/
theorem iblk0_apply (c : Dev nD) (t : Fin cfg0.N) (r q : Fin 512) (h : 512 * (t.val % 32) + r.val < 16384)
    (h' : 128 * (4 * (t.val / 32)) + q.val < 17408) :
    (iblk m c 0 t (ix2 r q) : EReal) = xArr m c (ix2 ⟨512 * (t.val % 32) + r.val, h⟩ ⟨128 * (4 * (t.val / 32)) + q.val, h'⟩) := by
  show xArr m c ((win0_0.rect t).emb (ix2 r q)) = _
  refine congrArg (xArr m c) (Shape.idx_ext₂ ?_ ?_)
  · rw [Pipeline.Window.rect_emb_val win0_0 t _ 0 rfl, (idx_facts t).1.1]
    show t.val % 32 * 512 + r.val = 512 * (t.val % 32) + r.val
    omega
  · rw [Pipeline.Window.rect_emb_val win0_0 t _ 1 rfl, (idx_facts t).1.2]
    show (t.val / 32) * 512 + q.val = 128 * (4 * (t.val / 32)) + q.val
    omega
theorem iblk1_apply (c : Dev nD) (t : Fin cfg0.N) (r q : Fin 512) (h : 512 * (t.val % 32) + r.val < 16384)
    (h' : 128 * (24 + 4 * (t.val / 32)) + q.val < 17408) :
    (iblk m c 1 t (ix2 r q) : EReal) = xArr m c (ix2 ⟨512 * (t.val % 32) + r.val, h⟩ ⟨128 * (24 + 4 * (t.val / 32)) + q.val, h'⟩) := by
  show xArr m c ((win0_1.rect t).emb (ix2 r q)) = _
  refine congrArg (xArr m c) (Shape.idx_ext₂ ?_ ?_)
  · rw [Pipeline.Window.rect_emb_val win0_1 t _ 0 rfl, (idx_facts t).2.1.1]
    show t.val % 32 * 512 + r.val = 512 * (t.val % 32) + r.val
    omega
  · rw [Pipeline.Window.rect_emb_val win0_1 t _ 1 rfl, (idx_facts t).2.1.2]
    show (6 + t.val / 32) * 512 + q.val = 128 * (24 + 4 * (t.val / 32)) + q.val
    omega
theorem iblk2_apply (c : Dev nD) (t : Fin cfg0.N) (r q : Fin 512) (h : 512 * (t.val % 32) + r.val < 16384)
    (h' : 128 * (48 + 4 * (t.val / 32)) + q.val < 17408) :
    (iblk m c 2 t (ix2 r q) : EReal) = xArr m c (ix2 ⟨512 * (t.val % 32) + r.val, h⟩ ⟨128 * (48 + 4 * (t.val / 32)) + q.val, h'⟩) := by
  show xArr m c ((win0_2.rect t).emb (ix2 r q)) = _
  refine congrArg (xArr m c) (Shape.idx_ext₂ ?_ ?_)
  · rw [Pipeline.Window.rect_emb_val win0_2 t _ 0 rfl, (idx_facts t).2.2.1.1]
    show t.val % 32 * 512 + r.val = 512 * (t.val % 32) + r.val
    omega
  · rw [Pipeline.Window.rect_emb_val win0_2 t _ 1 rfl, (idx_facts t).2.2.1.2]
    show (12 + t.val / 32) * 512 + q.val = 128 * (48 + 4 * (t.val / 32)) + q.val
    omega
theorem iblk3_apply (c : Dev nD) (t : Fin cfg0.N) (r : Fin 512) (d : Fin 128) (h : 512 * (t.val % 32) + r.val < 16384) :
    (iblk m c 3 t (ix2 r d) : EReal) = cosArr m c (ix2 ⟨512 * (t.val % 32) + r.val, h⟩ (lo d)) := by
  refine Eq.trans ?_ (ctArr_apply m c ⟨512 * (t.val % 32) + r.val, h⟩ d)
  show ctArr m c ((win0_3.rect t).emb (ix2 r d)) = _
  refine congrArg (ctArr m c) (Shape.idx_ext₂ ?_ ?_)
  · rw [Pipeline.Window.rect_emb_val win0_3 t _ 0 rfl, (idx_facts t).2.2.2.1.1]
    show t.val % 32 * 512 + r.val = 512 * (t.val % 32) + r.val
    omega
  · rw [Pipeline.Window.rect_emb_val win0_3 t _ 1 rfl, (idx_facts t).2.2.2.1.2]
    show 0 * 128 + d.val = d.val
    omega
theorem iblk4_apply (c : Dev nD) (t : Fin cfg0.N) (r : Fin 512) (d : Fin 128) (h : 512 * (t.val % 32) + r.val < 16384) :
    (iblk m c 4 t (ix2 r d) : EReal) = if d.val < 64 then -sinArr m c (ix2 ⟨512 * (t.val % 32) + r.val, h⟩ (lo d)) else sinArr m c (ix2 ⟨512 * (t.val % 32) + r.val, h⟩ (lo d)) := by
  refine Eq.trans ?_ (stArr_apply m c ⟨512 * (t.val % 32) + r.val, h⟩ d)
  show stArr m c ((win0_4.rect t).emb (ix2 r d)) = _
  refine congrArg (stArr m c) (Shape.idx_ext₂ ?_ ?_)
  · rw [Pipeline.Window.rect_emb_val win0_4 t _ 0 rfl, (idx_facts t).2.2.2.2.1.1]
    show t.val % 32 * 512 + r.val = 512 * (t.val % 32) + r.val
    omega
  · rw [Pipeline.Window.rect_emb_val win0_4 t _ 1 rfl, (idx_facts t).2.2.2.2.1.2]
    show 0 * 128 + d.val = d.val
    omega

/-- A grid point's number, below 64. -/
theorem t_lt (t : Fin cfg0.N) : t.val < 64 := t.isLt

/-- A grid point's rotated queries and keys and its values. -/
theorem q_eq (c : Dev nD) (t : Fin cfg0.N) (h : Fin 4) (r : Fin 512) (d : Fin 128) :
    rope (iblk m c 0 t) (iblk m c 3 t) (iblk m c 4 t) h r d
      = ropeG (xArr m c) (cosArr m c) (sinArr m c) ⟨4 * (t.val / 32) + h.val, by have := t_lt t; omega⟩
          ⟨512 * (t.val % 32) + r.val, by omega⟩ d :=
  rope_eq (xArr m c) (cosArr m c) (sinArr m c) (t.val % 32) (by omega) (4 * (t.val / 32)) (by have := t_lt t; omega) _ _ _
    (fun r q => iblk0_apply m c t r q _ _) (fun r d => iblk3_apply m c t r d _) (fun r d => iblk4_apply m c t r d _) h r d
theorem k_eq (c : Dev nD) (t : Fin cfg0.N) (h : Fin 4) (r : Fin 512) (d : Fin 128) :
    rope (iblk m c 1 t) (iblk m c 3 t) (iblk m c 4 t) h r d
      = ropeG (xArr m c) (cosArr m c) (sinArr m c) ⟨24 + 4 * (t.val / 32) + h.val, by have := t_lt t; omega⟩
          ⟨512 * (t.val % 32) + r.val, by omega⟩ d :=
  rope_eq (xArr m c) (cosArr m c) (sinArr m c) (t.val % 32) (by omega) (24 + 4 * (t.val / 32)) (by have := t_lt t; omega) _ _ _
    (fun r q => iblk1_apply m c t r q _ _) (fun r d => iblk3_apply m c t r d _) (fun r d => iblk4_apply m c t r d _) h r d
theorem v_eq (c : Dev nD) (t : Fin cfg0.N) (h : Fin 4) (r : Fin 512) (d : Fin 128) :
    VB (iblk m c 2 t) h r d
      = valG (xArr m c) ⟨48 + 4 * (t.val / 32) + h.val, by have := t_lt t; omega⟩ ⟨512 * (t.val % 32) + r.val, by omega⟩ d :=
  val_eq (xArr m c) (t.val % 32) (by omega) (48 + 4 * (t.val / 32)) (by have := t_lt t; omega) _
    (fun r q => iblk2_apply m c t r q _ _) h r d

/-- A later point of a head group, over what the point before left. -/
theorem atB (c : Dev nD) (t : Fin cfg0.N) (h0 : ¬t.val % 32 = 0) : ∃ xs2 xs3 : Vec Ideal S4x1x640x128 .f32,
    (xs2 = (outsAt0 m c (t.val - 1) (Nat.lt_of_le_of_lt (Nat.sub_le _ _) t.isLt)).2.2.1
      ∧ xs3 = (outsAt0 m c (t.val - 1) (Nat.lt_of_le_of_lt (Nat.sub_le _ _) t.isLt)).2.2.2)
    ∧ outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3,
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3,
      sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3) :=
  ⟨_, _, ⟨rfl, rfl⟩, outsAt0_B m c t h0⟩

/-- What a grid point leaves of its keys and values for the next: its last 128 rows. -/
theorem left2 (c : Dev nD) (t : Fin cfg0.N) (h : Fin 4) (a : Fin 640) (ha : a.val < 128) (d : Fin 128) :
    ((outsAt0 m c t.val t.isLt).2.2.1 (ix4 h 0 a d) : EReal)
      = ropeG (xArr m c) (cosArr m c) (sinArr m c) ⟨24 + 4 * (t.val / 32) + h.val, by have := t_lt t; omega⟩
          ⟨512 * (t.val % 32) + (384 + a.val), by omega⟩ d := by
  refine Eq.trans ?_ (k_eq m c t h ⟨384 + a.val, by omega⟩ d)
  by_cases h0 : t.val % 32 = 0
  · rw [outsAt0_A m c t h0]
    dsimp only
    exact A.scr2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) h a ha d
  · obtain ⟨xs2, xs3, ⟨hx2, hx3⟩, e⟩ := atB m c t h0
    rw [e]
    dsimp only
    exact B.scr2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3 h a ha d
theorem left3 (c : Dev nD) (t : Fin cfg0.N) (h : Fin 4) (a : Fin 640) (ha : a.val < 128) (d : Fin 128) :
    ((outsAt0 m c t.val t.isLt).2.2.2 (ix4 h 0 a d) : EReal)
      = valG (xArr m c) ⟨48 + 4 * (t.val / 32) + h.val, by have := t_lt t; omega⟩ ⟨512 * (t.val % 32) + (384 + a.val), by omega⟩ d := by
  refine Eq.trans ?_ (v_eq m c t h ⟨384 + a.val, by omega⟩ d)
  by_cases h0 : t.val % 32 = 0
  · rw [outsAt0_A m c t h0]
    dsimp only
    exact A.scr3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) h a ha d
  · obtain ⟨xs2, xs3, ⟨hx2, hx3⟩, e⟩ := atB m c t h0
    rw [e]
    dsimp only
    exact B.scr3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3 h a ha d

/-- The rows that a grid point sees, in the two cases: none before its own at a head group's first point, else the rows the point
    before left. -/
theorem keysA (c : Dev nD) (t : Fin cfg0.N) (h0 : t.val % 32 = 0) (h : Fin 4) (j : Fin 4) (b : Fin 256) (d : Fin 128) :
    rows (fun _ _ _ => (0 : EReal)) (rope (iblk m c 1 t) (iblk m c 3 t) (iblk m c 4 t)) h ⟨128 * j.val + b.val, by omega⟩ d
      = key 1 0 (4 * (t.val % 32) + j.val) (fun q => ropeG (xArr m c) (cosArr m c) (sinArr m c)
          ⟨24 + 4 * (t.val / 32) + h.val, by have := t_lt t; omega⟩ q d) b :=
  rows_eq (t.val % 32) (by omega) (fun q d => ropeG (xArr m c) (cosArr m c) (sinArr m c)
    ⟨24 + 4 * (t.val / 32) + h.val, by have := t_lt t; omega⟩ q d) _ _ h (fun a d => (if_pos h0).symm) (fun a d => k_eq m c t h a d) j b d
theorem valsA (c : Dev nD) (t : Fin cfg0.N) (h0 : t.val % 32 = 0) (h : Fin 4) (j : Fin 4) (b : Fin 256) (d : Fin 128) :
    rows (fun _ _ _ => (0 : EReal)) (VB (iblk m c 2 t)) h ⟨128 * j.val + b.val, by omega⟩ d
      = key 1 0 (4 * (t.val % 32) + j.val) (fun q => valG (xArr m c) ⟨48 + 4 * (t.val / 32) + h.val, by have := t_lt t; omega⟩ q d) b :=
  rows_eq (t.val % 32) (by omega) (fun q d => valG (xArr m c) ⟨48 + 4 * (t.val / 32) + h.val, by have := t_lt t; omega⟩ q d) _ _ h
    (fun a d => (if_pos h0).symm) (fun a d => v_eq m c t h a d) j b d
theorem keysB (c : Dev nD) (t : Fin cfg0.N) (h0 : ¬t.val % 32 = 0) (ht : t.val - 1 < cfg0.N) (xs : Vec Ideal S4x1x640x128 .f32)
    (hx : xs = (outsAt0 m c (t.val - 1) ht).2.2.1) (h : Fin 4) (j : Fin 4) (b : Fin 256) (d : Fin 128) :
    rows (fun h a d => (xs (ix4 h 0 ⟨a.val, by omega⟩ d) : EReal))
        (rope (iblk m c 1 t) (iblk m c 3 t) (iblk m c 4 t)) h ⟨128 * j.val + b.val, by omega⟩ d
      = key 1 0 (4 * (t.val % 32) + j.val) (fun q => ropeG (xArr m c) (cosArr m c) (sinArr m c)
          ⟨24 + 4 * (t.val / 32) + h.val, by have := t_lt t; omega⟩ q d) b :=
  rows_eq (t.val % 32) (by omega) (fun q d => ropeG (xArr m c) (cosArr m c) (sinArr m c)
    ⟨24 + 4 * (t.val / 32) + h.val, by have := t_lt t; omega⟩ q d) _ _ h (fun a d => by
      refine Eq.trans ((congrFun hx _).trans (left2 m c ⟨t.val - 1, ht⟩ h ⟨a.val, by omega⟩ a.isLt d)) ?_
      rw [if_neg h0]
      refine congrArg₂ (fun H p => ropeG (xArr m c) (cosArr m c) (sinArr m c) H p d) (Fin.ext ?_) (Fin.ext ?_)
      · show 24 + 4 * ((t.val - 1) / 32) + h.val = 24 + 4 * (t.val / 32) + h.val
        omega
      · show 512 * ((t.val - 1) % 32) + (384 + a.val) = 512 * (t.val % 32) + a.val - 128
        omega) (fun a d => k_eq m c t h a d) j b d
theorem valsB (c : Dev nD) (t : Fin cfg0.N) (h0 : ¬t.val % 32 = 0) (ht : t.val - 1 < cfg0.N) (xs : Vec Ideal S4x1x640x128 .f32)
    (hx : xs = (outsAt0 m c (t.val - 1) ht).2.2.2) (h : Fin 4) (j : Fin 4) (b : Fin 256) (d : Fin 128) :
    rows (fun h a d => (xs (ix4 h 0 ⟨a.val, by omega⟩ d) : EReal))
        (VB (iblk m c 2 t)) h ⟨128 * j.val + b.val, by omega⟩ d
      = key 1 0 (4 * (t.val % 32) + j.val) (fun q => valG (xArr m c) ⟨48 + 4 * (t.val / 32) + h.val, by have := t_lt t; omega⟩ q d) b :=
  rows_eq (t.val % 32) (by omega) (fun q d => valG (xArr m c) ⟨48 + 4 * (t.val / 32) + h.val, by have := t_lt t; omega⟩ q d) _ _ h
    (fun a d => by
      refine Eq.trans ((congrFun hx _).trans (left3 m c ⟨t.val - 1, ht⟩ h ⟨a.val, by omega⟩ a.isLt d)) ?_
      rw [if_neg h0]
      refine congrArg₂ (fun H p => valG (xArr m c) H p d) (Fin.ext ?_) (Fin.ext ?_)
      · show 48 + 4 * ((t.val - 1) / 32) + h.val = 48 + 4 * (t.val / 32) + h.val
        omega
      · show 512 * ((t.val - 1) % 32) + (384 + a.val) = 512 * (t.val % 32) + a.val - 128
        omega) (fun a d => v_eq m c t h a d) j b d

/-- The two arrays after the run as functions. -/
abbrev oAt (X : S16384x17408.Idx → EReal) (cs sn : S16384x64.Idx → EReal) : S16384x1024.Idx → EReal := fun i =>
  outG X cs sn 1 ⟨(i 1).val / 128, by have h1 : (i 1).val < 1024 := (i 1).isLt; omega⟩
    ⟨24 + (i 1).val / 128, by have h1 : (i 1).val < 1024 := (i 1).isLt; omega⟩
    ⟨48 + (i 1).val / 128, by have h1 : (i 1).val < 1024 := (i 1).isLt; omega⟩ (i 0) ⟨(i 1).val % 128, Nat.mod_lt _ (by norm_num)⟩
abbrev lAt (X : S16384x17408.Idx → EReal) (cs sn : S16384x64.Idx → EReal) : S16384x1024.Idx → EReal := fun i =>
  lseG X cs sn 1 ⟨(i 1).val / 128, by have h1 : (i 1).val < 1024 := (i 1).isLt; omega⟩
    ⟨24 + (i 1).val / 128, by have h1 : (i 1).val < 1024 := (i 1).isLt; omega⟩ (i 0)
abbrev O (c : Dev nD) : Buf (Elt Ideal) ((c : Thread nD τ).loc main_v17_0) := oAt (xArr m c) (cosArr m c) (sinArr m c)
abbrev L (c : Dev nD) : Buf (Elt Ideal) ((c : Thread nD τ).loc main_v17_1) := lAt (xArr m c) (cosArr m c) (sinArr m c)

/-- What a grid point leaves in the two blocks. -/
theorem out5_eq (c : Dev nD) (t : Fin cfg0.N) (r q : Fin 512) :
    ((outsAt0 m c t.val t.isLt).1 (ix2 r q) : EReal)
      = outG (xArr m c) (cosArr m c) (sinArr m c) 1 ⟨4 * (t.val / 32) + q.val / 128, by have := t_lt t; omega⟩
          ⟨24 + 4 * (t.val / 32) + q.val / 128, by have := t_lt t; omega⟩ ⟨48 + 4 * (t.val / 32) + q.val / 128, by have := t_lt t; omega⟩
          ⟨512 * (t.val % 32) + r.val, by omega⟩ ⟨q.val % 128, Nat.mod_lt _ (by norm_num)⟩ := by
  by_cases h0 : t.val % 32 = 0
  · rw [outsAt0_A m c t h0]
    dsimp only
    refine (A.out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (ix2 r q)).trans ?_
    rw [coord_facts t]
    exact OB_eq (xArr m c) (cosArr m c) (sinArr m c) (t.val % 32) (by omega) _ _ _ _ _ _ ⟨q.val / 128, by omega⟩
      (fun r d => congrArg (· * scl) (q_eq m c t ⟨q.val / 128, by omega⟩ r d)) (keysA m c t h0 ⟨q.val / 128, by omega⟩)
      (valsA m c t h0 ⟨q.val / 128, by omega⟩) r _
  · obtain ⟨xs2, xs3, ⟨hx2, hx3⟩, e⟩ := atB m c t h0
    rw [e]
    dsimp only
    refine (B.out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3 (ix2 r q)).trans ?_
    rw [coord_facts t]
    exact OB_eq (xArr m c) (cosArr m c) (sinArr m c) (t.val % 32) (by omega) _ _ _ _ _ _ ⟨q.val / 128, by omega⟩
      (fun r d => congrArg (· * scl) (q_eq m c t ⟨q.val / 128, by omega⟩ r d)) (keysB m c t h0 _ xs2 hx2 ⟨q.val / 128, by omega⟩)
      (valsB m c t h0 _ xs3 hx3 ⟨q.val / 128, by omega⟩) r _
theorem out6_eq (c : Dev nD) (t : Fin cfg0.N) (r q : Fin 512) :
    ((outsAt0 m c t.val t.isLt).2.1 (ix2 r q) : EReal)
      = lseG (xArr m c) (cosArr m c) (sinArr m c) 1 ⟨4 * (t.val / 32) + q.val / 128, by have := t_lt t; omega⟩
          ⟨24 + 4 * (t.val / 32) + q.val / 128, by have := t_lt t; omega⟩ ⟨512 * (t.val % 32) + r.val, by omega⟩ := by
  by_cases h0 : t.val % 32 = 0
  · rw [outsAt0_A m c t h0]
    dsimp only
    refine (A.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (ix2 r q)).trans ?_
    rw [coord_facts t]
    exact LB_eq (xArr m c) (cosArr m c) (sinArr m c) (t.val % 32) (by omega) _ _ _ _ ⟨q.val / 128, by omega⟩
      (fun r d => congrArg (· * scl) (q_eq m c t ⟨q.val / 128, by omega⟩ r d)) (keysA m c t h0 ⟨q.val / 128, by omega⟩) r
  · obtain ⟨xs2, xs3, ⟨hx2, hx3⟩, e⟩ := atB m c t h0
    rw [e]
    dsimp only
    refine (B.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) xs2 xs3 (ix2 r q)).trans ?_
    rw [coord_facts t]
    exact LB_eq (xArr m c) (cosArr m c) (sinArr m c) (t.val % 32) (by omega) _ _ _ _ ⟨q.val / 128, by omega⟩
      (fun r d => congrArg (· * scl) (q_eq m c t ⟨q.val / 128, by omega⟩ r d)) (keysB m c t h0 _ xs2 hx2 ⟨q.val / 128, by omega⟩) r

/-- What a grid point writes back to the outputs is its block of the array; and the blocks cover it. -/
theorem flushed5_eq (c : Dev nD) (t : Fin cfg0.N) :
    (dats m 0 c).flushed 5 t = ((cfg0.win 5).blk t).view.read (Elt Ideal) (O m c) := by
  rw [Value.flushed5]
  funext j
  obtain ⟨r, q, rfl⟩ : ∃ (r : Fin 512) (q : Fin 512), j = ix2 r q := ⟨j 0, j 1, eq_ix2 j⟩
  have hq := q.isLt
  have ht := t_lt t
  refine (out5_eq m c t r q).trans ?_
  have e0 : ((win0_5.rect t).emb (ix2 r q)) 0 = (⟨512 * (t.val % 32) + r.val, by omega⟩ : Fin 16384) := Fin.ext (by
    rw [Pipeline.Window.rect_emb_val win0_5 t _ 0 rfl, (idx_facts t).2.2.2.2.2.1.1]
    show t.val % 32 * 512 + r.val = 512 * (t.val % 32) + r.val
    omega)
  have e1 : ((win0_5.rect t).emb (ix2 r q)) 1 = (⟨512 * (t.val / 32) + q.val, by omega⟩ : Fin 1024) := Fin.ext (by
    rw [Pipeline.Window.rect_emb_val win0_5 t _ 1 rfl, (idx_facts t).2.2.2.2.2.1.2]
    show t.val / 32 * 512 + q.val = 512 * (t.val / 32) + q.val
    omega)
  have e : (win0_5.rect t).emb (ix2 r q) = ix2 (⟨512 * (t.val % 32) + r.val, by omega⟩ : Fin 16384) (⟨512 * (t.val / 32) + q.val, by omega⟩ : Fin 1024) :=
    Shape.idx_ext₂ (congrArg Fin.val e0) (congrArg Fin.val e1)
  refine Eq.trans ?_ (congrArg (oAt (xArr m c) (cosArr m c) (sinArr m c)) e).symm
  have d1 : (512 * (t.val / 32) + q.val) / 128 = 4 * (t.val / 32) + q.val / 128 := by omega
  have d2 : (512 * (t.val / 32) + q.val) % 128 = q.val % 128 := by omega
  show _ = outG _ _ _ 1 ⟨(512 * (t.val / 32) + q.val) / 128, _⟩ ⟨24 + (512 * (t.val / 32) + q.val) / 128, _⟩ ⟨48 + (512 * (t.val / 32) + q.val) / 128, _⟩ _ ⟨(512 * (t.val / 32) + q.val) % 128, _⟩
  simp only [d1, d2, ← Nat.add_assoc]
theorem mem_blk5 (t : Fin cfg0.N) (i : S16384x1024.Idx) :
    i ∈ ((cfg0.win 5).blk t).view.set ↔ ∀ a : Fin 2, win0_5.index t a * win0_5.size a ≤ (i a).val
      ∧ (i a).val < win0_5.index t a * win0_5.size a + win0_5.size a := by
  show i ∈ ((View.whole main_v17_0).slice (win0_5.rect t)).set ↔ _
  rw [View.set_slice_whole, Rect.mem_set_unit]
  exact Iff.rfl
theorem cover5 (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  have hN : cfg0.N = 64 := N_0
  refine ⟨⟨32 * ((i 1).val / 512) + (i 0).val / 512, by omega⟩, flush0_5 _, ?_⟩
  rw [mem_blk5]
  intro a
  have hf := (idx_facts ⟨32 * ((i 1).val / 512) + (i 0).val / 512, by omega⟩).2.2.2.2.2.1
  match a with
  | ⟨0, _⟩ =>
    show win0_5.index _ 0 * 512 ≤ (i 0).val ∧ (i 0).val < win0_5.index _ 0 * 512 + 512
    rw [hf.1]; dsimp only; omega
  | ⟨1, _⟩ =>
    show win0_5.index _ 1 * 512 ≤ (i 1).val ∧ (i 1).val < win0_5.index _ 1 * 512 + 512
    rw [hf.2]; dsimp only; omega
theorem final5_eq (c : Dev nD) : (dats m 0 c).arrAt 5 cfg0.N = O m c :=
  (dats m 0 c).arrAt_eq_of_cover 5 (O m c) (fun t _ => flushed5_eq m c t) cover5

/-- What a grid point writes back to the logarithms is its block of the array; and the blocks cover it. -/
theorem flushed6_eq (c : Dev nD) (t : Fin cfg0.N) :
    (dats m 0 c).flushed 6 t = ((cfg0.win 6).blk t).view.read (Elt Ideal) (L m c) := by
  rw [Value.flushed6]
  funext j
  obtain ⟨r, q, rfl⟩ : ∃ (r : Fin 512) (q : Fin 512), j = ix2 r q := ⟨j 0, j 1, eq_ix2 j⟩
  have hq := q.isLt
  have ht := t_lt t
  refine (out6_eq m c t r q).trans ?_
  have e0 : ((win0_6.rect t).emb (ix2 r q)) 0 = (⟨512 * (t.val % 32) + r.val, by omega⟩ : Fin 16384) := Fin.ext (by
    rw [Pipeline.Window.rect_emb_val win0_6 t _ 0 rfl, (idx_facts t).2.2.2.2.2.2.1]
    show t.val % 32 * 512 + r.val = 512 * (t.val % 32) + r.val
    omega)
  have e1 : ((win0_6.rect t).emb (ix2 r q)) 1 = (⟨512 * (t.val / 32) + q.val, by omega⟩ : Fin 1024) := Fin.ext (by
    rw [Pipeline.Window.rect_emb_val win0_6 t _ 1 rfl, (idx_facts t).2.2.2.2.2.2.2]
    show t.val / 32 * 512 + q.val = 512 * (t.val / 32) + q.val
    omega)
  have e : (win0_6.rect t).emb (ix2 r q) = ix2 (⟨512 * (t.val % 32) + r.val, by omega⟩ : Fin 16384) (⟨512 * (t.val / 32) + q.val, by omega⟩ : Fin 1024) :=
    Shape.idx_ext₂ (congrArg Fin.val e0) (congrArg Fin.val e1)
  refine Eq.trans ?_ (congrArg (lAt (xArr m c) (cosArr m c) (sinArr m c)) e).symm
  have d1 : (512 * (t.val / 32) + q.val) / 128 = 4 * (t.val / 32) + q.val / 128 := by omega
  have d2 : (512 * (t.val / 32) + q.val) % 128 = q.val % 128 := by omega
  show _ = lseG _ _ _ 1 ⟨(512 * (t.val / 32) + q.val) / 128, _⟩ ⟨24 + (512 * (t.val / 32) + q.val) / 128, _⟩ _
  simp only [d1, ← Nat.add_assoc]
theorem mem_blk6 (t : Fin cfg0.N) (i : S16384x1024.Idx) :
    i ∈ ((cfg0.win 6).blk t).view.set ↔ ∀ a : Fin 2, win0_6.index t a * win0_6.size a ≤ (i a).val
      ∧ (i a).val < win0_6.index t a * win0_6.size a + win0_6.size a := by
  show i ∈ ((View.whole main_v17_1).slice (win0_6.rect t)).set ↔ _
  rw [View.set_slice_whole, Rect.mem_set_unit]
  exact Iff.rfl
theorem cover6 (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  have hN : cfg0.N = 64 := N_0
  refine ⟨⟨32 * ((i 1).val / 512) + (i 0).val / 512, by omega⟩, flush0_6 _, ?_⟩
  rw [mem_blk6]
  intro a
  have hf := (idx_facts ⟨32 * ((i 1).val / 512) + (i 0).val / 512, by omega⟩).2.2.2.2.2.2
  match a with
  | ⟨0, _⟩ =>
    show win0_6.index _ 0 * 512 ≤ (i 0).val ∧ (i 0).val < win0_6.index _ 0 * 512 + 512
    rw [hf.1]; dsimp only; omega
  | ⟨1, _⟩ =>
    show win0_6.index _ 1 * 512 ≤ (i 1).val ∧ (i 1).val < win0_6.index _ 1 * 512 + 512
    rw [hf.2]; dsimp only; omega
theorem final6_eq (c : Dev nD) : (dats m 0 c).arrAt 6 cfg0.N = L m c :=
  (dats m 0 c).arrAt_eq_of_cover 6 (L m c) (fun t _ => flushed6_eq m c t) cover6

end Cert.Proof.G0

end
-- ==== Proof.G0RefA.lean ====
/- The reference of the first group's attention, read element by element: its slices, rotations, paddings and masks are those of
   the global formulas. -/
module

public import proofs.«01_k».proof.Proof.AttGlob
public import proofs.«01_k».proof.Proof.Gen.ReferenceG0Ideal.Read
public import Idealize.ShloMosaic.Lib.ValueIdxRank6

@[expose] public section

noncomputable section

namespace Cert.Proof.G0R

open Idealize.ShloMosaic Idealize.ShloMosaic.TcCoe Idealize.ShloMosaic.ValueIdx
open Cert.ReferenceG0Ideal Cert.ReferenceG0Ideal.Gen Cert.ReferenceG0Ideal.Read
open Cert.Proof.Att

/-- The reference's tables of cosines and sines. -/
abbrev cosR : S16384x64.Idx → EReal := val_main_v20 (F := Ideal)
abbrev sinR : S16384x64.Idx → EReal := val_main_v22 (F := Ideal)

variable (x0 : S16384x17408.Idx → EReal)

/-- The columns of the queries, of the keys and of the values. -/
theorem l3 (p : Fin 16384) (q : Fin 9216) : (val_main_v3 (F := Ideal) x0 (ix3 0 p q) : EReal) = x0 (ix2 p ⟨q.val, by omega⟩) := by
  rw [val_main_v3_apply]
  show (val_main_v2 (F := Ideal) x0 (ix3 0 p q) : EReal) = _
  rw [val_main_v2_apply, val_main_v1_apply]
  exact congrArg x0 (Shape.idx_ext₂ rfl rfl)
theorem l7 (p : Fin 16384) (H : Fin 24) (c : Fin 128) :
    (val_main_v7 (F := Ideal) x0 (ix4 0 p H c) : EReal) = x0 (ix2 p (hcol ⟨H.val, by omega⟩ c)) := by
  have hp := p.isLt
  have hH := H.isLt
  have hc := c.isLt
  rw [val_main_v7_apply, val_main_v4_apply]
  refine Eq.trans (congrArg (val_main_v3 (F := Ideal) x0) (idx_ext₃ (j := ix3 0 p ⟨(128 * H.val + c.val), by omega⟩) rfl ?_ ?_)) ((l3 x0 p _).trans (congrArg x0 (Shape.idx_ext₂ rfl ?_)))
  · show (((0 * 16384 + p.val) * 24 + H.val) * 128 + c.val) / 3072 % 16384 = p.val
    omega
  · show (((0 * 16384 + p.val) * 24 + H.val) * 128 + c.val) % 3072 = (128 * H.val + c.val)
    omega
  · show (128 * H.val + c.val) = 128 * (H.val) + c.val
    omega
theorem l38 (p : Fin 16384) (H : Fin 24) (c : Fin 128) :
    (val_main_v38 (F := Ideal) x0 (ix4 0 p H c) : EReal) = x0 (ix2 p (hcol ⟨24 + H.val, by omega⟩ c)) := by
  have hp := p.isLt
  have hH := H.isLt
  have hc := c.isLt
  rw [val_main_v38_apply, val_main_v5_apply]
  refine Eq.trans (congrArg (val_main_v3 (F := Ideal) x0) (idx_ext₃ (j := ix3 0 p ⟨3072 + (128 * H.val + c.val), by omega⟩) rfl ?_ ?_)) ((l3 x0 p _).trans (congrArg x0 (Shape.idx_ext₂ rfl ?_)))
  · show (((0 * 16384 + p.val) * 24 + H.val) * 128 + c.val) / 3072 % 16384 = p.val
    omega
  · show 3072 + (((0 * 16384 + p.val) * 24 + H.val) * 128 + c.val) % 3072 = 3072 + (128 * H.val + c.val)
    omega
  · show 3072 + (128 * H.val + c.val) = 128 * (24 + H.val) + c.val
    omega
theorem l69 (p : Fin 16384) (g : Fin 3) (h : Fin 8) (c : Fin 128) :
    (val_main_v69 (F := Ideal) x0 (ix5 0 p g h c) : EReal) = x0 (ix2 p (hcol ⟨48 + (8 * g.val + h.val), by omega⟩ c)) := by
  have hp := p.isLt
  have hg := g.isLt
  have hh := h.isLt
  have hc := c.isLt
  rw [val_main_v69_apply, val_main_v6_apply]
  refine Eq.trans (congrArg (val_main_v3 (F := Ideal) x0) (idx_ext₃ (j := ix3 0 p ⟨6144 + (128 * (8 * g.val + h.val) + c.val), by omega⟩) rfl ?_ ?_)) ((l3 x0 p _).trans (congrArg x0 (Shape.idx_ext₂ rfl ?_)))
  · show ((((0 * 16384 + p.val) * 3 + g.val) * 8 + h.val) * 128 + c.val) / 3072 % 16384 = p.val
    omega
  · show 6144 + ((((0 * 16384 + p.val) * 3 + g.val) * 8 + h.val) * 128 + c.val) % 3072 = 6144 + (128 * (8 * g.val + h.val) + c.val)
    omega
  · show 6144 + (128 * (8 * g.val + h.val) + c.val) = 128 * (48 + (8 * g.val + h.val)) + c.val
    omega

/-- The rotated queries. -/
theorem l26 (p : Fin 16384) (H : Fin 24) (k : Fin 64) : (val_main_v26 (F := Ideal) (ix4 0 p H k) : EReal) = cosR (ix2 p k) := by
  rw [val_main_v26_apply, val_main_v21_apply]
  exact congrArg cosR (Shape.idx_ext₂ rfl rfl)
theorem l28 (p : Fin 16384) (H : Fin 24) (k : Fin 64) : (val_main_v28 (F := Ideal) (ix4 0 p H k) : EReal) = sinR (ix2 p k) := by
  rw [val_main_v28_apply, val_main_v23_apply]
  exact congrArg sinR (Shape.idx_ext₂ rfl rfl)
theorem l31 (p : Fin 16384) (H : Fin 24) (k : Fin 64) : (val_main_v31 (F := Ideal) (ix4 0 p H k) : EReal) = cosR (ix2 p k) := by
  rw [val_main_v31_apply, val_main_v21_apply]
  exact congrArg cosR (Shape.idx_ext₂ rfl rfl)
theorem l33 (p : Fin 16384) (H : Fin 24) (k : Fin 64) : (val_main_v33 (F := Ideal) (ix4 0 p H k) : EReal) = sinR (ix2 p k) := by
  rw [val_main_v33_apply, val_main_v23_apply]
  exact congrArg sinR (Shape.idx_ext₂ rfl rfl)
theorem l24 (p : Fin 16384) (H : Fin 24) (k : Fin 64) :
    (val_main_v24 (F := Ideal) x0 (ix4 0 p H k) : EReal) = x0 (ix2 p (hcol ⟨H.val, by omega⟩ ⟨k.val, by omega⟩)) := by
  rw [val_main_v24_apply]
  refine Eq.trans (congrArg (val_main_v7 (F := Ideal) x0) (idx_ext₄ rfl rfl rfl rfl)) (l7 x0 p H ⟨k.val, by omega⟩)
theorem l25 (p : Fin 16384) (H : Fin 24) (k : Fin 64) :
    (val_main_v25 (F := Ideal) x0 (ix4 0 p H k) : EReal) = x0 (ix2 p (hcol ⟨H.val, by omega⟩ ⟨64 + k.val, by omega⟩)) := by
  rw [val_main_v25_apply]
  refine Eq.trans (congrArg (val_main_v7 (F := Ideal) x0) (idx_ext₄ rfl rfl rfl rfl)) (l7 x0 p H ⟨64 + k.val, by omega⟩)
theorem l36 (p : Fin 16384) (H : Fin 24) (c : Fin 128) :
    (val_main_v36 (F := Ideal) x0 (ix4 0 p H c) : EReal) = ropeG x0 cosR sinR ⟨H.val, by omega⟩ p c := by
  have hc := c.isLt
  unfold ropeG
  by_cases h : c.val < 64
  · refine (concatenate_pair_apply_left (t := S1x16384x24x128) (s₁ := S1x16384x24x64) (s₂ := S1x16384x24x64) 3 (val_main_v30 (F := Ideal) x0)
      (val_main_v35 (F := Ideal) x0) concatenates_S1x16384x24x64_S1x16384x24x64_S1x16384x24x128_d3 (ix4 0 p H c) rfl
      (ix4 0 p H ⟨c.val, h⟩) fun a => ?_).trans ?_
    · match a with
      | ⟨0, _⟩ => rfl
      | ⟨1, _⟩ => rfl
      | ⟨2, _⟩ => rfl
      | ⟨3, _⟩ => rfl
    · have e1 : lo c = ⟨c.val, h⟩ := Fin.ext (Nat.mod_eq_of_lt h)
      have e2 : half c = ⟨64 + c.val, by omega⟩ := Fin.ext (by show (c.val + 64) % 128 = 64 + c.val; omega)
      rw [if_pos h, e1, e2]
      show (val_main_v24 (F := Ideal) x0 (ix4 0 p H ⟨c.val, h⟩) : EReal) * val_main_v26 (F := Ideal) (ix4 0 p H ⟨c.val, h⟩)
        - (val_main_v25 (F := Ideal) x0 (ix4 0 p H ⟨c.val, h⟩) : EReal) * val_main_v28 (F := Ideal) (ix4 0 p H ⟨c.val, h⟩) = _
      rw [l24, l25, l26, l28, sub_eq_add_neg, mul_neg]
  · refine (concatenate_pair_apply_right (t := S1x16384x24x128) (s₁ := S1x16384x24x64) (s₂ := S1x16384x24x64) 3 (val_main_v30 (F := Ideal) x0)
      (val_main_v35 (F := Ideal) x0) concatenates_S1x16384x24x64_S1x16384x24x64_S1x16384x24x128_d3 (ix4 0 p H c) rfl rfl
      (ix4 0 p H ⟨c.val - 64, by omega⟩) (fun a ha => ?_) ?_).trans ?_
    · match a with
      | ⟨0, _⟩ => rfl
      | ⟨1, _⟩ => rfl
      | ⟨2, _⟩ => rfl
      | ⟨3, _⟩ => exact absurd rfl ha
    · show c.val - 64 + 64 = c.val
      omega
    · have e1 : lo c = ⟨c.val - 64, by omega⟩ := Fin.ext (by show c.val % 64 = c.val - 64; omega)
      have e2 : half c = ⟨c.val - 64, by omega⟩ := Fin.ext (by show (c.val + 64) % 128 = c.val - 64; omega)
      have e3 : c = ⟨64 + (c.val - 64), by omega⟩ := Fin.ext (by show c.val = 64 + (c.val - 64); omega)
      rw [if_neg h, e1, e2]
      show (val_main_v25 (F := Ideal) x0 (ix4 0 p H ⟨c.val - 64, _⟩) : EReal) * val_main_v31 (F := Ideal) (ix4 0 p H ⟨c.val - 64, _⟩)
        + (val_main_v24 (F := Ideal) x0 (ix4 0 p H ⟨c.val - 64, _⟩) : EReal) * val_main_v33 (F := Ideal) (ix4 0 p H ⟨c.val - 64, _⟩) = _
      rw [l24, l25, l31, l33, ← e3]

/-- The rotated keys. -/
theorem l57 (p : Fin 16384) (H : Fin 24) (k : Fin 64) : (val_main_v57 (F := Ideal) (ix4 0 p H k) : EReal) = cosR (ix2 p k) := by
  rw [val_main_v57_apply, val_main_v52_apply]
  exact congrArg cosR (Shape.idx_ext₂ rfl rfl)
theorem l59 (p : Fin 16384) (H : Fin 24) (k : Fin 64) : (val_main_v59 (F := Ideal) (ix4 0 p H k) : EReal) = sinR (ix2 p k) := by
  rw [val_main_v59_apply, val_main_v54_apply]
  exact congrArg sinR (Shape.idx_ext₂ rfl rfl)
theorem l62 (p : Fin 16384) (H : Fin 24) (k : Fin 64) : (val_main_v62 (F := Ideal) (ix4 0 p H k) : EReal) = cosR (ix2 p k) := by
  rw [val_main_v62_apply, val_main_v52_apply]
  exact congrArg cosR (Shape.idx_ext₂ rfl rfl)
theorem l64 (p : Fin 16384) (H : Fin 24) (k : Fin 64) : (val_main_v64 (F := Ideal) (ix4 0 p H k) : EReal) = sinR (ix2 p k) := by
  rw [val_main_v64_apply, val_main_v54_apply]
  exact congrArg sinR (Shape.idx_ext₂ rfl rfl)
theorem l55 (p : Fin 16384) (H : Fin 24) (k : Fin 64) :
    (val_main_v55 (F := Ideal) x0 (ix4 0 p H k) : EReal) = x0 (ix2 p (hcol ⟨24 + H.val, by omega⟩ ⟨k.val, by omega⟩)) := by
  rw [val_main_v55_apply]
  refine Eq.trans (congrArg (val_main_v38 (F := Ideal) x0) (idx_ext₄ rfl rfl rfl rfl)) (l38 x0 p H ⟨k.val, by omega⟩)
theorem l56 (p : Fin 16384) (H : Fin 24) (k : Fin 64) :
    (val_main_v56 (F := Ideal) x0 (ix4 0 p H k) : EReal) = x0 (ix2 p (hcol ⟨24 + H.val, by omega⟩ ⟨64 + k.val, by omega⟩)) := by
  rw [val_main_v56_apply]
  refine Eq.trans (congrArg (val_main_v38 (F := Ideal) x0) (idx_ext₄ rfl rfl rfl rfl)) (l38 x0 p H ⟨64 + k.val, by omega⟩)
theorem l67 (p : Fin 16384) (H : Fin 24) (c : Fin 128) :
    (val_main_v67 (F := Ideal) x0 (ix4 0 p H c) : EReal) = ropeG x0 cosR sinR ⟨24 + H.val, by omega⟩ p c := by
  have hc := c.isLt
  unfold ropeG
  by_cases h : c.val < 64
  · refine (concatenate_pair_apply_left (t := S1x16384x24x128) (s₁ := S1x16384x24x64) (s₂ := S1x16384x24x64) 3 (val_main_v61 (F := Ideal) x0)
      (val_main_v66 (F := Ideal) x0) concatenates_S1x16384x24x64_S1x16384x24x64_S1x16384x24x128_d3 (ix4 0 p H c) rfl
      (ix4 0 p H ⟨c.val, h⟩) fun a => ?_).trans ?_
    · match a with
      | ⟨0, _⟩ => rfl
      | ⟨1, _⟩ => rfl
      | ⟨2, _⟩ => rfl
      | ⟨3, _⟩ => rfl
    · have e1 : lo c = ⟨c.val, h⟩ := Fin.ext (Nat.mod_eq_of_lt h)
      have e2 : half c = ⟨64 + c.val, by omega⟩ := Fin.ext (by show (c.val + 64) % 128 = 64 + c.val; omega)
      rw [if_pos h, e1, e2]
      show (val_main_v55 (F := Ideal) x0 (ix4 0 p H ⟨c.val, h⟩) : EReal) * val_main_v57 (F := Ideal) (ix4 0 p H ⟨c.val, h⟩)
        - (val_main_v56 (F := Ideal) x0 (ix4 0 p H ⟨c.val, h⟩) : EReal) * val_main_v59 (F := Ideal) (ix4 0 p H ⟨c.val, h⟩) = _
      rw [l55, l56, l57, l59, sub_eq_add_neg, mul_neg]
  · refine (concatenate_pair_apply_right (t := S1x16384x24x128) (s₁ := S1x16384x24x64) (s₂ := S1x16384x24x64) 3 (val_main_v61 (F := Ideal) x0)
      (val_main_v66 (F := Ideal) x0) concatenates_S1x16384x24x64_S1x16384x24x64_S1x16384x24x128_d3 (ix4 0 p H c) rfl rfl
      (ix4 0 p H ⟨c.val - 64, by omega⟩) (fun a ha => ?_) ?_).trans ?_
    · match a with
      | ⟨0, _⟩ => rfl
      | ⟨1, _⟩ => rfl
      | ⟨2, _⟩ => rfl
      | ⟨3, _⟩ => exact absurd rfl ha
    · show c.val - 64 + 64 = c.val
      omega
    · have e1 : lo c = ⟨c.val - 64, by omega⟩ := Fin.ext (by show c.val % 64 = c.val - 64; omega)
      have e2 : half c = ⟨c.val - 64, by omega⟩ := Fin.ext (by show (c.val + 64) % 128 = c.val - 64; omega)
      have e3 : c = ⟨64 + (c.val - 64), by omega⟩ := Fin.ext (by show c.val = 64 + (c.val - 64); omega)
      rw [if_neg h, e1, e2]
      show (val_main_v56 (F := Ideal) x0 (ix4 0 p H ⟨c.val - 64, _⟩) : EReal) * val_main_v62 (F := Ideal) (ix4 0 p H ⟨c.val - 64, _⟩)
        + (val_main_v55 (F := Ideal) x0 (ix4 0 p H ⟨c.val - 64, _⟩) : EReal) * val_main_v64 (F := Ideal) (ix4 0 p H ⟨c.val - 64, _⟩) = _
      rw [l55, l56, l62, l64, ← e3]

/-- The first group's queries, by head and block. -/
theorem l37 (p : Fin 16384) (g : Fin 3) (h : Fin 8) (c : Fin 128) :
    (val_main_v37 (F := Ideal) x0 (ix5 0 p g h c) : EReal) = ropeG x0 cosR sinR ⟨(8 * g.val + h.val), by omega⟩ p c := by
  have hp := p.isLt
  have hg := g.isLt
  have hh := h.isLt
  have hc := c.isLt
  rw [val_main_v37_apply]
  refine Eq.trans (congrArg (val_main_v36 (F := Ideal) x0) (idx_ext₄ (y := ix4 0 p ⟨8 * g.val + h.val, by omega⟩ c) rfl ?_ ?_ ?_)) (l36 x0 p _ c)
  · show ((((0 * 16384 + p.val) * 3 + g.val) * 8 + h.val) * 128 + c.val) / 3072 % 16384 = p.val
    omega
  · show ((((0 * 16384 + p.val) * 3 + g.val) * 8 + h.val) * 128 + c.val) / 128 % 24 = 8 * g.val + h.val
    omega
  · show ((((0 * 16384 + p.val) * 3 + g.val) * 8 + h.val) * 128 + c.val) % 128 = c.val
    omega
theorem l70 (p : Fin 16384) (h : Fin 8) (c : Fin 128) :
    (val_main_v70 (F := Ideal) x0 (ix5 0 p 0 h c) : EReal) = ropeG x0 cosR sinR ⟨h.val, by omega⟩ p c := by
  rw [val_main_v70_apply]
  refine Eq.trans (congrArg (val_main_v37 (F := Ideal) x0) (idx_ext₅ (y := ix5 0 p 0 h c) rfl rfl rfl rfl rfl)) ((l37 x0 p 0 h c).trans ?_)
  refine congrArg (fun H => ropeG x0 cosR sinR H p c) (Fin.ext ?_)
  show (8 * 0 + h.val) = h.val
  omega
theorem l71 (p : Fin 16384) (h : Fin 8) (c : Fin 128) :
    (val_main_v71 (F := Ideal) x0 (ix4 0 p h c) : EReal) = ropeG x0 cosR sinR ⟨h.val, by omega⟩ p c := by
  have hp := p.isLt
  have hh := h.isLt
  have hc := c.isLt
  rw [val_main_v71_apply]
  refine Eq.trans (congrArg (val_main_v70 (F := Ideal) x0) (idx_ext₅ (y := ix5 0 p 0 h c) rfl ?_ rfl ?_ ?_)) (l70 x0 p h c)
  · show (((0 * 16384 + p.val) * 8 + h.val) * 128 + c.val) / 1024 % 16384 = p.val
    omega
  · show (((0 * 16384 + p.val) * 8 + h.val) * 128 + c.val) / 128 % 8 = h.val
    omega
  · show (((0 * 16384 + p.val) * 8 + h.val) * 128 + c.val) % 128 = c.val
    omega
theorem l76 (p : Fin 16384) (h : Fin 8) (c : Fin 128) :
    (val_main_v76 (F := Ideal) x0 (ix5 0 p 0 h c) : EReal) = ropeG x0 cosR sinR ⟨h.val, by omega⟩ p c := by
  have hp := p.isLt
  have hh := h.isLt
  have hc := c.isLt
  rw [val_main_v76_apply]
  refine Eq.trans (congrArg (val_main_v71 (F := Ideal) x0) (idx_ext₄ (y := ix4 0 p h c) rfl ?_ ?_ ?_)) (l71 x0 p h c)
  · show ((((0 * 16384 + p.val) * 1 + 0) * 8 + h.val) * 128 + c.val) / 1024 % 16384 = p.val
    omega
  · show ((((0 * 16384 + p.val) * 1 + 0) * 8 + h.val) * 128 + c.val) / 128 % 8 = h.val
    omega
  · show ((((0 * 16384 + p.val) * 1 + 0) * 8 + h.val) * 128 + c.val) % 128 = c.val
    omega
theorem l77 (p : Fin 16384) (h : Fin 8) (c : Fin 128) :
    (val_main_v77 (F := Ideal) x0 (ix5 0 0 h p c) : EReal) = ropeG x0 cosR sinR ⟨h.val, by omega⟩ p c := by
  rw [val_main_v77_apply]
  exact Eq.trans (congrArg (val_main_v76 (F := Ideal) x0) (idx_ext₅ (y := ix5 0 p 0 h c) rfl rfl rfl rfl rfl)) (l76 x0 p h c)
theorem l78 (h : Fin 8) (n a : Fin 128) (c : Fin 128) :
    (val_main_v78 (F := Ideal) x0 (ix6 0 0 h n a c) : EReal) = ropeG x0 cosR sinR ⟨h.val, by omega⟩ ⟨128 * n.val + a.val, by omega⟩ c := by
  refine Eq.trans (shapeCast_apply (val_main_v77 (F := Ideal) x0) shapeCasts_S1x1x8x16384x128_S1x1x8x128x128x128 (ix6 0 0 h n a c)
    (ix5 0 0 h ⟨128 * n.val + a.val, by omega⟩ c) ?_) (l77 x0 _ h c)
  rw [Shape.rowMajor_val_five, Shape.rowMajor_val_six]
  show (((0 * 1 + 0) * 8 + h.val) * 16384 + (128 * n.val + a.val)) * 128 + c.val
    = ((((0 * 1 + 0) * 8 + h.val) * 128 + n.val) * 128 + a.val) * 128 + c.val
  omega

/-- The first group's keys, by head and block. -/
theorem l68 (p : Fin 16384) (g : Fin 3) (h : Fin 8) (c : Fin 128) :
    (val_main_v68 (F := Ideal) x0 (ix5 0 p g h c) : EReal) = ropeG x0 cosR sinR ⟨24 + (8 * g.val + h.val), by omega⟩ p c := by
  have hp := p.isLt
  have hg := g.isLt
  have hh := h.isLt
  have hc := c.isLt
  rw [val_main_v68_apply]
  refine Eq.trans (congrArg (val_main_v67 (F := Ideal) x0) (idx_ext₄ (y := ix4 0 p ⟨8 * g.val + h.val, by omega⟩ c) rfl ?_ ?_ ?_)) (l67 x0 p _ c)
  · show ((((0 * 16384 + p.val) * 3 + g.val) * 8 + h.val) * 128 + c.val) / 3072 % 16384 = p.val
    omega
  · show ((((0 * 16384 + p.val) * 3 + g.val) * 8 + h.val) * 128 + c.val) / 128 % 24 = 8 * g.val + h.val
    omega
  · show ((((0 * 16384 + p.val) * 3 + g.val) * 8 + h.val) * 128 + c.val) % 128 = c.val
    omega
theorem l72 (p : Fin 16384) (h : Fin 8) (c : Fin 128) :
    (val_main_v72 (F := Ideal) x0 (ix5 0 p 0 h c) : EReal) = ropeG x0 cosR sinR ⟨24 + h.val, by omega⟩ p c := by
  rw [val_main_v72_apply]
  refine Eq.trans (congrArg (val_main_v68 (F := Ideal) x0) (idx_ext₅ (y := ix5 0 p 0 h c) rfl rfl rfl rfl rfl)) ((l68 x0 p 0 h c).trans ?_)
  refine congrArg (fun H => ropeG x0 cosR sinR H p c) (Fin.ext ?_)
  show 24 + (8 * 0 + h.val) = 24 + h.val
  omega
theorem l73 (p : Fin 16384) (h : Fin 8) (c : Fin 128) :
    (val_main_v73 (F := Ideal) x0 (ix4 0 p h c) : EReal) = ropeG x0 cosR sinR ⟨24 + h.val, by omega⟩ p c := by
  have hp := p.isLt
  have hh := h.isLt
  have hc := c.isLt
  rw [val_main_v73_apply]
  refine Eq.trans (congrArg (val_main_v72 (F := Ideal) x0) (idx_ext₅ (y := ix5 0 p 0 h c) rfl ?_ rfl ?_ ?_)) (l72 x0 p h c)
  · show (((0 * 16384 + p.val) * 8 + h.val) * 128 + c.val) / 1024 % 16384 = p.val
    omega
  · show (((0 * 16384 + p.val) * 8 + h.val) * 128 + c.val) / 128 % 8 = h.val
    omega
  · show (((0 * 16384 + p.val) * 8 + h.val) * 128 + c.val) % 128 = c.val
    omega
theorem l79 (p : Fin 16384) (h : Fin 8) (c : Fin 128) :
    (val_main_v79 (F := Ideal) x0 (ix5 0 p 0 h c) : EReal) = ropeG x0 cosR sinR ⟨24 + h.val, by omega⟩ p c := by
  have hp := p.isLt
  have hh := h.isLt
  have hc := c.isLt
  rw [val_main_v79_apply]
  refine Eq.trans (congrArg (val_main_v73 (F := Ideal) x0) (idx_ext₄ (y := ix4 0 p h c) rfl ?_ ?_ ?_)) (l73 x0 p h c)
  · show ((((0 * 16384 + p.val) * 1 + 0) * 8 + h.val) * 128 + c.val) / 1024 % 16384 = p.val
    omega
  · show ((((0 * 16384 + p.val) * 1 + 0) * 8 + h.val) * 128 + c.val) / 128 % 8 = h.val
    omega
  · show ((((0 * 16384 + p.val) * 1 + 0) * 8 + h.val) * 128 + c.val) % 128 = c.val
    omega
theorem l80 (p : Fin 16384) (h : Fin 8) (c : Fin 128) :
    (val_main_v80 (F := Ideal) x0 (ix5 0 0 h p c) : EReal) = ropeG x0 cosR sinR ⟨24 + h.val, by omega⟩ p c := by
  rw [val_main_v80_apply]
  exact Eq.trans (congrArg (val_main_v79 (F := Ideal) x0) (idx_ext₅ (y := ix5 0 p 0 h c) rfl rfl rfl rfl rfl)) (l79 x0 p h c)
theorem l81 (h : Fin 8) (n a : Fin 128) (c : Fin 128) :
    (val_main_v81 (F := Ideal) x0 (ix6 0 0 h n a c) : EReal) = ropeG x0 cosR sinR ⟨24 + h.val, by omega⟩ ⟨128 * n.val + a.val, by omega⟩ c := by
  refine Eq.trans (shapeCast_apply (val_main_v80 (F := Ideal) x0) shapeCasts_S1x1x8x16384x128_S1x1x8x128x128x128 (ix6 0 0 h n a c)
    (ix5 0 0 h ⟨128 * n.val + a.val, by omega⟩ c) ?_) (l80 x0 _ h c)
  rw [Shape.rowMajor_val_five, Shape.rowMajor_val_six]
  show (((0 * 1 + 0) * 8 + h.val) * 16384 + (128 * n.val + a.val)) * 128 + c.val
    = ((((0 * 1 + 0) * 8 + h.val) * 128 + n.val) * 128 + a.val) * 128 + c.val
  omega
theorem l74 (p : Fin 16384) (h : Fin 8) (c : Fin 128) :
    (val_main_v74 (F := Ideal) x0 (ix5 0 p 0 h c) : EReal) = valG x0 ⟨48 + h.val, by omega⟩ p c := by
  rw [val_main_v74_apply]
  refine Eq.trans (congrArg (val_main_v69 (F := Ideal) x0) (idx_ext₅ (y := ix5 0 p 0 h c) rfl rfl rfl rfl rfl)) ((l69 x0 p 0 h c).trans ?_)
  refine congrArg (fun H => valG x0 H p c) (Fin.ext ?_)
  show 48 + (8 * 0 + h.val) = 48 + h.val
  omega
theorem l75 (p : Fin 16384) (h : Fin 8) (c : Fin 128) :
    (val_main_v75 (F := Ideal) x0 (ix4 0 p h c) : EReal) = valG x0 ⟨48 + h.val, by omega⟩ p c := by
  have hp := p.isLt
  have hh := h.isLt
  have hc := c.isLt
  rw [val_main_v75_apply]
  refine Eq.trans (congrArg (val_main_v74 (F := Ideal) x0) (idx_ext₅ (y := ix5 0 p 0 h c) rfl ?_ rfl ?_ ?_)) (l74 x0 p h c)
  · show (((0 * 16384 + p.val) * 8 + h.val) * 128 + c.val) / 1024 % 16384 = p.val
    omega
  · show (((0 * 16384 + p.val) * 8 + h.val) * 128 + c.val) / 128 % 8 = h.val
    omega
  · show (((0 * 16384 + p.val) * 8 + h.val) * 128 + c.val) % 128 = c.val
    omega
theorem l85 (p : Fin 16384) (h : Fin 8) (c : Fin 128) :
    (val_main_v85 (F := Ideal) x0 (ix5 0 p 0 h c) : EReal) = valG x0 ⟨48 + h.val, by omega⟩ p c := by
  have hp := p.isLt
  have hh := h.isLt
  have hc := c.isLt
  rw [val_main_v85_apply]
  refine Eq.trans (congrArg (val_main_v75 (F := Ideal) x0) (idx_ext₄ (y := ix4 0 p h c) rfl ?_ ?_ ?_)) (l75 x0 p h c)
  · show ((((0 * 16384 + p.val) * 1 + 0) * 8 + h.val) * 128 + c.val) / 1024 % 16384 = p.val
    omega
  · show ((((0 * 16384 + p.val) * 1 + 0) * 8 + h.val) * 128 + c.val) / 128 % 8 = h.val
    omega
  · show ((((0 * 16384 + p.val) * 1 + 0) * 8 + h.val) * 128 + c.val) % 128 = c.val
    omega
theorem l86 (p : Fin 16384) (h : Fin 8) (c : Fin 128) :
    (val_main_v86 (F := Ideal) x0 (ix5 0 0 h p c) : EReal) = valG x0 ⟨48 + h.val, by omega⟩ p c := by
  rw [val_main_v86_apply]
  exact Eq.trans (congrArg (val_main_v85 (F := Ideal) x0) (idx_ext₅ (y := ix5 0 p 0 h c) rfl rfl rfl rfl rfl)) (l85 x0 p h c)
theorem l87 (h : Fin 8) (n a : Fin 128) (c : Fin 128) :
    (val_main_v87 (F := Ideal) x0 (ix6 0 0 h n a c) : EReal) = valG x0 ⟨48 + h.val, by omega⟩ ⟨128 * n.val + a.val, by omega⟩ c := by
  refine Eq.trans (shapeCast_apply (val_main_v86 (F := Ideal) x0) shapeCasts_S1x1x8x16384x128_S1x1x8x128x128x128 (ix6 0 0 h n a c)
    (ix5 0 0 h ⟨128 * n.val + a.val, by omega⟩ c) ?_) (l86 x0 _ h c)
  rw [Shape.rowMajor_val_five, Shape.rowMajor_val_six]
  show (((0 * 1 + 0) * 8 + h.val) * 16384 + (128 * n.val + a.val)) * 128 + c.val
    = ((((0 * 1 + 0) * 8 + h.val) * 128 + n.val) * 128 + a.val) * 128 + c.val
  omega

end Cert.Proof.G0R

end
-- ==== Proof.G0Ref.lean ====
/- The reference of the first group's attention: the keys a block sees, the mask, the scores, and the two results. -/
module

public import proofs.«01_k».proof.Proof.G0RefA

@[expose] public section

noncomputable section

namespace Cert.Proof.G0R

open Idealize.ShloMosaic Idealize.ShloMosaic.TcCoe Idealize.ShloMosaic.ValueIdx
open Cert.ReferenceG0Ideal Cert.ReferenceG0Ideal.Gen Cert.ReferenceG0Ideal.Read
open Cert.Proof.Att

variable (x0 : S16384x17408.Idx → EReal)

/-- The keys that a block of queries sees. -/
theorem l82_first (h : Fin 8) (b : Fin 128) (c : Fin 128) :
    (val_main_v82 (F := Ideal) x0 (ix6 0 0 h (0 : Fin 129) b c) : EReal) = 0 := by
  refine (pad_apply_of_not_inside ![0, 0, 0, 1, 0, 0] ![0, 0, 0, 0, 0, 0] ![0, 0, 0, 0, 0, 0] (val_main_v81 (F := Ideal) x0)
    (val_main_call0_v0 (F := Ideal)) pads_S1x1x8x128x128x128_S1x1x8x129x128x128_000_000_000_100_000_000 h_S_
    (ix6 0 0 h (0 : Fin 129) b c) (3 : Fin 6) fun hh => ?_).trans (sitofp_zero (φ := .f32))
  exact absurd (show 1 ≤ 0 from hh.1) (by omega)
theorem l82_next (h : Fin 8) (n : Fin 128) (b : Fin 128) (c : Fin 128) :
    (val_main_v82 (F := Ideal) x0 (ix6 0 0 h (⟨n.val + 1, by omega⟩ : Fin 129) b c) : EReal) = val_main_v81 (F := Ideal) x0 (ix6 0 0 h n b c) := by
  refine pad_apply_of_inside ![0, 0, 0, 1, 0, 0] ![0, 0, 0, 0, 0, 0] ![0, 0, 0, 0, 0, 0] (val_main_v81 (F := Ideal) x0)
    (val_main_call0_v0 (F := Ideal)) pads_S1x1x8x128x128x128_S1x1x8x129x128x128_000_000_000_100_000_000 h_S_
    (ix6 0 0 h (⟨n.val + 1, by omega⟩ : Fin 129) b c) (ix6 0 0 h n b c) fun a => ?_
  match a with
  | ⟨0, _⟩ => rfl
  | ⟨1, _⟩ => rfl
  | ⟨2, _⟩ => show h.val = 0 + h.val * (0 + 1); omega
  | ⟨3, _⟩ => show n.val + 1 = 1 + n.val * (0 + 1); omega
  | ⟨4, _⟩ => show b.val = 0 + b.val * (0 + 1); omega
  | ⟨5, _⟩ => show c.val = 0 + c.val * (0 + 1); omega
theorem l84 (h : Fin 8) (n : Fin 128) (b : Fin 256) (c : Fin 128) :
    (val_main_v84 (F := Ideal) x0 (ix6 0 0 h n b c) : EReal) = key 1 0 n.val (fun q => ropeG x0 cosR sinR ⟨24 + h.val, by omega⟩ q c) b := by
  have hn := n.isLt
  have hb := b.isLt
  by_cases hlt : b.val < 128
  · refine (concatenate_pair_apply_left (t := S1x1x8x128x256x128) (s₁ := S1x1x8x128x128x128) (s₂ := S1x1x8x128x128x128) 4
      (val_main_v83 (F := Ideal) x0) (val_main_v81 (F := Ideal) x0)
      concatenates_S1x1x8x128x128x128_S1x1x8x128x128x128_S1x1x8x128x256x128_d4 (ix6 0 0 h n b c) rfl
      (ix6 0 0 h n ⟨b.val, hlt⟩ c) fun a => ?_).trans ?_
    · match a with
      | ⟨0, _⟩ => rfl
      | ⟨1, _⟩ => rfl
      | ⟨2, _⟩ => rfl
      | ⟨3, _⟩ => rfl
      | ⟨4, _⟩ => rfl
      | ⟨5, _⟩ => rfl
    · rw [val_main_v83_apply]
      unfold key
      by_cases h0 : n.val = 0
      · rw [dif_neg (by omega)]
        refine Eq.trans (congrArg (val_main_v82 (F := Ideal) x0) (idx_ext₆ (y := ix6 0 0 h (0 : Fin 129) ⟨b.val, hlt⟩ c) rfl rfl rfl ?_ rfl rfl)) (l82_first x0 h ⟨b.val, hlt⟩ c)
        exact h0
      · rw [dif_pos (by omega)]
        refine Eq.trans (congrArg (val_main_v82 (F := Ideal) x0) (idx_ext₆ (y := ix6 0 0 h (⟨(⟨n.val - 1, by omega⟩ : Fin 128).val + 1, by omega⟩ : Fin 129) ⟨b.val, hlt⟩ c)
          rfl rfl rfl ?_ rfl rfl)) ((l82_next x0 h ⟨n.val - 1, by omega⟩ ⟨b.val, hlt⟩ c).trans ((l81 x0 h _ _ c).trans ?_))
        · show n.val = n.val - 1 + 1
          omega
        · refine congrArg (fun q => ropeG x0 cosR sinR ⟨24 + h.val, by omega⟩ q c) (Fin.ext ?_)
          show 128 * (n.val - 1) + b.val = 1 * (128 * n.val + b.val - 128) + 0
          omega
  · refine (concatenate_pair_apply_right (t := S1x1x8x128x256x128) (s₁ := S1x1x8x128x128x128) (s₂ := S1x1x8x128x128x128) 4
      (val_main_v83 (F := Ideal) x0) (val_main_v81 (F := Ideal) x0)
      concatenates_S1x1x8x128x128x128_S1x1x8x128x128x128_S1x1x8x128x256x128_d4 (ix6 0 0 h n b c) rfl rfl
      (ix6 0 0 h n ⟨b.val - 128, by omega⟩ c) (fun a ha => ?_) ?_).trans ((l81 x0 h n _ c).trans ?_)
    · match a with
      | ⟨0, _⟩ => rfl
      | ⟨1, _⟩ => rfl
      | ⟨2, _⟩ => rfl
      | ⟨3, _⟩ => rfl
      | ⟨4, _⟩ => exact absurd rfl ha
      | ⟨5, _⟩ => rfl
    · show b.val - 128 + 128 = b.val
      omega
    · unfold key
      rw [dif_pos (by omega)]
      refine congrArg (fun q => ropeG x0 cosR sinR ⟨24 + h.val, by omega⟩ q c) (Fin.ext ?_)
      show 128 * n.val + (b.val - 128) = 1 * (128 * n.val + b.val - 128) + 0
      omega

/-- The values that a block of queries sees. -/
theorem l88_first (h : Fin 8) (b : Fin 128) (c : Fin 128) :
    (val_main_v88 (F := Ideal) x0 (ix6 0 0 h (0 : Fin 129) b c) : EReal) = 0 := by
  refine (pad_apply_of_not_inside ![0, 0, 0, 1, 0, 0] ![0, 0, 0, 0, 0, 0] ![0, 0, 0, 0, 0, 0] (val_main_v87 (F := Ideal) x0)
    (val_main_call1_v0 (F := Ideal)) pads_S1x1x8x128x128x128_S1x1x8x129x128x128_000_000_000_100_000_000 h_S_
    (ix6 0 0 h (0 : Fin 129) b c) (3 : Fin 6) fun hh => ?_).trans (sitofp_zero (φ := .f32))
  exact absurd (show 1 ≤ 0 from hh.1) (by omega)
theorem l88_next (h : Fin 8) (n : Fin 128) (b : Fin 128) (c : Fin 128) :
    (val_main_v88 (F := Ideal) x0 (ix6 0 0 h (⟨n.val + 1, by omega⟩ : Fin 129) b c) : EReal) = val_main_v87 (F := Ideal) x0 (ix6 0 0 h n b c) := by
  refine pad_apply_of_inside ![0, 0, 0, 1, 0, 0] ![0, 0, 0, 0, 0, 0] ![0, 0, 0, 0, 0, 0] (val_main_v87 (F := Ideal) x0)
    (val_main_call1_v0 (F := Ideal)) pads_S1x1x8x128x128x128_S1x1x8x129x128x128_000_000_000_100_000_000 h_S_
    (ix6 0 0 h (⟨n.val + 1, by omega⟩ : Fin 129) b c) (ix6 0 0 h n b c) fun a => ?_
  match a with
  | ⟨0, _⟩ => rfl
  | ⟨1, _⟩ => rfl
  | ⟨2, _⟩ => show h.val = 0 + h.val * (0 + 1); omega
  | ⟨3, _⟩ => show n.val + 1 = 1 + n.val * (0 + 1); omega
  | ⟨4, _⟩ => show b.val = 0 + b.val * (0 + 1); omega
  | ⟨5, _⟩ => show c.val = 0 + c.val * (0 + 1); omega
theorem l90 (h : Fin 8) (n : Fin 128) (b : Fin 256) (c : Fin 128) :
    (val_main_v90 (F := Ideal) x0 (ix6 0 0 h n b c) : EReal) = key 1 0 n.val (fun q => valG x0 ⟨48 + h.val, by omega⟩ q c) b := by
  have hn := n.isLt
  have hb := b.isLt
  by_cases hlt : b.val < 128
  · refine (concatenate_pair_apply_left (t := S1x1x8x128x256x128) (s₁ := S1x1x8x128x128x128) (s₂ := S1x1x8x128x128x128) 4
      (val_main_v89 (F := Ideal) x0) (val_main_v87 (F := Ideal) x0)
      concatenates_S1x1x8x128x128x128_S1x1x8x128x128x128_S1x1x8x128x256x128_d4 (ix6 0 0 h n b c) rfl
      (ix6 0 0 h n ⟨b.val, hlt⟩ c) fun a => ?_).trans ?_
    · match a with
      | ⟨0, _⟩ => rfl
      | ⟨1, _⟩ => rfl
      | ⟨2, _⟩ => rfl
      | ⟨3, _⟩ => rfl
      | ⟨4, _⟩ => rfl
      | ⟨5, _⟩ => rfl
    · rw [val_main_v89_apply]
      unfold key
      by_cases h0 : n.val = 0
      · rw [dif_neg (by omega)]
        refine Eq.trans (congrArg (val_main_v88 (F := Ideal) x0) (idx_ext₆ (y := ix6 0 0 h (0 : Fin 129) ⟨b.val, hlt⟩ c) rfl rfl rfl ?_ rfl rfl)) (l88_first x0 h ⟨b.val, hlt⟩ c)
        exact h0
      · rw [dif_pos (by omega)]
        refine Eq.trans (congrArg (val_main_v88 (F := Ideal) x0) (idx_ext₆ (y := ix6 0 0 h (⟨(⟨n.val - 1, by omega⟩ : Fin 128).val + 1, by omega⟩ : Fin 129) ⟨b.val, hlt⟩ c)
          rfl rfl rfl ?_ rfl rfl)) ((l88_next x0 h ⟨n.val - 1, by omega⟩ ⟨b.val, hlt⟩ c).trans ((l87 x0 h _ _ c).trans ?_))
        · show n.val = n.val - 1 + 1
          omega
        · refine congrArg (fun q => valG x0 ⟨48 + h.val, by omega⟩ q c) (Fin.ext ?_)
          show 128 * (n.val - 1) + b.val = 1 * (128 * n.val + b.val - 128) + 0
          omega
  · refine (concatenate_pair_apply_right (t := S1x1x8x128x256x128) (s₁ := S1x1x8x128x128x128) (s₂ := S1x1x8x128x128x128) 4
      (val_main_v89 (F := Ideal) x0) (val_main_v87 (F := Ideal) x0)
      concatenates_S1x1x8x128x128x128_S1x1x8x128x128x128_S1x1x8x128x256x128_d4 (ix6 0 0 h n b c) rfl rfl
      (ix6 0 0 h n ⟨b.val - 128, by omega⟩ c) (fun a ha => ?_) ?_).trans ((l87 x0 h n _ c).trans ?_)
    · match a with
      | ⟨0, _⟩ => rfl
      | ⟨1, _⟩ => rfl
      | ⟨2, _⟩ => rfl
      | ⟨3, _⟩ => rfl
      | ⟨4, _⟩ => exact absurd rfl ha
      | ⟨5, _⟩ => rfl
    · show b.val - 128 + 128 = b.val
      omega
    · unfold key
      rw [dif_pos (by omega)]
      refine congrArg (fun q => valG x0 ⟨48 + h.val, by omega⟩ q c) (Fin.ext ?_)
      show 128 * n.val + (b.val - 128) = 1 * (128 * n.val + b.val - 128) + 0
      omega

/-- The mask. -/
theorem l123 (n a : Fin 128) (b : Fin 256) : val_main_v123 (F := Ideal) (ix3 n a b) = 1#1 ↔ seen n.val a.val b.val := by
  have e1 : val_main_v121 (F := Ideal) (ix3 n a b)
      = IntOp.andi (IntOp.cmpi .sge (IntOp.subi (IntOp.addi (BitVec.ofNat 32 a.val) 128#32) (BitVec.ofNat 32 b.val)) 0#32)
        (IntOp.cmpi .sle (IntOp.subi (IntOp.addi (BitVec.ofNat 32 a.val) 128#32) (BitVec.ofNat 32 b.val)) 128#32) := by
    rw [val_main_v121_apply, val_main_v120_apply, val_main_v109_apply, val_main_v106_apply, val_main_v108_apply, val_main_v102_apply,
      val_main_v100_apply, val_main_v101_apply, val_main_v97_apply, val_main_v95_apply, val_main_v99_apply, val_main_v94_apply,
      val_main_v98_apply, val_main_v96_apply, val_main_v105_apply, val_main_v107_apply, val_main_c_5_apply, val_main_c_6_apply, val_main_c_7_apply]
  have e2 : val_main_v122 (F := Ideal) (ix3 n a b)
      = IntOp.cmpi .sge (IntOp.subi (IntOp.addi (IntOp.muli (BitVec.ofNat 32 n.val) 128#32) (BitVec.ofNat 32 b.val)) 128#32) 0#32 := by
    rw [val_main_v122_apply, val_main_v119_apply, val_main_v117_apply, val_main_v115_apply, val_main_v113_apply, val_main_v111_apply,
      val_main_v104_apply, val_main_v103_apply, val_main_v114_apply, val_main_v112_apply, val_main_v99_apply, val_main_v98_apply,
      val_main_v110_apply, val_main_v116_apply, val_main_v118_apply, val_main_c_8_apply, val_main_c_9_apply, val_main_c_10_apply]
  rw [val_main_v123_apply, IntOp.andi_eq_one, e1, e2, band_iff _ _ a.isLt b.isLt, past_iff _ _ n.isLt b.isLt]
  exact and_assoc

/-- A column of the results. -/
theorem idx_lt1 (i : S16384x1024.Idx) : (i 1).val < 1024 := (i 1).isLt

/-- A position and its block and row. -/
def pos (n a : Fin 128) : Fin 16384 := ⟨128 * n.val + a.val, by omega⟩
theorem pos_blk (n a : Fin 128) : (pos n a).val / 1 / 128 = n.val := by
  have := n.isLt
  show (128 * n.val + a.val) / 1 / 128 = n.val
  omega
theorem pos_row (n a : Fin 128) : (pos n a).val / 1 % 128 = a.val := by
  show (128 * n.val + a.val) / 1 % 128 = a.val
  omega
theorem pos_res (n a : Fin 128) : (pos n a).val % 1 = 0 := Nat.mod_one _

/-- The scores. -/
def sc (h : Fin 8) (p : Fin 16384) : Fin 256 → EReal := scG x0 cosR sinR 1 ⟨h.val, by omega⟩ ⟨24 + h.val, by omega⟩ p
theorem sc_eq (h : Fin 8) (n a : Fin 128) (b : Fin 256) :
    sc x0 h (pos n a) b = if seen n.val a.val b.val then
      (∑ c : Fin 128, ropeG x0 cosR sinR ⟨h.val, by omega⟩ (pos n a) c
        * key 1 0 n.val (fun q => ropeG x0 cosR sinR ⟨24 + h.val, by omega⟩ q c) b) * scl else ⊥ := by
  unfold sc scG
  rw [pos_blk, pos_row, pos_res]

theorem l91 (h : Fin 8) (n a : Fin 128) (b : Fin 256) :
    (val_main_v91 (F := Ideal) x0 (ix6 0 0 h n a b) : EReal) = ∑ c : Fin 128, ropeG x0 cosR sinR ⟨h.val, by omega⟩ (pos n a) c
        * key 1 0 n.val (fun q => ropeG x0 cosR sinR ⟨24 + h.val, by omega⟩ q c) b := by
  refine (val_main_v91_apply x0 (ix6 0 0 h n a b)).trans (Finset.sum_congr rfl fun c _ => congrArg₂ (· * ·) ?_ ?_)
  · exact Eq.trans (congrArg (val_main_v78 (F := Ideal) x0) (idx_ext₆ (y := ix6 0 0 h n a c) rfl rfl rfl rfl rfl rfl)) (l78 x0 h n a c)
  · exact Eq.trans (congrArg (val_main_v84 (F := Ideal) x0) (idx_ext₆ (y := ix6 0 0 h n b c) rfl rfl rfl rfl rfl rfl)) (l84 x0 h n b c)
theorem l93 (h : Fin 8) (n a : Fin 128) (b : Fin 256) :
    (val_main_v93 (F := Ideal) x0 (ix6 0 0 h n a b) : EReal) = (∑ c : Fin 128, ropeG x0 cosR sinR ⟨h.val, by omega⟩ (pos n a) c
        * key 1 0 n.val (fun q => ropeG x0 cosR sinR ⟨24 + h.val, by omega⟩ q c) b) * scl := by
  rw [val_main_v93_apply, val_main_v92_apply, val_main_cst_4_apply, Ideal.mulf_def]
  exact congrArg (· * scl) (l91 x0 h n a b)
theorem l124 (h : Fin 8) (n a : Fin 128) (b : Fin 256) :
    (val_main_v124 (F := Ideal) x0 (ix6 0 0 h n a b) : EReal) = sc x0 h (pos n a) b := by
  have e : val_main_call2_v1 (F := Ideal) (ix6 0 0 h n a b) = val_main_v123 (F := Ideal) (ix3 n a b) := by
    rw [val_main_call2_v1_apply]
    exact congrArg (val_main_v123 (F := Ideal)) (idx_ext₃ rfl rfl rfl)
  have ez : (val_main_call2_v2 (F := Ideal) (ix6 0 0 h n a b) : EReal) = ⊥ := by
    rw [val_main_call2_v2_apply]
    exact ofBits_ninf
  rw [val_main_v124_apply, sc_eq, e]
  by_cases hm : seen n.val a.val b.val
  · rw [if_pos hm, (l123 n a b).2 hm, ← l93]
    rfl
  · rw [if_neg hm, ← ez]
    exact if_neg fun hh => hm ((l123 n a b).1 hh)

/-- The softmax. -/
theorem hR : S1x1x8x128x128x256.Reduces [5] S1x1x8x128x128 := by decide
theorem l125 (h : Fin 8) (n a : Fin 128) : (val_main_v125 (F := Ideal) x0 (ix5 0 0 h n a) : EReal) = mx (sc x0 h (pos n a)) := by
  have e1 := congrFun (hostReduce_maximumf_eq_multiReduction (F := Ideal) (φ := .f32) (val_main_v124 (F := Ideal) x0) 0xFF800000#32
    reducesTo_S1x1x8x128x128x256_S1x1x8x128x128_d5 h_S_ hR (.inl rfl) rfl) (ix5 0 0 h n a)
  have e2 := Ideal.multiReduction_maximumf_single (φ := .f32) (val_main_v124 (F := Ideal) x0) 0xFF800000#32 hR (.inl rfl) rfl (ix5 0 0 h n a)
  have e3 : (val_main_v124 (F := Ideal) x0 ∘ hR.lift (ix5 0 0 h n a) : Fin 256 → EReal) = sc x0 h (pos n a) := funext fun b =>
    Eq.trans (congrArg (val_main_v124 (F := Ideal) x0) (idx_ext₆ (y := ix6 0 0 h n a b) rfl rfl rfl rfl rfl rfl)) (l124 x0 h n a b)
  refine Eq.trans ?_ ((e1.trans e2).trans ?_)
  · rfl
  · exact congrArg (fun f => (Finset.univ : Finset (Fin 256)).fold max (Ideal.ofBits .f32 0xFF800000#32) f) e3
theorem l126 (h : Fin 8) (n a : Fin 128) : (val_main_v126 (F := Ideal) x0 (ix6 0 0 h n a 0) : EReal) = mx (sc x0 h (pos n a)) := by
  rw [val_main_v126_apply]
  exact Eq.trans (congrArg (val_main_v125 (F := Ideal) x0) (idx_ext₅ (y := ix5 0 0 h n a) rfl rfl rfl rfl rfl)) (l125 x0 h n a)
theorem l127 (h : Fin 8) (n a : Fin 128) (b : Fin 256) : (val_main_v127 (F := Ideal) x0 (ix6 0 0 h n a b) : EReal) = mx (sc x0 h (pos n a)) := by
  rw [val_main_v127_apply]
  exact Eq.trans (congrArg (val_main_v126 (F := Ideal) x0) (idx_ext₆ (y := ix6 0 0 h n a 0) rfl rfl rfl rfl rfl rfl)) (l126 x0 h n a)
theorem l129 (h : Fin 8) (n a : Fin 128) (b : Fin 256) : (val_main_v129 (F := Ideal) x0 (ix6 0 0 h n a b) : EReal) = wt (sc x0 h (pos n a)) b := by
  unfold wt
  rw [val_main_v129_apply, val_main_v128_apply, Ideal.hostUnary_exp_def, Ideal.subf_def]
  exact congrArg₂ (fun x y : EReal => Ideal.exp (x - y)) (l124 x0 h n a b) (l127 x0 h n a b)
theorem l130 (h : Fin 8) (n a : Fin 128) : (val_main_v130 (F := Ideal) x0 (ix5 0 0 h n a) : EReal) = dn (sc x0 h (pos n a)) := by
  have ez : (val_main_cst_13 (F := Ideal) (Shape.Idx.first h_S_) : EReal) = 0 := ofBits_zero
  refine (val_main_v130_apply x0 (ix5 0 0 h n a)).trans ?_
  rw [ez, zero_add]
  refine Finset.sum_congr rfl fun b _ => ?_
  exact Eq.trans (congrArg (val_main_v129 (F := Ideal) x0) (idx_ext₆ (y := ix6 0 0 h n a b) rfl rfl rfl rfl rfl rfl)) (l129 x0 h n a b)
theorem l131 (h : Fin 8) (n a : Fin 128) : (val_main_v131 (F := Ideal) x0 (ix6 0 0 h n a 0) : EReal) = dn (sc x0 h (pos n a)) := by
  rw [val_main_v131_apply]
  exact Eq.trans (congrArg (val_main_v130 (F := Ideal) x0) (idx_ext₅ (y := ix5 0 0 h n a) rfl rfl rfl rfl rfl)) (l130 x0 h n a)
theorem l133 (h : Fin 8) (n a c : Fin 128) : (val_main_v133 (F := Ideal) x0 (ix6 0 0 h n a c) : EReal) = dn (sc x0 h (pos n a)) := by
  rw [val_main_v133_apply]
  exact Eq.trans (congrArg (val_main_v131 (F := Ideal) x0) (idx_ext₆ (y := ix6 0 0 h n a 0) rfl rfl rfl rfl rfl rfl)) (l131 x0 h n a)
theorem l132 (h : Fin 8) (n a c : Fin 128) : (val_main_v132 (F := Ideal) x0 (ix6 0 0 h n a c) : EReal)
    = ∑ b, wt (sc x0 h (pos n a)) b * key 1 0 n.val (fun q => valG x0 ⟨48 + h.val, by omega⟩ q c) b := by
  refine (val_main_v132_apply x0 (ix6 0 0 h n a c)).trans (Finset.sum_congr rfl fun b _ => congrArg₂ (· * ·) ?_ ?_)
  · exact Eq.trans (congrArg (val_main_v129 (F := Ideal) x0) (idx_ext₆ (y := ix6 0 0 h n a b) rfl rfl rfl rfl rfl rfl)) (l129 x0 h n a b)
  · exact Eq.trans (congrArg (val_main_v90 (F := Ideal) x0) (idx_ext₆ (y := ix6 0 0 h n b c) rfl rfl rfl rfl rfl rfl)) (l90 x0 h n b c)
theorem l134 (h : Fin 8) (n a c : Fin 128) : (val_main_v134 (F := Ideal) x0 (ix6 0 0 h n a c) : EReal)
    = outG x0 cosR sinR 1 ⟨h.val, by omega⟩ ⟨24 + h.val, by omega⟩ ⟨48 + h.val, by omega⟩ (pos n a) c := by
  unfold outG mean
  rw [pos_blk, pos_res]
  show _ = Ideal.div (∑ b, wt (sc x0 h (pos n a)) b * key 1 0 n.val (fun q => valG x0 ⟨48 + h.val, by omega⟩ q c) b) (dn (sc x0 h (pos n a)))
  rw [val_main_v134_apply, Ideal.hostDivf_def]
  exact congrArg₂ Ideal.div (l132 x0 h n a c) (l133 x0 h n a c)
theorem l136 (h : Fin 8) (n a : Fin 128) : (val_main_v136 (F := Ideal) x0 (ix6 0 0 h n a 0) : EReal)
    = lseG x0 cosR sinR 1 ⟨h.val, by omega⟩ ⟨24 + h.val, by omega⟩ (pos n a) := by
  show _ = mx (sc x0 h (pos n a)) + Ideal.log (dn (sc x0 h (pos n a)))
  rw [val_main_v136_apply, val_main_v135_apply, Ideal.addf_def, Ideal.hostUnary_log_def]
  exact congrArg₂ (fun x y : EReal => x + Ideal.log y) (l126 x0 h n a) (l131 x0 h n a)

/-- The results, put back in the order of the positions. -/
theorem l138 (h : Fin 8) (p : Fin 16384) (c : Fin 128) : (val_main_v138 (F := Ideal) x0 (ix5 0 0 h p c) : EReal)
    = outG x0 cosR sinR 1 ⟨h.val, by omega⟩ ⟨24 + h.val, by omega⟩ ⟨48 + h.val, by omega⟩ p c := by
  have hp := p.isLt
  have e : pos ⟨p.val / 128, by omega⟩ ⟨p.val % 128, by omega⟩ = p := Fin.ext (by
    show 128 * (p.val / 128) + p.val % 128 = p.val
    omega)
  refine Eq.trans (shapeCast_apply (val_main_v134 (F := Ideal) x0) shapeCasts_S1x1x8x128x128x128_S1x1x8x16384x128 (ix5 0 0 h p c)
    (ix6 0 0 h ⟨p.val / 128, by omega⟩ ⟨p.val % 128, by omega⟩ c) ?_) ((l134 x0 h _ _ c).trans (by rw [e]))
  rw [Shape.rowMajor_val_five, Shape.rowMajor_val_six]
  show ((((0 * 1 + 0) * 8 + h.val) * 128 + p.val / 128) * 128 + p.val % 128) * 128 + c.val
    = (((0 * 1 + 0) * 8 + h.val) * 16384 + p.val) * 128 + c.val
  omega
theorem l137 (h : Fin 8) (n a : Fin 128) : (val_main_v137 (F := Ideal) x0 (ix5 0 0 h n a) : EReal)
    = lseG x0 cosR sinR 1 ⟨h.val, by omega⟩ ⟨24 + h.val, by omega⟩ (pos n a) := by
  refine Eq.trans (shapeCast_apply (val_main_v136 (F := Ideal) x0) shapeCasts_S1x1x8x128x128x1_S1x1x8x128x128 (ix5 0 0 h n a)
    (ix6 0 0 h n a 0) ?_) (l136 x0 h n a)
  rw [Shape.rowMajor_val_five, Shape.rowMajor_val_six]
  show ((((0 * 1 + 0) * 8 + h.val) * 128 + n.val) * 128 + a.val) * 1 + 0 = (((0 * 1 + 0) * 8 + h.val) * 128 + n.val) * 128 + a.val
  omega
theorem l141 (h : Fin 8) (p : Fin 16384) : (val_main_v141 (F := Ideal) x0 (ix4 0 0 h p) : EReal)
    = lseG x0 cosR sinR 1 ⟨h.val, by omega⟩ ⟨24 + h.val, by omega⟩ p := by
  have hp := p.isLt
  have hh := h.isLt
  have e : pos ⟨p.val / 128, by omega⟩ ⟨p.val % 128, by omega⟩ = p := Fin.ext (by
    show 128 * (p.val / 128) + p.val % 128 = p.val
    omega)
  rw [val_main_v141_apply]
  refine Eq.trans (congrArg (val_main_v137 (F := Ideal) x0) (idx_ext₅ (y := ix5 0 0 h ⟨p.val / 128, by omega⟩ ⟨p.val % 128, by omega⟩)
    rfl rfl ?_ ?_ ?_)) ((l137 x0 h _ _).trans (by rw [e]))
  · show (((0 * 1 + 0) * 8 + h.val) * 16384 + p.val) / 16384 % 8 = h.val
    omega
  · show (((0 * 1 + 0) * 8 + h.val) * 16384 + p.val) / 128 % 128 = p.val / 128
    omega
  · show (((0 * 1 + 0) * 8 + h.val) * 16384 + p.val) % 128 = p.val % 128
    omega
theorem l139 (h : Fin 8) (p : Fin 16384) (c : Fin 128) : (val_main_v139 (F := Ideal) x0 (ix5 0 p 0 h c) : EReal)
    = outG x0 cosR sinR 1 ⟨h.val, by omega⟩ ⟨24 + h.val, by omega⟩ ⟨48 + h.val, by omega⟩ p c := by
  rw [val_main_v139_apply]
  exact Eq.trans (congrArg (val_main_v138 (F := Ideal) x0) (idx_ext₅ (y := ix5 0 0 h p c) rfl rfl rfl rfl rfl)) (l138 x0 h p c)
theorem l140 (h : Fin 8) (p : Fin 16384) (c : Fin 128) : (val_main_v140 (F := Ideal) x0 (ix4 0 p h c) : EReal)
    = outG x0 cosR sinR 1 ⟨h.val, by omega⟩ ⟨24 + h.val, by omega⟩ ⟨48 + h.val, by omega⟩ p c := by
  have hp := p.isLt
  have hh := h.isLt
  have hc := c.isLt
  rw [val_main_v140_apply]
  refine Eq.trans (congrArg (val_main_v139 (F := Ideal) x0) (idx_ext₅ (y := ix5 0 p 0 h c) rfl ?_ rfl ?_ ?_)) (l139 x0 h p c)
  · show (((0 * 16384 + p.val) * 8 + h.val) * 128 + c.val) / 1024 % 16384 = p.val
    omega
  · show (((0 * 16384 + p.val) * 8 + h.val) * 128 + c.val) / 128 % 8 = h.val
    omega
  · show (((0 * 16384 + p.val) * 8 + h.val) * 128 + c.val) % 128 = c.val
    omega
theorem l142 (h : Fin 8) (p : Fin 16384) : (val_main_v142 (F := Ideal) x0 (ix4 0 p 0 h) : EReal)
    = lseG x0 cosR sinR 1 ⟨h.val, by omega⟩ ⟨24 + h.val, by omega⟩ p := by
  rw [val_main_v142_apply]
  exact Eq.trans (congrArg (val_main_v141 (F := Ideal) x0) (idx_ext₄ (y := ix4 0 0 h p) rfl rfl rfl rfl)) (l141 x0 h p)
theorem l143 (h : Fin 8) (p : Fin 16384) : (val_main_v143 (F := Ideal) x0 (ix3 0 p h) : EReal)
    = lseG x0 cosR sinR 1 ⟨h.val, by omega⟩ ⟨24 + h.val, by omega⟩ p := by
  have hp := p.isLt
  have hh := h.isLt
  rw [val_main_v143_apply]
  refine Eq.trans (congrArg (val_main_v142 (F := Ideal) x0) (idx_ext₄ (y := ix4 0 p 0 h) rfl ?_ rfl ?_)) (l142 x0 h p)
  · show ((0 * 16384 + p.val) * 8 + h.val) / 8 % 16384 = p.val
    omega
  · show ((0 * 16384 + p.val) * 8 + h.val) % 8 = h.val
    omega
theorem l147 (h : Fin 8) (p : Fin 16384) (c : Fin 128) : (val_main_v147 (F := Ideal) x0 (ix3 p h c) : EReal)
    = lseG x0 cosR sinR 1 ⟨h.val, by omega⟩ ⟨24 + h.val, by omega⟩ p := by
  have hp := p.isLt
  have hh := h.isLt
  rw [val_main_v147_apply, val_main_v146_apply]
  refine Eq.trans (congrArg (val_main_v143 (F := Ideal) x0) (idx_ext₃ (j := ix3 0 p h) rfl ?_ ?_)) (l143 x0 h p)
  · show (p.val * 8 + h.val) / 8 % 16384 = p.val
    omega
  · show (p.val * 8 + h.val) % 8 = h.val
    omega

theorem v145_eq : (val_main_v145 (F := Ideal) x0 : S16384x1024.Idx → EReal) = fun i =>
    outG x0 cosR sinR 1 ⟨(i 1).val / 128, by have := idx_lt1 i; omega⟩ ⟨24 + (i 1).val / 128, by have := idx_lt1 i; omega⟩
      ⟨48 + (i 1).val / 128, by have := idx_lt1 i; omega⟩ (i 0) ⟨(i 1).val % 128, by omega⟩ := by
  funext i
  have h0 : (i 0).val < 16384 := (i 0).isLt
  have h1 : (i 1).val < 1024 := (i 1).isLt
  show (val_main_v144 (F := Ideal) x0 i : EReal) = _
  rw [val_main_v144_apply]
  refine Eq.trans (congrArg (val_main_v140 (F := Ideal) x0) (idx_ext₄ (y := ix4 0 (i 0) ⟨(i 1).val / 128, by omega⟩ ⟨(i 1).val % 128, by omega⟩)
    rfl ?_ ?_ ?_)) (l140 x0 _ _ _)
  · show ((i 0).val * 1024 + (i 1).val) / 1024 % 16384 = (i 0).val
    omega
  · show ((i 0).val * 1024 + (i 1).val) / 128 % 8 = (i 1).val / 128
    omega
  · show ((i 0).val * 1024 + (i 1).val) % 128 = (i 1).val % 128
    omega
theorem v148_eq : (val_main_v148 (F := Ideal) x0 : S16384x1024.Idx → EReal) = fun i =>
    lseG x0 cosR sinR 1 ⟨(i 1).val / 128, by have := idx_lt1 i; omega⟩ ⟨24 + (i 1).val / 128, by have := idx_lt1 i; omega⟩ (i 0) := by
  funext i
  have h0 : (i 0).val < 16384 := (i 0).isLt
  have h1 : (i 1).val < 1024 := (i 1).isLt
  rw [val_main_v148_apply]
  refine Eq.trans (congrArg (val_main_v147 (F := Ideal) x0) (idx_ext₃ (j := ix3 (i 0) ⟨(i 1).val / 128, by omega⟩ ⟨(i 1).val % 128, by omega⟩)
    ?_ ?_ ?_)) (l147 x0 _ _ _)
  · show ((i 0).val * 1024 + (i 1).val) / 1024 = (i 0).val
    omega
  · show ((i 0).val * 1024 + (i 1).val) / 128 % 8 = (i 1).val / 128
    omega
  · show ((i 0).val * 1024 + (i 1).val) % 128 = (i 1).val % 128
    omega

end Cert.Proof.G0R

end
-- ==== Proof.G0.lean ====
/- The first group's attention: the tables the call prepares are the reference's, so the arrays it leaves are the reference's
   results. -/
module

public import proofs.«01_k».proof.Defs
public import proofs.«01_k».proof.Proof.G0Blocks
public import proofs.«01_k».proof.Proof.G0Ref
public import Idealize.ShloMosaic.Lib.StableHlo.Run

@[expose] public section

noncomputable section

namespace Cert.Proof.G0

open Idealize.ShloMosaic Idealize.ShloMosaic.TcCoe Idealize.ShloMosaic.ValueIdx Idealize.SL.Sem
open Cert.KernelG0Ideal Cert.KernelG0Ideal.Gen Cert.KernelG0Ideal.Value
open Cert.Proof.Att

variable (m : (ℓ : Loc nD τ sig) → Buf (Elt Ideal) ℓ)

/-- Both programs prepare the same angles. -/
theorem cosArr_eq (c : Dev nD) : cosArr m c = G0R.cosR := by
  unfold cosArr V hostOps0
  after_results <;> rfl
theorem sinArr_eq (c : Dev nD) : sinArr m c = G0R.sinR := by
  unfold sinArr V hostOps0
  after_results <;> rfl

/-- The reference's results. -/
theorem O_eq (c : Dev nD) : O m c = Cert.ReferenceG0Ideal.Read.val_main_v145 (F := Ideal) (m ((c : Thread nD τ).loc main_arg0)) := by
  unfold O
  rw [cosArr_eq, sinArr_eq]
  refine Eq.trans ?_ (G0R.v145_eq (m ((c : Thread nD τ).loc main_arg0))).symm
  exact congrArg (fun X => oAt X G0R.cosR G0R.sinR) (V_main_arg0 m c)
theorem L_eq (c : Dev nD) : L m c = Cert.ReferenceG0Ideal.Read.val_main_v148 (F := Ideal) (m ((c : Thread nD τ).loc main_arg0)) := by
  unfold L
  rw [cosArr_eq, sinArr_eq]
  refine Eq.trans ?_ (G0R.v148_eq (m ((c : Thread nD τ).loc main_arg0))).symm
  exact congrArg (fun X => lAt X G0R.cosR G0R.sinR) (V_main_arg0 m c)

/-- The value claim: kernel and reference leave the same two arrays, and keep their argument. -/
theorem algebraic : Cert.algebraic_KernelG0Ideal_ReferenceG0Ideal
    (hKernelG0Ideal := Cert.KernelG0Ideal.Gen.facts) (hReferenceG0Ideal := Cert.ReferenceG0Ideal.Gen.facts) := by
  intro m g m' g' _ hm
  refine ⟨fun c => O m c, fun c => L m c, ?_, ?_⟩
  · refine (θ_run Cert.KernelG0Ideal.defs _ _).mono (fun r h c => ?_) (Value.run_blocks m g)
    exact ⟨(h c).1.trans (final5_eq m c), (h c).2.1.trans (final6_eq m c), (h c).2.2⟩
  · refine (θ_run Cert.ReferenceG0Ideal.defs _ _).mono (fun r h c => ?_) (Cert.ReferenceG0Ideal.Value.run m' g')
    refine ⟨((h c).1.trans (Cert.ReferenceG0Ideal.Read.val_main_v145_eq m' c)).trans ?_,
      ((h c).2.1.trans (Cert.ReferenceG0Ideal.Read.val_main_v148_eq m' c)).trans ?_, (h c).2.2⟩
    · rw [hm c]
      exact (O_eq m c).symm
    · rw [hm c]
      exact (L_eq m c).symm

/-- The reference's frame: its run keeps the argument, and it declares no semaphore. -/
theorem frame_ref : Cert.quiescent_ReferenceG0Ideal (hReferenceG0Ideal := Cert.ReferenceG0Ideal.Gen.facts) := by
  intro m g _
  exact (θ_run Cert.ReferenceG0Ideal.defs _ _).mono (fun r h => ⟨fun c => (h c).2.2,
    Idealize.ShloMosaic.sem_eq_zero_of_no_sems (by decide) r.2⟩) (Cert.ReferenceG0Ideal.Value.run m g)

/-- The mask's constant is the one the idealized program names. -/
theorem preserves : Cert.preserves_KernelG0_KernelG0Ideal :=
  IdealRules.named_const.statement Cert.KernelG0Ideal.κ "mask" .f32 0xF149F2CA#32 ⊥ rfl

end Cert.Proof.G0

end
-- ==== Proof.Sh.lean ====
/- The call `shared`: the expert every token passes through. A grid point keeps its block's gated activation for the next point,
   which multiplies it by the second weight; so the last point only finishes the block before it. Its result array at the
   ideal instance, block by block, and the reference's. -/
module

public import proofs.«01_k».proof.Defs
public import proofs.«01_k».proof.Proof.Common
public import proofs.«01_k».proof.Proof.Gen.KernelShIdeal.Value
public import proofs.«01_k».proof.Proof.Gen.ReferenceShIdeal.Read
public import Idealize.ShloMosaic.Lib.StableHlo.Run

@[expose] public section

noncomputable section

namespace Cert.Proof.Sh

open Idealize.ShloMosaic Idealize.SL.Sem Idealize.ShloMosaic.TcCoe Idealize.ShloMosaic.ValueIdx Idealize.ShloMosaic.Tactic
open Cert.KernelShIdeal Cert.KernelShIdeal.Gen
open Idealize.ShloMosaic.Pipeline (Dat)

/-- The sigmoid, as both programs spell it. -/
def sigm (x : EReal) : EReal :=
  Ideal.div (Ideal.ofBits .f32 0x3F800000#32) (Ideal.ofBits .f32 0x3F800000#32 + Ideal.exp (-x))

/-- The two values of a word: its low half and its high half, each as the upper half of a word of its own. -/
def loV (w : BitVec 32) : EReal := Ideal.ofBits .f32 (IntOp.shli .vector w 16#32)
def hiV (w : BitVec 32) : EReal := Ideal.ofBits .f32 (IntOp.andi w 4294901760#32)

/-- A row of the hidden layer before the gate: the low halves against the weight's upper rows, the high halves against its
    lower ones. -/
def hid (x : Fin 2048 → BitVec 32) (w : S4096x768.Idx → EReal) (q : Fin 768) : EReal :=
  (∑ k : Fin 2048, loV (x k) * w (ix2 (⟨k.val, by omega⟩ : Fin 4096) q))
    + ∑ k : Fin 2048, hiV (x k) * w (ix2 (⟨2048 + k.val, by omega⟩ : Fin 4096) q)

/-- The gated activation. -/
def act (x : Fin 2048 → BitVec 32) (w : S4096x768.Idx → EReal) (j : Fin 384) : EReal :=
  hid x w ⟨j.val, by omega⟩ * sigm (hid x w ⟨j.val, by omega⟩) * hid x w ⟨384 + j.val, by omega⟩

theorem hz : (![0, 0] : Fin 2 → Nat) = fun _ => 0 := funext fun a => by fin_cases a <;> rfl

/-- A load through the whole of a buffer reads its contents. -/
theorem ld_whole {A B : ℕ} {e : EltTy} (arg : Memref sig .tc .vmem ⟨2, ![A, B]⟩ e) (harg : arg.IsWhole) (x : Vec Ideal ⟨2, ![A, B]⟩ e)
    (inb : ∀ a, (![0, 0] : Fin 2 → ℕ) a + (![A, B] : Fin 2 → ℕ) a ≤ (![A, B] : Fin 2 → ℕ) a) :
    View.readAt (Elt Ideal) arg.view (Rect.unit (s := ⟨2, ![A, B]⟩) ![0, 0] ![A, B] inb).toLoadRect (harg.unread x) = x := by
  funext y
  rw [View.readAt_apply, harg.read_unread]
  refine congrArg x (Shape.idx_ext₂ ?_ ?_)
  · show 0 + 1 * (y 0).val = (y 0).val
    omega
  · show 0 + 1 * (y 1).val = (y 1).val
    omega

/-- A load of half of the weight's rows. -/
theorem ld_rows (arg : Memref sig .tc .vmem S4096x768 .bf16) (harg : arg.IsWhole) (x : Vec Ideal S4096x768 .bf16) (o : ℕ)
    (inb : ∀ a, (![o, 0] : Fin 2 → ℕ) a + S2048x768.size a ≤ S4096x768.size a) (k : Fin 2048) (q : Fin 768) (h : o + k.val < 4096) :
    View.readAt (Elt Ideal) arg.view (Rect.unit (s := S4096x768) ![o, 0] S2048x768.size inb).toLoadRect (harg.unread x) (ix2 k q)
      = x (ix2 ⟨o + k.val, h⟩ q) := by
  rw [View.readAt_apply, harg.read_unread]
  refine congrArg x (Shape.idx_ext₂ ?_ ?_)
  · show o + 1 * k.val = o + k.val
    omega
  · show 0 + 1 * q.val = q.val
    omega

/-- The hidden layer of a block. -/
theorem pay4_apply (x : Vec Ideal S512x2048 .i32) (w1 w2 : Vec Ideal S2048x768 .bf16) (w : S4096x768.Idx → EReal)
    (h1 : ∀ (k : Fin 2048) (q : Fin 768), (w1 (ix2 k q) : EReal) = w (ix2 (⟨k.val, by omega⟩ : Fin 4096) q))
    (h2 : ∀ (k : Fin 2048) (q : Fin 768), (w2 (ix2 k q) : EReal) = w (ix2 (⟨2048 + k.val, by omega⟩ : Fin 4096) q))
    (r : Fin 512) (q : Fin 768) :
    (k0_pay4 (F := Ideal) x w1 w2 (ix2 r q) : EReal) = hid (fun k => x (ix2 r k)) w q := by
  unfold k0_pay4
  rw [shapeCast_self, shapeCast_self]
  refine (addf_apply _ _ _).trans ?_
  refine congrArg₂ (· + ·)
    ((matmul_plain_zero (M := 512) (K := 2048) (N := 768) (φ₁ := .bf16) (φ₂ := .bf16) _ w1 r q).trans
      (Finset.sum_congr rfl fun k _ => congrArg₂ (· * ·) rfl (h1 k q)))
    ((matmul_plain_zero (M := 512) (K := 2048) (N := 768) (φ₁ := .bf16) (φ₂ := .bf16) _ w2 r q).trans
      (Finset.sum_congr rfl fun k _ => congrArg₂ (· * ·) rfl (h2 k q)))

/-- The activation of a block, which the point keeps. -/
theorem pay1_apply (x : Vec Ideal S512x2048 .i32) (w1 w2 : Vec Ideal S2048x768 .bf16) (w : S4096x768.Idx → EReal)
    (h1 : ∀ (k : Fin 2048) (q : Fin 768), (w1 (ix2 k q) : EReal) = w (ix2 (⟨k.val, by omega⟩ : Fin 4096) q))
    (h2 : ∀ (k : Fin 2048) (q : Fin 768), (w2 (ix2 k q) : EReal) = w (ix2 (⟨2048 + k.val, by omega⟩ : Fin 4096) q))
    (r : Fin 512) (j : Fin 384) :
    (k0_pay1 (F := Ideal) (k0_pay5 (F := Ideal) x w1 w2) (k0_pay6 (F := Ideal) x w1 w2) (ix2 r j) : EReal)
      = act (fun k => x (ix2 r k)) w j := by
  have hj := j.isLt
  have e0 (i : S512x384.Idx) : extractStridedSlice S512x384 ![0, 0] (k0_pay4 (F := Ideal) x w1 w2) slices_S512x768_o0_0_S512x384 i
      = k0_pay4 (F := Ideal) x w1 w2 (ix2 (⟨(i 0).val, (i 0).isLt⟩ : Fin 512) (⟨(i 1).val, Nat.lt_trans (i 1).isLt (by decide)⟩ : Fin 768)) :=
    extractStridedSlice_apply _ _ _ i _ fun a => by
      match a with
      | ⟨0, _⟩ => show (i 0).val = 0 + (i 0).val; omega
      | ⟨1, _⟩ => show (i 1).val = 0 + (i 1).val; omega
  have e1 : extractStridedSlice S512x384 ![0, 384] (k0_pay4 (F := Ideal) x w1 w2) slices_S512x768_o0_384_S512x384 (ix2 r j)
      = k0_pay4 (F := Ideal) x w1 w2 (ix2 r (⟨384 + j.val, by omega⟩ : Fin 768)) :=
    extractStridedSlice_apply _ _ _ (ix2 r j) _ fun a => by
      match a with
      | ⟨0, _⟩ => show r.val = 0 + r.val; omega
      | ⟨1, _⟩ => rfl
  have e0' := (e0 (ix2 r j)).trans (pay4_apply x w1 w2 w h1 h2 r ⟨j.val, by omega⟩)
  have e1' := e1.trans (pay4_apply x w1 w2 w h1 h2 r ⟨384 + j.val, by omega⟩)
  have hs (y : EReal) : Ideal.div (Ideal.ofBits .f32 0x3F800000#32)
      (Ideal.ofBits .f32 0x3F800000#32 + Ideal.exp (Ideal.ofBits .f32 0x00000000#32 - y)) = sigm y := by
    rw [ofBits_zero, zero_sub]; rfl
  unfold k0_pay1 k0_pay5 k0_pay6
  rw [shapeCast_self]
  refine congrArg₂ (· * ·) (congrArg₂ (· * ·) e0' ?_) e1'
  exact (hs _).trans (congrArg sigm e0')

/-- The second product of a block. -/
theorem pay3_apply (a : Vec Ideal S512x384 .bf16) (w : Vec Ideal S384x4096 .bf16) (r : Fin 512) (q : Fin 4096) :
    (k0_pay3 (F := Ideal) a w (ix2 r q) : EReal) = ∑ j : Fin 384, (a (ix2 r j) : EReal) * (w (ix2 j q) : EReal) := by
  unfold k0_pay3
  rw [shapeCast_self]
  exact matmul_plain_zero (M := 512) (K := 384) (N := 4096) (φ₁ := .bf16) (φ₂ := .bf16) a w r q

section Body

variable (c : Dev nD) (i : grid0.Coords) (arg1 : Memref sig .tc .vmem S512x2048 .i32) (harg1 : arg1.IsWhole)
  (arg2 : Memref sig .tc .vmem S4096x768 .bf16) (harg2 : arg2.IsWhole) (arg3 : Memref sig .tc .vmem S384x4096 .bf16) (harg3 : arg3.IsWhole)
  (arg4 : Memref sig .tc .vmem S512x4096 .bf16) (harg4 : arg4.IsWhole) (arg5 : Memref sig .tc .vmem S512x384 .bf16) (harg5 : arg5.IsWhole)
  (x0 : Vec Ideal S512x2048 .i32) (x1 : Vec Ideal S4096x768 .bf16) (x2 : Vec Ideal S384x4096 .bf16) (xs0 : Vec Ideal S512x384 .bf16)

/-- What a point keeps, at the first point and at a later one. -/
theorem kept_A (hc0 : cond0_0 i) (r : Fin 512) (j : Fin 384) :
    (sout0_A_0 (F := Ideal) c i arg1 harg1 arg2 harg2 arg3 harg3 arg4 harg4 arg5 harg5 hc0 x0 x1 x2 (ix2 r j) : EReal)
      = act (fun k => x0 (ix2 r k)) x1 j := by
  unfold sout0_A_0
  rw [View.read_writes_junk_eq_canon]
  refine (congrFun (View.canon_cons_unit_zero hz inb_S512x384_S512x384_0_0 _ _) (ix2 r j)).trans ?_
  refine (pay1_apply _ _ _ x1 (fun k q => (ld_rows arg2 harg2 x1 0 inb_S4096x768_S2048x768_0_0 k q (by omega)).trans (congrArg x1 (Shape.idx_ext₂ (Nat.zero_add _) rfl)))
    (fun k q => ld_rows arg2 harg2 x1 2048 inb_S4096x768_S2048x768_2048_0 k q (by omega)) r j).trans ?_
  exact congrArg (fun x : Vec Ideal S512x2048 .i32 => act (fun k => x (ix2 r k)) x1 j) (ld_whole arg1 harg1 x0 inb_S512x2048_S512x2048_0_0)

theorem kept_B (hc0 : ¬cond0_0 i) (r : Fin 512) (j : Fin 384) :
    (sout0_B_0 (F := Ideal) c i arg1 harg1 arg2 harg2 arg3 harg3 arg4 harg4 arg5 harg5 hc0 x0 x1 x2 xs0 (ix2 r j) : EReal)
      = act (fun k => x0 (ix2 r k)) x1 j := by
  unfold sout0_B_0
  rw [View.read_writes_junk_eq_canon]
  refine (congrFun (View.canon_cons_unit_zero hz inb_S512x384_S512x384_0_0 _ _) (ix2 r j)).trans ?_
  refine (pay1_apply _ _ _ x1 (fun k q => (ld_rows arg2 harg2 x1 0 inb_S4096x768_S2048x768_0_0 k q (by omega)).trans (congrArg x1 (Shape.idx_ext₂ (Nat.zero_add _) rfl)))
    (fun k q => ld_rows arg2 harg2 x1 2048 inb_S4096x768_S2048x768_2048_0 k q (by omega)) r j).trans ?_
  exact congrArg (fun x : Vec Ideal S512x2048 .i32 => act (fun k => x (ix2 r k)) x1 j) (ld_whole arg1 harg1 x0 inb_S512x2048_S512x2048_0_0)

/-- What a later point writes: the kept activation against the second weight. -/
theorem wrote_B (hc0 : ¬cond0_0 i) (r : Fin 512) (q : Fin 4096) :
    (out0_B_3 (F := Ideal) c i arg1 harg1 arg2 harg2 arg3 harg3 arg4 harg4 arg5 harg5 hc0 x0 x1 x2 xs0 (ix2 r q) : EReal)
      = ∑ j : Fin 384, (xs0 (ix2 r j) : EReal) * (x2 (ix2 j q) : EReal) := by
  unfold out0_B_3
  rw [View.read_writes_junk_eq_canon]
  refine (congrFun (View.canon_unit_zero hz inb_S512x4096_S512x4096_0_0 _) (ix2 r q)).trans ?_
  refine (pay3_apply _ _ r q).trans (Finset.sum_congr rfl fun j _ => congrArg₂ (· * ·) ?_ ?_)
  · exact congrFun (ld_whole arg5 harg5 xs0 inb_S512x384_S512x384_0_0) (ix2 r j)
  · exact congrFun (ld_whole arg3 harg3 x2 inb_S384x4096_S384x4096_0_0) (ix2 j q)

end Body

/-- The windows' index maps over the grid, in closed form, and which points write back. -/
theorem idx_facts : ∀ t : Fin cfg0.N, (win0_0.index t 0 = min t.val 31 ∧ win0_0.index t 1 = 0)
    ∧ (win0_1.index t 0 = 0 ∧ win0_1.index t 1 = 0)
    ∧ (win0_2.index t 0 = 0 ∧ win0_2.index t 1 = 0)
    ∧ (win0_3.index t 0 = t.val - 1 ∧ win0_3.index t 1 = 0)
    ∧ (win0_3.flush t = decide (1 ≤ t.val)) :=
  (by decide +kernel : ∀ t : Fin grid0.N, _)

theorem t_lt (t : Fin cfg0.N) : t.val < 33 := t.isLt

variable (m : (ℓ : Loc nD τ sig) → Buf (Elt Ideal) ℓ)

/-- The operand arrays as the call finds them. -/
abbrev xArr (c : Dev nD) : S16384x2048.Idx → BitVec 32 := V m c main_arg0
abbrev guArr (c : Dev nD) : S4096x768.Idx → EReal := V m c main_v1
abbrev dnArr (c : Dev nD) : S384x4096.Idx → EReal := V m c main_v3

/-- The expert's result at row `p` and column `q`. -/
def shAt (x : S16384x2048.Idx → BitVec 32) (w : S4096x768.Idx → EReal) (u : S384x4096.Idx → EReal) (p : Fin 16384) (q : Fin 4096) : EReal :=
  ∑ j : Fin 384, act (fun k => x (ix2 p k)) w j * u (ix2 j q)

/-- The array after the run as one function. -/
abbrev G (c : Dev nD) : Buf (Elt Ideal) ((c : Thread nD τ).loc main_v4) :=
  fun i : S16384x4096.Idx => shAt (xArr m c) (guArr m c) (dnArr m c) (i 0) (i 1)

theorem iblk0_apply (c : Dev nD) (t : Fin cfg0.N) (r : Fin 512) (k : Fin 2048) (h : 512 * min t.val 31 + r.val < 16384) :
    (iblk m c 0 t (ix2 r k) : BitVec 32) = xArr m c (ix2 ⟨512 * min t.val 31 + r.val, h⟩ k) := by
  show xArr m c ((win0_0.rect t).emb (ix2 r k)) = _
  refine congrArg (xArr m c) (Shape.idx_ext₂ ?_ ?_)
  · rw [Pipeline.Window.rect_emb_val win0_0 t _ 0 rfl, (idx_facts t).1.1]
    show min t.val 31 * 512 + r.val = 512 * min t.val 31 + r.val
    omega
  · rw [Pipeline.Window.rect_emb_val win0_0 t _ 1 rfl, (idx_facts t).1.2]
    show 0 * 2048 + k.val = k.val
    omega

theorem iblk1_eq (c : Dev nD) (t : Fin cfg0.N) : (iblk m c 1 t : S4096x768.Idx → EReal) = guArr m c := by
  funext y
  show guArr m c ((win0_1.rect t).emb y) = _
  refine congrArg (guArr m c) (Shape.idx_ext₂ ?_ ?_)
  · rw [Pipeline.Window.rect_emb_val win0_1 t _ 0 rfl, (idx_facts t).2.1.1]
    show 0 * 4096 + (y 0).val = (y 0).val
    omega
  · rw [Pipeline.Window.rect_emb_val win0_1 t _ 1 rfl, (idx_facts t).2.1.2]
    show 0 * 768 + (y 1).val = (y 1).val
    omega

theorem iblk2_eq (c : Dev nD) (t : Fin cfg0.N) : (iblk m c 2 t : S384x4096.Idx → EReal) = dnArr m c := by
  funext y
  show dnArr m c ((win0_2.rect t).emb y) = _
  refine congrArg (dnArr m c) (Shape.idx_ext₂ ?_ ?_)
  · rw [Pipeline.Window.rect_emb_val win0_2 t _ 0 rfl, (idx_facts t).2.2.1.1]
    show 0 * 384 + (y 0).val = (y 0).val
    omega
  · rw [Pipeline.Window.rect_emb_val win0_2 t _ 1 rfl, (idx_facts t).2.2.1.2]
    show 0 * 4096 + (y 1).val = (y 1).val
    omega

/-- A later point, over what the point before kept. -/
theorem atB (c : Dev nD) (t : Fin cfg0.N) (h0 : ¬t.val % 33 = 0) : ∃ xs0 : Vec Ideal S512x384 .bf16,
    xs0 = (outsAt0 m c (t.val - 1) (Nat.lt_of_le_of_lt (Nat.sub_le _ _) t.isLt)).2
    ∧ outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs0,
      sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs0) :=
  ⟨_, rfl, outsAt0_B m c t h0⟩

/-- What a point keeps is its own rows' activation. -/
theorem kept_eq (c : Dev nD) (t : Fin cfg0.N) (r : Fin 512) (j : Fin 384) (h : 512 * min t.val 31 + r.val < 16384) :
    ((outsAt0 m c t.val t.isLt).2 (ix2 r j) : EReal)
      = act (fun k => xArr m c (ix2 ⟨512 * min t.val 31 + r.val, h⟩ k)) (guArr m c) j := by
  have e : act (fun k => iblk m c 0 t (ix2 r k)) (iblk m c 1 t) j
      = act (fun k => xArr m c (ix2 ⟨512 * min t.val 31 + r.val, h⟩ k)) (guArr m c) j :=
    congrArg₂ (fun x w => act x w j) (funext fun k => iblk0_apply m c t r k h) (iblk1_eq m c t)
  refine Eq.trans ?_ e
  by_cases h0 : t.val % 33 = 0
  · rw [outsAt0_A m c t h0]
    dsimp only
    exact kept_A c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0) r j
  · obtain ⟨xs0, -, e'⟩ := atB m c t h0
    rw [e']
    dsimp only
    exact kept_B c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) xs0 (fun h => h0 ((hcond0_0 t).mp h)) r j

/-- What a later point writes is the block before its own. -/
theorem wrote_eq (c : Dev nD) (t : Fin cfg0.N) (ht : 1 ≤ t.val) (r : Fin 512) (q : Fin 4096) (h : 512 * (t.val - 1) + r.val < 16384) :
    ((outsAt0 m c t.val t.isLt).1 (ix2 r q) : EReal)
      = shAt (xArr m c) (guArr m c) (dnArr m c) ⟨512 * (t.val - 1) + r.val, h⟩ q := by
  have hl := t_lt t
  have hp : t.val - 1 < cfg0.N := Nat.lt_of_le_of_lt (Nat.sub_le _ _) t.isLt
  have h0 : ¬t.val % 33 = 0 := by omega
  have hm : min (t.val - 1) 31 = t.val - 1 := by omega
  obtain ⟨xs0, hx, e'⟩ := atB m c t h0
  rw [e']
  dsimp only
  refine (wrote_B c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) xs0 (fun h => h0 ((hcond0_0 t).mp h)) r q).trans ?_
  refine Finset.sum_congr rfl fun j _ => congrArg₂ (· * ·) ?_ (congrFun (iblk2_eq m c t) (ix2 j q))
  rw [hx]
  refine (kept_eq m c ⟨t.val - 1, hp⟩ r j (by dsimp only; omega)).trans ?_
  dsimp only
  simp only [hm]

/-- What a point that writes back writes is its block of `G`. -/
theorem flushed_eq (c : Dev nD) (t : Fin cfg0.N) (hf : (cfg0.win 3).flush t = true) :
    (dats m 0 c).flushed 3 t = ((cfg0.win 3).blk t).view.read (Elt Ideal) (G m c) := by
  have ht : 1 ≤ t.val := of_decide_eq_true ((idx_facts t).2.2.2.2.symm.trans hf)
  have hl := t_lt t
  rw [Value.flushed3]
  funext j
  obtain ⟨r, q, rfl⟩ : ∃ (r : Fin 512) (q : Fin 4096), j = ix2 r q := ⟨j 0, j 1, eq_ix2 j⟩
  have hr := r.isLt
  refine (wrote_eq m c t ht r q (by omega)).trans ?_
  have e0 : ((win0_3.rect t).emb (ix2 r q)) 0 = (⟨512 * (t.val - 1) + r.val, by omega⟩ : Fin 16384) := Fin.ext (by
    rw [Pipeline.Window.rect_emb_val win0_3 t _ 0 rfl, (idx_facts t).2.2.2.1.1]
    show (t.val - 1) * 512 + r.val = 512 * (t.val - 1) + r.val
    omega)
  have e1 : ((win0_3.rect t).emb (ix2 r q)) 1 = q := Fin.ext (by
    rw [Pipeline.Window.rect_emb_val win0_3 t _ 1 rfl, (idx_facts t).2.2.2.1.2]
    show 0 * 4096 + q.val = q.val
    omega)
  show _ = shAt (xArr m c) (guArr m c) (dnArr m c) (((win0_3.rect t).emb (ix2 r q)) 0) (((win0_3.rect t).emb (ix2 r q)) 1)
  rw [e0, e1]

/-- Membership in a block of the result, as bounds on the two coordinates. -/
theorem mem_blk (t : Fin cfg0.N) (i : S16384x4096.Idx) :
    i ∈ ((cfg0.win 3).blk t).view.set ↔ ∀ a : Fin 2, win0_3.index t a * win0_3.size a ≤ (i a).val
      ∧ (i a).val < win0_3.index t a * win0_3.size a + win0_3.size a := by
  show i ∈ ((View.whole main_v4).slice (win0_3.rect t)).set ↔ _
  rw [View.set_slice_whole, Rect.mem_set_unit]
  exact Iff.rfl

/-- The blocks written back cover the result array. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 33 := N_0
  have hf := idx_facts ⟨(i 0).val / 512 + 1, by omega⟩
  refine ⟨⟨(i 0).val / 512 + 1, by omega⟩, hf.2.2.2.2.trans (decide_eq_true (by dsimp only; omega)), ?_⟩
  rw [mem_blk]
  intro a
  match a with
  | ⟨0, _⟩ =>
    show win0_3.index _ 0 * 512 ≤ (i 0).val ∧ (i 0).val < win0_3.index _ 0 * 512 + 512
    rw [hf.2.2.2.1.1]; dsimp only; omega
  | ⟨1, _⟩ =>
    show win0_3.index _ 1 * 4096 ≤ (i 1).val ∧ (i 1).val < win0_3.index _ 1 * 4096 + 4096
    rw [hf.2.2.2.1.2]; omega

/-- The result array after the run. -/
theorem final_out (c : Dev nD) : (dats m 0 c).arrAt 3 cfg0.N = G m c :=
  (dats m 0 c).arrAt_eq_of_cover 3 (G m c) (fun t hf => flushed_eq m c t hf) cover

/-- The weights that the call reads are the arguments', without their leading unit axis. -/
theorem guArr_apply (c : Dev nD) (k : Fin 4096) (q : Fin 768) :
    guArr m c (ix2 k q) = m ((c : Thread nD τ).loc main_arg1) (ix3 (0 : Fin 1) k q) := by
  have e : (V m c main_v1 : S4096x768.Idx → EReal) = truncf (F := Ideal) .bf16 (shapeCast S4096x768 (m ((c : Thread nD τ).loc main_arg1)) shapeCasts_S1x4096x768_S4096x768) bitsLt_bf16_f32 := by
    unfold V hostOps0
    after_results <;> rfl
  rw [guArr, e]
  refine (truncf_apply _ bitsLt_bf16_f32 _).trans (shapeCast_apply _ _ (ix2 k q) (ix3 (0 : Fin 1) k q) ?_)
  rw [Shape.rowMajor_val_three, Shape.rowMajor_val_two]
  show (0 * 4096 + k.val) * 768 + q.val = k.val * 768 + q.val
  omega

theorem dnArr_apply (c : Dev nD) (k : Fin 384) (q : Fin 4096) :
    dnArr m c (ix2 k q) = m ((c : Thread nD τ).loc main_arg2) (ix3 (0 : Fin 1) k q) := by
  have e : (V m c main_v3 : S384x4096.Idx → EReal) = truncf (F := Ideal) .bf16 (shapeCast S384x4096 (m ((c : Thread nD τ).loc main_arg2)) shapeCasts_S1x384x4096_S384x4096) bitsLt_bf16_f32 := by
    unfold V hostOps0
    after_results <;> rfl
  rw [dnArr, e]
  refine (truncf_apply _ bitsLt_bf16_f32 _).trans (shapeCast_apply _ _ (ix2 k q) (ix3 (0 : Fin 1) k q) ?_)
  rw [Shape.rowMajor_val_three, Shape.rowMajor_val_two]
  show (0 * 384 + k.val) * 4096 + q.val = k.val * 4096 + q.val
  omega

section Reference

open Cert.ReferenceShIdeal.Read

/-- The reference's row is the words' low halves, then their high ones. -/
theorem row_lo (x : S16384x2048.Idx → BitVec 32) (p : Fin 16384) (k : Fin 2048) :
    (val_main_v6 (F := Ideal) x (ix2 p (⟨k.val, by omega⟩ : Fin 4096)) : EReal) = loV (x (ix2 p k)) := by
  unfold val_main_v6
  refine (concatenate_pair_apply_left (t := S16384x4096) (s₁ := S16384x2048) (s₂ := S16384x2048) 1 _ _ _ _ rfl (ix2 p k) fun a => ?_).trans ?_
  · match a with
    | ⟨0, _⟩ => rfl
    | ⟨1, _⟩ => rfl
  rw [val_main_v2_apply, val_main_v1_apply, val_main_v0_apply, val_main_c_apply]
  rfl

theorem row_hi (x : S16384x2048.Idx → BitVec 32) (p : Fin 16384) (k : Fin 2048) :
    (val_main_v6 (F := Ideal) x (ix2 p (⟨2048 + k.val, by omega⟩ : Fin 4096)) : EReal) = hiV (x (ix2 p k)) := by
  unfold val_main_v6
  refine (concatenate_pair_apply_right (t := S16384x4096) (s₁ := S16384x2048) (s₂ := S16384x2048) 1 _ _ _ _ rfl rfl (ix2 p k)
    (fun a ha => ?_) ?_).trans ?_
  · match a with
    | ⟨0, _⟩ => rfl
    | ⟨1, _⟩ => exact absurd rfl ha
  · show k.val + 2048 = 2048 + k.val
    omega
  rw [val_main_v5_apply, val_main_v4_apply, val_main_v3_apply, val_main_c_0_apply]
  rfl

/-- The reference's hidden layer: its sum over the row splits at the halves. -/
theorem hid_eq (c : Dev nD) (p : Fin 16384) (q : Fin 768) (i : Cert.ReferenceShIdeal.S16384x768.Idx) (hi : i = ix2 p q) :
    (val_main_v9 (F := Ideal) (m ((c : Thread nD τ).loc main_arg0)) (m ((c : Thread nD τ).loc main_arg1)) i : EReal)
      = hid (fun k => xArr m c (ix2 p k)) (guArr m c) q := by
  subst hi
  rw [val_main_v9_apply]
  have hw (k : Fin 4096) : (val_main_v7 (F := Ideal) (m ((c : Thread nD τ).loc main_arg1)) (ridx_main_v9 (ix2 p q) k) : EReal)
      = guArr m c (ix2 k q) := by
    have hk := k.isLt
    have hq := q.isLt
    rw [val_main_v7_apply]
    refine Eq.symm ((guArr_apply m c k q).trans (congrArg _ (idx_ext₃ rfl ?_ ?_)))
    · show k.val = (k.val * 768 + q.val) / 768 % 4096
      omega
    · show q.val = (k.val * 768 + q.val) % 768
      omega
  have hx (k : Fin 2048) : xArr m c (ix2 p k) = m ((c : Thread nD τ).loc main_arg0) (ix2 p k) := congrFun (V_main_arg0 m c) _
  refine (Fin.sum_univ_add (a := 2048) (b := 2048) fun k : Fin (2048 + 2048) =>
    (val_main_v6 (F := Ideal) (m ((c : Thread nD τ).loc main_arg0)) (lidx_main_v9 (ix2 p q) k) : EReal)
      * (val_main_v7 (F := Ideal) (m ((c : Thread nD τ).loc main_arg1)) (ridx_main_v9 (ix2 p q) k) : EReal)).trans ?_
  refine congrArg₂ (· + ·) (Finset.sum_congr rfl fun k _ => congrArg₂ (· * ·) ?_ ?_)
    (Finset.sum_congr rfl fun k _ => congrArg₂ (· * ·) ?_ ?_)
  · refine (congrArg (val_main_v6 (F := Ideal) (m ((c : Thread nD τ).loc main_arg0))) (Shape.idx_ext₂ (x := lidx_main_v9 (ix2 p q) (Fin.castAdd 2048 k)) (y := ix2 p (⟨k.val, by omega⟩ : Fin 4096)) rfl rfl)).trans ((row_lo (m ((c : Thread nD τ).loc main_arg0)) p k).trans (congrArg loV (hx k).symm))
  · exact (hw _).trans (congrArg (guArr m c) (Shape.idx_ext₂ rfl rfl))
  · refine (congrArg (val_main_v6 (F := Ideal) (m ((c : Thread nD τ).loc main_arg0))) (Shape.idx_ext₂ (x := lidx_main_v9 (ix2 p q) (Fin.natAdd 2048 k)) (y := ix2 p (⟨2048 + k.val, by omega⟩ : Fin 4096)) rfl rfl)).trans ((row_hi (m ((c : Thread nD τ).loc main_arg0)) p k).trans (congrArg hiV (hx k).symm))
  · exact (hw _).trans (congrArg (guArr m c) (Shape.idx_ext₂ rfl rfl))

/-- The reference's activation. -/
theorem act_eq (c : Dev nD) (p : Fin 16384) (j : Fin 384) (i : Cert.ReferenceShIdeal.S16384x384.Idx) (hi : i = ix2 p j) :
    (val_main_v13 (F := Ideal) (m ((c : Thread nD τ).loc main_arg0)) (m ((c : Thread nD τ).loc main_arg1)) i : EReal)
      = act (fun k => xArr m c (ix2 p k)) (guArr m c) j := by
  have hj := j.isLt
  have eg : (val_main_v10 (F := Ideal) (m ((c : Thread nD τ).loc main_arg0)) (m ((c : Thread nD τ).loc main_arg1)) i : EReal)
      = hid (fun k => xArr m c (ix2 p k)) (guArr m c) ⟨j.val, by omega⟩ := by
    subst hi
    rw [val_main_v10_apply]
    exact hid_eq m c p ⟨j.val, by omega⟩ _ (Shape.idx_ext₂ rfl rfl)
  have eu : (val_main_v11 (F := Ideal) (m ((c : Thread nD τ).loc main_arg0)) (m ((c : Thread nD τ).loc main_arg1)) i : EReal)
      = hid (fun k => xArr m c (ix2 p k)) (guArr m c) ⟨384 + j.val, by omega⟩ := by
    subst hi
    rw [val_main_v11_apply]
    exact hid_eq m c p ⟨384 + j.val, by omega⟩ _ (Shape.idx_ext₂ rfl rfl)
  have es : (val_main_call0_v5 (F := Ideal) (m ((c : Thread nD τ).loc main_arg0)) (m ((c : Thread nD τ).loc main_arg1)) i : EReal)
      = sigm (val_main_v10 (F := Ideal) (m ((c : Thread nD τ).loc main_arg0)) (m ((c : Thread nD τ).loc main_arg1)) i) := by
    rw [val_main_call0_v5_apply, val_main_call0_v4_apply, val_main_call0_v3_apply, val_main_call0_v2_apply, val_main_call0_v1_apply,
      val_main_call0_v0_apply]
    rfl
  rw [val_main_v13_apply, val_main_v12_apply]
  exact congrArg₂ (· * ·) (congrArg₂ (· * ·) eg (es.trans (congrArg sigm eg))) eu

/-- The array is the reference's result. -/
theorem G_eq (c : Dev nD) :
    G m c = val_main_v15 (F := Ideal) (m ((c : Thread nD τ).loc main_arg0)) (m ((c : Thread nD τ).loc main_arg1))
      (m ((c : Thread nD τ).loc main_arg2)) := by
  funext i
  obtain ⟨p, q, rfl⟩ : ∃ (p : Fin 16384) (q : Fin 4096), i = ix2 p q := ⟨i 0, i 1, eq_ix2 i⟩
  have hq := q.isLt
  show shAt (xArr m c) (guArr m c) (dnArr m c) p q = _
  rw [val_main_v15_apply, Ideal.truncf_def, val_main_v14_apply]
  refine Finset.sum_congr rfl fun j _ => congrArg₂ (· * ·) ?_ ?_
  · exact (act_eq m c p j (lidx_main_v14 (ix2 p q) j) (Shape.idx_ext₂ (x := lidx_main_v14 (ix2 p q) j) (y := ix2 p j) rfl rfl)).symm
  · have hj := j.isLt
    rw [val_main_v8_apply]
    refine (dnArr_apply m c j q).trans (congrArg _ (idx_ext₃ rfl ?_ ?_))
    · show j.val = (j.val * 4096 + q.val) / 4096 % 384
      omega
    · show q.val = (j.val * 4096 + q.val) % 4096
      omega

end Reference

/-- The value claim: kernel and reference leave the same array, and keep their arguments. -/
theorem algebraic : Cert.algebraic_KernelShIdeal_ReferenceShIdeal
    (hKernelShIdeal := Cert.KernelShIdeal.Gen.facts) (hReferenceShIdeal := Cert.ReferenceShIdeal.Gen.facts) := by
  intro m g m' g' _ hm
  refine ⟨fun c => G m c, ?_, ?_⟩
  · refine (θ_run Cert.KernelShIdeal.defs _ _).mono (fun r h c => ?_) (Value.run_blocks m g)
    exact ⟨(h c).1.trans (final_out m c), (h c).2⟩
  · refine (θ_run Cert.ReferenceShIdeal.defs _ _).mono (fun r h c => ?_) (Cert.ReferenceShIdeal.Value.run m' g')
    refine ⟨((h c).1.trans (Cert.ReferenceShIdeal.Read.val_main_v15_eq _ _ _)).trans ?_, (h c).2⟩
    obtain ⟨h0, h1, h2⟩ := hm c
    rw [h0, h1, h2]
    exact (G_eq m c).symm

/-- The reference's frame: its run keeps the arguments, and it declares no semaphore. -/
theorem frame_ref : Cert.quiescent_ReferenceShIdeal (hReferenceShIdeal := Cert.ReferenceShIdeal.Gen.facts) := by
  intro m g _
  exact (θ_run Cert.ReferenceShIdeal.defs _ _).mono (fun r h => ⟨fun c => (h c).2,
    Idealize.ShloMosaic.sem_eq_zero_of_no_sems (by decide) r.2⟩) (Cert.ReferenceShIdeal.Value.run m g)

end Cert.Proof.Sh

end
-- ==== Proof.GtMath.lean ====
/- Facts over the extended reals for the gates of the delta rule: a product taken in two roundings, a running sum taken in three,
   the running sum inside a chunk. -/
module

public import proofs.«01_k».proof.Proof.Common
public import Idealize.ShloMosaic.PureOps.Ideal.Laws

@[expose] public section

noncomputable section

namespace Cert.Proof.GtMath

open Idealize.ShloMosaic

/-- A product with each factor split in its rounding and the rest is the product, if the factors are finite. -/
theorem split_dot {n : ℕ} (x w : Fin n → EReal) (hx : ∀ k, x k ≠ ⊤ ∧ x k ≠ ⊥) (hw : ∀ k, w k ≠ ⊤ ∧ w k ≠ ⊥) :
    (∑ k, x k * w k) + (∑ k, x k * (w k - w k)) + ∑ k, (x k - x k) * w k = ∑ k, x k * w k := by
  have e1 : ∑ k, x k * (w k - w k) = 0 := Finset.sum_eq_zero fun k _ => by rw [EReal.sub_self (hw k).1 (hw k).2, mul_zero]
  have e2 : ∑ k, (x k - x k) * w k = 0 := Finset.sum_eq_zero fun k _ => by rw [EReal.sub_self (hx k).1 (hx k).2, zero_mul]
  rw [e1, e2, add_zero, add_zero]

/-- A sum with a term −∞ is −∞. -/
theorem sum_bot {n : ℕ} (f : Fin n → EReal) (i : Fin n) (h : f i = ⊥) : ∑ k, f k = ⊥ := by
  rw [← Finset.add_sum_erase _ _ (Finset.mem_univ i), h, EReal.bot_add]

/-- A sum of some terms, each split in its rounding, the rounding of the rest, and the rest of that, is the sum, if no term
    is +∞: a term −∞ that is counted makes all of it −∞. -/
theorem split_sum {n : ℕ} (l g : Fin n → EReal) (hl : ∀ i, l i = 0 ∨ l i = 1) (hg : ∀ i, g i ≠ ⊤) :
    (∑ k, l k * g k) + (∑ k, l k * (g k - g k)) + (∑ k, l k * (g k - g k - (g k - g k))) = ∑ k, l k * g k := by
  by_cases h : ∃ i, l i = 1 ∧ g i = ⊥
  · obtain ⟨i, h1, h2⟩ := h
    rw [sum_bot (fun k => l k * g k) i (by rw [h1, h2, one_mul]), EReal.bot_add, EReal.bot_add]
  · have z (k : Fin n) (hk : l k ≠ 0) : g k - g k = 0 :=
      EReal.sub_self (hg k) fun hb => h ⟨k, (hl k).resolve_left hk, hb⟩
    have e1 : ∑ k, l k * (g k - g k) = 0 := Finset.sum_eq_zero fun k _ => by
      by_cases hk : l k = 0
      · rw [hk, zero_mul]
      · rw [z k hk, mul_zero]
    have e2 : ∑ k, l k * (g k - g k - (g k - g k)) = 0 := Finset.sum_eq_zero fun k _ => by
      by_cases hk : l k = 0
      · rw [hk, zero_mul]
      · rw [z k hk, sub_zero, mul_zero]
    rw [e1, e2, add_zero, add_zero]

theorem exp_nonneg (x : EReal) : 0 ≤ Ideal.exp x := by
  induction x with
  | bot => exact le_refl _
  | top => exact le_top
  | coe r => exact EReal.coe_nonneg.2 (Real.exp_pos r).le

theorem log_nonneg (x : EReal) (h : 1 ≤ x) : 0 ≤ Ideal.log x := by
  induction x with
  | bot => exact absurd h (not_le.2 (EReal.bot_lt_coe 1))
  | top => exact le_top
  | coe r =>
    have hr : (1 : ℝ) ≤ r := by exact_mod_cast h
    show 0 ≤ (if r ≤ 0 then (⊥ : EReal) else (Real.log r : EReal))
    rw [if_neg (by linarith)]
    exact EReal.coe_nonneg.2 (Real.log_nonneg hr)

/-- The softplus, as both programs spell it. -/
def sp (v : EReal) : EReal := max v 0 + Ideal.log (1 + Ideal.exp (-(max v (-v))))

theorem sp_nonneg (v : EReal) : 0 ≤ sp v :=
  add_nonneg (le_max_right _ _) (log_nonneg _ (le_add_of_nonneg_right (exp_nonneg _)))

/-- One step's log decay: never +∞. -/
def decay (a v : EReal) : EReal := -Ideal.exp a * sp v

theorem decay_ne_top (a v : EReal) : decay a v ≠ ⊤ := by
  unfold decay
  rw [EReal.neg_mul]
  intro h
  have h' : Ideal.exp a * sp v = ⊥ := by rw [← neg_neg (Ideal.exp a * sp v), h]; rfl
  have := mul_nonneg (exp_nonneg a) (sp_nonneg v)
  rw [h'] at this
  exact absurd this (by simp)

/-- The running sum up to `r`, inside its chunk of 64. -/
def run (g : ℕ → EReal) (r : ℕ) : EReal :=
  ∑ n : Fin 64, if 63 ≤ r % 64 + n.val then g (r / 64 * 64 + (r % 64 + n.val - 63)) else 0

/-- The running sum as one row of a mask, over a block of whole chunks. -/
theorem mask_run (g : ℕ → EReal) (o r : ℕ) (ho : o % 64 = 0) (hr : r < 512) :
    ∑ s : Fin 512, (if r / 64 = s.val / 64 ∧ s.val ≤ r then (1 : EReal) else 0) * g (o + s.val) = run g (o + r) := by
  unfold run
  simp only [ite_mul, one_mul, zero_mul]
  rw [← Finset.sum_filter, ← Finset.sum_filter]
  refine Finset.sum_bij' (fun s _ => (⟨(s.val % 64 + 63 - r % 64) % 64, Nat.mod_lt _ (by norm_num)⟩ : Fin 64))
    (fun n _ => (⟨(r / 64 * 64 + (r % 64 + n.val - 63)) % 512, Nat.mod_lt _ (by norm_num)⟩ : Fin 512)) ?_ ?_ ?_ ?_ ?_
  · intro s hs
    simp only [Finset.mem_filter, Finset.mem_univ, true_and] at hs ⊢
    omega
  · intro n hn
    have := n.isLt
    simp only [Finset.mem_filter, Finset.mem_univ, true_and] at hn ⊢
    omega
  · intro s hs
    have := s.isLt
    simp only [Finset.mem_filter, Finset.mem_univ, true_and] at hs
    refine Fin.ext ?_
    dsimp only
    omega
  · intro n hn
    have := n.isLt
    simp only [Finset.mem_filter, Finset.mem_univ, true_and] at hn
    refine Fin.ext ?_
    dsimp only
    omega
  · intro s hs
    have := s.isLt
    simp only [Finset.mem_filter, Finset.mem_univ, true_and] at hs
    refine congrArg g ?_
    dsimp only
    omega

/-- A fold of additions is a sum. -/
theorem foldl_add {n : ℕ} (f : Fin n → EReal) (v : EReal) :
    (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

end Cert.Proof.GtMath

end
-- ==== Proof.GtRef.lean ====
/- The reference of the call `dn_gates`, read entry by entry: the strengths, the log decays and their running sum. -/
module

public import proofs.«01_k».proof.Defs
public import proofs.«01_k».proof.Proof.GtMath
public import Idealize.ShloMosaic.Lib.IdealHost
public import proofs.«01_k».proof.Proof.Gen.ReferenceGtIdeal.Read

@[expose] public section

noncomputable section

namespace Cert.Proof.GtRef

open Idealize.ShloMosaic Idealize.SL.Sem Idealize.ShloMosaic.ValueIdx
open Cert.ReferenceGtIdeal Cert.ReferenceGtIdeal.Gen Cert.ReferenceGtIdeal.Read
open Cert.Proof.GtMath

theorem ofBits_one : Ideal.ofBits .f32 0x3F800000#32 = 1 := Ideal.ofBits_one_f32

/-- The sigmoid, as both programs spell it. -/
def sigm (x : EReal) : EReal := Ideal.div 1 (1 + Ideal.exp (-x))

section

variable (X : S1x16384x4096.Idx → EReal) (W : S1x4096x25632.Idx → EReal) (A D : S1x16.Idx → EReal)

/-- Gate column `c` of token `r`. -/
def lg (r : Fin 16384) (c : Fin 32) : EReal :=
  ∑ k : Fin 4096, X (ix3 (0 : Fin 1) r k) * W (ix3 (0 : Fin 1) k (⟨8192 + c.val, by omega⟩ : Fin 25632))

/-- The strength of head `h`. -/
def betaAt (r : Fin 16384) (h : Fin 16) : EReal := sigm (lg X W r ⟨h.val, by omega⟩)

/-- The log decay of head `h` at token `r`. -/
def gAt (h : Fin 16) (r : ℕ) : EReal :=
  if hr : r < 16384 then decay (A (ix2 (0 : Fin 1) h)) (lg X W ⟨r, hr⟩ ⟨16 + h.val, by omega⟩ + D (ix2 (0 : Fin 1) h)) else 0

theorem v1_apply (r : Fin 16384) (q : Fin 25632) :
    (val_main_v1 (F := Ideal) X W (ix3 (0 : Fin 1) r q) : EReal) = ∑ k : Fin 4096, X (ix3 (0 : Fin 1) r k) * W (ix3 (0 : Fin 1) k q) := by
  rw [val_main_v1_apply]
  refine Finset.sum_congr rfl fun k _ => congrArg₂ (· * ·) (congrArg X (idx_ext₃ rfl rfl rfl)) ?_
  rw [val_main_v0_apply]
  have hk := k.isLt
  have hq := q.isLt
  refine congrArg W (idx_ext₃ rfl ?_ ?_)
  · show (k.val * 25632 + q.val) / 25632 % 4096 = k.val
    omega
  · show (k.val * 25632 + q.val) % 25632 = q.val
    omega

theorem v9_apply (r : Fin 16384) (h : Fin 16) :
    (val_main_v9 (F := Ideal) X W (ix3 (0 : Fin 1) r h) : EReal) = betaAt X W r h := by
  have hh := h.isLt
  rw [val_main_v9_apply, val_main_v8_apply, val_main_cst_0_apply, val_main_v7_apply, val_main_v6_apply, val_main_cst_apply, val_main_v5_apply,
    val_main_v4_apply, val_main_v2_apply]
  have e : idx_main_v2 (ix3 (0 : Fin 1) r h) = ix3 (0 : Fin 1) r (⟨8192 + h.val, by omega⟩ : Fin 25632) := idx_ext₃ rfl rfl rfl
  rw [e, v1_apply]
  unfold betaAt sigm lg
  generalize (∑ k : Fin 4096, X (ix3 (0 : Fin 1) r k) * W (ix3 (0 : Fin 1) k (⟨8192 + h.val, by omega⟩ : Fin 25632)) : EReal) = y
  show Ideal.div (Ideal.ofBits .f32 0x3F800000#32) (Ideal.ofBits .f32 0x3F800000#32 + Ideal.exp (-y)) = _
  rw [ofBits_one]

theorem v16_apply (r : Fin 16384) (h : Fin 16) :
    (val_main_v16 (F := Ideal) X W D (ix3 (0 : Fin 1) r h) : EReal)
      = lg X W r ⟨16 + h.val, by omega⟩ + D (ix2 (0 : Fin 1) h) := by
  have hh := h.isLt
  rw [val_main_v16_apply, val_main_v3_apply, val_main_v15_apply, val_main_v14_apply, val_main_v13_apply]
  have e : idx_main_v3 (ix3 (0 : Fin 1) r h) = ix3 (0 : Fin 1) r (⟨8208 + h.val, by omega⟩ : Fin 25632) := idx_ext₃ rfl rfl rfl
  rw [e, v1_apply]
  refine congrArg₂ (· + ·) ?_ (congrArg D (Shape.idx_ext₂ rfl ?_))
  · unfold lg
    refine Finset.sum_congr rfl fun k _ => congrArg₂ (· * ·) rfl (congrArg W (idx_ext₃ rfl rfl ?_))
    show 8208 + h.val = 8192 + (16 + h.val)
    omega
  · show h.val % 16 = h.val
    omega

theorem soft (v : EReal) :
    Scalar.select (FloatOps.cmpf (F := Ideal) (φ := .f32) .une (v - Ideal.ofBits .f32 0x00000000#32 : EReal) (v - Ideal.ofBits .f32 0x00000000#32 : EReal))
      (v + Ideal.ofBits .f32 0x00000000#32)
      (max v (Ideal.ofBits .f32 0x00000000#32)
        + Ideal.log1p (Ideal.exp (-(max (v - Ideal.ofBits .f32 0x00000000#32) (-(v - Ideal.ofBits .f32 0x00000000#32)))))) = sp v := by
  rw [ofBits_zero, sub_zero]
  have e : FloatOps.cmpf (F := Ideal) (φ := .f32) .une (v : EReal) (v : EReal) = 0#1 := by
    show Ideal.cmp .une v v = 0#1
    simp [Ideal.cmp]
  rw [e]
  rfl

theorem v20_apply (r : Fin 16384) (h : Fin 16) :
    (val_main_v20 (F := Ideal) X W A D (ix3 (0 : Fin 1) r h) : EReal) = gAt X W A D h r.val := by
  have hh := h.isLt
  unfold gAt
  rw [dif_pos r.isLt]
  rw [val_main_v20_apply, val_main_v19_apply, val_main_v18_apply, val_main_v12_apply, val_main_v11_apply, val_main_v10_apply]
  rw [val_main_v17_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply, v16_apply]
  refine congrArg₂ (· * ·) (congrArg (fun y : EReal => -Ideal.exp y) (congrArg A (Shape.idx_ext₂ rfl ?_))) (soft _)
  show h.val % 16 = h.val
  omega

theorem v22_apply (h : Fin 16) (n : Fin 256) (c : Fin 64) :
    (val_main_v22 (F := Ideal) X W A D (ix4 (0 : Fin 1) h n c) : EReal) = gAt X W A D h (n.val * 64 + c.val) := by
  have hh := h.isLt
  have hn := n.isLt
  have hc := c.isLt
  rw [val_main_v22_apply, val_main_v21_apply]
  have e : idx_main_v21 (idx_main_v22 (ix4 (0 : Fin 1) h n c)) = ix3 (0 : Fin 1) (⟨n.val * 64 + c.val, by omega⟩ : Fin 16384) h := by
    refine idx_ext₃ rfl ?_ ?_
    · show (((0 * 256 + n.val) * 64 + c.val) * 16 + h.val) / 16 % 16384 = n.val * 64 + c.val
      omega
    · show (((0 * 256 + n.val) * 64 + c.val) * 16 + h.val) % 16 = h.val
      omega
  rw [e, v20_apply]

end

/-- The window sum of 64 entries ending at an entry is the running sum inside the chunk. -/
theorem window_apply (x : S1x16x256x64.Idx → EReal) (init : S_.Idx → EReal) (h0 : ∀ i, init i = 0) (h : Fin 16) (n : Fin 256) (c : Fin 64)
    (g : ℕ → EReal) (hg : ∀ c' : Fin 64, x (ix4 (0 : Fin 1) h n c') = g (n.val * 64 + c'.val)) :
    (Host.reduceWindowAdd (F := Ideal) (φ := .f32) ![1, 1, 1, 64] ![1, 1, 1, 1] ![0, 0, 0, 63] ![0, 0, 0, 0] x init
      reduceWindows_S1x16x256x64_S1x16x256x64_w1s1p0_0_w1s1p0_0_w1s1p0_0_w64s1p63_0 h_S_ (ix4 (0 : Fin 1) h n c) : EReal)
      = run g (n.val * 64 + c.val) := by
  have hc := c.isLt
  have hn := n.isLt
  have hh := h.isLt
  simp only [Host.reduceWindowAdd, Ideal.hostReduceWindowAdd_def, Ideal.hostReduceWindowAdd, Host.reduceWindow]
  refine (foldl_add _ _).trans ?_
  rw [h0, zero_add]
  unfold run
  have hN : (⟨4, ![1, 1, 1, 64]⟩ : Shape).numel = 64 := by decide
  refine Fintype.sum_equiv (finCongr hN) _ _ fun k => ?_
  obtain ⟨j, rfl⟩ := (⟨4, ![1, 1, 1, 64]⟩ : Shape).rowMajor.surjective k
  have hk := Shape.rowMajor_val_four j
  have j0 : (j 0).val = 0 := Nat.lt_one_iff.1 (j 0).isLt
  have j1 : (j 1).val = 0 := Nat.lt_one_iff.1 (j 1).isLt
  have j2 : (j 2).val = 0 := Nat.lt_one_iff.1 (j 2).isLt
  have j3 : (j 3).val < 64 := (j 3).isLt
  have e : (finCongr hN ((⟨4, ![1, 1, 1, 64]⟩ : Shape).rowMajor j)).val = (j 3).val := by
    show ((⟨4, ![1, 1, 1, 64]⟩ : Shape).rowMajor j).val = (j 3).val
    rw [hk, j0, j1, j2]
    simp
  rw [e]
  simp only [Equiv.symm_apply_apply]
  have d1 : (n.val * 64 + c.val) % 64 = c.val := by omega
  have d2 : (n.val * 64 + c.val) / 64 = n.val := by omega
  rw [d1, d2]
  by_cases hin : 63 ≤ c.val + (j 3).val
  · rw [if_pos hin, dif_pos]
    · refine Eq.trans (congrArg x ?_) (hg ⟨c.val + (j 3).val - 63, by omega⟩)
      refine funext fun a => Fin.ext ?_
      match a with
      | ⟨0, _⟩ => show 0 * 1 + (j 0).val - 0 = 0; omega
      | ⟨1, _⟩ => show h.val * 1 + (j 1).val - 0 = h.val; omega
      | ⟨2, _⟩ => show n.val * 1 + (j 2).val - 0 = n.val; omega
      | ⟨3, _⟩ => show c.val * 1 + (j 3).val - 63 = c.val + (j 3).val - 63; omega
    · intro a
      match a with
      | ⟨0, _⟩ => show 0 ≤ 0 * 1 + (j 0).val ∧ 0 * 1 + (j 0).val - 0 < 1; omega
      | ⟨1, _⟩ => show 0 ≤ h.val * 1 + (j 1).val ∧ h.val * 1 + (j 1).val - 0 < 16; omega
      | ⟨2, _⟩ => show 0 ≤ n.val * 1 + (j 2).val ∧ n.val * 1 + (j 2).val - 0 < 256; omega
      | ⟨3, _⟩ => show 63 ≤ c.val * 1 + (j 3).val ∧ c.val * 1 + (j 3).val - 63 < 64; omega
  · rw [if_neg hin, dif_neg]
    · intro hx
      have h3 : 63 ≤ c.val * 1 + (j 3).val := (hx 3).1
      omega

section

variable (X : S1x16384x4096.Idx → EReal) (W : S1x4096x25632.Idx → EReal) (A D : S1x16.Idx → EReal)

theorem v25_apply (r : Fin 16384) (h : Fin 16) :
    (val_main_v25 (F := Ideal) X W A D (ix2 r h) : EReal) = run (gAt X W A D h) r.val := by
  have hh := h.isLt
  have hr := r.isLt
  rw [val_main_v25_apply, val_main_v24_apply]
  have e : idx_main_v24 (idx_main_v25 (ix2 r h))
      = ix4 (0 : Fin 1) h (⟨r.val / 64, by omega⟩ : Fin 256) (⟨r.val % 64, by omega⟩ : Fin 64) := by
    refine funext fun a => Fin.ext ?_
    match a with
    | ⟨0, _⟩ => rfl
    | ⟨1, _⟩ => show (r.val * 16 + h.val) % 16 = h.val; omega
    | ⟨2, _⟩ => show (r.val * 16 + h.val) / 1024 % 256 = r.val / 64; omega
    | ⟨3, _⟩ => show (r.val * 16 + h.val) / 16 % 64 = r.val % 64; omega
  rw [e]
  unfold val_main_v23
  refine (window_apply _ _ (fun i => ?_) h _ _ (gAt X W A D h) (fun c' => v22_apply X W A D h _ c')).trans (congrArg _ ?_)
  · rw [val_main_call1_call0_v0_apply, val_main_call1_call0_cst_apply]
    exact ofBits_zero
  · show r.val / 64 * 64 + r.val % 64 = r.val
    omega

theorem v28_apply (r : Fin 16384) (q : Fin 2048) :
    (val_main_v28 (F := Ideal) X W (ix2 r q) : EReal) = betaAt X W r ⟨q.val / 128, by omega⟩ := by
  have hr := r.isLt
  have hq := q.isLt
  rw [val_main_v28_apply, val_main_v27_apply, val_main_v26_apply]
  have e : idx_main_v26 (idx_main_v27 (idx_main_v28 (ix2 r q))) = ix3 (0 : Fin 1) r (⟨q.val / 128, by omega⟩ : Fin 16) := by
    refine idx_ext₃ rfl ?_ ?_
    · show ((r.val * 2048 + q.val) / 2048 * 16 + (r.val * 2048 + q.val) / 128 % 16) / 16 % 16384 = r.val
      omega
    · show ((r.val * 2048 + q.val) / 2048 * 16 + (r.val * 2048 + q.val) / 128 % 16) % 16 = q.val / 128
      omega
  rw [e, v9_apply]

theorem v30_apply (r : Fin 16384) (q : Fin 2048) :
    (val_main_v30 (F := Ideal) X W A D (ix2 r q) : EReal) = run (gAt X W A D ⟨q.val / 128, by omega⟩) r.val := by
  have hr := r.isLt
  have hq := q.isLt
  rw [val_main_v30_apply, val_main_v29_apply]
  have e : idx_main_v29 (idx_main_v30 (ix2 r q)) = ix2 r (⟨q.val / 128, by omega⟩ : Fin 16) := by
    refine Shape.idx_ext₂ ?_ ?_
    · show (r.val * 2048 + q.val) / 2048 = r.val
      omega
    · show (r.val * 2048 + q.val) / 128 % 16 = q.val / 128
      omega
  rw [e, v25_apply]

theorem v31_apply (h : Fin 16) (r : Fin 16384) :
    (val_main_v31 (F := Ideal) X W A D (ix2 h r) : EReal) = run (gAt X W A D h) r.val := by
  rw [val_main_v31_apply]
  have e : idx_main_v31 (ix2 h r) = ix2 r h := Shape.idx_ext₂ rfl rfl
  rw [e, v25_apply]

theorem v33_apply (r : Fin 16384) (q : Fin 4096) :
    (val_main_v33 (F := Ideal) X (ix2 r q) : EReal) = X (ix3 (0 : Fin 1) r q) := by
  have hr := r.isLt
  have hq := q.isLt
  rw [val_main_v33_apply]
  show (val_main_v32 (F := Ideal) X (ix2 r q) : EReal) = _
  rw [val_main_v32_apply]
  refine congrArg X (idx_ext₃ rfl ?_ ?_)
  · show (r.val * 4096 + q.val) / 4096 % 16384 = r.val
    omega
  · show (r.val * 4096 + q.val) % 4096 = q.val
    omega

end

/-- The reference's frame: its run keeps the arguments, and it declares no semaphore. -/
theorem frame_ref : Cert.quiescent_ReferenceGtIdeal (hReferenceGtIdeal := Cert.ReferenceGtIdeal.Gen.facts) := by
  intro m g _
  exact (θ_run Cert.ReferenceGtIdeal.defs _ _).mono (fun r h => ⟨fun c => (h c).2.2.2.2,
    Idealize.ShloMosaic.sem_eq_zero_of_no_sems (by decide) r.2⟩) (Cert.ReferenceGtIdeal.Value.run m g)

end Cert.Proof.GtRef

end
-- ==== Proof.GtBody.lean ====
/- One grid point of the call `dn_gates`: what its body computes from a block of tokens, read entry by entry. -/
module

public import proofs.«01_k».proof.Proof.Common
public import proofs.«01_k».proof.Proof.GtRef
public import proofs.«01_k».proof.Proof.Gen.KernelGtIdeal.Value
public import Idealize.ShloMosaic.Lib.WordCmp

@[expose] public section

noncomputable section

namespace Cert.Proof.GtBody

open Idealize.ShloMosaic Idealize.SL.Sem Idealize.ShloMosaic.ValueIdx
open Cert.KernelGtIdeal Cert.KernelGtIdeal.Gen
open Cert.Proof.GtMath Cert.Proof.GtRef

theorem hz : (![0, 0] : Fin 2 → Nat) = fun _ => 0 := funext fun a => by fin_cases a <;> rfl

/-- A load through the whole of a buffer reads its contents. -/
theorem ld_whole {A B : ℕ} {e : EltTy} (arg : Memref sig .tc .vmem ⟨2, ![A, B]⟩ e) (harg : arg.IsWhole) (x : Vec Ideal ⟨2, ![A, B]⟩ e)
    (inb : ∀ a, (![0, 0] : Fin 2 → ℕ) a + (![A, B] : Fin 2 → ℕ) a ≤ (![A, B] : Fin 2 → ℕ) a) :
    View.readAt (Elt Ideal) arg.view (Rect.unit (s := ⟨2, ![A, B]⟩) ![0, 0] ![A, B] inb).toLoadRect (harg.unread x) = x := by
  funext y
  rw [View.readAt_apply, harg.read_unread]
  refine congrArg x (Shape.idx_ext₂ ?_ ?_)
  · show 0 + 1 * (y 0).val = (y 0).val
    omega
  · show 0 + 1 * (y 1).val = (y 1).val
    omega

/-! ## The words of the mask -/

/-- The chunk number of a row, as the body spells the quotient rounded down. -/
def chunkW (a : BitVec 32) : BitVec 32 :=
  Scalar.select
    (IntOp.andi
      (IntOp.cmpi .ne (IntOp.subi (BitVec.setWidth 32 (IntOp.cmpi .sgt a 0#32)) (BitVec.setWidth 32 (IntOp.cmpi .slt a 0#32)))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

theorem chunkW_eq : ∀ a : Fin 512, chunkW (BitVec.ofNat 32 a.val) = BitVec.ofNat 32 (a.val / 64) := by decide +kernel

theorem pay12_apply (r s : Fin 512) : k0_pay12 (ix2 r s) = BitVec.ofNat 32 (r.val / 64) := by
  rw [← chunkW_eq r]
  unfold k0_pay12 chunkW
  have e : iota .tc S512x512 32 [0] iota_S512x512_d0_w32 (ix2 r s) = BitVec.ofNat 32 r.val := by
    show BitVec.ofNat 32 (0 * 512 + r.val) = _
    rw [Nat.zero_mul, Nat.zero_add]
  rw [← e]
  rfl

theorem col_apply (r s : Fin 512) :
    Scalar.select (IntOp.andi (k0_pay14 (ix2 r s)) (IntOp.cmpi .ne (k0_pay15 (ix2 r s)) (k0_pay16 (ix2 r s))))
      (IntOp.subi (k0_pay13 (ix2 r s)) 1#32) (k0_pay13 (ix2 r s)) = BitVec.ofNat 32 (s.val / 64) := by
  rw [← chunkW_eq s]
  unfold k0_pay13 k0_pay14 k0_pay15 k0_pay16 chunkW
  have e : iota .tc S512x512 32 [1] iota_S512x512_d1_w32 (ix2 r s) = BitVec.ofNat 32 s.val := by
    show BitVec.ofNat 32 (0 * 512 + s.val) = _
    rw [Nat.zero_mul, Nat.zero_add]
  rw [← e]
  rfl

theorem chunk_eq_iff (r s : Fin 512) : IntOp.cmpi .eq (BitVec.ofNat 32 (r.val / 64)) (BitVec.ofNat 32 (s.val / 64)) = 1#1 ↔ r.val / 64 = s.val / 64 := by
  rw [WordCmp.cmpi_eq_eq, WordCmp.ofBool_decide_eq_one_iff, ← BitVec.toNat_inj]
  have hr := r.isLt
  have hs := s.isLt
  rw [BitVec.toNat_ofNat, BitVec.toNat_ofNat, Nat.mod_eq_of_lt (by omega), Nat.mod_eq_of_lt (by omega)]

/-- The mask of the body: the same chunk, and not later. -/
theorem mask_apply (r s : Fin 512) :
    Scalar.select (IntOp.andi (IntOp.cmpi .eq (BitVec.ofNat 32 (r.val / 64)) (BitVec.ofNat 32 (s.val / 64)))
        (IntOp.cmpi .sle (BitVec.ofNat 32 s.val) (BitVec.ofNat 32 r.val))) (1 : EReal) 0
      = if r.val / 64 = s.val / 64 ∧ s.val ≤ r.val then (1 : EReal) else 0 := by
  have hr := r.isLt
  have hs := s.isLt
  have hi : IntOp.andi (IntOp.cmpi .eq (BitVec.ofNat 32 (r.val / 64)) (BitVec.ofNat 32 (s.val / 64)))
        (IntOp.cmpi .sle (BitVec.ofNat 32 s.val) (BitVec.ofNat 32 r.val)) = 1#1 ↔ r.val / 64 = s.val / 64 ∧ s.val ≤ r.val := by
    rw [IntOp.andi_eq_one, chunk_eq_iff, WordCmp.cmpi_sle_ofNat_eq_one_iff (by omega) (by omega)]
  unfold Scalar.select
  by_cases h : r.val / 64 = s.val / 64 ∧ s.val ≤ r.val
  · rw [if_pos h, hi.2 h]
    rfl
  · rw [if_neg h]
    exact if_neg fun h' => h (hi.1 h')

/-- The masked sum of a block of columns, over the three pieces of its operand. -/
theorem pay17_apply (g : FVec Ideal S512x128 .f32) (r : Fin 512) (c : Fin 128) (hg : ∀ s : Fin 512, (g (ix2 s c) : EReal) ≠ ⊤) :
    (k0_pay17 (F := Ideal) g (iota .tc S512x512 32 [0] iota_S512x512_d0_w32) (iota .tc S512x512 32 [1] iota_S512x512_d1_w32)
        k0_pay12 k0_pay13 k0_pay14 k0_pay15 k0_pay16 (ix2 r c) : EReal)
      = ∑ s : Fin 512, (if r.val / 64 = s.val / 64 ∧ s.val ≤ r.val then (1 : EReal) else 0) * (g (ix2 s c) : EReal) := by
  have e0 (r s : Fin 512) : iota .tc S512x512 32 [0] iota_S512x512_d0_w32 (ix2 r s) = BitVec.ofNat 32 r.val := by
    show BitVec.ofNat 32 (0 * 512 + r.val) = _
    rw [Nat.zero_mul, Nat.zero_add]
  have e1 (r s : Fin 512) : iota .tc S512x512 32 [1] iota_S512x512_d1_w32 (ix2 r s) = BitVec.ofNat 32 s.val := by
    show BitVec.ofNat 32 (0 * 512 + s.val) = _
    rw [Nat.zero_mul, Nat.zero_add]
  have hL (s : Fin 512) :
      Scalar.select (IntOp.andi
        (IntOp.cmpi .eq (k0_pay12 (ix2 r s)) (Scalar.select (IntOp.andi (k0_pay14 (ix2 r s)) (IntOp.cmpi .ne (k0_pay15 (ix2 r s)) (k0_pay16 (ix2 r s))))
          (IntOp.subi (k0_pay13 (ix2 r s)) 1#32) (k0_pay13 (ix2 r s))))
        (IntOp.cmpi .sle (iota .tc S512x512 32 [1] iota_S512x512_d1_w32 (ix2 r s)) (iota .tc S512x512 32 [0] iota_S512x512_d0_w32 (ix2 r s))))
        (Ideal.ofBits .f32 0x3F800000#32) (Ideal.ofBits .f32 0x00000000#32)
      = if r.val / 64 = s.val / 64 ∧ s.val ≤ r.val then (1 : EReal) else 0 := by
    rw [ofBits_one, ofBits_zero, col_apply, pay12_apply, e0, e1]
    exact mask_apply r s
  unfold k0_pay17
  refine (addf_apply _ _ _).trans ?_
  refine Eq.trans ?_ (split_sum (fun s : Fin 512 => if r.val / 64 = s.val / 64 ∧ s.val ≤ r.val then (1 : EReal) else 0) (fun s => (g (ix2 s c) : EReal))
    (fun s => by
      by_cases h : r.val / 64 = s.val / 64 ∧ s.val ≤ r.val
      · exact Or.inr (if_pos h)
      · exact Or.inl (if_neg h)) hg)
  refine congrArg₂ (· + ·) ((addf_apply _ _ _).trans (congrArg₂ (· + ·) ((addf_apply _ _ _).trans ?_) ?_)) ?_
  · refine Eq.trans (congrArg₂ (· + ·) (ofBits_zero) ((matmul_plain_zero (M := 512) (K := 512) (N := 128) (φ₁ := .bf16) (φ₂ := .bf16) _ _ r c).trans
      (Finset.sum_congr rfl fun s _ => congrArg₂ (· * ·) (hL s) rfl))) (zero_add _)
  · exact (matmul_plain_zero (M := 512) (K := 512) (N := 128) (φ₁ := .bf16) (φ₂ := .bf16) _ _ r c).trans
      (Finset.sum_congr rfl fun s _ => congrArg₂ (· * ·) (hL s) rfl)
  · exact (matmul_plain_zero (M := 512) (K := 512) (N := 128) (φ₁ := .bf16) (φ₂ := .bf16) _ _ r c).trans
      (Finset.sum_congr rfl fun s _ => congrArg₂ (· * ·) (hL s) rfl)

/-- A column of a block spread over a head's 128 columns. -/
theorem spread_apply (v : FVec Ideal S512x128 .f32) (o : ℕ) (ho : o < 128) (sl : S512x128.Slices ![0, o] S512x1)
    (sc : S512x1.ShapeCasts S512x1) (bc : S512x1.Broadcasts S512x128) (r : Fin 512) (q : Fin 128) :
    broadcastTo S512x128 (shapeCast S512x1 (extractStridedSlice S512x1 ![0, o] v sl) sc) bc (ix2 r q) = v (ix2 r ⟨o, ho⟩) := by
  rw [shapeCast_self]
  refine (broadcastTo_apply _ bc (ix2 r q) (ix2 r (0 : Fin 1)) fun a => ?_).trans
    (extractStridedSlice_apply _ v sl (ix2 r (0 : Fin 1)) (ix2 r ⟨o, ho⟩) fun a => ?_)
  · match a with
    | ⟨0, _⟩ => rfl
    | ⟨1, _⟩ => rfl
  · match a with
    | ⟨0, _⟩ => show r.val = 0 + r.val; omega
    | ⟨1, _⟩ => show o = o + 0; omega

/-- … so a head's store is a block of `G`. -/
theorem col_piece (v : FVec Ideal S512x128 .f32) (o p : ℕ) (ho : o < 128) (sl : S512x128.Slices ![0, o] S512x1)
    (sc : S512x1.ShapeCasts S512x1) (bc : S512x1.Broadcasts S512x128) (G : S512x2048.Idx → EReal)
    (inb : ∀ a, (![0, p] : Fin 2 → ℕ) a + S512x128.size a ≤ S512x2048.size a)
    (hG : ∀ (r : Fin 512) (q : Fin 128) (h : p + q.val < 2048), (v (ix2 r ⟨o, ho⟩) : EReal) = G (ix2 r (⟨p + q.val, h⟩ : Fin 2048)))
    (x : S512x128.Idx) :
    broadcastTo S512x128 (shapeCast S512x1 (extractStridedSlice S512x1 ![0, o] v sl) sc) bc x
      = G ((Rect.unit (s := S512x2048) ![0, p] S512x128.size inb).emb x) := by
  obtain ⟨r, q, rfl⟩ : ∃ (r : Fin 512) (q : Fin 128), x = ix2 r q := ⟨x 0, x 1, eq_ix2 x⟩
  have hp : p + 128 ≤ 2048 := inb 1
  have hq := q.isLt
  refine (spread_apply v o ho sl sc bc r q).trans ((hG r q (by omega)).trans (congrArg G (Shape.idx_ext₂ ?_ ?_)))
  · show r.val = 0 + 1 * r.val
    omega
  · show p + q.val = p + 1 * q.val
    omega

/-- Row `r` of the block that starts at token `o`. -/
abbrev tok (o : ℕ) (ho : o + 512 ≤ 16384) (r : Fin 512) : Fin 16384 := ⟨o + r.val, Nat.lt_of_lt_of_le (Nat.add_lt_add_left r.isLt o) ho⟩

/-- The head of a column of a spread block. -/
abbrev hd (q : Fin 2048) : Fin 16 := ⟨q.val / 128, by omega⟩

/-- The gate columns: in the weight, among the block's 128, and a head's two of them. -/
abbrev gcol (c : Fin 32) : Fin 25632 := ⟨8192 + c.val, by omega⟩
abbrev c32 (c : Fin 32) : Fin 128 := ⟨c.val, by omega⟩
abbrev c16 (h : Fin 16) : Fin 128 := ⟨h.val, by omega⟩
abbrev d16 (h : Fin 16) : Fin 128 := ⟨16 + h.val, by omega⟩

section Block

variable (X : Cert.ReferenceGtIdeal.S1x16384x4096.Idx → EReal) (W : Cert.ReferenceGtIdeal.S1x4096x25632.Idx → EReal)
  (A D : Cert.ReferenceGtIdeal.S1x16.Idx → EReal) (o : ℕ) (ho : o + 512 ≤ 16384) (ho' : o % 64 = 0)
  (x0 : Vec Ideal S512x4096 .f32) (x1 : Vec Ideal S128x4096 .f32) (x2 : Vec Ideal S8x128 .f32)
  (h0 : ∀ (r : Fin 512) (k : Fin 4096), (x0 (ix2 r k) : EReal) = X (ix3 (0 : Fin 1) (tok o ho r) k))
  (h1 : ∀ (c : Fin 32) (k : Fin 4096), (x1 (ix2 (c32 c) k) : EReal)
    = W (ix3 (0 : Fin 1) k (gcol c)))
  (h2 : ∀ h : Fin 16, (x2 (ix2 (0 : Fin 8) (d16 h)) : EReal) = -Ideal.exp (A (ix2 (0 : Fin 1) h)))
  (h3 : ∀ h : Fin 16, (x2 (ix2 (1 : Fin 8) (d16 h)) : EReal) = D (ix2 (0 : Fin 1) h))
  (fX : ∀ i, X i ≠ ⊤ ∧ X i ≠ ⊥)
  (fW : ∀ (k : Fin 4096) (c : Fin 32), W (ix3 (0 : Fin 1) k (gcol c)) ≠ ⊤
    ∧ W (ix3 (0 : Fin 1) k (gcol c)) ≠ ⊥)

include h0 h1 fX fW in
theorem pay6_apply (r : Fin 512) (c : Fin 32) :
    (k0_pay6 (F := Ideal) x0 x1 (ix2 r (c32 c)) : EReal) = lg X W (tok o ho r) c := by
  have e5 (k : Fin 4096) : (k0_pay5 (F := Ideal) x0 (ix2 r k) : EReal) = X (ix3 (0 : Fin 1) (tok o ho r) k) := by
    unfold k0_pay5 k0_pay4
    rw [shapeCast_self]
    exact h0 r k
  unfold lg
  unfold k0_pay6
  refine (addf_apply _ _ _).trans ?_
  refine Eq.trans ?_ (split_dot (fun k : Fin 4096 => X (ix3 (0 : Fin 1) (tok o ho r) k))
    (fun k : Fin 4096 => W (ix3 (0 : Fin 1) k (gcol c))) (fun k => fX _) (fun k => fW k c))
  refine congrArg₂ (· + ·) ((addf_apply _ _ _).trans (congrArg₂ (· + ·) ?_ ?_)) ?_
  · refine (matmul_nt_zero (M := 512) (K := 4096) (N := 128) (φ₁ := .bf16) (φ₂ := .bf16) _ _ r (c32 c)).trans
      (Finset.sum_congr rfl fun k _ => congrArg₂ (· * ·) (e5 k) ?_)
    rw [shapeCast_self]
    exact h1 c k
  · refine (matmul_nt_zero (M := 512) (K := 4096) (N := 128) (φ₁ := .bf16) (φ₂ := .bf16) _ _ r (c32 c)).trans
      (Finset.sum_congr rfl fun k _ => congrArg₂ (· * ·) (e5 k) ?_)
    rw [shapeCast_self]
    exact congrArg₂ (· - ·) (h1 c k) (h1 c k)
  · refine (matmul_nt_zero (M := 512) (K := 4096) (N := 128) (φ₁ := .bf16) (φ₂ := .bf16) _ _ r (c32 c)).trans
      (Finset.sum_congr rfl fun k _ => congrArg₂ (· * ·) ?_ ?_)
    · refine congrArg₂ (· - ·) ?_ (e5 k)
      unfold k0_pay4
      rw [shapeCast_self]
      exact h0 r k
    · rw [shapeCast_self]
      exact h1 c k

include h0 h1 fX fW in
/-- The strengths of a block. -/
theorem pay8_apply (r : Fin 512) (h : Fin 16) :
    (k0_pay8 (F := Ideal) x0 x1 (ix2 r (c16 h)) : EReal) = betaAt X W (tok o ho r) h := by
  have e := pay6_apply X W o ho x0 x1 h0 h1 fX fW r ⟨h.val, by omega⟩
  have hs (y z : EReal) (hy : y = z) : Ideal.div (Ideal.ofBits .f32 0x3F800000#32)
      (Ideal.ofBits .f32 0x3F800000#32 + Ideal.exp (Ideal.ofBits .f32 0x00000000#32 - y)) = sigm z := by
    rw [ofBits_zero, zero_sub, ofBits_one, hy]; rfl
  unfold k0_pay8 betaAt
  exact hs _ _ e

include h0 h1 h2 h3 fX fW in
/-- The log decays of a block. -/
theorem pay11_apply (r : Fin 512) (h : Fin 16) :
    (k0_pay11 (F := Ideal) (k0_pay9 (F := Ideal) x2) (k0_pay10 (F := Ideal) x0 x1 x2) (ix2 r (d16 h)) : EReal)
      = gAt X W A D h (o + r.val) := by
  have e := pay6_apply X W o ho x0 x1 h0 h1 fX fW r ⟨16 + h.val, by omega⟩
  have row (j : ℕ) (hj : j < 8) (sl : S8x128.Slices ![j, 0] S1x128) :
      broadcastTo S512x128 (extractStridedSlice S1x128 ![j, 0] (k0_pay7 (F := Ideal) x2) sl) broadcasts_S1x128_S512x128
        (ix2 r (d16 h)) = x2 (ix2 (⟨j, hj⟩ : Fin 8) (d16 h)) := by
    unfold k0_pay7
    rw [shapeCast_self]
    refine (broadcastTo_apply _ broadcasts_S1x128_S512x128 _ (ix2 (0 : Fin 1) (d16 h)) fun a => ?_).trans
      (extractStridedSlice_apply _ x2 sl _ (ix2 (⟨j, hj⟩ : Fin 8) (d16 h)) fun a => ?_)
    · match a with
      | ⟨0, _⟩ => rfl
      | ⟨1, _⟩ => rfl
    · match a with
      | ⟨0, _⟩ => show j = j + 0; omega
      | ⟨1, _⟩ => show 16 + h.val = 0 + (16 + h.val); omega
  have hs (y z : EReal) (hy : y = z) : max y (Ideal.ofBits .f32 0x00000000#32)
      + Ideal.log (Ideal.ofBits .f32 0x3F800000#32 + Ideal.exp (Ideal.ofBits .f32 0x00000000#32 - max y (-y))) = sp z := by
    rw [ofBits_zero, zero_sub, ofBits_one, hy]; rfl
  unfold gAt
  rw [dif_pos (by omega)]
  unfold k0_pay11 k0_pay9 k0_pay10 decay
  refine congrArg₂ (· * ·) ((row 0 (by omega) slices_S8x128_o0_0_S1x128).trans (h2 h)) (hs _ _ ?_)
  exact congrArg₂ (· + ·) e ((row 1 (by omega) slices_S8x128_o1_0_S1x128).trans (h3 h))

include h0 h1 h2 h3 fX fW ho' in
/-- The running sums of a block. -/
theorem gc_apply (r : Fin 512) (h : Fin 16) :
    (k0_pay17 (F := Ideal) (k0_pay11 (F := Ideal) (k0_pay9 (F := Ideal) x2) (k0_pay10 (F := Ideal) x0 x1 x2))
        (iota .tc S512x512 32 [0] iota_S512x512_d0_w32) (iota .tc S512x512 32 [1] iota_S512x512_d1_w32)
        k0_pay12 k0_pay13 k0_pay14 k0_pay15 k0_pay16 (ix2 r (d16 h)) : EReal)
      = run (gAt X W A D h) (o + r.val) := by
  have e (s : Fin 512) := pay11_apply X W A D o ho x0 x1 x2 h0 h1 h2 h3 fX fW s h
  refine (pay17_apply _ r _ fun s => ?_).trans ?_
  · rw [e s]
    unfold gAt
    rw [dif_pos (by omega)]
    exact decay_ne_top _ _
  · refine Eq.trans (Finset.sum_congr rfl fun s _ => congrArg₂ (· * ·) rfl (e s)) (mask_run (gAt X W A D h) o r.val ho' r.isLt)

end Block

end Cert.Proof.GtBody

end
-- ==== Proof.GtOut.lean ====
/- One grid point of the call `dn_gates`: what its stores leave in the four output blocks. -/
module

public import proofs.«01_k».proof.Proof.GtBody
public import Idealize.ShloMosaic.Lib.Pipeline.ReadBack

@[expose] public section

noncomputable section

namespace Cert.Proof.GtOut

open Idealize.ShloMosaic Idealize.SL.Sem Idealize.ShloMosaic.ValueIdx
open Cert.KernelGtIdeal Cert.KernelGtIdeal.Gen
open Cert.Proof.GtMath Cert.Proof.GtRef Cert.Proof.GtBody

section Block

variable (X : Cert.ReferenceGtIdeal.S1x16384x4096.Idx → EReal) (W : Cert.ReferenceGtIdeal.S1x4096x25632.Idx → EReal)
  (A D : Cert.ReferenceGtIdeal.S1x16.Idx → EReal) (o : ℕ) (ho : o + 512 ≤ 16384) (ho' : o % 64 = 0)
  (c : Dev nD) (i : grid0.Coords) (arg1 : Memref sig .tc .vmem S512x4096 .f32) (harg1 : arg1.IsWhole)
  (arg2 : Memref sig .tc .vmem S128x4096 .f32) (harg2 : arg2.IsWhole) (arg3 : Memref sig .tc .vmem S8x128 .f32) (harg3 : arg3.IsWhole)
  (arg4 : Memref sig .tc .vmem S512x2048 .f32) (harg4 : arg4.IsWhole) (arg5 : Memref sig .tc .vmem S512x2048 .f32) (harg5 : arg5.IsWhole)
  (arg6 : Memref sig .tc .vmem S16x512 .f32) (harg6 : arg6.IsWhole) (arg7 : Memref sig .tc .vmem S512x4096 .bf16) (harg7 : arg7.IsWhole)
  (x0 : Vec Ideal S512x4096 .f32) (x1 : Vec Ideal S128x4096 .f32) (x2 : Vec Ideal S8x128 .f32)
  (h0 : ∀ (r : Fin 512) (k : Fin 4096), (x0 (ix2 r k) : EReal) = X (ix3 (0 : Fin 1) (tok o ho r) k))
  (h1 : ∀ (c : Fin 32) (k : Fin 4096), (x1 (ix2 (c32 c) k) : EReal)
    = W (ix3 (0 : Fin 1) k (gcol c)))
  (h2 : ∀ h : Fin 16, (x2 (ix2 (0 : Fin 8) (d16 h)) : EReal) = -Ideal.exp (A (ix2 (0 : Fin 1) h)))
  (h3 : ∀ h : Fin 16, (x2 (ix2 (1 : Fin 8) (d16 h)) : EReal) = D (ix2 (0 : Fin 1) h))
  (fX : ∀ i, X i ≠ ⊤ ∧ X i ≠ ⊥)
  (fW : ∀ (k : Fin 4096) (c : Fin 32), W (ix3 (0 : Fin 1) k (gcol c)) ≠ ⊤
    ∧ W (ix3 (0 : Fin 1) k (gcol c)) ≠ ⊥)

/-- The block of strengths. -/
def GB (y : S512x2048.Idx) : EReal := betaAt X W (tok o ho (y 0)) (hd (y 1))

/-- The block of running sums. -/
def GC (y : S512x2048.Idx) : EReal := run (gAt X W A D (hd (y 1))) (o + (y 0).val)

theorem r_eq : kernelRun0_A.sl.r (F := Ideal) c arg1 harg1 arg2 harg2 x0 x1 = k0_pay8 (F := Ideal) x0 x1 :=
  congrArg₂ (k0_pay8 (F := Ideal)) (ld_whole arg1 harg1 x0 inb_S512x4096_S512x4096_0_0) (ld_whole arg2 harg2 x1 inb_S128x4096_S128x4096_0_0)

theorem r3_eq : kernelRun0_A.sl.r_3 (F := Ideal) c arg1 harg1 arg2 harg2 arg3 harg3 x0 x1 x2
    = k0_pay11 (F := Ideal) (k0_pay9 (F := Ideal) x2) (k0_pay10 (F := Ideal) x0 x1 x2) := by
  have e1 : kernelRun0_A.sl.r_1 (F := Ideal) c arg3 harg3 x2 = k0_pay9 (F := Ideal) x2 :=
    congrArg (k0_pay9 (F := Ideal)) (ld_whole arg3 harg3 x2 inb_S8x128_S8x128_0_0)
  have e2 : kernelRun0_A.sl.r_2 (F := Ideal) c arg1 harg1 arg2 harg2 arg3 harg3 x0 x1 x2 = k0_pay10 (F := Ideal) x0 x1 x2 := by
    unfold kernelRun0_A.sl.r_2
    have a := ld_whole arg1 harg1 x0 inb_S512x4096_S512x4096_0_0
    have b := ld_whole arg2 harg2 x1 inb_S128x4096_S128x4096_0_0
    have d := ld_whole arg3 harg3 x2 inb_S8x128_S8x128_0_0
    exact (congrArg (fun z => k0_pay10 (F := Ideal) z _ _) a).trans ((congrArg (fun z => k0_pay10 (F := Ideal) x0 z _) b).trans
      (congrArg (fun z => k0_pay10 (F := Ideal) x0 x1 z) d))
  unfold kernelRun0_A.sl.r_3
  rw [e1, e2]

theorem r4_eq : kernelRun0_A.sl.r_4 (F := Ideal) c arg1 harg1 arg2 harg2 arg3 harg3 x0 x1 x2
    = k0_pay17 (F := Ideal) (k0_pay11 (F := Ideal) (k0_pay9 (F := Ideal) x2) (k0_pay10 (F := Ideal) x0 x1 x2))
        (iota .tc S512x512 32 [0] iota_S512x512_d0_w32) (iota .tc S512x512 32 [1] iota_S512x512_d1_w32)
        k0_pay12 k0_pay13 k0_pay14 k0_pay15 k0_pay16 := by
  unfold kernelRun0_A.sl.r_4
  rw [r3_eq]
  rfl

include h0 h1 fX fW in
theorem bpiece (h p : ℕ) (hh : h < 16) (hp : p = 128 * h) (r : Fin 512) (q : Fin 128) (hq : p + q.val < 2048) :
    (kernelRun0_A.sl.r (F := Ideal) c arg1 harg1 arg2 harg2 x0 x1 (ix2 r (⟨h, by omega⟩ : Fin 128)) : EReal)
      = GB X W o ho (ix2 r (⟨p + q.val, hq⟩ : Fin 2048)) := by
  rw [r_eq]
  refine (pay8_apply X W o ho x0 x1 h0 h1 fX fW r ⟨h, hh⟩).trans (congrArg (betaAt X W _) (Fin.ext ?_))
  show h = (p + q.val) / 128
  omega

include h0 h1 h2 h3 fX fW ho' in
theorem cpiece (h p : ℕ) (hh : h < 16) (hp : p = 128 * h) (r : Fin 512) (q : Fin 128) (hq : p + q.val < 2048) :
    (kernelRun0_A.sl.r_4 (F := Ideal) c arg1 harg1 arg2 harg2 arg3 harg3 x0 x1 x2 (ix2 r (⟨16 + h, by omega⟩ : Fin 128)) : EReal)
      = GC X W A D o (ix2 r (⟨p + q.val, hq⟩ : Fin 2048)) := by
  rw [r4_eq]
  refine (gc_apply X W A D o ho ho' x0 x1 x2 h0 h1 h2 h3 fX fW r ⟨h, hh⟩).trans
    (congrArg (fun z => run (gAt X W A D z) (o + r.val)) (Fin.ext ?_))
  show h = (p + q.val) / 128
  omega

include h0 h1 fX fW in
/-- The strengths a point stores. -/
theorem out3 (r : Fin 512) (q : Fin 2048) :
    (out0_A_3 (F := Ideal) c i arg1 harg1 arg2 harg2 arg3 harg3 arg4 harg4 arg5 harg5 arg6 harg6 arg7 harg7 x0 x1 x2 (ix2 r q) : EReal) = GB X W o ho (ix2 r q) := by
  have hp : View.PiecesOf (Val := Elt Ideal) (e := .f32) (GB X W o ho) (kernelRun0_A (F := Ideal) c i arg1 harg1 arg2 harg2 arg3 harg3 arg4 harg4 arg5 harg5 arg6 harg6 arg7 harg7 x0 x1 x2).1 := by
    unfold kernelRun0_A
    dsimp only
    exact ⟨
    col_piece (kernelRun0_A.sl.r (F := Ideal) c arg1 harg1 arg2 harg2 x0 x1) 15 1920 (by omega) slices_S512x128_o0_15_S512x1 shapeCasts_S512x1_S512x1 broadcasts_S512x1_S512x128 (GB X W o ho) inb_S512x2048_S512x128_0_1920
      (bpiece X W o ho c arg1 harg1 arg2 harg2 x0 x1 h0 h1 fX fW 15 1920 (by omega) rfl),
    col_piece (kernelRun0_A.sl.r (F := Ideal) c arg1 harg1 arg2 harg2 x0 x1) 14 1792 (by omega) slices_S512x128_o0_14_S512x1 shapeCasts_S512x1_S512x1 broadcasts_S512x1_S512x128 (GB X W o ho) inb_S512x2048_S512x128_0_1792
      (bpiece X W o ho c arg1 harg1 arg2 harg2 x0 x1 h0 h1 fX fW 14 1792 (by omega) rfl),
    col_piece (kernelRun0_A.sl.r (F := Ideal) c arg1 harg1 arg2 harg2 x0 x1) 13 1664 (by omega) slices_S512x128_o0_13_S512x1 shapeCasts_S512x1_S512x1 broadcasts_S512x1_S512x128 (GB X W o ho) inb_S512x2048_S512x128_0_1664
      (bpiece X W o ho c arg1 harg1 arg2 harg2 x0 x1 h0 h1 fX fW 13 1664 (by omega) rfl),
    col_piece (kernelRun0_A.sl.r (F := Ideal) c arg1 harg1 arg2 harg2 x0 x1) 12 1536 (by omega) slices_S512x128_o0_12_S512x1 shapeCasts_S512x1_S512x1 broadcasts_S512x1_S512x128 (GB X W o ho) inb_S512x2048_S512x128_0_1536
      (bpiece X W o ho c arg1 harg1 arg2 harg2 x0 x1 h0 h1 fX fW 12 1536 (by omega) rfl),
    col_piece (kernelRun0_A.sl.r (F := Ideal) c arg1 harg1 arg2 harg2 x0 x1) 11 1408 (by omega) slices_S512x128_o0_11_S512x1 shapeCasts_S512x1_S512x1 broadcasts_S512x1_S512x128 (GB X W o ho) inb_S512x2048_S512x128_0_1408
      (bpiece X W o ho c arg1 harg1 arg2 harg2 x0 x1 h0 h1 fX fW 11 1408 (by omega) rfl),
    col_piece (kernelRun0_A.sl.r (F := Ideal) c arg1 harg1 arg2 harg2 x0 x1) 10 1280 (by omega) slices_S512x128_o0_10_S512x1 shapeCasts_S512x1_S512x1 broadcasts_S512x1_S512x128 (GB X W o ho) inb_S512x2048_S512x128_0_1280
      (bpiece X W o ho c arg1 harg1 arg2 harg2 x0 x1 h0 h1 fX fW 10 1280 (by omega) rfl),
    col_piece (kernelRun0_A.sl.r (F := Ideal) c arg1 harg1 arg2 harg2 x0 x1) 9 1152 (by omega) slices_S512x128_o0_9_S512x1 shapeCasts_S512x1_S512x1 broadcasts_S512x1_S512x128 (GB X W o ho) inb_S512x2048_S512x128_0_1152
      (bpiece X W o ho c arg1 harg1 arg2 harg2 x0 x1 h0 h1 fX fW 9 1152 (by omega) rfl),
    col_piece (kernelRun0_A.sl.r (F := Ideal) c arg1 harg1 arg2 harg2 x0 x1) 8 1024 (by omega) slices_S512x128_o0_8_S512x1 shapeCasts_S512x1_S512x1 broadcasts_S512x1_S512x128 (GB X W o ho) inb_S512x2048_S512x128_0_1024
      (bpiece X W o ho c arg1 harg1 arg2 harg2 x0 x1 h0 h1 fX fW 8 1024 (by omega) rfl),
    col_piece (kernelRun0_A.sl.r (F := Ideal) c arg1 harg1 arg2 harg2 x0 x1) 7 896 (by omega) slices_S512x128_o0_7_S512x1 shapeCasts_S512x1_S512x1 broadcasts_S512x1_S512x128 (GB X W o ho) inb_S512x2048_S512x128_0_896
      (bpiece X W o ho c arg1 harg1 arg2 harg2 x0 x1 h0 h1 fX fW 7 896 (by omega) rfl),
    col_piece (kernelRun0_A.sl.r (F := Ideal) c arg1 harg1 arg2 harg2 x0 x1) 6 768 (by omega) slices_S512x128_o0_6_S512x1 shapeCasts_S512x1_S512x1 broadcasts_S512x1_S512x128 (GB X W o ho) inb_S512x2048_S512x128_0_768
      (bpiece X W o ho c arg1 harg1 arg2 harg2 x0 x1 h0 h1 fX fW 6 768 (by omega) rfl),
    col_piece (kernelRun0_A.sl.r (F := Ideal) c arg1 harg1 arg2 harg2 x0 x1) 5 640 (by omega) slices_S512x128_o0_5_S512x1 shapeCasts_S512x1_S512x1 broadcasts_S512x1_S512x128 (GB X W o ho) inb_S512x2048_S512x128_0_640
      (bpiece X W o ho c arg1 harg1 arg2 harg2 x0 x1 h0 h1 fX fW 5 640 (by omega) rfl),
    col_piece (kernelRun0_A.sl.r (F := Ideal) c arg1 harg1 arg2 harg2 x0 x1) 4 512 (by omega) slices_S512x128_o0_4_S512x1 shapeCasts_S512x1_S512x1 broadcasts_S512x1_S512x128 (GB X W o ho) inb_S512x2048_S512x128_0_512
      (bpiece X W o ho c arg1 harg1 arg2 harg2 x0 x1 h0 h1 fX fW 4 512 (by omega) rfl),
    col_piece (kernelRun0_A.sl.r (F := Ideal) c arg1 harg1 arg2 harg2 x0 x1) 3 384 (by omega) slices_S512x128_o0_3_S512x1 shapeCasts_S512x1_S512x1 broadcasts_S512x1_S512x128 (GB X W o ho) inb_S512x2048_S512x128_0_384
      (bpiece X W o ho c arg1 harg1 arg2 harg2 x0 x1 h0 h1 fX fW 3 384 (by omega) rfl),
    col_piece (kernelRun0_A.sl.r (F := Ideal) c arg1 harg1 arg2 harg2 x0 x1) 2 256 (by omega) slices_S512x128_o0_2_S512x1 shapeCasts_S512x1_S512x1 broadcasts_S512x1_S512x128 (GB X W o ho) inb_S512x2048_S512x128_0_256
      (bpiece X W o ho c arg1 harg1 arg2 harg2 x0 x1 h0 h1 fX fW 2 256 (by omega) rfl),
    col_piece (kernelRun0_A.sl.r (F := Ideal) c arg1 harg1 arg2 harg2 x0 x1) 1 128 (by omega) slices_S512x128_o0_1_S512x1 shapeCasts_S512x1_S512x1 broadcasts_S512x1_S512x128 (GB X W o ho) inb_S512x2048_S512x128_0_128
      (bpiece X W o ho c arg1 harg1 arg2 harg2 x0 x1 h0 h1 fX fW 1 128 (by omega) rfl),
    col_piece (kernelRun0_A.sl.r (F := Ideal) c arg1 harg1 arg2 harg2 x0 x1) 0 0 (by omega) slices_S512x128_o0_0_S512x1 shapeCasts_S512x1_S512x1 broadcasts_S512x1_S512x128 (GB X W o ho) inb_S512x2048_S512x128_0_0
      (bpiece X W o ho c arg1 harg1 arg2 harg2 x0 x1 h0 h1 fX fW 0 0 (by omega) rfl),
    trivial⟩
  unfold out0_A_3
  rw [View.read_writes_junk_eq_canon]
  exact View.canon_apply_of_pieces (GB X W o ho) _ hp.mem (ix2 r q) (cover0_A_3 (F := Ideal) c i arg1 harg1 arg2 harg2 arg3 harg3 arg4 harg4 arg5 harg5 arg6 harg6 arg7 harg7 x0 x1 x2 (ix2 r q))

include h0 h1 h2 h3 fX fW ho' in
/-- The running sums a point stores, spread over the heads' columns. -/
theorem out4 (r : Fin 512) (q : Fin 2048) :
    (out0_A_4 (F := Ideal) c i arg1 harg1 arg2 harg2 arg3 harg3 arg4 harg4 arg5 harg5 arg6 harg6 arg7 harg7 x0 x1 x2 (ix2 r q) : EReal) = GC X W A D o (ix2 r q) := by
  have hp : View.PiecesOf (Val := Elt Ideal) (e := .f32) (GC X W A D o) (kernelRun0_A (F := Ideal) c i arg1 harg1 arg2 harg2 arg3 harg3 arg4 harg4 arg5 harg5 arg6 harg6 arg7 harg7 x0 x1 x2).2.1 := by
    unfold kernelRun0_A
    dsimp only
    exact ⟨
    col_piece (kernelRun0_A.sl.r_4 (F := Ideal) c arg1 harg1 arg2 harg2 arg3 harg3 x0 x1 x2) 31 1920 (by omega) slices_S512x128_o0_31_S512x1 shapeCasts_S512x1_S512x1 broadcasts_S512x1_S512x128 (GC X W A D o) inb_S512x2048_S512x128_0_1920
      (cpiece X W A D o ho ho' c arg1 harg1 arg2 harg2 arg3 harg3 x0 x1 x2 h0 h1 h2 h3 fX fW 15 1920 (by omega) rfl),
    col_piece (kernelRun0_A.sl.r_4 (F := Ideal) c arg1 harg1 arg2 harg2 arg3 harg3 x0 x1 x2) 30 1792 (by omega) slices_S512x128_o0_30_S512x1 shapeCasts_S512x1_S512x1 broadcasts_S512x1_S512x128 (GC X W A D o) inb_S512x2048_S512x128_0_1792
      (cpiece X W A D o ho ho' c arg1 harg1 arg2 harg2 arg3 harg3 x0 x1 x2 h0 h1 h2 h3 fX fW 14 1792 (by omega) rfl),
    col_piece (kernelRun0_A.sl.r_4 (F := Ideal) c arg1 harg1 arg2 harg2 arg3 harg3 x0 x1 x2) 29 1664 (by omega) slices_S512x128_o0_29_S512x1 shapeCasts_S512x1_S512x1 broadcasts_S512x1_S512x128 (GC X W A D o) inb_S512x2048_S512x128_0_1664
      (cpiece X W A D o ho ho' c arg1 harg1 arg2 harg2 arg3 harg3 x0 x1 x2 h0 h1 h2 h3 fX fW 13 1664 (by omega) rfl),
    col_piece (kernelRun0_A.sl.r_4 (F := Ideal) c arg1 harg1 arg2 harg2 arg3 harg3 x0 x1 x2) 28 1536 (by omega) slices_S512x128_o0_28_S512x1 shapeCasts_S512x1_S512x1 broadcasts_S512x1_S512x128 (GC X W A D o) inb_S512x2048_S512x128_0_1536
      (cpiece X W A D o ho ho' c arg1 harg1 arg2 harg2 arg3 harg3 x0 x1 x2 h0 h1 h2 h3 fX fW 12 1536 (by omega) rfl),
    col_piece (kernelRun0_A.sl.r_4 (F := Ideal) c arg1 harg1 arg2 harg2 arg3 harg3 x0 x1 x2) 27 1408 (by omega) slices_S512x128_o0_27_S512x1 shapeCasts_S512x1_S512x1 broadcasts_S512x1_S512x128 (GC X W A D o) inb_S512x2048_S512x128_0_1408
      (cpiece X W A D o ho ho' c arg1 harg1 arg2 harg2 arg3 harg3 x0 x1 x2 h0 h1 h2 h3 fX fW 11 1408 (by omega) rfl),
    col_piece (kernelRun0_A.sl.r_4 (F := Ideal) c arg1 harg1 arg2 harg2 arg3 harg3 x0 x1 x2) 26 1280 (by omega) slices_S512x128_o0_26_S512x1 shapeCasts_S512x1_S512x1 broadcasts_S512x1_S512x128 (GC X W A D o) inb_S512x2048_S512x128_0_1280
      (cpiece X W A D o ho ho' c arg1 harg1 arg2 harg2 arg3 harg3 x0 x1 x2 h0 h1 h2 h3 fX fW 10 1280 (by omega) rfl),
    col_piece (kernelRun0_A.sl.r_4 (F := Ideal) c arg1 harg1 arg2 harg2 arg3 harg3 x0 x1 x2) 25 1152 (by omega) slices_S512x128_o0_25_S512x1 shapeCasts_S512x1_S512x1 broadcasts_S512x1_S512x128 (GC X W A D o) inb_S512x2048_S512x128_0_1152
      (cpiece X W A D o ho ho' c arg1 harg1 arg2 harg2 arg3 harg3 x0 x1 x2 h0 h1 h2 h3 fX fW 9 1152 (by omega) rfl),
    col_piece (kernelRun0_A.sl.r_4 (F := Ideal) c arg1 harg1 arg2 harg2 arg3 harg3 x0 x1 x2) 24 1024 (by omega) slices_S512x128_o0_24_S512x1 shapeCasts_S512x1_S512x1 broadcasts_S512x1_S512x128 (GC X W A D o) inb_S512x2048_S512x128_0_1024
      (cpiece X W A D o ho ho' c arg1 harg1 arg2 harg2 arg3 harg3 x0 x1 x2 h0 h1 h2 h3 fX fW 8 1024 (by omega) rfl),
    col_piece (kernelRun0_A.sl.r_4 (F := Ideal) c arg1 harg1 arg2 harg2 arg3 harg3 x0 x1 x2) 23 896 (by omega) slices_S512x128_o0_23_S512x1 shapeCasts_S512x1_S512x1 broadcasts_S512x1_S512x128 (GC X W A D o) inb_S512x2048_S512x128_0_896
      (cpiece X W A D o ho ho' c arg1 harg1 arg2 harg2 arg3 harg3 x0 x1 x2 h0 h1 h2 h3 fX fW 7 896 (by omega) rfl),
    col_piece (kernelRun0_A.sl.r_4 (F := Ideal) c arg1 harg1 arg2 harg2 arg3 harg3 x0 x1 x2) 22 768 (by omega) slices_S512x128_o0_22_S512x1 shapeCasts_S512x1_S512x1 broadcasts_S512x1_S512x128 (GC X W A D o) inb_S512x2048_S512x128_0_768
      (cpiece X W A D o ho ho' c arg1 harg1 arg2 harg2 arg3 harg3 x0 x1 x2 h0 h1 h2 h3 fX fW 6 768 (by omega) rfl),
    col_piece (kernelRun0_A.sl.r_4 (F := Ideal) c arg1 harg1 arg2 harg2 arg3 harg3 x0 x1 x2) 21 640 (by omega) slices_S512x128_o0_21_S512x1 shapeCasts_S512x1_S512x1 broadcasts_S512x1_S512x128 (GC X W A D o) inb_S512x2048_S512x128_0_640
      (cpiece X W A D o ho ho' c arg1 harg1 arg2 harg2 arg3 harg3 x0 x1 x2 h0 h1 h2 h3 fX fW 5 640 (by omega) rfl),
    col_piece (kernelRun0_A.sl.r_4 (F := Ideal) c arg1 harg1 arg2 harg2 arg3 harg3 x0 x1 x2) 20 512 (by omega) slices_S512x128_o0_20_S512x1 shapeCasts_S512x1_S512x1 broadcasts_S512x1_S512x128 (GC X W A D o) inb_S512x2048_S512x128_0_512
      (cpiece X W A D o ho ho' c arg1 harg1 arg2 harg2 arg3 harg3 x0 x1 x2 h0 h1 h2 h3 fX fW 4 512 (by omega) rfl),
    col_piece (kernelRun0_A.sl.r_4 (F := Ideal) c arg1 harg1 arg2 harg2 arg3 harg3 x0 x1 x2) 19 384 (by omega) slices_S512x128_o0_19_S512x1 shapeCasts_S512x1_S512x1 broadcasts_S512x1_S512x128 (GC X W A D o) inb_S512x2048_S512x128_0_384
      (cpiece X W A D o ho ho' c arg1 harg1 arg2 harg2 arg3 harg3 x0 x1 x2 h0 h1 h2 h3 fX fW 3 384 (by omega) rfl),
    col_piece (kernelRun0_A.sl.r_4 (F := Ideal) c arg1 harg1 arg2 harg2 arg3 harg3 x0 x1 x2) 18 256 (by omega) slices_S512x128_o0_18_S512x1 shapeCasts_S512x1_S512x1 broadcasts_S512x1_S512x128 (GC X W A D o) inb_S512x2048_S512x128_0_256
      (cpiece X W A D o ho ho' c arg1 harg1 arg2 harg2 arg3 harg3 x0 x1 x2 h0 h1 h2 h3 fX fW 2 256 (by omega) rfl),
    col_piece (kernelRun0_A.sl.r_4 (F := Ideal) c arg1 harg1 arg2 harg2 arg3 harg3 x0 x1 x2) 17 128 (by omega) slices_S512x128_o0_17_S512x1 shapeCasts_S512x1_S512x1 broadcasts_S512x1_S512x128 (GC X W A D o) inb_S512x2048_S512x128_0_128
      (cpiece X W A D o ho ho' c arg1 harg1 arg2 harg2 arg3 harg3 x0 x1 x2 h0 h1 h2 h3 fX fW 1 128 (by omega) rfl),
    col_piece (kernelRun0_A.sl.r_4 (F := Ideal) c arg1 harg1 arg2 harg2 arg3 harg3 x0 x1 x2) 16 0 (by omega) slices_S512x128_o0_16_S512x1 shapeCasts_S512x1_S512x1 broadcasts_S512x1_S512x128 (GC X W A D o) inb_S512x2048_S512x128_0_0
      (cpiece X W A D o ho ho' c arg1 harg1 arg2 harg2 arg3 harg3 x0 x1 x2 h0 h1 h2 h3 fX fW 0 0 (by omega) rfl),
    trivial⟩
  unfold out0_A_4
  rw [View.read_writes_junk_eq_canon]
  exact View.canon_apply_of_pieces (GC X W A D o) _ hp.mem (ix2 r q) (cover0_A_4 (F := Ideal) c i arg1 harg1 arg2 harg2 arg3 harg3 arg4 harg4 arg5 harg5 arg6 harg6 arg7 harg7 x0 x1 x2 (ix2 r q))

include h0 h1 h2 h3 fX fW ho' in
/-- The running sums a point stores, one row a head. -/
theorem out5 (h : Fin 16) (r : Fin 512) :
    (out0_A_5 (F := Ideal) c i arg1 harg1 arg2 harg2 arg3 harg3 arg4 harg4 arg5 harg5 arg6 harg6 arg7 harg7 x0 x1 x2 (ix2 h r) : EReal) = run (gAt X W A D h) (o + r.val) := by
  have hh := h.isLt
  unfold out0_A_5
  rw [View.read_writes_junk_eq_canon]
  refine (congrFun (View.canon_unit_zero hz inb_S16x512_S16x512_0_0 _) (ix2 h r)).trans ?_
  refine Eq.trans ?_ ((congrFun (r4_eq c arg1 harg1 arg2 harg2 arg3 harg3 x0 x1 x2) (ix2 r (d16 h))).trans
    (gc_apply X W A D o ho ho' x0 x1 x2 h0 h1 h2 h3 fX fW r h))
  refine (extractStridedSlice_apply _ _ slices_S128x512_o16_0_S16x512 (ix2 h r) (ix2 (d16 h) r) fun a => ?_).trans
    (transpose_apply _ _ transposes_S512x128_p1_0_S128x512 _ (ix2 r (d16 h)) fun b => ?_)
  · match a with
    | ⟨0, _⟩ => rfl
    | ⟨1, _⟩ => show r.val = 0 + r.val; omega
  · match b with
    | ⟨0, _⟩ => rfl
    | ⟨1, _⟩ => rfl

/-- The activations a point stores. -/
theorem out6 (r : Fin 512) (q : Fin 4096) :
    (out0_A_6 (F := Ideal) c i arg1 harg1 arg2 harg2 arg3 harg3 arg4 harg4 arg5 harg5 arg6 harg6 arg7 harg7 x0 x1 x2 (ix2 r q) : EReal) = x0 (ix2 r q) := by
  unfold out0_A_6
  rw [View.read_writes_junk_eq_canon]
  refine (congrFun (View.canon_unit_zero hz inb_S512x4096_S512x4096_0_0 _) (ix2 r q)).trans ?_
  refine (congrFun (congrArg (k0_pay5 (F := Ideal)) (ld_whole arg1 harg1 x0 inb_S512x4096_S512x4096_0_0)) (ix2 r q)).trans ?_
  unfold k0_pay5 k0_pay4
  rw [shapeCast_self]
  rfl

end Block

end Cert.Proof.GtOut

end
-- ==== Proof.GtHost.lean ====
/- The call `dn_gates`: the arrays that its launch reads, entry by entry in the arguments, and what the precondition says of them. -/
module

public import proofs.«01_k».proof.Proof.GtOut
public import proofs.«01_k».proof.Pre_finite_gt
public import proofs.«01_k».proof.Proof.Gen.Pre_finite_gt
public import Idealize.ShloMosaic.Lib.Routing.OpsSet
public import Idealize.ShloMosaic.Lib.StableHlo.Run

@[expose] public section

noncomputable section

namespace Cert.Proof.Gt

open Idealize.ShloMosaic Idealize.SL.Sem Idealize.ShloMosaic.TcCoe Idealize.ShloMosaic.ValueIdx
open Cert.KernelGtIdeal Cert.KernelGtIdeal.Gen
open Cert.Proof.GtMath Cert.Proof.GtRef Cert.Proof.GtBody
open Idealize.ShloMosaic.Pipeline (Dat)

/-- The scatters' index words: a row of the table, and the column 16 that both start at. -/
abbrev words (a : BitVec 32) : IVec S2 32 :=
  concatenate S2 0 [⟨S1, broadcastInDim S1 ![] bcast_S_S1 (constantI S_ 32 a)⟩,
    ⟨S1, broadcastInDim S1 ![] bcast_S_S1 (constantI S_ 32 16#32)⟩] concatenates_S1_S1_S2_d0

/-- Where the first scatter's update `k` lands: row 0, column 16 + k. -/
theorem lands0 : ∀ k : Fin 16, scatter_S8x128_S2_S16_0_0_01_0.resultIdx? (ix1 k : S16.Idx) (words 0#32)
    = some (ix2 (0 : Fin 8) (d16 k) : S8x128.Idx) := by decide +kernel

/-- Where the second scatter's update `k` lands: row 1, column 16 + k. -/
theorem lands1 : ∀ k : Fin 16, scatter_S8x128_S2_S16_0_0_01_0.resultIdx? (ix1 k : S16.Idx) (words 1#32)
    = some (ix2 (1 : Fin 8) (d16 k) : S8x128.Idx) := by decide +kernel

theorem d16_inj (h h' : Fin 16) (e : d16 h = d16 h') : h = h' := Fin.ext (by
  have := congrArg Fin.val e
  dsimp only at this
  omega)

/-- The table's two rows after both scatters. -/
theorem table0 (z : S8x128.Idx → EReal) (u v : S16.Idx → EReal) (h : Fin 16) :
    Host.scatter scatter_S8x128_S2_S16_0_0_01_0 (fun _ b => b)
      (Host.scatter scatter_S8x128_S2_S16_0_0_01_0 (fun _ b => b) z (words 0#32) u) (words 1#32) v (ix2 (0 : Fin 8) (d16 h))
      = u (ix1 h) := by
  rw [Routing.scatter_set_miss _ _ _ _ _ (fun k hk => ?_)]
  · refine Routing.scatter_set_hit _ _ _ _ _ _ (fun k hk => ?_) (ix1 h) (lands0 h)
    obtain ⟨k, rfl⟩ : ∃ k' : Fin 16, k = ix1 k' := ⟨k 0, eq_ix1 k⟩
    rw [lands0 k] at hk
    have e : d16 k = d16 h := congrFun (Option.some.inj hk) 1
    rw [d16_inj k h e]
  · obtain ⟨k, rfl⟩ : ∃ k' : Fin 16, k = ix1 k' := ⟨k 0, eq_ix1 k⟩
    rw [lands1 k] at hk
    have e : (1 : Fin 8) = 0 := congrFun (Option.some.inj hk) 0
    exact absurd e (by decide)

theorem table1 (z : S8x128.Idx → EReal) (v : S16.Idx → EReal) (h : Fin 16) :
    Host.scatter scatter_S8x128_S2_S16_0_0_01_0 (fun _ b => b) z (words 1#32) v (ix2 (1 : Fin 8) (d16 h)) = v (ix1 h) := by
  refine Routing.scatter_set_hit _ _ _ _ _ _ (fun k hk => ?_) (ix1 h) (lands1 h)
  obtain ⟨k, rfl⟩ : ∃ k' : Fin 16, k = ix1 k' := ⟨k 0, eq_ix1 k⟩
  rw [lands1 k] at hk
  have e : d16 k = d16 h := congrFun (Option.some.inj hk) 1
  rw [d16_inj k h e]

variable (m : (ℓ : Loc nD τ sig) → Buf (Elt Ideal) ℓ)

/-- The arguments. -/
abbrev aX (c : Dev nD) : S1x16384x4096.Idx → EReal := m ((c : Thread nD τ).loc main_arg0)
abbrev aW (c : Dev nD) : S1x4096x25632.Idx → EReal := m ((c : Thread nD τ).loc main_arg1)
abbrev aA (c : Dev nD) : S1x16.Idx → EReal := m ((c : Thread nD τ).loc main_arg2)
abbrev aD (c : Dev nD) : S1x16.Idx → EReal := m ((c : Thread nD τ).loc main_arg3)

/-- The operand arrays as the call finds them. -/
abbrev xArr (c : Dev nD) : S16384x4096.Idx → EReal := V m c main_v0
abbrev wArr (c : Dev nD) : S25632x4096.Idx → EReal := V m c main_v2
abbrev pArr (c : Dev nD) : S8x128.Idx → EReal := V m c main_v15

theorem xArr_apply (c : Dev nD) (r : Fin 16384) (k : Fin 4096) : xArr m c (ix2 r k) = aX m c (ix3 (0 : Fin 1) r k) := by
  have e : (V m c main_v0 : S16384x4096.Idx → EReal) = shapeCast S16384x4096 (aX m c) shapeCasts_S1x16384x4096_S16384x4096 := by
    unfold V hostOps0
    after_results <;> rfl
  rw [xArr, e]
  refine shapeCast_apply _ _ (ix2 r k) (ix3 (0 : Fin 1) r k) ?_
  rw [Shape.rowMajor_val_three, Shape.rowMajor_val_two]
  show (0 * 16384 + r.val) * 4096 + k.val = r.val * 4096 + k.val
  omega

theorem wArr_apply (c : Dev nD) (n : Fin 25632) (k : Fin 4096) : wArr m c (ix2 n k) = aW m c (ix3 (0 : Fin 1) k n) := by
  have e : (V m c main_v2 : S25632x4096.Idx → EReal) = transpose S25632x4096 [1, 0]
      (shapeCast S4096x25632 (aW m c) shapeCasts_S1x4096x25632_S4096x25632) transposes_S4096x25632_S25632x4096_1_0 := by
    unfold V hostOps0
    after_results <;> rfl
  rw [wArr, e]
  refine (transpose_apply _ _ transposes_S4096x25632_S25632x4096_1_0 (ix2 n k) (ix2 k n) (fun a => by
    match a with
    | ⟨0, _⟩ => rfl
    | ⟨1, _⟩ => rfl)).trans ?_
  refine shapeCast_apply _ _ (ix2 k n) (ix3 (0 : Fin 1) k n) ?_
  rw [Shape.rowMajor_val_three, Shape.rowMajor_val_two]
  show (0 * 4096 + k.val) * 25632 + n.val = k.val * 25632 + n.val
  omega

/-- A vector of per-head numbers without its leading unit axis. -/
theorem head_vec (x : S1x16.Idx → EReal) (h : Fin 16) : shapeCast S16 x shapeCasts_S1x16_S16 (ix1 h) = x (ix2 (0 : Fin 1) h) := by
  refine shapeCast_apply _ _ (ix1 h) (ix2 (0 : Fin 1) h) ?_
  rw [Shape.rowMajor_val_two, Shape.rowMajor_val_one]
  show 0 * 16 + h.val = h.val
  omega

theorem pArr_eq (c : Dev nD) : pArr m c = Host.scatter scatter_S8x128_S2_S16_0_0_01_0 (fun _ b => b)
      (Host.scatter scatter_S8x128_S2_S16_0_0_01_0 (fun _ b => b)
        (broadcastInDim S8x128 ![] bcast_S_S8x128 (constant (F := Ideal) S_ .f32 0x00000000#32)) (words 0#32)
        (Host.negf (F := Ideal) (φ := .f32) (Host.exp (F := Ideal) (φ := .f32) (shapeCast S16 (aA m c) shapeCasts_S1x16_S16))))
      (words 1#32) (shapeCast S16 (aD m c) shapeCasts_S1x16_S16) := by
  show (V m c main_v15 : S8x128.Idx → EReal) = _
  unfold V hostOps0
  after_results <;> rfl

theorem pArr0 (c : Dev nD) (h : Fin 16) : pArr m c (ix2 (0 : Fin 8) (d16 h)) = -Ideal.exp (aA m c (ix2 (0 : Fin 1) h)) := by
  rw [pArr_eq, table0]
  show -Ideal.exp (shapeCast S16 (aA m c) shapeCasts_S1x16_S16 (ix1 h)) = _
  rw [head_vec]

theorem pArr1 (c : Dev nD) (h : Fin 16) : pArr m c (ix2 (1 : Fin 8) (d16 h)) = aD m c (ix2 (0 : Fin 1) h) := by
  rw [pArr_eq, table1, head_vec]

/-- An extended real whose absolute value compares below +∞ is finite. -/
theorem finite_of_cmp (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  constructor
  · rintro rfl
    simp [Ideal.cmp] at h
  · rintro rfl
    simp [Ideal.cmp] at h

/-- The precondition, read entry by entry. -/
theorem fin_x (hp : Cert.Pre_KernelGtIdeal_finite_gt (hPre_finite_gt := Cert.Pre_finite_gt.Gen.facts) m) (c : Dev nD) (i : S1x16384x4096.Idx) :
    aX m c i ≠ ⊤ ∧ aX m c i ≠ ⊥ :=
  finite_of_cmp _ (congrFun (hp c).1 i)

theorem fin_w (hp : Cert.Pre_KernelGtIdeal_finite_gt (hPre_finite_gt := Cert.Pre_finite_gt.Gen.facts) m) (c : Dev nD) (k : Fin 4096) (j : Fin 32) :
    aW m c (ix3 (0 : Fin 1) k (gcol j)) ≠ ⊤ ∧ aW m c (ix3 (0 : Fin 1) k (gcol j)) ≠ ⊥ := by
  have h := congrFun (hp c).2 (ix3 (0 : Fin 1) k j)
  have e : extractStridedSlice Cert.Pre_finite_gt.S1x4096x32 ![0, 0, 8192] (aW m c)
      Cert.Pre_finite_gt.Gen.slices_S1x4096x25632_S1x4096x32_0_0_8192 (ix3 (0 : Fin 1) k j) = aW m c (ix3 (0 : Fin 1) k (gcol j)) := by
    refine extractStridedSlice_apply _ _ _ _ (ix3 (0 : Fin 1) k (gcol j)) (fun a => ?_)
    match a with
    | ⟨0, _⟩ => rfl
    | ⟨1, _⟩ => show k.val = 0 + k.val; omega
    | ⟨2, _⟩ => rfl
  rw [← e]
  exact finite_of_cmp _ h

end Cert.Proof.Gt

end
-- ==== Proof.Gt.lean ====
/- The call `dn_gates`: its four result arrays at the ideal instance, block by block, and the reference's. -/
module

public import proofs.«01_k».proof.Proof.GtHost

@[expose] public section

noncomputable section

namespace Cert.Proof.Gt

open Idealize.ShloMosaic Idealize.SL.Sem Idealize.ShloMosaic.TcCoe Idealize.ShloMosaic.ValueIdx
open Cert.KernelGtIdeal Cert.KernelGtIdeal.Gen
open Cert.Proof.GtMath Cert.Proof.GtRef Cert.Proof.GtBody Cert.Proof.GtOut
open Idealize.ShloMosaic.Pipeline (Dat)

/-- The windows' index maps over the grid, in closed form. -/
theorem idx_facts : ∀ t : Fin cfg0.N, (win0_0.index t 0 = t.val ∧ win0_0.index t 1 = 0)
    ∧ (win0_1.index t 0 = 64 ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = t.val)
    ∧ (win0_6.index t 0 = t.val ∧ win0_6.index t 1 = 0) :=
  (by decide +kernel : ∀ t : Fin grid0.N, _)

theorem t_lt (t : Fin cfg0.N) : t.val < 32 := Nat.lt_of_lt_of_eq t.isLt N_0

theorem o_le (t : Fin cfg0.N) : 512 * t.val + 512 ≤ 16384 := by
  have := t_lt t
  omega

theorem o_mod (t : Fin cfg0.N) : 512 * t.val % 64 = 0 := by omega

variable (m : (ℓ : Loc nD τ sig) → Buf (Elt Ideal) ℓ)

theorem iblk0_apply (c : Dev nD) (t : Fin cfg0.N) (r : Fin 512) (k : Fin 4096) :
    (iblk m c 0 t (ix2 r k) : EReal) = aX m c (ix3 (0 : Fin 1) (tok (512 * t.val) (o_le t) r) k) := by
  refine Eq.trans ?_ (xArr_apply m c (tok (512 * t.val) (o_le t) r) k)
  show xArr m c ((win0_0.rect t).emb (ix2 r k)) = _
  refine congrArg (xArr m c) (Shape.idx_ext₂ ?_ ?_)
  · rw [Pipeline.Window.rect_emb_val win0_0 t _ 0 rfl, (idx_facts t).1.1]
    show t.val * 512 + r.val = 512 * t.val + r.val
    omega
  · rw [Pipeline.Window.rect_emb_val win0_0 t _ 1 rfl, (idx_facts t).1.2]
    show 0 * 4096 + k.val = k.val
    omega

theorem row_eq (n : ℕ) (j : Fin 32) (h : n = 64) : n * 128 + (c32 j).val = (gcol j).val := by
  subst h
  rfl

theorem X1_apply (c : Dev nD) (t : Fin cfg0.N) (j : Fin 32) (k : Fin 4096) :
    (X0_1 m c t (ix2 (c32 j) k) : EReal) = aW m c (ix3 (0 : Fin 1) k (gcol j)) := by
  refine Eq.trans ?_ (wArr_apply m c (gcol j) k)
  unfold X0_1 Pipeline.Window.fill
  rw [dif_pos (moved0_1 t _)]
  show wArr m c ((win0_1.rect t).emb _) = _
  refine congrArg (wArr m c) (Shape.idx_ext₂ ?_ ?_)
  · refine (Pipeline.Window.rect_emb_val win0_1 t _ 0 rfl).trans ?_
    show win0_1.index t 0 * 128 + (c32 j).val = (gcol j).val
    exact row_eq _ j (idx_facts t).2.1.1
  · rw [Pipeline.Window.rect_emb_val win0_1 t _ 1 rfl, (idx_facts t).2.1.2]
    show 0 * 4096 + k.val = k.val
    omega

theorem iblk2_apply (c : Dev nD) (t : Fin cfg0.N) (a : Fin 8) (b : Fin 128) :
    (iblk m c 2 t (ix2 a b) : EReal) = pArr m c (ix2 a b) := by
  show pArr m c ((win0_2.rect t).emb (ix2 a b)) = _
  refine congrArg (pArr m c) (Shape.idx_ext₂ ?_ ?_)
  · rw [Pipeline.Window.rect_emb_val win0_2 t _ 0 rfl, (idx_facts t).2.2.1.1]
    show 0 * 8 + a.val = a.val
    omega
  · rw [Pipeline.Window.rect_emb_val win0_2 t _ 1 rfl, (idx_facts t).2.2.1.2]
    show 0 * 128 + b.val = b.val
    omega

/-- The arrays after the run as functions: the strengths, the chunks' running sums spread over lanes, the same sums by head, and
    the tokens. -/
abbrev G3 (c : Dev nD) : Buf (Elt Ideal) ((c : Thread nD τ).loc main_v16_0) :=
  fun i : S16384x2048.Idx => betaAt (aX m c) (aW m c) (i 0) (hd (i 1))
abbrev G4 (c : Dev nD) : Buf (Elt Ideal) ((c : Thread nD τ).loc main_v16_1) :=
  fun i : S16384x2048.Idx => run (gAt (aX m c) (aW m c) (aA m c) (aD m c) (hd (i 1))) (i 0).val
abbrev G5 (c : Dev nD) : Buf (Elt Ideal) ((c : Thread nD τ).loc main_v16_2) :=
  fun i : S16x16384.Idx => run (gAt (aX m c) (aW m c) (aA m c) (aD m c) (i 0)) (i 1).val
abbrev G6 (c : Dev nD) : Buf (Elt Ideal) ((c : Thread nD τ).loc main_v16_3) :=
  fun i : S16384x4096.Idx => aX m c (ix3 (0 : Fin 1) (i 0) (i 1))

section Blocks

variable (hp : Cert.Pre_KernelGtIdeal_finite_gt (hPre_finite_gt := Cert.Pre_finite_gt.Gen.facts) m)
include hp

/-- What a grid point writes back of each result is its block of the function. -/
theorem flushed3_eq (c : Dev nD) (t : Fin cfg0.N) :
    (dats m 0 c).flushed 3 t = ((cfg0.win 3).blk t).view.read (Elt Ideal) (G3 m c) := by
  rw [Value.flushed3_A]
  funext j
  obtain ⟨r, q, rfl⟩ : ∃ (r : Fin 512) (q : Fin 2048), j = ix2 r q := ⟨j 0, j 1, eq_ix2 j⟩
  refine (out3 (aX m c) (aW m c) (512 * t.val) (o_le t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (X0_1 m c t) (iblk m c 2 t) (iblk0_apply m c t) (X1_apply m c t) (fin_x m hp c) (fin_w m hp c) r q).trans ?_
  have e : (win0_3.rect t).emb (ix2 r q) = ix2 (tok (512 * t.val) (o_le t) r) (q) := Shape.idx_ext₂ (by
    rw [Pipeline.Window.rect_emb_val win0_3 t _ 0 rfl, (idx_facts t).2.2.2.1.1]
    show t.val * 512 + r.val = 512 * t.val + r.val
    omega) (by
    rw [Pipeline.Window.rect_emb_val win0_3 t _ 1 rfl, (idx_facts t).2.2.2.1.2]
    show 0 * 2048 + q.val = q.val
    omega)
  refine Eq.trans ?_ (congrArg (G3 m c) e).symm
  rfl

theorem flushed4_eq (c : Dev nD) (t : Fin cfg0.N) :
    (dats m 0 c).flushed 4 t = ((cfg0.win 4).blk t).view.read (Elt Ideal) (G4 m c) := by
  rw [Value.flushed4_A]
  funext j
  obtain ⟨r, q, rfl⟩ : ∃ (r : Fin 512) (q : Fin 2048), j = ix2 r q := ⟨j 0, j 1, eq_ix2 j⟩
  refine (out4 (aX m c) (aW m c) (aA m c) (aD m c) (512 * t.val) (o_le t) (o_mod t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (X0_1 m c t) (iblk m c 2 t) (iblk0_apply m c t) (X1_apply m c t) (fun h => (iblk2_apply m c t 0 (d16 h)).trans (pArr0 m c h)) (fun h => (iblk2_apply m c t 1 (d16 h)).trans (pArr1 m c h)) (fin_x m hp c) (fin_w m hp c) r q).trans ?_
  have e : (win0_4.rect t).emb (ix2 r q) = ix2 (tok (512 * t.val) (o_le t) r) (q) := Shape.idx_ext₂ (by
    rw [Pipeline.Window.rect_emb_val win0_4 t _ 0 rfl, (idx_facts t).2.2.2.2.1.1]
    show t.val * 512 + r.val = 512 * t.val + r.val
    omega) (by
    rw [Pipeline.Window.rect_emb_val win0_4 t _ 1 rfl, (idx_facts t).2.2.2.2.1.2]
    show 0 * 2048 + q.val = q.val
    omega)
  refine Eq.trans ?_ (congrArg (G4 m c) e).symm
  rfl

theorem flushed5_eq (c : Dev nD) (t : Fin cfg0.N) :
    (dats m 0 c).flushed 5 t = ((cfg0.win 5).blk t).view.read (Elt Ideal) (G5 m c) := by
  rw [Value.flushed5_A]
  funext j
  obtain ⟨h, r, rfl⟩ : ∃ (h : Fin 16) (r : Fin 512), j = ix2 h r := ⟨j 0, j 1, eq_ix2 j⟩
  refine (out5 (aX m c) (aW m c) (aA m c) (aD m c) (512 * t.val) (o_le t) (o_mod t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (X0_1 m c t) (iblk m c 2 t) (iblk0_apply m c t) (X1_apply m c t) (fun h => (iblk2_apply m c t 0 (d16 h)).trans (pArr0 m c h)) (fun h => (iblk2_apply m c t 1 (d16 h)).trans (pArr1 m c h)) (fin_x m hp c) (fin_w m hp c) h r).trans ?_
  have e : (win0_5.rect t).emb (ix2 h r) = ix2 (h) (tok (512 * t.val) (o_le t) r) := Shape.idx_ext₂ (by
    rw [Pipeline.Window.rect_emb_val win0_5 t _ 0 rfl, (idx_facts t).2.2.2.2.2.1.1]
    show 0 * 16 + h.val = h.val
    omega) (by
    rw [Pipeline.Window.rect_emb_val win0_5 t _ 1 rfl, (idx_facts t).2.2.2.2.2.1.2]
    show t.val * 512 + r.val = 512 * t.val + r.val
    omega)
  refine Eq.trans ?_ (congrArg (G5 m c) e).symm
  rfl

omit hp in
theorem flushed6_eq (c : Dev nD) (t : Fin cfg0.N) :
    (dats m 0 c).flushed 6 t = ((cfg0.win 6).blk t).view.read (Elt Ideal) (G6 m c) := by
  rw [Value.flushed6_A]
  funext j
  obtain ⟨r, q, rfl⟩ : ∃ (r : Fin 512) (q : Fin 4096), j = ix2 r q := ⟨j 0, j 1, eq_ix2 j⟩
  refine (out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (X0_1 m c t) (iblk m c 2 t) r q).trans ?_
  have e : (win0_6.rect t).emb (ix2 r q) = ix2 (tok (512 * t.val) (o_le t) r) (q) := Shape.idx_ext₂ (by
    rw [Pipeline.Window.rect_emb_val win0_6 t _ 0 rfl, (idx_facts t).2.2.2.2.2.2.1]
    show t.val * 512 + r.val = 512 * t.val + r.val
    omega) (by
    rw [Pipeline.Window.rect_emb_val win0_6 t _ 1 rfl, (idx_facts t).2.2.2.2.2.2.2]
    show 0 * 4096 + q.val = q.val
    omega)
  refine Eq.trans ?_ (congrArg (G6 m c) e).symm
  exact iblk0_apply m c t r q

end Blocks

/-- Membership in a block of a result, as bounds on the two coordinates. -/
theorem mem_blk3 (t : Fin cfg0.N) (i : S16384x2048.Idx) :
    i ∈ ((cfg0.win 3).blk t).view.set ↔ ∀ a : Fin 2, win0_3.index t a * win0_3.size a ≤ (i a).val
      ∧ (i a).val < win0_3.index t a * win0_3.size a + win0_3.size a := by
  show i ∈ ((View.whole main_v16_0).slice (win0_3.rect t)).set ↔ _
  rw [View.set_slice_whole, Rect.mem_set_unit]
  exact Iff.rfl

theorem mem_blk4 (t : Fin cfg0.N) (i : S16384x2048.Idx) :
    i ∈ ((cfg0.win 4).blk t).view.set ↔ ∀ a : Fin 2, win0_4.index t a * win0_4.size a ≤ (i a).val
      ∧ (i a).val < win0_4.index t a * win0_4.size a + win0_4.size a := by
  show i ∈ ((View.whole main_v16_1).slice (win0_4.rect t)).set ↔ _
  rw [View.set_slice_whole, Rect.mem_set_unit]
  exact Iff.rfl

theorem mem_blk5 (t : Fin cfg0.N) (i : S16x16384.Idx) :
    i ∈ ((cfg0.win 5).blk t).view.set ↔ ∀ a : Fin 2, win0_5.index t a * win0_5.size a ≤ (i a).val
      ∧ (i a).val < win0_5.index t a * win0_5.size a + win0_5.size a := by
  show i ∈ ((View.whole main_v16_2).slice (win0_5.rect t)).set ↔ _
  rw [View.set_slice_whole, Rect.mem_set_unit]
  exact Iff.rfl

theorem mem_blk6 (t : Fin cfg0.N) (i : S16384x4096.Idx) :
    i ∈ ((cfg0.win 6).blk t).view.set ↔ ∀ a : Fin 2, win0_6.index t a * win0_6.size a ≤ (i a).val
      ∧ (i a).val < win0_6.index t a * win0_6.size a + win0_6.size a := by
  show i ∈ ((View.whole main_v16_3).slice (win0_6.rect t)).set ↔ _
  rw [View.set_slice_whole, Rect.mem_set_unit]
  exact Iff.rfl

/-- The blocks cover each result array. -/
theorem cover3 (i : S16384x2048.Idx) :
    ∃ t : Fin cfg0.N, (cfg0.win 3).flush t = true ∧ i ∈ ((cfg0.win 3).blk t).view.set := by
  have h0 : (i 0).val < 16384 := (i 0).isLt
  have h1 : (i 1).val < 2048 := (i 1).isLt
  have hN : cfg0.N = 32 := N_0
  refine ⟨⟨(i 0).val / 512, by omega⟩, flush0_3 _, ?_⟩
  rw [mem_blk3]
  intro a
  have hf := (idx_facts ⟨(i 0).val / 512, by omega⟩).2.2.2.1
  match a with
  | ⟨0, _⟩ =>
    show win0_3.index _ 0 * 512 ≤ (i 0).val ∧ (i 0).val < win0_3.index _ 0 * 512 + 512
    rw [hf.1]; dsimp only; omega
  | ⟨1, _⟩ =>
    show win0_3.index _ 1 * 2048 ≤ (i 1).val ∧ (i 1).val < win0_3.index _ 1 * 2048 + 2048
    rw [hf.2]; dsimp only; omega

theorem cover4 (i : S16384x2048.Idx) :
    ∃ t : Fin cfg0.N, (cfg0.win 4).flush t = true ∧ i ∈ ((cfg0.win 4).blk t).view.set := by
  have h0 : (i 0).val < 16384 := (i 0).isLt
  have h1 : (i 1).val < 2048 := (i 1).isLt
  have hN : cfg0.N = 32 := N_0
  refine ⟨⟨(i 0).val / 512, by omega⟩, flush0_4 _, ?_⟩
  rw [mem_blk4]
  intro a
  have hf := (idx_facts ⟨(i 0).val / 512, by omega⟩).2.2.2.2.1
  match a with
  | ⟨0, _⟩ =>
    show win0_4.index _ 0 * 512 ≤ (i 0).val ∧ (i 0).val < win0_4.index _ 0 * 512 + 512
    rw [hf.1]; dsimp only; omega
  | ⟨1, _⟩ =>
    show win0_4.index _ 1 * 2048 ≤ (i 1).val ∧ (i 1).val < win0_4.index _ 1 * 2048 + 2048
    rw [hf.2]; dsimp only; omega

theorem cover5 (i : S16x16384.Idx) :
    ∃ t : Fin cfg0.N, (cfg0.win 5).flush t = true ∧ i ∈ ((cfg0.win 5).blk t).view.set := by
  have h0 : (i 0).val < 16 := (i 0).isLt
  have h1 : (i 1).val < 16384 := (i 1).isLt
  have hN : cfg0.N = 32 := N_0
  refine ⟨⟨(i 1).val / 512, by omega⟩, flush0_5 _, ?_⟩
  rw [mem_blk5]
  intro a
  have hf := (idx_facts ⟨(i 1).val / 512, by omega⟩).2.2.2.2.2.1
  match a with
  | ⟨0, _⟩ =>
    show win0_5.index _ 0 * 16 ≤ (i 0).val ∧ (i 0).val < win0_5.index _ 0 * 16 + 16
    rw [hf.1]; dsimp only; omega
  | ⟨1, _⟩ =>
    show win0_5.index _ 1 * 512 ≤ (i 1).val ∧ (i 1).val < win0_5.index _ 1 * 512 + 512
    rw [hf.2]; dsimp only; omega

theorem cover6 (i : S16384x4096.Idx) :
    ∃ t : Fin cfg0.N, (cfg0.win 6).flush t = true ∧ i ∈ ((cfg0.win 6).blk t).view.set := by
  have h0 : (i 0).val < 16384 := (i 0).isLt
  have h1 : (i 1).val < 4096 := (i 1).isLt
  have hN : cfg0.N = 32 := N_0
  refine ⟨⟨(i 0).val / 512, by omega⟩, flush0_6 _, ?_⟩
  rw [mem_blk6]
  intro a
  have hf := (idx_facts ⟨(i 0).val / 512, by omega⟩).2.2.2.2.2.2
  match a with
  | ⟨0, _⟩ =>
    show win0_6.index _ 0 * 512 ≤ (i 0).val ∧ (i 0).val < win0_6.index _ 0 * 512 + 512
    rw [hf.1]; dsimp only; omega
  | ⟨1, _⟩ =>
    show win0_6.index _ 1 * 4096 ≤ (i 1).val ∧ (i 1).val < win0_6.index _ 1 * 4096 + 4096
    rw [hf.2]; dsimp only; omega

open Cert.ReferenceGtIdeal.Read in
/-- The arrays are the reference's results. -/
theorem G3_eq (c : Dev nD) : G3 m c = val_main_v28 (F := Ideal) (aX m c) (aW m c) := by
  funext i
  obtain ⟨r, q, rfl⟩ : ∃ (r : Fin 16384) (q : Fin 2048), i = ix2 r q := ⟨i 0, i 1, eq_ix2 i⟩
  exact (v28_apply (aX m c) (aW m c) r q).symm

open Cert.ReferenceGtIdeal.Read in
theorem G4_eq (c : Dev nD) : G4 m c = val_main_v30 (F := Ideal) (aX m c) (aW m c) (aA m c) (aD m c) := by
  funext i
  obtain ⟨r, q, rfl⟩ : ∃ (r : Fin 16384) (q : Fin 2048), i = ix2 r q := ⟨i 0, i 1, eq_ix2 i⟩
  exact (v30_apply (aX m c) (aW m c) (aA m c) (aD m c) r q).symm

open Cert.ReferenceGtIdeal.Read in
theorem G5_eq (c : Dev nD) : G5 m c = val_main_v31 (F := Ideal) (aX m c) (aW m c) (aA m c) (aD m c) := by
  funext i
  obtain ⟨h, r, rfl⟩ : ∃ (h : Fin 16) (r : Fin 16384), i = ix2 h r := ⟨i 0, i 1, eq_ix2 i⟩
  exact (v31_apply (aX m c) (aW m c) (aA m c) (aD m c) h r).symm

open Cert.ReferenceGtIdeal.Read in
theorem G6_eq (c : Dev nD) : G6 m c = val_main_v33 (F := Ideal) (aX m c) := by
  funext i
  obtain ⟨r, q, rfl⟩ : ∃ (r : Fin 16384) (q : Fin 4096), i = ix2 r q := ⟨i 0, i 1, eq_ix2 i⟩
  exact (v33_apply (aX m c) r q).symm

/-- The value claim: under the precondition, kernel and reference leave the same four arrays, and keep their arguments. -/
theorem algebraic : Cert.algebraic_KernelGtIdeal_ReferenceGtIdeal_pre_finite_gt
    (hKernelGtIdeal := Cert.KernelGtIdeal.Gen.facts) (hReferenceGtIdeal := Cert.ReferenceGtIdeal.Gen.facts)
    (hPre_finite_gt := Cert.Pre_finite_gt.Gen.facts) := by
  intro m g m' g' hp hm
  refine ⟨fun c => G3 m c, fun c => G4 m c, fun c => G5 m c, fun c => G6 m c, ?_, ?_⟩
  · refine (θ_run Cert.KernelGtIdeal.defs _ _).mono (fun r h c => ?_) (Value.run_blocks m g)
    exact ⟨(h c).1.trans ((dats m 0 c).arrAt_eq_of_cover 3 (G3 m c) (fun t _ => flushed3_eq m hp c t) cover3),
      (h c).2.1.trans ((dats m 0 c).arrAt_eq_of_cover 4 (G4 m c) (fun t _ => flushed4_eq m hp c t) cover4),
      (h c).2.2.1.trans ((dats m 0 c).arrAt_eq_of_cover 5 (G5 m c) (fun t _ => flushed5_eq m hp c t) cover5),
      (h c).2.2.2.1.trans ((dats m 0 c).arrAt_eq_of_cover 6 (G6 m c) (fun t _ => flushed6_eq m c t) cover6), (h c).2.2.2.2⟩
  · refine (θ_run Cert.ReferenceGtIdeal.defs _ _).mono (fun r h c => ?_) (Cert.ReferenceGtIdeal.Value.run m' g')
    obtain ⟨h0, h1, h2, h3⟩ := hm c
    refine ⟨((h c).1.trans (Cert.ReferenceGtIdeal.Read.val_main_v28_eq _ _)).trans ?_,
      ((h c).2.1.trans (Cert.ReferenceGtIdeal.Read.val_main_v30_eq _ _ _ _)).trans ?_,
      ((h c).2.2.1.trans (Cert.ReferenceGtIdeal.Read.val_main_v31_eq _ _ _ _)).trans ?_,
      ((h c).2.2.2.1.trans (Cert.ReferenceGtIdeal.Read.val_main_v33_eq _)).trans ?_, (h c).2.2.2.2⟩
    · rw [h0, h1]
      exact (G3_eq m c).symm
    · rw [h0, h1, h2, h3]
      exact (G4_eq m c).symm
    · rw [h0, h1, h2, h3]
      exact (G5_eq m c).symm
    · rw [h0]
      exact (G6_eq m c).symm

/-- The reference's frame under the precondition, which its run does not need. -/
theorem frame_ref_pre : Cert.quiescent_ReferenceGtIdeal_pre_finite_gt
    (hReferenceGtIdeal := Cert.ReferenceGtIdeal.Gen.facts) (hPre_finite_gt := Cert.Pre_finite_gt.Gen.facts) := by
  intro m g _
  exact (θ_run Cert.ReferenceGtIdeal.defs _ _).mono (fun r h => ⟨fun c => (h c).2.2.2.2,
    Idealize.ShloMosaic.sem_eq_zero_of_no_sems (by decide) r.2⟩) (Cert.ReferenceGtIdeal.Value.run m g)

end Cert.Proof.Gt

end
-- ==== Proof.Sl.lean ====
/- The call `slots`: for each of a row's eight chosen experts, the place of the row among the rows sorted by expert. The kernel
   looks the start of the expert's segment up by a masked sum and adds the rank; the reference indexes the starts. -/
module

public import proofs.«01_k».proof.Defs
public import proofs.«01_k».proof.Proof.Common
public import proofs.«01_k».proof.Proof.Gen.KernelSlIdeal.Value
public import proofs.«01_k».proof.Proof.Gen.ReferenceSlIdeal.Read
public import proofs.«01_k».proof.Proof.Gen.Pre_chosen
public import Idealize.ShloMosaic.Lib.StableHlo.Run
public import Idealize.ShloMosaic.Lib.WordCmp
public import Idealize.ShloMosaic.Lib.Affine

@[expose] public section

noncomputable section

namespace Cert.Proof.Sl

open Idealize.ShloMosaic Idealize.SL.Sem Idealize.ShloMosaic.TcCoe Idealize.ShloMosaic.ValueIdx
open Cert.KernelSlIdeal Cert.KernelSlIdeal.Gen
open Idealize.ShloMosaic.Pipeline (Dat)

/-! ## The round trip of a word through the reals -/

/-- A word read as a signed integer, taken as a real and converted back is the word: it is in the range of the conversion. -/
theorem fptosi_toInt (x : BitVec 32) : Ideal.fptosi 32 ((x.toInt : ℝ) : EReal) = x := by
  have h1 := BitVec.le_toInt x
  have h2 := BitVec.toInt_lt (x := x)
  unfold Ideal.fptosi
  rw [Ideal.toIntClamped_coe, Int.floor_intCast, Int.ceil_intCast, ite_self]
  have e : max (-((2 ^ (32 - 1) : Nat) : Int)) (min (((2 ^ (32 - 1) : Nat) : Int) - 1) x.toInt) = x.toInt := by
    norm_num at h1 h2 ⊢
    omega
  rw [e, BitVec.ofInt_toInt]

/-! ## One of the eight steps -/

/-- The column of looked-up starts for the choice in column `k`, as the body makes it. -/
def col (k : Nat) (hs : S1024x128.Slices ![0, k] S1024x1) (v0 : IVec S1024x128 32) (v5 : FVec Ideal S1024x128 .f32) :
    FVec Ideal S1024x1 .f32 :=
  shapeCast S1024x1 (multiReduction .add [1] S1024
    (select (cmpi .eq (iota .tc S1024x128 32 [1] iota_S1024x128_d1_w32)
        (broadcastTo S1024x128 (extractStridedSlice S1024x1 ![0, k] v0 hs) broadcasts_S1024x1_S1024x128))
      v5 (broadcast S1024x128 (Scalar.ofBits (F := Ideal) .f32 0x00000000#32)))
    0x00000000#32 reduces_S1024x128_S1024 (.inl rfl) rfl) shapeCasts_S1024_S1024x1

/-- The step: the column, as words, added to the array's column `k` and to no other. -/
def step (k : Nat) (hs : S1024x128.Slices ![0, k] S1024x1) (v0 : IVec S1024x128 32) (v5 : FVec Ideal S1024x128 .f32)
    (prev : IVec S1024x128 32) : IVec S1024x128 32 :=
  select (cmpi .eq (iota .tc S1024x128 32 [1] iota_S1024x128_d1_w32) (broadcast S1024x128 (BitVec.ofNat 32 k)))
    (addi prev (broadcastTo S1024x128 (fptosi 32 (col k hs v0 v5)) broadcasts_S1024x1_S1024x128)) prev

theorem iota_apply (r : Fin 1024) (q : Fin 128) :
    iota .tc S1024x128 32 [1] iota_S1024x128_d1_w32 (ix2 r q) = BitVec.ofNat 32 q.val := by
  show BitVec.ofNat 32 (0 * 128 + q.val) = _
  rw [Nat.zero_mul, Nat.zero_add]

/-- A column spread over the row. -/
theorem spread_apply {α : Type} (x : S1024x1.Idx → α) (r : Fin 1024) (q : Fin 128) :
    broadcastTo S1024x128 x broadcasts_S1024x1_S1024x128 (ix2 r q) = x (ix2 r (0 : Fin 1)) := by
  refine broadcastTo_apply x broadcasts_S1024x1_S1024x128 _ _ fun d => ?_
  match d with
  | ⟨0, _⟩ => rfl
  | ⟨1, _⟩ => rfl

/-- The masked sum picks the one entry whose position the choice names. -/
theorem col_apply (k : Fin 128) (hs : S1024x128.Slices ![0, k.val] S1024x1) (v0 : IVec S1024x128 32) (v5 : FVec Ideal S1024x128 .f32)
    (r : Fin 1024) (b : Fin 128) (hb : v0 (ix2 r k) = BitVec.ofNat 32 b.val) :
    col k.val hs v0 v5 (ix2 r (0 : Fin 1)) = v5 (ix2 r b) := by
  unfold col
  refine (shapeCast_apply _ _ (ix2 r (0 : Fin 1)) (ix1 r) ?_).trans
    ((Ideal.multiReduction_add_single _ _ reduces_S1024x128_S1024 _ _ (ix1 r)).trans ?_)
  · rw [Shape.rowMajor_val_one, Shape.rowMajor_val_two]
    show r.val = r.val * 1 + 0
    omega
  have hterm (q : Fin 128) :
      select (cmpi .eq (iota .tc S1024x128 32 [1] iota_S1024x128_d1_w32)
          (broadcastTo S1024x128 (extractStridedSlice S1024x1 ![0, k.val] v0 hs) broadcasts_S1024x1_S1024x128))
        v5 (broadcast S1024x128 (Scalar.ofBits (F := Ideal) .f32 0x00000000#32)) (ix2 r q)
      = if q = b then (v5 (ix2 r b) : EReal) else 0 := by
    show Scalar.select (IntOp.cmpi .eq (iota .tc S1024x128 32 [1] iota_S1024x128_d1_w32 (ix2 r q))
      (broadcastTo S1024x128 (extractStridedSlice S1024x1 ![0, k.val] v0 hs) broadcasts_S1024x1_S1024x128 (ix2 r q)))
      (v5 (ix2 r q) : EReal) (Ideal.ofBits .f32 0x00000000#32) = _
    have es : extractStridedSlice S1024x1 ![0, k.val] v0 hs (ix2 r (0 : Fin 1)) = v0 (ix2 r k) :=
      extractStridedSlice_apply ![0, k.val] v0 hs (ix2 r (0 : Fin 1)) (ix2 r k) (fun a => match a with
        | ⟨0, _⟩ => by show r.val = 0 + r.val; omega
        | ⟨1, _⟩ => by show k.val = k.val + 0; omega)
    rw [iota_apply, spread_apply, es, hb, ofBits_zero]
    have hq := q.isLt
    have hb' := b.isLt
    unfold Scalar.select
    rw [WordCmp.cmpi_eq_ofNat (by omega) (by omega)]
    by_cases h : q = b
    · subst h
      rw [if_pos rfl, decide_eq_true rfl]
      rfl
    · rw [if_neg h, decide_eq_false fun e => h (Fin.ext e)]
      rfl
  show (∑ q : Fin 128, _) = _
  refine (Finset.sum_congr rfl fun q _ => ?_).trans (Finset.sum_ite_eq' Finset.univ b fun _ => (v5 (ix2 r b) : EReal)) |>.trans
    (if_pos (Finset.mem_univ b))
  refine Eq.trans (congrArg _ ?_) (hterm q)
  exact Shape.idx_ext₂ rfl rfl

/-- The step read at an entry. -/
theorem step_apply (k : Fin 128) (hs : S1024x128.Slices ![0, k.val] S1024x1) (v0 : IVec S1024x128 32)
    (v5 : FVec Ideal S1024x128 .f32) (prev : IVec S1024x128 32) (r : Fin 1024) (q b : Fin 128)
    (hb : v0 (ix2 r k) = BitVec.ofNat 32 b.val) :
    step k.val hs v0 v5 prev (ix2 r q)
      = if q = k then prev (ix2 r q) + Ideal.fptosi 32 (v5 (ix2 r b)) else prev (ix2 r q) := by
  unfold step
  show Scalar.select (IntOp.cmpi .eq (iota .tc S1024x128 32 [1] iota_S1024x128_d1_w32 (ix2 r q)) (BitVec.ofNat 32 k.val))
    (prev (ix2 r q) + broadcastTo S1024x128 (fptosi (F := Ideal) 32 (col k.val hs v0 v5)) broadcasts_S1024x1_S1024x128 (ix2 r q))
    (prev (ix2 r q)) = _
  rw [iota_apply, spread_apply]
  have ef : fptosi (F := Ideal) 32 (col k.val hs v0 v5) (ix2 r (0 : Fin 1)) = Ideal.fptosi 32 (v5 (ix2 r b)) :=
    congrArg (Ideal.fptosi 32) (col_apply k hs v0 v5 r b hb)
  rw [ef]
  have hq := q.isLt
  have hk := k.isLt
  unfold Scalar.select
  rw [WordCmp.cmpi_eq_ofNat (by omega) (by omega)]
  by_cases h : q = k
  · subst h
    rw [if_pos rfl, decide_eq_true rfl]
    rfl
  · rw [if_neg h, decide_eq_false fun e => h (Fin.ext e)]
    rfl

/-- The step read at an entry, every choice of the row naming an expert. -/
theorem step_at (k : Nat) (hk : k < 8) (hs : S1024x128.Slices ![0, k] S1024x1) (v0 : IVec S1024x128 32)
    (v5 : FVec Ideal S1024x128 .f32) (prev : IVec S1024x128 32) (r : Fin 1024) (q : Fin 128)
    (hx : ∀ k : Fin 128, k.val < 8 → (v0 (ix2 r k)).toNat < 128) :
    step k hs v0 v5 prev (ix2 r q)
      = if q.val = k then prev (ix2 r q) + Ideal.fptosi 32 (v5 (ix2 r ⟨(v0 (ix2 r q)).toNat % 128, Nat.mod_lt _ (by decide)⟩))
        else prev (ix2 r q) := by
  have hk' : k < 128 := by omega
  have hlt := hx ⟨k, hk'⟩ hk
  have hb : v0 (ix2 r (⟨k, hk'⟩ : Fin 128))
      = BitVec.ofNat 32 (⟨(v0 (ix2 r (⟨k, hk'⟩ : Fin 128))).toNat % 128, Nat.mod_lt _ (by decide)⟩ : Fin 128).val := by
    show _ = BitVec.ofNat 32 ((v0 (ix2 r (⟨k, hk'⟩ : Fin 128))).toNat % 128)
    rw [Nat.mod_eq_of_lt hlt, BitVec.ofNat_toNat, BitVec.setWidth_eq]
  refine (step_apply ⟨k, hk'⟩ hs v0 v5 prev r q _ hb).trans ?_
  by_cases h : q = ⟨k, hk'⟩
  · subst h
    rw [if_pos rfl, if_pos rfl]
  · rw [if_neg h, if_neg fun e => h (Fin.ext e)]

/-! ## The block that a grid point leaves -/

/-- The start that a word names. -/
def startAt (S : S1x128.Idx → EReal) (w : BitVec 32) : EReal := S (ix2 (0 : Fin 1) ⟨w.toNat % 128, Nat.mod_lt _ (by decide)⟩)

/-- The slot of row `r`'s choice in column `q`, or the rank where the column holds no choice. -/
def slotAt {n : Nat} (T R : (⟨2, ![n, 128]⟩ : Shape).Idx → BitVec 32) (S : S1x128.Idx → EReal) (r : Fin n) (q : Fin 128) : BitVec 32 :=
  if q.val < 8 then R (ix2 r q) + Ideal.fptosi 32 (startAt S (T (ix2 r q)))
  else R (ix2 r q)

theorem start_apply (x2 : Vec Ideal S1x128 .f32) (r : Fin 1024) (b : Fin 128) :
    (k0_pay2 (F := Ideal) x2 (ix2 r b) : EReal) = x2 (ix2 (0 : Fin 1) b) := by
  unfold k0_pay2
  rw [shapeCast_self, shapeCast_self]
  refine broadcastTo_apply _ broadcasts_S1x128_S1024x128 _ _ fun d => ?_
  match d with
  | ⟨0, _⟩ => rfl
  | ⟨1, _⟩ => rfl

theorem hz : (![0, 0] : Fin 2 → Nat) = fun _ => 0 := funext fun a => by fin_cases a <;> rfl

/-- The block is the eight steps, one after another, from the ranks. -/
theorem out_eq (x0 x1 : Vec Ideal S1024x128 .i32) (x2 : Vec Ideal S1x128 .f32) :
    out0_3 x0 x1 x2
      = step 7 slices_S1024x128_o0_7_S1024x1 x0 (k0_pay2 x2) (step 6 slices_S1024x128_o0_6_S1024x1 x0 (k0_pay2 x2)
        (step 5 slices_S1024x128_o0_5_S1024x1 x0 (k0_pay2 x2) (step 4 slices_S1024x128_o0_4_S1024x1 x0 (k0_pay2 x2)
        (step 3 slices_S1024x128_o0_3_S1024x1 x0 (k0_pay2 x2) (step 2 slices_S1024x128_o0_2_S1024x1 x0 (k0_pay2 x2)
        (step 1 slices_S1024x128_o0_1_S1024x1 x0 (k0_pay2 x2) (step 0 slices_S1024x128_o0_0_S1024x1 x0 (k0_pay2 x2) x1))))))) := by
  unfold out0_3 k0_pay8 k0_pay9
  rw [View.canon_unit_zero hz, View.ld_unit_zero hz, View.ld_unit_zero hz, View.ld_unit_zero hz]
  rfl

/-- The block read at an entry, where the row's choices name experts. -/
theorem out_apply (x0 x1 : Vec Ideal S1024x128 .i32) (x2 : Vec Ideal S1x128 .f32) (r : Fin 1024) (q : Fin 128)
    (hx : ∀ k : Fin 128, k.val < 8 → (x0 (ix2 r k) : BitVec 32).toNat < 128) :
    out0_3 x0 x1 x2 (ix2 r q) = slotAt x0 x1 x2 r q := by
  rw [out_eq, step_at 7 (by decide) slices_S1024x128_o0_7_S1024x1 x0 _ _ r q hx,
    step_at 6 (by decide) slices_S1024x128_o0_6_S1024x1 x0 _ _ r q hx,
    step_at 5 (by decide) slices_S1024x128_o0_5_S1024x1 x0 _ _ r q hx,
    step_at 4 (by decide) slices_S1024x128_o0_4_S1024x1 x0 _ _ r q hx,
    step_at 3 (by decide) slices_S1024x128_o0_3_S1024x1 x0 _ _ r q hx,
    step_at 2 (by decide) slices_S1024x128_o0_2_S1024x1 x0 _ _ r q hx,
    step_at 1 (by decide) slices_S1024x128_o0_1_S1024x1 x0 _ _ r q hx,
    step_at 0 (by decide) slices_S1024x128_o0_0_S1024x1 x0 _ _ r q hx, start_apply]
  unfold slotAt startAt
  generalize (x1 (ix2 r q) : BitVec 32) = a
  generalize Ideal.fptosi 32 _ = b
  generalize q.val = n
  by_cases h : n < 8
  · rw [if_pos h]
    have hn : n = 0 ∨ n = 1 ∨ n = 2 ∨ n = 3 ∨ n = 4 ∨ n = 5 ∨ n = 6 ∨ n = 7 := by omega
    rcases hn with rfl | rfl | rfl | rfl | rfl | rfl | rfl | rfl <;> rfl
  · rw [if_neg h]
    have hne (k : Nat) (hk : k < 8) : ¬ n = k := by omega
    rw [if_neg (hne 7 (by decide)), if_neg (hne 6 (by decide)), if_neg (hne 5 (by decide)), if_neg (hne 4 (by decide)),
      if_neg (hne 3 (by decide)), if_neg (hne 2 (by decide)), if_neg (hne 1 (by decide)), if_neg (hne 0 (by decide))]

/-! ## The array that the call leaves -/

/-- The windows' index maps over the grid, in closed form. -/
theorem idx_facts : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

variable (m : (ℓ : Loc nD τ sig) → Buf (Elt Ideal) ℓ)

/-- The operand arrays as the call finds them. -/
abbrev tArr (c : Dev nD) : S16384x128.Idx → BitVec 32 := V m c main_arg0
abbrev rArr (c : Dev nD) : S16384x128.Idx → BitVec 32 := V m c main_arg1
abbrev sArr (c : Dev nD) : S1x128.Idx → EReal := V m c main_v1

/-- The array after the run as one function. -/
abbrev G (c : Dev nD) : Buf (Elt Ideal) ((c : Thread nD τ).loc main_v2) :=
  fun i : S16384x128.Idx => slotAt (n := 16384) (tArr m c) (rArr m c) (sArr m c) (i 0) (i 1)

theorem iblk0_apply (c : Dev nD) (t : Fin cfg0.N) (r : Fin 1024) (k : Fin 128) (h : 1024 * t.val + r.val < 16384) :
    (iblk m c 0 t (ix2 r k) : BitVec 32) = tArr m c (ix2 ⟨1024 * t.val + r.val, h⟩ k) := by
  show tArr m c ((win0_0.rect t).emb (ix2 r k)) = _
  refine congrArg (tArr m c) (Shape.idx_ext₂ ?_ ?_)
  · rw [Pipeline.Window.rect_emb_val win0_0 t _ 0 rfl, (idx_facts t).1.1]
    show t.val * 1024 + r.val = 1024 * t.val + r.val
    omega
  · rw [Pipeline.Window.rect_emb_val win0_0 t _ 1 rfl, (idx_facts t).1.2]
    show 0 * 128 + k.val = k.val
    omega

theorem iblk1_apply (c : Dev nD) (t : Fin cfg0.N) (r : Fin 1024) (k : Fin 128) (h : 1024 * t.val + r.val < 16384) :
    (iblk m c 1 t (ix2 r k) : BitVec 32) = rArr m c (ix2 ⟨1024 * t.val + r.val, h⟩ k) := by
  show rArr m c ((win0_1.rect t).emb (ix2 r k)) = _
  refine congrArg (rArr m c) (Shape.idx_ext₂ ?_ ?_)
  · rw [Pipeline.Window.rect_emb_val win0_1 t _ 0 rfl, (idx_facts t).2.1.1]
    show t.val * 1024 + r.val = 1024 * t.val + r.val
    omega
  · rw [Pipeline.Window.rect_emb_val win0_1 t _ 1 rfl, (idx_facts t).2.1.2]
    show 0 * 128 + k.val = k.val
    omega

theorem iblk2_apply (c : Dev nD) (t : Fin cfg0.N) (k : Fin 128) :
    (iblk m c 2 t (ix2 (0 : Fin 1) k) : EReal) = sArr m c (ix2 (0 : Fin 1) k) := by
  show sArr m c ((win0_2.rect t).emb (ix2 (0 : Fin 1) k)) = _
  refine congrArg (sArr m c) (Shape.idx_ext₂ ?_ ?_)
  · rw [Pipeline.Window.rect_emb_val win0_2 t _ 0 rfl, (idx_facts t).2.2.1.1]
    rfl
  · rw [Pipeline.Window.rect_emb_val win0_2 t _ 1 rfl, (idx_facts t).2.2.1.2]
    show 0 * 128 + k.val = k.val
    omega

/-- Each row's eight choices name experts. -/
def Chosen (c : Dev nD) : Prop := ∀ (r : Fin 16384) (k : Fin 128), k.val < 8 → (tArr m c (ix2 r k)).toNat < 128

/-- What a grid point writes back is its block of `G`. -/
theorem flushed_eq (c : Dev nD) (hc : Chosen m c) (t : Fin cfg0.N) :
    (dats m 0 c).flushed 3 t = ((cfg0.win 3).blk t).view.read (Elt Ideal) (G m c) := by
  rw [Value.flushed3]
  funext j
  obtain ⟨p, q, rfl⟩ : ∃ (p : Fin 1024) (q : Fin 128), j = ix2 p q := ⟨j 0, j 1, eq_ix2 j⟩
  have hp := p.isLt
  have ht : t.val < 16 := t.isLt
  have hr : 1024 * t.val + p.val < 16384 := by omega
  refine (out_apply (iblk m c 0 t) (iblk m c 1 t) (iblk m c 2 t) p q fun k hk => ?_).trans ?_
  · rw [iblk0_apply m c t p k hr]
    exact hc _ k hk
  have e0 : ((win0_3.rect t).emb (ix2 p q)) 0 = (⟨1024 * t.val + p.val, hr⟩ : Fin 16384) := Fin.ext (by
    rw [Pipeline.Window.rect_emb_val win0_3 t _ 0 rfl, (idx_facts t).2.2.2.1]
    show t.val * 1024 + p.val = 1024 * t.val + p.val
    omega)
  have e1 : ((win0_3.rect t).emb (ix2 p q)) 1 = q := Fin.ext (by
    rw [Pipeline.Window.rect_emb_val win0_3 t _ 1 rfl, (idx_facts t).2.2.2.2]
    show 0 * 128 + q.val = q.val
    omega)
  show _ = slotAt (n := 16384) (tArr m c) (rArr m c) (sArr m c) (((win0_3.rect t).emb (ix2 p q)) 0) (((win0_3.rect t).emb (ix2 p q)) 1)
  rw [e0, e1]
  unfold slotAt
  rw [iblk0_apply m c t p q hr, iblk1_apply m c t p q hr]
  unfold startAt
  rw [iblk2_apply m c t]

/-- Membership in a block of the result, as bounds on the two coordinates. -/
theorem mem_blk (t : Fin cfg0.N) (i : S16384x128.Idx) :
    i ∈ ((cfg0.win 3).blk t).view.set ↔ ∀ a : Fin 2, win0_3.index t a * win0_3.size a ≤ (i a).val
      ∧ (i a).val < win0_3.index t a * win0_3.size a + win0_3.size a := by
  show i ∈ ((View.whole main_v2).slice (win0_3.rect t)).set ↔ _
  rw [View.set_slice_whole, Rect.mem_set_unit]
  exact Iff.rfl

/-- The blocks cover the result array. -/
theorem cover (i : S16384x128.Idx) :
    ∃ t : Fin cfg0.N, (cfg0.win 3).flush t = true ∧ i ∈ ((cfg0.win 3).blk t).view.set := by
  have h0 : (i 0).val < 16384 := (i 0).isLt
  have h1 : (i 1).val < 128 := (i 1).isLt
  have hN : cfg0.N = 16 := N_0
  refine ⟨⟨(i 0).val / 1024, by omega⟩, flush0_3 _, ?_⟩
  rw [mem_blk]
  intro a
  have hf := (idx_facts ⟨(i 0).val / 1024, by omega⟩).2.2.2
  match a with
  | ⟨0, _⟩ =>
    show win0_3.index _ 0 * 1024 ≤ (i 0).val ∧ (i 0).val < win0_3.index _ 0 * 1024 + 1024
    rw [hf.1]; dsimp only; omega
  | ⟨1, _⟩ =>
    show win0_3.index _ 1 * 128 ≤ (i 1).val ∧ (i 1).val < win0_3.index _ 1 * 128 + 128
    rw [hf.2]; omega

/-- The result array after the run. -/
theorem final_out (c : Dev nD) (hc : Chosen m c) : (dats m 0 c).arrAt 3 cfg0.N = G m c :=
  (dats m 0 c).arrAt_eq_of_cover 3 (G m c) (fun t _ => flushed_eq m c hc t) cover

/-- The row of starts that the call reads is the argument's, as reals. -/
theorem sArr_apply (c : Dev nD) (k : Fin 128) :
    sArr m c (ix2 (0 : Fin 1) k) = (((m ((c : Thread nD τ).loc main_arg2) (ix1 k) : BitVec 32).toInt : ℝ) : EReal) := by
  have e : (V m c main_v1 : S1x128.Idx → EReal)
      = shapeCast S1x128 (sitofp (F := Ideal) .f32 (m ((c : Thread nD τ).loc main_arg2))) shapeCasts_S128_S1x128 := by
    unfold V hostOps0
    after_results <;> rfl
  rw [sArr, e]
  refine (shapeCast_apply _ _ (ix2 (0 : Fin 1) k) (ix1 k) ?_).trans rfl
  rw [Shape.rowMajor_val_one, Shape.rowMajor_val_two]
  show k.val = 0 * 128 + k.val
  omega

/-! ## The precondition and the reference -/

/-- The precondition, read entry by entry. -/
theorem chosen_of_pre (hp : Cert.Pre_KernelSlIdeal_chosen (hPre_chosen := Cert.Pre_chosen.Gen.facts) m) (c : Dev nD) : Chosen m c := by
  intro r k hk
  have h := congrFun (hp c) (ix2 r (⟨k.val, hk⟩ : Fin 8))
  have ht : tArr m c (ix2 r k) = m ((c : Thread nD τ).loc main_arg0) (ix2 r k) := congrFun (V_main_arg0 m c) _
  rw [ht]
  have es : extractStridedSlice Cert.Pre_chosen.S16384x8 ![0, 0] (m ((c : Thread nD τ).loc main_arg0) : S16384x128.Idx → BitVec 32)
      Cert.Pre_chosen.Gen.slices_S16384x128_S16384x8_0_0 (ix2 r (⟨k.val, hk⟩ : Fin 8)) = m ((c : Thread nD τ).loc main_arg0) (ix2 r k) :=
    extractStridedSlice_apply ![0, 0] _ Cert.Pre_chosen.Gen.slices_S16384x128_S16384x8_0_0 _ (ix2 r k) (fun a => match a with
      | ⟨0, _⟩ => by show r.val = 0 + r.val; omega
      | ⟨1, _⟩ => by show k.val = 0 + k.val; omega)
  unfold Cert.Pre_chosen.fn at h
  change IntOp.andi (IntOp.cmpi .sge (extractStridedSlice Cert.Pre_chosen.S16384x8 ![0, 0] (m ((c : Thread nD τ).loc main_arg0) : S16384x128.Idx → BitVec 32)
      Cert.Pre_chosen.Gen.slices_S16384x128_S16384x8_0_0 (ix2 r (⟨k.val, hk⟩ : Fin 8))) 0#32)
    (IntOp.cmpi .slt (extractStridedSlice Cert.Pre_chosen.S16384x8 ![0, 0] (m ((c : Thread nD τ).loc main_arg0) : S16384x128.Idx → BitVec 32)
      Cert.Pre_chosen.Gen.slices_S16384x128_S16384x8_0_0 (ix2 r (⟨k.val, hk⟩ : Fin 8))) 128#32) = 1#1 at h
  rw [es, IntOp.andi_eq_one, WordCmp.cmpi_sge_zero, WordCmp.ofBool_decide_eq_one_iff] at h
  obtain ⟨h0, h1⟩ := h
  rw [WordCmp.cmpi_slt_of_lt h0 (by decide), WordCmp.ofBool_decide_eq_one_iff] at h1
  exact h1

open Cert.ReferenceSlIdeal.Read in
/-- The reference's indexing reads the start of the expert that the choice names. -/
theorem gather_apply (c : Dev nD) (hc : Chosen m c) (r : Fin 16384) (k : Fin 8) (q : Fin 128) (hq : q.val = k.val) :
    (val_main_v7 (F := Ideal) (m ((c : Thread nD τ).loc main_arg0)) (m ((c : Thread nD τ).loc main_arg2)) (ix2 r k) : BitVec 32)
      = m ((c : Thread nD τ).loc main_arg2) (ix1 ⟨(tArr m c (ix2 r q)).toNat % 128, Nat.mod_lt _ (by decide)⟩) := by
  have hk := k.isLt
  have hlt := hc r q (by omega)
  have e0 : val_main_v0 (F := Ideal) (m ((c : Thread nD τ).loc main_arg0)) (ix2 r k) = tArr m c (ix2 r q) := by
    rw [val_main_v0_apply]
    exact (congrArg (m ((c : Thread nD τ).loc main_arg0)) (Shape.idx_ext₂ (x := idx_main_v0 (ix2 r k)) (y := ix2 r q) rfl hq.symm)).trans
      (congrFun (V_main_arg0 m c) _).symm
  have e6 : val_main_v6 (F := Ideal) (m ((c : Thread nD τ).loc main_arg0)) (takeIdx (ix2 r k)) = tArr m c (ix2 r q) := by
    rw [val_main_v6_apply]
    refine (congrArg (val_main_v5 (F := Ideal) (m ((c : Thread nD τ).loc main_arg0))) (Shape.idx_ext₂ (x := idx_main_v6 (takeIdx (ix2 r k))) (y := ix2 r k) rfl rfl)).trans ?_
    rw [val_main_v5_apply, val_main_v2_apply, e0, val_main_v1_apply, val_main_c_apply, WordCmp.cmpi_slt_zero,
      decide_eq_false (by omega)]
    rfl
  unfold val_main_v7
  refine (gather_take_apply (N := 128) (R := 16384) (C := 8) (by decide) _ _ _ (ix2 r k)).trans ?_
  refine congrArg (m ((c : Thread nD τ).loc main_arg2)) (congrArg ix1 (Fin.ext ?_))
  show min (val_main_v6 (F := Ideal) (m ((c : Thread nD τ).loc main_arg0)) (takeIdx (ix2 r k))).toInt.toNat (128 - 1) = _ % 128
  rw [e6, WordCmp.toInt_eq_toNat_of_lt_half (by omega), Int.toNat_natCast]
  omega

open Cert.ReferenceSlIdeal.Read in
/-- The array is the reference's result. -/
theorem G_eq (c : Dev nD) (hc : Chosen m c) :
    G m c = val_main_v11 (F := Ideal) (m ((c : Thread nD τ).loc main_arg0)) (m ((c : Thread nD τ).loc main_arg1))
      (m ((c : Thread nD τ).loc main_arg2)) := by
  funext i
  obtain ⟨r, q, rfl⟩ : ∃ (r : Fin 16384) (q : Fin 128), i = ix2 r q := ⟨i 0, i 1, eq_ix2 i⟩
  have hq := q.isLt
  show slotAt (n := 16384) (tArr m c) (rArr m c) (sArr m c) r q = _
  have er : rArr m c (ix2 r q) = m ((c : Thread nD τ).loc main_arg1) (ix2 r q) := congrFun (V_main_arg1 m c) _
  unfold slotAt startAt val_main_v11
  by_cases h : q.val < 8
  · rw [if_pos h]
    refine Eq.trans ?_ (concatenate_pair_apply_left 1 _ _ Cert.ReferenceSlIdeal.Gen.concatenates_S16384x8_S16384x120_S16384x128_d1 (ix2 r q)
      rfl (ix2 r (⟨q.val, h⟩ : Fin 8)) (fun b => match b with | ⟨0, _⟩ => rfl | ⟨1, _⟩ => rfl)).symm
    rw [val_main_v9_apply, gather_apply m c hc r ⟨q.val, h⟩ q rfl, val_main_v8_apply, sArr_apply, fptosi_toInt, er]
    refine (BitVec.add_comm _ _).trans (congrArg₂ (· + ·) rfl (congrArg _ (Shape.idx_ext₂ rfl rfl)))
  · rw [if_neg h, er]
    refine Eq.trans ?_ (concatenate_pair_apply_right 1 _ _ Cert.ReferenceSlIdeal.Gen.concatenates_S16384x8_S16384x120_S16384x128_d1 (ix2 r q)
      rfl rfl (ix2 r (⟨q.val - 8, by omega⟩ : Fin 120)) (fun b hb => match b, hb with | ⟨0, _⟩, _ => rfl | ⟨1, _⟩, hb => absurd rfl hb)
      (by show q.val - 8 + 8 = q.val; omega)).symm
    rw [val_main_v10_apply]
    refine congrArg _ (Shape.idx_ext₂ rfl ?_)
    show q.val = 8 + (q.val - 8)
    omega

/-- The value claim: kernel and reference leave the same array, and keep their arguments. -/
theorem algebraic : Cert.algebraic_KernelSlIdeal_ReferenceSlIdeal_pre_chosen
    (hKernelSlIdeal := Cert.KernelSlIdeal.Gen.facts) (hReferenceSlIdeal := Cert.ReferenceSlIdeal.Gen.facts)
    (hPre_chosen := Cert.Pre_chosen.Gen.facts) := by
  intro m g m' g' hp hm
  refine ⟨fun c => G m c, ?_, ?_⟩
  · refine (θ_run Cert.KernelSlIdeal.defs _ _).mono (fun r h c => ?_) (Value.run_blocks m g)
    exact ⟨(h c).1.trans (final_out m c (chosen_of_pre m hp c)), (h c).2⟩
  · refine (θ_run Cert.ReferenceSlIdeal.defs _ _).mono (fun r h c => ?_) (Cert.ReferenceSlIdeal.Value.run m' g')
    refine ⟨((h c).1.trans (Cert.ReferenceSlIdeal.Read.val_main_v11_eq _ _ _)).trans ?_, (h c).2⟩
    obtain ⟨h0, h1, h2⟩ := hm c
    rw [h0, h1, h2]
    exact (G_eq m c (chosen_of_pre m hp c)).symm

/-- The reference's frame: its run keeps the arguments, and it declares no semaphore. -/
theorem frame_ref : Cert.quiescent_ReferenceSlIdeal (hReferenceSlIdeal := Cert.ReferenceSlIdeal.Gen.facts) := by
  intro m g _
  exact (θ_run Cert.ReferenceSlIdeal.defs _ _).mono (fun r h => ⟨fun c => (h c).2,
    Idealize.ShloMosaic.sem_eq_zero_of_no_sems (by decide) r.2⟩) (Cert.ReferenceSlIdeal.Value.run m g)

/-- The reference's frame under the precondition, which its run does not need. -/
theorem frame_ref_pre : Cert.quiescent_ReferenceSlIdeal_pre_chosen
    (hReferenceSlIdeal := Cert.ReferenceSlIdeal.Gen.facts) (hPre_chosen := Cert.Pre_chosen.Gen.facts) := by
  intro m g _
  exact (θ_run Cert.ReferenceSlIdeal.defs _ _).mono (fun r h => ⟨fun c => (h c).2,
    Idealize.ShloMosaic.sem_eq_zero_of_no_sems (by decide) r.2⟩) (Cert.ReferenceSlIdeal.Value.run m g)

end Cert.Proof.Sl

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelDn
public import proofs.«01_k».proof.Proof.Gen.KernelDn.Skeleton
public import proofs.«01_k».proof.Proof.Gen.KernelDn.Launch
public import proofs.«01_k».proof.Proof.Gen.KernelDn.Points
public import proofs.«01_k».proof.Proof.Gen.KernelDn.Frame
public import proofs.«01_k».proof.Proof.Gen.KernelDnIdeal
public import proofs.«01_k».proof.Proof.Gen.KernelDnIdeal.Skeleton
public import proofs.«01_k».proof.Proof.Gen.KernelDnIdeal.Launch
public import proofs.«01_k».proof.Proof.Gen.KernelDnIdeal.Points
public import proofs.«01_k».proof.Proof.Gen.KernelDnIdeal.Frame
public import proofs.«01_k».proof.Proof.Gen.KernelDnIdeal.Value
public import proofs.«01_k».proof.Proof.Gen.ReferenceDnIdeal
public import proofs.«01_k».proof.Proof.Gen.ReferenceDnIdeal.Run
public import proofs.«01_k».proof.Proof.Gen.ReferenceDnIdeal.Read
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelWo
public import proofs.«01_k».proof.Proof.Gen.KernelWo.Skeleton
public import proofs.«01_k».proof.Proof.Gen.KernelWo.Launch
public import proofs.«01_k».proof.Proof.Gen.KernelWo.Points
public import proofs.«01_k».proof.Proof.Gen.KernelWo.Frame
public import proofs.«01_k».proof.Proof.Gen.KernelWoIdeal
public import proofs.«01_k».proof.Proof.Gen.KernelWoIdeal.Skeleton
public import proofs.«01_k».proof.Proof.Gen.KernelWoIdeal.Launch
public import proofs.«01_k».proof.Proof.Gen.KernelWoIdeal.Points
public import proofs.«01_k».proof.Proof.Gen.KernelWoIdeal.Frame
public import proofs.«01_k».proof.Proof.Gen.KernelWoIdeal.Value
public import proofs.«01_k».proof.Proof.Gen.ReferenceWoIdeal
public import proofs.«01_k».proof.Proof.Gen.ReferenceWoIdeal.Run
public import proofs.«01_k».proof.Proof.Gen.ReferenceWoIdeal.Read
public import proofs.«01_k».proof.Proof.Gen.KernelG0
public import proofs.«01_k».proof.Proof.Gen.KernelG0.Skeleton
public import proofs.«01_k».proof.Proof.Gen.KernelG0.Launch
public import proofs.«01_k».proof.Proof.Gen.KernelG0.Points
public import proofs.«01_k».proof.Proof.Gen.KernelG0.Frame
public import proofs.«01_k».proof.Proof.Gen.KernelG0Ideal
public import proofs.«01_k».proof.Proof.Gen.KernelG0Ideal.Skeleton
public import proofs.«01_k».proof.Proof.Gen.KernelG0Ideal.Launch
public import proofs.«01_k».proof.Proof.Gen.KernelG0Ideal.Points
public import proofs.«01_k».proof.Proof.Gen.KernelG0Ideal.Frame
public import proofs.«01_k».proof.Proof.Gen.KernelG0Ideal.Value
public import proofs.«01_k».proof.Proof.Gen.ReferenceG0Ideal
public import proofs.«01_k».proof.Proof.Gen.ReferenceG0Ideal.Run
public import proofs.«01_k».proof.Proof.Gen.ReferenceG0Ideal.Read
public import proofs.«01_k».proof.Proof.Gen.KernelSh
public import proofs.«01_k».proof.Proof.Gen.KernelSh.Skeleton
public import proofs.«01_k».proof.Proof.Gen.KernelSh.Launch
public import proofs.«01_k».proof.Proof.Gen.KernelSh.Points
public import proofs.«01_k».proof.Proof.Gen.KernelSh.Frame
public import proofs.«01_k».proof.Proof.Gen.KernelShIdeal
public import proofs.«01_k».proof.Proof.Gen.KernelShIdeal.Skeleton
public import proofs.«01_k».proof.Proof.Gen.KernelShIdeal.Launch
public import proofs.«01_k».proof.Proof.Gen.KernelShIdeal.Points
public import proofs.«01_k».proof.Proof.Gen.KernelShIdeal.Frame
public import proofs.«01_k».proof.Proof.Gen.KernelShIdeal.Value
public import proofs.«01_k».proof.Proof.Gen.ReferenceShIdeal
public import proofs.«01_k».proof.Proof.Gen.ReferenceShIdeal.Run
public import proofs.«01_k».proof.Proof.Gen.ReferenceShIdeal.Read
public import proofs.«01_k».proof.Proof.Gen.KernelGt
public import proofs.«01_k».proof.Proof.Gen.KernelGt.Skeleton
public import proofs.«01_k».proof.Proof.Gen.KernelGt.Launch
public import proofs.«01_k».proof.Proof.Gen.KernelGt.Points
public import proofs.«01_k».proof.Proof.Gen.KernelGt.Frame
public import proofs.«01_k».proof.Proof.Gen.KernelGtIdeal
public import proofs.«01_k».proof.Proof.Gen.KernelGtIdeal.Skeleton
public import proofs.«01_k».proof.Proof.Gen.KernelGtIdeal.Launch
public import proofs.«01_k».proof.Proof.Gen.KernelGtIdeal.Points
public import proofs.«01_k».proof.Proof.Gen.KernelGtIdeal.Frame
public import proofs.«01_k».proof.Proof.Gen.KernelGtIdeal.Value
public import proofs.«01_k».proof.Proof.Gen.ReferenceGtIdeal
public import proofs.«01_k».proof.Proof.Gen.ReferenceGtIdeal.Run
public import proofs.«01_k».proof.Proof.Gen.ReferenceGtIdeal.Read
public import proofs.«01_k».proof.Proof.Gen.KernelSl
public import proofs.«01_k».proof.Proof.Gen.KernelSl.Skeleton
public import proofs.«01_k».proof.Proof.Gen.KernelSl.Launch
public import proofs.«01_k».proof.Proof.Gen.KernelSl.Points
public import proofs.«01_k».proof.Proof.Gen.KernelSl.Frame
public import proofs.«01_k».proof.Proof.Gen.KernelSlIdeal
public import proofs.«01_k».proof.Proof.Gen.KernelSlIdeal.Skeleton
public import proofs.«01_k».proof.Proof.Gen.KernelSlIdeal.Launch
public import proofs.«01_k».proof.Proof.Gen.KernelSlIdeal.Points
public import proofs.«01_k».proof.Proof.Gen.KernelSlIdeal.Frame
public import proofs.«01_k».proof.Proof.Gen.KernelSlIdeal.Value
public import proofs.«01_k».proof.Proof.Gen.ReferenceSlIdeal
public import proofs.«01_k».proof.Proof.Gen.ReferenceSlIdeal.Run
public import proofs.«01_k».proof.Proof.Gen.ReferenceSlIdeal.Read
public import proofs.«01_k».proof.Proof.Gen.Pre_finite_gt
public import proofs.«01_k».proof.Proof.Gen.Pre_chosen
public import proofs.«01_k».proof.Proof.ProjAtt
public import proofs.«01_k».proof.Proof.ProjDn
public import proofs.«01_k».proof.Proof.Mix
public import proofs.«01_k».proof.Proof.Wo
public import proofs.«01_k».proof.Proof.G0
public import proofs.«01_k».proof.Proof.Sh
public import proofs.«01_k».proof.Proof.Gt
public import proofs.«01_k».proof.Proof.Sl
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.KernelDn.Gen.facts, Cert.KernelDnIdeal.Gen.facts, Cert.ReferenceDnIdeal.Gen.facts, Cert.KernelMix.Gen.facts, Cert.KernelMixIdeal.Gen.facts, Cert.ReferenceMixIdeal.Gen.facts, Cert.KernelWo.Gen.facts, Cert.KernelWoIdeal.Gen.facts, Cert.ReferenceWoIdeal.Gen.facts, Cert.KernelG0.Gen.facts, Cert.KernelG0Ideal.Gen.facts, Cert.ReferenceG0Ideal.Gen.facts, Cert.KernelSh.Gen.facts, Cert.KernelShIdeal.Gen.facts, Cert.ReferenceShIdeal.Gen.facts, Cert.KernelGt.Gen.facts, Cert.KernelGtIdeal.Gen.facts, Cert.ReferenceGtIdeal.Gen.facts, Cert.KernelSl.Gen.facts, Cert.KernelSlIdeal.Gen.facts, Cert.ReferenceSlIdeal.Gen.facts, Cert.Pre_finite_gt.Gen.facts, Cert.Pre_chosen.Gen.facts,
  fun m g _ => Cert.Kernel.Gen.frame m g,
  fun m g _ => Cert.KernelIdeal.Gen.frame m g,
  ProjAtt.frame_ref,
  fun m g _ => Cert.KernelDn.Gen.frame m g,
  fun m g _ => Cert.KernelDnIdeal.Gen.frame m g,
  ProjDn.frame_ref,
  fun m g _ => Cert.KernelMix.Gen.frame m g,
  fun m g _ => Cert.KernelMixIdeal.Gen.frame m g,
  Mix.frame_ref,
  fun m g _ => Cert.KernelWo.Gen.frame m g,
  fun m g _ => Cert.KernelWoIdeal.Gen.frame m g,
  Wo.frame_ref,
  fun m g _ => Cert.KernelG0.Gen.frame m g,
  fun m g _ => Cert.KernelG0Ideal.Gen.frame m g,
  G0.frame_ref,
  fun m g _ => Cert.KernelSh.Gen.frame m g,
  fun m g _ => Cert.KernelShIdeal.Gen.frame m g,
  Sh.frame_ref,
  fun m g _ => Cert.KernelGt.Gen.frame m g,
  fun m g _ => Cert.KernelGtIdeal.Gen.frame m g,
  fun m g _ => Cert.KernelGtIdeal.Gen.frame m g,
  GtRef.frame_ref,
  Gt.frame_ref_pre,
  fun m g _ => Cert.KernelSl.Gen.frame m g,
  fun m g _ => Cert.KernelSlIdeal.Gen.frame m g,
  fun m g _ => Cert.KernelSlIdeal.Gen.frame m g,
  Sl.frame_ref,
  Sl.frame_ref_pre,
  trivial,
  ProjAtt.algebraic,
  trivial,
  ProjDn.algebraic,
  trivial,
  Mix.algebraic,
  trivial,
  Wo.algebraic,
  G0.preserves,
  G0.algebraic,
  trivial,
  Sh.algebraic,
  trivial,
  Gt.algebraic,
  trivial,
  Sl.algebraic⟩

end Cert.Proof

end
